-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2.2.2.2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.2 = (fun _ => 1#1)

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbIdeal_in_finite [hPre_in_finite : Cert.Pre_in_finite.Facts] (m : (ℓ : Loc Cert.InbIdeal.nD Cert.InbIdeal.τ Cert.InbIdeal.sig) → Buf (Elt Ideal) ℓ) : Prop :=
  ∀ c : Dev Cert.InbIdeal.nD,
    (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.2.2.2 = (fun _ => 1#1)

def Pre_InbRefIdeal (m : (ℓ : Loc Cert.InbRefIdeal.nD Cert.InbRefIdeal.τ Cert.InbRefIdeal.sig) → Buf (Elt Ideal) ℓ) : Prop :=
  True

def Pre_InbRefIdeal_in_finite [hPre_in_finite : Cert.Pre_in_finite.Facts] (m : (ℓ : Loc Cert.InbRefIdeal.nD Cert.InbRefIdeal.τ Cert.InbRefIdeal.sig) → Buf (Elt Ideal) ℓ) : Prop :=
  ∀ c : Dev Cert.InbRefIdeal.nD,
    (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1)
      ∧ r.2.mem ((c.tc : Thread Cert.Inb.nD Cert.Inb.τ).loc Cert.Inb.main_arg2) = m ((c.tc : Thread Cert.Inb.nD Cert.Inb.τ).loc Cert.Inb.main_arg2)
      ∧ r.2.mem ((c.tc : Thread Cert.Inb.nD Cert.Inb.τ).loc Cert.Inb.main_arg3) = m ((c.tc : Thread Cert.Inb.nD Cert.Inb.τ).loc Cert.Inb.main_arg3)
      ∧ r.2.mem ((c.tc : Thread Cert.Inb.nD Cert.Inb.τ).loc Cert.Inb.main_arg4) = m ((c.tc : Thread Cert.Inb.nD Cert.Inb.τ).loc Cert.Inb.main_arg4)
      ∧ r.2.mem ((c.tc : Thread Cert.Inb.nD Cert.Inb.τ).loc Cert.Inb.main_arg5) = m ((c.tc : Thread Cert.Inb.nD Cert.Inb.τ).loc Cert.Inb.main_arg5)
      ∧ r.2.mem ((c.tc : Thread Cert.Inb.nD Cert.Inb.τ).loc Cert.Inb.main_arg6) = m ((c.tc : Thread Cert.Inb.nD Cert.Inb.τ).loc Cert.Inb.main_arg6)
      ∧ r.2.mem ((c.tc : Thread Cert.Inb.nD Cert.Inb.τ).loc Cert.Inb.main_arg7) = m ((c.tc : Thread Cert.Inb.nD Cert.Inb.τ).loc Cert.Inb.main_arg7)
      ∧ r.2.mem ((c.tc : Thread Cert.Inb.nD Cert.Inb.τ).loc Cert.Inb.main_arg8) = m ((c.tc : Thread Cert.Inb.nD Cert.Inb.τ).loc Cert.Inb.main_arg8)
      ∧ r.2.mem ((c.tc : Thread Cert.Inb.nD Cert.Inb.τ).loc Cert.Inb.main_arg9) = m ((c.tc : Thread Cert.Inb.nD Cert.Inb.τ).loc Cert.Inb.main_arg9)
      ∧ r.2.mem ((c.tc : Thread Cert.Inb.nD Cert.Inb.τ).loc Cert.Inb.main_arg10) = m ((c.tc : Thread Cert.Inb.nD Cert.Inb.τ).loc Cert.Inb.main_arg10)
      ∧ r.2.mem ((c.tc : Thread Cert.Inb.nD Cert.Inb.τ).loc Cert.Inb.main_arg11) = m ((c.tc : Thread Cert.Inb.nD Cert.Inb.τ).loc Cert.Inb.main_arg11)
      ∧ r.2.mem ((c.tc : Thread Cert.Inb.nD Cert.Inb.τ).loc Cert.Inb.main_arg12) = m ((c.tc : Thread Cert.Inb.nD Cert.Inb.τ).loc Cert.Inb.main_arg12)
      ∧ r.2.mem ((c.tc : Thread Cert.Inb.nD Cert.Inb.τ).loc Cert.Inb.main_arg13) = m ((c.tc : Thread Cert.Inb.nD Cert.Inb.τ).loc Cert.Inb.main_arg13))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
      ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
      ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
      ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
      ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
      ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ r.2.sem = fun _ => 0)

def quiescent_InbIdeal_pre_in_finite [hInbIdeal : Cert.InbIdeal.Facts] [hPre_in_finite : Cert.Pre_in_finite.Facts] : Prop :=
  ∀ (m : (ℓ : Loc Cert.InbIdeal.nD Cert.InbIdeal.τ Cert.InbIdeal.sig) → Buf (Elt Ideal) ℓ) (g : Dev Cert.InbIdeal.nD → PrngReg), Pre_InbIdeal_in_finite m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
      ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
      ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
      ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
      ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
      ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ r.2.sem = fun _ => 0)

def quiescent_InbRefIdeal [hInbRefIdeal : Cert.InbRefIdeal.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8)
      ∧ r.2.mem ((c.tc : Thread Cert.InbRefIdeal.nD Cert.InbRefIdeal.τ).loc Cert.InbRefIdeal.main_arg9) = m ((c.tc : Thread Cert.InbRefIdeal.nD Cert.InbRefIdeal.τ).loc Cert.InbRefIdeal.main_arg9)
      ∧ r.2.mem ((c.tc : Thread Cert.InbRefIdeal.nD Cert.InbRefIdeal.τ).loc Cert.InbRefIdeal.main_arg10) = m ((c.tc : Thread Cert.InbRefIdeal.nD Cert.InbRefIdeal.τ).loc Cert.InbRefIdeal.main_arg10)
      ∧ r.2.mem ((c.tc : Thread Cert.InbRefIdeal.nD Cert.InbRefIdeal.τ).loc Cert.InbRefIdeal.main_arg11) = m ((c.tc : Thread Cert.InbRefIdeal.nD Cert.InbRefIdeal.τ).loc Cert.InbRefIdeal.main_arg11)
      ∧ r.2.mem ((c.tc : Thread Cert.InbRefIdeal.nD Cert.InbRefIdeal.τ).loc Cert.InbRefIdeal.main_arg12) = m ((c.tc : Thread Cert.InbRefIdeal.nD Cert.InbRefIdeal.τ).loc Cert.InbRefIdeal.main_arg12)
      ∧ r.2.mem ((c.tc : Thread Cert.InbRefIdeal.nD Cert.InbRefIdeal.τ).loc Cert.InbRefIdeal.main_arg13) = m ((c.tc : Thread Cert.InbRefIdeal.nD Cert.InbRefIdeal.τ).loc Cert.InbRefIdeal.main_arg13))
      ∧ r.2.sem = fun _ => 0)

def quiescent_InbRefIdeal_pre_in_finite [hInbRefIdeal : Cert.InbRefIdeal.Facts] [hPre_in_finite : Cert.Pre_in_finite.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal_in_finite m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8)
      ∧ r.2.mem ((c.tc : Thread Cert.InbRefIdeal.nD Cert.InbRefIdeal.τ).loc Cert.InbRefIdeal.main_arg9) = m ((c.tc : Thread Cert.InbRefIdeal.nD Cert.InbRefIdeal.τ).loc Cert.InbRefIdeal.main_arg9)
      ∧ r.2.mem ((c.tc : Thread Cert.InbRefIdeal.nD Cert.InbRefIdeal.τ).loc Cert.InbRefIdeal.main_arg10) = m ((c.tc : Thread Cert.InbRefIdeal.nD Cert.InbRefIdeal.τ).loc Cert.InbRefIdeal.main_arg10)
      ∧ r.2.mem ((c.tc : Thread Cert.InbRefIdeal.nD Cert.InbRefIdeal.τ).loc Cert.InbRefIdeal.main_arg11) = m ((c.tc : Thread Cert.InbRefIdeal.nD Cert.InbRefIdeal.τ).loc Cert.InbRefIdeal.main_arg11)
      ∧ r.2.mem ((c.tc : Thread Cert.InbRefIdeal.nD Cert.InbRefIdeal.τ).loc Cert.InbRefIdeal.main_arg12) = m ((c.tc : Thread Cert.InbRefIdeal.nD Cert.InbRefIdeal.τ).loc Cert.InbRefIdeal.main_arg12)
      ∧ r.2.mem ((c.tc : Thread Cert.InbRefIdeal.nD Cert.InbRefIdeal.τ).loc Cert.InbRefIdeal.main_arg13) = m ((c.tc : Thread Cert.InbRefIdeal.nD Cert.InbRefIdeal.τ).loc Cert.InbRefIdeal.main_arg13))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11))
      ∧ r.2.sem = fun _ => 0)

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)) (v2 : (c : Dev Cert.PostIdeal.nD) → Buf (Elt Ideal) ((c.tc : Thread Cert.PostIdeal.nD Cert.PostIdeal.τ).loc Cert.PostIdeal.main_v10_2)) (v3 : (c : Dev Cert.PostIdeal.nD) → Buf (Elt Ideal) ((c.tc : Thread Cert.PostIdeal.nD Cert.PostIdeal.τ).loc Cert.PostIdeal.main_v10_3)) (v4 : (c : Dev Cert.PostIdeal.nD) → Buf (Elt Ideal) ((c.tc : Thread Cert.PostIdeal.nD Cert.PostIdeal.τ).loc Cert.PostIdeal.main_v10_4)) (v5 : (c : Dev Cert.PostIdeal.nD) → Buf (Elt Ideal) ((c.tc : Thread Cert.PostIdeal.nD Cert.PostIdeal.τ).loc Cert.PostIdeal.main_v10_5)) (v6 : (c : Dev Cert.PostIdeal.nD) → Buf (Elt Ideal) ((c.tc : Thread Cert.PostIdeal.nD Cert.PostIdeal.τ).loc Cert.PostIdeal.main_v10_6)) (v7 : (c : Dev Cert.PostIdeal.nD) → Buf (Elt Ideal) ((c.tc : Thread Cert.PostIdeal.nD Cert.PostIdeal.τ).loc Cert.PostIdeal.main_v10_7)) (v8 : (c : Dev Cert.PostIdeal.nD) → Buf (Elt Ideal) ((c.tc : Thread Cert.PostIdeal.nD Cert.PostIdeal.τ).loc Cert.PostIdeal.main_v10_8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_v10_2) = v2 c
          ∧ r.2.mem ((c.tc : Thread Cert.PostIdeal.nD Cert.PostIdeal.τ).loc Cert.PostIdeal.main_v10_3) = v3 c
          ∧ r.2.mem ((c.tc : Thread Cert.PostIdeal.nD Cert.PostIdeal.τ).loc Cert.PostIdeal.main_v10_4) = v4 c
          ∧ r.2.mem ((c.tc : Thread Cert.PostIdeal.nD Cert.PostIdeal.τ).loc Cert.PostIdeal.main_v10_5) = v5 c
          ∧ r.2.mem ((c.tc : Thread Cert.PostIdeal.nD Cert.PostIdeal.τ).loc Cert.PostIdeal.main_v10_6) = v6 c
          ∧ r.2.mem ((c.tc : Thread Cert.PostIdeal.nD Cert.PostIdeal.τ).loc Cert.PostIdeal.main_v10_7) = v7 c
          ∧ r.2.mem ((c.tc : Thread Cert.PostIdeal.nD Cert.PostIdeal.τ).loc Cert.PostIdeal.main_v10_8) = v8 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v85) = v0 c
          ∧ r.2.mem ((c.tc : Thread Cert.PostRefIdeal.nD Cert.PostRefIdeal.τ).loc Cert.PostRefIdeal.main_v89) = v1 c
          ∧ r.2.mem ((c.tc : Thread Cert.PostRefIdeal.nD Cert.PostRefIdeal.τ).loc Cert.PostRefIdeal.main_v93) = v2 c
          ∧ r.2.mem ((c.tc : Thread Cert.PostRefIdeal.nD Cert.PostRefIdeal.τ).loc Cert.PostRefIdeal.main_v75) = v3 c
          ∧ r.2.mem ((c.tc : Thread Cert.PostRefIdeal.nD Cert.PostRefIdeal.τ).loc Cert.PostRefIdeal.main_v94) = v4 c
          ∧ r.2.mem ((c.tc : Thread Cert.PostRefIdeal.nD Cert.PostRefIdeal.τ).loc Cert.PostRefIdeal.main_v95) = v5 c
          ∧ r.2.mem ((c.tc : Thread Cert.PostRefIdeal.nD Cert.PostRefIdeal.τ).loc Cert.PostRefIdeal.main_v96) = v6 c
          ∧ r.2.mem ((c.tc : Thread Cert.PostRefIdeal.nD Cert.PostRefIdeal.τ).loc Cert.PostRefIdeal.main_v101) = v7 c
          ∧ r.2.mem ((c.tc : Thread Cert.PostRefIdeal.nD Cert.PostRefIdeal.τ).loc Cert.PostRefIdeal.main_v105) = v8 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v53_0)) (v1 : (c : Dev Cert.MlaIdeal.nD) → Buf (Elt Ideal) ((c.tc : Thread Cert.MlaIdeal.nD Cert.MlaIdeal.τ).loc Cert.MlaIdeal.main_v53_1)) (v2 : (c : Dev Cert.MlaIdeal.nD) → Buf (Elt Ideal) ((c.tc : Thread Cert.MlaIdeal.nD Cert.MlaIdeal.τ).loc Cert.MlaIdeal.main_v53_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v53_0) = v0 c
          ∧ r.2.mem ((c.tc : Thread Cert.MlaIdeal.nD Cert.MlaIdeal.τ).loc Cert.MlaIdeal.main_v53_1) = v1 c
          ∧ r.2.mem ((c.tc : Thread Cert.MlaIdeal.nD Cert.MlaIdeal.τ).loc Cert.MlaIdeal.main_v53_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v75) = v0 c
          ∧ r.2.mem ((c.tc : Thread Cert.MlaRefIdeal.nD Cert.MlaRefIdeal.τ).loc Cert.MlaRefIdeal.main_v82) = v1 c
          ∧ r.2.mem ((c.tc : Thread Cert.MlaRefIdeal.nD Cert.MlaRefIdeal.τ).loc Cert.MlaRefIdeal.main_v83) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Inb_InbIdeal : Prop :=
  True

def algebraic_InbIdeal_InbRefIdeal_pre_in_finite [hInbIdeal : Cert.InbIdeal.Facts] [hInbRefIdeal : Cert.InbRefIdeal.Facts] [hPre_in_finite : Cert.Pre_in_finite.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbRefIdeal.nD Cert.InbRefIdeal.τ Cert.InbRefIdeal.sig) → Buf (Elt Ideal) ℓ) (g' : Dev Cert.InbRefIdeal.nD → PrngReg), Pre_InbIdeal_in_finite m →
    (∀ c : Dev Cert.InbIdeal.nD,
      m' ((c.tc : Thread Cert.InbRefIdeal.nD Cert.InbRefIdeal.τ).loc Cert.InbRefIdeal.main_arg0) = m ((c.tc : Thread Cert.InbIdeal.nD Cert.InbIdeal.τ).loc Cert.InbIdeal.main_arg0)
      ∧ m' ((c.tc : Thread Cert.InbRefIdeal.nD Cert.InbRefIdeal.τ).loc Cert.InbRefIdeal.main_arg1) = m ((c.tc : Thread Cert.InbIdeal.nD Cert.InbIdeal.τ).loc Cert.InbIdeal.main_arg1)
      ∧ m' ((c.tc : Thread Cert.InbRefIdeal.nD Cert.InbRefIdeal.τ).loc Cert.InbRefIdeal.main_arg2) = m ((c.tc : Thread Cert.InbIdeal.nD Cert.InbIdeal.τ).loc Cert.InbIdeal.main_arg2)
      ∧ m' ((c.tc : Thread Cert.InbRefIdeal.nD Cert.InbRefIdeal.τ).loc Cert.InbRefIdeal.main_arg3) = m ((c.tc : Thread Cert.InbIdeal.nD Cert.InbIdeal.τ).loc Cert.InbIdeal.main_arg3)
      ∧ m' ((c.tc : Thread Cert.InbRefIdeal.nD Cert.InbRefIdeal.τ).loc Cert.InbRefIdeal.main_arg4) = m ((c.tc : Thread Cert.InbIdeal.nD Cert.InbIdeal.τ).loc Cert.InbIdeal.main_arg4)
      ∧ m' ((c.tc : Thread Cert.InbRefIdeal.nD Cert.InbRefIdeal.τ).loc Cert.InbRefIdeal.main_arg5) = m ((c.tc : Thread Cert.InbIdeal.nD Cert.InbIdeal.τ).loc Cert.InbIdeal.main_arg5)
      ∧ m' ((c.tc : Thread Cert.InbRefIdeal.nD Cert.InbRefIdeal.τ).loc Cert.InbRefIdeal.main_arg6) = m ((c.tc : Thread Cert.InbIdeal.nD Cert.InbIdeal.τ).loc Cert.InbIdeal.main_arg6)
      ∧ m' ((c.tc : Thread Cert.InbRefIdeal.nD Cert.InbRefIdeal.τ).loc Cert.InbRefIdeal.main_arg7) = m ((c.tc : Thread Cert.InbIdeal.nD Cert.InbIdeal.τ).loc Cert.InbIdeal.main_arg7)
      ∧ m' ((c.tc : Thread Cert.InbRefIdeal.nD Cert.InbRefIdeal.τ).loc Cert.InbRefIdeal.main_arg8) = m ((c.tc : Thread Cert.InbIdeal.nD Cert.InbIdeal.τ).loc Cert.InbIdeal.main_arg8)
      ∧ m' ((c.tc : Thread Cert.InbRefIdeal.nD Cert.InbRefIdeal.τ).loc Cert.InbRefIdeal.main_arg9) = m ((c.tc : Thread Cert.InbIdeal.nD Cert.InbIdeal.τ).loc Cert.InbIdeal.main_arg9)
      ∧ m' ((c.tc : Thread Cert.InbRefIdeal.nD Cert.InbRefIdeal.τ).loc Cert.InbRefIdeal.main_arg10) = m ((c.tc : Thread Cert.InbIdeal.nD Cert.InbIdeal.τ).loc Cert.InbIdeal.main_arg10)
      ∧ m' ((c.tc : Thread Cert.InbRefIdeal.nD Cert.InbRefIdeal.τ).loc Cert.InbRefIdeal.main_arg11) = m ((c.tc : Thread Cert.InbIdeal.nD Cert.InbIdeal.τ).loc Cert.InbIdeal.main_arg11)
      ∧ m' ((c.tc : Thread Cert.InbRefIdeal.nD Cert.InbRefIdeal.τ).loc Cert.InbRefIdeal.main_arg12) = m ((c.tc : Thread Cert.InbIdeal.nD Cert.InbIdeal.τ).loc Cert.InbIdeal.main_arg12)
      ∧ m' ((c.tc : Thread Cert.InbRefIdeal.nD Cert.InbRefIdeal.τ).loc Cert.InbRefIdeal.main_arg13) = m ((c.tc : Thread Cert.InbIdeal.nD Cert.InbIdeal.τ).loc Cert.InbIdeal.main_arg13)) →
    ∃ (v0 : (c : Dev Cert.InbIdeal.nD) → Buf (Elt Ideal) ((c.tc : Thread Cert.InbIdeal.nD Cert.InbIdeal.τ).loc Cert.InbIdeal.main_v40_0)) (v1 : (c : Dev Cert.InbIdeal.nD) → Buf (Elt Ideal) ((c.tc : Thread Cert.InbIdeal.nD Cert.InbIdeal.τ).loc Cert.InbIdeal.main_v40_1)) (v2 : (c : Dev Cert.InbIdeal.nD) → Buf (Elt Ideal) ((c.tc : Thread Cert.InbIdeal.nD Cert.InbIdeal.τ).loc Cert.InbIdeal.main_v40_2)) (v3 : (c : Dev Cert.InbIdeal.nD) → Buf (Elt Ideal) ((c.tc : Thread Cert.InbIdeal.nD Cert.InbIdeal.τ).loc Cert.InbIdeal.main_v40_3)) (v4 : (c : Dev Cert.InbIdeal.nD) → Buf (Elt Ideal) ((c.tc : Thread Cert.InbIdeal.nD Cert.InbIdeal.τ).loc Cert.InbIdeal.main_v40_4)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v40_0) = v0 c
          ∧ r.2.mem ((c.tc : Thread Cert.InbIdeal.nD Cert.InbIdeal.τ).loc Cert.InbIdeal.main_v40_1) = v1 c
          ∧ r.2.mem ((c.tc : Thread Cert.InbIdeal.nD Cert.InbIdeal.τ).loc Cert.InbIdeal.main_v40_2) = v2 c
          ∧ r.2.mem ((c.tc : Thread Cert.InbIdeal.nD Cert.InbIdeal.τ).loc Cert.InbIdeal.main_v40_3) = v3 c
          ∧ r.2.mem ((c.tc : Thread Cert.InbIdeal.nD Cert.InbIdeal.τ).loc Cert.InbIdeal.main_v40_4) = v4 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
          ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
          ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
          ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
          ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
          ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
          ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
          ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
          ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
          ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
          ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
          ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
          ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ θ_run (Cert.InbRefIdeal.defs (F := Ideal)) (onTc (τ := Cert.InbRefIdeal.τ) (Cert.InbRefIdeal.main (F := Ideal))) ⟨m', fun _ => 0, g'⟩ (fun r => ∀ c : Dev Cert.InbRefIdeal.nD,
          r.2.mem ((c.tc : Thread Cert.InbRefIdeal.nD Cert.InbRefIdeal.τ).loc Cert.InbRefIdeal.main_v80) = v0 c
          ∧ r.2.mem ((c.tc : Thread Cert.InbRefIdeal.nD Cert.InbRefIdeal.τ).loc Cert.InbRefIdeal.main_v79) = v1 c
          ∧ r.2.mem ((c.tc : Thread Cert.InbRefIdeal.nD Cert.InbRefIdeal.τ).loc Cert.InbRefIdeal.main_v81) = v2 c
          ∧ r.2.mem ((c.tc : Thread Cert.InbRefIdeal.nD Cert.InbRefIdeal.τ).loc Cert.InbRefIdeal.main_v82) = v3 c
          ∧ r.2.mem ((c.tc : Thread Cert.InbRefIdeal.nD Cert.InbRefIdeal.τ).loc Cert.InbRefIdeal.main_v83) = v4 c
          ∧ r.2.mem ((c.tc : Thread Cert.InbRefIdeal.nD Cert.InbRefIdeal.τ).loc Cert.InbRefIdeal.main_arg0) = m' ((c.tc : Thread Cert.InbRefIdeal.nD Cert.InbRefIdeal.τ).loc Cert.InbRefIdeal.main_arg0)
          ∧ r.2.mem ((c.tc : Thread Cert.InbRefIdeal.nD Cert.InbRefIdeal.τ).loc Cert.InbRefIdeal.main_arg1) = m' ((c.tc : Thread Cert.InbRefIdeal.nD Cert.InbRefIdeal.τ).loc Cert.InbRefIdeal.main_arg1)
          ∧ r.2.mem ((c.tc : Thread Cert.InbRefIdeal.nD Cert.InbRefIdeal.τ).loc Cert.InbRefIdeal.main_arg2) = m' ((c.tc : Thread Cert.InbRefIdeal.nD Cert.InbRefIdeal.τ).loc Cert.InbRefIdeal.main_arg2)
          ∧ r.2.mem ((c.tc : Thread Cert.InbRefIdeal.nD Cert.InbRefIdeal.τ).loc Cert.InbRefIdeal.main_arg3) = m' ((c.tc : Thread Cert.InbRefIdeal.nD Cert.InbRefIdeal.τ).loc Cert.InbRefIdeal.main_arg3)
          ∧ r.2.mem ((c.tc : Thread Cert.InbRefIdeal.nD Cert.InbRefIdeal.τ).loc Cert.InbRefIdeal.main_arg4) = m' ((c.tc : Thread Cert.InbRefIdeal.nD Cert.InbRefIdeal.τ).loc Cert.InbRefIdeal.main_arg4)
          ∧ r.2.mem ((c.tc : Thread Cert.InbRefIdeal.nD Cert.InbRefIdeal.τ).loc Cert.InbRefIdeal.main_arg5) = m' ((c.tc : Thread Cert.InbRefIdeal.nD Cert.InbRefIdeal.τ).loc Cert.InbRefIdeal.main_arg5)
          ∧ r.2.mem ((c.tc : Thread Cert.InbRefIdeal.nD Cert.InbRefIdeal.τ).loc Cert.InbRefIdeal.main_arg6) = m' ((c.tc : Thread Cert.InbRefIdeal.nD Cert.InbRefIdeal.τ).loc Cert.InbRefIdeal.main_arg6)
          ∧ r.2.mem ((c.tc : Thread Cert.InbRefIdeal.nD Cert.InbRefIdeal.τ).loc Cert.InbRefIdeal.main_arg7) = m' ((c.tc : Thread Cert.InbRefIdeal.nD Cert.InbRefIdeal.τ).loc Cert.InbRefIdeal.main_arg7)
          ∧ r.2.mem ((c.tc : Thread Cert.InbRefIdeal.nD Cert.InbRefIdeal.τ).loc Cert.InbRefIdeal.main_arg8) = m' ((c.tc : Thread Cert.InbRefIdeal.nD Cert.InbRefIdeal.τ).loc Cert.InbRefIdeal.main_arg8)
          ∧ r.2.mem ((c.tc : Thread Cert.InbRefIdeal.nD Cert.InbRefIdeal.τ).loc Cert.InbRefIdeal.main_arg9) = m' ((c.tc : Thread Cert.InbRefIdeal.nD Cert.InbRefIdeal.τ).loc Cert.InbRefIdeal.main_arg9)
          ∧ r.2.mem ((c.tc : Thread Cert.InbRefIdeal.nD Cert.InbRefIdeal.τ).loc Cert.InbRefIdeal.main_arg10) = m' ((c.tc : Thread Cert.InbRefIdeal.nD Cert.InbRefIdeal.τ).loc Cert.InbRefIdeal.main_arg10)
          ∧ r.2.mem ((c.tc : Thread Cert.InbRefIdeal.nD Cert.InbRefIdeal.τ).loc Cert.InbRefIdeal.main_arg11) = m' ((c.tc : Thread Cert.InbRefIdeal.nD Cert.InbRefIdeal.τ).loc Cert.InbRefIdeal.main_arg11)
          ∧ r.2.mem ((c.tc : Thread Cert.InbRefIdeal.nD Cert.InbRefIdeal.τ).loc Cert.InbRefIdeal.main_arg12) = m' ((c.tc : Thread Cert.InbRefIdeal.nD Cert.InbRefIdeal.τ).loc Cert.InbRefIdeal.main_arg12)
          ∧ r.2.mem ((c.tc : Thread Cert.InbRefIdeal.nD Cert.InbRefIdeal.τ).loc Cert.InbRefIdeal.main_arg13) = m' ((c.tc : Thread Cert.InbRefIdeal.nD Cert.InbRefIdeal.τ).loc Cert.InbRefIdeal.main_arg13))

def preserves_Mid_MidIdeal : Prop :=
  True

def Claim : Prop :=
  ∃ (hPost : Cert.Post.Facts) (hPostIdeal : Cert.PostIdeal.Facts) (hPostRefIdeal : Cert.PostRefIdeal.Facts) (hMla : Cert.Mla.Facts) (hMlaIdeal : Cert.MlaIdeal.Facts) (hMlaRefIdeal : Cert.MlaRefIdeal.Facts) (hInb : Cert.Inb.Facts) (hInbIdeal : Cert.InbIdeal.Facts) (hInbRefIdeal : Cert.InbRefIdeal.Facts) (hMid : Cert.Mid.Facts) (hMidIdeal : Cert.MidIdeal.Facts) (hMidRefIdeal : Cert.MidRefIdeal.Facts) (hPre_post_finite : Cert.Pre_post_finite.Facts) (hPre_mla_finite : Cert.Pre_mla_finite.Facts) (hPre_in_finite : Cert.Pre_in_finite.Facts),
    quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Inb (hInb := hInb)
    ∧ quiescent_InbIdeal (hInbIdeal := hInbIdeal)
    ∧ quiescent_InbIdeal_pre_in_finite (hInbIdeal := hInbIdeal) (hPre_in_finite := hPre_in_finite)
    ∧ quiescent_InbRefIdeal (hInbRefIdeal := hInbRefIdeal)
    ∧ quiescent_InbRefIdeal_pre_in_finite (hInbRefIdeal := hInbRefIdeal) (hPre_in_finite := hPre_in_finite)
    ∧ quiescent_Mid (hMid := hMid)
    ∧ quiescent_MidIdeal (hMidIdeal := hMidIdeal)
    ∧ quiescent_MidRefIdeal (hMidRefIdeal := hMidRefIdeal)
    ∧ preserves_Post_PostIdeal
    ∧ algebraic_PostIdeal_PostRefIdeal_pre_post_finite (hPostIdeal := hPostIdeal) (hPostRefIdeal := hPostRefIdeal) (hPre_post_finite := hPre_post_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Inb_InbIdeal
    ∧ algebraic_InbIdeal_InbRefIdeal_pre_in_finite (hInbIdeal := hInbIdeal) (hInbRefIdeal := hInbRefIdeal) (hPre_in_finite := hPre_in_finite)
    ∧ preserves_Mid_MidIdeal
-- ==== Pre_in_finite.lean ====
abbrev S4x2048x1024 : Shape := ⟨3, ![4, 2048, 1024]⟩
abbrev S4x2048x384 : Shape := ⟨3, ![4, 2048, 384]⟩
abbrev S4x2048x256 : Shape := ⟨3, ![4, 2048, 256]⟩
abbrev S4x2048x32 : Shape := ⟨3, ![4, 2048, 32]⟩
abbrev S4x2048x512 : Shape := ⟨3, ![4, 2048, 512]⟩
abbrev S4x2048x128 : Shape := ⟨3, ![4, 2048, 128]⟩
abbrev S4x3072 : Shape := ⟨2, ![4, 3072]⟩
abbrev S1x3072 : Shape := ⟨2, ![1, 3072]⟩
abbrev S1024 : Shape := ⟨1, ![1024]⟩
abbrev S1024x2464 : Shape := ⟨2, ![1024, 2464]⟩
abbrev S_ : Shape := ⟨0, ![]⟩

class Facts : Prop where
  bcast_S_S4x2048x1024 : S_.BroadcastsInDim S4x2048x1024 (![] : Fin 0 → Fin S4x2048x1024.rank)
  bcast_S_S4x2048x384 : S_.BroadcastsInDim S4x2048x384 (![] : Fin 0 → Fin S4x2048x384.rank)
  bcast_S_S4x2048x256 : S_.BroadcastsInDim S4x2048x256 (![] : Fin 0 → Fin S4x2048x256.rank)
  bcast_S_S4x2048x32 : S_.BroadcastsInDim S4x2048x32 (![] : Fin 0 → Fin S4x2048x32.rank)
  bcast_S_S4x2048x512 : S_.BroadcastsInDim S4x2048x512 (![] : Fin 0 → Fin S4x2048x512.rank)
  bcast_S_S4x2048x128 : S_.BroadcastsInDim S4x2048x128 (![] : Fin 0 → Fin S4x2048x128.rank)
  bcast_S_S4x3072 : S_.BroadcastsInDim S4x3072 (![] : Fin 0 → Fin S4x3072.rank)
  bcast_S_S1x3072 : S_.BroadcastsInDim S1x3072 (![] : Fin 0 → Fin S1x3072.rank)
  bcast_S_S1024 : S_.BroadcastsInDim S1024 (![] : Fin 0 → Fin S1024.rank)
  bcast_S_S1024x2464 : S_.BroadcastsInDim S1024x2464 (![] : Fin 0 → Fin S1024x2464.rank)

variable [Facts]

def fn_part2 {F : FTy → Type} [FloatOps F] (main_arg12 : FVec F S1024 .f32) (main_arg13 : FVec F S1024x2464 .f32) (main_v2 : IVec S4x2048x1024 1) (main_v5 : IVec S4x2048x1024 1) (main_v8 : IVec S4x2048x384 1) (main_v11 : IVec S4x2048x256 1) (main_v14 : IVec S4x2048x32 1) (main_v17 : IVec S4x2048x512 1) (main_v20 : IVec S4x2048x512 1) (main_v23 : IVec S4x2048x128 1) (main_v26 : IVec S4x2048x128 1) (main_v29 : IVec S4x2048x512 1) (main_v32 : IVec S4x3072 1) (main_v35 : IVec S1x3072 1) : IVec S4x2048x1024 1 × IVec S4x2048x1024 1 × IVec S4x2048x384 1 × IVec S4x2048x256 1 × IVec S4x2048x32 1 × IVec S4x2048x512 1 × IVec S4x2048x512 1 × IVec S4x2048x128 1 × IVec S4x2048x128 1 × IVec S4x2048x512 1 × IVec S4x3072 1 × IVec S1x3072 1 × IVec S1024 1 × IVec S1024x2464 1 :=
  let main_v36 : FVec F S1024 .f32 := Host.absf main_arg12
  let main_cst_11 : FVec F S_ .f32 := constant S_ .f32 0x7F800000#32
  let main_v37 : FVec F S1024 .f32 := broadcastInDim S1024 ![] bcast_S_S1024 main_cst_11
  let main_v38 : IVec S1024 1 := cmpf .olt main_v36 main_v37
  let main_v39 : FVec F S1024x2464 .f32 := Host.absf main_arg13
  let main_cst_12 : FVec F S_ .f32 := constant S_ .f32 0x7F800000#32
  let main_v40 : FVec F S1024x2464 .f32 := broadcastInDim S1024x2464 ![] bcast_S_S1024x2464 main_cst_12
  let main_v41 : IVec S1024x2464 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S4x2048x512 .f32) (main_arg7 : FVec F S4x2048x128 .f32) (main_arg8 : FVec F S4x2048x128 .f32) (main_arg9 : FVec F S4x2048x512 .f32) (main_arg10 : FVec F S4x3072 .f32) (main_arg11 : FVec F S1x3072 .f32) (main_arg12 : FVec F S1024 .f32) (main_arg13 : FVec F S1024x2464 .f32) (main_v2 : IVec S4x2048x1024 1) (main_v5 : IVec S4x2048x1024 1) (main_v8 : IVec S4x2048x384 1) (main_v11 : IVec S4x2048x256 1) (main_v14 : IVec S4x2048x32 1) (main_v17 : IVec S4x2048x512 1) : IVec S4x2048x1024 1 × IVec S4x2048x1024 1 × IVec S4x2048x384 1 × IVec S4x2048x256 1 × IVec S4x2048x32 1 × IVec S4x2048x512 1 × IVec S4x2048x512 1 × IVec S4x2048x128 1 × IVec S4x2048x128 1 × IVec S4x2048x512 1 × IVec S4x3072 1 × IVec S1x3072 1 × IVec S1024 1 × IVec S1024x2464 1 :=
  let main_v18 : FVec F S4x2048x512 .f32 := Host.absf main_arg6
  let main_cst_5 : FVec F S_ .f32 := constant S_ .f32 0x7F800000#32
  let main_v19 : FVec F S4x2048x512 .f32 := broadcastInDim S4x2048x512 ![] bcast_S_S4x2048x512 main_cst_5
  let main_v20 : IVec S4x2048x512 1 := cmpf .olt main_v18 main_v19
  let main_v21 : FVec F S4x2048x128 .f32 := Host.absf main_arg7
  let main_cst_6 : FVec F S_ .f32 := constant S_ .f32 0x7F800000#32
  let main_v22 : FVec F S4x2048x128 .f32 := broadcastInDim S4x2048x128 ![] bcast_S_S4x2048x128 main_cst_6
  let main_v23 : IVec S4x2048x128 1 := cmpf .olt main_v21 main_v22
  let main_v24 : FVec F S4x2048x128 .f32 := Host.absf main_arg8
  let main_cst_7 : FVec F S_ .f32 := constant S_ .f32 0x7F800000#32
  let main_v25 : FVec F S4x2048x128 .f32 := broadcastInDim S4x2048x128 ![] bcast_S_S4x2048x128 main_cst_7
  let main_v26 : IVec S4x2048x128 1 := cmpf .olt main_v24 main_v25
  let main_v27 : FVec F S4x2048x512 .f32 := Host.absf main_arg9
  let main_cst_8 : FVec F S_ .f32 := constant S_ .f32 0x7F800000#32
  let main_v28 : FVec F S4x2048x512 .f32 := broadcastInDim S4x2048x512 ![] bcast_S_S4x2048x512 main_cst_8
  let main_v29 : IVec S4x2048x512 1 := cmpf .olt main_v27 main_v28
  let main_v30 : FVec F S4x3072 .f32 := Host.absf main_arg10
  let main_cst_9 : FVec F S_ .f32 := constant S_ .f32 0x7F800000#32
  let main_v31 : FVec F S4x3072 .f32 := broadcastInDim S4x3072 ![] bcast_S_S4x3072 main_cst_9
  let main_v32 : IVec S4x3072 1 := cmpf .olt main_v30 main_v31
  let main_v33 : FVec F S1x3072 .f32 := Host.absf main_arg11
  let main_cst_10 : FVec F S_ .f32 := constant S_ .f32 0x7F800000#32
  let main_v34 : FVec F S1x3072 .f32 := broadcastInDim S1x3072 ![] bcast_S_S1x3072 main_cst_10
  let main_v35 : IVec S1x3072 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S4x2048x1024 .f32) (main_arg1 : FVec F S4x2048x1024 .f32) (main_arg2 : FVec F S4x2048x384 .f32) (main_arg3 : FVec F S4x2048x256 .f32) (main_arg4 : FVec F S4x2048x32 .f32) (main_arg5 : FVec F S4x2048x512 .f32) (main_arg6 : FVec F S4x2048x512 .f32) (main_arg7 : FVec F S4x2048x128 .f32) (main_arg8 : FVec F S4x2048x128 .f32) (main_arg9 : FVec F S4x2048x512 .f32) (main_arg10 : FVec F S4x3072 .f32) (main_arg11 : FVec F S1x3072 .f32) (main_arg12 : FVec F S1024 .f32) (main_arg13 : FVec F S1024x2464 .f32) : IVec S4x2048x1024 1 × IVec S4x2048x1024 1 × IVec S4x2048x384 1 × IVec S4x2048x256 1 × IVec S4x2048x32 1 × IVec S4x2048x512 1 × IVec S4x2048x512 1 × IVec S4x2048x128 1 × IVec S4x2048x128 1 × IVec S4x2048x512 1 × IVec S4x3072 1 × IVec S1x3072 1 × IVec S1024 1 × IVec S1024x2464 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S4x2048x384 .f32 := Host.absf main_arg2
  let main_cst_1 : FVec F S_ .f32 := constant S_ .f32 0x7F800000#32
  let main_v7 : FVec F S4x2048x384 .f32 := broadcastInDim S4x2048x384 ![] bcast_S_S4x2048x384 main_cst_1
  let main_v8 : IVec S4x2048x384 1 := cmpf .olt main_v6 main_v7
  let main_v9 : FVec F S4x2048x256 .f32 := Host.absf main_arg3
  let main_cst_2 : FVec F S_ .f32 := constant S_ .f32 0x7F800000#32
  let main_v10 : FVec F S4x2048x256 .f32 := broadcastInDim S4x2048x256 ![] bcast_S_S4x2048x256 main_cst_2
  let main_v11 : IVec S4x2048x256 1 := cmpf .olt main_v9 main_v10
  let main_v12 : FVec F S4x2048x32 .f32 := Host.absf main_arg4
  let main_cst_3 : FVec F S_ .f32 := constant S_ .f32 0x7F800000#32
  let main_v13 : FVec F S4x2048x32 .f32 := broadcastInDim S4x2048x32 ![] bcast_S_S4x2048x32 main_cst_3
  let main_v14 : IVec S4x2048x32 1 := cmpf .olt main_v12 main_v13
  let main_v15 : FVec F S4x2048x512 .f32 := Host.absf main_arg5
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  fn_part1 (F := F) main_arg6 main_arg7 main_arg8 main_arg9 main_arg10 main_arg11 main_arg12 main_arg13 main_v2 main_v5 main_v8 main_v11 main_v14 main_v17
-- ==== Pre_mla_finite.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S_ : Shape := ⟨0, ![]⟩

class Facts : Prop where
  bcast_S_S4x2048x8x64 : S_.BroadcastsInDim S4x2048x8x64 (![] : Fin 0 → Fin S4x2048x8x64.rank)
  bcast_S_S4x2048x8x32 : S_.BroadcastsInDim S4x2048x8x32 (![] : Fin 0 → Fin S4x2048x8x32.rank)
  bcast_S_S4x2048x32 : S_.BroadcastsInDim S4x2048x32 (![] : Fin 0 → Fin S4x2048x32.rank)

variable [Facts]

def fn {F : FTy → Type} [FloatOps F] (main_arg0 : FVec F S4x2048x8x64 .f32) (main_arg1 : FVec F S4x2048x8x32 .f32) (main_arg2 : FVec F S4x2048x8x64 .f32) (main_arg3 : FVec F S4x2048x32 .f32) (main_arg4 : FVec F S4x2048x8x64 .f32) (main_arg5 : FVec F S4x2048x8x64 .f32) : IVec S4x2048x8x64 1 × IVec S4x2048x8x32 1 × IVec S4x2048x8x64 1 × IVec S4x2048x32 1 × IVec S4x2048x8x64 1 × IVec S4x2048x8x64 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_v3 : FVec F S4x2048x8x32 .f32 := Host.absf main_arg1
  let main_cst_0 : FVec F S_ .f32 := constant S_ .f32 0x7F800000#32
  let main_v4 : FVec F S4x2048x8x32 .f32 := broadcastInDim S4x2048x8x32 ![] bcast_S_S4x2048x8x32 main_cst_0
  let main_v5 : IVec S4x2048x8x32 1 := cmpf .olt main_v3 main_v4
  let main_v6 : FVec F S4x2048x8x64 .f32 := Host.absf main_arg2
  let main_cst_1 : FVec F S_ .f32 := constant S_ .f32 0x7F800000#32
  let main_v7 : FVec F S4x2048x8x64 .f32 := broadcastInDim S4x2048x8x64 ![] bcast_S_S4x2048x8x64 main_cst_1
  let main_v8 : IVec S4x2048x8x64 1 := cmpf .olt main_v6 main_v7
  let main_v9 : FVec F S4x2048x32 .f32 := Host.absf main_arg3
  let main_cst_2 : FVec F S_ .f32 := constant S_ .f32 0x7F800000#32
  let main_v10 : FVec F S4x2048x32 .f32 := broadcastInDim S4x2048x32 ![] bcast_S_S4x2048x32 main_cst_2
  let main_v11 : IVec S4x2048x32 1 := cmpf .olt main_v9 main_v10
  let main_v12 : FVec F S4x2048x8x64 .f32 := Host.absf main_arg4
  let main_cst_3 : FVec F S_ .f32 := constant S_ .f32 0x7F800000#32
  let main_v13 : FVec F S4x2048x8x64 .f32 := broadcastInDim S4x2048x8x64 ![] bcast_S_S4x2048x8x64 main_cst_3
  let main_v14 : IVec S4x2048x8x64 1 := cmpf .olt main_v12 main_v13
  let main_v15 : FVec F S4x2048x8x64 .f32 := Host.absf main_arg5
  let main_cst_4 : FVec F S_ .f32 := constant S_ .f32 0x7F800000#32
  let main_v16 : FVec F S4x2048x8x64 .f32 := broadcastInDim S4x2048x8x64 ![] bcast_S_S4x2048x8x64 main_cst_4
  let main_v17 : IVec S4x2048x8x64 1 := cmpf .olt main_v15 main_v16
  (main_v2, main_v5, main_v8, main_v11, main_v14, main_v17)
-- ==== Pre_post_finite.lean ====
abbrev S4x2048x1024 : Shape := ⟨3, ![4, 2048, 1024]⟩
abbrev S4x2048x512 : Shape := ⟨3, ![4, 2048, 512]⟩
abbrev S4x3072 : Shape := ⟨2, ![4, 3072]⟩
abbrev S1x3072 : Shape := ⟨2, ![1, 3072]⟩
abbrev S1024 : Shape := ⟨1, ![1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  bcast_S_S4x2048x512 : S_.BroadcastsInDim S4x2048x512 (![] : Fin 0 → Fin S4x2048x512.rank)
  bcast_S_S4x3072 : S_.BroadcastsInDim S4x3072 (![] : Fin 0 → Fin S4x3072.rank)
  bcast_S_S1x3072 : S_.BroadcastsInDim S1x3072 (![] : Fin 0 → Fin S1x3072.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S4x3072 .f32) (main_arg7 : FVec F S1x3072 .f32) (main_arg8 : FVec F S1024 .f32) (main_arg9 : FVec F S1024x1024 .f32) (main_v2 : IVec S4x2048x1024 1) (main_v5 : IVec S4x2048x1024 1) (main_v8 : IVec S4x2048x512 1) (main_v11 : IVec S4x2048x512 1) (main_v14 : IVec S4x2048x512 1) (main_v17 : IVec S4x2048x512 1) : IVec S4x2048x1024 1 × IVec S4x2048x1024 1 × IVec S4x2048x512 1 × IVec S4x2048x512 1 × IVec S4x2048x512 1 × IVec S4x2048x512 1 × IVec S4x3072 1 × IVec S1x3072 1 × IVec S1024 1 × IVec S1024x1024 1 :=
  let main_v18 : FVec F S4x3072 .f32 := Host.absf main_arg6
  let main_cst_5 : FVec F S_ .f32 := constant S_ .f32 0x7F800000#32
  let main_v19 : FVec F S4x3072 .f32 := broadcastInDim S4x3072 ![] bcast_S_S4x3072 main_cst_5
  let main_v20 : IVec S4x3072 1 := cmpf .olt main_v18 main_v19
  let main_v21 : FVec F S1x3072 .f32 := Host.absf main_arg7
  let main_cst_6 : FVec F S_ .f32 := constant S_ .f32 0x7F800000#32
  let main_v22 : FVec F S1x3072 .f32 := broadcastInDim S1x3072 ![] bcast_S_S1x3072 main_cst_6
  let main_v23 : IVec S1x3072 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  (main_v2, main_v5, main_v8, main_v11, main_v14, main_v17, main_v20, main_v23, main_v26, main_v29)

def fn {F : FTy → Type} [FloatOps F] (main_arg0 : FVec F S4x2048x1024 .f32) (main_arg1 : FVec F S4x2048x1024 .f32) (main_arg2 : FVec F S4x2048x512 .f32) (main_arg3 : FVec F S4x2048x512 .f32) (main_arg4 : FVec F S4x2048x512 .f32) (main_arg5 : FVec F S4x2048x512 .f32) (main_arg6 : FVec F S4x3072 .f32) (main_arg7 : FVec F S1x3072 .f32) (main_arg8 : FVec F S1024 .f32) (main_arg9 : FVec F S1024x1024 .f32) : IVec S4x2048x1024 1 × IVec S4x2048x1024 1 × IVec S4x2048x512 1 × IVec S4x2048x512 1 × IVec S4x2048x512 1 × IVec S4x2048x512 1 × IVec S4x3072 1 × IVec S1x3072 1 × IVec S1024 1 × IVec S1024x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x2048x512 .f32 := Host.absf main_arg3
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_v12 : FVec F S4x2048x512 .f32 := Host.absf main_arg4
  let main_cst_3 : FVec F S_ .f32 := constant S_ .f32 0x7F800000#32
  let main_v13 : FVec F S4x2048x512 .f32 := broadcastInDim S4x2048x512 ![] bcast_S_S4x2048x512 main_cst_3
  let main_v14 : IVec S4x2048x512 1 := cmpf .olt main_v12 main_v13
  let main_v15 : FVec F S4x2048x512 .f32 := Host.absf main_arg5
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  fn_part1 (F := F) main_arg6 main_arg7 main_arg8 main_arg9 main_v2 main_v5 main_v8 main_v11 main_v14 main_v17
-- ==== Post.lean ====
abbrev S4x2048x1024 : Shape := ⟨3, ![4, 2048, 1024]⟩
abbrev S4x2048x512 : Shape := ⟨3, ![4, 2048, 512]⟩
abbrev S4x3072 : Shape := ⟨2, ![4, 3072]⟩
abbrev S1x3072 : Shape := ⟨2, ![1, 3072]⟩
abbrev S1024 : Shape := ⟨1, ![1024]⟩
abbrev S1024x1024 : Shape := ⟨2, ![1024, 1024]⟩
abbrev S8192x512 : Shape := ⟨2, ![8192, 512]⟩
abbrev S8192x1024 : Shape := ⟨2, ![8192, 1024]⟩
abbrev S4x1x3072 : Shape := ⟨3, ![4, 1, 3072]⟩
abbrev S1x1024 : Shape := ⟨2, ![1, 1024]⟩
abbrev S4x1x1024 : Shape := ⟨3, ![4, 1, 1024]⟩
abbrev S1x128 : Shape := ⟨2, ![1, 128]⟩
abbrev S2x4x8192 : Shape := ⟨3, ![2, 4, 8192]⟩
abbrev S8x8192 : Shape := ⟨2, ![8, 8192]⟩
abbrev S512x1024 : Shape := ⟨2, ![512, 1024]⟩
abbrev S512x512 : Shape := ⟨2, ![512, 512]⟩
abbrev S1x1x3072 : Shape := ⟨3, ![1, 1, 3072]⟩
abbrev S1x1x1024 : Shape := ⟨3, ![1, 1, 1024]⟩
abbrev S2x4x512 : Shape := ⟨3, ![2, 4, 512]⟩
abbrev S8x512 : Shape := ⟨2, ![8, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S16x1024 : Shape := ⟨2, ![16, 1024]⟩
abbrev S16x256 : Shape := ⟨2, ![16, 256]⟩
abbrev S4x256 : Shape := ⟨2, ![4, 256]⟩
abbrev S1x4x256 : Shape := ⟨3, ![1, 4, 256]⟩
abbrev S8x256 : Shape := ⟨2, ![8, 256]⟩

abbrev nBuf : Space → Nat
  | .hbm => 29
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x3072, .f32⟩
  | .hbm, ⟨7, _⟩ => ⟨S1x3072, .f32⟩
  | .hbm, ⟨8, _⟩ => ⟨S1024, .f32⟩
  | .hbm, ⟨9, _⟩ => ⟨S1024x1024, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S4x1x3072, .f32⟩
  | .hbm, ⟨18, _⟩ => ⟨S1x1024, .f32⟩
  | .hbm, ⟨19, _⟩ => ⟨S1024x1024, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S1024x1024, .f32⟩
  | .hbm, ⟨24, _⟩ => ⟨S1x1024, .f32⟩
  | .hbm, ⟨25, _⟩ => ⟨S4x1x1024, .f32⟩
  | .hbm, ⟨26, _⟩ => ⟨S1x128, .f32⟩
  | .hbm, ⟨27, _⟩ => ⟨S2x4x8192, .f32⟩
  | .hbm, ⟨28, _⟩ => ⟨S8x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x1x3072, .f32⟩
  | .local _ .vmem, ⟨11, _⟩ => ⟨S1x1x3072, .f32⟩
  | .local _ .vmem, ⟨12, _⟩ => ⟨S1x3072, .f32⟩
  | .local _ .vmem, ⟨13, _⟩ => ⟨S1x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x128, .f32⟩
  | .local _ .vmem, ⟨26, _⟩ => ⟨S2x4x512, .f32⟩
  | .local _ .vmem, ⟨27, _⟩ => ⟨S2x4x512, .f32⟩
  | .local _ .vmem, ⟨28, _⟩ => ⟨S8x512, .f32⟩
  | .local _ .vmem, ⟨29, _⟩ => ⟨S8x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PostRefIdeal.lean ====
abbrev S4x2048x1024 : Shape := ⟨3, ![4, 2048, 1024]⟩
abbrev S4x2048x512 : Shape := ⟨3, ![4, 2048, 512]⟩
abbrev S4x3072 : Shape := ⟨2, ![4, 3072]⟩
abbrev S1x3072 : Shape := ⟨2, ![1, 3072]⟩
abbrev S1024 : Shape := ⟨1, ![1024]⟩
abbrev S1024x1024 : Shape := ⟨2, ![1024, 1024]⟩
abbrev S3072 : Shape := ⟨1, ![3072]⟩
abbrev S4x1024 : Shape := ⟨2, ![4, 1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x512 : Shape := ⟨2, ![8192, 512]⟩
abbrev S1x1024 : Shape := ⟨2, ![1, 1024]⟩
abbrev S1x128 : Shape := ⟨2, ![1, 128]⟩
abbrev S8192x8x64 : Shape := ⟨3, ![8192, 8, 64]⟩
abbrev S8192x8 : Shape := ⟨2, ![8192, 8]⟩
abbrev S8x8192 : Shape := ⟨2, ![8, 8192]⟩
abbrev S2x4x8192 : Shape := ⟨3, ![2, 4, 8192]⟩

abbrev nBuf : Space → Nat
  | .hbm => 167
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x512, .f32⟩
  | 3 => ⟨S4x2048x512, .f32⟩
  | 4 => ⟨S4x2048x512, .f32⟩
  | 5 => ⟨S4x2048x512, .f32⟩
  | 6 => ⟨S4x3072, .f32⟩
  | 7 => ⟨S1x3072, .f32⟩
  | 8 => ⟨S1024, .f32⟩
  | 9 => ⟨S1024x1024, .f32⟩
  | 10 => ⟨S3072, .f32⟩
  | 11 => ⟨S1x3072, .f32⟩
  | 12 => ⟨S4x3072, .f32⟩
  | 13 => ⟨S4x3072, .f32⟩
  | 14 => ⟨S4x1024, .f32⟩
  | 15 => ⟨S4x1024, .f32⟩
  | 16 => ⟨S4x1024, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S_, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x1024, .f32⟩
  | 46 => ⟨S4x2048x1024, .f32⟩
  | 47 => ⟨S4x1x1024, .f32⟩
  | 48 => ⟨S4x2048x1024, .f32⟩
  | 49 => ⟨S4x2048x1024, .f32⟩
  | 50 => ⟨S4x2048x1024, .f32⟩
  | 51 => ⟨S4x2048x1024, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S_, .f32⟩
  | 59 => ⟨S4x2048x1, .f32⟩
  | 60 => ⟨S4x2048x1, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1024, .f32⟩
  | 67 => ⟨S4x2048x1024, .f32⟩
  | 68 => ⟨S1x1x1024, .f32⟩
  | 69 => ⟨S4x2048x1024, .f32⟩
  | 70 => ⟨S4x2048x1024, .f32⟩
  | 71 => ⟨S4x2048x1024, .f32⟩
  | 72 => ⟨S4x2048x1024, .f32⟩
  | 73 => ⟨S_, .f32⟩
  | 74 => ⟨S4x2048x1024, .f32⟩
  | 75 => ⟨S4x2048x1024, .f32⟩
  | 76 => ⟨S_, .f32⟩
  | 77 => ⟨S4x2048, .f32⟩
  | 78 => ⟨S_, .f32⟩
  | 79 => ⟨S4x2048, .f32⟩
  | 80 => ⟨S4x2048, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4x2048, .f32⟩
  | 89 => ⟨S_, .f32⟩
  | 90 => ⟨S4x2048, .f32⟩
  | 91 => ⟨S4x2048, .f32⟩
  | 92 => ⟨S4x2048x1024, .f32⟩
  | 93 => ⟨S4x2048x1024, .f32⟩
  | 94 => ⟨S4x2048x1024, .f32⟩
  | 95 => ⟨S_, .f32⟩
  | 96 => ⟨S1024, .f32⟩
  | 97 => ⟨S1x1x1024, .f32⟩
  | 98 => ⟨S4x2048x1024, .f32⟩
  | 99 => ⟨S4x2048x1024, .f32⟩
  | 100 => ⟨S_, .f32⟩
  | 101 => ⟨S1024, .f32⟩
  | 102 => ⟨S4x2048x1024, .f32⟩
  | 103 => ⟨S_, .f32⟩
  | 104 => ⟨S4x2048, .f32⟩
  | 105 => ⟨S4x2048x1, .f32⟩
  | 106 => ⟨S4x2048x1024, .f32⟩
  | 107 => ⟨S4x2048x1024, .f32⟩
  | 108 => ⟨S4x2048x1, .f32⟩
  | 109 => ⟨S_, .f32⟩
  | 110 => ⟨S4x2048x1, .f32⟩
  | 111 => ⟨S4x2048x1, .f32⟩
  | 112 => ⟨S_, .f32⟩
  | 113 => ⟨S4x2048, .f32⟩
  | 114 => ⟨S4x2048x1024, .f32⟩
  | 115 => ⟨S4x2048x1024, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S4x2048x1024, .f32⟩
  | 122 => ⟨S_, .f32⟩
  | 123 => ⟨S4x1024, .f32⟩
  | 124 => ⟨S4x1x1024, .f32⟩
  | 125 => ⟨S_, .f32⟩
  | 126 => ⟨S4x1024, .f32⟩
  | 127 => ⟨S1024x1024, .f32⟩
  | _ => ⟨S4x2048x1024, .f32⟩

abbrev hbmTy0_1 (i : Nat) : BufTy := match i % 128 with
  | 0 => ⟨S1024x1024, .f32⟩
  | 1 => ⟨S4x2048x1024, .f32⟩
  | 2 => ⟨S4x2048x512, .f32⟩
  | 3 => ⟨S4x2048x512, .f32⟩
  | 4 => ⟨S4x2048x512, .f32⟩
  | 5 => ⟨S4x2048x512, .f32⟩
  | 6 => ⟨S4x2048x512, .f32⟩
  | 7 => ⟨S4x2048x512, .f32⟩
  | 8 => ⟨S4x2048x512, .f32⟩
  | 9 => ⟨S4x2048x512, .f32⟩
  | 10 => ⟨S4x2048x512, .f32⟩
  | 11 => ⟨S4x2048x512, .f32⟩
  | 12 => ⟨S4x2048x512, .f32⟩
  | 13 => ⟨S4x2048x512, .f32⟩
  | 14 => ⟨S4x2048x512, .f32⟩
  | 15 => ⟨S4x2048x512, .f32⟩
  | 16 => ⟨S8192x1024, .f32⟩
  | 17 => ⟨S8192x512, .f32⟩
  | 18 => ⟨S8192x512, .f32⟩
  | 19 => ⟨S8192x1024, .f32⟩
  | 20 => ⟨S8192x1024, .bf16⟩
  | 21 => ⟨S8192x512, .f32⟩
  | 22 => ⟨S8192x512, .f32⟩
  | 23 => ⟨S8192x1024, .f32⟩
  | 24 => ⟨S8192x1024, .bf16⟩
  | 25 => ⟨S1x1024, .f32⟩
  | 26 => ⟨S4x1x1024, .f32⟩
  | 27 => ⟨S1x128, .f32⟩
  | 28 => ⟨S4x2048x512, .f32⟩
  | 29 => ⟨S8192x8x64, .f32⟩
  | 30 => ⟨S_, .f32⟩
  | 31 => ⟨S8192x8, .f32⟩
  | 32 => ⟨S8x8192, .f32⟩
  | 33 => ⟨S2x4x8192, .f32⟩
  | 34 => ⟨S4x2048x512, .f32⟩
  | 35 => ⟨S8192x8x64, .f32⟩
  | 36 => ⟨S_, .f32⟩
  | 37 => ⟨S8192x8, .f32⟩
  | 38 => ⟨S8x8192, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v7_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v7_1 : Ref sig .tc := ⟨.hbm, 28, rfl⟩
abbrev main_v7_0 : Ref sig .tc := ⟨.hbm, 29, rfl⟩
abbrev main_v8 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_v9_2 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_v9_1 : Ref sig .tc := ⟨.hbm, 42, rfl⟩
abbrev main_v9_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst : Ref sig .tc := ⟨.hbm, 52, rfl⟩
abbrev main_v18 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_v21 : Ref sig .tc := ⟨.hbm, 57, rfl⟩
abbrev main_cst_1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_2 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_3 : Ref sig .tc := ⟨.hbm, 73, rfl⟩
abbrev main_v35 : Ref sig .tc := ⟨.hbm, 74, rfl⟩
abbrev main_v36 : Ref sig .tc := ⟨.hbm, 75, rfl⟩
abbrev main_cst_4 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_cst_7 : Ref sig .tc := ⟨.hbm, 83, rfl⟩
abbrev main_v41 : Ref sig .tc := ⟨.hbm, 84, rfl⟩
abbrev main_cst_8 : Ref sig .tc := ⟨.hbm, 85, rfl⟩
abbrev main_cst_9 : Ref sig .tc := ⟨.hbm, 86, rfl⟩
abbrev main_v42 : Ref sig .tc := ⟨.hbm, 87, rfl⟩
abbrev main_v43 : Ref sig .tc := ⟨.hbm, 88, rfl⟩
abbrev main_cst_10 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_11 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_12 : Ref sig .tc := ⟨.hbm, 100, rfl⟩
abbrev main_v53 : Ref sig .tc := ⟨.hbm, 101, rfl⟩
abbrev main_v54 : Ref sig .tc := ⟨.hbm, 102, rfl⟩
abbrev main_cst_13 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_14 : Ref sig .tc := ⟨.hbm, 109, rfl⟩
abbrev main_v60 : Ref sig .tc := ⟨.hbm, 110, rfl⟩
abbrev main_v61 : Ref sig .tc := ⟨.hbm, 111, rfl⟩
abbrev main_cst_15 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_16 : Ref sig .tc := ⟨.hbm, 122, rfl⟩
abbrev main_v71 : Ref sig .tc := ⟨.hbm, 123, rfl⟩
abbrev main_v72 : Ref sig .tc := ⟨.hbm, 124, rfl⟩
abbrev main_cst_17 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_18 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_19 : Ref sig .tc := ⟨.hbm, 164, rfl⟩
abbrev main_v104 : Ref sig .tc := ⟨.hbm, 165, rfl⟩
abbrev main_v105 : Ref sig .tc := ⟨.hbm, 166, rfl⟩

abbrev nD : Nat := 1
abbrev τ : Topo := Topo.v7x

variable {F : FTy → Type} [FloatOps F]
-- ==== Mla.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S_ : Shape := ⟨0, ![]⟩
abbrev S4x2048x8x128 : Shape := ⟨4, ![4, 2048, 8, 128]⟩
abbrev S4x2048x1x32 : Shape := ⟨4, ![4, 2048, 1, 32]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S8x4x2048 : Shape := ⟨3, ![8, 4, 2048]⟩
abbrev S2x4x8192 : Shape := ⟨3, ![2, 4, 8192]⟩
abbrev S4x2x4x2048 : Shape := ⟨4, ![4, 2, 4, 2048]⟩
abbrev S8192x1024 : Shape := ⟨2, ![8192, 1024]⟩
abbrev S8192x512 : Shape := ⟨2, ![8192, 512]⟩
abbrev S2048x512 : Shape := ⟨2, ![2048, 512]⟩
abbrev S2048x256 : Shape := ⟨2, ![2048, 256]⟩
abbrev S1x4x2048 : Shape := ⟨3, ![1, 4, 2048]⟩
abbrev S1x1x4x2048 : Shape := ⟨4, ![1, 1, 4, 2048]⟩
abbrev S512x2048 : Shape := ⟨2, ![512, 2048]⟩
abbrev S4x128x2048 : Shape := ⟨3, ![4, 128, 2048]⟩
abbrev S2x256x256 : Shape := ⟨3, ![2, 256, 256]⟩
abbrev S128x128 : Shape := ⟨2, ![128, 128]⟩
abbrev S128x1 : Shape := ⟨2, ![128, 1]⟩
abbrev S256x512 : Shape := ⟨2, ![256, 512]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S512x256 : Shape := ⟨2, ![512, 256]⟩
abbrev S256x1 : Shape := ⟨2, ![256, 1]⟩
abbrev S1x256x256 : Shape := ⟨3, ![1, 256, 256]⟩
abbrev S1x256 : Shape := ⟨2, ![1, 256]⟩
abbrev S1x1x1x256 : Shape := ⟨4, ![1, 1, 1, 256]⟩
abbrev S1x1x256 : Shape := ⟨3, ![1, 1, 256]⟩
abbrev S64x256 : Shape := ⟨2, ![64, 256]⟩
abbrev S64x512 : Shape := ⟨2, ![64, 512]⟩
abbrev S512x128 : Shape := ⟨2, ![512, 128]⟩
abbrev S1x64x256 : Shape := ⟨3, ![1, 64, 256]⟩

abbrev nBuf : Space → Nat
  | .hbm => 75
  | .vmem => 22
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S4x2048x8x64, .f32⟩
  | .hbm, ⟨6, _⟩ => ⟨S_, .f32⟩
  | .hbm, ⟨7, _⟩ => ⟨S4x2048x8x32, .f32⟩
  | .hbm, ⟨8, _⟩ => ⟨S4x2048x8x128, .f32⟩
  | .hbm, ⟨9, _⟩ => ⟨S4x2048x1x32, .f32⟩
  | .hbm, ⟨10, _⟩ => ⟨S4x2048x8x32, .f32⟩
  | .hbm, ⟨11, _⟩ => ⟨S_, .f32⟩
  | .hbm, ⟨12, _⟩ => ⟨S4x2048x8x32, .f32⟩
  | .hbm, ⟨13, _⟩ => ⟨S4x2048x8x128, .f32⟩
  | .hbm, ⟨14, _⟩ => ⟨S4x8x2048x2048, .f32⟩
  | .hbm, ⟨15, _⟩ => ⟨S_, .f32⟩
  | .hbm, ⟨16, _⟩ => ⟨S4x8x2048x2048, .f32⟩
  | .hbm, ⟨17, _⟩ => ⟨S4x8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x64x2048, .f32⟩
  | .hbm, ⟨42, _⟩ => ⟨S4x2048x8x64, .f32⟩
  | .hbm, ⟨43, _⟩ => ⟨S4x2048x8x64, .f32⟩
  | .hbm, ⟨44, _⟩ => ⟨S_, .f32⟩
  | .hbm, ⟨45, _⟩ => ⟨S4x2048x8, .f32⟩
  | .hbm, ⟨46, _⟩ => ⟨S4x8x2048x1, .f32⟩
  | .hbm, ⟨47, _⟩ => ⟨S4x8x2048x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x8x2048x1, .f32⟩
  | .hbm, ⟨52, _⟩ => ⟨S4x8x2048x1, .f32⟩
  | .hbm, ⟨53, _⟩ => ⟨S8x4x2048, .f32⟩
  | .hbm, ⟨54, _⟩ => ⟨S2x4x8192, .f32⟩
  | .hbm, ⟨55, _⟩ => ⟨S4x2x4x2048, .f32⟩
  | .hbm, ⟨56, _⟩ => ⟨S_, .f32⟩
  | .hbm, ⟨57, _⟩ => ⟨S4x2048x8x128, .f32⟩
  | .hbm, ⟨58, _⟩ => ⟨S4x2048x8x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4x2048x8x128, .f32⟩
  | .hbm, ⟨63, _⟩ => ⟨S4x2048x8x128, .f32⟩
  | .hbm, ⟨64, _⟩ => ⟨S8192x1024, .f32⟩
  | .hbm, ⟨65, _⟩ => ⟨S8192x1024, .bf16⟩
  | .hbm, ⟨66, _⟩ => ⟨S8192x1024, .f32⟩
  | .hbm, ⟨67, _⟩ => ⟨S8192x1024, .bf16⟩
  | .hbm, ⟨68, _⟩ => ⟨S8192x512, .f32⟩
  | .hbm, ⟨69, _⟩ => ⟨S8192x512, .bf16⟩
  | .hbm, ⟨70, _⟩ => ⟨S8192x512, .f32⟩
  | .hbm, ⟨71, _⟩ => ⟨S8192x512, .bf16⟩
  | .hbm, ⟨72, _⟩ => ⟨S8192x1024, .f32⟩
  | .hbm, ⟨73, _⟩ => ⟨S8192x1024, .f32⟩
  | .hbm, ⟨74, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x4x2048, .f32⟩
  | .local _ .vmem, ⟨9, _⟩ => ⟨S1x4x2048, .f32⟩
  | .local _ .vmem, ⟨10, _⟩ => ⟨S1x1x4x2048, .f32⟩
  | .local _ .vmem, ⟨11, _⟩ => ⟨S1x1x4x2048, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x256, .f32⟩
  | .local _ .vmem, ⟨17, _⟩ => ⟨S2048x256, .f32⟩
  | .local _ .vmem, ⟨18, _⟩ => ⟨S512x2048, .bf16⟩
  | .local _ .vmem, ⟨19, _⟩ => ⟨S4x128x2048, .bf16⟩
  | .local _ .vmem, ⟨20, _⟩ => ⟨S512x2048, .f32⟩
  | .local _ .vmem, ⟨21, _⟩ => ⟨S2x256x256, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v53_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c8_i32 : BitVec 32 := 8#32
  let v530 : BitVec 32 := Scalar.addi c0_i32 c8_i32
  let c1_i32 : BitVec 32 := 1#32
  ⟨c0_i32, v530, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  v648
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v650 : Index := Scalar.indexCast v649
  let c0_425 : Index := 0#32
  ![v650.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v653 : Index := Scalar.indexCast v649
  let c0_426 : Index := 0#32
  ![v653.toNat, 0]
def k0_off3 (k0_t1 : Fin k0_t1_loop.trips) : Fin 2 → Nat :=
  let c0_427 : Index := 0#32
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v656 : Index := Scalar.indexCast v649
  ![0, v656.toNat]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v666 : Index := Scalar.indexCast v647
  let c0_432 : Index := 0#32
  let c0_433 : Index := 0#32
  ![v666.toNat, 0, 0]
def k0_cond1 (k0_t1 : Fin k0_t1_loop.trips) : BitVec 1 :=
  let c8_i32_434 : BitVec 32 := 8#32
  let c0_i32 : BitVec 32 := 0#32
  let c1_i32 : BitVec 32 := 1#32
  let arg15 : BitVec 32 := Scf.iv c0_i32 c1_i32 k0_t1
  let v670 : BitVec 32 := Scalar.subi c8_i32_434 arg15
  let c2_i32_435 : BitVec 32 := 2#32
  let v671 : BitVec 1 := Scalar.cmpi .sge v670 c2_i32_435
  let v672 : BitVec 32 := Scalar.extui v671
  let c0_i32_436 : BitVec 32 := 0#32
  let v673 : BitVec 1 := Scalar.cmpi .ne v672 c0_i32_436
  v673

def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  v712
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_459 : BitVec 32 := 1#32
  let v714 : BitVec 32 := Scalar.addi arg15 c1_i32_459
  let c256_i32_460 : BitVec 32 := 256#32
  let v715 : BitVec 32 := Scalar.muli v714 c256_i32_460
  v715
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_461 : BitVec 32 := 1#32
  let v717 : BitVec 32 := Scalar.subi arg15 c1_i32_461
  let c0_i32_462 : BitVec 32 := 0#32
  let v718 : BitVec 32 := Scalar.maxsi v717 c0_i32_462
  let c256_i32_464 : BitVec 32 := 256#32
  let v720 : BitVec 32 := Scalar.muli v718 c256_i32_464
  v720
def k0_off5 (k0_t1 : Fin k0_t1_loop.trips) : Fin 3 → Nat :=
  let c1_i32_463 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v719 : BitVec 32 := Scalar.subi c1_i32_463 v647
  let v722 : Index := Scalar.indexCast v719
  let c0_465 : Index := 0#32
  let c0_466 : Index := 0#32
  ![v722.toNat, 0, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_461 : BitVec 32 := 1#32
  let v717 : BitVec 32 := Scalar.subi arg15 c1_i32_461
  let c0_i32_462 : BitVec 32 := 0#32
  let v718 : BitVec 32 := Scalar.maxsi v717 c0_i32_462
  let c256_i32_464 : BitVec 32 := 256#32
  let v720 : BitVec 32 := Scalar.muli v718 c256_i32_464
  let v721 : BitVec 32 := v720
  let v726 : Index := Scalar.indexCast v721
  let c0_467 : Index := 0#32
  ![v726.toNat, 0]
def k0_off7 (k0_t1 : Fin k0_t1_loop.trips) : Fin 3 → Nat :=
  let c1_i32_463 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v719 : BitVec 32 := Scalar.subi c1_i32_463 v647
  let v728 : Index := Scalar.indexCast v719
  let c128_468 : Index := 128#32
  let c0_469 : Index := 0#32
  ![v728.toNat, 128, 0]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_461 : BitVec 32 := 1#32
  let v717 : BitVec 32 := Scalar.subi arg15 c1_i32_461
  let c0_i32_462 : BitVec 32 := 0#32
  let v718 : BitVec 32 := Scalar.maxsi v717 c0_i32_462
  let c256_i32_464 : BitVec 32 := 256#32
  let v720 : BitVec 32 := Scalar.muli v718 c256_i32_464
  let v721 : BitVec 32 := v720
  let v732 : Index := Scalar.indexCast v721
  let c128_470 : Index := 128#32
  ![v732.toNat, 128]
def k0_off9 (k0_t1 : Fin k0_t1_loop.trips) (c0_i32_457 : BitVec 32) : Fin 2 → Nat :=
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v734 : Index := Scalar.indexCast v713
  let c0_471 : Index := 0#32
  ![v734.toNat, 0]
def k0_off10 (k0_t1 : Fin k0_t1_loop.trips) (c0_i32_457 : BitVec 32) : Fin 3 → Nat :=
  let c0_474 : Index := 0#32
  let c0_475 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v747 : Index := Scalar.indexCast v713
  ![0, 0, v747.toNat]
def k0_off11 (k0_t1 : Fin k0_t1_loop.trips) (c0_i32_457 : BitVec 32) : Fin 3 → Nat :=
  let c1_482 : Index := 1#32
  let c0_483 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v763 : Index := Scalar.indexCast v713
  ![1, 0, v763.toNat]
def k0_off12 (k0_t1 : Fin k0_t1_loop.trips) (c0_i32_457 : BitVec 32) : Fin 4 → Nat :=
  let c0_490 : Index := 0#32
  let c0_491 : Index := 0#32
  let c0_492 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v779 : Index := Scalar.indexCast v713
  ![0, 0, 0, v779.toNat]
def k0_off13 (k0_t1 : Fin k0_t1_loop.trips) (c0_i32_457 : BitVec 32) : Fin 3 → Nat :=
  let c0_494 : Index := 0#32
  let c0_495 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v787 : Index := Scalar.indexCast v713
  ![0, 0, v787.toNat]
def k0_off14 (k0_t1 : Fin k0_t1_loop.trips) (c0_i32_457 : BitVec 32) : Fin 3 → Nat :=
  let c2_501 : Index := 2#32
  let c0_502 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v809 : Index := Scalar.indexCast v713
  ![2, 0, v809.toNat]
def k0_off15 (k0_t1 : Fin k0_t1_loop.trips) (c0_i32_457 : BitVec 32) : Fin 4 → Nat :=
  let c0_509 : Index := 0#32
  let c0_510 : Index := 0#32
  let c1_511 : Index := 1#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v825 : Index := Scalar.indexCast v713
  ![0, 0, 1, v825.toNat]
def k0_off16 (k0_t1 : Fin k0_t1_loop.trips) (c0_i32_457 : BitVec 32) : Fin 3 → Nat :=
  let c0_513 : Index := 0#32
  let c1_514 : Index := 1#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v833 : Index := Scalar.indexCast v713
  ![0, 1, v833.toNat]
def k0_off17 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v863 : Index := Scalar.indexCast v647
  let c0_520 : Index := 0#32
  let c0_521 : Index := 0#32
  ![v863.toNat, 0, 0]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v872 : Index := Scalar.indexCast v649
  let c0_525 : Index := 0#32
  ![v872.toNat, 0]
def k0_off19 (k0_t1 : Fin k0_t1_loop.trips) (c0_i32_457 : BitVec 32) : Fin 2 → Nat :=
  let c0_528 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v879 : Index := Scalar.indexCast v713
  ![0, v879.toNat]
def k0_off20 (k0_t1 : Fin k0_t1_loop.trips) (c0_i32_457 : BitVec 32) : Fin 3 → Nat :=
  let c3_534 : Index := 3#32
  let c0_535 : Index := 0#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v897 : Index := Scalar.indexCast v713
  ![3, 0, v897.toNat]
def k0_off21 (k0_t1 : Fin k0_t1_loop.trips) (c0_i32_457 : BitVec 32) : Fin 4 → Nat :=
  let c0_542 : Index := 0#32
  let c0_543 : Index := 0#32
  let c2_544 : Index := 2#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v913 : Index := Scalar.indexCast v713
  ![0, 0, 2, v913.toNat]
def k0_off22 (k0_t1 : Fin k0_t1_loop.trips) (c0_i32_457 : BitVec 32) : Fin 3 → Nat :=
  let c0_546 : Index := 0#32
  let c2_547 : Index := 2#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v921 : Index := Scalar.indexCast v713
  ![0, 2, v921.toNat]
def k0_off23 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v951 : Index := Scalar.indexCast v647
  let c64 : Index := 64#32
  let c0_553 : Index := 0#32
  ![v951.toNat, 64, 0]
def k0_off24 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v960 : Index := Scalar.indexCast v649
  let c128_557 : Index := 128#32
  ![v960.toNat, 128]
def k0_off25 (k0_t1 : Fin k0_t1_loop.trips) (c0_i32_457 : BitVec 32) : Fin 2 → Nat :=
  let c128_560 : Index := 128#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v967 : Index := Scalar.indexCast v713
  ![128, v967.toNat]
def k0_off26 (k0_t1 : Fin k0_t1_loop.trips) (c0_i32_457 : BitVec 32) : Fin 4 → Nat :=
  let c0_566 : Index := 0#32
  let c0_567 : Index := 0#32
  let c3_568 : Index := 3#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v985 : Index := Scalar.indexCast v713
  ![0, 0, 3, v985.toNat]
def k0_off27 (k0_t1 : Fin k0_t1_loop.trips) (c0_i32_457 : BitVec 32) : Fin 3 → Nat :=
  let c0_570 : Index := 0#32
  let c3_571 : Index := 3#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v993 : Index := Scalar.indexCast v713
  ![0, 3, v993.toNat]
def k0_off28 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v1023 : Index := Scalar.indexCast v647
  let c128_577 : Index := 128#32
  let c0_578 : Index := 0#32
  ![v1023.toNat, 128, 0]
def k0_off29 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1032 : Index := Scalar.indexCast v649
  let c256_582 : Index := 256#32
  ![v1032.toNat, 256]
def k0_off30 (k0_t1 : Fin k0_t1_loop.trips) (c0_i32_457 : BitVec 32) : Fin 2 → Nat :=
  let c256_585 : Index := 256#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v1039 : Index := Scalar.indexCast v713
  ![256, v1039.toNat]
def k0_off31 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v1065 : Index := Scalar.indexCast v647
  let c192 : Index := 192#32
  let c0_591 : Index := 0#32
  ![v1065.toNat, 192, 0]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1074 : Index := Scalar.indexCast v649
  let c384_595 : Index := 384#32
  ![v1074.toNat, 384]
def k0_off33 (k0_t1 : Fin k0_t1_loop.trips) (c0_i32_457 : BitVec 32) : Fin 2 → Nat :=
  let c384_598 : Index := 384#32
  let c0_i32 : BitVec 32 := 0#32
  let c1_i32 : BitVec 32 := 1#32
  let arg15 : BitVec 32 := Scf.iv c0_i32 c1_i32 k0_t1
  let v711 : BitVec 32 := Scalar.addi arg15 c0_i32_457
  let c256_i32_458 : BitVec 32 := 256#32
  let v712 : BitVec 32 := Scalar.muli v711 c256_i32_458
  let v713 : BitVec 32 := v712
  let v1081 : Index := Scalar.indexCast v713
  ![384, v1081.toNat]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  v712
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_459 : BitVec 32 := 1#32
  let v714 : BitVec 32 := Scalar.subi arg15 c1_i32_459
  let c0_i32_460 : BitVec 32 := 0#32
  let v715 : BitVec 32 := Scalar.maxsi v714 c0_i32_460
  let c256_i32_462 : BitVec 32 := 256#32
  let v717 : BitVec 32 := Scalar.muli v715 c256_i32_462
  v717
def k0_off34 (k0_t1 : Fin k0_t1_loop.trips) : Fin 3 → Nat :=
  let c1_i32_461 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v716 : BitVec 32 := Scalar.subi c1_i32_461 v647
  let v719 : Index := Scalar.indexCast v716
  let c0_463 : Index := 0#32
  let c0_464 : Index := 0#32
  ![v719.toNat, 0, 0]
def k0_off35 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_459 : BitVec 32 := 1#32
  let v714 : BitVec 32 := Scalar.subi arg15 c1_i32_459
  let c0_i32_460 : BitVec 32 := 0#32
  let v715 : BitVec 32 := Scalar.maxsi v714 c0_i32_460
  let c256_i32_462 : BitVec 32 := 256#32
  let v717 : BitVec 32 := Scalar.muli v715 c256_i32_462
  let v718 : BitVec 32 := v717
  let v723 : Index := Scalar.indexCast v718
  let c0_465 : Index := 0#32
  ![v723.toNat, 0]
def k0_off36 (k0_t1 : Fin k0_t1_loop.trips) : Fin 3 → Nat :=
  let c1_i32_461 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v716 : BitVec 32 := Scalar.subi c1_i32_461 v647
  let v725 : Index := Scalar.indexCast v716
  let c128_466 : Index := 128#32
  let c0_467 : Index := 0#32
  ![v725.toNat, 128, 0]
def k0_off37 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_459 : BitVec 32 := 1#32
  let v714 : BitVec 32 := Scalar.subi arg15 c1_i32_459
  let c0_i32_460 : BitVec 32 := 0#32
  let v715 : BitVec 32 := Scalar.maxsi v714 c0_i32_460
  let c256_i32_462 : BitVec 32 := 256#32
  let v717 : BitVec 32 := Scalar.muli v715 c256_i32_462
  let v718 : BitVec 32 := v717
  let v729 : Index := Scalar.indexCast v718
  let c128_468 : Index := 128#32
  ![v729.toNat, 128]
def k0_off38 (k0_t1 : Fin k0_t1_loop.trips) : Fin 2 → Nat :=
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v731 : Index := Scalar.indexCast v713
  let c0_469 : Index := 0#32
  ![v731.toNat, 0]
def k0_off39 (k0_t1 : Fin k0_t1_loop.trips) : Fin 3 → Nat :=
  let c0_471 : Index := 0#32
  let c0_472 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v741 : Index := Scalar.indexCast v713
  ![0, 0, v741.toNat]
def k0_off40 (k0_t1 : Fin k0_t1_loop.trips) : Fin 3 → Nat :=
  let c1_475 : Index := 1#32
  let c0_476 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v749 : Index := Scalar.indexCast v713
  ![1, 0, v749.toNat]
def k0_off41 (k0_t1 : Fin k0_t1_loop.trips) : Fin 4 → Nat :=
  let c0_479 : Index := 0#32
  let c0_480 : Index := 0#32
  let c0_481 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v757 : Index := Scalar.indexCast v713
  ![0, 0, 0, v757.toNat]
def k0_off42 (k0_t1 : Fin k0_t1_loop.trips) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v765 : Index := Scalar.indexCast v713
  ![0, 0, v765.toNat]
def k0_off43 (k0_t1 : Fin k0_t1_loop.trips) : Fin 3 → Nat :=
  let c2_485 : Index := 2#32
  let c0_486 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v773 : Index := Scalar.indexCast v713
  ![2, 0, v773.toNat]
def k0_off44 (k0_t1 : Fin k0_t1_loop.trips) : Fin 4 → Nat :=
  let c0_489 : Index := 0#32
  let c0_490 : Index := 0#32
  let c1_491 : Index := 1#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v781 : Index := Scalar.indexCast v713
  ![0, 0, 1, v781.toNat]
def k0_off45 (k0_t1 : Fin k0_t1_loop.trips) : Fin 3 → Nat :=
  let c0_493 : Index := 0#32
  let c1_494 : Index := 1#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v789 : Index := Scalar.indexCast v713
  ![0, 1, v789.toNat]
def k0_off46 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v799 : Index := Scalar.indexCast v647
  let c0_495 : Index := 0#32
  let c0_496 : Index := 0#32
  ![v799.toNat, 0, 0]
def k0_off47 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v808 : Index := Scalar.indexCast v649
  let c0_500 : Index := 0#32
  ![v808.toNat, 0]
def k0_off48 (k0_t1 : Fin k0_t1_loop.trips) : Fin 2 → Nat :=
  let c0_503 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v815 : Index := Scalar.indexCast v713
  ![0, v815.toNat]
def k0_off49 (k0_t1 : Fin k0_t1_loop.trips) : Fin 3 → Nat :=
  let c3_506 : Index := 3#32
  let c0_507 : Index := 0#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v824 : Index := Scalar.indexCast v713
  ![3, 0, v824.toNat]
def k0_off50 (k0_t1 : Fin k0_t1_loop.trips) : Fin 4 → Nat :=
  let c0_510 : Index := 0#32
  let c0_511 : Index := 0#32
  let c2_512 : Index := 2#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v832 : Index := Scalar.indexCast v713
  ![0, 0, 2, v832.toNat]
def k0_off51 (k0_t1 : Fin k0_t1_loop.trips) : Fin 3 → Nat :=
  let c0_514 : Index := 0#32
  let c2_515 : Index := 2#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v840 : Index := Scalar.indexCast v713
  ![0, 2, v840.toNat]
def k0_off52 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v850 : Index := Scalar.indexCast v647
  let c64 : Index := 64#32
  let c0_516 : Index := 0#32
  ![v850.toNat, 64, 0]
def k0_off53 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v859 : Index := Scalar.indexCast v649
  let c128_520 : Index := 128#32
  ![v859.toNat, 128]
def k0_off54 (k0_t1 : Fin k0_t1_loop.trips) : Fin 2 → Nat :=
  let c128_523 : Index := 128#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v866 : Index := Scalar.indexCast v713
  ![128, v866.toNat]
def k0_off55 (k0_t1 : Fin k0_t1_loop.trips) : Fin 4 → Nat :=
  let c0_526 : Index := 0#32
  let c0_527 : Index := 0#32
  let c3_528 : Index := 3#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v875 : Index := Scalar.indexCast v713
  ![0, 0, 3, v875.toNat]
def k0_off56 (k0_t1 : Fin k0_t1_loop.trips) : Fin 3 → Nat :=
  let c0_530 : Index := 0#32
  let c3_531 : Index := 3#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v883 : Index := Scalar.indexCast v713
  ![0, 3, v883.toNat]
def k0_off57 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v893 : Index := Scalar.indexCast v647
  let c128_532 : Index := 128#32
  let c0_533 : Index := 0#32
  ![v893.toNat, 128, 0]
def k0_off58 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v902 : Index := Scalar.indexCast v649
  let c256_537 : Index := 256#32
  ![v902.toNat, 256]
def k0_off59 (k0_t1 : Fin k0_t1_loop.trips) : Fin 2 → Nat :=
  let c256_540 : Index := 256#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v909 : Index := Scalar.indexCast v713
  ![256, v909.toNat]
def k0_off60 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v920 : Index := Scalar.indexCast v647
  let c192 : Index := 192#32
  let c0_543 : Index := 0#32
  ![v920.toNat, 192, 0]
def k0_off61 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v929 : Index := Scalar.indexCast v649
  let c384_547 : Index := 384#32
  ![v929.toNat, 384]
def k0_off62 (k0_t1 : Fin k0_t1_loop.trips) : Fin 2 → Nat :=
  let c384_550 : Index := 384#32
  let c0_i32 : BitVec 32 := 0#32
  let c1_i32 : BitVec 32 := 1#32
  let arg15 : BitVec 32 := Scf.iv c0_i32 c1_i32 k0_t1
  let c0_i32_457 : BitVec 32 := 0#32
  let v711 : BitVec 32 := Scalar.addi arg15 c0_i32_457
  let c256_i32_458 : BitVec 32 := 256#32
  let v712 : BitVec 32 := Scalar.muli v711 c256_i32_458
  let v713 : BitVec 32 := v712
  let v936 : Index := Scalar.indexCast v713
  ![384, v936.toNat]
@[reducible] def k0_t2_loop (k0_t1 : Fin k0_t1_loop.trips) : Scf.Loop 32 :=
  let c1_i32_445 : BitVec 32 := 1#32
  let c8_i32_434 : BitVec 32 := 8#32
  let c0_i32 : BitVec 32 := 0#32
  let c1_i32 : BitVec 32 := 1#32
  let arg15 : BitVec 32 := Scf.iv c0_i32 c1_i32 k0_t1
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_447 : BitVec 32 := 1#32
  ⟨c1_i32_445, v695, c1_i32_447⟩
def k0_mult7 (k0_t1 : Fin k0_t1_loop.trips) (k0_t2 : Fin (k0_t2_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let c0_i32_458 : BitVec 32 := 0#32
  let v713 : BitVec 32 := Scalar.addi v712 c0_i32_458
  let c256_i32_459 : BitVec 32 := 256#32
  let v714 : BitVec 32 := Scalar.muli v713 c256_i32_459
  v714
def k0_mult8 (k0_t1 : Fin k0_t1_loop.trips) (k0_t2 : Fin (k0_t2_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let c1_i32_460 : BitVec 32 := 1#32
  let v716 : BitVec 32 := Scalar.addi v712 c1_i32_460
  let c256_i32_461 : BitVec 32 := 256#32
  let v717 : BitVec 32 := Scalar.muli v716 c256_i32_461
  v717
def k0_off63 (k0_t1 : Fin k0_t1_loop.trips) (k0_t2 : Fin (k0_t2_loop k0_t1).trips) (c0_i32_458 : BitVec 32) : Fin 2 → Nat :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v719 : Index := Scalar.indexCast v715
  let c0_462 : Index := 0#32
  ![v719.toNat, 0]
def k0_off64 (k0_t1 : Fin k0_t1_loop.trips) (k0_t2 : Fin (k0_t2_loop k0_t1).trips) (c0_i32_458 : BitVec 32) : Fin 3 → Nat :=
  let c0_464 : Index := 0#32
  let c0_465 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v725 : Index := Scalar.indexCast v715
  ![0, 0, v725.toNat]
def k0_off65 (k0_t1 : Fin k0_t1_loop.trips) (k0_t2 : Fin (k0_t2_loop k0_t1).trips) (c0_i32_458 : BitVec 32) : Fin 3 → Nat :=
  let c1_472 : Index := 1#32
  let c0_473 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v741 : Index := Scalar.indexCast v715
  ![1, 0, v741.toNat]
def k0_off66 (k0_t1 : Fin k0_t1_loop.trips) (k0_t2 : Fin (k0_t2_loop k0_t1).trips) (c0_i32_458 : BitVec 32) : Fin 4 → Nat :=
  let c0_480 : Index := 0#32
  let c0_481 : Index := 0#32
  let c0_482 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v757 : Index := Scalar.indexCast v715
  ![0, 0, 0, v757.toNat]
def k0_off67 (k0_t1 : Fin k0_t1_loop.trips) (k0_t2 : Fin (k0_t2_loop k0_t1).trips) (c0_i32_458 : BitVec 32) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v763 : Index := Scalar.indexCast v715
  ![0, 0, v763.toNat]
def k0_off68 (k0_t1 : Fin k0_t1_loop.trips) (k0_t2 : Fin (k0_t2_loop k0_t1).trips) (c0_i32_458 : BitVec 32) : Fin 3 → Nat :=
  let c2_490 : Index := 2#32
  let c0_491 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v785 : Index := Scalar.indexCast v715
  ![2, 0, v785.toNat]
def k0_off69 (k0_t1 : Fin k0_t1_loop.trips) (k0_t2 : Fin (k0_t2_loop k0_t1).trips) (c0_i32_458 : BitVec 32) : Fin 4 → Nat :=
  let c0_498 : Index := 0#32
  let c0_499 : Index := 0#32
  let c1_500 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v801 : Index := Scalar.indexCast v715
  ![0, 0, 1, v801.toNat]
def k0_off70 (k0_t1 : Fin k0_t1_loop.trips) (k0_t2 : Fin (k0_t2_loop k0_t1).trips) (c0_i32_458 : BitVec 32) : Fin 3 → Nat :=
  let c0_501 : Index := 0#32
  let c1_502 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v807 : Index := Scalar.indexCast v715
  ![0, 1, v807.toNat]
def k0_off71 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v837 : Index := Scalar.indexCast v647
  let c0_508 : Index := 0#32
  let c0_509 : Index := 0#32
  ![v837.toNat, 0, 0]
def k0_off72 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v846 : Index := Scalar.indexCast v649
  let c0_513 : Index := 0#32
  ![v846.toNat, 0]
def k0_off73 (k0_t1 : Fin k0_t1_loop.trips) (k0_t2 : Fin (k0_t2_loop k0_t1).trips) (c0_i32_458 : BitVec 32) : Fin 2 → Nat :=
  let c0_516 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v853 : Index := Scalar.indexCast v715
  ![0, v853.toNat]
def k0_off74 (k0_t1 : Fin k0_t1_loop.trips) (k0_t2 : Fin (k0_t2_loop k0_t1).trips) (c0_i32_458 : BitVec 32) : Fin 3 → Nat :=
  let c3_522 : Index := 3#32
  let c0_523 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v871 : Index := Scalar.indexCast v715
  ![3, 0, v871.toNat]
def k0_off75 (k0_t1 : Fin k0_t1_loop.trips) (k0_t2 : Fin (k0_t2_loop k0_t1).trips) (c0_i32_458 : BitVec 32) : Fin 4 → Nat :=
  let c0_530 : Index := 0#32
  let c0_531 : Index := 0#32
  let c2_532 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v887 : Index := Scalar.indexCast v715
  ![0, 0, 2, v887.toNat]
def k0_off76 (k0_t1 : Fin k0_t1_loop.trips) (k0_t2 : Fin (k0_t2_loop k0_t1).trips) (c0_i32_458 : BitVec 32) : Fin 3 → Nat :=
  let c0_533 : Index := 0#32
  let c2_534 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v893 : Index := Scalar.indexCast v715
  ![0, 2, v893.toNat]
def k0_off77 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v923 : Index := Scalar.indexCast v647
  let c64 : Index := 64#32
  let c0_540 : Index := 0#32
  ![v923.toNat, 64, 0]
def k0_off78 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v932 : Index := Scalar.indexCast v649
  let c128_544 : Index := 128#32
  ![v932.toNat, 128]
def k0_off79 (k0_t1 : Fin k0_t1_loop.trips) (k0_t2 : Fin (k0_t2_loop k0_t1).trips) (c0_i32_458 : BitVec 32) : Fin 2 → Nat :=
  let c128_547 : Index := 128#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v939 : Index := Scalar.indexCast v715
  ![128, v939.toNat]
def k0_off80 (k0_t1 : Fin k0_t1_loop.trips) (k0_t2 : Fin (k0_t2_loop k0_t1).trips) (c0_i32_458 : BitVec 32) : Fin 4 → Nat :=
  let c0_553 : Index := 0#32
  let c0_554 : Index := 0#32
  let c3_555 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v957 : Index := Scalar.indexCast v715
  ![0, 0, 3, v957.toNat]
def k0_off81 (k0_t1 : Fin k0_t1_loop.trips) (k0_t2 : Fin (k0_t2_loop k0_t1).trips) (c0_i32_458 : BitVec 32) : Fin 3 → Nat :=
  let c0_556 : Index := 0#32
  let c3_557 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v963 : Index := Scalar.indexCast v715
  ![0, 3, v963.toNat]
def k0_off82 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v993 : Index := Scalar.indexCast v647
  let c128_563 : Index := 128#32
  let c0_564 : Index := 0#32
  ![v993.toNat, 128, 0]
def k0_off83 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1002 : Index := Scalar.indexCast v649
  let c256_568 : Index := 256#32
  ![v1002.toNat, 256]
def k0_off84 (k0_t1 : Fin k0_t1_loop.trips) (k0_t2 : Fin (k0_t2_loop k0_t1).trips) (c0_i32_458 : BitVec 32) : Fin 2 → Nat :=
  let c256_571 : Index := 256#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v1009 : Index := Scalar.indexCast v715
  ![256, v1009.toNat]
def k0_off85 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v1035 : Index := Scalar.indexCast v647
  let c192 : Index := 192#32
  let c0_577 : Index := 0#32
  ![v1035.toNat, 192, 0]
def k0_off86 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1044 : Index := Scalar.indexCast v649
  let c384_581 : Index := 384#32
  ![v1044.toNat, 384]
def k0_off87 (k0_t1 : Fin k0_t1_loop.trips) (k0_t2 : Fin (k0_t2_loop k0_t1).trips) (c0_i32_458 : BitVec 32) : Fin 2 → Nat :=
  let c384_584 : Index := 384#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v1051 : Index := Scalar.indexCast v715
  ![384, v1051.toNat]
@[reducible] def k0_t3_loop (k0_t1 : Fin k0_t1_loop.trips) : Scf.Loop 32 :=
  let c1_i32_445 : BitVec 32 := 1#32
  let c8_i32_434 : BitVec 32 := 8#32
  let c0_i32 : BitVec 32 := 0#32
  let c1_i32 : BitVec 32 := 1#32
  let arg15 : BitVec 32 := Scf.iv c0_i32 c1_i32 k0_t1
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let v692 : BitVec 32 := Scalar.addi c1_i32_445 v691
  let c1_i32_448 : BitVec 32 := 1#32
  ⟨v695, v692, c1_i32_448⟩
def k0_mult9 (k0_t1 : Fin k0_t1_loop.trips) (k0_t3 : Fin (k0_t3_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let c0_i32_458 : BitVec 32 := 0#32
  let v713 : BitVec 32 := Scalar.addi v712 c0_i32_458
  let c256_i32_459 : BitVec 32 := 256#32
  let v714 : BitVec 32 := Scalar.muli v713 c256_i32_459
  v714
def k0_mult10 (k0_t1 : Fin k0_t1_loop.trips) (k0_t3 : Fin (k0_t3_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let c1_i32_460 : BitVec 32 := 1#32
  let v716 : BitVec 32 := Scalar.addi v712 c1_i32_460
  let c256_i32_461 : BitVec 32 := 256#32
  let v717 : BitVec 32 := Scalar.muli v716 c256_i32_461
  v717
def k0_off88 (k0_t1 : Fin k0_t1_loop.trips) (k0_t3 : Fin (k0_t3_loop k0_t1).trips) (c0_i32_458 : BitVec 32) : Fin 2 → Nat :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v719 : Index := Scalar.indexCast v715
  let c0_462 : Index := 0#32
  ![v719.toNat, 0]
def k0_off89 (k0_t1 : Fin k0_t1_loop.trips) (k0_t3 : Fin (k0_t3_loop k0_t1).trips) (c0_i32_458 : BitVec 32) : Fin 3 → Nat :=
  let c0_464 : Index := 0#32
  let c0_465 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v725 : Index := Scalar.indexCast v715
  ![0, 0, v725.toNat]
def k0_off90 (k0_t1 : Fin k0_t1_loop.trips) (k0_t3 : Fin (k0_t3_loop k0_t1).trips) (c0_i32_458 : BitVec 32) : Fin 3 → Nat :=
  let c1_472 : Index := 1#32
  let c0_473 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v741 : Index := Scalar.indexCast v715
  ![1, 0, v741.toNat]
def k0_off91 (k0_t1 : Fin k0_t1_loop.trips) (k0_t3 : Fin (k0_t3_loop k0_t1).trips) (c0_i32_458 : BitVec 32) : Fin 4 → Nat :=
  let c0_480 : Index := 0#32
  let c0_481 : Index := 0#32
  let c0_482 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v757 : Index := Scalar.indexCast v715
  ![0, 0, 0, v757.toNat]
def k0_off92 (k0_t1 : Fin k0_t1_loop.trips) (k0_t3 : Fin (k0_t3_loop k0_t1).trips) (c0_i32_458 : BitVec 32) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v763 : Index := Scalar.indexCast v715
  ![0, 0, v763.toNat]
def k0_off93 (k0_t1 : Fin k0_t1_loop.trips) (k0_t3 : Fin (k0_t3_loop k0_t1).trips) (c0_i32_458 : BitVec 32) : Fin 3 → Nat :=
  let c2_490 : Index := 2#32
  let c0_491 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v785 : Index := Scalar.indexCast v715
  ![2, 0, v785.toNat]
def k0_off94 (k0_t1 : Fin k0_t1_loop.trips) (k0_t3 : Fin (k0_t3_loop k0_t1).trips) (c0_i32_458 : BitVec 32) : Fin 4 → Nat :=
  let c0_498 : Index := 0#32
  let c0_499 : Index := 0#32
  let c1_500 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v801 : Index := Scalar.indexCast v715
  ![0, 0, 1, v801.toNat]
def k0_off95 (k0_t1 : Fin k0_t1_loop.trips) (k0_t3 : Fin (k0_t3_loop k0_t1).trips) (c0_i32_458 : BitVec 32) : Fin 3 → Nat :=
  let c0_501 : Index := 0#32
  let c1_502 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v807 : Index := Scalar.indexCast v715
  ![0, 1, v807.toNat]
def k0_off96 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v837 : Index := Scalar.indexCast v647
  let c0_508 : Index := 0#32
  let c0_509 : Index := 0#32
  ![v837.toNat, 0, 0]
def k0_off97 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v846 : Index := Scalar.indexCast v649
  let c0_513 : Index := 0#32
  ![v846.toNat, 0]
def k0_off98 (k0_t1 : Fin k0_t1_loop.trips) (k0_t3 : Fin (k0_t3_loop k0_t1).trips) (c0_i32_458 : BitVec 32) : Fin 2 → Nat :=
  let c0_516 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v853 : Index := Scalar.indexCast v715
  ![0, v853.toNat]
def k0_off99 (k0_t1 : Fin k0_t1_loop.trips) (k0_t3 : Fin (k0_t3_loop k0_t1).trips) (c0_i32_458 : BitVec 32) : Fin 3 → Nat :=
  let c3_522 : Index := 3#32
  let c0_523 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v871 : Index := Scalar.indexCast v715
  ![3, 0, v871.toNat]
def k0_off100 (k0_t1 : Fin k0_t1_loop.trips) (k0_t3 : Fin (k0_t3_loop k0_t1).trips) (c0_i32_458 : BitVec 32) : Fin 4 → Nat :=
  let c0_530 : Index := 0#32
  let c0_531 : Index := 0#32
  let c2_532 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v887 : Index := Scalar.indexCast v715
  ![0, 0, 2, v887.toNat]
def k0_off101 (k0_t1 : Fin k0_t1_loop.trips) (k0_t3 : Fin (k0_t3_loop k0_t1).trips) (c0_i32_458 : BitVec 32) : Fin 3 → Nat :=
  let c0_533 : Index := 0#32
  let c2_534 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v893 : Index := Scalar.indexCast v715
  ![0, 2, v893.toNat]
def k0_off102 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v923 : Index := Scalar.indexCast v647
  let c64 : Index := 64#32
  let c0_540 : Index := 0#32
  ![v923.toNat, 64, 0]
def k0_off103 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v932 : Index := Scalar.indexCast v649
  let c128_544 : Index := 128#32
  ![v932.toNat, 128]
def k0_off104 (k0_t1 : Fin k0_t1_loop.trips) (k0_t3 : Fin (k0_t3_loop k0_t1).trips) (c0_i32_458 : BitVec 32) : Fin 2 → Nat :=
  let c128_547 : Index := 128#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v939 : Index := Scalar.indexCast v715
  ![128, v939.toNat]
def k0_off105 (k0_t1 : Fin k0_t1_loop.trips) (k0_t3 : Fin (k0_t3_loop k0_t1).trips) (c0_i32_458 : BitVec 32) : Fin 4 → Nat :=
  let c0_553 : Index := 0#32
  let c0_554 : Index := 0#32
  let c3_555 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v957 : Index := Scalar.indexCast v715
  ![0, 0, 3, v957.toNat]
def k0_off106 (k0_t1 : Fin k0_t1_loop.trips) (k0_t3 : Fin (k0_t3_loop k0_t1).trips) (c0_i32_458 : BitVec 32) : Fin 3 → Nat :=
  let c0_556 : Index := 0#32
  let c3_557 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v963 : Index := Scalar.indexCast v715
  ![0, 3, v963.toNat]
def k0_off107 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v993 : Index := Scalar.indexCast v647
  let c128_563 : Index := 128#32
  let c0_564 : Index := 0#32
  ![v993.toNat, 128, 0]
def k0_off108 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1002 : Index := Scalar.indexCast v649
  let c256_568 : Index := 256#32
  ![v1002.toNat, 256]
def k0_off109 (k0_t1 : Fin k0_t1_loop.trips) (k0_t3 : Fin (k0_t3_loop k0_t1).trips) (c0_i32_458 : BitVec 32) : Fin 2 → Nat :=
  let c256_571 : Index := 256#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v1009 : Index := Scalar.indexCast v715
  ![256, v1009.toNat]
def k0_off110 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v1035 : Index := Scalar.indexCast v647
  let c192 : Index := 192#32
  let c0_577 : Index := 0#32
  ![v1035.toNat, 192, 0]
def k0_off111 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v1044 : Index := Scalar.indexCast v649
  let c384_581 : Index := 384#32
  ![v1044.toNat, 384]
def k0_off112 (k0_t1 : Fin k0_t1_loop.trips) (k0_t3 : Fin (k0_t3_loop k0_t1).trips) (c0_i32_458 : BitVec 32) : Fin 2 → Nat :=
  let c384_584 : Index := 384#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v670 : BitVec 32 := Scalar.subi c8_i32_434 arg15
  let c0_i32_438 : BitVec 32 := 0#32
  let v675 : BitVec 1 := Scalar.cmpi .sgt v670 c0_i32_438
  let v676 : BitVec 32 := Scalar.extui v675
  let c0_i32_439 : BitVec 32 := 0#32
  let v677 : BitVec 1 := Scalar.cmpi .slt v670 c0_i32_439
  let v678 : BitVec 32 := Scalar.extui v677
  let v679 : BitVec 32 := Scalar.subi v676 v678
  let c2_i32_437 : BitVec 32 := 2#32
  let c0_i32_440 : BitVec 32 := 0#32
  let v680 : BitVec 1 := Scalar.cmpi .sgt c2_i32_437 c0_i32_440
  let v681 : BitVec 32 := Scalar.extui v680
  let c0_i32_441 : BitVec 32 := 0#32
  let v682 : BitVec 1 := Scalar.cmpi .slt c2_i32_437 c0_i32_441
  let v683 : BitVec 32 := Scalar.extui v682
  let v684 : BitVec 32 := Scalar.subi v681 v683
  let v685 : BitVec 1 := Scalar.cmpi .ne v679 v684
  let v686 : BitVec 32 := Scalar.remsi v670 c2_i32_437
  let c0_i32_442 : BitVec 32 := 0#32
  let v687 : BitVec 1 := Scalar.cmpi .ne v686 c0_i32_442
  let v688 : BitVec 1 := Scalar.andi v685 v687
  let v674 : BitVec 32 := Scalar.divsi v670 c2_i32_437
  let c1_i32_443 : BitVec 32 := 1#32
  let v689 : BitVec 32 := Scalar.subi v674 c1_i32_443
  let v690 : BitVec 32 := Scalar.select v688 v689 v674
  let v691 : BitVec 32 := Scalar.subi v690 c1_i32_445
  let c1_i32_446 : BitVec 32 := 1#32
  let v693 : BitVec 32 := Scalar.divsi v691 c1_i32_446
  let v694 : BitVec 32 := Scalar.muli v693 c1_i32_446
  let v695 : BitVec 32 := Scalar.addi c1_i32_445 v694
  let c1_i32_448 : BitVec 32 := 1#32
  let arg16 : BitVec 32 := Scf.iv v695 c1_i32_448 k0_t3
  let v711 : BitVec 32 := Scalar.muli c2_i32_457 arg16
  let v712 : BitVec 32 := Scalar.addi arg15 v711
  let v713 : BitVec 32 := Scalar.addi v712 c0_i32_458
  let c256_i32_459 : BitVec 32 := 256#32
  let v714 : BitVec 32 := Scalar.muli v713 c256_i32_459
  let v715 : BitVec 32 := v714
  let v1051 : Index := Scalar.indexCast v715
  ![384, v1051.toNat]
def k0_cond2 (k0_t1 : Fin k0_t1_loop.trips) : BitVec 1 :=
  let c8_i32_434 : BitVec 32 := 8#32
  let c0_i32 : BitVec 32 := 0#32
  let c1_i32 : BitVec 32 := 1#32
  let arg15 : BitVec 32 := Scf.iv c0_i32 c1_i32 k0_t1
  let v670 : BitVec 32 := Scalar.subi c8_i32_434 arg15
  let c2_i32_449 : BitVec 32 := 2#32
  let c0_i32_450 : BitVec 32 := 0#32
  let v696 : BitVec 1 := Scalar.cmpi .eq c2_i32_449 c0_i32_450
  let c1_i32_451 : BitVec 32 := 1#32
  let v697 : BitVec 32 := Scalar.select v696 c1_i32_451 c2_i32_449
  let v698 : BitVec 32 := Scalar.remsi v670 v697
  let c0_i32_453 : BitVec 32 := 0#32
  let v700 : BitVec 1 := Scalar.cmpi .slt v698 c0_i32_453
  let c0_i32_454 : BitVec 32 := 0#32
  let v701 : BitVec 1 := Scalar.cmpi .slt v697 c0_i32_454
  let v702 : BitVec 1 := Scalar.xori v700 v701
  let c0_i32_452 : BitVec 32 := 0#32
  let v699 : BitVec 1 := Scalar.cmpi .ne v698 c0_i32_452
  let v703 : BitVec 1 := Scalar.andi v702 v699
  let v704 : BitVec 32 := Scalar.addi v698 v697
  let v705 : BitVec 32 := Scalar.select v703 v704 v698
  let c1_i32_455 : BitVec 32 := 1#32
  let v706 : BitVec 1 := Scalar.cmpi .eq v705 c1_i32_455
  let c3_i32 : BitVec 32 := 3#32
  let v707 : BitVec 1 := Scalar.cmpi .sge v670 c3_i32
  let v708 : BitVec 1 := Scalar.andi v706 v707
  let v709 : BitVec 32 := Scalar.extui v708
  let c0_i32_456 : BitVec 32 := 0#32
  let v710 : BitVec 1 := Scalar.cmpi .ne v709 c0_i32_456
  v710

def k0_mult11 : BitVec 32 :=
  let c1792_i32_457 : BitVec 32 := 1792#32
  c1792_i32_457
def k0_off113 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v769 : Index := Scalar.indexCast v647
  let c0_481 : Index := 0#32
  let c0_482 : Index := 0#32
  ![v769.toNat, 0, 0]
def k0_off114 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v778 : Index := Scalar.indexCast v649
  let c0_486 : Index := 0#32
  ![v778.toNat, 0]
def k0_off115 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v818 : Index := Scalar.indexCast v647
  let c64 : Index := 64#32
  let c0_501 : Index := 0#32
  ![v818.toNat, 64, 0]
def k0_off116 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v827 : Index := Scalar.indexCast v649
  let c128_505 : Index := 128#32
  ![v827.toNat, 128]
def k0_off117 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v859 : Index := Scalar.indexCast v647
  let c128_516 : Index := 128#32
  let c0_517 : Index := 0#32
  ![v859.toNat, 128, 0]
def k0_off118 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v868 : Index := Scalar.indexCast v649
  let c256_521 : Index := 256#32
  ![v868.toNat, 256]
def k0_off119 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v638 : BitVec 1 := Scalar.cmpi .eq c2_i32 c0_i32_420
  let c1_i32_421 : BitVec 32 := 1#32
  let v639 : BitVec 32 := Scalar.select v638 c1_i32_421 c2_i32
  let v640 : BitVec 32 := Scalar.remsi arg15 v639
  let c0_i32_423 : BitVec 32 := 0#32
  let v642 : BitVec 1 := Scalar.cmpi .slt v640 c0_i32_423
  let c0_i32_424 : BitVec 32 := 0#32
  let v643 : BitVec 1 := Scalar.cmpi .slt v639 c0_i32_424
  let v644 : BitVec 1 := Scalar.xori v642 v643
  let c0_i32_422 : BitVec 32 := 0#32
  let v641 : BitVec 1 := Scalar.cmpi .ne v640 c0_i32_422
  let v645 : BitVec 1 := Scalar.andi v644 v641
  let v646 : BitVec 32 := Scalar.addi v640 v639
  let v647 : BitVec 32 := Scalar.select v645 v646 v640
  let v886 : Index := Scalar.indexCast v647
  let c192 : Index := 192#32
  let c0_527 : Index := 0#32
  ![v886.toNat, 192, 0]
def k0_off120 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v648 : BitVec 32 := Scalar.muli arg15 c256_i32
  let v649 : BitVec 32 := v648
  let v895 : Index := Scalar.indexCast v649
  let c384_531 : Index := 384#32
  ![v895.toNat, 384]
def k0_mult12 : BitVec 32 :=
  let c1792_i32 : BitVec 32 := 1792#32
  c1792_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaRefIdeal.lean ====
abbrev S4x2048x8x64 : Shape := ⟨4, ![4, 2048, 8, 64]⟩
abbrev S4x2048x8x32 : Shape := ⟨4, ![4, 2048, 8, 32]⟩
abbrev S4x2048x32 : Shape := ⟨3, ![4, 2048, 32]⟩
abbrev S4x2048x1x32 : Shape := ⟨4, ![4, 2048, 1, 32]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x32 : Shape := ⟨4, ![4, 8, 2048, 32]⟩
abbrev S4x8x2048x64 : Shape := ⟨4, ![4, 8, 2048, 64]⟩
abbrev S4x2048x8x128 : Shape := ⟨4, ![4, 2048, 8, 128]⟩
abbrev S8192x1024 : Shape := ⟨2, ![8192, 1024]⟩
abbrev S8192x512 : Shape := ⟨2, ![8192, 512]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x8x32, .f32⟩
  | .hbm, ⟨2, _⟩ => ⟨S4x2048x8x64, .f32⟩
  | .hbm, ⟨3, _⟩ => ⟨S4x2048x32, .f32⟩
  | .hbm, ⟨4, _⟩ => ⟨S4x2048x8x64, .f32⟩
  | .hbm, ⟨5, _⟩ => ⟨S4x2048x8x64, .f32⟩
  | .hbm, ⟨6, _⟩ => ⟨S4x2048x1x32, .f32⟩
  | .hbm, ⟨7, _⟩ => ⟨S4x2048x8x32, .f32⟩
  | .hbm, ⟨8, _⟩ => ⟨S4x8x2048x2048, .f32⟩
  | .hbm, ⟨9, _⟩ => ⟨S4x8x2048x2048, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .i1⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S_, .f32⟩
  | .hbm, ⟨39, _⟩ => ⟨S4x8x2048, .f32⟩
  | .hbm, ⟨40, _⟩ => ⟨S4x8x2048, .i1⟩
  | .hbm, ⟨41, _⟩ => ⟨S_, .f32⟩
  | .hbm, ⟨42, _⟩ => ⟨S4x8x2048, .f32⟩
  | .hbm, ⟨43, _⟩ => ⟨S4x8x2048, .i1⟩
  | .hbm, ⟨44, _⟩ => ⟨S_, .f32⟩
  | .hbm, ⟨45, _⟩ => ⟨S4x8x2048, .f32⟩
  | .hbm, ⟨46, _⟩ => ⟨S_, .f32⟩
  | .hbm, ⟨47, _⟩ => ⟨S4x8x2048, .f32⟩
  | .hbm, ⟨48, _⟩ => ⟨S_, .f32⟩
  | .hbm, ⟨49, _⟩ => ⟨S4x8x2048, .f32⟩
  | .hbm, ⟨50, _⟩ => ⟨S4x8x2048, .f32⟩
  | .hbm, ⟨51, _⟩ => ⟨S4x8x2048, .f32⟩
  | .hbm, ⟨52, _⟩ => ⟨S4x8x2048x1, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S_, .f32⟩
  | .hbm, ⟨57, _⟩ => ⟨S4x8x2048, .f32⟩
  | .hbm, ⟨58, _⟩ => ⟨S4x8x2048x1, .f32⟩
  | .hbm, ⟨59, _⟩ => ⟨S4x8x2048x2048, .f32⟩
  | .hbm, ⟨60, _⟩ => ⟨S4x8x2048x2048, .f32⟩
  | .hbm, ⟨61, _⟩ => ⟨S4x8x2048x1, .f32⟩
  | .hbm, ⟨62, _⟩ => ⟨S_, .f32⟩
  | .hbm, ⟨63, _⟩ => ⟨S4x8x2048x1, .f32⟩
  | .hbm, ⟨64, _⟩ => ⟨S4x8x2048x1, .f32⟩
  | .hbm, ⟨65, _⟩ => ⟨S4x8x64x2048, .f32⟩
  | .hbm, ⟨66, _⟩ => ⟨S4x2048x8x64, .f32⟩
  | .hbm, ⟨67, _⟩ => ⟨S4x8x64x2048, .f32⟩
  | .hbm, ⟨68, _⟩ => ⟨S4x8x2048x2048, .f32⟩
  | .hbm, ⟨69, _⟩ => ⟨S4x8x64x2048, .f32⟩
  | .hbm, ⟨70, _⟩ => ⟨S4x2048x8x64, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x1, .f32⟩
  | .hbm, ⟨77, _⟩ => ⟨S4x8x2048x1, .f32⟩
  | .hbm, ⟨78, _⟩ => ⟨S4x8x2048x2048, .f32⟩
  | .hbm, ⟨79, _⟩ => ⟨S4x8x2048x2048, .f32⟩
  | .hbm, ⟨80, _⟩ => ⟨S_, .f32⟩
  | .hbm, ⟨81, _⟩ => ⟨S4x8x2048, .f32⟩
  | .hbm, ⟨82, _⟩ => ⟨S4x8x2048x2048, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S4x8x2048x32, .f32⟩
  | .hbm, ⟨92, _⟩ => ⟨S4x2048x8x32, .f32⟩
  | .hbm, ⟨93, _⟩ => ⟨S4x8x2048x32, .f32⟩
  | .hbm, ⟨94, _⟩ => ⟨S4x2048x8x32, .f32⟩
  | .hbm, ⟨95, _⟩ => ⟨S4x8x2048x64, .f32⟩
  | .hbm, ⟨96, _⟩ => ⟨S4x2048x8x64, .f32⟩
  | .hbm, ⟨97, _⟩ => ⟨S4x8x2048x64, .f32⟩
  | .hbm, ⟨98, _⟩ => ⟨S4x2048x8x64, .f32⟩
  | .hbm, ⟨99, _⟩ => ⟨S_, .f32⟩
  | .hbm, ⟨100, _⟩ => ⟨S4x2048x8x32, .f32⟩
  | .hbm, ⟨101, _⟩ => ⟨S4x2048x8x128, .f32⟩
  | .hbm, ⟨102, _⟩ => ⟨S_, .f32⟩
  | .hbm, ⟨103, _⟩ => ⟨S4x2048x8x128, .f32⟩
  | .hbm, ⟨104, _⟩ => ⟨S4x2048x8x128, .f32⟩
  | .hbm, ⟨105, _⟩ => ⟨S8192x1024, .f32⟩
  | .hbm, ⟨106, _⟩ => ⟨S_, .f32⟩
  | .hbm, ⟨107, _⟩ => ⟨S4x2048x8x32, .f32⟩
  | .hbm, ⟨108, _⟩ => ⟨S4x2048x8x128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S4x2048x8x128, .f32⟩
  | .hbm, ⟨113, _⟩ => ⟨S4x2048x8x128, .f32⟩
  | .hbm, ⟨114, _⟩ => ⟨S8192x1024, .f32⟩
  | .hbm, ⟨115, _⟩ => ⟨S8192x512, .f32⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Inb.lean ====
abbrev S4x2048x1024 : Shape := ⟨3, ![4, 2048, 1024]⟩
abbrev S4x2048x384 : Shape := ⟨3, ![4, 2048, 384]⟩
abbrev S4x2048x256 : Shape := ⟨3, ![4, 2048, 256]⟩
abbrev S4x2048x32 : Shape := ⟨3, ![4, 2048, 32]⟩
abbrev S4x2048x512 : Shape := ⟨3, ![4, 2048, 512]⟩
abbrev S4x2048x128 : Shape := ⟨3, ![4, 2048, 128]⟩
abbrev S4x3072 : Shape := ⟨2, ![4, 3072]⟩
abbrev S1x3072 : Shape := ⟨2, ![1, 3072]⟩
abbrev S1024 : Shape := ⟨1, ![1024]⟩
abbrev S1024x2464 : Shape := ⟨2, ![1024, 2464]⟩
abbrev S8192x384 : Shape := ⟨2, ![8192, 384]⟩
abbrev S8192x256 : Shape := ⟨2, ![8192, 256]⟩
abbrev S_ : Shape := ⟨0, ![]⟩
abbrev S8192x64 : Shape := ⟨2, ![8192, 64]⟩
abbrev S8192x32 : Shape := ⟨2, ![8192, 32]⟩
abbrev S8192x768 : Shape := ⟨2, ![8192, 768]⟩
abbrev S8192x512 : Shape := ⟨2, ![8192, 512]⟩
abbrev S8192x1024 : Shape := ⟨2, ![8192, 1024]⟩
abbrev S8192x128 : Shape := ⟨2, ![8192, 128]⟩
abbrev S4x1x3072 : Shape := ⟨3, ![4, 1, 3072]⟩
abbrev S1x1024 : Shape := ⟨2, ![1, 1024]⟩
abbrev S1024x32 : Shape := ⟨2, ![1024, 32]⟩
abbrev S1024x640 : Shape := ⟨2, ![1024, 640]⟩
abbrev S1024x16 : Shape := ⟨2, ![1024, 16]⟩
abbrev S1024x1792 : Shape := ⟨2, ![1024, 1792]⟩
abbrev S1024x2560 : Shape := ⟨2, ![1024, 2560]⟩
abbrev S4x1x1024 : Shape := ⟨3, ![4, 1, 1024]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1024x768 : Shape := ⟨2, ![1024, 768]⟩
abbrev S1024x512 : Shape := ⟨2, ![1024, 512]⟩
abbrev S1024x256 : Shape := ⟨2, ![1024, 256]⟩

abbrev nBuf : Space → Nat
  | .hbm => 67
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x384, .f32⟩
  | .hbm, ⟨3, _⟩ => ⟨S4x2048x256, .f32⟩
  | .hbm, ⟨4, _⟩ => ⟨S4x2048x32, .f32⟩
  | .hbm, ⟨5, _⟩ => ⟨S4x2048x512, .f32⟩
  | .hbm, ⟨6, _⟩ => ⟨S4x2048x512, .f32⟩
  | .hbm, ⟨7, _⟩ => ⟨S4x2048x128, .f32⟩
  | .hbm, ⟨8, _⟩ => ⟨S4x2048x128, .f32⟩
  | .hbm, ⟨9, _⟩ => ⟨S4x2048x512, .f32⟩
  | .hbm, ⟨10, _⟩ => ⟨S4x3072, .f32⟩
  | .hbm, ⟨11, _⟩ => ⟨S1x3072, .f32⟩
  | .hbm, ⟨12, _⟩ => ⟨S1024, .f32⟩
  | .hbm, ⟨13, _⟩ => ⟨S1024x2464, .f32⟩
  | .hbm, ⟨14, _⟩ => ⟨S8192x384, .f32⟩
  | .hbm, ⟨15, _⟩ => ⟨S8192x256, .f32⟩
  | .hbm, ⟨16, _⟩ => ⟨S_, .f32⟩
  | .hbm, ⟨17, _⟩ => ⟨S8192x64, .f32⟩
  | .hbm, ⟨18, _⟩ => ⟨S8192x32, .f32⟩
  | .hbm, ⟨19, _⟩ => ⟨S_, .f32⟩
  | .hbm, ⟨20, _⟩ => ⟨S8192x32, .f32⟩
  | .hbm, ⟨21, _⟩ => ⟨S8192x768, .f32⟩
  | .hbm, ⟨22, _⟩ => ⟨S8192x768, .bf16⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x64, .f32⟩
  | .hbm, ⟨35, _⟩ => ⟨S_, .f32⟩
  | .hbm, ⟨36, _⟩ => ⟨S8192x64, .f32⟩
  | .hbm, ⟨37, _⟩ => ⟨S8192x64, .f32⟩
  | .hbm, ⟨38, _⟩ => ⟨S_, .f32⟩
  | .hbm, ⟨39, _⟩ => ⟨S8192x64, .f32⟩
  | .hbm, ⟨40, _⟩ => ⟨S8192x256, .f32⟩
  | .hbm, ⟨41, _⟩ => ⟨S8192x128, .f32⟩
  | .hbm, ⟨42, _⟩ => ⟨S8192x64, .f32⟩
  | .hbm, ⟨43, _⟩ => ⟨S_, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S8192x64, .f32⟩
  | .hbm, ⟨48, _⟩ => ⟨S8192x256, .f32⟩
  | .hbm, ⟨49, _⟩ => ⟨S4x1x3072, .f32⟩
  | .hbm, ⟨50, _⟩ => ⟨S1x1024, .f32⟩
  | .hbm, ⟨51, _⟩ => ⟨S1024x2464, .bf16⟩
  | .hbm, ⟨52, _⟩ => ⟨S1024x32, .bf16⟩
  | .hbm, ⟨53, _⟩ => ⟨S_, .bf16⟩
  | .hbm, ⟨54, _⟩ => ⟨S1024x32, .bf16⟩
  | .hbm, ⟨55, _⟩ => ⟨S1024x640, .bf16⟩
  | .hbm, ⟨56, _⟩ => ⟨S1024x16, .bf16⟩
  | .hbm, ⟨57, _⟩ => ⟨S1024x16, .bf16⟩
  | .hbm, ⟨58, _⟩ => ⟨S1024x16, .bf16⟩
  | .hbm, ⟨59, _⟩ => ⟨S1024x32, .bf16⟩
  | .hbm, ⟨60, _⟩ => ⟨S1024x1792, .bf16⟩
  | .hbm, ⟨61, _⟩ => ⟨S1024x2560, .bf16⟩
  | .hbm, ⟨62, _⟩ => ⟨S8192x1024, .f32⟩
  | .hbm, ⟨63, _⟩ => ⟨S1024x2560, .f32⟩
  | .hbm, ⟨64, _⟩ => ⟨S1x1024, .f32⟩
  | .hbm, ⟨65, _⟩ => ⟨S4x1x1024, .f32⟩
  | .hbm, ⟨66, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x768, .bf16⟩
  | .local _ .vmem, ⟨5, _⟩ => ⟨S512x768, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x1x3072, .f32⟩
  | .local _ .vmem, ⟨15, _⟩ => ⟨S1x1x3072, .f32⟩
  | .local _ .vmem, ⟨16, _⟩ => ⟨S1x3072, .f32⟩
  | .local _ .vmem, ⟨17, _⟩ => ⟨S1x1024, .f32⟩
  | .local _ .vmem, ⟨18, _⟩ => ⟨S1024x2560, .bf16⟩
  | .local _ .vmem, ⟨19, _⟩ => ⟨S512x1024, .f32⟩
  | .local _ .vmem, ⟨20, _⟩ => ⟨S512x1024, .f32⟩
  | .local _ .vmem, ⟨21, _⟩ => ⟨S1024x2560, .f32⟩
  | .local _ .vmem, ⟨22, _⟩ => ⟨S1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v40_2 : Ref sig .tc := ⟨.hbm, 64, rfl⟩
abbrev main_v40_3 : Ref sig .tc := ⟨.hbm, 65, rfl⟩
abbrev main_v40_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InbRefIdeal.lean ====
abbrev S4x2048x1024 : Shape := ⟨3, ![4, 2048, 1024]⟩
abbrev S4x2048x384 : Shape := ⟨3, ![4, 2048, 384]⟩
abbrev S4x2048x256 : Shape := ⟨3, ![4, 2048, 256]⟩
abbrev S4x2048x32 : Shape := ⟨3, ![4, 2048, 32]⟩
abbrev S4x2048x512 : Shape := ⟨3, ![4, 2048, 512]⟩
abbrev S4x2048x128 : Shape := ⟨3, ![4, 2048, 128]⟩
abbrev S4x3072 : Shape := ⟨2, ![4, 3072]⟩
abbrev S1x3072 : Shape := ⟨2, ![1, 3072]⟩
abbrev S1024 : Shape := ⟨1, ![1024]⟩
abbrev S1024x2464 : Shape := ⟨2, ![1024, 2464]⟩
abbrev S3072 : Shape := ⟨1, ![3072]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x2464 : Shape := ⟨3, ![4, 2048, 2464]⟩
abbrev S2464x1024 : Shape := ⟨2, ![2464, 1024]⟩
abbrev S1024x640 : Shape := ⟨2, ![1024, 640]⟩
abbrev S1024x64 : Shape := ⟨2, ![1024, 64]⟩
abbrev S1024x32 : Shape := ⟨2, ![1024, 32]⟩
abbrev S1024x1792 : Shape := ⟨2, ![1024, 1792]⟩
abbrev S1024x2560 : Shape := ⟨2, ![1024, 2560]⟩
abbrev S8192x1024 : Shape := ⟨2, ![8192, 1024]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x384, .f32⟩
  | .hbm, ⟨3, _⟩ => ⟨S4x2048x256, .f32⟩
  | .hbm, ⟨4, _⟩ => ⟨S4x2048x32, .f32⟩
  | .hbm, ⟨5, _⟩ => ⟨S4x2048x512, .f32⟩
  | .hbm, ⟨6, _⟩ => ⟨S4x2048x512, .f32⟩
  | .hbm, ⟨7, _⟩ => ⟨S4x2048x128, .f32⟩
  | .hbm, ⟨8, _⟩ => ⟨S4x2048x128, .f32⟩
  | .hbm, ⟨9, _⟩ => ⟨S4x2048x512, .f32⟩
  | .hbm, ⟨10, _⟩ => ⟨S4x3072, .f32⟩
  | .hbm, ⟨11, _⟩ => ⟨S1x3072, .f32⟩
  | .hbm, ⟨12, _⟩ => ⟨S1024, .f32⟩
  | .hbm, ⟨13, _⟩ => ⟨S1024x2464, .f32⟩
  | .hbm, ⟨14, _⟩ => ⟨S3072, .f32⟩
  | .hbm, ⟨15, _⟩ => ⟨S1x3072, .f32⟩
  | .hbm, ⟨16, _⟩ => ⟨S4x3072, .f32⟩
  | .hbm, ⟨17, _⟩ => ⟨S4x3072, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x2048x1024, .f32⟩
  | .hbm, ⟨46, _⟩ => ⟨S4x2048x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x2464, .f32⟩
  | .hbm, ⟨51, _⟩ => ⟨S4x2048x384, .f32⟩
  | .hbm, ⟨52, _⟩ => ⟨S4x2048x256, .f32⟩
  | .hbm, ⟨53, _⟩ => ⟨S4x2048x32, .f32⟩
  | .hbm, ⟨54, _⟩ => ⟨S4x2048x512, .f32⟩
  | .hbm, ⟨55, _⟩ => ⟨S4x2048x512, .f32⟩
  | .hbm, ⟨56, _⟩ => ⟨S4x2048x128, .f32⟩
  | .hbm, ⟨57, _⟩ => ⟨S4x2048x128, .f32⟩
  | .hbm, ⟨58, _⟩ => ⟨S4x2048x512, .f32⟩
  | .hbm, ⟨59, _⟩ => ⟨S4x2048x2464, .f32⟩
  | .hbm, ⟨60, _⟩ => ⟨S2464x1024, .f32⟩
  | .hbm, ⟨61, _⟩ => ⟨S1024x2464, .f32⟩
  | .hbm, ⟨62, _⟩ => ⟨S4x2048x1024, .f32⟩
  | .hbm, ⟨63, _⟩ => ⟨S_, .f32⟩
  | .hbm, ⟨64, _⟩ => ⟨S4x1024, .f32⟩
  | .hbm, ⟨65, _⟩ => ⟨S4x1x1024, .f32⟩
  | .hbm, ⟨66, _⟩ => ⟨S_, .f32⟩
  | .hbm, ⟨67, _⟩ => ⟨S4x1024, .f32⟩
  | .hbm, ⟨68, _⟩ => ⟨S4x2048x1024, .f32⟩
  | .hbm, ⟨69, _⟩ => ⟨S_, .f32⟩
  | .hbm, ⟨70, _⟩ => ⟨S4x1024, .f32⟩
  | .hbm, ⟨71, _⟩ => ⟨S4x1x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S4x1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S1024, .f32⟩
  | .hbm, ⟨84, _⟩ => ⟨S4x2048x1024, .f32⟩
  | .hbm, ⟨85, _⟩ => ⟨S_, .f32⟩
  | .hbm, ⟨86, _⟩ => ⟨S4x2048, .f32⟩
  | .hbm, ⟨87, _⟩ => ⟨S4x2048x1, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S4x2048x1, .f32⟩
  | .hbm, ⟨92, _⟩ => ⟨S_, .f32⟩
  | .hbm, ⟨93, _⟩ => ⟨S4x2048x1, .f32⟩
  | .hbm, ⟨94, _⟩ => ⟨S4x2048x1, .f32⟩
  | .hbm, ⟨95, _⟩ => ⟨S_, .f32⟩
  | .hbm, ⟨96, _⟩ => ⟨S4x2048, .f32⟩
  | .hbm, ⟨97, _⟩ => ⟨S4x2048x1024, .f32⟩
  | .hbm, ⟨98, _⟩ => ⟨S4x2048x1024, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S1024x640, .f32⟩
  | .hbm, ⟨103, _⟩ => ⟨S_, .f32⟩
  | .hbm, ⟨104, _⟩ => ⟨S1024x64, .f32⟩
  | .hbm, ⟨105, _⟩ => ⟨S1024x32, .f32⟩
  | .hbm, ⟨106, _⟩ => ⟨S_, .f32⟩
  | .hbm, ⟨107, _⟩ => ⟨S1024x32, .f32⟩
  | .hbm, ⟨108, _⟩ => ⟨S1024x1792, .f32⟩
  | .hbm, ⟨109, _⟩ => ⟨S1024x2560, .f32⟩
  | .hbm, ⟨110, _⟩ => ⟨S8192x1024, .f32⟩
  | .hbm, ⟨111, _⟩ => ⟨S1x1024, .f32⟩
  | .hbm, ⟨112, _⟩ => ⟨S4x1x1024, .f32⟩
  | .hbm, ⟨113, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Mid.lean ====
abbrev S4x2048x384 : Shape := ⟨3, ![4, 2048, 384]⟩
abbrev S4x2048x256 : Shape := ⟨3, ![4, 2048, 256]⟩
abbrev S4x2048x8x64 : Shape := ⟨4, ![4, 2048, 8, 64]⟩
abbrev S4x2048x8x32 : Shape := ⟨4, ![4, 2048, 8, 32]⟩
abbrev S4x2048 : Shape := ⟨2, ![4, 2048]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x64 : Shape := ⟨3, ![4, 2048, 64]⟩
abbrev S4x2048x32 : Shape := ⟨3, ![4, 2048, 32]⟩
abbrev S4x2048x128 : Shape := ⟨3, ![4, 2048, 128]⟩
abbrev S8192x256 : Shape := ⟨2, ![8192, 256]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S4x2048x8x128 : Shape := ⟨4, ![4, 2048, 8, 128]⟩
abbrev S8192x1024 : Shape := ⟨2, ![8192, 1024]⟩
abbrev S8192x512 : Shape := ⟨2, ![8192, 512]⟩
abbrev S8192x384 : Shape := ⟨2, ![8192, 384]⟩
abbrev S8192x640 : Shape := ⟨2, ![8192, 640]⟩
abbrev S1x384 : Shape := ⟨2, ![1, 384]⟩
abbrev S1x256 : Shape := ⟨2, ![1, 256]⟩
abbrev S8192x768 : Shape := ⟨2, ![8192, 768]⟩
abbrev S512x1024 : Shape := ⟨2, ![512, 1024]⟩
abbrev S512x512 : Shape := ⟨2, ![512, 512]⟩
abbrev S512x640 : Shape := ⟨2, ![512, 640]⟩
abbrev S512x256 : Shape := ⟨2, ![512, 256]⟩
abbrev S512x768 : Shape := ⟨2, ![512, 768]⟩
abbrev S512x128 : Shape := ⟨2, ![512, 128]⟩
abbrev S512x2048 : Shape := ⟨2, ![512, 2048]⟩
abbrev S512x384 : Shape := ⟨2, ![512, 384]⟩
abbrev S512 : Shape := ⟨1, ![512]⟩
abbrev S512x1 : Shape := ⟨2, ![512, 1]⟩
abbrev S512x1536 : Shape := ⟨2, ![512, 1536]⟩
abbrev S1x128 : Shape := ⟨2, ![1, 128]⟩
abbrev S8192x32 : Shape := ⟨2, ![8192, 32]⟩
abbrev S8192x16 : Shape := ⟨2, ![8192, 16]⟩

abbrev nBuf : Space → Nat
  | .hbm => 126
  | .vmem => 20
  | .smem => 0
  | _ => 0

abbrev bufTy : (tb : Table) → Fin (tcTables nBuf tb) → BufTy
  | .hbm, ⟨0, _⟩ => ⟨S4x2048x384, .f32⟩
  | .hbm, ⟨1, _⟩ => ⟨S4x2048x256, .f32⟩
  | .hbm, ⟨2, _⟩ => ⟨S4x2048x8x64, .f32⟩
  | .hbm, ⟨3, _⟩ => ⟨S4x2048x8x32, .f32⟩
  | .hbm, ⟨4, _⟩ => ⟨S4x2048x8x64, .f32⟩
  | .hbm, ⟨5, _⟩ => ⟨S4x2048x8x32, .f32⟩
  | .hbm, ⟨6, _⟩ => ⟨S4x2048x8x64, .f32⟩
  | .hbm, ⟨7, _⟩ => ⟨S4x2048, .i32⟩
  | .hbm, ⟨8, _⟩ => ⟨S384, .f32⟩
  | .hbm, ⟨9, _⟩ => ⟨S256, .f32⟩
  | .hbm, ⟨10, _⟩ => ⟨S384x768, .f32⟩
  | .hbm, ⟨11, _⟩ => ⟨S256x1024, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S4x2048, .f32⟩
  | .hbm, ⟨27, _⟩ => ⟨S4x2048x1, .f32⟩
  | .hbm, ⟨28, _⟩ => ⟨S1x1x16, .f32⟩
  | .hbm, ⟨29, _⟩ => ⟨S4x2048x16, .f32⟩
  | .hbm, ⟨30, _⟩ => ⟨S4x2048x16, .f32⟩
  | .hbm, ⟨31, _⟩ => ⟨S4x2048x16, .f32⟩
  | .hbm, ⟨32, _⟩ => ⟨S4x2048x16, .f32⟩
  | .hbm, ⟨33, _⟩ => ⟨S4x2048x16, .f32⟩
  | .hbm, ⟨34, _⟩ => ⟨S_, .f32⟩
  | .hbm, ⟨35, _⟩ => ⟨S4x2048x64, .f32⟩
  | .hbm, ⟨36, _⟩ => ⟨S_, .f32⟩
  | .hbm, ⟨37, _⟩ => ⟨S4x2048x32, .f32⟩
  | .hbm, ⟨38, _⟩ => ⟨S4x2048x128, .f32⟩
  | .hbm, ⟨39, _⟩ => ⟨S_, .f32⟩
  | .hbm, ⟨40, _⟩ => ⟨S4x2048x64, .f32⟩
  | .hbm, ⟨41, _⟩ => ⟨S_, .f32⟩
  | .hbm, ⟨42, _⟩ => ⟨S4x2048x32, .f32⟩
  | .hbm, ⟨43, _⟩ => ⟨S4x2048x128, .f32⟩
  | .hbm, ⟨44, _⟩ => ⟨S4x2048x256, .f32⟩
  | .hbm, ⟨45, _⟩ => ⟨S8192x256, .f32⟩
  | .hbm, ⟨46, _⟩ => ⟨S384x768, .bf16⟩
  | .hbm, ⟨47, _⟩ => ⟨S256x1024, .bf16⟩
  | .hbm, ⟨48, _⟩ => ⟨S384x8x96, .bf16⟩
  | .hbm, ⟨49, _⟩ => ⟨S_, .bf16⟩
  | .hbm, ⟨50, _⟩ => ⟨S384x8x32, .bf16⟩
  | .hbm, ⟨51, _⟩ => ⟨S384x8x128, .bf16⟩
  | .hbm, ⟨52, _⟩ => ⟨S384x1024, .bf16⟩
  | .hbm, ⟨53, _⟩ => ⟨S_, .bf16⟩
  | .hbm, ⟨54, _⟩ => ⟨S384x8x64, .bf16⟩
  | .hbm, ⟨55, _⟩ => ⟨S384x8x32, .bf16⟩
  | .hbm, ⟨56, _⟩ => ⟨S384x8x16, .bf16⟩
  | .hbm, ⟨57, _⟩ => ⟨S384x8x16, .bf16⟩
  | .hbm, ⟨58, _⟩ => ⟨S384x8x16, .bf16⟩
  | .hbm, ⟨59, _⟩ => ⟨S384x8x32, .bf16⟩
  | .hbm, ⟨60, _⟩ => ⟨S384x8x128, .bf16⟩
  | .hbm, ⟨61, _⟩ => ⟨S384x1024, .bf16⟩
  | .hbm, ⟨62, _⟩ => ⟨S384x2048, .bf16⟩
  | .hbm, ⟨63, _⟩ => ⟨S256x8x128, .bf16⟩
  | .hbm, ⟨64, _⟩ => ⟨S256x8x64, .bf16⟩
  | .hbm, ⟨65, _⟩ => ⟨S_, .bf16⟩
  | .hbm, ⟨66, _⟩ => ⟨S256x8x64, .bf16⟩
  | .hbm, ⟨67, _⟩ => ⟨S256x8x128, .bf16⟩
  | .hbm, ⟨68, _⟩ => ⟨S256x1024, .bf16⟩
  | .hbm, ⟨69, _⟩ => ⟨S256x8x64, .bf16⟩
  | .hbm, ⟨70, _⟩ => ⟨S256x512, .bf16⟩
  | .hbm, ⟨71, _⟩ => ⟨S256x1536, .bf16⟩
  | .hbm, ⟨72, _⟩ => ⟨S_, .f32⟩
  | .hbm, ⟨73, _⟩ => ⟨S4x2048x8x32, .f32⟩
  | .hbm, ⟨74, _⟩ => ⟨S4x2048x8x128, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S4x2048x8x32, .f32⟩
  | .hbm, ⟨81, _⟩ => ⟨S4x2048x8x128, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x512, .f32⟩
  | .hbm, ⟨87, _⟩ => ⟨S8192x384, .f32⟩
  | .hbm, ⟨88, _⟩ => ⟨S8192x256, .f32⟩
  | .hbm, ⟨89, _⟩ => ⟨S8192x640, .f32⟩
  | .hbm, ⟨90, _⟩ => ⟨S1x384, .f32⟩
  | .hbm, ⟨91, _⟩ => ⟨S1x256, .f32⟩
  | .hbm, ⟨92, _⟩ => ⟨S8192x768, .bf16⟩
  | .hbm, ⟨93, _⟩ => ⟨S384x2048, .f32⟩
  | .hbm, ⟨94, _⟩ => ⟨S256x1536, .f32⟩
  | .hbm, ⟨95, _⟩ => ⟨S1x384, .f32⟩
  | .hbm, ⟨96, _⟩ => ⟨S1x256, .f32⟩
  | .hbm, ⟨97, _⟩ => ⟨S8192x32, .bf16⟩
  | .hbm, ⟨98, _⟩ => ⟨S8192x32, .bf16⟩
  | .hbm, ⟨99, _⟩ => ⟨S8192x16, .bf16⟩
  | .hbm, ⟨100, _⟩ => ⟨S8192x16, .bf16⟩
  | .hbm, ⟨101, _⟩ => ⟨S8192x16, .bf16⟩
  | .hbm, ⟨102, _⟩ => ⟨S8192x32, .bf16⟩
  | .hbm, ⟨103, _⟩ => ⟨S8192x32, .bf16⟩
  | .hbm, ⟨104, _⟩ => ⟨S8192x640, .bf16⟩
  | .hbm, ⟨105, _⟩ => ⟨S384x1024, .f32⟩
  | .hbm, ⟨106, _⟩ => ⟨S384x8x128, .f32⟩
  | .hbm, ⟨107, _⟩ => ⟨S384x1024, .f32⟩
  | .hbm, ⟨108, _⟩ => ⟨S384x8x128, .f32⟩
  | .hbm, ⟨109, _⟩ => ⟨S384x8x64, .f32⟩
  | .hbm, ⟨110, _⟩ => ⟨S384x8x32, .f32⟩
  | .hbm, ⟨111, _⟩ => ⟨S384x8x32, .f32⟩
  | .hbm, ⟨112, _⟩ => ⟨S384x8x16, .f32⟩
  | .hbm, ⟨113, _⟩ => ⟨S384x8x16, .f32⟩
  | .hbm, ⟨114, _⟩ => ⟨S384x8x16, .f32⟩
  | .hbm, ⟨115, _⟩ => ⟨S384x8x32, .f32⟩
  | .hbm, ⟨116, _⟩ => ⟨S384x8x32, .f32⟩
  | .hbm, ⟨117, _⟩ => ⟨S384x8x96, .f32⟩
  | .hbm, ⟨118, _⟩ => ⟨S384x768, .f32⟩
  | .hbm, ⟨119, _⟩ => ⟨S256x1024, .f32⟩
  | .hbm, ⟨120, _⟩ => ⟨S256x8x128, .f32⟩
  | .hbm, ⟨121, _⟩ => ⟨S256x8x64, .f32⟩
  | .hbm, ⟨122, _⟩ => ⟨S256x512, .f32⟩
  | .hbm, ⟨123, _⟩ => ⟨S256x8x64, .f32⟩
  | .hbm, ⟨124, _⟩ => ⟨S256x8x128, .f32⟩
  | .hbm, ⟨125, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x640, .f32⟩
  | .local _ .vmem, ⟨7, _⟩ => ⟨S512x640, .f32⟩
  | .local _ .vmem, ⟨8, _⟩ => ⟨S512x256, .f32⟩
  | .local _ .vmem, ⟨9, _⟩ => ⟨S512x256, .f32⟩
  | .local _ .vmem, ⟨10, _⟩ => ⟨S1x384, .f32⟩
  | .local _ .vmem, ⟨11, _⟩ => ⟨S1x256, .f32⟩
  | .local _ .vmem, ⟨12, _⟩ => ⟨S384x2048, .bf16⟩
  | .local _ .vmem, ⟨13, _⟩ => ⟨S256x1536, .bf16⟩
  | .local _ .vmem, ⟨14, _⟩ => ⟨S512x768, .bf16⟩
  | .local _ .vmem, ⟨15, _⟩ => ⟨S512x768, .bf16⟩
  | .local _ .vmem, ⟨16, _⟩ => ⟨S384x2048, .f32⟩
  | .local _ .vmem, ⟨17, _⟩ => ⟨S256x1536, .f32⟩
  | .local _ .vmem, ⟨18, _⟩ => ⟨S1x384, .f32⟩
  | .local _ .vmem, ⟨19, _⟩ => ⟨S1x256, .f32⟩
  | _, _ => ⟨S4x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_v65_2 : Ref sig .tc := ⟨.hbm, 94, rfl⟩
abbrev main_v65_3 : Ref sig .tc := ⟨.hbm, 95, rfl⟩
abbrev main_v65_4 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S384x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MidRefIdeal.lean ====
abbrev S4x2048x384 : Shape := ⟨3, ![4, 2048, 384]⟩
abbrev S4x2048x256 : Shape := ⟨3, ![4, 2048, 256]⟩
abbrev S4x2048x8x64 : Shape := ⟨4, ![4, 2048, 8, 64]⟩
abbrev S4x2048x8x32 : Shape := ⟨4, ![4, 2048, 8, 32]⟩
abbrev S4x2048 : Shape := ⟨2, ![4, 2048]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S4x2048x32 : Shape := ⟨3, ![4, 2048, 32]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S1x1x384 : Shape := ⟨3, ![1, 1, 384]⟩
abbrev S4x2048x768 : Shape := ⟨3, ![4, 2048, 768]⟩
abbrev S4x2048x8x96 : Shape := ⟨4, ![4, 2048, 8, 96]⟩
abbrev S4x2048x1x16 : Shape := ⟨4, ![4, 2048, 1, 16]⟩
abbrev S4x2048x8x16 : Shape := ⟨4, ![4, 2048, 8, 16]⟩
abbrev S1x1x256 : Shape := ⟨3, ![1, 1, 256]⟩
abbrev S4x2048x1024 : Shape := ⟨3, ![4, 2048, 1024]⟩
abbrev S4x2048x8x128 : Shape := ⟨4, ![4, 2048, 8, 128]⟩
abbrev S4x2048x1x32 : Shape := ⟨4, ![4, 2048, 1, 32]⟩
abbrev S1024x256 : Shape := ⟨2, ![1024, 256]⟩
abbrev S768x384 : Shape := ⟨2, ![768, 384]⟩
abbrev S8192x384 : Shape := ⟨2, ![8192, 384]⟩
abbrev S8192x256 : Shape := ⟨2, ![8192, 256]⟩
abbrev S8192x640 : Shape := ⟨2, ![8192, 640]⟩
abbrev S8192x32 : Shape := ⟨2, ![8192, 32]⟩
abbrev S1x384 : Shape := ⟨2, ![1, 384]⟩
abbrev S1x256 : Shape := ⟨2, ![1, 256]⟩

abbrev nBuf : Space → Nat
  | .hbm => 216
  | .vmem => 0
  | .smem => 0
  | _ => 0

abbrev hbmTy0_0 (i : Nat) : BufTy := match i % 128 with
  | 0 => ⟨S4x2048x384, .f32⟩
  | 1 => ⟨S4x2048x256, .f32⟩
  | 2 => ⟨S4x2048x8x64, .f32⟩
  | 3 => ⟨S4x2048x8x32, .f32⟩
  | 4 => ⟨S4x2048x8x64, .f32⟩
  | 5 => ⟨S4x2048x8x32, .f32⟩
  | 6 => ⟨S4x2048x8x64, .f32⟩
  | 7 => ⟨S4x2048, .i32⟩
  | 8 => ⟨S384, .f32⟩
  | 9 => ⟨S256, .f32⟩
  | 10 => ⟨S384x768, .f32⟩
  | 11 => ⟨S256x1024, .f32⟩
  | 12 => ⟨S_, .f32⟩
  | 13 => ⟨S4x2048x32, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S4x2048, .f32⟩
  | 29 => ⟨S4x2048x1, .f32⟩
  | 30 => ⟨S1x1x16, .f32⟩
  | 31 => ⟨S4x2048x16, .f32⟩
  | 32 => ⟨S4x2048x16, .f32⟩
  | 33 => ⟨S4x2048x16, .f32⟩
  | 34 => ⟨S4x2048x16, .f32⟩
  | 35 => ⟨S4x2048x16, .f32⟩
  | 36 => ⟨S4x2048x384, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x1, .f32⟩
  | 47 => ⟨S4x2048x1, .f32⟩
  | 48 => ⟨S_, .f32⟩
  | 49 => ⟨S4x2048x1, .f32⟩
  | 50 => ⟨S4x2048x1, .f32⟩
  | 51 => ⟨S4x2048x384, .f32⟩
  | 52 => ⟨S4x2048x384, .f32⟩
  | 53 => ⟨S1x1x384, .f32⟩
  | 54 => ⟨S4x2048x384, .f32⟩
  | 55 => ⟨S4x2048x384, .f32⟩
  | 56 => ⟨S4x2048x768, .f32⟩
  | 57 => ⟨S4x2048x8x96, .f32⟩
  | 58 => ⟨S4x2048x8x64, .f32⟩
  | 59 => ⟨S4x2048x8x32, .f32⟩
  | 60 => ⟨S4x2048x1x16, .f32⟩
  | 61 => ⟨S4x2048x1x16, .f32⟩
  | 62 => ⟨S4x2048x8x16, .f32⟩
  | 63 => ⟨S4x2048x8x16, .f32⟩
  | 64 => ⟨S4x2048x8x16, .f32⟩
  | 65 => ⟨S4x2048x8x16, .f32⟩
  | 66 => ⟨S4x2048x8x16, .f32⟩
  | 67 => ⟨S4x2048x8x16, .f32⟩
  | 68 => ⟨S4x2048x8x16, .f32⟩
  | 69 => ⟨S4x2048x8x16, .f32⟩
  | 70 => ⟨S4x2048x8x16, .f32⟩
  | 71 => ⟨S4x2048x8x16, .f32⟩
  | 72 => ⟨S4x2048x8x16, .f32⟩
  | 73 => ⟨S4x2048x8x16, .f32⟩
  | 74 => ⟨S4x2048x8x32, .f32⟩
  | 75 => ⟨S4x2048x256, .f32⟩
  | 76 => ⟨S_, .f32⟩
  | 77 => ⟨S4x2048, .f32⟩
  | 78 => ⟨S4x2048x1, .f32⟩
  | 79 => ⟨S_, .f32⟩
  | 80 => ⟨S4x2048x1, .f32⟩
  | 81 => ⟨S4x2048x1, .f32⟩
  | 82 => ⟨S_, .f32⟩
  | 83 => ⟨S4x2048x1, .f32⟩
  | 84 => ⟨S4x2048x1, .f32⟩
  | 85 => ⟨S4x2048x1, .f32⟩
  | 86 => ⟨S4x2048x1, .f32⟩
  | 87 => ⟨S_, .f32⟩
  | 88 => ⟨S4x2048x1, .f32⟩
  | 89 => ⟨S4x2048x1, .f32⟩
  | 90 => ⟨S4x2048x256, .f32⟩
  | 91 => ⟨S4x2048x256, .f32⟩
  | 92 => ⟨S1x1x256, .f32⟩
  | 93 => ⟨S4x2048x256, .f32⟩
  | 94 => ⟨S4x2048x256, .f32⟩
  | 95 => ⟨S4x2048x1024, .f32⟩
  | 96 => ⟨S4x2048x8x128, .f32⟩
  | 97 => ⟨S4x2048x8x64, .f32⟩
  | 98 => ⟨S4x2048x8x64, .f32⟩
  | 99 => ⟨S4x2048x16, .f32⟩
  | 100 => ⟨S4x2048x16, .f32⟩
  | 101 => ⟨S4x2048x16, .f32⟩
  | 102 => ⟨S4x2048x16, .f32⟩
  | 103 => ⟨S4x2048x16, .f32⟩
  | 104 => ⟨S4x2048x16, .f32⟩
  | 105 => ⟨S4x2048x16, .f32⟩
  | 106 => ⟨S4x2048x16, .f32⟩
  | 107 => ⟨S4x2048x32, .f32⟩
  | 108 => ⟨S4x2048x1x32, .f32⟩
  | 109 => ⟨S4x2048x8x32, .f32⟩
  | 110 => ⟨S_, .f32⟩
  | 111 => ⟨S4x2048x32, .f32⟩
  | 112 => ⟨S4x2048x1x32, .f32⟩
  | 113 => ⟨S_, .f32⟩
  | 114 => ⟨S4x2048x32, .f32⟩
  | 115 => ⟨S4x2048x16, .f32⟩
  | 116 => ⟨S4x2048x16, .f32⟩
  | 117 => ⟨S4x2048x16, .f32⟩
  | 118 => ⟨S4x2048x16, .f32⟩
  | 119 => ⟨S4x2048x16, .f32⟩
  | 120 => ⟨S4x2048x16, .f32⟩
  | 121 => ⟨S4x2048x16, .f32⟩
  | 122 => ⟨S4x2048x16, .f32⟩
  | 123 => ⟨S4x2048x16, .f32⟩
  | 124 => ⟨S4x2048x32, .f32⟩
  | 125 => ⟨S_, .f32⟩
  | 126 => ⟨S4x2048x8x128, .f32⟩
  | 127 => ⟨S_, .f32⟩
  | _ => ⟨S4x2048x384, .f32⟩

abbrev hbmTy0_1 (i : Nat) : BufTy := match i % 128 with
  | 0 => ⟨S4x2048x8x128, .f32⟩
  | 1 => ⟨S4x2048x8x128, .f32⟩
  | 2 => ⟨S4x2048x1024, .f32⟩
  | 3 => ⟨S1024x256, .f32⟩
  | 4 => ⟨S256x1024, .f32⟩
  | 5 => ⟨S4x2048x256, .f32⟩
  | 6 => ⟨S4x2048x256, .f32⟩
  | 7 => ⟨S_, .f32⟩
  | 8 => ⟨S256, .f32⟩
  | 9 => ⟨S1x1x256, .f32⟩
  | 10 => ⟨S4x2048x256, .f32⟩
  | 11 => ⟨S4x2048x256, .f32⟩
  | 12 => ⟨S_, .f32⟩
  | 13 => ⟨S256, .f32⟩
  | 14 => ⟨S4x2048x256, .f32⟩
  | 15 => ⟨S_, .f32⟩
  | 16 => ⟨S4x2048, .f32⟩
  | 17 => ⟨S4x2048x1, .f32⟩
  | 18 => ⟨S4x2048x256, .f32⟩
  | 19 => ⟨S4x2048x256, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048, .f32⟩
  | 26 => ⟨S4x2048x256, .f32⟩
  | 27 => ⟨S4x2048x256, .f32⟩
  | 28 => ⟨S4x2048x256, .f32⟩
  | 29 => ⟨S4x2048x256, .f32⟩
  | 30 => ⟨S4x2048x256, .f32⟩
  | 31 => ⟨S4x2048x8x16, .f32⟩
  | 32 => ⟨S4x2048x8x16, .f32⟩
  | 33 => ⟨S4x2048x8x16, .f32⟩
  | 34 => ⟨S4x2048x8x16, .f32⟩
  | 35 => ⟨S4x2048x8x16, .f32⟩
  | 36 => ⟨S4x2048x8x16, .f32⟩
  | 37 => ⟨S4x2048x8x16, .f32⟩
  | 38 => ⟨S4x2048x8x16, .f32⟩
  | 39 => ⟨S4x2048x8x16, .f32⟩
  | 40 => ⟨S4x2048x8x16, .f32⟩
  | 41 => ⟨S4x2048x8x16, .f32⟩
  | 42 => ⟨S4x2048x8x16, .f32⟩
  | 43 => ⟨S4x2048x8x16, .f32⟩
  | 44 => ⟨S4x2048x8x32, .f32⟩
  | 45 => ⟨S_, .f32⟩
  | 46 => ⟨S4x2048x8x96, .f32⟩
  | 47 => ⟨S_, .f32⟩
  | 48 => ⟨S4x2048x8x96, .f32⟩
  | 49 => ⟨S4x2048x8x96, .f32⟩
  | 50 => ⟨S4x2048x768, .f32⟩
  | 51 => ⟨S768x384, .f32⟩
  | 52 => ⟨S384x768, .f32⟩
  | 53 => ⟨S4x2048x384, .f32⟩
  | 54 => ⟨S4x2048x384, .f32⟩
  | 55 => ⟨S_, .f32⟩
  | 56 => ⟨S384, .f32⟩
  | 57 => ⟨S1x1x384, .f32⟩
  | 58 => ⟨S4x2048x384, .f32⟩
  | 59 => ⟨S4x2048x384, .f32⟩
  | 60 => ⟨S_, .f32⟩
  | 61 => ⟨S384, .f32⟩
  | 62 => ⟨S4x2048x384, .f32⟩
  | 63 => ⟨S_, .f32⟩
  | 64 => ⟨S4x2048, .f32⟩
  | 65 => ⟨S4x2048x1, .f32⟩
  | 66 => ⟨S4x2048x384, .f32⟩
  | 67 => ⟨S4x2048x384, .f32⟩
  | 68 => ⟨S4x2048x1, .f32⟩
  | 69 => ⟨S_, .f32⟩
  | 70 => ⟨S4x2048x1, .f32⟩
  | 71 => ⟨S4x2048x1, .f32⟩
  | 72 => ⟨S_, .f32⟩
  | 73 => ⟨S4x2048, .f32⟩
  | 74 => ⟨S4x2048x384, .f32⟩
  | 75 => ⟨S4x2048x384, .f32⟩
  | 76 => ⟨S4x2048x384, .f32⟩
  | 77 => ⟨S4x2048x384, .f32⟩
  | 78 => ⟨S4x2048x384, .f32⟩
  | 79 => ⟨S8192x384, .f32⟩
  | 80 => ⟨S8192x384, .bf16⟩
  | 81 => ⟨S8192x256, .f32⟩
  | 82 => ⟨S8192x256, .bf16⟩
  | 83 => ⟨S8192x640, .bf16⟩
  | 84 => ⟨S8192x32, .f32⟩
  | 85 => ⟨S8192x32, .bf16⟩
  | 86 => ⟨S1x384, .f32⟩
  | 87 => ⟨S1x256, .f32⟩
  | _ => ⟨S4x2048x384, .f32⟩

abbrev hbmTy (i : Nat) : BufTy := match i / 128 with
  | 0 => hbmTy0_0 i
  | 1 => hbmTy0_1 i
  | _ => ⟨S4x2048x384, .f32⟩

abbrev bufTy : (tb : Table) → Fin (tcTables nBuf tb) → BufTy
  | .hbm, ⟨i, _⟩ => hbmTy i
  | _, _ => ⟨S4x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_12 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_16 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_17 : Ref sig .tc := ⟨.hbm, 140, rfl⟩
abbrev main_v110 : Ref sig .tc := ⟨.hbm, 141, rfl⟩
abbrev main_v111 : Ref sig .tc := ⟨.hbm, 142, rfl⟩
abbrev main_cst_18 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_v118 : Ref sig .tc := ⟨.hbm, 151, rfl⟩
abbrev main_cst_20 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_21 : Ref sig .tc := ⟨.hbm, 173, rfl⟩
abbrev main_v139 : Ref sig .tc := ⟨.hbm, 174, rfl⟩
abbrev main_cst_22 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_23 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_24 : Ref sig .tc := ⟨.hbm, 188, rfl⟩
abbrev main_v151 : Ref sig .tc := ⟨.hbm, 189, rfl⟩
abbrev main_v152 : Ref sig .tc := ⟨.hbm, 190, rfl⟩
abbrev main_cst_25 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_26 : Ref sig .tc := ⟨.hbm, 197, rfl⟩
abbrev main_v158 : Ref sig .tc := ⟨.hbm, 198, rfl⟩
abbrev main_v159 : Ref sig .tc := ⟨.hbm, 199, rfl⟩
abbrev main_cst_27 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩

abbrev nD : Nat := 1
abbrev τ : Topo := Topo.v7x

variable {F : FTy → Type} [FloatOps F]
-- ==== Proof.Coe.lean ====
/- Real numbers inside the extended reals: vectors all of whose entries are real (`c1`, `c2`, `c3`), and the ideal
   operations on them. Where every argument is finite each step of a program stays among the reals, and there the
   identities between a program and its reference are those of a field. -/
module

public import Idealize.ShloMosaic.Lib.Pointwise
public import Idealize.ShloMosaic.PureOps.Ideal

@[expose] public section

set_option maxRecDepth 16384

noncomputable section

namespace Cert.Coe

open Idealize.ShloMosaic

/-- A vector of real entries. -/
def c1 {a : ℕ} (f : Fin a → ℝ) : Shape.Idx ⟨1, ![a]⟩ → EReal := fun i => ((f (i 0) : ℝ) : EReal)
/-- A matrix of real entries. -/
def c2 {a b : ℕ} (f : Fin a → Fin b → ℝ) : Shape.Idx ⟨2, ![a, b]⟩ → EReal := fun i => ((f (i 0) (i 1) : ℝ) : EReal)
/-- A rank-3 array of real entries. -/
def c3 {a b c : ℕ} (f : Fin a → Fin b → Fin c → ℝ) : Shape.Idx ⟨3, ![a, b, c]⟩ → EReal := fun i => ((f (i 0) (i 1) (i 2) : ℝ) : EReal)

theorem c1_apply {a : ℕ} (f : Fin a → ℝ) (i : Fin a) : c1 f (ix1 i) = ((f i : ℝ) : EReal) := rfl
theorem c2_apply {a b : ℕ} (f : Fin a → Fin b → ℝ) (i : Fin a) (j : Fin b) : c2 f (ix2 i j) = ((f i j : ℝ) : EReal) := rfl
theorem c3_apply {a b c : ℕ} (f : Fin a → Fin b → Fin c → ℝ) (i : Fin a) (j : Fin b) (k : Fin c) : c3 f (ix3 i j k) = ((f i j k : ℝ) : EReal) := rfl

/-- A sum of reals is real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real {x y : ℝ} (h : y ≠ 0) : Ideal.div (x : EReal) (y : EReal) = ((x / y : ℝ) : EReal) := by
  rw [Ideal.div_coe h, ← EReal.coe_mul, mul_one_div]

theorem rsqrt_real {v : ℝ} (h : 0 < v) : Ideal.rsqrt (v : EReal) = (((Real.sqrt v)⁻¹ : ℝ) : EReal) := by
  rw [Ideal.rsqrt_coe, if_neg (not_lt.2 h.le), if_neg h.ne']

theorem zero_real : (0 : EReal) = ((0 : ℝ) : EReal) := EReal.coe_zero.symm
theorem one_real : (1 : EReal) = ((1 : ℝ) : EReal) := EReal.coe_one.symm

/-- `1024.0`. -/
theorem k1024 : Ideal.ofBits .f32 0x44800000#32 = ((1024 : ℝ) : EReal) := by
  simp [Ideal.ofBits, Ideal.ieee, -EReal.coe_mul]; norm_num
/-- `1/1024`. -/
theorem kInv1024 : Ideal.ofBits .f32 0x3A800000#32 = ((1 / 1024 : ℝ) : EReal) := by
  simp [Ideal.ofBits, Ideal.ieee, -EReal.coe_mul]; norm_num
/-- `1/2048`. -/
theorem kInv2048 : Ideal.ofBits .f32 0x3A000000#32 = ((1 / 2048 : ℝ) : EReal) := by
  simp [Ideal.ofBits, Ideal.ieee, -EReal.coe_mul]; norm_num
/-- `0.5`. -/
theorem kHalf : Ideal.ofBits .f32 0x3F000000#32 = ((1 / 2 : ℝ) : EReal) := by
  simp [Ideal.ofBits, Ideal.ieee, -EReal.coe_mul]; norm_num
/-- `-0.5`. -/
theorem kNegHalf : Ideal.ofBits .f32 0xBF000000#32 = ((-(1 / 2) : ℝ) : EReal) := by
  simp [Ideal.ofBits, Ideal.ieee, -EReal.coe_mul]; norm_num
/-- `2.0`. -/
theorem kTwo : Ideal.ofBits .f32 0x40000000#32 = ((2 : ℝ) : EReal) := by
  simp [Ideal.ofBits, Ideal.ieee, -EReal.coe_mul]; norm_num
/-- The mean square's offset, the float nearest to `10⁻⁶`. -/
def eps : ℝ := 8796093 / 8796093022208
theorem eps_pos : 0 < eps := by unfold eps; norm_num
theorem kEps : Ideal.ofBits .f32 0x358637BD#32 = ((eps : ℝ) : EReal) := by
  simp [Ideal.ofBits, Ideal.ieee, eps, -EReal.coe_mul]; norm_num
/-- `+∞`. -/
theorem kTop : Ideal.ofBits .f32 0x7F800000#32 = ⊤ := by simp [Ideal.ofBits, Ideal.ieee]

end Cert.Coe

end
-- ==== Proof.PostModel.lean ====
/- The output part of the layer and its gradient over real numbers, one token row at a time: the gated heads, the
   output projection, the residual, the final norm, the loss, and what each of them passes back. -/
module

public import proofs.«01_k».proof.Proof.Coe

@[expose] public section

noncomputable section

namespace Cert.Post1

open Cert.Coe

/-- The inputs of `n` token rows: the residual stream, the target, the two heads' outputs, the gates' logits, the
    modulation gate, and (shared by all rows) the final gain and the projection. -/
structure Tile (n : ℕ) where
  x : Fin n → Fin 1024 → ℝ
  t : Fin n → Fin 1024 → ℝ
  oM : Fin n → Fin 512 → ℝ
  oS : Fin n → Fin 512 → ℝ
  g : Fin n → Fin 1024 → ℝ
  gate : Fin n → Fin 1024 → ℝ
  fg : Fin 1024 → ℝ
  W : Fin 1024 → Fin 1024 → ℝ

namespace Tile
variable {n m : ℕ} (T : Tile n)

/-- The rows `f 0, f 1, …` of a tile. -/
def sub (f : Fin m → Fin n) : Tile m where
  x r := T.x (f r)
  t r := T.t (f r)
  oM r := T.oM (f r)
  oS r := T.oS (f r)
  g r := T.g (f r)
  gate r := T.gate (f r)
  fg := T.fg
  W := T.W

/-- Both heads' outputs side by side. -/
def o (r : Fin n) (k : Fin 1024) : ℝ := if h : (k : ℕ) < 512 then T.oM r ⟨k, h⟩ else T.oS r ⟨k - 512, by omega⟩
/-- The logistic of the gate. -/
def sg (r : Fin n) (k : Fin 1024) : ℝ := 1 / (1 + Real.exp (0 - T.g r k))
/-- The gate's SiLU. -/
def sil (r : Fin n) (k : Fin 1024) : ℝ := T.g r k * T.sg r k
/-- The gated output. -/
def yp (r : Fin n) (k : Fin 1024) : ℝ := T.o r k * T.sil r k
/-- Its projection. -/
def y (r : Fin n) (d : Fin 1024) : ℝ := ∑ k, T.yp r k * T.W k d
/-- The residual stream after the layer. -/
def x2 (r : Fin n) (d : Fin 1024) : ℝ := T.x r d + T.gate r d * T.y r d
/-- The row's sum of squares. -/
def ssq (r : Fin n) : ℝ := ∑ d, T.x2 r d * T.x2 r d
/-- The reciprocal root of the row's mean square. -/
def rt (r : Fin n) : ℝ := (Real.sqrt (T.ssq r / 1024 + eps))⁻¹
/-- The normalised row. -/
def xn (r : Fin n) (d : Fin 1024) : ℝ := T.x2 r d * T.rt r
/-- The error against the target. -/
def err (r : Fin n) (d : Fin 1024) : ℝ := T.xn r d * T.fg d - T.t r d
/-- What the loss passes back to the normalised row. -/
def dxn (r : Fin n) (d : Fin 1024) : ℝ := T.err r d * (T.fg d * (1 / 1024))
/-- What the norm passes back. -/
def dx2 (r : Fin n) (d : Fin 1024) : ℝ := T.rt r * (T.dxn r d - T.xn r d * ((∑ e, T.dxn r e * T.xn r e) / 1024))
/-- What the residual gate passes to the projection. -/
def dy (r : Fin n) (d : Fin 1024) : ℝ := T.dx2 r d * T.gate r d
/-- What the projection passes back. -/
def dyp (r : Fin n) (k : Fin 1024) : ℝ := ∑ d, T.dy r d * T.W k d
/-- The heads' cotangent. -/
def dov (r : Fin n) (k : Fin 1024) : ℝ := T.dyp r k * T.sil r k
/-- The gates' cotangent. -/
def dg (r : Fin n) (k : Fin 1024) : ℝ := T.dyp r k * T.o r k * (T.sg r k + T.sil r k * (1 - T.sg r k))

/-- The row sum of the heads' cotangent times their output, over the 64 lanes of head `h` of the sixteen. -/
def del (r : Fin n) (h : Fin 16) : ℝ := ∑ j : Fin 64, T.dov r ⟨64 * h + j, by omega⟩ * T.o r ⟨64 * h + j, by omega⟩

/-- The same as a product with the table that picks head `h`'s lanes out of all 1024. -/
theorem del_eq (r : Fin n) (h : Fin 16) : ∑ k : Fin 1024, (if (k : ℕ) / 64 = h then (1 : ℝ) else 0) * (T.dov r k * T.o r k) = T.del r h := by
  rw [Idealize.ShloMosaic.Fin.sum_univ_tiles 16 64 rfl, Finset.sum_eq_single h]
  · refine Finset.sum_congr rfl fun j _ => ?_
    have e : (⟨h * 64 + j, by omega⟩ : Fin 1024) = ⟨64 * h + j, by omega⟩ := Fin.ext (by simp only; omega)
    rw [e, if_pos (by simp only; omega), one_mul]
  · intro b _ hb
    refine Finset.sum_eq_zero fun j _ => ?_
    rw [if_neg (fun e => hb (Fin.ext (by simp only at e; omega))), zero_mul]
  · exact fun h => absurd (Finset.mem_univ _) h

theorem ssq_nonneg (r : Fin n) : 0 ≤ T.ssq r := Finset.sum_nonneg fun _ _ => mul_self_nonneg _
theorem ms_pos (r : Fin n) : 0 < T.ssq r / 1024 + eps := add_pos_of_nonneg_of_pos (div_nonneg (T.ssq_nonneg r) (by norm_num)) eps_pos

end Tile

/-- The call's arguments as arrays of reals. -/
structure Args where
  x : Fin 4 → Fin 2048 → Fin 1024 → ℝ
  t : Fin 4 → Fin 2048 → Fin 1024 → ℝ
  oM : Fin 4 → Fin 2048 → Fin 512 → ℝ
  oS : Fin 4 → Fin 2048 → Fin 512 → ℝ
  gM : Fin 4 → Fin 2048 → Fin 512 → ℝ
  gS : Fin 4 → Fin 2048 → Fin 512 → ℝ
  mod : Fin 4 → Fin 3072 → ℝ
  ba : Fin 1 → Fin 3072 → ℝ
  fg : Fin 1024 → ℝ
  W : Fin 1024 → Fin 1024 → ℝ

/-- Two sequences' lanes side by side. -/
def side (a b : Fin 4 → Fin 2048 → Fin 512 → ℝ) (q : Fin 4) (s : Fin 2048) (k : Fin 1024) : ℝ :=
  if h : (k : ℕ) < 512 then a q s ⟨k, h⟩ else b q s ⟨k - 512, by omega⟩

/-- The modulation gate's row of sequence `q`. -/
def Args.gt (Q : Args) (q : Fin 4) (d : Fin 1024) : ℝ := Q.mod q ⟨2048 + d, by omega⟩ + Q.ba 0 ⟨2048 + d, by omega⟩

/-- The rows at the positions `q r` of the sequences and `s r` within them. -/
def Args.rows (Q : Args) {n : ℕ} (q : Fin n → Fin 4) (s : Fin n → Fin 2048) : Tile n where
  x r := Q.x (q r) (s r)
  t r := Q.t (q r) (s r)
  oM r := Q.oM (q r) (s r)
  oS r := Q.oS (q r) (s r)
  g r := side Q.gM Q.gS (q r) (s r)
  gate r := Q.gt (q r)
  fg := Q.fg
  W := Q.W

/-- The rows of all tokens, row `n` at position `n % 2048` of sequence `n / 2048`. -/
def Args.tile (Q : Args) : Tile 8192 := Q.rows (fun n => ⟨n / 2048, by omega⟩) (fun n => ⟨n % 2048, by omega⟩)

/-- The 256 rows of half `h` of block `t`. -/
def Args.half (Q : Args) (t : ℕ) (ht : t < 16) (h : Fin 2) : Tile 256 := Q.tile.sub (fun r => ⟨512 * t + (256 * h + r), by omega⟩)

theorem half_fg (Q : Args) (t : ℕ) (ht : t < 16) (h : Fin 2) : (Q.half t ht h).fg = Q.fg := by simp only [Args.half, Tile.sub, Args.tile, Args.rows]
theorem half_W (Q : Args) (t : ℕ) (ht : t < 16) (h : Fin 2) : (Q.half t ht h).W = Q.W := by simp only [Args.half, Tile.sub, Args.tile, Args.rows]
theorem half_gate (Q : Args) (t : ℕ) (ht : t < 16) (h : Fin 2) : (Q.half t ht h).gate = fun _ => Q.gt ⟨t / 4, by omega⟩ := by
  funext r
  show Q.gt _ = _
  congr 1
  exact Fin.ext (by simp only; omega)

end Cert.Post1

end
-- ==== Proof.PostPay.lean ====
/- What the body of the output part's backward call computes on a tile of 256 rows whose entries are real. -/
module

public import proofs.«01_k».proof.Proof.PostModel
public import proofs.«01_k».proof.Proof.Gen.PostIdeal.Skeleton
public import Idealize.ShloMosaic.Lib.Pointwise

@[expose] public section

set_option maxRecDepth 16384

noncomputable section

namespace Cert.Post1

open Idealize.ShloMosaic Cert.PostIdeal Cert.PostIdeal.Gen Cert.Coe

variable (T : Tile 256) (gt fg : Fin 1024 → ℝ) (W : Fin 1024 → Fin 1024 → ℝ) (hf : T.fg = fg) (hW : T.W = W)

/-- A row vector repeated over the rows. -/
abbrev row (f : Fin 1024 → ℝ) : Fin 1 → Fin 1024 → ℝ := fun _ => f
theorem p13 (f : Fin 1 → Fin 1024 → ℝ) : k0_pay13 (F := Ideal) (c2 f) = c2 f := by
  funext i; idx_vars i; pointwise [k0_pay13, c2_apply]
theorem p14 (f : Fin 1024 → ℝ) : k0_pay14 (F := Ideal) (c2 (row f)) = c2 (row fun d => f d * (1 / 1024)) := by
  funext i; idx_vars i; pointwise [k0_pay14, p13, c2_apply]; simp only [kInv1024, ← EReal.coe_mul]
theorem p15 (f : Fin 256 → Fin 1024 → ℝ) : k0_pay15 (F := Ideal) (c2 f) = c2 f := by
  funext i; idx_vars i; pointwise [k0_pay15, c2_apply]
theorem p20 : k0_pay20 (F := Ideal) (c2 T.g) = c2 T.sg := by
  funext i; idx_vars i; pointwise [k0_pay20, c2_apply]
  simp only [zero_real, one_real, ← EReal.coe_sub, Ideal.exp_coe, ← EReal.coe_add]
  rw [div_real (by positivity)]; rfl
theorem p22 : k0_pay22 (F := Ideal) (c2 T.g) = c2 T.sil := by
  funext i; idx_vars i; pointwise [k0_pay22, p20, c2_apply]; rfl
theorem p18 : k0_pay18 (F := Ideal) (c2 T.oM) (c2 T.oS) = c2 T.o := by
  funext i; idx_vars i; pointwise [k0_pay18, c2_apply]; unfold Tile.o; split <;> rfl
theorem p24 : k0_pay24 (F := Ideal) (c2 T.g) (c2 T.oM) (c2 T.oS) = c2 T.yp := by
  funext i; idx_vars i; pointwise [k0_pay24, p18, p22, c2_apply]; rfl
include hW in
theorem p26 : k0_pay26 (F := Ideal) (c2 T.g) (c2 T.oM) (c2 T.oS) (c2 W) = c2 T.y := by
  subst hW
  funext i; idx_vars i; pointwise [k0_pay26, p24, c2_apply]
  simp only [← EReal.coe_mul, coe_sum, zero_add]; rfl

theorem p16 (f : Fin 256 → Fin 1024 → ℝ) : k0_pay16 (F := Ideal) (c2 f) = c2 f := by
  funext i; idx_vars i; pointwise [k0_pay16, c2_apply]
theorem p17 (f : Fin 256 → Fin 512 → ℝ) : k0_pay17 (F := Ideal) (c2 f) = c2 f := by
  funext i; idx_vars i; pointwise [k0_pay17, c2_apply]
theorem p19 : k0_pay19 (F := Ideal) (c2 T.oM) (c2 T.oS) = c2 T.o := by
  funext i; idx_vars i; pointwise [k0_pay19, c2_apply]; unfold Tile.o; split <;> rfl
theorem p21 : k0_pay21 (F := Ideal) (c2 T.g) = c2 T.sg := p20 T
theorem p23 : k0_pay23 (F := Ideal) (c2 T.g) = c2 T.sil := p22 T
theorem p25 : k0_pay25 (F := Ideal) (c2 T.g) (c2 T.oM) (c2 T.oS) = c2 T.yp := by
  funext i; idx_vars i; pointwise [k0_pay25, p19, p23, c2_apply]; rfl
include hW in
theorem p27 : k0_pay27 (F := Ideal) (c2 T.g) (c2 T.oM) (c2 T.oS) (c2 W) = c2 T.y := by
  subst hW
  funext i; idx_vars i; pointwise [k0_pay27, p25, c2_apply]
  simp only [← EReal.coe_mul, coe_sum, zero_add]; rfl

variable (hg : T.gate = fun _ => gt)
include hg

include hW in
theorem p28 : k0_pay28 (F := Ideal) (c2 (row gt)) (c2 T.g) (c2 T.oM) (c2 T.oS) (c2 W) (c2 T.x) = c2 T.x2 := by
  subst hW
  funext i; idx_vars i; pointwise [k0_pay28, p26, c2_apply]
  simp only [← EReal.coe_mul, ← EReal.coe_add, Tile.x2, hg]
include hW in
theorem p29 : k0_pay29 (F := Ideal) (c2 (row gt)) (c2 T.g) (c2 T.oM) (c2 T.oS) (c2 W) (c2 T.x) = c1 T.ssq := by
  subst hW
  funext i; idx_vars i; pointwise [k0_pay29, p28 T (gt := gt) (hg := hg), c2_apply]
  simp only [← EReal.coe_mul, coe_sum]; rfl
theorem p39 : k0_pay39 (F := Ideal) (c2 (row gt)) (c2 T.y) (c2 T.x) = c2 T.x2 := by
  funext i; idx_vars i; pointwise [k0_pay39, c2_apply]
  simp only [← EReal.coe_mul, ← EReal.coe_add, Tile.x2, hg]
omit hg in
theorem p30 : k0_pay30 (F := Ideal) (c1 T.ssq) = c2 fun r _ => T.rt r := by
  funext i; idx_vars i; pointwise [k0_pay30, c1_apply, c2_apply]
  rw [k1024, kEps, div_real (by norm_num), ← EReal.coe_add, rsqrt_real (T.ms_pos _)]; rfl
theorem p40 : k0_pay40 (F := Ideal) (c2 (row gt)) (c2 T.y) (c2 T.x) = c2 fun r _ => T.rt r := by
  funext i; idx_vars i; pointwise [k0_pay40, p39 T (gt := gt) (hg := hg), c2_apply]
  simp only [← EReal.coe_mul, coe_sum]
  rw [k1024, kEps, div_real (by norm_num), ← EReal.coe_add]
  exact rsqrt_real (T.ms_pos _)
omit hg in
theorem p31 : k0_pay31 (F := Ideal) (c2 T.x2) (c1 T.ssq) = c2 T.xn := by
  funext i; idx_vars i; pointwise [k0_pay31, p30, c2_apply]; rfl
theorem p41 : k0_pay41 (F := Ideal) (c2 (row gt)) (c2 T.y) (c2 T.x) = c2 T.xn := by
  funext i; idx_vars i; pointwise [k0_pay41, p39 T (gt := gt) (hg := hg), p40 T (gt := gt) (hg := hg), c2_apply]; rfl
omit hg in
include hf in
theorem p32 : k0_pay32 (F := Ideal) (c2 (row fg)) (c2 T.x2) (c1 T.ssq) (c2 T.t) = c2 T.err := by
  subst hf
  funext i; idx_vars i; pointwise [k0_pay32, p31, c2_apply]
  simp only [← EReal.coe_mul, ← EReal.coe_sub]; rfl
include hf in
theorem p42 : k0_pay42 (F := Ideal) (c2 (row gt)) (c2 (row fg)) (c2 T.y) (c2 T.x) (c2 T.t) = c2 T.err := by
  subst hf
  funext i; idx_vars i; pointwise [k0_pay42, p41 T (gt := gt) (hg := hg), c2_apply]
  simp only [← EReal.coe_mul, ← EReal.coe_sub]; rfl
omit hg in
include hf in
theorem p33 : k0_pay33 (F := Ideal) (c2 (row fg)) (c2 T.x2) (c1 T.ssq) (c2 T.t) = c2 fun (_ _ : Fin 1) => ∑ r, ∑ d, T.err r d * T.err r d := by
  subst hf
  funext i; idx_vars i; pointwise [k0_pay33, p32, c2_apply]
  simp only [← EReal.coe_mul, coe_sum, zero_add]
include hf in
theorem p43 (v : ℝ) : k0_pay43 (F := Ideal) (c2 (row gt)) (c2 (row fg)) (c2 T.y) (c2 fun (_ _ : Fin 1) => v) (c2 T.x) (c2 T.t)
    = c2 fun (_ _ : Fin 1) => v + ∑ r, ∑ d, T.err r d * T.err r d := by
  subst hf
  funext i; idx_vars i; pointwise [k0_pay43, p42 T (gt := gt) (hg := hg), c2_apply]
  simp only [← EReal.coe_mul, coe_sum, ← EReal.coe_add]
omit hg in
include hf in
theorem p34 : k0_pay34 (F := Ideal) (c2 (row fg)) (c2 T.x2) (c1 T.ssq) (c2 T.t) = c2 (row fun d => ∑ r, T.err r d * T.xn r d) := by
  subst hf
  funext i; idx_vars i; pointwise [k0_pay34, p31, p32, c2_apply]
  simp only [← EReal.coe_mul, coe_sum, zero_add]
include hf in
theorem p44 (v : Fin 1024 → ℝ) : k0_pay44 (F := Ideal) (c2 (row gt)) (c2 (row fg)) (c2 T.y) (c2 (row v)) (c2 T.x) (c2 T.t)
    = c2 (row fun d => v d + ∑ r, T.err r d * T.xn r d) := by
  subst hf
  funext i; idx_vars i; pointwise [k0_pay44, p41 T (gt := gt) (hg := hg), p42 T (gt := gt) (hg := hg), c2_apply]
  simp only [← EReal.coe_mul, coe_sum, ← EReal.coe_add]
omit hg in
include hf in
theorem p35 : k0_pay35 (F := Ideal) (c2 (row fg)) (c2 (row fun d => fg d * (1 / 1024))) (c2 T.x2) (c1 T.ssq) (c2 T.t) = c2 T.dx2 := by
  subst hf
  funext i; idx_vars i; pointwise [k0_pay35, p30, p31, p32, c2_apply]
  simp only [← EReal.coe_mul, coe_sum]
  rw [k1024, div_real (by norm_num)]
  simp only [← EReal.coe_mul, ← EReal.coe_sub]; rfl
include hf in
theorem p45 : k0_pay45 (F := Ideal) (c2 (row gt)) (c2 (row fg)) (c2 (row fun d => fg d * (1 / 1024))) (c2 T.y) (c2 T.x) (c2 T.t) = c2 T.dx2 := by
  subst hf
  funext i; idx_vars i; pointwise [k0_pay45, p40 T (gt := gt) (hg := hg), p41 T (gt := gt) (hg := hg), p42 T (gt := gt) (hg := hg), c2_apply]
  simp only [← EReal.coe_mul, coe_sum]
  rw [k1024, div_real (by norm_num)]
  simp only [← EReal.coe_mul, ← EReal.coe_sub]; rfl
omit hg in
include hf in
theorem p36 : k0_pay36 (F := Ideal) (c2 (row fg)) (c2 (row fun d => fg d * (1 / 1024))) (c2 T.y) (c2 T.x2) (c1 T.ssq) (c2 T.t)
    = c2 (row fun d => ∑ r, T.dx2 r d * T.y r d) := by
  subst hf
  funext i; idx_vars i; pointwise [k0_pay36, p35, c2_apply]
  simp only [← EReal.coe_mul, coe_sum, zero_add]
theorem p38 : k0_pay38 (F := Ideal) (c2 T.dx2) (k0_pay37 (c2 (row gt))) = c2 T.dy := by
  funext i; idx_vars i; pointwise [k0_pay38, k0_pay37, c2_apply]
  simp only [← EReal.coe_mul, Tile.dy, hg]
theorem p46 : k0_pay46 (F := Ideal) (c2 (row gt)) (c2 T.dx2) = c2 T.dy := by
  funext i; idx_vars i; pointwise [k0_pay46, c2_apply]
  simp only [← EReal.coe_mul, Tile.dy, hg]
omit hg
include hW in
theorem p51 : k0_pay51 (F := Ideal) (c2 T.dy) (c2 W) = c2 T.dyp := by
  subst hW
  funext i; idx_vars i; pointwise [k0_pay51, c2_apply]
  simp only [← EReal.coe_mul, coe_sum, zero_add]; rfl
include hW in
theorem p52 : k0_pay52 (F := Ideal) (c2 T.dy) (c2 W) = c2 T.dyp := p51 T W hW
include hW in
theorem p54 : k0_pay54 (F := Ideal) (c2 T.sil) (c2 T.dy) (c2 W) = c2 T.dov := by
  subst hW
  funext i; idx_vars i; pointwise [k0_pay54, p51, c2_apply]; rfl
theorem p2 : k0_pay2 (F := Ideal) (c2 T.sil) (c2 T.dyp) = c2 T.dov := by
  funext i; idx_vars i; pointwise [k0_pay2, c2_apply]; rfl
theorem p7 : k0_pay7 (F := Ideal) (c2 T.o) (c2 T.sg) (c2 T.sil) (c2 T.dyp) = c2 T.dg := by
  funext i; idx_vars i; pointwise [k0_pay7, c2_apply]
  simp only [one_real, ← EReal.coe_mul, ← EReal.coe_sub, ← EReal.coe_add]; rfl
include hW in
theorem p1 : k0_pay1 (F := Ideal) (c2 T.sg) (c2 T.sil) (k0_pay59 (c2 T.o) (c2 T.dy) (c2 W)) (k0_pay60 (c2 T.sg)) = c2 T.dg := by
  subst hW
  funext i; idx_vars i; pointwise [k0_pay1, k0_pay59, k0_pay60, p51, c2_apply]
  simp only [one_real, ← EReal.coe_mul, ← EReal.coe_sub, ← EReal.coe_add]; rfl
theorem p53 : k0_pay53 (F := Ideal) = c2 fun (h : Fin 16) (k : Fin 1024) => if (k : ℕ) / 64 = h then 1 else 0 := by
  funext i; idx_vars i; pointwise [k0_pay53, c2_apply]
  have hk : ∀ k : Fin 1024, IntOp.shrsi ArithUnit.vector (BitVec.ofNat 32 k) 6#32 = BitVec.ofNat 32 (k / 64) := by decide +kernel
  have he : ∀ a h : Fin 16, IntOp.cmpi .eq (BitVec.ofNat 32 a) (BitVec.ofNat 32 h) = if (a : ℕ) = h then 1#1 else 0#1 := by decide +kernel
  rw [hk, he ⟨i1 / 64, by omega⟩ i0]
  by_cases h : (i1 : ℕ) / 64 = i0
  · simp [h, Scalar.select]
  · simp [h, Scalar.select]
include hW in
/-- The sum of a row's products over the 64 lanes of head `h`. -/
theorem p55 : k0_pay55 (F := Ideal) (c2 T.o) (c2 T.sil) (c2 T.dy) (c2 W) = c2 fun h r => T.del r h := by
  subst hW
  funext i; idx_vars i; pointwise [k0_pay55, p53, p54, c2_apply]
  simp only [← EReal.coe_mul, coe_sum, zero_add, T.del_eq]
theorem p3 : k0_pay3 (F := Ideal) (c2 T.o) (c2 T.sil) (c2 T.dyp) k0_pay53 = c2 fun h r => T.del r h := by
  funext i; idx_vars i; pointwise [k0_pay3, p53, p2, c2_apply]
  simp only [← EReal.coe_mul, coe_sum, zero_add, T.del_eq]
include hW in
theorem p56 : k0_pay56 (F := Ideal) (c2 T.o) (c2 T.sil) (c2 T.dy) (c2 W) = c3 fun (_ : Fin 1) (h : Fin 4) r => T.del r ⟨h, by omega⟩ := by
  subst hW
  funext i; idx_vars i; pointwise [k0_pay56, p55, c2_apply, c3_apply]
include hW in
theorem p57 : k0_pay57 (F := Ideal) (c2 T.o) (c2 T.sil) (c2 T.dy) (c2 W) = c3 fun (_ : Fin 1) (h : Fin 4) r => T.del r ⟨4 + h, by omega⟩ := by
  subst hW
  funext i; idx_vars i; pointwise [k0_pay57, p55, c2_apply, c3_apply]
include hW in
theorem p58 : k0_pay58 (F := Ideal) (c2 T.o) (c2 T.sil) (c2 T.dy) (c2 W) = c2 fun (h : Fin 8) r => T.del r ⟨8 + h, by omega⟩ := by
  subst hW
  funext i; idx_vars i; pointwise [k0_pay58, p55, c2_apply]
theorem p4 : k0_pay4 (F := Ideal) (c2 T.o) (c2 T.sil) (c2 T.dyp) k0_pay53 = c3 fun (_ : Fin 1) (h : Fin 4) r => T.del r ⟨h, by omega⟩ := by
  funext i; idx_vars i; pointwise [k0_pay4, p3, c2_apply, c3_apply]
theorem p5 : k0_pay5 (F := Ideal) (c2 T.o) (c2 T.sil) (c2 T.dyp) k0_pay53 = c3 fun (_ : Fin 1) (h : Fin 4) r => T.del r ⟨4 + h, by omega⟩ := by
  funext i; idx_vars i; pointwise [k0_pay5, p3, c2_apply, c3_apply]
theorem p6 : k0_pay6 (F := Ideal) (c2 T.o) (c2 T.sil) (c2 T.dyp) k0_pay53 = c2 fun (h : Fin 8) r => T.del r ⟨8 + h, by omega⟩ := by
  funext i; idx_vars i; pointwise [k0_pay6, p3, c2_apply]

/-! What the accumulators take up. -/

theorem p47 (v : ℝ) (acc : FVec Ideal S1x128 .f32) (j : S1x128.Idx) :
    k0_pay47 (F := Ideal) (c2 fun (_ _ : Fin 1) => v) acc j = acc j + ((v * (1 / 2048) : ℝ) : EReal) := by
  idx_vars j; pointwise [k0_pay47, c2_apply]; rw [kInv2048, ← EReal.coe_mul]
theorem p48 (v : Fin 1024 → ℝ) (acc : FVec Ideal S1x1024 .f32) (j : S1x1024.Idx) :
    k0_pay48 (F := Ideal) (c2 (row v)) acc j = acc j + ((v (j 1) * (1 / 1024) : ℝ) : EReal) := by
  idx_vars j; pointwise [k0_pay48, c2_apply]; rw [kInv1024, ← EReal.coe_mul]
theorem p49 (v : Fin 1024 → ℝ) (acc : FVec Ideal S1x1x1024 .f32) (j : S1x1x1024.Idx) :
    k0_pay49 (F := Ideal) (c2 T.y) (c2 (row v)) (c2 T.dx2) acc j = acc j + ((v (j 2) + ∑ r, T.dx2 r (j 2) * T.y r (j 2) : ℝ) : EReal) := by
  idx_vars j; pointwise [k0_pay49, c2_apply]; simp only [← EReal.coe_mul, coe_sum, ← EReal.coe_add]
  rw [Subsingleton.elim j0 0, Subsingleton.elim j1 0]
include hg in
theorem p50 (yp0 dy0 : Fin 256 → Fin 1024 → ℝ) (acc : FVec Ideal S1024x1024 .f32) (j : S1024x1024.Idx) :
    k0_pay50 (F := Ideal) (c2 (row gt)) (c2 yp0) (c2 T.yp) (c2 dy0) (c2 T.dx2) acc j
      = acc j + ((∑ r, yp0 r (j 0) * dy0 r (j 1) + ∑ r, T.yp r (j 0) * T.dy r (j 1) : ℝ) : EReal) := by
  idx_vars j; pointwise [k0_pay50, p46 T (gt := gt) (hg := hg), c2_apply]
  simp only [← EReal.coe_mul, coe_sum, zero_add, ← EReal.coe_add]
theorem z8 (j) : k0_pay8 (F := Ideal) j = (0 : EReal) := by pointwise [k0_pay8]
theorem z9 (j) : k0_pay9 (F := Ideal) j = (0 : EReal) := by pointwise [k0_pay9]
theorem z10 (j) : k0_pay10 (F := Ideal) j = (0 : EReal) := by pointwise [k0_pay10]
theorem z11 (j) : k0_pay11 (F := Ideal) j = (0 : EReal) := by pointwise [k0_pay11]
theorem p12 (a : Fin 3072 → ℝ) (b : Fin 1024 → ℝ) : k0_pay12 (F := Ideal) (c3 fun (_ _ : Fin 1) => a) (c2 (row b)) = c2 (row fun d => a ⟨2048 + d, by omega⟩ + b d) := by
  funext i; idx_vars i; pointwise [k0_pay12, c2_apply, c3_apply]; rw [← EReal.coe_add]

end Cert.Post1

end
-- ==== Proof.PostBlocks.lean ====
/- The blocks the output part's backward call reads: each is the matching part of the arguments. -/
module

public import proofs.«01_k».proof.Proof.PostPay
public import proofs.«01_k».proof.Proof.Gen.PostIdeal.Value
public import Idealize.ShloMosaic.Lib.Pipeline.ValueKit

@[expose] public section

set_option maxRecDepth 16384

noncomputable section

namespace Cert.Post1

open Idealize.ShloMosaic Idealize.ShloMosaic.TcCoe Idealize.SL.Sem Cert.PostIdeal Cert.PostIdeal.Gen Cert.Coe

variable (m : (ℓ : Loc nD τ sig) → Buf (Elt Ideal) ℓ)

/-- The arguments are `Q`'s arrays. -/
structure Holds (c : Dev nD) (Q : Args) : Prop where
  h0 : m ((c.tc : Thread nD τ).loc main_arg0) = c3 Q.x
  h1 : m ((c.tc : Thread nD τ).loc main_arg1) = c3 Q.t
  h2 : m ((c.tc : Thread nD τ).loc main_arg2) = c3 Q.oM
  h3 : m ((c.tc : Thread nD τ).loc main_arg3) = c3 Q.oS
  h4 : m ((c.tc : Thread nD τ).loc main_arg4) = c3 Q.gM
  h5 : m ((c.tc : Thread nD τ).loc main_arg5) = c3 Q.gS
  h6 : m ((c.tc : Thread nD τ).loc main_arg6) = c2 Q.mod
  h7 : m ((c.tc : Thread nD τ).loc main_arg7) = c2 Q.ba
  h8 : m ((c.tc : Thread nD τ).loc main_arg8) = c1 Q.fg
  h9 : m ((c.tc : Thread nD τ).loc main_arg9) = c2 Q.W

theorem lt (t : Fin cfg0.N) : t.val < 16 := t.isLt

theorem in0 : ∀ t : Fin cfg0.N, win0_0.index t = ![t.val, 0] := (by decide +kernel : ∀ t : Fin grid0.N, _)
theorem in1 : ∀ t : Fin cfg0.N, win0_1.index t = ![t.val, 0] := (by decide +kernel : ∀ t : Fin grid0.N, _)
theorem in2 : ∀ t : Fin cfg0.N, win0_2.index t = ![t.val, 0] := (by decide +kernel : ∀ t : Fin grid0.N, _)
theorem in3 : ∀ t : Fin cfg0.N, win0_3.index t = ![t.val, 0] := (by decide +kernel : ∀ t : Fin grid0.N, _)
theorem in4 : ∀ t : Fin cfg0.N, win0_4.index t = ![t.val, 0] := (by decide +kernel : ∀ t : Fin grid0.N, _)
theorem in5 : ∀ t : Fin cfg0.N, win0_5.index t = ![t.val / 4, 0, 0] := (by decide +kernel : ∀ t : Fin grid0.N, _)
theorem in6 : ∀ t : Fin cfg0.N, win0_6.index t = ![0, 0] := (by decide +kernel : ∀ t : Fin grid0.N, _)
theorem in7 : ∀ t : Fin cfg0.N, win0_7.index t = ![0, 0] := (by decide +kernel : ∀ t : Fin grid0.N, _)
theorem in8 : ∀ t : Fin cfg0.N, win0_8.index t = ![0, 0] := (by decide +kernel : ∀ t : Fin grid0.N, _)

variable {m} {c : Dev nD} {Q : Args} (H : Holds m c Q) (t : Fin cfg0.N)

include H in
theorem a0 : V m c main_v3 = c2 Q.tile.x := by
  funext i; idx_vars i; entry_read; pointwise [H.h0, c3_apply]; rfl
include H in
theorem a1 : V m c main_v4 = c2 Q.tile.t := by
  funext i; idx_vars i; entry_read; pointwise [H.h1, c3_apply]; rfl
include H in
theorem a2 : V m c main_v5 = c2 Q.tile.oM := by
  funext i; idx_vars i; entry_read; pointwise [H.h2, c3_apply]; rfl
include H in
theorem a3 : V m c main_v6 = c2 Q.tile.oS := by
  funext i; idx_vars i; entry_read; pointwise [H.h3, c3_apply]; rfl
include H in
theorem a4 : V m c main_v2 = c2 Q.tile.g := by
  funext i; idx_vars i; entry_read; pointwise [H.h4, H.h5, c3_apply, c2_apply]
  show _ = ((side Q.gM Q.gS _ _ _ : ℝ) : EReal)
  unfold side; split_ifs <;> rfl
include H in
theorem a5 : V m c main_v7 = c3 fun q (_ : Fin 1) => Q.mod q := by
  funext i; idx_vars i; entry_read; pointwise [H.h6, c2_apply]; rfl
include H in
theorem a6 : V m c main_arg7 = c2 Q.ba := by
  rw [← H.h7]; exact V_main_arg7 m c
include H in
theorem a7 : V m c main_v8 = c2 (row Q.fg) := by
  funext i; idx_vars i; entry_read; pointwise [H.h8, c1_apply]; rfl
include H in
theorem a8 : V m c main_v9 = c2 Q.W := by
  funext i; idx_vars i; entry_read; pointwise [H.h9, c2_apply]

/-- A half of a block of a rank-2 array laid over all tokens. -/
theorem half_at {n : ℕ} (f : Fin 8192 → Fin n → ℝ) (a : ℕ) (h : Fin 2) (r : Fin 256) (k : Fin n) (ha : 512 * (t : ℕ) + a < 8192) (e : a = 256 * h + r) :
    f ⟨512 * t + a, ha⟩ k = f ⟨512 * t + (256 * h + r), e ▸ ha⟩ k := by
  subst e; rfl
include H in
theorem x0 : View.ld (iblk m c 0 t : Vec Ideal S512x1024 .f32) (Rect.unit (s := S512x1024) ![0, 0] ![256, 1024] inb_S512x1024_S256x1024_0_0) = c2 (Q.half t (lt t) 0).x := by
  have e : ∀ (r : Fin 512) (d : Fin 1024), iblk m c 0 t (ix2 r d) = V m c main_v3 (ix2 ⟨512 * t + r, by have := lt t; omega⟩ d) := fun r d => by blk_ext [iblk, in0 t]
  funext i; idx_vars i; pointwise [e, a0 H]
  exact congrArg _ (half_at t _ _ 0 i0 i1 _ (by simp))
include H in
theorem x1 : View.ld (iblk m c 0 t : Vec Ideal S512x1024 .f32) (Rect.unit (s := S512x1024) ![256, 0] ![256, 1024] inb_S512x1024_S256x1024_256_0) = c2 (Q.half t (lt t) 1).x := by
  have e : ∀ (r : Fin 512) (d : Fin 1024), iblk m c 0 t (ix2 r d) = V m c main_v3 (ix2 ⟨512 * t + r, by have := lt t; omega⟩ d) := fun r d => by blk_ext [iblk, in0 t]
  funext i; idx_vars i; pointwise [e, a0 H]
  exact congrArg _ (half_at t _ _ 1 i0 i1 _ (by simp))
include H in
theorem t0 : View.ld (iblk m c 1 t : Vec Ideal S512x1024 .f32) (Rect.unit (s := S512x1024) ![0, 0] ![256, 1024] inb_S512x1024_S256x1024_0_0) = c2 (Q.half t (lt t) 0).t := by
  have e : ∀ (r : Fin 512) (d : Fin 1024), iblk m c 1 t (ix2 r d) = V m c main_v4 (ix2 ⟨512 * t + r, by have := lt t; omega⟩ d) := fun r d => by blk_ext [iblk, in1 t]
  funext i; idx_vars i; pointwise [e, a1 H]
  exact congrArg _ (half_at t _ _ 0 i0 i1 _ (by simp))
include H in
theorem t1 : View.ld (iblk m c 1 t : Vec Ideal S512x1024 .f32) (Rect.unit (s := S512x1024) ![256, 0] ![256, 1024] inb_S512x1024_S256x1024_256_0) = c2 (Q.half t (lt t) 1).t := by
  have e : ∀ (r : Fin 512) (d : Fin 1024), iblk m c 1 t (ix2 r d) = V m c main_v4 (ix2 ⟨512 * t + r, by have := lt t; omega⟩ d) := fun r d => by blk_ext [iblk, in1 t]
  funext i; idx_vars i; pointwise [e, a1 H]
  exact congrArg _ (half_at t _ _ 1 i0 i1 _ (by simp))
include H in
theorem oM0 : View.ld (iblk m c 2 t : Vec Ideal S512x512 .f32) (Rect.unit (s := S512x512) ![0, 0] ![256, 512] inb_S512x512_S256x512_0_0) = c2 (Q.half t (lt t) 0).oM := by
  have e : ∀ (r : Fin 512) (d : Fin 512), iblk m c 2 t (ix2 r d) = V m c main_v5 (ix2 ⟨512 * t + r, by have := lt t; omega⟩ d) := fun r d => by blk_ext [iblk, in2 t]
  funext i; idx_vars i; pointwise [e, a2 H]
  exact congrArg _ (half_at t _ _ 0 i0 i1 _ (by simp))
include H in
theorem oM1 : View.ld (iblk m c 2 t : Vec Ideal S512x512 .f32) (Rect.unit (s := S512x512) ![256, 0] ![256, 512] inb_S512x512_S256x512_256_0) = c2 (Q.half t (lt t) 1).oM := by
  have e : ∀ (r : Fin 512) (d : Fin 512), iblk m c 2 t (ix2 r d) = V m c main_v5 (ix2 ⟨512 * t + r, by have := lt t; omega⟩ d) := fun r d => by blk_ext [iblk, in2 t]
  funext i; idx_vars i; pointwise [e, a2 H]
  exact congrArg _ (half_at t _ _ 1 i0 i1 _ (by simp))
include H in
theorem oS0 : View.ld (iblk m c 3 t : Vec Ideal S512x512 .f32) (Rect.unit (s := S512x512) ![0, 0] ![256, 512] inb_S512x512_S256x512_0_0) = c2 (Q.half t (lt t) 0).oS := by
  have e : ∀ (r : Fin 512) (d : Fin 512), iblk m c 3 t (ix2 r d) = V m c main_v6 (ix2 ⟨512 * t + r, by have := lt t; omega⟩ d) := fun r d => by blk_ext [iblk, in3 t]
  funext i; idx_vars i; pointwise [e, a3 H]
  exact congrArg _ (half_at t _ _ 0 i0 i1 _ (by simp))
include H in
theorem oS1 : View.ld (iblk m c 3 t : Vec Ideal S512x512 .f32) (Rect.unit (s := S512x512) ![256, 0] ![256, 512] inb_S512x512_S256x512_256_0) = c2 (Q.half t (lt t) 1).oS := by
  have e : ∀ (r : Fin 512) (d : Fin 512), iblk m c 3 t (ix2 r d) = V m c main_v6 (ix2 ⟨512 * t + r, by have := lt t; omega⟩ d) := fun r d => by blk_ext [iblk, in3 t]
  funext i; idx_vars i; pointwise [e, a3 H]
  exact congrArg _ (half_at t _ _ 1 i0 i1 _ (by simp))
include H in
theorem g0 : View.ld (iblk m c 4 t : Vec Ideal S512x1024 .f32) (Rect.unit (s := S512x1024) ![0, 0] ![256, 1024] inb_S512x1024_S256x1024_0_0) = c2 (Q.half t (lt t) 0).g := by
  have e : ∀ (r : Fin 512) (d : Fin 1024), iblk m c 4 t (ix2 r d) = V m c main_v2 (ix2 ⟨512 * t + r, by have := lt t; omega⟩ d) := fun r d => by blk_ext [iblk, in4 t]
  funext i; idx_vars i; pointwise [e, a4 H]
  exact congrArg _ (half_at t _ _ 0 i0 i1 _ (by simp))
include H in
theorem g1 : View.ld (iblk m c 4 t : Vec Ideal S512x1024 .f32) (Rect.unit (s := S512x1024) ![256, 0] ![256, 1024] inb_S512x1024_S256x1024_256_0) = c2 (Q.half t (lt t) 1).g := by
  have e : ∀ (r : Fin 512) (d : Fin 1024), iblk m c 4 t (ix2 r d) = V m c main_v2 (ix2 ⟨512 * t + r, by have := lt t; omega⟩ d) := fun r d => by blk_ext [iblk, in4 t]
  funext i; idx_vars i; pointwise [e, a4 H]
  exact congrArg _ (half_at t _ _ 1 i0 i1 _ (by simp))
include H in
theorem mod_block : (iblk m c 5 t : FVec Ideal S1x1x3072 .f32) = c3 fun (_ _ : Fin 1) => Q.mod ⟨t / 4, by have := lt t; omega⟩ := by
  have e : ∀ (p q : Fin 1) (d : Fin 3072), iblk m c 5 t (ix3 p q d) = V m c main_v7 (ix3 ⟨t / 4, by have := lt t; omega⟩ 0 d) := fun p q d => by blk_ext [iblk, in5 t]
  funext i; idx_vars i; pointwise [e, a5 H]; rfl
include H in
theorem ba_block : View.ld (iblk m c 6 t : Vec Ideal S1x3072 .f32) (Rect.unit (s := S1x3072) ![0, 2048] ![1, 1024] inb_S1x3072_S1x1024_0_2048) = c2 (row fun d => Q.ba 0 ⟨2048 + d, by omega⟩) := by
  have e : ∀ (q : Fin 1) (d : Fin 3072), iblk m c 6 t (ix2 q d) = V m c main_arg7 (ix2 0 d) := fun q d => by blk_ext [iblk, in6 t]
  funext i; idx_vars i; pointwise [e, a6 H]; rfl
include H in
theorem fg_block : (iblk m c 7 t : FVec Ideal S1x1024 .f32) = c2 (row Q.fg) := by
  have e : ∀ (q : Fin 1) (d : Fin 1024), iblk m c 7 t (ix2 q d) = V m c main_v8 (ix2 0 d) := fun q d => by blk_ext [iblk, in7 t]
  funext i; idx_vars i; pointwise [e, a7 H]; rfl
include H in
theorem W_block : (iblk m c 8 t : FVec Ideal S1024x1024 .bf16) = c2 Q.W := by
  have e : ∀ (q : Fin 1024) (d : Fin 1024), iblk m c 8 t (ix2 q d) = V m c main_v9 (ix2 q d) := fun q d => by blk_ext [iblk, in8 t]
  funext i; idx_vars i; pointwise [e, a8 H]

theorem gt_row (Q : Args) (q : Fin 4) : (fun d : Fin 1024 => Q.mod q ⟨2048 + d, by omega⟩ + Q.ba 0 ⟨2048 + d, by omega⟩) = Q.gt q := rfl

end Cert.Post1

end
-- ==== Proof.PostOut.lean ====
/- What the body of the output part's backward call leaves at each grid point. -/
module

public import proofs.«01_k».proof.Proof.PostBlocks

@[expose] public section

set_option maxRecDepth 16384

noncomputable section

namespace Cert.Post1

open Idealize.ShloMosaic Idealize.ShloMosaic.TcCoe Idealize.SL.Sem Cert.PostIdeal Cert.PostIdeal.Gen Cert.Coe

variable {m : (ℓ : Loc nD τ sig) → Buf (Elt Ideal) ℓ}

variable {c : Dev nD} {Q : Args} (H : Holds m c Q) (t : Fin cfg0.N)

/-- An entry of a half's array is the entry of the array over all rows. -/
theorem half_c2 {t : ℕ} {ht : t < 16} (h : Fin 2) (f : Fin 8192 → Fin 1024 → ℝ) (g : Fin 256 → Fin 1024 → ℝ)
    (hg : ∀ r k, g r k = f ⟨512 * t + (256 * h + r), by omega⟩ k) (x : Shape.Idx ⟨2, ![256, 1024]⟩) (y : Shape.Idx ⟨2, ![512, 1024]⟩)
    (h0 : (y 0 : ℕ) = 256 * h + x 0) (h1 : (y 1 : ℕ) = x 1) :
    c2 g x = c2 (fun (r : Fin 512) k => f ⟨512 * t + r, by omega⟩ k) y := by
  idx_vars x; idx_vars y
  change (y0 : ℕ) = 256 * h + x0 at h0
  obtain rfl : y1 = x1 := Fin.ext h1
  rw [c2_apply, c2_apply, hg]
  simp only [h0]

/-- The same for the row sums of some heads. -/
theorem half_del2 {t : ℕ} {ht : t < 16} (h : Fin 2) (Q : Args) (x : Shape.Idx ⟨2, ![8, 256]⟩) (y : Shape.Idx ⟨2, ![8, 512]⟩)
    (h0 : (y 0 : ℕ) = x 0) (h1 : (y 1 : ℕ) = 256 * h + x 1) :
    c2 (fun (a : Fin 8) r => (Q.half t ht h).del r ⟨8 + a, by omega⟩) x = c2 (fun (a : Fin 8) (r : Fin 512) => Q.tile.del ⟨512 * t + r, by omega⟩ ⟨8 + a, by omega⟩) y := by
  idx_vars x; idx_vars y
  change (y1 : ℕ) = 256 * h + x1 at h1
  obtain rfl : y0 = x0 := Fin.ext h0
  rw [c2_apply, c2_apply]
  simp only [h1]; rfl

theorem half_del3 {t : ℕ} {ht : t < 16} (h p : Fin 2) (Q : Args) (g : Fin 256 → Fin 4 → ℝ)
    (hg : ∀ r a, g r a = (Q.half t ht h).del r ⟨4 * p + a, by omega⟩) (x : Shape.Idx ⟨3, ![1, 4, 256]⟩) (y : Shape.Idx ⟨3, ![2, 4, 512]⟩)
    (h0 : (y 0 : ℕ) = p + x 0) (h1 : (y 1 : ℕ) = x 1) (h2 : (y 2 : ℕ) = 256 * h + x 2) :
    c3 (fun (_ : Fin 1) (a : Fin 4) r => g r a) x = c3 (fun (p : Fin 2) (a : Fin 4) (r : Fin 512) => Q.tile.del ⟨512 * t + r, by omega⟩ ⟨4 * p + a, by omega⟩) y := by
  idx_vars x; idx_vars y
  change (y0 : ℕ) = p + x0 at h0
  obtain rfl : y0 = p := Fin.ext (by omega)
  obtain rfl : y1 = x1 := Fin.ext h1
  change (y2 : ℕ) = 256 * h + x2 at h2
  rw [c3_apply, c3_apply, hg]
  simp only [h2]; rfl

/-- A point's sum is the sum over its two halves. -/
theorem two_halves (f : Fin 8192 → ℝ) (t : ℕ) (ht : t < 16) :
    ∑ r : Fin 256, f ⟨512 * t + (256 * (0 : Fin 2) + r), by omega⟩ + ∑ r : Fin 256, f ⟨512 * t + (256 * (1 : Fin 2) + r), by omega⟩
      = ∑ r : Fin 512, f ⟨512 * t + r, by omega⟩ := by
  rw [Fin.sum_univ_tiles (N := 512) 2 256 rfl, Fin.sum_univ_two]
  refine congrArg₂ (· + ·) (Finset.sum_congr rfl fun r _ => congrArg f (Fin.ext ?_)) (Finset.sum_congr rfl fun r _ => congrArg f (Fin.ext ?_)) <;> simp

/-- A point's part of the projection's gradient. -/
def gwAt (Q : Args) (t : Fin cfg0.N) (y : S1024x1024.Idx) : EReal :=
  ((∑ r : Fin 512, Q.tile.yp ⟨512 * t + r, by have := lt t; omega⟩ (y 0) * Q.tile.dy ⟨512 * t + r, by have := lt t; omega⟩ (y 1) : ℝ) : EReal)
/-- A point's part of the final gain's gradient. -/
def gfgAt (Q : Args) (t : Fin cfg0.N) (y : S1x1024.Idx) : EReal :=
  (((∑ r : Fin 512, Q.tile.err ⟨512 * t + r, by have := lt t; omega⟩ (y 1) * Q.tile.xn ⟨512 * t + r, by have := lt t; omega⟩ (y 1)) * (1 / 1024) : ℝ) : EReal)
/-- A point's part of the modulation gate's gradient. -/
def dgateAt (Q : Args) (t : Fin cfg0.N) (y : S1x1x1024.Idx) : EReal :=
  ((∑ r : Fin 512, Q.tile.dx2 ⟨512 * t + r, by have := lt t; omega⟩ (y 2) * Q.tile.y ⟨512 * t + r, by have := lt t; omega⟩ (y 2) : ℝ) : EReal)
/-- A point's part of the loss. -/
def lossAt (Q : Args) (t : Fin cfg0.N) (y : S1x128.Idx) : EReal :=
  (((∑ r : Fin 512, ∑ d : Fin 1024, Q.tile.err ⟨512 * t + r, by have := lt t; omega⟩ d * Q.tile.err ⟨512 * t + r, by have := lt t; omega⟩ d) * (1 / 2048) : ℝ) : EReal)

set_option maxHeartbeats 2000000 in
include H in
/-- The rows a point writes. -/
theorem rows_out :
    (∀ y, (outsAt0 m c t.val t.isLt).1 y = c2 (fun (r : Fin 512) d => Q.tile.dx2 ⟨512 * t + r, by have := lt t; omega⟩ d) y)
    ∧ (∀ y, (outsAt0 m c t.val t.isLt).2.1 y = c2 (fun (r : Fin 512) d => Q.tile.dov ⟨512 * t + r, by have := lt t; omega⟩ d) y)
    ∧ (∀ y, (outsAt0 m c t.val t.isLt).2.2.1 y = c2 (fun (r : Fin 512) d => Q.tile.dg ⟨512 * t + r, by have := lt t; omega⟩ d) y)
    ∧ (∀ y, (outsAt0 m c t.val t.isLt).2.2.2.2.2.2.2.1 y = c3 (fun (p : Fin 2) (h : Fin 4) (r : Fin 512) => Q.tile.del ⟨512 * t + r, by have := lt t; omega⟩ ⟨4 * p + h, by omega⟩) y)
    ∧ (∀ y, (outsAt0 m c t.val t.isLt).2.2.2.2.2.2.2.2 y = c2 (fun (h : Fin 8) (r : Fin 512) => Q.tile.del ⟨512 * t + r, by have := lt t; omega⟩ ⟨8 + h, by omega⟩) y) := by
  have hc : t.val % 16 = 0 ∧ t.val % 4 = 0 ∨ ¬t.val % 16 = 0 ∧ ¬t.val % 4 = 0 ∨ ¬t.val % 16 = 0 ∧ t.val % 4 = 0 := by omega
  rcases hc with ⟨h0, h1⟩ | ⟨h0, h1⟩ | ⟨h0, h1⟩
  all_goals first | rw [outsAt0_A m c t h0 h1] | rw [outsAt0_B m c t h0 h1] | rw [outsAt0_C m c t h0 h1]
  all_goals refine ⟨fun y => ?_, fun y => ?_, fun y => ?_, fun y => ?_, fun y => ?_⟩
  all_goals frame_out
  all_goals simp only [x0 H, x1 H, t0 H, t1 H, oM0 H, oM1 H, oS0 H, oS1 H, g0 H, g1 H, mod_block H, ba_block H, fg_block H, W_block H,
    p12, gt_row, p13, p14, p15, p16, p17, p20, p22, p18, p24, p26, p19, p21, p23, p25, p27, p28, p29, p39, p30, p40, p31, p41, p32, p42, p33, p43,
    p34, p44, p35, p45, p36, p38, p46, p51, p52, p54, p2, p7, p1, p55, p3, p56, p57, p58, p4, p5, p6, p47, p48, p49, p50, z8, z9, z10, z11,
    half_fg Q t (lt t), half_W Q t (lt t), half_gate Q t (lt t)]
  all_goals clear h0 h1 H
  all_goals first
    | (canon_tiles x h
       · exact half_c2 (ht := lt t) 1 Q.tile.dx2 (Q.half t (lt t) 1).dx2 (fun _ _ => rfl) x y (by rw [h0]; simp) h1
       · exact half_c2 (ht := lt t) 0 Q.tile.dx2 (Q.half t (lt t) 0).dx2 (fun _ _ => rfl) x y (by rw [h0]; simp) h1)
    | (canon_tiles x h
       · exact half_c2 (ht := lt t) 1 Q.tile.dov (Q.half t (lt t) 1).dov (fun _ _ => rfl) x y (by rw [h0]; simp) h1
       · exact half_c2 (ht := lt t) 0 Q.tile.dov (Q.half t (lt t) 0).dov (fun _ _ => rfl) x y (by rw [h0]; simp) h1)
    | (canon_tiles x h
       · exact half_c2 (ht := lt t) 1 Q.tile.dg (Q.half t (lt t) 1).dg (fun _ _ => rfl) x y (by rw [h0]; simp) h1
       · exact half_c2 (ht := lt t) 0 Q.tile.dg (Q.half t (lt t) 0).dg (fun _ _ => rfl) x y (by rw [h0]; simp) h1)
    | (canon_tiles x h
       · exact half_del2 (ht := lt t) 1 Q x y h0 (by rw [h1]; simp)
       · exact half_del2 (ht := lt t) 0 Q x y h0 (by rw [h1]; simp))
    | (canon_tiles x h
       · exact half_del3 (ht := lt t) 1 1 Q _ (fun _ _ => rfl) x y (by rw [h0]; simp) h1 (by rw [h2]; simp)
       · exact half_del3 (ht := lt t) 1 0 Q _ (fun _ _ => congrArg _ (Fin.ext (by simp))) x y (by rw [h0]; simp) h1 (by rw [h2]; simp)
       · exact half_del3 (ht := lt t) 0 1 Q _ (fun _ _ => rfl) x y (by rw [h0]; simp) h1 (by rw [h2]; simp)
       · exact half_del3 (ht := lt t) 0 0 Q _ (fun _ _ => congrArg _ (Fin.ext (by simp))) x y (by rw [h0]; simp) h1 (by rw [h2]; simp))
include H in
/-- A first point starts the sums over all tokens. -/
theorem sums_first (h0 : t.val % 16 = 0) :
    (∀ y, (outsAt0 m c t.val t.isLt).2.2.2.1 y = 0 + gwAt Q t y)
    ∧ (∀ y, (outsAt0 m c t.val t.isLt).2.2.2.2.1 y = 0 + gfgAt Q t y)
    ∧ (∀ y, (outsAt0 m c t.val t.isLt).2.2.2.2.2.2.1 y = 0 + lossAt Q t y) := by
  rw [outsAt0_A m c t h0 (by omega)]
  refine ⟨fun y => ?_, fun y => ?_, fun y => ?_⟩
  all_goals frame_out
  all_goals simp only [x0 H, x1 H, t0 H, t1 H, oM0 H, oM1 H, oS0 H, oS1 H, g0 H, g1 H, mod_block H, ba_block H, fg_block H, W_block H,
    p12, gt_row, p13, p14, p15, p16, p17, p20, p22, p18, p24, p26, p19, p21, p23, p25, p27, p28, p29, p39, p30, p40, p31, p41, p32, p42, p33, p43,
    p34, p44, p35, p45, p36, p38, p46, p51, p52, p54, p2, p7, p1, p55, p3, p56, p57, p58, p4, p5, p6, p47, p48, p49, p50, z8, z9, z10, z11,
    half_fg Q t (lt t), half_W Q t (lt t), half_gate Q t (lt t)]
  · exact congrArg (fun v : ℝ => 0 + (v : EReal)) (two_halves (fun n => Q.tile.yp n (y 0) * Q.tile.dy n (y 1)) t (lt t))
  · exact congrArg (fun v : ℝ => 0 + ((v * (1 / 1024) : ℝ) : EReal)) (two_halves (fun n => Q.tile.err n (y 1) * Q.tile.xn n (y 1)) t (lt t))
  · exact congrArg (fun v : ℝ => 0 + ((v * (1 / 2048) : ℝ) : EReal)) (two_halves (fun n => ∑ d, Q.tile.err n d * Q.tile.err n d) t (lt t))
include H in
/-- A later point adds to them. -/
theorem sums_step (h0 : ¬t.val % 16 = 0) :
    (∀ y, (outsAt0 m c t.val t.isLt).2.2.2.1 y = (outsAt0 m c (t.val - 1) (Nat.lt_of_le_of_lt (Nat.sub_le _ _) t.isLt)).2.2.2.1 y + gwAt Q t y)
    ∧ (∀ y, (outsAt0 m c t.val t.isLt).2.2.2.2.1 y = (outsAt0 m c (t.val - 1) (Nat.lt_of_le_of_lt (Nat.sub_le _ _) t.isLt)).2.2.2.2.1 y + gfgAt Q t y)
    ∧ (∀ y, (outsAt0 m c t.val t.isLt).2.2.2.2.2.2.1 y = (outsAt0 m c (t.val - 1) (Nat.lt_of_le_of_lt (Nat.sub_le _ _) t.isLt)).2.2.2.2.2.2.1 y + lossAt Q t y) := by
  by_cases h1 : t.val % 4 = 0
  all_goals refine ⟨fun y => ?_, fun y => ?_, fun y => ?_⟩
  all_goals first | rw [outsAt0_B m c t h0 h1] | rw [outsAt0_C m c t h0 h1]
  all_goals frame_out
  all_goals simp only [x0 H, x1 H, t0 H, t1 H, oM0 H, oM1 H, oS0 H, oS1 H, g0 H, g1 H, mod_block H, ba_block H, fg_block H, W_block H,
    p12, gt_row, p13, p14, p15, p16, p17, p20, p22, p18, p24, p26, p19, p21, p23, p25, p27, p28, p29, p39, p30, p40, p31, p41, p32, p42, p33, p43,
    p34, p44, p35, p45, p36, p38, p46, p51, p52, p54, p2, p7, p1, p55, p3, p56, p57, p58, p4, p5, p6, p47, p48, p49, p50, z8, z9, z10, z11,
    half_fg Q t (lt t), half_W Q t (lt t), half_gate Q t (lt t)]
  all_goals first
    | exact congrArg (fun v : ℝ => _ + (v : EReal)) (two_halves (fun n => Q.tile.yp n (y 0) * Q.tile.dy n (y 1)) t (lt t))
    | exact congrArg (fun v : ℝ => _ + ((v * (1 / 1024) : ℝ) : EReal)) (two_halves (fun n => Q.tile.err n (y 1) * Q.tile.xn n (y 1)) t (lt t))
    | exact congrArg (fun v : ℝ => _ + ((v * (1 / 2048) : ℝ) : EReal)) (two_halves (fun n => ∑ d, Q.tile.err n d * Q.tile.err n d) t (lt t))
include H in
/-- A sequence's first point starts the modulation gate's sum. -/
theorem dgate_first (h1 : t.val % 4 = 0) (y) : (outsAt0 m c t.val t.isLt).2.2.2.2.2.1 y = 0 + dgateAt Q t y := by
  by_cases h0 : t.val % 16 = 0
  all_goals first | rw [outsAt0_A m c t h0 h1] | rw [outsAt0_C m c t h0 h1]
  all_goals frame_out
  all_goals simp only [x0 H, x1 H, t0 H, t1 H, oM0 H, oM1 H, oS0 H, oS1 H, g0 H, g1 H, mod_block H, ba_block H, fg_block H, W_block H,
    p12, gt_row, p13, p14, p15, p16, p17, p20, p22, p18, p24, p26, p19, p21, p23, p25, p27, p28, p29, p39, p30, p40, p31, p41, p32, p42, p33, p43,
    p34, p44, p35, p45, p36, p38, p46, p51, p52, p54, p2, p7, p1, p55, p3, p56, p57, p58, p4, p5, p6, p47, p48, p49, p50, z8, z9, z10, z11,
    half_fg Q t (lt t), half_W Q t (lt t), half_gate Q t (lt t)]
  all_goals exact congrArg (fun v : ℝ => 0 + (v : EReal)) (two_halves (fun n => Q.tile.dx2 n (y 2) * Q.tile.y n (y 2)) t (lt t))
include H in
/-- A later one adds to it. -/
theorem dgate_step (h1 : ¬t.val % 4 = 0) (y) :
    (outsAt0 m c t.val t.isLt).2.2.2.2.2.1 y = (outsAt0 m c (t.val - 1) (Nat.lt_of_le_of_lt (Nat.sub_le _ _) t.isLt)).2.2.2.2.2.1 y + dgateAt Q t y := by
  rw [outsAt0_B m c t (by omega) h1]
  frame_out
  simp only [x0 H, x1 H, t0 H, t1 H, oM0 H, oM1 H, oS0 H, oS1 H, g0 H, g1 H, mod_block H, ba_block H, fg_block H, W_block H,
    p12, gt_row, p13, p14, p15, p16, p17, p20, p22, p18, p24, p26, p19, p21, p23, p25, p27, p28, p29, p39, p30, p40, p31, p41, p32, p42, p33, p43,
    p34, p44, p35, p45, p36, p38, p46, p51, p52, p54, p2, p7, p1, p55, p3, p56, p57, p58, p4, p5, p6, p47, p48, p49, p50, z8, z9, z10, z11,
    half_fg Q t (lt t), half_W Q t (lt t), half_gate Q t (lt t)]
  exact congrArg (fun v : ℝ => _ + (v : EReal)) (two_halves (fun n => Q.tile.dx2 n (y 2) * Q.tile.y n (y 2)) t (lt t))

end Cert.Post1

end
-- ==== Proof.PostFinal.lean ====
/- The arrays the output part's backward call leaves, over the whole token axis. -/
module

public import proofs.«01_k».proof.Proof.PostOut

@[expose] public section

set_option maxRecDepth 16384

noncomputable section

namespace Cert.Post1

open Idealize.ShloMosaic Idealize.ShloMosaic.TcCoe Idealize.SL.Sem Cert.PostIdeal Cert.PostIdeal.Gen Cert.Coe
open Idealize.ShloMosaic.Pipeline (Dat)

theorem out_at9 : ∀ t : Fin cfg0.N, win0_9.index t = ![t.val, 0] := (by decide +kernel : ∀ t : Fin grid0.N, _)
theorem out_at10 : ∀ t : Fin cfg0.N, win0_10.index t = ![t.val, 0] := (by decide +kernel : ∀ t : Fin grid0.N, _)
theorem out_at11 : ∀ t : Fin cfg0.N, win0_11.index t = ![t.val, 0] := (by decide +kernel : ∀ t : Fin grid0.N, _)
theorem out_at12 : ∀ t : Fin cfg0.N, win0_12.index t = ![0, 0] := (by decide +kernel : ∀ t : Fin grid0.N, _)
theorem out_at13 : ∀ t : Fin cfg0.N, win0_13.index t = ![0, 0] := (by decide +kernel : ∀ t : Fin grid0.N, _)
theorem out_at14 : ∀ t : Fin cfg0.N, win0_14.index t = ![t.val / 4, 0, 0] := (by decide +kernel : ∀ t : Fin grid0.N, _)
theorem out_at15 : ∀ t : Fin cfg0.N, win0_15.index t = ![0, 0] := (by decide +kernel : ∀ t : Fin grid0.N, _)
theorem out_at16 : ∀ t : Fin cfg0.N, win0_16.index t = ![0, 0, t.val] := (by decide +kernel : ∀ t : Fin grid0.N, _)
theorem out_at17 : ∀ t : Fin cfg0.N, win0_17.index t = ![0, t.val] := (by decide +kernel : ∀ t : Fin grid0.N, _)

/-- An entry of a block of rows is the entry of the array. -/
theorem at_rows {n : ℕ} (f : Fin 8192 → Fin n → ℝ) {t : ℕ} (ht : t < 16) (y : Shape.Idx ⟨2, ![512, n]⟩) (j : Shape.Idx ⟨2, ![8192, n]⟩)
    (h0 : (j 0 : ℕ) = 512 * t + y 0) (h1 : (j 1 : ℕ) = y 1) :
    c2 (fun (r : Fin 512) d => f ⟨512 * t + r, by omega⟩ d) y = c2 f j := by
  have e0 : (j 0 : Fin 8192) = ⟨512 * t + (y 0 : Fin 512), by have := (y 0 : Fin 512).isLt; omega⟩ := Fin.ext h0
  have e1 : (j 1 : Fin n) = y 1 := Fin.ext h1
  show ((f _ (y 1) : ℝ) : EReal) = ((f (j 0) (j 1) : ℝ) : EReal)
  exact congrArg (fun v : ℝ => (v : EReal)) (congrArg₂ f e0 e1).symm

/-- The points' parts of a sum over all rows make the sum. -/
theorem all_points (f : Fin 8192 → ℝ) (k : ℝ) {N : ℕ} (g : Fin N → EReal) (hN : N = 16) (hg : ∀ s : Fin N, g s = (((∑ r : Fin 512, f ⟨512 * s + r, by omega⟩) * k : ℝ) : EReal)) :
    ∑ s, g s = (((∑ n, f n) * k : ℝ) : EReal) := by
  subst hN
  simp only [hg, coe_sum]
  rw [← Finset.sum_mul, Fin.sum_univ_tiles (N := 8192) 16 512 rfl]
  simp only [mul_comm 512]

/-- The four points of a sequence make a sum over its rows. -/
theorem four_points (f : Fin 8192 → ℝ) (q : Fin 4) {N : ℕ} (g : Fin N → EReal) (hN : N = 4)
    (hg : ∀ s : Fin N, g s = ((∑ r : Fin 512, f ⟨512 * (4 * q + s) + r, by omega⟩ : ℝ) : EReal)) :
    ∑ s, g s = ((∑ s : Fin 2048, f ⟨2048 * q + s, by omega⟩ : ℝ) : EReal) := by
  subst hN
  simp only [hg, coe_sum]
  rw [Fin.sum_univ_tiles (N := 2048) 4 512 rfl]
  refine congrArg _ (Finset.sum_congr rfl fun s _ => Finset.sum_congr rfl fun r _ => congrArg f (Fin.ext ?_))
  simp only; omega

variable {m : (ℓ : Loc nD τ sig) → Buf (Elt Ideal) ℓ} {c : Dev nD} {Q : Args} (H : Holds m c Q)
include H

theorem all9 : (dats m 0 c).arrAt 9 (cfgs 0).N = (c2 Q.tile.dx2 : Shape.Idx ⟨2, ![8192, 1024]⟩ → EReal) := by
  refine (dats m 0 c).arrAt_eq_of_covers 9 _ (by decide +kernel) fun t hf y => ?_
  blk_simp
  rw [after0_9, (rows_out H t).1]
  exact at_rows Q.tile.dx2 (lt t) y _ (by blk_simp [out_at9 t]; omega) (by blk_simp [out_at9 t])
theorem all10 : (dats m 0 c).arrAt 10 (cfgs 0).N = (c2 Q.tile.dov : Shape.Idx ⟨2, ![8192, 1024]⟩ → EReal) := by
  refine (dats m 0 c).arrAt_eq_of_covers 10 _ (by decide +kernel) fun t hf y => ?_
  blk_simp
  rw [after0_10, (rows_out H t).2.1]
  exact at_rows Q.tile.dov (lt t) y _ (by blk_simp [out_at10 t]; omega) (by blk_simp [out_at10 t])
theorem all11 : (dats m 0 c).arrAt 11 (cfgs 0).N = (c2 Q.tile.dg : Shape.Idx ⟨2, ![8192, 1024]⟩ → EReal) := by
  refine (dats m 0 c).arrAt_eq_of_covers 11 _ (by decide +kernel) fun t hf y => ?_
  blk_simp
  rw [after0_11, (rows_out H t).2.2.1]
  exact at_rows Q.tile.dg (lt t) y _ (by blk_simp [out_at11 t]; omega) (by blk_simp [out_at11 t])

theorem all12 : (dats m 0 c).arrAt 12 (cfgs 0).N = (c2 fun k d => ∑ n, Q.tile.yp n k * Q.tile.dy n d : FVec Ideal S1024x1024 .f32) := by
  refine (dats m 0 c).arrAt_eq_of_covers 12 _ (by decide +kernel) fun t hf y => ?_
  blk_simp
  rw [after0_12, Pipeline.eq_sum_fin_of_reset_step_apply_of_flush (fun n h => (outsAt0 m c n h).2.2.2.1) 16 (fun _ => 0) (gwAt Q)
    (fun t h j => (sums_first H t h).1 j) (fun t h j => (sums_step H t h).1 j) t ((flush0_12 t).mp hf) _, zero_add]
  have h0 : ((win0_12.blk t).view.emb y 0 : ℕ) = y 0 := by blk_simp [out_at12 t]
  have h1 : ((win0_12.blk t).view.emb y 1 : ℕ) = y 1 := by blk_simp [out_at12 t]
  refine (all_points (fun n => Q.tile.yp n (y 0) * Q.tile.dy n (y 1)) 1 _ rfl fun s => ?_).trans ?_
  · have := lt t
    have e : 16 * ((t : ℕ) / 16) + s = s := by omega
    rw [mul_one]; simp only [gwAt, e]
  · rw [mul_one, ← (Fin.ext h0 : ((win0_12.blk t).view.emb y 0 : Fin 1024) = y 0), ← (Fin.ext h1 : ((win0_12.blk t).view.emb y 1 : Fin 1024) = y 1)]; rfl
theorem all13 : (dats m 0 c).arrAt 13 (cfgs 0).N = (c2 (row fun d => (∑ n, Q.tile.err n d * Q.tile.xn n d) * (1 / 1024)) : FVec Ideal S1x1024 .f32) := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 16 (fun _ => 0) (gfgAt Q)
    (fun t h j => (sums_first H t h).2.1 j) (fun t h j => (sums_step H t h).2.1 j) t ((flush0_13 t).mp hf) _, zero_add]
  have h1 : ((win0_13.blk t).view.emb y 1 : ℕ) = y 1 := by blk_simp [out_at13 t]
  refine (all_points (fun n => Q.tile.err n (y 1) * Q.tile.xn n (y 1)) (1 / 1024) _ rfl fun s => ?_).trans ?_
  · have := lt t
    have e : 16 * ((t : ℕ) / 16) + s = s := by omega
    simp only [gfgAt, e]
  · rw [← (Fin.ext h1 : ((win0_13.blk t).view.emb y 1 : Fin 1024) = y 1)]; rfl
theorem all15 : (dats m 0 c).arrAt 15 (cfgs 0).N = (c2 (fun _ _ => (∑ n, ∑ d, Q.tile.err n d * Q.tile.err n d) * (1 / 2048)) : FVec Ideal S1x128 .f32) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.1) 16 (fun _ => 0) (lossAt Q)
    (fun t h j => (sums_first H t h).2.2 j) (fun t h j => (sums_step H t h).2.2 j) t ((flush0_15 t).mp hf) _, zero_add]
  refine (all_points (fun n => ∑ d, Q.tile.err n d * Q.tile.err n d) (1 / 2048) _ rfl fun s => ?_).trans rfl
  have := lt t
  have e : 16 * ((t : ℕ) / 16) + s = s := by omega
  simp only [lossAt, e]
theorem all14 : (dats m 0 c).arrAt 14 (cfgs 0).N = (c3 fun (q : Fin 4) (_ : Fin 1) d => ∑ s : Fin 2048, Q.tile.dx2 ⟨2048 * q + s, by omega⟩ d * Q.tile.y ⟨2048 * q + s, by omega⟩ d : FVec Ideal S4x1x1024 .f32) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 4 (fun _ => 0) (dgateAt Q)
    (fun t h j => dgate_first H t h j) (fun t h j => dgate_step H t h j) t ((flush0_14 t).mp hf) _, zero_add]
  have h0 : ((win0_14.blk t).view.emb y 0 : ℕ) = t / 4 := by blk_simp [out_at14 t]
  have h2 : ((win0_14.blk t).view.emb y 2 : ℕ) = y 2 := by blk_simp [out_at14 t]
  refine (four_points (fun n => Q.tile.dx2 n (y 2) * Q.tile.y n (y 2)) ⟨t / 4, by have := lt t; omega⟩ _ rfl fun s => rfl).trans ?_
  exact congrArg (fun v : ℝ => (v : EReal)) (congrArg₂ (fun (q : Fin 4) (d : Fin 1024) => ∑ s : Fin 2048, Q.tile.dx2 ⟨2048 * q + s, by omega⟩ d * Q.tile.y ⟨2048 * q + s, by omega⟩ d)
    (Fin.ext h0.symm) (Fin.ext h2.symm))
theorem all16 : (dats m 0 c).arrAt 16 (cfgs 0).N = (c3 fun (p : Fin 2) (h : Fin 4) n => Q.tile.del n ⟨4 * p + h, by omega⟩ : FVec Ideal S2x4x8192 .f32) := by
  refine (dats m 0 c).arrAt_eq_of_covers 16 _ (by decide +kernel) fun t hf y => ?_
  blk_simp
  rw [after0_16, (rows_out H t).2.2.2.1]
  have h0 : ((win0_16.blk t).view.emb y 0 : ℕ) = y 0 := by blk_simp [out_at16 t]
  have h1 : ((win0_16.blk t).view.emb y 1 : ℕ) = y 1 := by blk_simp [out_at16 t]
  have h2 : ((win0_16.blk t).view.emb y 2 : ℕ) = 512 * t + y 2 := by blk_simp [out_at16 t]; omega
  generalize (win0_16.blk t).view.emb y = j at h0 h1 h2 ⊢
  show ((Q.tile.del _ _ : ℝ) : EReal) = ((Q.tile.del (j 2 : Fin 8192) ⟨4 * (j 0 : Fin 2) + (j 1 : Fin 4), _⟩ : ℝ) : EReal)
  refine congrArg (fun v : ℝ => (v : EReal)) (congrArg₂ Q.tile.del (Fin.ext h2.symm) (Fin.ext ?_))
  show 4 * (y 0 : ℕ) + (y 1 : ℕ) = 4 * (j 0 : ℕ) + (j 1 : ℕ)
  rw [h0, h1]
theorem all17 : (dats m 0 c).arrAt 17 (cfgs 0).N = (c2 fun (h : Fin 8) n => Q.tile.del n ⟨8 + h, by omega⟩ : FVec Ideal S8x8192 .f32) := by
  refine (dats m 0 c).arrAt_eq_of_covers 17 _ (by decide +kernel) fun t hf y => ?_
  blk_simp
  rw [after0_17, (rows_out H t).2.2.2.2]
  have h0 : ((win0_17.blk t).view.emb y 0 : ℕ) = y 0 := by blk_simp [out_at17 t]
  have h1 : ((win0_17.blk t).view.emb y 1 : ℕ) = 512 * t + y 1 := by blk_simp [out_at17 t]; omega
  generalize (win0_17.blk t).view.emb y = j at h0 h1 ⊢
  show ((Q.tile.del _ _ : ℝ) : EReal) = ((Q.tile.del (j 1 : Fin 8192) ⟨8 + (j 0 : Fin 8), _⟩ : ℝ) : EReal)
  refine congrArg (fun v : ℝ => (v : EReal)) (congrArg₂ Q.tile.del (Fin.ext h1.symm) (Fin.ext ?_))
  show 8 + (y 0 : ℕ) = 8 + (j 0 : ℕ)
  rw [h0]

end Cert.Post1

end
-- ==== Proof.PostRef.lean ====
/- The reference's intermediate arrays over real numbers: row `2048 b + s` of the tile of all tokens is position `s` of
   sequence `b`. -/
module

public import proofs.«01_k».proof.Proof.PostModel
public import proofs.«01_k».proof.Proof.Gen.PostRefIdeal.Run
public import Idealize.ShloMosaic.Lib.Pointwise

@[expose] public section

set_option maxRecDepth 16384

noncomputable section

namespace Cert.Post1

open Idealize.ShloMosaic Idealize.ShloMosaic.TcCoe Idealize.SL.Sem Idealize.ShloMosaic.StableHlo
open Cert.PostRefIdeal Cert.PostRefIdeal.Gen Cert.PostRefIdeal.Value Cert.Coe

/-- The token at position `s` of sequence `b`. -/
def tok (b : Fin 4) (s : Fin 2048) : Fin 8192 := ⟨2048 * b + s, by omega⟩
/-- Lane `k` of the first half and of the second. -/
def lo (k : Fin 512) : Fin 1024 := ⟨k, by omega⟩
def hi (k : Fin 512) : Fin 1024 := ⟨512 + k, by omega⟩

theorem tok_div (b : Fin 4) (s : Fin 2048) : (⟨(tok b s : ℕ) / 2048, by omega⟩ : Fin 4) = b := Fin.ext (by simp only [tok]; omega)
theorem tok_mod (b : Fin 4) (s : Fin 2048) : (⟨(tok b s : ℕ) % 2048, by omega⟩ : Fin 2048) = s := Fin.ext (by simp only [tok]; omega)

variable (Q : Args)

theorem tok_x (b s) : Q.tile.x (tok b s) = Q.x b s := congrArg₂ Q.x (tok_div b s) (tok_mod b s)
theorem tok_t (b s) : Q.tile.t (tok b s) = Q.t b s := congrArg₂ Q.t (tok_div b s) (tok_mod b s)
theorem tok_o (b s) : Q.tile.o (tok b s) = side Q.oM Q.oS b s := congrArg₂ (side Q.oM Q.oS) (tok_div b s) (tok_mod b s)
theorem tok_g (b s) : Q.tile.g (tok b s) = side Q.gM Q.gS b s := congrArg₂ (side Q.gM Q.gS) (tok_div b s) (tok_mod b s)
theorem tok_gt (b s) : Q.tile.gate (tok b s) = Q.gt b := congrArg Q.gt (tok_div b s)
theorem side_lo (f g b s k) : side f g b s (lo k) = f b s k := dif_pos k.isLt
theorem side_hi (f g b s k) : side f g b s (hi k) = g b s k := by
  unfold side
  rw [dif_neg (show ¬((hi k : Fin 1024) : ℕ) < 512 by simp [hi])]
  exact congrArg _ (Fin.ext (by simp [hi]))
theorem tok_o_lo (b s k) : Q.tile.o (tok b s) (lo k) = Q.oM b s k := by rw [tok_o, side_lo]
theorem tok_o_hi (b s k) : Q.tile.o (tok b s) (hi k) = Q.oS b s k := by rw [tok_o, side_hi]
theorem tok_g_lo (b s k) : Q.tile.g (tok b s) (lo k) = Q.gM b s k := by rw [tok_g, side_lo]
theorem tok_g_hi (b s k) : Q.tile.g (tok b s) (hi k) = Q.gS b s k := by rw [tok_g, side_hi]
theorem tok_gate (b s d) : Q.tile.gate (tok b s) d = Q.mod b ⟨2048 + d, by omega⟩ + Q.ba 0 ⟨2048 + d, by omega⟩ := by
  rw [tok_gt]; rfl
theorem lo_hi (k : Fin 1024) : (∃ h : (k : ℕ) < 512, k = lo ⟨k, h⟩) ∨ (∃ h : ¬(k : ℕ) < 512, k = hi ⟨k - 512, by omega⟩) := by
  by_cases h : (k : ℕ) < 512
  · exact .inl ⟨h, rfl⟩
  · exact .inr ⟨h, Fin.ext (by simp only [hi]; omega)⟩

/-- The reference's arguments are `Q`'s arrays. -/
structure Feeds (V : Valuation τ sig (Elt Ideal)) (Q : Args) : Prop where
  h0 : V (Proc.devRef .tc main_arg0) = c3 Q.x
  h1 : V (Proc.devRef .tc main_arg1) = c3 Q.t
  h2 : V (Proc.devRef .tc main_arg2) = c3 Q.oM
  h3 : V (Proc.devRef .tc main_arg3) = c3 Q.oS
  h4 : V (Proc.devRef .tc main_arg4) = c3 Q.gM
  h5 : V (Proc.devRef .tc main_arg5) = c3 Q.gS
  h6 : V (Proc.devRef .tc main_arg6) = c2 Q.mod
  h7 : V (Proc.devRef .tc main_arg7) = c2 Q.ba
  h8 : V (Proc.devRef .tc main_arg8) = c1 Q.fg
  h9 : V (Proc.devRef .tc main_arg9) = c2 Q.W

variable {V : Valuation τ sig (Elt Ideal)} {Q} (H : Feeds V Q)
include H

theorem r3 : res_main_v3 V = c2 fun b k => Q.mod b k + Q.ba 0 k := by
  funext i; idx_vars i; pointwise [res_main_v3, H.h6, H.h7, c2_apply]; rw [← EReal.coe_add]
theorem r7_2 : res_main_v7_2 V = c3 fun b s k => Q.tile.sg (tok b s) (lo k) := by
  funext i; idx_vars i; pointwise [res_main_v7_2, H.h4, c3_apply]
  rw [one_real, ← EReal.coe_neg, Ideal.exp_coe, ← EReal.coe_add, div_real (by positivity), Tile.sg, tok_g_lo, zero_sub]
theorem r9_2 : res_main_v9_2 V = c3 fun b s k => Q.tile.sg (tok b s) (hi k) := by
  funext i; idx_vars i; pointwise [res_main_v9_2, H.h5, c3_apply]
  rw [one_real, ← EReal.coe_neg, Ideal.exp_coe, ← EReal.coe_add, div_real (by positivity), Tile.sg, tok_g_hi, zero_sub]
theorem r7_0 : res_main_v7_0 V = c3 fun b s k => Q.tile.sil (tok b s) (lo k) := by
  funext i; idx_vars i; pointwise [res_main_v7_0, H.h4, r7_2 H, c3_apply]; rw [← EReal.coe_mul, Tile.sil, tok_g_lo]
theorem r9_0 : res_main_v9_0 V = c3 fun b s k => Q.tile.sil (tok b s) (hi k) := by
  funext i; idx_vars i; pointwise [res_main_v9_0, H.h5, r9_2 H, c3_apply]; rw [← EReal.coe_mul, Tile.sil, tok_g_hi]
theorem r11 : res_main_v11 V = c3 fun b s k => Q.tile.yp (tok b s) k := by
  funext i; idx_vars i; pointwise [res_main_v11, H.h2, H.h3, r7_0 H, r9_0 H, c3_apply]
  split
  · next h => rw [← EReal.coe_mul, ← tok_o_lo]; rfl
  · next h =>
    rw [← EReal.coe_mul, ← tok_o_hi]
    have e : hi ⟨(i2 : ℕ) - 512, by omega⟩ = i2 := Fin.ext (by simp only [hi]; omega)
    rw [e]; rfl
theorem r12 : res_main_v12 V = c3 fun b s d => Q.tile.y (tok b s) d := by
  funext i; idx_vars i; pointwise [res_main_v12, H.h9, r11 H, c3_apply, c2_apply]
  simp only [← EReal.coe_mul, coe_sum]; rfl
theorem r13 : res_main_v13 V = c3 fun b (_ : Fin 1) d => Q.tile.gate (tok b 0) d := by
  funext i; idx_vars i; pointwise [res_main_v13, r3 H, c3_apply, c2_apply]; rw [tok_gate]
theorem r16 : res_main_v16 V = c3 fun b s d => Q.tile.x2 (tok b s) d := by
  funext i; idx_vars i; pointwise [res_main_v16, H.h0, r13 H, r12 H, c3_apply]
  simp only [← EReal.coe_mul, ← EReal.coe_add]; rw [Tile.x2, tok_x, tok_gate, tok_gate]
theorem r23 : res_main_v23 V = c3 fun b s (_ : Fin 1) => Q.tile.ssq (tok b s) / 1024 + eps := by
  funext i; idx_vars i; pointwise [res_main_v23, r16 H, c3_apply]
  simp only [← EReal.coe_mul, coe_sum, kEps, k1024, zero_add]
  rw [div_real (by norm_num), ← EReal.coe_add]; rfl
theorem r24 : res_main_v24 V = c3 fun b s (_ : Fin 1) => Q.tile.rt (tok b s) := by
  funext i; idx_vars i; pointwise [res_main_v24, r23 H, c3_apply]
  rw [rsqrt_real (Q.tile.ms_pos _)]; rfl
theorem r29 : res_main_v29 V = c3 fun b s d => Q.tile.xn (tok b s) d := by
  funext i; idx_vars i; pointwise [res_main_v29, r16 H, r24 H, c3_apply]
  simp only [← EReal.coe_mul]; rfl
theorem r30 : res_main_v30 V = c3 fun (_ _ : Fin 1) d => Q.fg d := by
  funext i; idx_vars i; pointwise [res_main_v30, H.h8, c1_apply, c3_apply]
theorem r33 : res_main_v33 V = c3 fun b s d => Q.tile.err (tok b s) d := by
  funext i; idx_vars i; pointwise [res_main_v33, r29 H, r30 H, H.h1, c3_apply]
  simp only [← EReal.coe_mul, ← EReal.coe_sub]; rw [Tile.err, tok_t]; rfl
theorem r47 : res_main_v47 V = c3 fun b s d => Q.tile.err (tok b s) d * (1 / 1024) := by
  funext i; idx_vars i; pointwise [res_main_v47, r33 H, c3_apply]
  rw [kHalf, kTwo, k1024, ← EReal.coe_mul, div_real (by norm_num), ← EReal.coe_mul]
  exact congrArg _ (by ring)
theorem r52 : res_main_v52 V = c3 fun b s d => Q.tile.dxn (tok b s) d := by
  funext i; idx_vars i; pointwise [res_main_v52, r47 H, r30 H, c3_apply]
  rw [← EReal.coe_mul, Tile.dxn]
  exact congrArg _ (by rw [show Q.tile.fg = Q.fg from rfl]; ring)
omit H in
/-- The norm's gradient: both ways of writing it. -/
theorem norm_grad {n : ℕ} (T : Tile n) (r : Fin n) (d : Fin 1024) :
    T.dxn r d * T.rt r + T.x2 r d * ((∑ k, T.x2 r k * T.dxn r k) * (-(1 / 2) * (T.rt r / (T.ssq r / 1024 + eps))) / 1024)
      + ((∑ k, T.x2 r k * T.dxn r k) * (-(1 / 2) * (T.rt r / (T.ssq r / 1024 + eps))) / 1024) * T.x2 r d = T.dx2 r d := by
  have hv := T.ms_pos r
  have h2 : T.rt r * T.rt r = 1 / (T.ssq r / 1024 + eps) := by
    rw [Tile.rt, ← mul_inv, Real.mul_self_sqrt hv.le, one_div]
  have h3 : T.rt r / (T.ssq r / 1024 + eps) = T.rt r * (T.rt r * T.rt r) := by rw [h2]; ring
  have h4 : ∑ k, T.dxn r k * T.xn r k = T.rt r * ∑ k, T.x2 r k * T.dxn r k := by
    rw [Finset.mul_sum]; exact Finset.sum_congr rfl fun k _ => by rw [Tile.xn]; ring
  rw [Tile.dx2, h4, h3, Tile.xn]; ring
theorem r63 : res_main_v63 V = c3 fun b s (_ : Fin 1024) => (∑ k, Q.tile.x2 (tok b s) k * Q.tile.dxn (tok b s) k) * (-(1 / 2) * (Q.tile.rt (tok b s) / (Q.tile.ssq (tok b s) / 1024 + eps))) / 1024 := by
  funext i; idx_vars i; pointwise [res_main_v63, r16 H, r52 H, r24 H, r23 H, c3_apply]
  rw [div_real (Q.tile.ms_pos _).ne', kNegHalf, k1024]
  simp only [← EReal.coe_mul, coe_sum, zero_add, div_real (show (1024 : ℝ) ≠ 0 by norm_num)]
  simp
theorem r67 : res_main_v67 V = c3 fun b s d => Q.tile.dx2 (tok b s) d := by
  funext i; idx_vars i; pointwise [res_main_v67, r16 H, r52 H, r24 H, r63 H, c3_apply]
  simp only [← EReal.coe_mul, ← EReal.coe_add]
  exact congrArg _ (norm_grad Q.tile (tok i0 i1) i2)
theorem r69 : res_main_v69 V = c3 fun b s d => Q.tile.dy (tok b s) d := by
  funext i; idx_vars i; pointwise [res_main_v69, r13 H, r67 H, c3_apply]
  rw [← EReal.coe_mul, Tile.dy, tok_gate, tok_gate, mul_comm]
theorem r76 : res_main_v76 V = c3 fun b s k => Q.tile.dyp (tok b s) k := by
  funext i; idx_vars i; pointwise [res_main_v76, H.h9, r69 H, c3_apply, c2_apply]
  simp only [← EReal.coe_mul, coe_sum]; rfl
theorem r77 : res_main_v77 V = c3 fun b s k => Q.tile.dyp (tok b s) (lo k) := by
  funext i; idx_vars i; pointwise [res_main_v77, r76 H, c3_apply]; rfl
theorem r78 : res_main_v78 V = c3 fun b s k => Q.tile.dyp (tok b s) (hi k) := by
  funext i; idx_vars i; pointwise [res_main_v78, r76 H, c3_apply]; rfl
theorem r79 : res_main_v79 V = c3 fun b s k => Q.oS b s k * Q.tile.dyp (tok b s) (hi k) := by
  funext i; idx_vars i; pointwise [res_main_v79, H.h3, r78 H, c3_apply]; rw [← EReal.coe_mul]
theorem r82 : res_main_v82 V = c3 fun b s k => Q.oM b s k * Q.tile.dyp (tok b s) (lo k) := by
  funext i; idx_vars i; pointwise [res_main_v82, H.h2, r77 H, c3_apply]; rw [← EReal.coe_mul]
theorem r80 : res_main_v80 V = c3 fun b s k => Q.tile.dov (tok b s) (hi k) := by
  funext i; idx_vars i; pointwise [res_main_v80, r9_0 H, r78 H, c3_apply]; rw [← EReal.coe_mul]; rfl
theorem r83 : res_main_v83 V = c3 fun b s k => Q.tile.dov (tok b s) (lo k) := by
  funext i; idx_vars i; pointwise [res_main_v83, r7_0 H, r77 H, c3_apply]; rw [← EReal.coe_mul]; rfl

end Cert.Post1

end
-- ==== Proof.Finite.lean ====
/- What a finiteness precondition says of an array, and the sum of a rank-3 array over its two leading axes. -/
module

public import proofs.«01_k».proof.Proof.Coe
public import Idealize.ShloMosaic.Lib.Pointwise

@[expose] public section

noncomputable section

namespace Cert.Coe

open Idealize.ShloMosaic Idealize.ShloMosaic.StableHlo

/-- An array whose absolute values are all below infinity has real entries. -/
theorem real_of_lt {s u : Shape} (v : FVec Ideal s .f32) (d : Fin u.rank → Fin s.rank) (hb : u.BroadcastsInDim s d)
    (h : cmpf .olt (Host.absf v) (broadcastInDim s d hb (constant u .f32 0x7F800000#32)) = fun _ => 1#1) (i : s.Idx) :
    v i = ((v i : EReal).toReal : EReal) := by
  have e := congrFun h i
  pointwise at e
  rw [kTop] at e
  have l : max (v i : EReal) (-(v i : EReal)) < ⊤ := by
    by_contra n
    rw [show (FloatOps.absf (v i) : EReal) = max (v i : EReal) (-(v i : EReal)) from rfl, decide_eq_false n] at e
    exact absurd e (by decide)
  have hv : (v i : EReal) ≠ ⊤ := fun q => absurd l (by rw [q]; simp)
  have hw : (v i : EReal) ≠ ⊥ := fun q => absurd l (by rw [q]; simp)
  exact (EReal.coe_toReal hv hw).symm

theorem eq_c1 {n : ℕ} (v : Shape.Idx ⟨1, ![n]⟩ → EReal) (h : ∀ i, v i = ((v i).toReal : EReal)) : v = c1 fun a => (v (ix1 a)).toReal := by
  funext i; rw [h i]; exact congrArg (fun j => ((v j).toReal : EReal)) (by funext a; fin_cases a <;> rfl)
theorem eq_c2 {n k : ℕ} (v : Shape.Idx ⟨2, ![n, k]⟩ → EReal) (h : ∀ i, v i = ((v i).toReal : EReal)) : v = c2 fun a b => (v (ix2 a b)).toReal := by
  funext i; rw [h i]; exact congrArg (fun j => ((v j).toReal : EReal)) (by funext a; fin_cases a <;> rfl)
theorem eq_c3 {n k l : ℕ} (v : Shape.Idx ⟨3, ![n, k, l]⟩ → EReal) (h : ∀ i, v i = ((v i).toReal : EReal)) : v = c3 fun a b d => (v (ix3 a b d)).toReal := by
  funext i; rw [h i]; exact congrArg (fun j => ((v j).toReal : EReal)) (by funext a; fin_cases a <;> rfl)

/-- The host's sum of a rank-3 array over its two leading axes, at an index of the last. -/
theorem sum_leading {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e (0 : Fin 1))).symm
    · rintro ⟨k, rfl⟩
      funext b; apply Fin.ext
      match b with
      | ⟨0, _⟩ => rfl
  · simp only [Fintype.sum_prod_type]

end Cert.Coe

end
-- ==== Proof.PostRefOut.lean ====
/- The reference's intermediate arrays over real numbers: row `2048 b + s` of the tile of all tokens is position `s` of
   sequence `b`. -/
module

public import proofs.«01_k».proof.Proof.PostModel
public import proofs.«01_k».proof.Proof.Gen.PostRefIdeal.Run
public import Idealize.ShloMosaic.Lib.Pointwise
public import proofs.«01_k».proof.Proof.PostRef
public import proofs.«01_k».proof.Proof.Finite

@[expose] public section

set_option maxRecDepth 16384

noncomputable section

namespace Cert.Post1

open Idealize.ShloMosaic Idealize.ShloMosaic.TcCoe Idealize.SL.Sem Idealize.ShloMosaic.StableHlo
open Cert.PostRefIdeal Cert.PostRefIdeal.Gen Cert.PostRefIdeal.Value Cert.Coe

theorem tok_self (n : Fin 8192) : tok ⟨n / 2048, by omega⟩ ⟨n % 2048, by omega⟩ = n := Fin.ext (by simp only [tok]; omega)
/-- A sum over the tokens runs over the sequences and their positions. -/
theorem sum_tok (f : Fin 8192 → ℝ) : ∑ b : Fin 4, ∑ s : Fin 2048, f (tok b s) = ∑ n, f n := by
  rw [Idealize.ShloMosaic.Fin.sum_univ_tiles 4 2048 rfl]
  exact Finset.sum_congr rfl fun b _ => Finset.sum_congr rfl fun s _ => congrArg f (Fin.ext (by simp only [tok]; omega))
theorem lo_mk {k : Fin 1024} (h : (k : ℕ) < 512) : lo ⟨k, h⟩ = k := rfl
theorem hi_mk {k : Fin 1024} (h : ¬(k : ℕ) < 512) : hi ⟨k - 512, by omega⟩ = k := Fin.ext (by simp only [hi]; omega)

variable {Q : Args} {V : Valuation τ sig (Elt Idealize.ShloMosaic.Ideal)} (H : Feeds V Q)
include H

theorem ref9 : shapeCast S8192x1024 (res_main_v67 V) shapeCasts_S4x2048x1024_S8192x1024 = c2 Q.tile.dx2 := by
  rw [r67 H]; funext i; idx_vars i; pointwise [c3_apply, c2_apply]
  rw [tok_self]
theorem ref10 : truncf .bf16 (concatenate S8192x1024 1 [⟨S8192x512, (shapeCast _ (res_main_v83 V) shapeCasts_S4x2048x512_S8192x512)⟩, ⟨S8192x512, (shapeCast _ (res_main_v80 V) shapeCasts_S4x2048x512_S8192x512)⟩] concatenates_S8192x512_S8192x512_S8192x1024_d1) bitsLt_bf16_f32 = c2 Q.tile.dov := by
  rw [r83 H, r80 H]; funext i; idx_vars i; pointwise [c3_apply, c2_apply]
  split
  · next h => rw [tok_self, lo_mk h]
  · next h => rw [tok_self, hi_mk h]
theorem ref11 : truncf .bf16 (concatenate S8192x1024 1 [⟨S8192x512, (shapeCast _ (addf (mulf (res_main_v82 V) (res_main_v7_2 V)) (mulf (mulf (V (Proc.devRef .tc main_arg4)) (res_main_v82 V)) (mulf (res_main_v7_2 V) (subf (broadcastInDim S4x2048x512 ![] bcast_S_S4x2048x512 (constant S_ .f32 0x3F800000#32)) (res_main_v7_2 V))))) shapeCasts_S4x2048x512_S8192x512)⟩, ⟨S8192x512, (shapeCast _ (addf (mulf (res_main_v79 V) (res_main_v9_2 V)) (mulf (mulf (V (Proc.devRef .tc main_arg5)) (res_main_v79 V)) (mulf (res_main_v9_2 V) (subf (broadcastInDim S4x2048x512 ![] bcast_S_S4x2048x512 (constant S_ .f32 0x3F800000#32)) (res_main_v9_2 V))))) shapeCasts_S4x2048x512_S8192x512)⟩] concatenates_S8192x512_S8192x512_S8192x1024_d1) bitsLt_bf16_f32 = c2 Q.tile.dg := by
  rw [r82 H, r79 H, r7_2 H, r9_2 H, H.h4, H.h5]; funext i; idx_vars i; pointwise [c3_apply, c2_apply]
  simp only [tok_self]
  split
  · next h =>
    rw [← tok_o_lo, ← tok_g_lo, tok_self, lo_mk h, one_real]
    simp only [← EReal.coe_mul, ← EReal.coe_add, ← EReal.coe_sub]
    exact congrArg _ (by rw [Tile.dg, Tile.sil]; ring)
  · next h =>
    rw [← tok_o_hi, ← tok_g_hi, tok_self, hi_mk h, one_real]
    simp only [← EReal.coe_mul, ← EReal.coe_add, ← EReal.coe_sub]
    exact congrArg _ (by rw [Tile.dg, Tile.sil]; ring)
theorem ref12 : transpose S1024x1024 [1, 0] (Host.dotGeneral (φ₂ := .f32) dot_S4x2048x1024_S4x2048x1024_S1024x1024_01_01_2_2_n_n none (res_main_v69 V) (res_main_v11 V)) transposes_S1024x1024_S1024x1024_1_0 = c2 fun k d => ∑ n, Q.tile.yp n k * Q.tile.dy n d := by
  rw [r69 H, r11 H]; funext i; idx_vars i; pointwise [c3_apply, c2_apply]
  simp only [← EReal.coe_mul, coe_sum]
  rw [sum_tok fun n => Q.tile.dy n i1 * Q.tile.yp n i0]
  exact congrArg _ (Finset.sum_congr rfl fun n _ => mul_comm _ _)
theorem ref13 : shapeCast _ (Host.reduceAdd (shapeCast _ (Host.reduceAdd (mulf (res_main_v29 V) (res_main_v47 V)) (constant S_ .f32 0x00000000#32) reducesTo_S4x2048x1024_S1024_d0_1 h_S_) shapeCasts_S1024_S1x1x1024) (constant S_ .f32 0x00000000#32) reducesTo_S1x1x1024_S1024_d0_1 h_S_) shapeCasts_S1024_S1x1024 = c2 fun (_ : Fin 1) d => (∑ n, Q.tile.err n d * Q.tile.xn n d) * (1 / 1024) := by
  rw [r29 H, r47 H]
  have e : Host.reduceAdd (mulf (c3 fun b s d => Q.tile.xn (tok b s) d) (c3 fun b s d => Q.tile.err (tok b s) d * (1 / 1024))) (constant (F := Idealize.ShloMosaic.Ideal) S_ .f32 0x00000000#32) reducesTo_S4x2048x1024_S1024_d0_1 h_S_ = c1 fun d => (∑ n, Q.tile.err n d * Q.tile.xn n d) * (1 / 1024) := by
    funext i; idx_vars i; pointwise [c3_apply, c1_apply]
    rw [sum_leading]
    pointwise [c3_apply]
    simp only [← EReal.coe_mul, coe_sum]
    rw [sum_tok fun n => Q.tile.xn n i0 * (Q.tile.err n i0 * (1 / 1024)), Finset.sum_mul]
    exact congrArg _ (Finset.sum_congr rfl fun n _ => by ring)
  rw [e]
  funext i; idx_vars i; pointwise [c1_apply, c2_apply]
  rw [sum_leading]
  pointwise [c1_apply, c2_apply]
  simp only [← EReal.coe_mul, coe_sum, Finset.univ_unique, Finset.sum_singleton]
theorem ref14 : broadcastInDim S4x1x1024 ![0, 2] bcast_S4x1024_S4x1x1024_0_2 (Host.reduceAdd (shapeCast _ (Host.reduceAdd (mulf (res_main_v67 V) (res_main_v12 V)) (constant S_ .f32 0x00000000#32) reducesTo_S4x2048x1024_S4x1024_d1 h_S_) shapeCasts_S4x1024_S4x1x1024) (constant S_ .f32 0x00000000#32) reducesTo_S4x1x1024_S4x1024_d1 h_S_) = c3 fun q _ d => ∑ s : Fin 2048, Q.tile.dx2 ⟨2048 * q + s, by omega⟩ d * Q.tile.y ⟨2048 * q + s, by omega⟩ d := by
  rw [r67 H, r12 H]; funext i; idx_vars i; pointwise [c3_apply, c2_apply]
  simp only [← EReal.coe_mul, coe_sum, Finset.univ_unique, Finset.sum_singleton]
  rfl
theorem ref15 : broadcastInDim S1x128 ![] bcast_S_S1x128 (mulf (constant S_ .f32 0x3F000000#32) (Host.reduceAdd (Host.divf (Host.reduceAdd (mulf (res_main_v33 V) (res_main_v33 V)) (constant S_ .f32 0x00000000#32) reducesTo_S4x2048x1024_S4x2048_d2 h_S_) (broadcastInDim S4x2048 ![] bcast_S_S4x2048 (constant S_ .f32 0x44800000#32))) (constant S_ .f32 0x00000000#32) reducesTo_S4x2048_S_d0_1 h_S_)) = c2 fun _ _ => (∑ n, ∑ d, Q.tile.err n d * Q.tile.err n d) * (1 / 2048) := by
  rw [r33 H]; funext i; idx_vars i; pointwise [c3_apply, c2_apply]
  rw [kHalf, k1024]
  simp only [← EReal.coe_mul, coe_sum, div_real (show (1024 : ℝ) ≠ 0 by norm_num)]
  refine congrArg _ ?_
  rw [sum_tok fun n => (∑ d, Q.tile.err n d * Q.tile.err n d) / 1024, ← Finset.sum_div]
  ring
theorem ref16 : shapeCast S2x4x8192 (transpose S8x8192 [1, 0] (Host.reduceAdd (shapeCast _ (mulf (res_main_v83 V) (V (Proc.devRef .tc main_arg2))) shapeCasts_S4x2048x512_S8192x8x64) (constant S_ .f32 0x00000000#32) reducesTo_S8192x8x64_S8192x8_d2 h_S_) transposes_S8192x8_S8x8192_1_0) shapeCasts_S8x8192_S2x4x8192 = c3 fun p h n => Q.tile.del n ⟨4 * p + h, by omega⟩ := by
  rw [r83 H, H.h2]; funext i; idx_vars i; pointwise [c3_apply, c2_apply]
  simp only [← EReal.coe_mul, coe_sum, tok_self]
  refine congrArg _ (Finset.sum_congr rfl fun j _ => ?_)
  rw [← tok_o_lo, tok_self]
  have e : lo ⟨(i0 * 4 + i1) * 64 + j, by omega⟩ = ⟨64 * (4 * i0 + i1) + j, by omega⟩ := Fin.ext (by simp only [lo]; omega)
  rw [e]
theorem ref17 : transpose S8x8192 [1, 0] (Host.reduceAdd (shapeCast _ (mulf (res_main_v80 V) (V (Proc.devRef .tc main_arg3))) shapeCasts_S4x2048x512_S8192x8x64) (constant S_ .f32 0x00000000#32) reducesTo_S8192x8x64_S8192x8_d2 h_S_) transposes_S8192x8_S8x8192_1_0 = c2 fun h n => Q.tile.del n ⟨8 + h, by omega⟩ := by
  rw [r80 H, H.h3]; funext i; idx_vars i; pointwise [c3_apply, c2_apply]
  simp only [← EReal.coe_mul, coe_sum, tok_self]
  refine congrArg _ (Finset.sum_congr rfl fun j _ => ?_)
  rw [← tok_o_hi, tok_self]
  have e : hi ⟨i0 * 64 + j, by omega⟩ = ⟨64 * (8 + i0) + j, by omega⟩ := Fin.ext (by simp only [hi]; omega)
  rw [e]

end Cert.Post1

end
-- ==== Proof.PostIn.lean ====
/- The arguments of a memory that meets the precondition, as real arrays; the kernel's and the reference's results there
   are the same arrays. -/
module

public import proofs.«01_k».proof.Defs
public import proofs.«01_k».proof.Proof.PostFinal
public import proofs.«01_k».proof.Proof.PostRefOut
public import proofs.«01_k».proof.Proof.Gen.Pre_post_finite

@[expose] public section

set_option maxRecDepth 16384

noncomputable section

namespace Cert.Post1

open Idealize.ShloMosaic Idealize.ShloMosaic.TcCoe Idealize.SL.Sem Idealize.ShloMosaic.StableHlo Cert.Coe

/-- The real parts of the arguments in memory. -/
def ofMem (m : (ℓ : Loc PostIdeal.nD PostIdeal.τ PostIdeal.sig) → Buf (Elt Ideal) ℓ) (c : Dev PostIdeal.nD) : Args where
  x := fun a b d => EReal.toReal (m ((c.tc : Thread PostIdeal.nD PostIdeal.τ).loc PostIdeal.main_arg0) (ix3 a b d))
  t := fun a b d => EReal.toReal (m ((c.tc : Thread PostIdeal.nD PostIdeal.τ).loc PostIdeal.main_arg1) (ix3 a b d))
  oM := fun a b d => EReal.toReal (m ((c.tc : Thread PostIdeal.nD PostIdeal.τ).loc PostIdeal.main_arg2) (ix3 a b d))
  oS := fun a b d => EReal.toReal (m ((c.tc : Thread PostIdeal.nD PostIdeal.τ).loc PostIdeal.main_arg3) (ix3 a b d))
  gM := fun a b d => EReal.toReal (m ((c.tc : Thread PostIdeal.nD PostIdeal.τ).loc PostIdeal.main_arg4) (ix3 a b d))
  gS := fun a b d => EReal.toReal (m ((c.tc : Thread PostIdeal.nD PostIdeal.τ).loc PostIdeal.main_arg5) (ix3 a b d))
  mod := fun a b => EReal.toReal (m ((c.tc : Thread PostIdeal.nD PostIdeal.τ).loc PostIdeal.main_arg6) (ix2 a b))
  ba := fun a b => EReal.toReal (m ((c.tc : Thread PostIdeal.nD PostIdeal.τ).loc PostIdeal.main_arg7) (ix2 a b))
  fg := fun a => EReal.toReal (m ((c.tc : Thread PostIdeal.nD PostIdeal.τ).loc PostIdeal.main_arg8) (ix1 a))
  W := fun a b => EReal.toReal (m ((c.tc : Thread PostIdeal.nD PostIdeal.τ).loc PostIdeal.main_arg9) (ix2 a b))

variable {m : (ℓ : Loc PostIdeal.nD PostIdeal.τ PostIdeal.sig) → Buf (Elt Ideal) ℓ}

/-- Under the precondition the arguments are their real parts. -/
theorem holds (hp : Cert.Pre_PostIdeal_post_finite m) (c : Dev PostIdeal.nD) : Holds m c (ofMem m c) := by
  obtain ⟨p0, p1, p2, p3, p4, p5, p6, p7, p8, p9⟩ := hp c
  exact {
    h0 := eq_c3 _ fun i => real_of_lt _ _ _ p0 i
    h1 := eq_c3 _ fun i => real_of_lt _ _ _ p1 i
    h2 := eq_c3 _ fun i => real_of_lt _ _ _ p2 i
    h3 := eq_c3 _ fun i => real_of_lt _ _ _ p3 i
    h4 := eq_c3 _ fun i => real_of_lt _ _ _ p4 i
    h5 := eq_c3 _ fun i => real_of_lt _ _ _ p5 i
    h6 := eq_c2 _ fun i => real_of_lt _ _ _ p6 i
    h7 := eq_c2 _ fun i => real_of_lt _ _ _ p7 i
    h8 := eq_c1 _ fun i => real_of_lt _ _ _ p8 i
    h9 := eq_c2 _ fun i => real_of_lt _ _ _ p9 i
  }

/-- The reference's memory holds the same arrays. -/
theorem feeds (hp : Cert.Pre_PostIdeal_post_finite m) (m' : (ℓ : Loc PostRefIdeal.nD PostRefIdeal.τ PostRefIdeal.sig) → Buf (Elt Ideal) ℓ) (c : Dev PostIdeal.nD)
    (H : m' ((c.tc : Thread PostRefIdeal.nD PostRefIdeal.τ).loc PostRefIdeal.main_arg0) = m ((c.tc : Thread PostIdeal.nD PostIdeal.τ).loc PostIdeal.main_arg0)
      ∧ m' ((c.tc : Thread PostRefIdeal.nD PostRefIdeal.τ).loc PostRefIdeal.main_arg1) = m ((c.tc : Thread PostIdeal.nD PostIdeal.τ).loc PostIdeal.main_arg1)
      ∧ m' ((c.tc : Thread PostRefIdeal.nD PostRefIdeal.τ).loc PostRefIdeal.main_arg2) = m ((c.tc : Thread PostIdeal.nD PostIdeal.τ).loc PostIdeal.main_arg2)
      ∧ m' ((c.tc : Thread PostRefIdeal.nD PostRefIdeal.τ).loc PostRefIdeal.main_arg3) = m ((c.tc : Thread PostIdeal.nD PostIdeal.τ).loc PostIdeal.main_arg3)
      ∧ m' ((c.tc : Thread PostRefIdeal.nD PostRefIdeal.τ).loc PostRefIdeal.main_arg4) = m ((c.tc : Thread PostIdeal.nD PostIdeal.τ).loc PostIdeal.main_arg4)
      ∧ m' ((c.tc : Thread PostRefIdeal.nD PostRefIdeal.τ).loc PostRefIdeal.main_arg5) = m ((c.tc : Thread PostIdeal.nD PostIdeal.τ).loc PostIdeal.main_arg5)
      ∧ m' ((c.tc : Thread PostRefIdeal.nD PostRefIdeal.τ).loc PostRefIdeal.main_arg6) = m ((c.tc : Thread PostIdeal.nD PostIdeal.τ).loc PostIdeal.main_arg6)
      ∧ m' ((c.tc : Thread PostRefIdeal.nD PostRefIdeal.τ).loc PostRefIdeal.main_arg7) = m ((c.tc : Thread PostIdeal.nD PostIdeal.τ).loc PostIdeal.main_arg7)
      ∧ m' ((c.tc : Thread PostRefIdeal.nD PostRefIdeal.τ).loc PostRefIdeal.main_arg8) = m ((c.tc : Thread PostIdeal.nD PostIdeal.τ).loc PostIdeal.main_arg8)
      ∧ m' ((c.tc : Thread PostRefIdeal.nD PostRefIdeal.τ).loc PostRefIdeal.main_arg9) = m ((c.tc : Thread PostIdeal.nD PostIdeal.τ).loc PostIdeal.main_arg9)) :
    Feeds (launchContents m' c) (ofMem m c) := by
  obtain ⟨q0, q1, q2, q3, q4, q5, q6, q7, q8, q9⟩ := H
  have h := holds hp c
  exact { h0 := q0.trans h.h0, h1 := q1.trans h.h1, h2 := q2.trans h.h2, h3 := q3.trans h.h3, h4 := q4.trans h.h4, h5 := q5.trans h.h5, h6 := q6.trans h.h6, h7 := q7.trans h.h7, h8 := q8.trans h.h8, h9 := q9.trans h.h9 }

end Cert.Post1

end
-- ==== Proof.PostValue.lean ====
/- The value claim of the layer's last stage. -/
module

public import proofs.«01_k».proof.Defs
public import proofs.«01_k».proof.Proof.PostFinal
public import proofs.«01_k».proof.Proof.PostRefOut
public import proofs.«01_k».proof.Proof.PostIn
public import Idealize.ShloMosaic.Lib.Claim
public import proofs.«01_k».proof.Proof.Gen.Pre_post_finite

@[expose] public section

set_option maxRecDepth 16384

noncomputable section

namespace Cert.Post1

open Idealize.ShloMosaic Idealize.ShloMosaic.TcCoe Idealize.SL.Sem Idealize.ShloMosaic.StableHlo Cert.Coe

/-- The kernel's and the reference's gradients of the layer's last stage agree at finite arguments. -/
theorem post_algebraic : Cert.algebraic_PostIdeal_PostRefIdeal_pre_post_finite := by
  intro m g m' g' hp ha
  have H := holds hp
  have F := fun c => feeds hp m' c (ha c)
  refine ⟨fun c => c2 (ofMem m c).tile.dx2,
    fun c => c2 (ofMem m c).tile.dov,
    fun c => c2 (ofMem m c).tile.dg,
    fun c => c2 fun k d => ∑ n, (ofMem m c).tile.yp n k * (ofMem m c).tile.dy n d,
    fun c => c2 fun (_ : Fin 1) d => (∑ n, (ofMem m c).tile.err n d * (ofMem m c).tile.xn n d) * (1 / 1024),
    fun c => c3 fun q (_ : Fin 1) d => ∑ s : Fin 2048, (ofMem m c).tile.dx2 ⟨2048 * q + s, by omega⟩ d * (ofMem m c).tile.y ⟨2048 * q + s, by omega⟩ d,
    fun c => c2 fun (_ : Fin 1) (_ : Fin 128) => (∑ n, ∑ d, (ofMem m c).tile.err n d * (ofMem m c).tile.err n d) * (1 / 2048),
    fun c => c3 fun (p : Fin 2) (h : Fin 4) n => (ofMem m c).tile.del n ⟨4 * p + h, by omega⟩,
    fun c => c2 fun (h : Fin 8) n => (ofMem m c).tile.del n ⟨8 + h, by omega⟩, ?_, ?_⟩
  · refine (θ_run _ _ _).mono (fun r h c => ⟨((h.1 c).1 9).trans (all9 (H c)), ((h.1 c).1 10).trans (all10 (H c)), ((h.1 c).1 11).trans (all11 (H c)), ((h.1 c).1 12).trans (all12 (H c)), ((h.1 c).1 13).trans (all13 (H c)), ((h.1 c).1 14).trans (all14 (H c)), ((h.1 c).1 15).trans (all15 (H c)), ((h.1 c).1 16).trans (all16 (H c)), ((h.1 c).1 17).trans (all17 (H c)), h.2 c⟩)
      (θ_run_and (PostIdeal.Gen.run_main m g) (PostIdeal.Gen.unchanged m g))
  · refine (θ_run _ _ _).mono (fun r h c => ?_) (PostRefIdeal.Value.run m' g')
    obtain ⟨q9, q10, q11, q12, q13, q14, q15, q16, q17, q⟩ := h c
    exact ⟨q9.trans (ref9 (F c)), q10.trans (ref10 (F c)), q11.trans (ref11 (F c)), q12.trans (ref12 (F c)), q13.trans (ref13 (F c)), q14.trans (ref14 (F c)), q15.trans (ref15 (F c)), q16.trans (ref16 (F c)), q17.trans (ref17 (F c)), q⟩

end Cert.Post1

end
-- ==== Proof.InModel.lean ====
/- The input part of the layer and its gradient over real numbers, one token row at a time: the first norm, the
   modulation, the input projection, and what each of them passes back. The projection's columns are laid over 2560
   lanes: the latents, the rotary key (after 64 lanes that hold its rotated copy, and with 32 empty lanes after each),
   the gates, and the sliding attention's queries, keys, values and gates. -/
module

public import proofs.«01_k».proof.Proof.PostModel

@[expose] public section

noncomputable section

namespace Cert.In1

open Cert.Coe

/-- The inputs of `n` token rows: the residual stream and its cotangent, the projection's cotangent over the lanes, the
    modulation's shift and scale, and (shared by all rows) the gain and the projection over the lanes. -/
structure Tile (n : ℕ) where
  x : Fin n → Fin 1024 → ℝ
  dx : Fin n → Fin 1024 → ℝ
  ct : Fin n → ℕ → ℝ
  sh : Fin n → Fin 1024 → ℝ
  sc : Fin n → Fin 1024 → ℝ
  ng : Fin 1024 → ℝ
  A : Fin 1024 → ℕ → ℝ

/-- `log 2` as the kernel's float writes it. -/
def ln2 : ℝ := 11629080 / 16777216
theorem ln2_ne : ln2 ≠ 0 := by unfold ln2; norm_num
theorem kLn2 : Idealize.ShloMosaic.Ideal.ofBits .f32 0x3F317218#32 = ((ln2 : ℝ) : EReal) := by
  simp [Idealize.ShloMosaic.Ideal.ofBits, Idealize.ShloMosaic.Ideal.ieee, ln2, -EReal.coe_mul]; norm_num

namespace Tile
variable {n m : ℕ} (T : Tile n)

/-- The rows `f 0, f 1, …` of a tile. -/
def sub (f : Fin m → Fin n) : Tile m where
  x r := T.x (f r)
  dx r := T.dx (f r)
  ct r := T.ct (f r)
  sh r := T.sh (f r)
  sc r := T.sc (f r)
  ng := T.ng
  A := T.A

/-- The row's sum of squares. -/
def ssq (r : Fin n) : ℝ := ∑ d, T.x r d * T.x r d
/-- The reciprocal root of the row's mean square. -/
def rt (r : Fin n) : ℝ := (Real.sqrt (T.ssq r / 1024 + eps))⁻¹
/-- The normalised row. -/
def xn (r : Fin n) (d : Fin 1024) : ℝ := T.x r d * T.rt r
/-- The modulated row. -/
def h (r : Fin n) (d : Fin 1024) : ℝ := T.xn r d * T.ng d * (1 + T.sc r d) + T.sh r d
/-- What the projection passes back. -/
def dh (r : Fin n) (d : Fin 1024) : ℝ := ∑ l ∈ Finset.range 2560, T.ct r l * T.A d l
/-- What the modulation and the gain pass back. -/
def dxn (r : Fin n) (d : Fin 1024) : ℝ := T.dh r d * T.ng d * (1 + T.sc r d)
/-- The residual stream's cotangent. -/
def gx (r : Fin n) (d : Fin 1024) : ℝ := T.dx r d + T.rt r * (T.dxn r d - T.xn r d * ((∑ e, T.dxn r e * T.xn r e) / 1024))
/-- Both gates' cotangents side by side. -/
def g (r : Fin n) (l : ℕ) : ℝ := if l < 512 then T.ct r (768 + l) else T.ct r (1536 + l)
/-- The keys' cotangent as the call takes it: each head's 64 lanes in a group of 128, in units of `log 2`. -/
def k2 (r : Fin n) (l : ℕ) : ℝ := if l % 128 < 64 then T.ct r (1792 + (64 * (l / 128) + l % 128)) / ln2 else 0
/-- The values' cotangent laid out the same way. -/
def v2 (r : Fin n) (l : ℕ) : ℝ := if l % 128 < 64 then T.ct r (1920 + (64 * (l / 128) + l % 128)) else 0

theorem ssq_nonneg (r : Fin n) : 0 ≤ T.ssq r := Finset.sum_nonneg fun _ _ => mul_self_nonneg _
theorem ms_pos (r : Fin n) : 0 < T.ssq r / 1024 + eps := add_pos_of_nonneg_of_pos (div_nonneg (T.ssq_nonneg r) (by norm_num)) eps_pos

/-- The projection's part over the lanes from `a` on. -/
def part (a w : ℕ) (r : Fin n) (d : Fin 1024) : ℝ := ∑ l ∈ Finset.range w, T.ct r (a + l) * T.A d (a + l)
/-- The whole is the sum over the five groups of lanes. -/
theorem dh_parts (r : Fin n) (d : Fin 1024) : T.part 0 768 r d + T.part 768 512 r d + T.part 1280 512 r d + T.part 1792 256 r d + T.part 2048 512 r d = T.dh r d := by
  unfold part dh
  rw [show 2560 = 768 + 512 + 512 + 256 + 512 from rfl, Finset.sum_range_add, Finset.sum_range_add, Finset.sum_range_add, Finset.sum_range_add]
  simp only [zero_add]

end Tile

/-- The call's arguments as arrays of reals. -/
structure Args where
  x : Fin 4 → Fin 2048 → Fin 1024 → ℝ
  dx : Fin 4 → Fin 2048 → Fin 1024 → ℝ
  zq : Fin 4 → Fin 2048 → ℕ → ℝ
  zkv : Fin 4 → Fin 2048 → ℕ → ℝ
  kr : Fin 4 → Fin 2048 → ℕ → ℝ
  gM : Fin 4 → Fin 2048 → ℕ → ℝ
  dq : Fin 4 → Fin 2048 → ℕ → ℝ
  dk : Fin 4 → Fin 2048 → ℕ → ℝ
  dv : Fin 4 → Fin 2048 → ℕ → ℝ
  gS : Fin 4 → Fin 2048 → ℕ → ℝ
  mod : Fin 4 → Fin 3072 → ℝ
  ba : Fin 1 → Fin 3072 → ℝ
  ng : Fin 1024 → ℝ
  W : Fin 1024 → ℕ → ℝ

namespace Args
variable (Q : Args)

/-- The cotangent of the projection's 2464 columns. -/
def cz (b : Fin 4) (s : Fin 2048) (j : ℕ) : ℝ :=
  if j < 384 then Q.zq b s j else if j < 640 then Q.zkv b s (j - 384) else if j < 672 then Q.kr b s (j - 640)
  else if j < 1184 then Q.gM b s (j - 672) else if j < 1696 then Q.dq b s (j - 1184) else if j < 1824 then Q.dk b s (j - 1696)
  else if j < 1952 then Q.dv b s (j - 1824) else Q.gS b s (j - 1952)
/-- The same over the lanes. -/
def ct (b : Fin 4) (s : Fin 2048) (l : ℕ) : ℝ :=
  if l < 640 then Q.cz b s l else if l < 704 then 0 else if l < 736 then Q.cz b s (l - 64) else if l < 768 then 0 else Q.cz b s (l - 96)
/-- The projection over the lanes. -/
def A (d : Fin 1024) (l : ℕ) : ℝ :=
  if l < 640 then Q.W d l else if l < 656 then -Q.W d (l + 16) else if l < 672 then Q.W d (l - 16) else if l < 704 then 0
  else if l < 736 then Q.W d (l - 64) else if l < 768 then 0 else Q.W d (l - 96)

/-- A product over the lanes is one over the columns: the lanes between hold no cotangent. -/
theorem lanes (b : Fin 4) (s : Fin 2048) (d : Fin 1024) :
    ∑ l ∈ Finset.range 2560, Q.ct b s l * Q.A d l = ∑ j ∈ Finset.range 2464, Q.cz b s j * Q.W d j := by
  rw [show 2560 = 640 + 64 + 32 + 32 + 1792 from rfl, show 2464 = 640 + 32 + 1792 from rfl]
  simp only [Finset.sum_range_add]
  have e1 : ∑ l ∈ Finset.range 640, Q.ct b s l * Q.A d l = ∑ j ∈ Finset.range 640, Q.cz b s j * Q.W d j :=
    Finset.sum_congr rfl fun l hl => by rw [Finset.mem_range] at hl; unfold ct A; rw [if_pos hl, if_pos hl]
  have e2 : ∑ l ∈ Finset.range 64, Q.ct b s (640 + l) * Q.A d (640 + l) = 0 :=
    Finset.sum_eq_zero fun l hl => by rw [Finset.mem_range] at hl; unfold ct; rw [if_neg (by omega), if_pos (by omega), zero_mul]
  have e3 : ∑ l ∈ Finset.range 32, Q.ct b s (640 + 64 + l) * Q.A d (640 + 64 + l) = ∑ j ∈ Finset.range 32, Q.cz b s (640 + j) * Q.W d (640 + j) :=
    Finset.sum_congr rfl fun l hl => by
      rw [Finset.mem_range] at hl; unfold ct A
      rw [if_neg (by omega), if_neg (by omega), if_pos (by omega), if_neg (by omega), if_neg (by omega), if_neg (by omega), if_neg (by omega), if_pos (by omega),
        show 640 + 64 + l - 64 = 640 + l by omega]
  have e4 : ∑ l ∈ Finset.range 32, Q.ct b s (640 + 64 + 32 + l) * Q.A d (640 + 64 + 32 + l) = 0 :=
    Finset.sum_eq_zero fun l hl => by
      rw [Finset.mem_range] at hl; unfold ct; rw [if_neg (by omega), if_neg (by omega), if_neg (by omega), if_pos (by omega), zero_mul]
  have e5 : ∑ l ∈ Finset.range 1792, Q.ct b s (640 + 64 + 32 + 32 + l) * Q.A d (640 + 64 + 32 + 32 + l) = ∑ j ∈ Finset.range 1792, Q.cz b s (640 + 32 + j) * Q.W d (640 + 32 + j) :=
    Finset.sum_congr rfl fun l hl => by
      rw [Finset.mem_range] at hl; unfold ct A
      rw [if_neg (by omega), if_neg (by omega), if_neg (by omega), if_neg (by omega), if_neg (by omega), if_neg (by omega), if_neg (by omega), if_neg (by omega), if_neg (by omega),
        if_neg (by omega), show 640 + 64 + 32 + 32 + l - 96 = 640 + 32 + l by omega]
  rw [e1, e2, e3, e4, e5, add_zero, add_zero]

/-- The rows of all tokens, row `n` at position `n % 2048` of sequence `n / 2048`. -/
def tile : Tile 8192 where
  x n := Q.x ⟨n / 2048, by omega⟩ ⟨n % 2048, by omega⟩
  dx n := Q.dx ⟨n / 2048, by omega⟩ ⟨n % 2048, by omega⟩
  ct n := Q.ct ⟨n / 2048, by omega⟩ ⟨n % 2048, by omega⟩
  sh n d := Q.mod ⟨n / 2048, by omega⟩ ⟨d, by omega⟩ + Q.ba 0 ⟨d, by omega⟩
  sc n d := Q.mod ⟨n / 2048, by omega⟩ ⟨1024 + d, by omega⟩ + Q.ba 0 ⟨1024 + d, by omega⟩
  ng := Q.ng
  A := Q.A

/-- The 512 rows of block `t`. -/
def blk (t : ℕ) (ht : t < 16) : Tile 512 := Q.tile.sub (fun r => ⟨512 * t + r, by omega⟩)
/-- The shift's and the scale's row of a block. -/
def shAt (t : ℕ) (ht : t < 16) (d : Fin 1024) : ℝ := Q.mod ⟨t / 4, by omega⟩ ⟨d, by omega⟩ + Q.ba 0 ⟨d, by omega⟩
def scAt (t : ℕ) (ht : t < 16) (d : Fin 1024) : ℝ := Q.mod ⟨t / 4, by omega⟩ ⟨1024 + d, by omega⟩ + Q.ba 0 ⟨1024 + d, by omega⟩

theorem blk_ng (t : ℕ) (ht : t < 16) : (Q.blk t ht).ng = Q.ng := rfl
theorem blk_A (t : ℕ) (ht : t < 16) : (Q.blk t ht).A = Q.A := rfl
theorem blk_sh (t : ℕ) (ht : t < 16) : (Q.blk t ht).sh = fun _ => Q.shAt t ht := by
  funext r d
  refine congrArg₂ (fun q k => Q.mod q k + Q.ba 0 k) (Fin.ext ?_) rfl
  simp only; omega
theorem blk_sc (t : ℕ) (ht : t < 16) : (Q.blk t ht).sc = fun _ => Q.scAt t ht := by
  funext r d
  refine congrArg₂ (fun q k => Q.mod q k + Q.ba 0 k) (Fin.ext ?_) rfl
  simp only; omega

end Args

end Cert.In1

end
-- ==== Proof.InPay.lean ====
/- What the body of the input part's backward call computes on a block of 512 rows whose entries are real. -/
module

public import proofs.«01_k».proof.Proof.InModel
public import proofs.«01_k».proof.Proof.PostPay
public import proofs.«01_k».proof.Proof.Gen.InbIdeal.Skeleton
public import Idealize.ShloMosaic.Lib.Pointwise

@[expose] public section

set_option maxRecDepth 16384

noncomputable section

namespace Cert.In1

open Idealize.ShloMosaic Cert.InbIdeal Cert.InbIdeal.Gen Cert.Coe
open Cert.Post1 (row)

variable (T : Tile 512) (sh sc ng : Fin 1024 → ℝ) (hs : T.sh = fun _ => sh) (hc : T.sc = fun _ => sc) (hn : T.ng = ng)

theorem p5 (f : Fin 512 → Fin 1024 → ℝ) : k0_pay5 (F := Ideal) (c2 f) = c2 f := by
  funext i; idx_vars i; pointwise [k0_pay5, c2_apply]
theorem p7 (a b : Fin 3072 → ℝ) : k0_pay7 (F := Ideal) (c3 fun (_ _ : Fin 1) => a) (c2 fun (_ : Fin 1) => b) = c2 (row fun d => a ⟨d, by omega⟩ + b ⟨d, by omega⟩) := by
  funext i; idx_vars i; pointwise [k0_pay7, k0_pay6, c2_apply, c3_apply]; rw [← EReal.coe_add]
theorem p8 (a b : Fin 3072 → ℝ) : k0_pay8 (F := Ideal) (c3 fun (_ _ : Fin 1) => a) (c2 fun (_ : Fin 1) => b) = c2 (row fun d => a ⟨1024 + d, by omega⟩ + b ⟨1024 + d, by omega⟩) := by
  funext i; idx_vars i; pointwise [k0_pay8, k0_pay6, c2_apply, c3_apply]; rw [← EReal.coe_add]
theorem p9 (f : Fin 1 → Fin 1024 → ℝ) : k0_pay9 (F := Ideal) (c2 f) = c2 f := by
  funext i; idx_vars i; pointwise [k0_pay9, c2_apply]
theorem p10 : k0_pay10 (F := Ideal) (c2 T.x) = c2 fun r _ => T.rt r := by
  funext i; idx_vars i; pointwise [k0_pay10, p5, c2_apply]
  simp only [← EReal.coe_mul, coe_sum]
  rw [k1024, kEps, div_real (by norm_num), ← EReal.coe_add]
  exact rsqrt_real (T.ms_pos _)
theorem p11 : k0_pay11 (F := Ideal) (c2 T.x) = c2 fun r _ => T.rt r := by
  funext i; idx_vars i; pointwise [k0_pay11, p10, c2_apply]
theorem p12 : k0_pay12 (F := Ideal) (c2 T.x) (c2 fun r _ => T.rt r) = c2 T.xn := by
  funext i; idx_vars i; pointwise [k0_pay12, c2_apply]; rfl
include hs hc hn in
theorem p13 : k0_pay13 (F := Ideal) (c2 T.x) (c2 (row sh)) (c2 (row sc)) (c2 (row ng)) (c2 fun r _ => T.rt r) = c2 T.h := by
  subst hn
  funext i; idx_vars i; pointwise [k0_pay13, p12, c2_apply]
  simp only [one_real, ← EReal.coe_mul, ← EReal.coe_add, Tile.h, hs, hc]
theorem p14 (f : Fin 512 → Fin 1024 → ℝ) : k0_pay14 (F := Ideal) (c2 f) = c2 f := by
  funext i; idx_vars i; pointwise [k0_pay14, c2_apply]
theorem p15 (f : Fin 512 → Fin 768 → ℝ) : k0_pay15 (F := Ideal) (c2 f) = c2 f := by
  funext i; idx_vars i; pointwise [k0_pay15, c2_apply]
theorem p16 : k0_pay16 (F := Ideal) (c2 fun r (l : Fin 1024) => T.g r l) = c2 fun r (l : Fin 512) => T.ct r (768 + l) := by
  funext i; idx_vars i; pointwise [k0_pay16, p14, c2_apply]; simp [Tile.g]
theorem p24 : k0_pay24 (F := Ideal) (c2 fun r (l : Fin 1024) => T.g r l) = c2 fun r (l : Fin 512) => T.ct r (2048 + l) := by
  funext i; idx_vars i; pointwise [k0_pay24, c2_apply]; simp [Tile.g, ← add_assoc]
theorem p17 (f : Fin 512 → Fin 512 → ℝ) : k0_pay17 (F := Ideal) (c2 f) = c2 f := by
  funext i; idx_vars i; pointwise [k0_pay17, c2_apply]
theorem p19 (f : Fin 512 → Fin 256 → ℝ) : k0_pay19 (F := Ideal) (c2 f) = c2 f := by
  funext i; idx_vars i; pointwise [k0_pay19, c2_apply]
theorem p20 : k0_pay20 (F := Ideal) (c2 fun r (l : Fin 256) => T.v2 r l) = c2 fun r (l : Fin 128) => T.v2 r (128 + l) := by
  funext i; idx_vars i; pointwise [k0_pay20, p19, c2_apply]
/-- The lane's number within a group decides the choice. -/
theorem lane_lt (l : Fin 128) : IntOp.cmpi .slt (BitVec.ofNat 32 l) 64#32 = if (l : ℕ) < 64 then 1#1 else 0#1 := by revert l; decide +kernel
/-- Adding the two halves of a group leaves each head's lanes, once in the first group and shifted by 64 in the second. -/
theorem once_k (r : Fin 512) (l : ℕ) (hl : l < 128) :
    ((if l < 64 then T.k2 r l + T.k2 r ((l + 128 - 64) % 128) else T.k2 r (128 + l) + T.k2 r (128 + (l + 128 - 64) % 128)) : ℝ) = T.ct r (1792 + l) / ln2 := by
  unfold Tile.k2
  split_ifs with h0 h1 h2 h3 h4 h5 h6 <;> first | (exfalso; omega) | skip
  all_goals first
    | rw [add_zero]
    | rw [zero_add]
  all_goals exact congrArg (fun a => T.ct r a / ln2) (by omega)
theorem once_v (r : Fin 512) (l : ℕ) (hl : l < 128) :
    ((if l < 64 then T.v2 r l + T.v2 r ((l + 128 - 64) % 128) else T.v2 r (128 + l) + T.v2 r (128 + (l + 128 - 64) % 128)) : ℝ) = T.ct r (1920 + l) := by
  unfold Tile.v2
  split_ifs with h0 h1 h2 h3 h4 h5 h6 <;> first | (exfalso; omega) | skip
  all_goals first
    | rw [add_zero]
    | rw [zero_add]
  all_goals exact congrArg (T.ct r) (by omega)
theorem p18 : k0_pay18 (F := Ideal) (c2 fun r (l : Fin 256) => T.k2 r l) = c2 fun r (l : Fin 128) => T.ct r (1792 + l) := by
  funext i; idx_vars i; pointwise [k0_pay18, c2_apply]
  have e := once_k T i0 i1 i1.isLt
  rw [lane_lt, kLn2]; simp only [← EReal.coe_add]
  have h : ∀ a b : ℝ, Scalar.select (if (i1 : ℕ) < 64 then 1#1 else 0#1) (a : EReal) (b : EReal) = ((if (i1 : ℕ) < 64 then a else b : ℝ) : EReal) := by
    intro a b; by_cases h : (i1 : ℕ) < 64 <;> simp [h, Scalar.select]
  rw [h, e, ← EReal.coe_mul, div_mul_cancel₀ _ ln2_ne]
theorem p22 : k0_pay22 (F := Ideal) (c2 fun r (l : Fin 256) => T.v2 r l) = c2 fun r (l : Fin 128) => T.v2 r l + T.v2 r ((64 + l) % 128) := by
  funext i; idx_vars i; pointwise [k0_pay22, p19, c2_apply]
  rw [← EReal.coe_add, show (64 + (i1 : ℕ)) % 128 = (i1 + 128 - 64) % 128 by omega]
theorem p23 : k0_pay23 (F := Ideal) (c2 fun r (l : Fin 128) => T.ct r (1792 + l)) (c2 fun r (l : Fin 128) => T.v2 r (128 + l)) k0_pay21 (c2 fun r (l : Fin 128) => T.v2 r l + T.v2 r ((64 + l) % 128))
    = c2 fun r (l : Fin 256) => T.ct r (1792 + l) := by
  funext i; idx_vars i; pointwise [k0_pay23, k0_pay21, c2_apply]
  split_ifs with h
  · rfl
  · have e := once_v T i0 (i1 - 128) (by omega)
    rw [lane_lt ⟨i1 - 128, by omega⟩, show (64 + ((i1 : ℕ) - 128)) % 128 = (i1 - 128 + 128 - 64) % 128 by omega, ← EReal.coe_add (T.v2 i0 (128 + _))]
    have h : ∀ a b : ℝ, Scalar.select (if (i1 : ℕ) - 128 < 64 then 1#1 else 0#1) (a : EReal) (b : EReal) = ((if (i1 : ℕ) - 128 < 64 then a else b : ℝ) : EReal) := by
      intro a b; by_cases h : (i1 : ℕ) - 128 < 64 <;> simp [h, Scalar.select]
    rw [h, e, show 1920 + ((i1 : ℕ) - 128) = 1792 + i1 by omega]
/-- The five groups' products with the projection's lanes. -/
theorem p27 : k0_pay27 (F := Ideal) (c2 fun r (l : Fin 768) => T.ct r l) (c2 fun r (l : Fin 512) => T.ct r (768 + l)) (c2 fun d (l : Fin 768) => T.A d l) (c2 fun d (l : Fin 512) => T.A d (768 + l))
    = c2 fun r d => T.part 0 768 r d + T.part 768 512 r d := by
  funext i; idx_vars i; pointwise [k0_pay27, c2_apply]
  simp only [← EReal.coe_mul, coe_sum, zero_add, ← EReal.coe_add]
  simp only [Tile.part, Finset.sum_range, zero_add]
theorem p29 (f : Fin 1024 → Fin 512 → ℝ) : k0_pay29 (F := Ideal) (c2 f) = c2 f := by
  funext i; idx_vars i; pointwise [k0_pay29, c2_apply]
variable (cst : FVec Ideal S512x1024 .f32) (hz : ∀ j, cst j = (0 : EReal))
include hz in
theorem p32 : k0_pay32 (F := Ideal) (c2 fun r (l : Fin 512) => T.ct r (1280 + l)) (c2 fun r (l : Fin 256) => T.ct r (1792 + l)) (c2 fun r (l : Fin 512) => T.ct r (2048 + l))
      (c2 fun r d => T.part 0 768 r d + T.part 768 512 r d) (c2 fun d (l : Fin 512) => T.A d (1280 + l)) cst (c2 fun d (l : Fin 256) => T.A d (1792 + l)) (c2 fun d (l : Fin 512) => T.A d (2048 + l))
    = c2 T.dh := by
  funext i; idx_vars i; pointwise [k0_pay32, c2_apply, hz]
  simp only [← EReal.coe_mul, coe_sum, zero_add, ← EReal.coe_add]
  rw [← T.dh_parts]
  simp only [Tile.part, Finset.sum_range, zero_add]

/-! What the accumulators take up. -/

theorem p25 (g : Fin 512 → Fin 768 → ℝ) (acc : FVec Ideal S1024x768 .f32) (j : S1024x768.Idx) :
    k0_pay25 (F := Ideal) (c2 T.h) (c2 g) acc j = acc j + ((∑ r, T.h r (j 0) * g r (j 1) : ℝ) : EReal) := by
  idx_vars j; pointwise [k0_pay25, c2_apply]; simp only [← EReal.coe_mul, coe_sum, zero_add]
theorem p26 (g : Fin 512 → Fin 512 → ℝ) (acc : FVec Ideal S1024x512 .f32) (j : S1024x512.Idx) :
    k0_pay26 (F := Ideal) (c2 T.h) (c2 g) acc j = acc j + ((∑ r, T.h r (j 0) * g r (j 1) : ℝ) : EReal) := by
  idx_vars j; pointwise [k0_pay26, c2_apply]; simp only [← EReal.coe_mul, coe_sum, zero_add]
theorem p28 (g : Fin 512 → Fin 512 → ℝ) (acc : FVec Ideal S1024x512 .f32) (j : S1024x512.Idx) :
    k0_pay28 (F := Ideal) (c2 T.h) (c2 g) acc j = acc j + ((∑ r, T.h r (j 0) * g r (j 1) : ℝ) : EReal) := p26 T g acc j
theorem p30 (g : Fin 512 → Fin 256 → ℝ) (acc : FVec Ideal S1024x256 .f32) (j : S1024x256.Idx) :
    k0_pay30 (F := Ideal) (c2 T.h) (c2 g) acc j = acc j + ((∑ r, T.h r (j 0) * g r (j 1) : ℝ) : EReal) := by
  idx_vars j; pointwise [k0_pay30, c2_apply]; simp only [← EReal.coe_mul, coe_sum, zero_add]
theorem p31 (g : Fin 512 → Fin 512 → ℝ) (acc : FVec Ideal S1024x512 .f32) (j : S1024x512.Idx) :
    k0_pay31 (F := Ideal) (c2 T.h) (c2 g) acc j = acc j + ((∑ r, T.h r (j 0) * g r (j 1) : ℝ) : EReal) := p26 T g acc j
include hz in
theorem p33 (acc : FVec Ideal S1x1x1024 .f32) (j : S1x1x1024.Idx) :
    k0_pay33 (F := Ideal) (c2 fun r (l : Fin 512) => T.ct r (1280 + l)) (c2 fun r (l : Fin 256) => T.ct r (1792 + l)) (c2 fun r (l : Fin 512) => T.ct r (2048 + l))
      (c2 fun r d => T.part 0 768 r d + T.part 768 512 r d) (c2 fun d (l : Fin 512) => T.A d (1280 + l)) cst (c2 fun d (l : Fin 256) => T.A d (1792 + l)) (c2 fun d (l : Fin 512) => T.A d (2048 + l)) acc j
    = acc j + ((∑ r, T.dh r (j 2) : ℝ) : EReal) := by
  idx_vars j; pointwise [k0_pay33, p32 T cst hz, c2_apply]; simp only [coe_sum]
  rw [Subsingleton.elim j0 0, Subsingleton.elim j1 0]
theorem p36 (acc : FVec Ideal S1x1x1024 .f32) (j : S1x1x1024.Idx) :
    k0_pay36 (F := Ideal) (c2 T.xn) (c2 T.dh) (k0_pay34 acc) (k0_pay35 (c2 (row T.ng))) j = acc j + ((∑ r, T.dh r (j 2) * (T.xn r (j 2) * T.ng (j 2)) : ℝ) : EReal) := by
  idx_vars j; pointwise [k0_pay36, k0_pay34, k0_pay35, c2_apply]; simp only [← EReal.coe_mul, coe_sum]
  rw [Subsingleton.elim j0 0, Subsingleton.elim j1 0]
include hc in
theorem p37 (acc : FVec Ideal S1x1024 .f32) (j : S1x1024.Idx) :
    k0_pay37 (F := Ideal) (c2 (row sc)) (c2 T.xn) (c2 T.dh) acc j = acc j + ((∑ r, T.dh r (j 1) * T.xn r (j 1) * (1 + T.sc r (j 1)) : ℝ) : EReal) := by
  idx_vars j; pointwise [k0_pay37, c2_apply]; simp only [one_real, ← EReal.coe_add, ← EReal.coe_mul, coe_sum, hc]
include hc in
theorem p38 : k0_pay38 (F := Ideal) (c2 (row sc)) (c2 (row T.ng)) (c2 fun r _ => T.rt r) (c2 T.xn) (c2 T.dh) (c2 T.dx) = c2 T.gx := by
  funext i; idx_vars i; pointwise [k0_pay38, c2_apply]
  simp only [one_real, ← EReal.coe_add, ← EReal.coe_mul, coe_sum]
  rw [k1024, div_real (by norm_num)]
  simp only [← EReal.coe_mul, ← EReal.coe_sub, ← EReal.coe_add, Tile.gx, Tile.dxn, hc]
theorem z1 (j) : k0_pay1 (F := Ideal) j = (0 : EReal) := by pointwise [k0_pay1]
theorem z2 (j) : k0_pay2 (F := Ideal) j = (0 : EReal) := by pointwise [k0_pay2]
theorem z3 (j) : k0_pay3 (F := Ideal) j = (0 : EReal) := by pointwise [k0_pay3]
theorem z4 (j) : k0_pay4 (F := Ideal) j = (0 : EReal) := by pointwise [k0_pay4]

end Cert.In1

end
-- ==== Proof.InHost.lean ====
/- The arrays of the input part's host code that lay several operands side by side, as the region finds them. -/
module

public import proofs.«01_k».proof.Proof.Gen.InbIdeal.Value
public import Idealize.ShloMosaic.Lib.Pipeline.ValueKit

@[expose] public section

set_option maxRecDepth 16384

noncomputable section

namespace Cert.In1

open Idealize.ShloMosaic Idealize.ShloMosaic.TcCoe Idealize.SL.Sem Cert.InbIdeal Cert.InbIdeal.Gen
open Idealize.ShloMosaic.StableHlo (nary_result)

variable (σ : Valuation τ sig (Elt Ideal))

/-- The host's lines up to a concatenation, it, and the lines after. -/
theorem cut5 : StableHlo.after hostOps0 σ = StableHlo.after (hostOps0.drop 8) ((hostOps0[7]).result (StableHlo.after (hostOps0.take 7) σ)) := rfl
theorem cut21 : StableHlo.after hostOps0 σ = StableHlo.after (hostOps0.drop 27) ((hostOps0[26]).result (StableHlo.after (hostOps0.take 26) σ)) := rfl
theorem cut27 : StableHlo.after hostOps0 σ = StableHlo.after (hostOps0.drop 35) ((hostOps0[34]).result (StableHlo.after (hostOps0.take 34) σ)) := rfl
theorem cut39 : StableHlo.after hostOps0 σ = (hostOps0[47]).result (StableHlo.after (hostOps0.take 47) σ) := rfl

theorem t6 : StableHlo.after (hostOps0.drop 8) σ main_v6 = (truncf .bf16 (σ main_v5 : FVec Ideal S8192x768 .f32) bitsLt_bf16_f32 : FVec Ideal S8192x768 .bf16) := by
  simp only [List.drop_succ_cons, List.drop_zero]
  entry_read; rfl
theorem n5 : (hostOps0[7]).result σ main_v5 = (concatenate S8192x768 1 [⟨S8192x384, (σ main_v0 : FVec Ideal S8192x384 .f32)⟩, ⟨S8192x256, (σ main_v1 : FVec Ideal S8192x256 .f32)⟩, ⟨S8192x64, (σ main_v2 : FVec Ideal S8192x64 .f32)⟩, ⟨S8192x32, (σ main_v3 : FVec Ideal S8192x32 .f32)⟩, ⟨S8192x32, (σ main_v4 : FVec Ideal S8192x32 .f32)⟩]
    concatenates_S8192x384_S8192x256_S8192x64_S8192x32_S8192x32_S8192x768_d1 : FVec Ideal S8192x768 .f32) := by
  simp only [List.getElem_cons_succ, List.getElem_cons_zero]; exact nary_result ..
theorem t21 : StableHlo.after (hostOps0.drop 27) σ main_v21 = σ main_v21 := by
  simp only [List.drop_succ_cons, List.drop_zero]
  entry_read; rfl
theorem n21 : (hostOps0[26]).result σ main_v21 = (concatenate S8192x256 1 [⟨S8192x64, (σ main_v17 : FVec Ideal S8192x64 .f32)⟩, ⟨S8192x64, (σ main_v18 : FVec Ideal S8192x64 .f32)⟩, ⟨S8192x64, (σ main_v19 : FVec Ideal S8192x64 .f32)⟩, ⟨S8192x64, (σ main_v20 : FVec Ideal S8192x64 .f32)⟩]
    concatenates_S8192x64_S8192x64_S8192x64_S8192x64_S8192x256_d1 : FVec Ideal S8192x256 .f32) := by
  simp only [List.getElem_cons_succ, List.getElem_cons_zero]; exact nary_result ..
theorem t27 : StableHlo.after (hostOps0.drop 35) σ main_v27 = σ main_v27 := by
  simp only [List.drop_succ_cons, List.drop_zero]
  entry_read; rfl
theorem n27 : (hostOps0[34]).result σ main_v27 = (concatenate S8192x256 1 [⟨S8192x64, (σ main_v23 : FVec Ideal S8192x64 .f32)⟩, ⟨S8192x64, (σ main_v24 : FVec Ideal S8192x64 .f32)⟩, ⟨S8192x64, (σ main_v25 : FVec Ideal S8192x64 .f32)⟩, ⟨S8192x64, (σ main_v26 : FVec Ideal S8192x64 .f32)⟩]
    concatenates_S8192x64_S8192x64_S8192x64_S8192x64_S8192x256_d1 : FVec Ideal S8192x256 .f32) := by
  simp only [List.getElem_cons_succ, List.getElem_cons_zero]; exact nary_result ..
theorem n39 : (hostOps0[47]).result σ main_v39 = (concatenate S1024x2560 1 [⟨S1024x640, (σ main_v33 : FVec Ideal S1024x640 .bf16)⟩, ⟨S1024x32, (σ main_v37 : FVec Ideal S1024x32 .bf16)⟩, ⟨S1024x32, (σ main_v32 : FVec Ideal S1024x32 .bf16)⟩, ⟨S1024x32, (σ main_v31 : FVec Ideal S1024x32 .bf16)⟩, ⟨S1024x32, (σ main_v32 : FVec Ideal S1024x32 .bf16)⟩, ⟨S1024x1792, (σ main_v38 : FVec Ideal S1024x1792 .bf16)⟩]
    concatenates_S1024x640_S1024x32_S1024x32_S1024x32_S1024x32_S1024x1792_S1024x2560_d1 : FVec Ideal S1024x2560 .bf16) := by
  simp only [List.getElem_cons_succ, List.getElem_cons_zero]; exact nary_result ..

end Cert.In1

end
-- ==== Proof.InBlocks.lean ====
/- The blocks the input part's backward call reads: each is the matching part of the arguments. -/
module

public import proofs.«01_k».proof.Proof.InPay
public import proofs.«01_k».proof.Proof.InHost
public import proofs.«01_k».proof.Proof.Gen.InbIdeal.Value
public import Idealize.ShloMosaic.Lib.Pipeline.ValueKit

@[expose] public section

set_option maxRecDepth 16384

noncomputable section

namespace Cert.In1

open Idealize.ShloMosaic Idealize.ShloMosaic.TcCoe Idealize.SL.Sem Cert.InbIdeal Cert.InbIdeal.Gen Cert.Coe
open Cert.Post1 (row)

namespace Args
variable (Q : Args) (b : Fin 4) (s : Fin 2048) (l : ℕ)
/-! The lanes' cotangent and the projection, group by group. -/
theorem ct_zq (h' : l < 384) : Q.ct b s l = Q.zq b s l := by
  unfold Args.ct Args.cz
  repeat first | rw [if_pos (by omega)] | rw [if_neg (by omega)]
  all_goals first | done | rfl | (congr 1; done) | (congr 1; omega)
theorem ct_zkv (h : 384 ≤ l) (h' : l < 640) : Q.ct b s l = Q.zkv b s (l - 384) := by
  unfold Args.ct Args.cz
  repeat first | rw [if_pos (by omega)] | rw [if_neg (by omega)]
  all_goals first | done | rfl | (congr 1; done) | (congr 1; omega)
theorem ct_z1 (h : 640 ≤ l) (h' : l < 704) : Q.ct b s l = 0 := by
  unfold Args.ct Args.cz
  repeat first | rw [if_pos (by omega)] | rw [if_neg (by omega)]
  all_goals first | done | rfl | (congr 1; done) | (congr 1; omega)
theorem ct_kr (h : 704 ≤ l) (h' : l < 736) : Q.ct b s l = Q.kr b s (l - 704) := by
  unfold Args.ct Args.cz
  repeat first | rw [if_pos (by omega)] | rw [if_neg (by omega)]
  all_goals first | done | rfl | (congr 1; done) | (congr 1; omega)
theorem ct_z2 (h : 736 ≤ l) (h' : l < 768) : Q.ct b s l = 0 := by
  unfold Args.ct Args.cz
  repeat first | rw [if_pos (by omega)] | rw [if_neg (by omega)]
  all_goals first | done | rfl | (congr 1; done) | (congr 1; omega)
theorem ct_gM (h : 768 ≤ l) (h' : l < 1280) : Q.ct b s l = Q.gM b s (l - 768) := by
  unfold Args.ct Args.cz
  repeat first | rw [if_pos (by omega)] | rw [if_neg (by omega)]
  all_goals first | done | rfl | (congr 1; done) | (congr 1; omega)
theorem ct_dq (h : 1280 ≤ l) (h' : l < 1792) : Q.ct b s l = Q.dq b s (l - 1280) := by
  unfold Args.ct Args.cz
  repeat first | rw [if_pos (by omega)] | rw [if_neg (by omega)]
  all_goals first | done | rfl | (congr 1; done) | (congr 1; omega)
theorem ct_dk (h : 1792 ≤ l) (h' : l < 1920) : Q.ct b s l = Q.dk b s (l - 1792) := by
  unfold Args.ct Args.cz
  repeat first | rw [if_pos (by omega)] | rw [if_neg (by omega)]
  all_goals first | done | rfl | (congr 1; done) | (congr 1; omega)
theorem ct_dv (h : 1920 ≤ l) (h' : l < 2048) : Q.ct b s l = Q.dv b s (l - 1920) := by
  unfold Args.ct Args.cz
  repeat first | rw [if_pos (by omega)] | rw [if_neg (by omega)]
  all_goals first | done | rfl | (congr 1; done) | (congr 1; omega)
theorem ct_gS (h : 2048 ≤ l)  : Q.ct b s l = Q.gS b s (l - 2048) := by
  unfold Args.ct Args.cz
  repeat first | rw [if_pos (by omega)] | rw [if_neg (by omega)]
  all_goals first | done | rfl | (congr 1; done) | (congr 1; omega)
variable (d : Fin 1024)
theorem A_q (h' : l < 640) : Q.A d l = Q.W d l := by
  unfold Args.A
  repeat first | rw [if_pos (by omega)] | rw [if_neg (by omega)]
theorem A_neg (h : 640 ≤ l) (h' : l < 656) : Q.A d l = -Q.W d (l + 16) := by
  unfold Args.A
  repeat first | rw [if_pos (by omega)] | rw [if_neg (by omega)]
theorem A_pos (h : 656 ≤ l) (h' : l < 672) : Q.A d l = Q.W d (l - 16) := by
  unfold Args.A
  repeat first | rw [if_pos (by omega)] | rw [if_neg (by omega)]
theorem A_z1 (h : 672 ≤ l) (h' : l < 704) : Q.A d l = 0 := by
  unfold Args.A
  repeat first | rw [if_pos (by omega)] | rw [if_neg (by omega)]
theorem A_kr (h : 704 ≤ l) (h' : l < 736) : Q.A d l = Q.W d (l - 64) := by
  unfold Args.A
  repeat first | rw [if_pos (by omega)] | rw [if_neg (by omega)]
theorem A_z2 (h : 736 ≤ l) (h' : l < 768) : Q.A d l = 0 := by
  unfold Args.A
  repeat first | rw [if_pos (by omega)] | rw [if_neg (by omega)]
theorem A_hi (h : 768 ≤ l)  : Q.A d l = Q.W d (l - 96) := by
  unfold Args.A
  repeat first | rw [if_pos (by omega)] | rw [if_neg (by omega)]
end Args
/-- Equal positions hold equal entries. -/
theorem same (f : ℕ → ℝ) {a b : ℕ} (h : a = b) : ((f a : ℝ) : EReal) = ((f b : ℝ) : EReal) := by rw [h]

variable (m : (ℓ : Loc nD τ sig) → Buf (Elt Ideal) ℓ)

/-- The arguments are `Q`'s arrays. -/
structure Holds (c : Dev nD) (Q : Args) : Prop where
  h0 : m ((c.tc : Thread nD τ).loc main_arg0) = c3 Q.x
  h1 : m ((c.tc : Thread nD τ).loc main_arg1) = c3 Q.dx
  h2 : m ((c.tc : Thread nD τ).loc main_arg2) = c3 fun b s (d : Fin 384) => Q.zq b s d
  h3 : m ((c.tc : Thread nD τ).loc main_arg3) = c3 fun b s (d : Fin 256) => Q.zkv b s d
  h4 : m ((c.tc : Thread nD τ).loc main_arg4) = c3 fun b s (d : Fin 32) => Q.kr b s d
  h5 : m ((c.tc : Thread nD τ).loc main_arg5) = c3 fun b s (d : Fin 512) => Q.gM b s d
  h6 : m ((c.tc : Thread nD τ).loc main_arg6) = c3 fun b s (d : Fin 512) => Q.dq b s d
  h7 : m ((c.tc : Thread nD τ).loc main_arg7) = c3 fun b s (d : Fin 128) => Q.dk b s d
  h8 : m ((c.tc : Thread nD τ).loc main_arg8) = c3 fun b s (d : Fin 128) => Q.dv b s d
  h9 : m ((c.tc : Thread nD τ).loc main_arg9) = c3 fun b s (d : Fin 512) => Q.gS b s d
  h10 : m ((c.tc : Thread nD τ).loc main_arg10) = c2 Q.mod
  h11 : m ((c.tc : Thread nD τ).loc main_arg11) = c2 Q.ba
  h12 : m ((c.tc : Thread nD τ).loc main_arg12) = c1 Q.ng
  h13 : m ((c.tc : Thread nD τ).loc main_arg13) = c2 fun d (l : Fin 2464) => Q.W d l

theorem lt (t : Fin cfg0.N) : t.val < 16 := t.isLt

theorem in0 : ∀ t : Fin cfg0.N, win0_0.index t = ![t.val, 0] := (by decide +kernel : ∀ t : Fin grid0.N, _)
theorem in1 : ∀ t : Fin cfg0.N, win0_1.index t = ![t.val, 0] := (by decide +kernel : ∀ t : Fin grid0.N, _)
theorem in2 : ∀ t : Fin cfg0.N, win0_2.index t = ![t.val, 0] := (by decide +kernel : ∀ t : Fin grid0.N, _)
theorem in3 : ∀ t : Fin cfg0.N, win0_3.index t = ![t.val, 0] := (by decide +kernel : ∀ t : Fin grid0.N, _)
theorem in4 : ∀ t : Fin cfg0.N, win0_4.index t = ![t.val, 0] := (by decide +kernel : ∀ t : Fin grid0.N, _)
theorem in5 : ∀ t : Fin cfg0.N, win0_5.index t = ![t.val, 0] := (by decide +kernel : ∀ t : Fin grid0.N, _)
theorem in6 : ∀ t : Fin cfg0.N, win0_6.index t = ![t.val, 0] := (by decide +kernel : ∀ t : Fin grid0.N, _)
theorem in7 : ∀ t : Fin cfg0.N, win0_7.index t = ![t.val / 4, 0, 0] := (by decide +kernel : ∀ t : Fin grid0.N, _)
theorem in8 : ∀ t : Fin cfg0.N, win0_8.index t = ![0, 0] := (by decide +kernel : ∀ t : Fin grid0.N, _)
theorem in9 : ∀ t : Fin cfg0.N, win0_9.index t = ![0, 0] := (by decide +kernel : ∀ t : Fin grid0.N, _)
theorem in10 : ∀ t : Fin cfg0.N, win0_10.index t = ![0, 0] := (by decide +kernel : ∀ t : Fin grid0.N, _)

variable {m} {c : Dev nD} {Q : Args} (H : Holds m c Q) (t : Fin cfg0.N)

/-- A token's row of the lanes, and of the two doubled groups. -/
theorem tile_ct (n : Fin 8192) (l : ℕ) : Q.tile.ct n l = Q.ct ⟨n / 2048, by omega⟩ ⟨n % 2048, by omega⟩ l := rfl

include H in
theorem a0 : V m c main_v11 = c2 Q.tile.x := by
  funext i; idx_vars i; entry_read; pointwise [H.h0, c3_apply]; rfl
include H in
theorem a1 : V m c main_v12 = c2 Q.tile.dx := by
  funext i; idx_vars i; entry_read; pointwise [H.h1, c3_apply]; rfl
include H in
include H in
/-- The operands the host lays side by side. -/
theorem o0 : StableHlo.after (hostOps0.take 7) (fun b => m (c, b)) main_v0 = c2 fun (n : Fin 8192) (l : Fin 384) => Q.zq ⟨n / 2048, by omega⟩ ⟨n % 2048, by omega⟩ l := by
  funext i; idx_vars i; simp only [List.take_succ_cons, List.take_zero]; entry_read; pointwise [H.h2, c3_apply]; rfl
include H in
theorem o1 : StableHlo.after (hostOps0.take 7) (fun b => m (c, b)) main_v1 = c2 fun (n : Fin 8192) (l : Fin 256) => Q.zkv ⟨n / 2048, by omega⟩ ⟨n % 2048, by omega⟩ l := by
  funext i; idx_vars i; simp only [List.take_succ_cons, List.take_zero]; entry_read; pointwise [H.h3, c3_apply]; rfl
include H in
theorem o2 : StableHlo.after (hostOps0.take 7) (fun b => m (c, b)) main_v2 = c2 fun (_ : Fin 8192) (_ : Fin 64) => 0 := by
  funext i; idx_vars i; simp only [List.take_succ_cons, List.take_zero]; entry_read; pointwise [c2_apply]; exact zero_real
include H in
theorem o3 : StableHlo.after (hostOps0.take 7) (fun b => m (c, b)) main_v3 = c2 fun (n : Fin 8192) (l : Fin 32) => Q.kr ⟨n / 2048, by omega⟩ ⟨n % 2048, by omega⟩ l := by
  funext i; idx_vars i; simp only [List.take_succ_cons, List.take_zero]; entry_read; pointwise [H.h4, c3_apply]; rfl
include H in
theorem o4 : StableHlo.after (hostOps0.take 7) (fun b => m (c, b)) main_v4 = c2 fun (_ : Fin 8192) (_ : Fin 32) => 0 := by
  funext i; idx_vars i; simp only [List.take_succ_cons, List.take_zero]; entry_read; pointwise [c2_apply]; exact zero_real
include H in
theorem a2 : V m c main_v6 = c2 fun n (l : Fin 768) => Q.tile.ct n l := by
  funext i; idx_vars i; show StableHlo.after hostOps0 _ main_v6 _ = _; rw [cut5, t6, n5, o0 H, o1 H, o2 H, o3 H, o4 H]; pointwise [c2_apply]
  rw [tile_ct]
  split_ifs
  · rw [Q.ct_zq _ _ _ (by omega)]
  · rw [Q.ct_zkv _ _ _ (by omega) (by omega)]
  · rw [Q.ct_z1 _ _ _ (by omega) (by omega)]
  · rw [Q.ct_kr _ _ _ (by omega) (by omega)]; exact same (Q.kr _ _) (by omega)
  · rw [Q.ct_z2 _ _ _ (by omega) (by omega)]
theorem g_lo (n : Fin 8192) (l : ℕ) (h : l < 512) : Q.tile.g n l = Q.gM ⟨n / 2048, by omega⟩ ⟨n % 2048, by omega⟩ l := by
  unfold Tile.g
  rw [if_pos h, tile_ct, Q.ct_gM _ _ _ (by omega) (by omega), Nat.add_sub_cancel_left]
theorem g_hi (n : Fin 8192) (l : ℕ) (h : ¬l < 512) : Q.tile.g n l = Q.gS ⟨n / 2048, by omega⟩ ⟨n % 2048, by omega⟩ (l - 512) := by
  unfold Tile.g
  rw [if_neg h, tile_ct, Q.ct_gS _ _ _ (by omega), show 1536 + l - 2048 = l - 512 by omega]
include H in
theorem o7 : V m c main_v7 = c2 fun (n : Fin 8192) (l : Fin 512) => Q.gM ⟨n / 2048, by omega⟩ ⟨n % 2048, by omega⟩ l := by
  funext i; idx_vars i; entry_read; pointwise [H.h5, c3_apply]; rfl
include H in
theorem o8 : V m c main_v8 = c2 fun (n : Fin 8192) (l : Fin 512) => Q.gS ⟨n / 2048, by omega⟩ ⟨n % 2048, by omega⟩ l := by
  funext i; idx_vars i; entry_read; pointwise [H.h9, c3_apply]; rfl
theorem e10 : V m c main_v10 = (truncf .bf16 (concatenate S8192x1024 1 [⟨S8192x512, (V m c main_v7 : FVec Ideal S8192x512 .f32)⟩, ⟨S8192x512, (V m c main_v8 : FVec Ideal S8192x512 .f32)⟩]
    concatenates_S8192x512_S8192x512_S8192x1024_d1 : FVec Ideal S8192x1024 .f32) bitsLt_bf16_f32 : FVec Ideal S8192x1024 .bf16) := by
  entry_read; rfl
include H in
theorem a3 : V m c main_v10 = c2 fun n (l : Fin 1024) => Q.tile.g n l := by
  funext i; idx_vars i; rw [e10, o7 H, o8 H]; pointwise [c2_apply]
  by_cases h : (i1 : ℕ) < 512
  · rw [g_lo _ _ h]; exact dif_pos h
  · rw [g_hi _ _ h]; exact dif_neg h
include H in
theorem a4 : V m c main_v13 = c2 fun n (l : Fin 512) => Q.tile.ct n (1280 + l) := by
  funext i; idx_vars i; entry_read; pointwise [H.h6, c3_apply, c2_apply]
  rw [tile_ct]
  rw [Q.ct_dq _ _ _ (by omega) (by omega)]; exact same (Q.dq _ _) (by omega)
include H in
theorem o17 : StableHlo.after (hostOps0.take 26) (fun b => m (c, b)) main_v17 = c2 fun (n : Fin 8192) (l : Fin 64) => Q.dk ⟨n / 2048, by omega⟩ ⟨n % 2048, by omega⟩ (l) / ln2 := by
  funext i; idx_vars i; simp only [List.take_succ_cons, List.take_zero]; entry_read; pointwise [H.h7, c3_apply, c2_apply]; rw [kLn2, div_real ln2_ne]
include H in
theorem o18 : StableHlo.after (hostOps0.take 26) (fun b => m (c, b)) main_v18 = c2 fun (_ : Fin 8192) (_ : Fin 64) => 0 := by
  funext i; idx_vars i; simp only [List.take_succ_cons, List.take_zero]; entry_read; pointwise [c2_apply]; exact zero_real
include H in
theorem o19 : StableHlo.after (hostOps0.take 26) (fun b => m (c, b)) main_v19 = c2 fun (n : Fin 8192) (l : Fin 64) => Q.dk ⟨n / 2048, by omega⟩ ⟨n % 2048, by omega⟩ (64 + l) / ln2 := by
  funext i; idx_vars i; simp only [List.take_succ_cons, List.take_zero]; entry_read; pointwise [H.h7, c3_apply, c2_apply]; rw [kLn2, div_real ln2_ne]
include H in
theorem o20 : StableHlo.after (hostOps0.take 26) (fun b => m (c, b)) main_v20 = c2 fun (_ : Fin 8192) (_ : Fin 64) => 0 := by
  funext i; idx_vars i; simp only [List.take_succ_cons, List.take_zero]; entry_read; pointwise [c2_apply]; exact zero_real
include H in
theorem a5 : V m c main_v21 = c2 fun n (l : Fin 256) => Q.tile.k2 n l := by
  funext i; idx_vars i; show StableHlo.after hostOps0 _ main_v21 _ = _; rw [cut21, t21, n21, o17 H, o18 H, o19 H, o20 H]; pointwise [c2_apply]
  unfold Tile.k2; simp only [tile_ct]
  by_cases h : (i1 : ℕ) % 128 < 64
  · rw [if_pos h, Q.ct_dk _ _ _ (by omega) (by omega)]
    split_ifs <;> first | (exfalso; omega) | exact same (fun k => Q.dk _ _ k / ln2) (by omega)
  · rw [if_neg h]
    split_ifs <;> first | (exfalso; omega) | rfl
include H in
theorem o23 : StableHlo.after (hostOps0.take 34) (fun b => m (c, b)) main_v23 = c2 fun (n : Fin 8192) (l : Fin 64) => Q.dv ⟨n / 2048, by omega⟩ ⟨n % 2048, by omega⟩ (l) := by
  funext i; idx_vars i; simp only [List.take_succ_cons, List.take_zero]; entry_read; pointwise [H.h8, c3_apply, c2_apply]
include H in
theorem o24 : StableHlo.after (hostOps0.take 34) (fun b => m (c, b)) main_v24 = c2 fun (_ : Fin 8192) (_ : Fin 64) => 0 := by
  funext i; idx_vars i; simp only [List.take_succ_cons, List.take_zero]; entry_read; pointwise [c2_apply]; exact zero_real
include H in
theorem o25 : StableHlo.after (hostOps0.take 34) (fun b => m (c, b)) main_v25 = c2 fun (n : Fin 8192) (l : Fin 64) => Q.dv ⟨n / 2048, by omega⟩ ⟨n % 2048, by omega⟩ (64 + l) := by
  funext i; idx_vars i; simp only [List.take_succ_cons, List.take_zero]; entry_read; pointwise [H.h8, c3_apply, c2_apply]
include H in
theorem o26 : StableHlo.after (hostOps0.take 34) (fun b => m (c, b)) main_v26 = c2 fun (_ : Fin 8192) (_ : Fin 64) => 0 := by
  funext i; idx_vars i; simp only [List.take_succ_cons, List.take_zero]; entry_read; pointwise [c2_apply]; exact zero_real
include H in
theorem a6 : V m c main_v27 = c2 fun n (l : Fin 256) => Q.tile.v2 n l := by
  funext i; idx_vars i; show StableHlo.after hostOps0 _ main_v27 _ = _; rw [cut27, t27, n27, o23 H, o24 H, o25 H, o26 H]; pointwise [c2_apply]
  unfold Tile.v2; simp only [tile_ct]
  by_cases h : (i1 : ℕ) % 128 < 64
  · rw [if_pos h, Q.ct_dv _ _ _ (by omega) (by omega)]
    split_ifs <;> first | (exfalso; omega) | exact same (Q.dv _ _) (by omega)
  · rw [if_neg h]
    split_ifs <;> first | (exfalso; omega) | rfl
include H in
theorem o33 : StableHlo.after (hostOps0.take 47) (fun b => m (c, b)) main_v33 = c2 fun (d : Fin 1024) (l : Fin 640) => Q.W d (l) := by
  funext i; idx_vars i; simp only [List.take_succ_cons, List.take_zero]; entry_read; pointwise [H.h13, c2_apply]
include H in
theorem o37 : StableHlo.after (hostOps0.take 47) (fun b => m (c, b)) main_v37 = c2 fun (d : Fin 1024) (l : Fin 32) => if (l : ℕ) < 16 then -Q.W d (656 + l) else Q.W d (624 + l) := by
  funext i; idx_vars i; simp only [List.take_succ_cons, List.take_zero]; entry_read; pointwise [H.h13, c2_apply]; split_ifs
  · rw [← EReal.coe_neg]; exact same (fun k => -Q.W i0 k) (by omega)
  · exact same (Q.W i0) (by omega)
include H in
theorem o32 : StableHlo.after (hostOps0.take 47) (fun b => m (c, b)) main_v32 = c2 fun (_ : Fin 1024) (_ : Fin 32) => 0 := by
  funext i; idx_vars i; simp only [List.take_succ_cons, List.take_zero]; entry_read; pointwise [c2_apply]; exact zero_real
include H in
theorem o31 : StableHlo.after (hostOps0.take 47) (fun b => m (c, b)) main_v31 = c2 fun (d : Fin 1024) (l : Fin 32) => Q.W d (640 + l) := by
  funext i; idx_vars i; simp only [List.take_succ_cons, List.take_zero]; entry_read; pointwise [H.h13, c2_apply]
include H in
theorem o38 : StableHlo.after (hostOps0.take 47) (fun b => m (c, b)) main_v38 = c2 fun (d : Fin 1024) (l : Fin 1792) => Q.W d (672 + l) := by
  funext i; idx_vars i; simp only [List.take_succ_cons, List.take_zero]; entry_read; pointwise [H.h13, c2_apply]
include H in
theorem a10 : V m c main_v39 = c2 fun d (l : Fin 2560) => Q.A d l := by
  funext i; idx_vars i; show StableHlo.after hostOps0 _ main_v39 _ = _; rw [cut39, n39, o33 H, o37 H, o32 H, o31 H, o38 H]; pointwise [c2_apply]
  by_cases h1 : (i1 : ℕ) < 640
  · rw [Q.A_q _ _ h1]; exact dif_pos h1
  refine (dif_neg h1).trans ?_
  by_cases h2 : (i1 : ℕ) - 640 < 32
  · refine (dif_pos h2).trans ?_
    by_cases h3 : (i1 : ℕ) - 640 < 16
    · rw [Q.A_neg _ _ (by omega) (by omega), if_pos h3]; exact same (fun k => -Q.W i0 k) (by omega)
    · rw [Q.A_pos _ _ (by omega) (by omega), if_neg h3]; exact same (Q.W i0) (by omega)
  refine (dif_neg h2).trans ?_
  by_cases h3 : (i1 : ℕ) - 640 - 32 < 32
  · rw [Q.A_z1 _ _ (by omega) (by omega)]; exact dif_pos h3
  refine (dif_neg h3).trans ?_
  by_cases h4 : (i1 : ℕ) - 640 - 32 - 32 < 32
  · rw [Q.A_kr _ _ (by omega) (by omega)]; exact (dif_pos h4).trans (same (Q.W i0) (by omega))
  refine (dif_neg h4).trans ?_
  by_cases h5 : (i1 : ℕ) - 640 - 32 - 32 - 32 < 32
  · rw [Q.A_z2 _ _ (by omega) (by omega)]; exact dif_pos h5
  · rw [Q.A_hi _ _ (by omega)]; exact (dif_neg h5).trans (same (Q.W i0) (by omega))
include H in
theorem a7 : V m c main_v28 = c3 fun q (_ : Fin 1) => Q.mod q := by
  funext i; idx_vars i; entry_read; pointwise [H.h10, c2_apply]; rfl
include H in
theorem a8 : V m c main_arg11 = c2 Q.ba := by
  rw [← H.h11]; exact V_main_arg11 m c
include H in
theorem a9 : V m c main_v29 = c2 (row Q.ng) := by
  funext i; idx_vars i; entry_read; pointwise [H.h12, c1_apply]; rfl
include H in
theorem b0 : (iblk m c 0 t : FVec Ideal S512x1024 .f32) = c2 (Q.blk t (lt t)).x := by
  have e : ∀ (r : Fin 512) (d : Fin 1024), iblk m c 0 t (ix2 r d) = V m c main_v11 (ix2 ⟨512 * t + r, by have := lt t; omega⟩ d) := fun r d => by blk_ext [iblk, in0 t]
  funext i; idx_vars i; pointwise [e, a0 H]; rfl
include H in
theorem b1 : (iblk m c 1 t : FVec Ideal S512x1024 .f32) = c2 (Q.blk t (lt t)).dx := by
  have e : ∀ (r : Fin 512) (d : Fin 1024), iblk m c 1 t (ix2 r d) = V m c main_v12 (ix2 ⟨512 * t + r, by have := lt t; omega⟩ d) := fun r d => by blk_ext [iblk, in1 t]
  funext i; idx_vars i; pointwise [e, a1 H]; rfl
include H in
theorem b2 : (iblk m c 2 t : FVec Ideal S512x768 .bf16) = c2 fun r (l : Fin 768) => (Q.blk t (lt t)).ct r l := by
  have e : ∀ (r : Fin 512) (d : Fin 768), iblk m c 2 t (ix2 r d) = V m c main_v6 (ix2 ⟨512 * t + r, by have := lt t; omega⟩ d) := fun r d => by blk_ext [iblk, in2 t]
  funext i; idx_vars i; pointwise [e, a2 H]; rfl
include H in
theorem b3 : (iblk m c 3 t : FVec Ideal S512x1024 .bf16) = c2 fun r (l : Fin 1024) => (Q.blk t (lt t)).g r l := by
  have e : ∀ (r : Fin 512) (d : Fin 1024), iblk m c 3 t (ix2 r d) = V m c main_v10 (ix2 ⟨512 * t + r, by have := lt t; omega⟩ d) := fun r d => by blk_ext [iblk, in3 t]
  funext i; idx_vars i; pointwise [e, a3 H]; rfl
include H in
theorem b4 : (iblk m c 4 t : FVec Ideal S512x512 .f32) = c2 fun r (l : Fin 512) => (Q.blk t (lt t)).ct r (1280 + l) := by
  have e : ∀ (r : Fin 512) (d : Fin 512), iblk m c 4 t (ix2 r d) = V m c main_v13 (ix2 ⟨512 * t + r, by have := lt t; omega⟩ d) := fun r d => by blk_ext [iblk, in4 t]
  funext i; idx_vars i; pointwise [e, a4 H]; rfl
include H in
theorem b5 : (iblk m c 5 t : FVec Ideal S512x256 .f32) = c2 fun r (l : Fin 256) => (Q.blk t (lt t)).k2 r l := by
  have e : ∀ (r : Fin 512) (d : Fin 256), iblk m c 5 t (ix2 r d) = V m c main_v21 (ix2 ⟨512 * t + r, by have := lt t; omega⟩ d) := fun r d => by blk_ext [iblk, in5 t]
  funext i; idx_vars i; pointwise [e, a5 H]; rfl
include H in
theorem b6 : (iblk m c 6 t : FVec Ideal S512x256 .f32) = c2 fun r (l : Fin 256) => (Q.blk t (lt t)).v2 r l := by
  have e : ∀ (r : Fin 512) (d : Fin 256), iblk m c 6 t (ix2 r d) = V m c main_v27 (ix2 ⟨512 * t + r, by have := lt t; omega⟩ d) := fun r d => by blk_ext [iblk, in6 t]
  funext i; idx_vars i; pointwise [e, a6 H]; rfl
include H in
theorem b7 : (iblk m c 7 t : FVec Ideal S1x1x3072 .f32) = c3 fun (_ _ : Fin 1) => Q.mod ⟨t / 4, by have := lt t; omega⟩ := by
  have e : ∀ (p q : Fin 1) (d : Fin 3072), iblk m c 7 t (ix3 p q d) = V m c main_v28 (ix3 ⟨t / 4, by have := lt t; omega⟩ 0 d) := fun p q d => by blk_ext [iblk, in7 t]
  funext i; idx_vars i; pointwise [e, a7 H]; rfl
include H in
theorem b8 : (iblk m c 8 t : FVec Ideal S1x3072 .f32) = c2 fun (_ : Fin 1) => Q.ba 0 := by
  have e : ∀ (q : Fin 1) (d : Fin 3072), iblk m c 8 t (ix2 q d) = V m c main_arg11 (ix2 0 d) := fun q d => by blk_ext [iblk, in8 t]
  funext i; idx_vars i; pointwise [e, a8 H]; rfl
include H in
theorem b9 : (iblk m c 9 t : FVec Ideal S1x1024 .f32) = c2 (row Q.ng) := by
  have e : ∀ (q : Fin 1) (d : Fin 1024), iblk m c 9 t (ix2 q d) = V m c main_v29 (ix2 0 d) := fun q d => by blk_ext [iblk, in9 t]
  funext i; idx_vars i; pointwise [e, a9 H]; rfl
include H in
theorem b10 (d : Fin 1024) (l : Fin 2560) : iblk m c 10 t (ix2 d l) = ((Q.A d l : ℝ) : EReal) := by
  have e : iblk m c 10 t (ix2 d l) = V m c main_v39 (ix2 d l) := by blk_ext [iblk, in10 t]
  rw [e, a10 H]; rfl
include H in
theorem A0 : View.ld (Val := Elt Ideal) (S := S1024x2560) (e' := .bf16) (iblk m c 10 t) (Rect.unit (s := S1024x2560) ![0, 0] ![1024, 768] inb_S1024x2560_S1024x768_0_0) = c2 fun d (l : Fin 768) => (Q.blk t (lt t)).A d l := by
  funext i; idx_vars i; pointwise [b10 H]; rfl
include H in
theorem A768 : View.ld (Val := Elt Ideal) (S := S1024x2560) (e' := .bf16) (iblk m c 10 t) (Rect.unit (s := S1024x2560) ![0, 768] ![1024, 512] inb_S1024x2560_S1024x512_0_768) = c2 fun d (l : Fin 512) => (Q.blk t (lt t)).A d (768 + l) := by
  funext i; idx_vars i; pointwise [b10 H]; rfl
include H in
theorem A1280 : View.ld (Val := Elt Ideal) (S := S1024x2560) (e' := .bf16) (iblk m c 10 t) (Rect.unit (s := S1024x2560) ![0, 1280] ![1024, 512] inb_S1024x2560_S1024x512_0_1280) = c2 fun d (l : Fin 512) => (Q.blk t (lt t)).A d (1280 + l) := by
  funext i; idx_vars i; pointwise [b10 H]; rfl
include H in
theorem A1792 : View.ld (Val := Elt Ideal) (S := S1024x2560) (e' := .bf16) (iblk m c 10 t) (Rect.unit (s := S1024x2560) ![0, 1792] ![1024, 256] inb_S1024x2560_S1024x256_0_1792) = c2 fun d (l : Fin 256) => (Q.blk t (lt t)).A d (1792 + l) := by
  funext i; idx_vars i; pointwise [b10 H]; rfl
include H in
theorem A2048 : View.ld (Val := Elt Ideal) (S := S1024x2560) (e' := .bf16) (iblk m c 10 t) (Rect.unit (s := S1024x2560) ![0, 2048] ![1024, 512] inb_S1024x2560_S1024x512_0_2048) = c2 fun d (l : Fin 512) => (Q.blk t (lt t)).A d (2048 + l) := by
  funext i; idx_vars i; pointwise [b10 H]; rfl

end Cert.In1

end
-- ==== Proof.InCols.lean ====
/- Pieces of what the body of the input part's backward call leaves at each grid point. -/
module

public import proofs.«01_k».proof.Proof.InBlocks

@[expose] public section

set_option maxRecDepth 16384

noncomputable section

namespace Cert.In1

open Idealize.ShloMosaic Idealize.ShloMosaic.TcCoe Idealize.SL.Sem Cert.InbIdeal Cert.InbIdeal.Gen Cert.Coe
open Cert.Post1 (row)

/-- A list of column stores, read at `y`: the first store's entry where it holds `y`, what the others leave elsewhere. -/
theorem col {o w : ℕ} {inb} (f : Shape.Idx ⟨2, ![1024, w]⟩ → EReal) (L : List (View.Piece (Elt Ideal) S1024x2560 .f32)) (y : S1024x2560.Idx) (v : EReal)
    (hit : ∀ x : Shape.Idx ⟨2, ![1024, w]⟩, (y 0 : ℕ) = x 0 → (y 1 : ℕ) = o + x 1 → f x = v) (miss : (y 1 : ℕ) < o ∨ o + w ≤ (y 1 : ℕ) → View.canon L y = v) :
    View.canon ((⟨Rect.unit (s := S1024x2560) ![0, o] ![1024, w] inb, f⟩ : View.Piece (Elt Ideal) S1024x2560 .f32) :: L) y = v := by
  by_cases h : y ∈ (Rect.unit (s := S1024x2560) ![0, o] ![1024, w] inb).set
  · obtain ⟨x, rfl⟩ := (Rect.unit (s := S1024x2560) ![0, o] ![1024, w] inb).exists_idx_of_mem h
    refine (View.canon_cons_emb _ f L x).trans (hit x ?_ ?_)
    · rw [Rect.idx_unit_val]; exact Nat.zero_add _
    · rw [Rect.idx_unit_val]; rfl
  · refine (View.canon_cons_of_not_mem (⟨Rect.unit (s := S1024x2560) ![0, o] ![1024, w] inb, f⟩ : View.Piece (Elt Ideal) S1024x2560 .f32) L h).trans (miss ?_)
    by_contra hm
    refine h ?_
    rw [Rect.mem_set_unit]
    intro a
    match a with
    | ⟨0, _⟩ => exact ⟨Nat.zero_le _, by show (y 0 : ℕ) < 0 + 1024; have : (y 0 : ℕ) < 1024 := (y 0).isLt; omega⟩
    | ⟨1, _⟩ => exact ⟨by show o ≤ (y 1 : ℕ); omega, by show (y 1 : ℕ) < o + w; omega⟩

/-- Stores that leave zero from column `o` on. -/
def Zero (o : ℕ) (L : List (View.Piece (Elt Ideal) S1024x2560 .f32)) : Prop := ∀ y : S1024x2560.Idx, o ≤ (y 1 : ℕ) → View.canon L y = (0 : EReal)
theorem Zero.base {inb} : Zero 0 [(⟨Rect.unit (s := S1024x2560) ![0, 0] ![1024, 2560] inb, k0_pay1 (F := Ideal)⟩ : View.Piece (Elt Ideal) S1024x2560 .f32)] := fun y _ =>
  col _ _ _ _ (fun x _ _ => z1 x) fun h => by have : (y 1 : ℕ) < 2560 := (y 1).isLt; omega
theorem Zero.cons {o w k : ℕ} {inb f} {L} (h : Zero o L) (e : k = o + w) : Zero k ((⟨Rect.unit (s := S1024x2560) ![0, o] ![1024, w] inb, f⟩ : View.Piece (Elt Ideal) S1024x2560 .f32) :: L) := fun y hy => by
  refine (View.canon_cons_of_not_mem _ L fun hm => ?_).trans (h y (by omega))
  rw [Rect.mem_set_unit] at hm
  have := (hm 1).2
  have : (y 1 : ℕ) < o + w := this
  omega
theorem Zero.read {o w : ℕ} {inb} {L} (h : Zero o L) {sp : Space} (v : View sig .tc sp S1024x2560 .f32) (j : Shape.Idx ⟨2, ![1024, w]⟩) :
    v.readCov L (Rect.unit (s := S1024x2560) ![0, o] ![1024, w] inb).toLoadRect j = (0 : EReal) := by
  rw [View.readCov_eq_canon']
  refine h _ ?_
  show o ≤ o + 1 * (j 1 : ℕ)
  omega

/-! A column group read back before it is stored is zero, whatever the groups before it hold. -/
section
variable {sp : Space} (v : View sig .tc sp S1024x2560 .f32)
theorem back0  (j : Shape.Idx ⟨2, ![1024, 768]⟩) :
    v.readCov (Val := Elt Ideal) [⟨Rect.unit (s := S1024x2560) ![0, 0] ![1024, 2560] inb_S1024x2560_S1024x2560_0_0, k0_pay1 (F := Ideal)⟩] (Rect.unit (s := S1024x2560) ![0, 0] ![1024, 768] inb_S1024x2560_S1024x768_0_0).toLoadRect j = (0 : EReal) :=
  Zero.read Zero.base v j
theorem back1 (f0 : FVec Ideal S1024x768 .f32) (j : Shape.Idx ⟨2, ![1024, 512]⟩) :
    v.readCov (Val := Elt Ideal) [⟨Rect.unit (s := S1024x2560) ![0, 0] ![1024, 768] inb_S1024x2560_S1024x768_0_0, f0⟩, ⟨Rect.unit (s := S1024x2560) ![0, 0] ![1024, 2560] inb_S1024x2560_S1024x2560_0_0, k0_pay1 (F := Ideal)⟩] (Rect.unit (s := S1024x2560) ![0, 768] ![1024, 512] inb_S1024x2560_S1024x512_0_768).toLoadRect j = (0 : EReal) :=
  Zero.read (o := 768) (w := 512) (Zero.cons (o := 0) (w := 768) (k := 768) Zero.base rfl) v j
theorem back2 (f1 : FVec Ideal S1024x512 .f32) (f0 : FVec Ideal S1024x768 .f32) (j : Shape.Idx ⟨2, ![1024, 512]⟩) :
    v.readCov (Val := Elt Ideal) [⟨Rect.unit (s := S1024x2560) ![0, 768] ![1024, 512] inb_S1024x2560_S1024x512_0_768, f1⟩, ⟨Rect.unit (s := S1024x2560) ![0, 0] ![1024, 768] inb_S1024x2560_S1024x768_0_0, f0⟩, ⟨Rect.unit (s := S1024x2560) ![0, 0] ![1024, 2560] inb_S1024x2560_S1024x2560_0_0, k0_pay1 (F := Ideal)⟩] (Rect.unit (s := S1024x2560) ![0, 1280] ![1024, 512] inb_S1024x2560_S1024x512_0_1280).toLoadRect j = (0 : EReal) :=
  Zero.read (o := 1280) (w := 512) (Zero.cons (o := 768) (w := 512) (k := 1280) (Zero.cons (o := 0) (w := 768) (k := 768) Zero.base rfl) rfl) v j
theorem back3 (f2 : FVec Ideal S1024x512 .f32) (f1 : FVec Ideal S1024x512 .f32) (f0 : FVec Ideal S1024x768 .f32) (j : Shape.Idx ⟨2, ![1024, 256]⟩) :
    v.readCov (Val := Elt Ideal) [⟨Rect.unit (s := S1024x2560) ![0, 1280] ![1024, 512] inb_S1024x2560_S1024x512_0_1280, f2⟩, ⟨Rect.unit (s := S1024x2560) ![0, 768] ![1024, 512] inb_S1024x2560_S1024x512_0_768, f1⟩, ⟨Rect.unit (s := S1024x2560) ![0, 0] ![1024, 768] inb_S1024x2560_S1024x768_0_0, f0⟩, ⟨Rect.unit (s := S1024x2560) ![0, 0] ![1024, 2560] inb_S1024x2560_S1024x2560_0_0, k0_pay1 (F := Ideal)⟩] (Rect.unit (s := S1024x2560) ![0, 1792] ![1024, 256] inb_S1024x2560_S1024x256_0_1792).toLoadRect j = (0 : EReal) :=
  Zero.read (o := 1792) (w := 256) (Zero.cons (o := 1280) (w := 512) (k := 1792) (Zero.cons (o := 768) (w := 512) (k := 1280) (Zero.cons (o := 0) (w := 768) (k := 768) Zero.base rfl) rfl) rfl) v j
theorem back4 (f3 : FVec Ideal S1024x256 .f32) (f2 : FVec Ideal S1024x512 .f32) (f1 : FVec Ideal S1024x512 .f32) (f0 : FVec Ideal S1024x768 .f32) (j : Shape.Idx ⟨2, ![1024, 512]⟩) :
    v.readCov (Val := Elt Ideal) [⟨Rect.unit (s := S1024x2560) ![0, 1792] ![1024, 256] inb_S1024x2560_S1024x256_0_1792, f3⟩, ⟨Rect.unit (s := S1024x2560) ![0, 1280] ![1024, 512] inb_S1024x2560_S1024x512_0_1280, f2⟩, ⟨Rect.unit (s := S1024x2560) ![0, 768] ![1024, 512] inb_S1024x2560_S1024x512_0_768, f1⟩, ⟨Rect.unit (s := S1024x2560) ![0, 0] ![1024, 768] inb_S1024x2560_S1024x768_0_0, f0⟩, ⟨Rect.unit (s := S1024x2560) ![0, 0] ![1024, 2560] inb_S1024x2560_S1024x2560_0_0, k0_pay1 (F := Ideal)⟩] (Rect.unit (s := S1024x2560) ![0, 2048] ![1024, 512] inb_S1024x2560_S1024x512_0_2048).toLoadRect j = (0 : EReal) :=
  Zero.read (o := 2048) (w := 512) (Zero.cons (o := 1792) (w := 256) (k := 2048) (Zero.cons (o := 1280) (w := 512) (k := 1792) (Zero.cons (o := 768) (w := 512) (k := 1280) (Zero.cons (o := 0) (w := 768) (k := 768) Zero.base rfl) rfl) rfl) rfl) v j
end

variable {m : (ℓ : Loc nD τ sig) → Buf (Elt Ideal) ℓ} {c : Dev nD} {Q : Args} (H : Holds m c Q) (t : Fin cfg0.N)

/-- A point's part of the projection's gradient. -/
def gwAt (Q : Args) (t : Fin cfg0.N) (y : S1024x2560.Idx) : EReal :=
  ((∑ r : Fin 512, (Q.blk t (lt t)).h r (y 0) * (Q.blk t (lt t)).ct r (y 1) : ℝ) : EReal)
/-- A point's part of the gain's gradient. -/
def gngAt (Q : Args) (t : Fin cfg0.N) (y : S1x1024.Idx) : EReal :=
  ((∑ r : Fin 512, (Q.blk t (lt t)).dh r (y 1) * (Q.blk t (lt t)).xn r (y 1) * (1 + (Q.blk t (lt t)).sc r (y 1)) : ℝ) : EReal)
/-- A point's part of the shift's gradient, and of the scale's. -/
def dshAt (Q : Args) (t : Fin cfg0.N) (y : S1x1x1024.Idx) : EReal := ((∑ r : Fin 512, (Q.blk t (lt t)).dh r (y 2) : ℝ) : EReal)
def dscAt (Q : Args) (t : Fin cfg0.N) (y : S1x1x1024.Idx) : EReal :=
  ((∑ r : Fin 512, (Q.blk t (lt t)).dh r (y 2) * ((Q.blk t (lt t)).xn r (y 2) * (Q.blk t (lt t)).ng (y 2)) : ℝ) : EReal)

/-- A column group's sum is the point's part at the entry it lands on. -/
theorem gw_piece (y : S1024x2560.Idx) (a : Fin 1024) (k : ℕ) (h0 : (y 0 : ℕ) = a) (h1 : (y 1 : ℕ) = k) :
    ((∑ r : Fin 512, (Q.blk t (lt t)).h r a * (Q.blk t (lt t)).ct r k : ℝ) : EReal) = gwAt Q t y := by
  unfold gwAt
  rw [h1, (Fin.ext h0 : (y 0 : Fin 1024) = a)]

theorem zeros (j) : (constant S512x1024 FTy.f32 0#32 : FVec Ideal S512x1024 .f32) j = (0 : EReal) := by pointwise []

include H in
theorem s7 : k0_pay7 (F := Ideal) (iblk m c 7 t) (iblk m c 8 t) = c2 (row (Q.shAt t (lt t))) := by rw [b7 H, b8 H, p7]; rfl
include H in
theorem s8 : k0_pay8 (F := Ideal) (iblk m c 7 t) (iblk m c 8 t) = c2 (row (Q.scAt t (lt t))) := by rw [b7 H, b8 H, p8]; rfl
include H in
theorem s9 : k0_pay9 (F := Ideal) (iblk m c 9 t) = c2 (row (Q.blk t (lt t)).ng) := by rw [b9 H]; exact p9 _
include H in
theorem s12 : k0_pay12 (F := Ideal) (k0_pay5 (iblk m c 0 t)) (k0_pay11 (iblk m c 0 t)) = c2 (Q.blk t (lt t)).xn := by rw [b0 H, p5, p11, p12]
include H in
theorem s13 : k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))
    = c2 (Q.blk t (lt t)).h := by
  rw [s7 H, s8 H, s9 H, b0 H, p5, p11, p13 _ _ _ _ (Q.blk_sh t (lt t)) (Q.blk_sc t (lt t)) rfl]
include H in
theorem s15 : k0_pay15 (F := Ideal) (iblk m c 2 t) = c2 fun r (l : Fin 768) => (Q.blk t (lt t)).ct r l := by rw [b2 H, p15]
include H in
theorem s16 : k0_pay16 (F := Ideal) (iblk m c 3 t) = c2 fun r (l : Fin 512) => (Q.blk t (lt t)).ct r (768 + l) := by rw [b3 H, p16]
include H in
theorem s17 : k0_pay17 (F := Ideal) (iblk m c 4 t) = c2 fun r (l : Fin 512) => (Q.blk t (lt t)).ct r (1280 + l) := by rw [b4 H, p17]
include H in
theorem s23 : k0_pay23 (F := Ideal) (k0_pay18 (iblk m c 5 t)) (k0_pay20 (iblk m c 6 t)) k0_pay21 (k0_pay22 (iblk m c 6 t)) = c2 fun r (l : Fin 256) => (Q.blk t (lt t)).ct r (1792 + l) := by
  rw [b5 H, b6 H, p18, p20, p22, p23]
include H in
theorem s24 : k0_pay24 (F := Ideal) (k0_pay14 (iblk m c 3 t)) = c2 fun r (l : Fin 512) => (Q.blk t (lt t)).ct r (2048 + l) := by rw [b3 H, p14, p24]
include H in
theorem s27 : k0_pay27 (F := Ideal) (k0_pay15 (iblk m c 2 t)) (k0_pay16 (iblk m c 3 t))
          (View.ld (Val := Elt Ideal) (S := S1024x2560) (e' := .bf16) (iblk m c 10 t) (Rect.unit (s := S1024x2560) ![0, 0] ![1024, 768] inb_S1024x2560_S1024x768_0_0))
          (View.ld (Val := Elt Ideal) (S := S1024x2560) (e' := .bf16) (iblk m c 10 t) (Rect.unit (s := S1024x2560) ![0, 768] ![1024, 512] inb_S1024x2560_S1024x512_0_768))
    = c2 fun r d => (Q.blk t (lt t)).part 0 768 r d + (Q.blk t (lt t)).part 768 512 r d := by
  rw [s15 H, s16 H, A0 H, A768 H]; exact p27 _

end Cert.In1

end
-- ==== Proof.InOut.lean ====
/- What the body of the input part's backward call leaves at each grid point. -/
module

public import proofs.«01_k».proof.Proof.InCols

@[expose] public section

set_option maxRecDepth 16384

noncomputable section

namespace Cert.In1

open Idealize.ShloMosaic Idealize.ShloMosaic.TcCoe Idealize.SL.Sem Cert.InbIdeal Cert.InbIdeal.Gen Cert.Coe
open Cert.Post1 (row)

variable {m : (ℓ : Loc nD τ sig) → Buf (Elt Ideal) ℓ} {c : Dev nD} {Q : Args} (H : Holds m c Q) (t : Fin cfg0.N)

set_option maxHeartbeats 1000000 in
include H in
/-- The rows a point writes. -/
theorem rows_out (y) : (outsAt0 m c t.val t.isLt).1 y = c2 (fun (r : Fin 512) d => Q.tile.gx ⟨512 * t + r, by have := lt t; omega⟩ d) y := by
  have hc : t.val % 16 = 0 ∧ t.val % 4 = 0 ∨ ¬t.val % 16 = 0 ∧ ¬t.val % 4 = 0 ∨ ¬t.val % 16 = 0 ∧ t.val % 4 = 0 := by omega
  rcases hc with ⟨h0, h1⟩ | ⟨h0, h1⟩ | ⟨h0, h1⟩
  all_goals first | rw [outsAt0_A m c t h0 h1] | rw [outsAt0_B m c t h0 h1] | rw [outsAt0_C m c t h0 h1]
  all_goals frame_out
  all_goals
    rw [s12 H, s17 H, s23 H, s24 H, s27 H, A1280 H, A1792 H, A2048 H, p29, p32 _ _ zeros, s8 H, s9 H, b0 H, p10, b1 H, p38 _ _ (Q.blk_sc t (lt t))]
    rfl
set_option maxHeartbeats 1000000 in
include H in
/-- A first point starts the gain's sum. -/
theorem gng_first (h0 : t.val % 16 = 0) (y) : (outsAt0 m c t.val t.isLt).2.2.1 y = 0 + gngAt Q t y := by
  rw [outsAt0_A m c t h0 (by omega)]
  frame_out
  rw [s12 H, s17 H, s23 H, s24 H, s27 H, A1280 H, A1792 H, A2048 H, p29, p32 _ _ zeros, s8 H, p37 _ _ (Q.blk_sc t (lt t)), z2]
  rfl
set_option maxHeartbeats 1000000 in
include H in
/-- A later point adds to it. -/
theorem gng_step (h0 : ¬t.val % 16 = 0) (y) : (outsAt0 m c t.val t.isLt).2.2.1 y = (outsAt0 m c (t.val - 1) (Nat.lt_of_le_of_lt (Nat.sub_le _ _) t.isLt)).2.2.1 y + gngAt Q t y := by
  by_cases h1 : t.val % 4 = 0
  all_goals first | rw [outsAt0_B m c t h0 h1] | rw [outsAt0_C m c t h0 h1]
  all_goals frame_out
  all_goals
    rw [s12 H, s17 H, s23 H, s24 H, s27 H, A1280 H, A1792 H, A2048 H, p29, p32 _ _ zeros, s8 H, p37 _ _ (Q.blk_sc t (lt t))]
    rfl
set_option maxHeartbeats 1000000 in
include H in
/-- A sequence's first point starts the shift's and the scale's sums. -/
theorem mod_first (h1 : t.val % 4 = 0) : (∀ y, (outsAt0 m c t.val t.isLt).2.2.2.1 y = 0 + dshAt Q t y) ∧ (∀ y, (outsAt0 m c t.val t.isLt).2.2.2.2 y = 0 + dscAt Q t y) := by
  by_cases h0 : t.val % 16 = 0
  all_goals first | rw [outsAt0_A m c t h0 h1] | rw [outsAt0_C m c t h0 h1]
  all_goals refine ⟨fun y => ?_, fun y => ?_⟩
  all_goals frame_out
  all_goals first
    | (rw [s12 H, s17 H, s23 H, s24 H, s27 H, A1280 H, A1792 H, A2048 H, p29, p32 _ _ zeros, s9 H, p36, z4]; rfl)
    | (rw [s17 H, s23 H, s24 H, s27 H, A1280 H, A1792 H, A2048 H, p29, p33 _ _ zeros, z3]; rfl)
set_option maxHeartbeats 1000000 in
include H in
/-- A later point adds to them. -/
theorem mod_step (h1 : ¬t.val % 4 = 0) :
    (∀ y, (outsAt0 m c t.val t.isLt).2.2.2.1 y = (outsAt0 m c (t.val - 1) (Nat.lt_of_le_of_lt (Nat.sub_le _ _) t.isLt)).2.2.2.1 y + dshAt Q t y)
    ∧ (∀ y, (outsAt0 m c t.val t.isLt).2.2.2.2 y = (outsAt0 m c (t.val - 1) (Nat.lt_of_le_of_lt (Nat.sub_le _ _) t.isLt)).2.2.2.2 y + dscAt Q t y) := by
  rw [outsAt0_B m c t (by omega) h1]
  refine ⟨fun y => ?_, fun y => ?_⟩
  all_goals frame_out
  · rw [s17 H, s23 H, s24 H, s27 H, A1280 H, A1792 H, A2048 H, p29, p33 _ _ zeros]; rfl
  · rw [s12 H, s17 H, s23 H, s24 H, s27 H, A1280 H, A1792 H, A2048 H, p29, p32 _ _ zeros, s9 H, p36]; rfl

end Cert.In1

end
-- ==== Proof.InGw.lean ====
/- The projection's gradient at each grid point of the input part's backward call. -/
module

public import proofs.«01_k».proof.Proof.InCols

@[expose] public section

set_option maxRecDepth 16384

noncomputable section

namespace Cert.In1

open Idealize.ShloMosaic Idealize.ShloMosaic.TcCoe Idealize.SL.Sem Cert.InbIdeal Cert.InbIdeal.Gen Cert.Coe
open Cert.Post1 (row)

variable {m : (ℓ : Loc nD τ sig) → Buf (Elt Ideal) ℓ} {c : Dev nD} {Q : Args} (H : Holds m c Q) (t : Fin cfg0.N)

/-- A column group of the sum so far is the sum at the entry it is stored to. -/
theorem ld_col (X : S1024x2560.Idx → EReal) {o w : ℕ} {inb} (y : S1024x2560.Idx) (x : Shape.Idx ⟨2, ![1024, w]⟩) (e0 : (y 0 : ℕ) = x 0) (e1 : (y 1 : ℕ) = o + x 1) :
    View.ld (Val := Elt Ideal) (e' := .f32) X (Rect.unit (s := S1024x2560) ![0, o] ![1024, w] inb) x = X y :=
  View.ld_unit_apply_of (Val := Elt Ideal) (e := .f32) X _ _ _ x y fun a => match a with
    | ⟨0, _⟩ => e0.trans (Nat.zero_add _).symm
    | ⟨1, _⟩ => e1

set_option maxHeartbeats 1000000 in
include H in
/-- The five column stores over a sum so far leave that sum and the point's part. -/
theorem gw_of (y : S1024x2560.Idx) (P : EReal) (w31 : FVec Ideal S1024x512 .f32) (w30 : FVec Ideal S1024x256 .f32) (w28 : FVec Ideal S1024x512 .f32) (w26 : FVec Ideal S1024x512 .f32) (w25 : FVec Ideal S1024x768 .f32) (L : List (View.Piece (Elt Ideal) S1024x2560 .f32))
    (g31 : ∀ x : Shape.Idx ⟨2, ![1024, 512]⟩, (y 0 : ℕ) = x 0 → (y 1 : ℕ) = 2048 + x 1 → w31 x = P)
    (g30 : ∀ x : Shape.Idx ⟨2, ![1024, 256]⟩, (y 0 : ℕ) = x 0 → (y 1 : ℕ) = 1792 + x 1 → w30 x = P)
    (g28 : ∀ x : Shape.Idx ⟨2, ![1024, 512]⟩, (y 0 : ℕ) = x 0 → (y 1 : ℕ) = 1280 + x 1 → w28 x = P)
    (g26 : ∀ x : Shape.Idx ⟨2, ![1024, 512]⟩, (y 0 : ℕ) = x 0 → (y 1 : ℕ) = 768 + x 1 → w26 x = P)
    (g25 : ∀ x : Shape.Idx ⟨2, ![1024, 768]⟩, (y 0 : ℕ) = x 0 → (y 1 : ℕ) = 0 + x 1 → w25 x = P)
    : View.canon ((⟨Rect.unit (s := S1024x2560) ![0, 2048] ![1024, 512] inb_S1024x2560_S1024x512_0_2048, k0_pay31 (F := Ideal) (k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))) (k0_pay24 (k0_pay14 (iblk m c 3 t))) w31⟩ : View.Piece (Elt Ideal) S1024x2560 .f32) ::
      (⟨Rect.unit (s := S1024x2560) ![0, 1792] ![1024, 256] inb_S1024x2560_S1024x256_0_1792, k0_pay30 (F := Ideal) (k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))) (k0_pay23 (k0_pay18 (iblk m c 5 t)) (k0_pay20 (iblk m c 6 t)) k0_pay21 (k0_pay22 (iblk m c 6 t))) w30⟩ : View.Piece (Elt Ideal) S1024x2560 .f32) ::
      (⟨Rect.unit (s := S1024x2560) ![0, 1280] ![1024, 512] inb_S1024x2560_S1024x512_0_1280, k0_pay28 (F := Ideal) (k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))) (k0_pay17 (iblk m c 4 t)) w28⟩ : View.Piece (Elt Ideal) S1024x2560 .f32) ::
      (⟨Rect.unit (s := S1024x2560) ![0, 768] ![1024, 512] inb_S1024x2560_S1024x512_0_768, k0_pay26 (F := Ideal) (k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))) (k0_pay16 (iblk m c 3 t)) w26⟩ : View.Piece (Elt Ideal) S1024x2560 .f32) ::
      (⟨Rect.unit (s := S1024x2560) ![0, 0] ![1024, 768] inb_S1024x2560_S1024x768_0_0, k0_pay25 (F := Ideal) (k0_pay13 (F := Ideal) (k0_pay5 (iblk m c 0 t)) (k0_pay7 (iblk m c 7 t) (iblk m c 8 t)) (k0_pay8 (iblk m c 7 t) (iblk m c 8 t)) (k0_pay9 (iblk m c 9 t)) (k0_pay11 (iblk m c 0 t))) (k0_pay15 (iblk m c 2 t)) w25⟩ : View.Piece (Elt Ideal) S1024x2560 .f32) ::
      L) y = P + gwAt Q t y := by
  rw [s13 H, s24 H, s23 H, s17 H, s16 H, s15 H]
  refine col _ _ y _ (fun x e0 e1 => (p31 _ _ _ x).trans (congrArg₂ (· + ·) (g31 x e0 e1) (gw_piece t y _ _ e0 e1))) fun h31 => ?_
  refine col _ _ y _ (fun x e0 e1 => (p30 _ _ _ x).trans (congrArg₂ (· + ·) (g30 x e0 e1) (gw_piece t y _ _ e0 e1))) fun h30 => ?_
  refine col _ _ y _ (fun x e0 e1 => (p28 _ _ _ x).trans (congrArg₂ (· + ·) (g28 x e0 e1) (gw_piece t y _ _ e0 e1))) fun h28 => ?_
  refine col _ _ y _ (fun x e0 e1 => (p26 _ _ _ x).trans (congrArg₂ (· + ·) (g26 x e0 e1) (gw_piece t y _ _ e0 e1))) fun h26 => ?_
  refine col _ _ y _ (fun x e0 e1 => (p25 _ _ _ x).trans (congrArg₂ (· + ·) (g25 x e0 e1) (gw_piece t y _ _ e0 (e1.trans (Nat.zero_add _))))) fun h25 => ?_
  have : (y 1 : ℕ) < 2560 := (y 1).isLt
  omega

set_option maxHeartbeats 1000000 in
include H in
/-- A first point starts the projection's sum: each column group is read back as zero before it is stored. -/
theorem gw_first (h0 : t.val % 16 = 0) (y) : (outsAt0 m c t.val t.isLt).2.1 y = 0 + gwAt Q t y := by
  rw [outsAt0_A m c t h0 (by omega)]
  frame_out
  refine gw_of H t y 0 _ _ _ _ _ _ ?_ ?_ ?_ ?_ ?_
  · exact fun x _ _ => back4 _ _ _ _ _ x
  · exact fun x _ _ => back3 _ _ _ _ x
  · exact fun x _ _ => back2 _ _ _ x
  · exact fun x _ _ => back1 _ _ x
  · exact fun x _ _ => back0 _ x

set_option maxHeartbeats 1000000 in
include H in
/-- A later point adds to it. -/
theorem gw_step (h0 : ¬t.val % 16 = 0) (y) : (outsAt0 m c t.val t.isLt).2.1 y = (outsAt0 m c (t.val - 1) (Nat.lt_of_le_of_lt (Nat.sub_le _ _) t.isLt)).2.1 y + gwAt Q t y := by
  by_cases h1 : t.val % 4 = 0
  all_goals first | rw [outsAt0_B m c t h0 h1] | rw [outsAt0_C m c t h0 h1]
  all_goals
    frame_out
    refine gw_of H t y _ _ _ _ _ _ _ ?_ ?_ ?_ ?_ ?_
    all_goals exact fun x e0 e1 => ld_col _ y x e0 e1

end Cert.In1

end
-- ==== Proof.InFinal.lean ====
/- The arrays the input part's backward call leaves, over the whole token axis. -/
module

public import proofs.«01_k».proof.Proof.InOut
public import proofs.«01_k».proof.Proof.InGw
public import proofs.«01_k».proof.Proof.PostFinal

@[expose] public section

set_option maxRecDepth 16384

noncomputable section

namespace Cert.In1

open Idealize.ShloMosaic Idealize.ShloMosaic.TcCoe Idealize.SL.Sem Cert.InbIdeal Cert.InbIdeal.Gen Cert.Coe
open Idealize.ShloMosaic.Pipeline (Dat)
open Cert.Post1 (row at_rows all_points four_points)

theorem out_at11 : ∀ t : Fin cfg0.N, win0_11.index t = ![t.val, 0] := (by decide +kernel : ∀ t : Fin grid0.N, _)
theorem out_at12 : ∀ t : Fin cfg0.N, win0_12.index t = ![0, 0] := (by decide +kernel : ∀ t : Fin grid0.N, _)
theorem out_at13 : ∀ t : Fin cfg0.N, win0_13.index t = ![0, 0] := (by decide +kernel : ∀ t : Fin grid0.N, _)
theorem out_at14 : ∀ t : Fin cfg0.N, win0_14.index t = ![t.val / 4, 0, 0] := (by decide +kernel : ∀ t : Fin grid0.N, _)
theorem out_at15 : ∀ t : Fin cfg0.N, win0_15.index t = ![t.val / 4, 0, 0] := (by decide +kernel : ∀ t : Fin grid0.N, _)

variable {m : (ℓ : Loc nD τ sig) → Buf (Elt Ideal) ℓ} {c : Dev nD} {Q : Args} (H : Holds m c Q)
include H

theorem all11 : (dats m 0 c).arrAt 11 (cfgs 0).N = (c2 Q.tile.gx : Shape.Idx ⟨2, ![8192, 1024]⟩ → EReal) := by
  refine (dats m 0 c).arrAt_eq_of_covers 11 _ (by decide +kernel) fun t hf y => ?_
  blk_simp
  rw [after0_11, rows_out H t]
  exact at_rows Q.tile.gx (lt t) y _ (by blk_simp [out_at11 t]; omega) (by blk_simp [out_at11 t])

theorem all12 : (dats m 0 c).arrAt 12 (cfgs 0).N = (c2 fun d (l : Fin 2560) => ∑ n, Q.tile.h n d * Q.tile.ct n l : FVec Ideal S1024x2560 .f32) := by
  refine (dats m 0 c).arrAt_eq_of_covers 12 _ (by decide +kernel) fun t hf y => ?_
  blk_simp
  rw [after0_12, Pipeline.eq_sum_fin_of_reset_step_apply_of_flush (fun n h => (outsAt0 m c n h).2.1) 16 (fun _ => 0) (gwAt Q)
    (fun t h j => gw_first H t h j) (fun t h j => gw_step H t h j) t ((flush0_12 t).mp hf) _, zero_add]
  have h0 : ((win0_12.blk t).view.emb y 0 : ℕ) = y 0 := by blk_simp [out_at12 t]
  have h1 : ((win0_12.blk t).view.emb y 1 : ℕ) = y 1 := by blk_simp [out_at12 t]
  refine (all_points (fun n => Q.tile.h n (y 0) * Q.tile.ct n (y 1 : ℕ)) 1 _ rfl fun s => ?_).trans ?_
  · have := lt t
    have e : 16 * ((t : ℕ) / 16) + s = s := by omega
    rw [mul_one]; simp only [gwAt, e]; rfl
  · rw [mul_one, ← (Fin.ext h0 : ((win0_12.blk t).view.emb y 0 : Fin 1024) = y 0), ← h1]; rfl
theorem all13 : (dats m 0 c).arrAt 13 (cfgs 0).N = (c2 (row fun d => ∑ n, Q.tile.dh n d * Q.tile.xn n d * (1 + Q.tile.sc n d)) : FVec Ideal S1x1024 .f32) := by
  refine (dats m 0 c).arrAt_eq_of_covers 13 _ (by decide +kernel) fun t hf y => ?_
  blk_simp
  rw [after0_13, Pipeline.eq_sum_fin_of_reset_step_apply_of_flush (fun n h => (outsAt0 m c n h).2.2.1) 16 (fun _ => 0) (gngAt Q)
    (fun t h j => gng_first H t h j) (fun t h j => gng_step H t h j) t ((flush0_13 t).mp hf) _, zero_add]
  have h1 : ((win0_13.blk t).view.emb y 1 : ℕ) = y 1 := by blk_simp [out_at13 t]
  refine (all_points (fun n => Q.tile.dh n (y 1) * Q.tile.xn n (y 1) * (1 + Q.tile.sc n (y 1))) 1 _ rfl fun s => ?_).trans ?_
  · have := lt t
    have e : 16 * ((t : ℕ) / 16) + s = s := by omega
    rw [mul_one]; simp only [gngAt, e]; rfl
  · rw [mul_one, ← (Fin.ext h1 : ((win0_13.blk t).view.emb y 1 : Fin 1024) = y 1)]; rfl
theorem all14 : (dats m 0 c).arrAt 14 (cfgs 0).N = (c3 fun (q : Fin 4) (_ : Fin 1) d => ∑ s : Fin 2048, Q.tile.dh ⟨2048 * q + s, by omega⟩ d : FVec Ideal S4x1x1024 .f32) := by
  refine (dats m 0 c).arrAt_eq_of_covers 14 _ (by decide +kernel) fun t hf y => ?_
  blk_simp
  rw [after0_14, Pipeline.eq_sum_fin_of_reset_step_apply_of_flush (fun n h => (outsAt0 m c n h).2.2.2.1) 4 (fun _ => 0) (dshAt Q)
    (fun t h j => (mod_first H t h).1 j) (fun t h j => (mod_step H t h).1 j) t ((flush0_14 t).mp hf) _, zero_add]
  have h0 : ((win0_14.blk t).view.emb y 0 : ℕ) = t / 4 := by blk_simp [out_at14 t]
  have h2 : ((win0_14.blk t).view.emb y 2 : ℕ) = y 2 := by blk_simp [out_at14 t]
  refine (four_points (fun n => Q.tile.dh n (y 2)) ⟨t / 4, by have := lt t; omega⟩ _ rfl fun s => rfl).trans ?_
  exact congrArg (fun v : ℝ => (v : EReal)) (congrArg₂ (fun (q : Fin 4) (d : Fin 1024) => ∑ s : Fin 2048, Q.tile.dh ⟨2048 * q + s, by omega⟩ d)
    (Fin.ext h0.symm) (Fin.ext h2.symm))
theorem all15 : (dats m 0 c).arrAt 15 (cfgs 0).N = (c3 fun (q : Fin 4) (_ : Fin 1) d => ∑ s : Fin 2048, Q.tile.dh ⟨2048 * q + s, by omega⟩ d * (Q.tile.xn ⟨2048 * q + s, by omega⟩ d * Q.ng d) : FVec Ideal S4x1x1024 .f32) := by
  refine (dats m 0 c).arrAt_eq_of_covers 15 _ (by decide +kernel) fun t hf y => ?_
  blk_simp
  rw [after0_15, Pipeline.eq_sum_fin_of_reset_step_apply_of_flush (fun n h => (outsAt0 m c n h).2.2.2.2) 4 (fun _ => 0) (dscAt Q)
    (fun t h j => (mod_first H t h).2 j) (fun t h j => (mod_step H t h).2 j) t ((flush0_15 t).mp hf) _, zero_add]
  have h0 : ((win0_15.blk t).view.emb y 0 : ℕ) = t / 4 := by blk_simp [out_at15 t]
  have h2 : ((win0_15.blk t).view.emb y 2 : ℕ) = y 2 := by blk_simp [out_at15 t]
  refine (four_points (fun n => Q.tile.dh n (y 2) * (Q.tile.xn n (y 2) * Q.ng (y 2))) ⟨t / 4, by have := lt t; omega⟩ _ rfl fun s => rfl).trans ?_
  exact congrArg (fun v : ℝ => (v : EReal)) (congrArg₂ (fun (q : Fin 4) (d : Fin 1024) => ∑ s : Fin 2048, Q.tile.dh ⟨2048 * q + s, by omega⟩ d * (Q.tile.xn ⟨2048 * q + s, by omega⟩ d * Q.ng d))
    (Fin.ext h0.symm) (Fin.ext h2.symm))

end Cert.In1

end
-- ==== Proof.InRef.lean ====
/- The reference's intermediate arrays over real numbers: row `2048 b + s` of the tile of all tokens is position `s` of
   sequence `b`. -/
module

public import proofs.«01_k».proof.Proof.InModel
public import proofs.«01_k».proof.Proof.PostRefOut
public import proofs.«01_k».proof.Proof.Gen.InbRefIdeal.Run
public import Idealize.ShloMosaic.Lib.Pointwise

@[expose] public section

set_option maxRecDepth 16384

noncomputable section

namespace Cert.In1

open Idealize.ShloMosaic Idealize.ShloMosaic.TcCoe Idealize.SL.Sem Idealize.ShloMosaic.StableHlo
open Cert.InbRefIdeal Cert.InbRefIdeal.Gen Cert.InbRefIdeal.Value Cert.Coe
open Cert.Post1 (tok tok_div tok_mod tok_self sum_tok)

/-- Equal positions hold equal entries. -/
theorem same_at (f : ℕ → ℝ) {a b : ℕ} (h : a = b) : ((f a : ℝ) : EReal) = ((f b : ℝ) : EReal) := by rw [h]

variable (Q : Args)
theorem tok_x (b s) : Q.tile.x (tok b s) = Q.x b s := congrArg₂ Q.x (tok_div b s) (tok_mod b s)
theorem tok_dx (b s) : Q.tile.dx (tok b s) = Q.dx b s := congrArg₂ Q.dx (tok_div b s) (tok_mod b s)
theorem tok_ct (b s) : Q.tile.ct (tok b s) = Q.ct b s := congrArg₂ Q.ct (tok_div b s) (tok_mod b s)
theorem tok_sh (b s d) : Q.tile.sh (tok b s) d = Q.mod b ⟨d, by omega⟩ + Q.ba 0 ⟨d, by omega⟩ :=
  congrArg (fun q => Q.mod q _ + Q.ba 0 _) (tok_div b s)
theorem tok_sc (b s d) : Q.tile.sc (tok b s) d = Q.mod b ⟨1024 + d, by omega⟩ + Q.ba 0 ⟨1024 + d, by omega⟩ :=
  congrArg (fun q => Q.mod q _ + Q.ba 0 _) (tok_div b s)
/-- What the projection passes back is a product over its columns. -/
theorem tok_dh (b s d) : Q.tile.dh (tok b s) d = ∑ j : Fin 2464, Q.cz b s j * Q.W d j := by
  show ∑ l ∈ Finset.range 2560, Q.tile.ct (tok b s) l * Q.A d l = _
  rw [tok_ct, Q.lanes, Finset.sum_range]

variable (m : (ℓ : Loc nD τ sig) → Buf (Elt Ideal) ℓ) (c : Dev nD)

/-- The reference's arguments are `Q`'s arrays. -/
structure Feeds (Q : Args) : Prop where
  h0 : m ((c.tc : Thread nD τ).loc main_arg0) = c3 Q.x
  h1 : m ((c.tc : Thread nD τ).loc main_arg1) = c3 Q.dx
  h2 : m ((c.tc : Thread nD τ).loc main_arg2) = c3 fun b s (d : Fin 384) => Q.zq b s d
  h3 : m ((c.tc : Thread nD τ).loc main_arg3) = c3 fun b s (d : Fin 256) => Q.zkv b s d
  h4 : m ((c.tc : Thread nD τ).loc main_arg4) = c3 fun b s (d : Fin 32) => Q.kr b s d
  h5 : m ((c.tc : Thread nD τ).loc main_arg5) = c3 fun b s (d : Fin 512) => Q.gM b s d
  h6 : m ((c.tc : Thread nD τ).loc main_arg6) = c3 fun b s (d : Fin 512) => Q.dq b s d
  h7 : m ((c.tc : Thread nD τ).loc main_arg7) = c3 fun b s (d : Fin 128) => Q.dk b s d
  h8 : m ((c.tc : Thread nD τ).loc main_arg8) = c3 fun b s (d : Fin 128) => Q.dv b s d
  h9 : m ((c.tc : Thread nD τ).loc main_arg9) = c3 fun b s (d : Fin 512) => Q.gS b s d
  h10 : m ((c.tc : Thread nD τ).loc main_arg10) = c2 Q.mod
  h11 : m ((c.tc : Thread nD τ).loc main_arg11) = c2 Q.ba
  h12 : m ((c.tc : Thread nD τ).loc main_arg12) = c1 Q.ng
  h13 : m ((c.tc : Thread nD τ).loc main_arg13) = c2 fun d (l : Fin 2464) => Q.W d l

/-! The stages of the reference: the modulation, the norm, the modulated rows, the cotangents side by side, what the
    projection and the norm pass back. -/
def v3 : FVec Ideal S4x3072 .f32 := addf (m ((c.tc : Thread nD τ).loc main_arg10)) (broadcastInDim S4x3072 ![0, 1] bcast_S1x3072_S4x3072_0_1 (broadcastInDim S1x3072 ![1] bcast_S3072_S1x3072_1 (shapeCast _ (m ((c.tc : Thread nD τ).loc main_arg11)) shapeCasts_S1x3072_S3072)))
def v13 : FVec Ideal S4x2048x1 .f32 := addf (Host.divf (broadcastInDim S4x2048x1 ![0, 1] bcast_S4x2048_S4x2048x1_0_1 (Host.reduceAdd (mulf (m ((c.tc : Thread nD τ).loc main_arg0)) (m ((c.tc : Thread nD τ).loc main_arg0))) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))
def v14 : FVec Ideal S4x2048x1 .f32 := Host.rsqrt (v13 m c)
def v19 : FVec Ideal S4x2048x1024 .f32 := mulf (m ((c.tc : Thread nD τ).loc main_arg0)) (broadcastInDim S4x2048x1024 ![0, 1, 2] bcast_S4x2048x1_S4x2048x1024_0_1_2 (v14 m c))
def v21 : FVec Ideal S4x2048x1024 .f32 := broadcastInDim S4x2048x1024 ![0, 1, 2] bcast_S1x1x1024_S4x2048x1024_0_1_2 (broadcastInDim S1x1x1024 ![2] bcast_S1024_S1x1x1024_2 (m ((c.tc : Thread nD τ).loc main_arg12)))
def v22 : FVec Ideal S4x2048x1024 .f32 := mulf (v19 m c) (v21 m c)
def v26 : FVec Ideal S4x2048x1024 .f32 := broadcastInDim S4x2048x1024 ![0, 1, 2] bcast_S4x1x1024_S4x2048x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (v3 m c) slices_S4x3072_S4x1024_0_1024)))
def v30 : FVec Ideal S4x2048x1024 .f32 := addf (mulf (v22 m c) (v26 m c)) (broadcastInDim S4x2048x1024 ![0, 1, 2] bcast_S4x1x1024_S4x2048x1024_0_1_2 (broadcastInDim S4x1x1024 ![0, 2] bcast_S4x1024_S4x1x1024_0_2 (extractStridedSlice S4x1024 ![0, 0] (v3 m c) slices_S4x3072_S4x1024_0_0)))
def v40 : FVec Ideal S4x2048x2464 .f32 := (concatenate S4x2048x2464 2 [⟨S4x2048x384, ((m ((c.tc : Thread nD τ).loc main_arg2)))⟩, ⟨S4x2048x256, ((m ((c.tc : Thread nD τ).loc main_arg3)))⟩, ⟨S4x2048x32, ((m ((c.tc : Thread nD τ).loc main_arg4)))⟩, ⟨S4x2048x512, ((m ((c.tc : Thread nD τ).loc main_arg5)))⟩, ⟨S4x2048x512, ((m ((c.tc : Thread nD τ).loc main_arg6)))⟩, ⟨S4x2048x128, ((m ((c.tc : Thread nD τ).loc main_arg7)))⟩, ⟨S4x2048x128, ((m ((c.tc : Thread nD τ).loc main_arg8)))⟩, ⟨S4x2048x512, ((m ((c.tc : Thread nD τ).loc main_arg9)))⟩] concatenates_S4x2048x384_S4x2048x256_S4x2048x32_S4x2048x512_S4x2048x512_S4x2048x128_S4x2048x128_S4x2048x512_S4x2048x2464_d2)
def v42 : FVec Ideal S1024x2464 .f32 := transpose S1024x2464 [1, 0] (Host.dotGeneral (φ₂ := .f32) dot_S4x2048x2464_S4x2048x1024_S2464x1024_01_01_2_2_n_n none (v40 m c) (v30 m c)) transposes_S2464x1024_S1024x2464_1_0
def v43 : FVec Ideal S4x2048x1024 .f32 := Host.dotGeneral (φ₂ := .f32) dot_S4x2048x2464_S1024x2464_S4x2048x1024_2_1_01_0_n_n none (v40 m c) (m ((c.tc : Thread nD τ).loc main_arg13))
def v51 : FVec Ideal S4x2048x1024 .f32 := mulf (v43 m c) (v26 m c)
def v57 : FVec Ideal S4x2048x1024 .f32 := mulf (v51 m c) (v21 m c)
def v61 : FVec Ideal S4x2048x1 .f32 := shapeCast _ (Host.reduceAdd (mulf (m ((c.tc : Thread nD τ).loc main_arg0)) (v57 m c)) (constant S_ .f32 0x00000000#32) reducesTo_S4x2048x1024_S4x2048_d2 h_S_) shapeCasts_S4x2048_S4x2048x1
def v69 : FVec Ideal S4x2048x1024 .f32 := broadcastInDim S4x2048x1024 ![0, 1] bcast_S4x2048_S4x2048x1024_0_1 (Host.reduceAdd (Host.divf (mulf (v61 m c) (mulf (broadcastInDim S4x2048x1 ![] bcast_S_S4x2048x1 (constant S_ .f32 0xBF000000#32)) (Host.divf (v14 m c) (v13 m c)))) (broadcastInDim S4x2048x1 ![] bcast_S_S4x2048x1 (constant S_ .f32 0x44800000#32))) (constant S_ .f32 0x00000000#32) reducesTo_S4x2048x1_S4x2048_d2 h_S_)
def v73 : FVec Ideal S4x2048x1024 .f32 := addf (addf (addf (m ((c.tc : Thread nD τ).loc main_arg1)) (mulf (v57 m c) (broadcastInDim S4x2048x1024 ![0, 1, 2] bcast_S4x2048x1_S4x2048x1024_0_1_2 (v14 m c)))) (mulf (m ((c.tc : Thread nD τ).loc main_arg0)) (v69 m c))) (mulf (v69 m c) (m ((c.tc : Thread nD τ).loc main_arg0)))
def v79 : FVec Ideal S1024x2560 .f32 := concatenate S1024x2560 1 [⟨S1024x640, extractStridedSlice S1024x640 ![0, 0] (v42 m c) slices_S1024x2464_S1024x640_0_0⟩, ⟨S1024x64, broadcastInDim S1024x64 ![] bcast_S_S1024x64 (constant S_ .f32 0x00000000#32)⟩, ⟨S1024x32, extractStridedSlice S1024x32 ![0, 640] (v42 m c) slices_S1024x2464_S1024x32_0_640⟩, ⟨S1024x32, broadcastInDim S1024x32 ![] bcast_S_S1024x32 (constant S_ .f32 0x00000000#32)⟩, ⟨S1024x1792, extractStridedSlice S1024x1792 ![0, 672] (v42 m c) slices_S1024x2464_S1024x1792_0_672⟩] concatenates_S1024x640_S1024x64_S1024x32_S1024x32_S1024x1792_S1024x2560_d1
theorem is80 : res_main_v80 m c = shapeCast S8192x1024 (v73 m c) shapeCasts_S4x2048x1024_S8192x1024 := rfl
theorem is79 : res_main_v79 m c = v79 m c := rfl

/-! The bias under every sequence, step by step. -/
theorem q1 : (shapeCast S3072 (c2 Q.ba : FVec Ideal S1x3072 .f32) shapeCasts_S1x3072_S3072 : FVec Ideal S3072 .f32) = c1 (Q.ba 0) := by
  funext i; idx_vars i; pointwise [c1_apply, c2_apply]
theorem q2 : (broadcastInDim S4x3072 ![0, 1] bcast_S1x3072_S4x3072_0_1 (broadcastInDim S1x3072 ![1] bcast_S3072_S1x3072_1 (c1 (Q.ba 0) : FVec Ideal S3072 .f32)) : FVec Ideal S4x3072 .f32) = c2 fun _ => Q.ba 0 := by
  funext i; idx_vars i; pointwise [c1_apply, c2_apply]
theorem q3 : (addf (c2 Q.mod) (c2 fun _ => Q.ba 0) : FVec Ideal S4x3072 .f32) = c2 fun b k => Q.mod b k + Q.ba 0 k := by
  funext i; idx_vars i; pointwise [c1_apply, c2_apply]; rw [← EReal.coe_add]

variable {m c} {Q} (H : Feeds m c Q)
include H

theorem r3 : v3 m c = c2 fun b k => Q.mod b k + Q.ba 0 k := by
  unfold v3
  rw [H.h10, H.h11, q1, q2, q3]
theorem r13 : v13 m c = c3 fun b s (_ : Fin 1) => Q.tile.ssq (tok b s) / 1024 + eps := by
  funext i; idx_vars i; pointwise [v13, H.h0, c3_apply]
  simp only [← EReal.coe_mul, coe_sum, kEps, k1024, zero_add]
  rw [div_real (by norm_num), ← EReal.coe_add, Tile.ssq, tok_x]
theorem r14 : v14 m c = c3 fun b s (_ : Fin 1) => Q.tile.rt (tok b s) := by
  funext i; idx_vars i; pointwise [v14, r13 H, c3_apply]
  rw [rsqrt_real (Q.tile.ms_pos _)]; rfl
theorem r19 : v19 m c = c3 fun b s d => Q.tile.xn (tok b s) d := by
  funext i; idx_vars i; pointwise [v19, H.h0, r14 H, c3_apply]
  rw [← EReal.coe_mul, Tile.xn, tok_x]
theorem r21 : v21 m c = c3 fun _ _ d => Q.ng d := by
  funext i; idx_vars i; pointwise [v21, H.h12, c1_apply, c3_apply]
theorem r22 : v22 m c = c3 fun b s d => Q.tile.xn (tok b s) d * Q.ng d := by
  funext i; idx_vars i; pointwise [v22, r19 H, r21 H, c3_apply]
  rw [← EReal.coe_mul]
theorem r26 : v26 m c = c3 fun b s d => 1 + Q.tile.sc (tok b s) d := by
  funext i; idx_vars i; pointwise [v26, r3 H, c2_apply, c3_apply]
  rw [one_real, ← EReal.coe_add, tok_sc]
theorem r30 : v30 m c = c3 fun b s d => Q.tile.h (tok b s) d := by
  funext i; idx_vars i; pointwise [v30, r22 H, r26 H, r3 H, c2_apply, c3_apply]
  rw [← EReal.coe_mul, ← EReal.coe_add, Tile.h, tok_sh]; rfl
theorem r40 : v40 m c = c3 fun b s (j : Fin 2464) => Q.cz b s j := by
  rw [v40, H.h2, H.h3, H.h4, H.h5, H.h6, H.h7, H.h8, H.h9]
  funext i; idx_vars i; pointwise [c3_apply]
  unfold Args.cz
  by_cases h1 : (i2 : ℕ) < 384
  · rw [if_pos h1]; exact dif_pos h1
  refine (dif_neg h1).trans ?_
  rw [if_neg h1]
  by_cases h2 : (i2 : ℕ) - 384 < 256
  · rw [if_pos (by omega)]; exact dif_pos h2
  refine (dif_neg h2).trans ?_
  rw [if_neg (by omega)]
  by_cases h3 : (i2 : ℕ) - 384 - 256 < 32
  · rw [if_pos (by omega)]; exact (dif_pos h3).trans (same_at (Q.kr i0 i1) (by omega))
  refine (dif_neg h3).trans ?_
  rw [if_neg (by omega)]
  by_cases h4 : (i2 : ℕ) - 384 - 256 - 32 < 512
  · rw [if_pos (by omega)]; exact (dif_pos h4).trans (same_at (Q.gM i0 i1) (by omega))
  refine (dif_neg h4).trans ?_
  rw [if_neg (by omega)]
  by_cases h5 : (i2 : ℕ) - 384 - 256 - 32 - 512 < 512
  · rw [if_pos (by omega)]; exact (dif_pos h5).trans (same_at (Q.dq i0 i1) (by omega))
  refine (dif_neg h5).trans ?_
  rw [if_neg (by omega)]
  by_cases h6 : (i2 : ℕ) - 384 - 256 - 32 - 512 - 512 < 128
  · rw [if_pos (by omega)]; exact (dif_pos h6).trans (same_at (Q.dk i0 i1) (by omega))
  refine (dif_neg h6).trans ?_
  rw [if_neg (by omega)]
  by_cases h7 : (i2 : ℕ) - 384 - 256 - 32 - 512 - 512 - 128 < 128
  · rw [if_pos (by omega)]; exact (dif_pos h7).trans (same_at (Q.dv i0 i1) (by omega))
  refine (dif_neg h7).trans ?_
  rw [if_neg (by omega)]
  exact same_at (Q.gS i0 i1) (by omega)
theorem r42 : v42 m c = c2 fun d (j : Fin 2464) => ∑ b, ∑ s, Q.cz b s j * Q.tile.h (tok b s) d := by
  funext i; idx_vars i; pointwise [v42, r40 H, r30 H, c2_apply, c3_apply]
  simp only [← EReal.coe_mul, coe_sum]
theorem r43 : v43 m c = c3 fun b s d => Q.tile.dh (tok b s) d := by
  funext i; idx_vars i; pointwise [v43, r40 H, H.h13, c2_apply, c3_apply]
  simp only [← EReal.coe_mul, coe_sum]; rw [tok_dh]
theorem r51 : v51 m c = c3 fun b s d => Q.tile.dh (tok b s) d * (1 + Q.tile.sc (tok b s) d) := by
  funext i; idx_vars i; pointwise [v51, r43 H, r26 H, c3_apply]
  rw [← EReal.coe_mul]
theorem r57 : v57 m c = c3 fun b s d => Q.tile.dxn (tok b s) d := by
  funext i; idx_vars i; pointwise [v57, r51 H, r21 H, c3_apply]
  rw [← EReal.coe_mul, Tile.dxn, show Q.tile.ng = Q.ng from rfl]
  exact congrArg _ (by ring)
theorem r61 : v61 m c = c3 fun b s (_ : Fin 1) => ∑ k, Q.tile.x (tok b s) k * Q.tile.dxn (tok b s) k := by
  funext i; idx_vars i; pointwise [v61, H.h0, r57 H, c3_apply]
  simp only [← EReal.coe_mul, coe_sum, zero_add, tok_x]
theorem r69 : v69 m c = c3 fun b s (_ : Fin 1024) => (∑ k, Q.tile.x (tok b s) k * Q.tile.dxn (tok b s) k) * (-(1 / 2) * (Q.tile.rt (tok b s) / (Q.tile.ssq (tok b s) / 1024 + eps))) / 1024 := by
  funext i; idx_vars i; pointwise [v69, r61 H, r14 H, r13 H, c3_apply]
  rw [div_real (Q.tile.ms_pos _).ne', kNegHalf, k1024]
  simp only [← EReal.coe_mul, coe_sum, zero_add, div_real (show (1024 : ℝ) ≠ 0 by norm_num)]
  simp
omit H in
/-- The norm's gradient: both ways of writing it. -/
theorem norm_grad {n : ℕ} (T : Tile n) (r : Fin n) (d : Fin 1024) :
    T.dx r d + T.dxn r d * T.rt r + T.x r d * ((∑ k, T.x r k * T.dxn r k) * (-(1 / 2) * (T.rt r / (T.ssq r / 1024 + eps))) / 1024)
      + ((∑ k, T.x r k * T.dxn r k) * (-(1 / 2) * (T.rt r / (T.ssq r / 1024 + eps))) / 1024) * T.x r d = T.gx r d := by
  have hv := T.ms_pos r
  have h2 : T.rt r * T.rt r = 1 / (T.ssq r / 1024 + eps) := by
    rw [Tile.rt, ← mul_inv, Real.mul_self_sqrt hv.le, one_div]
  have h3 : T.rt r / (T.ssq r / 1024 + eps) = T.rt r * (T.rt r * T.rt r) := by rw [h2]; ring
  have h4 : ∑ k, T.dxn r k * T.xn r k = T.rt r * ∑ k, T.x r k * T.dxn r k := by
    rw [Finset.mul_sum]; exact Finset.sum_congr rfl fun k _ => by rw [Tile.xn]; ring
  rw [Tile.gx, h4, h3, Tile.xn]; ring
theorem r73 : v73 m c = c3 fun b s d => Q.tile.gx (tok b s) d := by
  funext i; idx_vars i; pointwise [v73, H.h0, H.h1, r57 H, r14 H, r69 H, c3_apply]
  simp only [← EReal.coe_mul, ← EReal.coe_add]
  exact congrArg _ (by rw [← norm_grad Q.tile (tok i0 i1) i2, tok_x, tok_dx])

end Cert.In1

end
-- ==== Proof.InRefOut.lean ====
/- The reference's results over real numbers. -/
module

public import proofs.«01_k».proof.Proof.InRef

@[expose] public section

set_option maxRecDepth 16384

noncomputable section

namespace Cert.In1

open Idealize.ShloMosaic Idealize.ShloMosaic.TcCoe Idealize.SL.Sem Idealize.ShloMosaic.StableHlo
open Cert.InbRefIdeal Cert.InbRefIdeal.Gen Cert.InbRefIdeal.Value Cert.Coe
open Cert.Post1 (tok tok_div tok_mod tok_self sum_tok)

variable {m : (ℓ : Loc nD τ sig) → Buf (Elt Ideal) ℓ} {c : Dev nD} {Q : Args} (H : Feeds m c Q)
include H

theorem ref11 : res_main_v80 m c = (c2 Q.tile.gx : FVec Ideal S8192x1024 .f32) := by
  rw [is80, r73 H]; funext i; idx_vars i; pointwise [c3_apply, c2_apply]
  rw [tok_self]
theorem r42' : v42 m c = c2 fun d (j : Fin 2464) => ∑ n : Fin 8192, Q.tile.h n d * Q.cz ⟨n / 2048, by omega⟩ ⟨n % 2048, by omega⟩ j := by
  rw [r42 H]
  funext i; idx_vars i
  simp only [c2_apply]
  rw [← sum_tok fun n => Q.tile.h n i0 * Q.cz ⟨n / 2048, by omega⟩ ⟨n % 2048, by omega⟩ i1]
  refine congrArg _ (Finset.sum_congr rfl fun b _ => Finset.sum_congr rfl fun s _ => ?_)
  rw [tok_div, tok_mod, mul_comm]
theorem ref12 : res_main_v79 m c = (c2 fun d (l : Fin 2560) => ∑ n, Q.tile.h n d * Q.tile.ct n l : FVec Ideal S1024x2560 .f32) := by
  rw [is79, v79, r42' H]; funext i; idx_vars i; pointwise [c2_apply]
  have e : ∀ n, Q.tile.ct n i1 = Q.ct ⟨n / 2048, by omega⟩ ⟨n % 2048, by omega⟩ i1 := fun n => rfl
  simp only [e, Args.ct]
  by_cases h1 : (i1 : ℕ) < 640
  · simp only [if_pos h1]; exact dif_pos h1
  refine (dif_neg h1).trans ?_
  simp only [if_neg h1]
  by_cases h2 : (i1 : ℕ) - 640 < 64
  · simp only [if_pos (show (i1 : ℕ) < 704 by omega), mul_zero, Finset.sum_const_zero]; exact (dif_pos h2).trans zero_real
  refine (dif_neg h2).trans ?_
  simp only [if_neg (show ¬(i1 : ℕ) < 704 by omega)]
  by_cases h3 : (i1 : ℕ) - 640 - 64 < 32
  · simp only [if_pos (show (i1 : ℕ) < 736 by omega)]
    exact (dif_pos h3).trans (same_at (fun k => ∑ n : Fin 8192, Q.tile.h n i0 * Q.cz ⟨n / 2048, by omega⟩ ⟨n % 2048, by omega⟩ k) (by omega))
  refine (dif_neg h3).trans ?_
  simp only [if_neg (show ¬(i1 : ℕ) < 736 by omega)]
  by_cases h4 : (i1 : ℕ) - 640 - 64 - 32 < 32
  · simp only [if_pos (show (i1 : ℕ) < 768 by omega), mul_zero, Finset.sum_const_zero]; exact (dif_pos h4).trans zero_real
  refine (dif_neg h4).trans ?_
  simp only [if_neg (show ¬(i1 : ℕ) < 768 by omega)]
  exact same_at (fun k => ∑ n : Fin 8192, Q.tile.h n i0 * Q.cz ⟨n / 2048, by omega⟩ ⟨n % 2048, by omega⟩ k) (by omega)
theorem ref13 : shapeCast S1x1024 (Host.reduceAdd (shapeCast _ (Host.reduceAdd (mulf (v19 m c) (v51 m c)) (constant S_ .f32 0x00000000#32) reducesTo_S4x2048x1024_S1024_d0_1 h_S_) shapeCasts_S1024_S1x1x1024) (constant S_ .f32 0x00000000#32) reducesTo_S1x1x1024_S1024_d0_1 h_S_) shapeCasts_S1024_S1x1024
    = (c2 (fun (_ : Fin 1) d => ∑ n, Q.tile.dh n d * Q.tile.xn n d * (1 + Q.tile.sc n d)) : FVec Ideal S1x1024 .f32) := by
  rw [r19 H, r51 H]
  have e : Host.reduceAdd (mulf (c3 fun b s d => Q.tile.xn (tok b s) d) (c3 fun b s d => Q.tile.dh (tok b s) d * (1 + Q.tile.sc (tok b s) d))) (constant (F := Idealize.ShloMosaic.Ideal) S_ .f32 0x00000000#32) reducesTo_S4x2048x1024_S1024_d0_1 h_S_
      = c1 fun d => ∑ n, Q.tile.dh n d * Q.tile.xn n d * (1 + Q.tile.sc n d) := by
    funext i; idx_vars i; pointwise [c3_apply, c1_apply]
    rw [sum_leading]
    pointwise [c3_apply]
    simp only [← EReal.coe_mul, coe_sum]
    rw [sum_tok fun n => Q.tile.xn n i0 * (Q.tile.dh n i0 * (1 + Q.tile.sc n i0))]
    exact congrArg _ (Finset.sum_congr rfl fun n _ => by ring)
  rw [e]
  funext i; idx_vars i; pointwise [c1_apply, c2_apply]
  rw [sum_leading]
  pointwise [c1_apply, c2_apply]
  simp only [← EReal.coe_mul, coe_sum, Finset.univ_unique, Finset.sum_singleton]
theorem ref14 : broadcastInDim S4x1x1024 ![0, 2] bcast_S4x1024_S4x1x1024_0_2 (Host.reduceAdd (shapeCast _ (Host.reduceAdd (v43 m c) (constant S_ .f32 0x00000000#32) reducesTo_S4x2048x1024_S4x1024_d1 h_S_) shapeCasts_S4x1024_S4x1x1024) (constant S_ .f32 0x00000000#32) reducesTo_S4x1x1024_S4x1024_d1 h_S_)
    = (c3 fun (q : Fin 4) (_ : Fin 1) d => ∑ s : Fin 2048, Q.tile.dh ⟨2048 * q + s, by omega⟩ d : FVec Ideal S4x1x1024 .f32) := by
  rw [r43 H]; funext i; idx_vars i; pointwise [c3_apply, c2_apply]
  simp only [← EReal.coe_mul, coe_sum, Finset.univ_unique, Finset.sum_singleton]
  rfl
theorem ref15 : broadcastInDim S4x1x1024 ![0, 2] bcast_S4x1024_S4x1x1024_0_2 (Host.reduceAdd (shapeCast _ (Host.reduceAdd (mulf (v22 m c) (v43 m c)) (constant S_ .f32 0x00000000#32) reducesTo_S4x2048x1024_S4x1024_d1 h_S_) shapeCasts_S4x1024_S4x1x1024) (constant S_ .f32 0x00000000#32) reducesTo_S4x1x1024_S4x1024_d1 h_S_)
    = (c3 fun (q : Fin 4) (_ : Fin 1) d => ∑ s : Fin 2048, Q.tile.dh ⟨2048 * q + s, by omega⟩ d * (Q.tile.xn ⟨2048 * q + s, by omega⟩ d * Q.ng d) : FVec Ideal S4x1x1024 .f32) := by
  rw [r22 H, r43 H]; funext i; idx_vars i; pointwise [c3_apply, c2_apply]
  simp only [← EReal.coe_mul, coe_sum, Finset.univ_unique, Finset.sum_singleton]
  exact congrArg _ (Finset.sum_congr rfl fun s _ => mul_comm _ _)

end Cert.In1

end
-- ==== Proof.InIn.lean ====
/- The arguments of a memory that meets the precondition, as real arrays; the kernel's and the reference's results there
   are the same arrays. -/
module

public import proofs.«01_k».proof.Defs
public import proofs.«01_k».proof.Proof.InFinal
public import proofs.«01_k».proof.Proof.InRefOut
public import proofs.«01_k».proof.Proof.Finite
public import proofs.«01_k».proof.Proof.Gen.Pre_in_finite

@[expose] public section

set_option maxRecDepth 16384

noncomputable section

namespace Cert.In1

open Idealize.ShloMosaic Idealize.ShloMosaic.TcCoe Idealize.SL.Sem Idealize.ShloMosaic.StableHlo Cert.Coe

/-- A row of `n` entries, and zero past them. -/
def past {n : ℕ} (f : Fin n → ℝ) (j : ℕ) : ℝ := if h : j < n then f ⟨j, h⟩ else 0
theorem past_val {n : ℕ} (f : Fin n → ℝ) (d : Fin n) : past f d = f d := dif_pos d.isLt

/-- An array of rows, each read through `past`. -/
theorem c3_past {a b n : ℕ} (f : Fin a → Fin b → Fin n → ℝ) : c3 f = c3 fun i j d => past (f i j) d :=
  congrArg c3 (funext fun _ => funext fun _ => funext fun d => (past_val _ d).symm)
theorem c2_past {a n : ℕ} (f : Fin a → Fin n → ℝ) : c2 f = c2 fun i d => past (f i) d :=
  congrArg c2 (funext fun _ => funext fun d => (past_val _ d).symm)

/-- The real parts of the arguments in memory. -/
def ofMem (m : (ℓ : Loc InbIdeal.nD InbIdeal.τ InbIdeal.sig) → Buf (Elt Ideal) ℓ) (c : Dev InbIdeal.nD) : Args where
  x := fun a b d => EReal.toReal (m ((c.tc : Thread InbIdeal.nD InbIdeal.τ).loc InbIdeal.main_arg0) (ix3 a b d))
  dx := fun a b d => EReal.toReal (m ((c.tc : Thread InbIdeal.nD InbIdeal.τ).loc InbIdeal.main_arg1) (ix3 a b d))
  zq := fun a b => past fun d : Fin 384 => EReal.toReal (m ((c.tc : Thread InbIdeal.nD InbIdeal.τ).loc InbIdeal.main_arg2) (ix3 a b d))
  zkv := fun a b => past fun d : Fin 256 => EReal.toReal (m ((c.tc : Thread InbIdeal.nD InbIdeal.τ).loc InbIdeal.main_arg3) (ix3 a b d))
  kr := fun a b => past fun d : Fin 32 => EReal.toReal (m ((c.tc : Thread InbIdeal.nD InbIdeal.τ).loc InbIdeal.main_arg4) (ix3 a b d))
  gM := fun a b => past fun d : Fin 512 => EReal.toReal (m ((c.tc : Thread InbIdeal.nD InbIdeal.τ).loc InbIdeal.main_arg5) (ix3 a b d))
  dq := fun a b => past fun d : Fin 512 => EReal.toReal (m ((c.tc : Thread InbIdeal.nD InbIdeal.τ).loc InbIdeal.main_arg6) (ix3 a b d))
  dk := fun a b => past fun d : Fin 128 => EReal.toReal (m ((c.tc : Thread InbIdeal.nD InbIdeal.τ).loc InbIdeal.main_arg7) (ix3 a b d))
  dv := fun a b => past fun d : Fin 128 => EReal.toReal (m ((c.tc : Thread InbIdeal.nD InbIdeal.τ).loc InbIdeal.main_arg8) (ix3 a b d))
  gS := fun a b => past fun d : Fin 512 => EReal.toReal (m ((c.tc : Thread InbIdeal.nD InbIdeal.τ).loc InbIdeal.main_arg9) (ix3 a b d))
  mod := fun a b => EReal.toReal (m ((c.tc : Thread InbIdeal.nD InbIdeal.τ).loc InbIdeal.main_arg10) (ix2 a b))
  ba := fun a b => EReal.toReal (m ((c.tc : Thread InbIdeal.nD InbIdeal.τ).loc InbIdeal.main_arg11) (ix2 a b))
  ng := fun a => EReal.toReal (m ((c.tc : Thread InbIdeal.nD InbIdeal.τ).loc InbIdeal.main_arg12) (ix1 a))
  W := fun a => past fun d : Fin 2464 => EReal.toReal (m ((c.tc : Thread InbIdeal.nD InbIdeal.τ).loc InbIdeal.main_arg13) (ix2 a d))

variable {m : (ℓ : Loc InbIdeal.nD InbIdeal.τ InbIdeal.sig) → Buf (Elt Ideal) ℓ}

/-- Under the precondition the arguments are their real parts. -/
theorem holds (hp : Cert.Pre_InbIdeal_in_finite m) (c : Dev InbIdeal.nD) : Holds m c (ofMem m c) := by
  obtain ⟨p0, p1, p2, p3, p4, p5, p6, p7, p8, p9, p10, p11, p12, p13⟩ := hp c
  exact {
    h0 := eq_c3 _ fun i => real_of_lt _ _ _ p0 i
    h1 := eq_c3 _ fun i => real_of_lt _ _ _ p1 i
    h2 := (eq_c3 _ fun i => real_of_lt _ _ _ p2 i).trans (c3_past _)
    h3 := (eq_c3 _ fun i => real_of_lt _ _ _ p3 i).trans (c3_past _)
    h4 := (eq_c3 _ fun i => real_of_lt _ _ _ p4 i).trans (c3_past _)
    h5 := (eq_c3 _ fun i => real_of_lt _ _ _ p5 i).trans (c3_past _)
    h6 := (eq_c3 _ fun i => real_of_lt _ _ _ p6 i).trans (c3_past _)
    h7 := (eq_c3 _ fun i => real_of_lt _ _ _ p7 i).trans (c3_past _)
    h8 := (eq_c3 _ fun i => real_of_lt _ _ _ p8 i).trans (c3_past _)
    h9 := (eq_c3 _ fun i => real_of_lt _ _ _ p9 i).trans (c3_past _)
    h10 := eq_c2 _ fun i => real_of_lt _ _ _ p10 i
    h11 := eq_c2 _ fun i => real_of_lt _ _ _ p11 i
    h12 := eq_c1 _ fun i => real_of_lt _ _ _ p12 i
    h13 := (eq_c2 _ fun i => real_of_lt _ _ _ p13 i).trans (c2_past _)
  }

/-- The reference's memory holds the same arrays. -/
theorem feeds (hp : Cert.Pre_InbIdeal_in_finite m) (m' : (ℓ : Loc InbRefIdeal.nD InbRefIdeal.τ InbRefIdeal.sig) → Buf (Elt Ideal) ℓ) (c : Dev InbIdeal.nD)
    (H : m' ((c.tc : Thread InbRefIdeal.nD InbRefIdeal.τ).loc InbRefIdeal.main_arg0) = m ((c.tc : Thread InbIdeal.nD InbIdeal.τ).loc InbIdeal.main_arg0)
      ∧ m' ((c.tc : Thread InbRefIdeal.nD InbRefIdeal.τ).loc InbRefIdeal.main_arg1) = m ((c.tc : Thread InbIdeal.nD InbIdeal.τ).loc InbIdeal.main_arg1)
      ∧ m' ((c.tc : Thread InbRefIdeal.nD InbRefIdeal.τ).loc InbRefIdeal.main_arg2) = m ((c.tc : Thread InbIdeal.nD InbIdeal.τ).loc InbIdeal.main_arg2)
      ∧ m' ((c.tc : Thread InbRefIdeal.nD InbRefIdeal.τ).loc InbRefIdeal.main_arg3) = m ((c.tc : Thread InbIdeal.nD InbIdeal.τ).loc InbIdeal.main_arg3)
      ∧ m' ((c.tc : Thread InbRefIdeal.nD InbRefIdeal.τ).loc InbRefIdeal.main_arg4) = m ((c.tc : Thread InbIdeal.nD InbIdeal.τ).loc InbIdeal.main_arg4)
      ∧ m' ((c.tc : Thread InbRefIdeal.nD InbRefIdeal.τ).loc InbRefIdeal.main_arg5) = m ((c.tc : Thread InbIdeal.nD InbIdeal.τ).loc InbIdeal.main_arg5)
      ∧ m' ((c.tc : Thread InbRefIdeal.nD InbRefIdeal.τ).loc InbRefIdeal.main_arg6) = m ((c.tc : Thread InbIdeal.nD InbIdeal.τ).loc InbIdeal.main_arg6)
      ∧ m' ((c.tc : Thread InbRefIdeal.nD InbRefIdeal.τ).loc InbRefIdeal.main_arg7) = m ((c.tc : Thread InbIdeal.nD InbIdeal.τ).loc InbIdeal.main_arg7)
      ∧ m' ((c.tc : Thread InbRefIdeal.nD InbRefIdeal.τ).loc InbRefIdeal.main_arg8) = m ((c.tc : Thread InbIdeal.nD InbIdeal.τ).loc InbIdeal.main_arg8)
      ∧ m' ((c.tc : Thread InbRefIdeal.nD InbRefIdeal.τ).loc InbRefIdeal.main_arg9) = m ((c.tc : Thread InbIdeal.nD InbIdeal.τ).loc InbIdeal.main_arg9)
      ∧ m' ((c.tc : Thread InbRefIdeal.nD InbRefIdeal.τ).loc InbRefIdeal.main_arg10) = m ((c.tc : Thread InbIdeal.nD InbIdeal.τ).loc InbIdeal.main_arg10)
      ∧ m' ((c.tc : Thread InbRefIdeal.nD InbRefIdeal.τ).loc InbRefIdeal.main_arg11) = m ((c.tc : Thread InbIdeal.nD InbIdeal.τ).loc InbIdeal.main_arg11)
      ∧ m' ((c.tc : Thread InbRefIdeal.nD InbRefIdeal.τ).loc InbRefIdeal.main_arg12) = m ((c.tc : Thread InbIdeal.nD InbIdeal.τ).loc InbIdeal.main_arg12)
      ∧ m' ((c.tc : Thread InbRefIdeal.nD InbRefIdeal.τ).loc InbRefIdeal.main_arg13) = m ((c.tc : Thread InbIdeal.nD InbIdeal.τ).loc InbIdeal.main_arg13)) :
    Feeds m' c (ofMem m c) := by
  obtain ⟨q0, q1, q2, q3, q4, q5, q6, q7, q8, q9, q10, q11, q12, q13⟩ := H
  have h := holds hp c
  exact { h0 := q0.trans h.h0, h1 := q1.trans h.h1, h2 := q2.trans h.h2, h3 := q3.trans h.h3, h4 := q4.trans h.h4, h5 := q5.trans h.h5, h6 := q6.trans h.h6, h7 := q7.trans h.h7, h8 := q8.trans h.h8, h9 := q9.trans h.h9, h10 := q10.trans h.h10, h11 := q11.trans h.h11, h12 := q12.trans h.h12, h13 := q13.trans h.h13 }

end Cert.In1

end
-- ==== Proof.InValue.lean ====
/- The value claim of the layer's input part. -/
module

public import proofs.«01_k».proof.Defs
public import proofs.«01_k».proof.Proof.InIn
public import Idealize.ShloMosaic.Lib.Claim
public import proofs.«01_k».proof.Proof.Gen.Pre_in_finite

@[expose] public section

set_option maxRecDepth 16384

noncomputable section

namespace Cert.In1

open Idealize.ShloMosaic Idealize.ShloMosaic.TcCoe Idealize.SL.Sem Idealize.ShloMosaic.StableHlo Cert.Coe
open Cert.Post1 (row)

/-- The kernel's and the reference's gradients of the layer's input part agree at finite arguments. -/
theorem in_algebraic : Cert.algebraic_InbIdeal_InbRefIdeal_pre_in_finite := by
  intro m g m' g' hp ha
  have H := holds hp
  have F := fun c => feeds hp m' c (ha c)
  refine ⟨fun c => c2 (ofMem m c).tile.gx,
    fun c => c2 fun d (l : Fin 2560) => ∑ n, (ofMem m c).tile.h n d * (ofMem m c).tile.ct n l,
    fun c => c2 (row fun d => ∑ n, (ofMem m c).tile.dh n d * (ofMem m c).tile.xn n d * (1 + (ofMem m c).tile.sc n d)),
    fun c => c3 fun q (_ : Fin 1) d => ∑ s : Fin 2048, (ofMem m c).tile.dh ⟨2048 * q + s, by omega⟩ d,
    fun c => c3 fun q (_ : Fin 1) d => ∑ s : Fin 2048, (ofMem m c).tile.dh ⟨2048 * q + s, by omega⟩ d * ((ofMem m c).tile.xn ⟨2048 * q + s, by omega⟩ d * (ofMem m c).ng d), ?_, ?_⟩
  · refine (θ_run _ _ _).mono (fun r h c => ⟨((h.1 c).1 11).trans (all11 (H c)), ((h.1 c).1 12).trans (all12 (H c)), ((h.1 c).1 13).trans (all13 (H c)), ((h.1 c).1 14).trans (all14 (H c)), ((h.1 c).1 15).trans (all15 (H c)), h.2 c⟩)
      (θ_run_and (InbIdeal.Gen.run_main m g) (InbIdeal.Gen.unchanged m g))
  · refine (θ_run _ _ _).mono (fun r h c => ?_) (InbRefIdeal.Value.run m' g')
    obtain ⟨q11, q12, q13, q14, q15, q⟩ := h c
    exact ⟨q11.trans (ref11 (F c)), q12.trans (ref12 (F c)), q13.trans (ref13 (F c)), q14.trans (ref14 (F c)), q15.trans (ref15 (F c)), q⟩

end Cert.In1

end
-- ==== Proof.MlaIdealOffs.lean ====
/- Where the accesses of the attention's backward kernel lie: each offsets chain that has no closed form yet, as a vector in the trips. -/
module

public import proofs.«01_k».proof.Proof.Gen.MlaIdeal.Skeleton
public import Idealize.ShloMosaic.Lib.Exec

@[expose] public section

noncomputable section

namespace Cert.MlaIdeal.Gen

open Idealize.ShloMosaic

/-- A buffer of the chip's vector memory. -/
abbrev MV (s : Shape) (e : EltTy) := Memref sig .tc .vmem s e
/-- What the buffer under a view holds. -/
abbrev BC (F : FTy → Type) {s : Shape} {e : EltTy} (a : MV s e) := BufTy.Contents (Elt F) a.view.ty

theorem k0_off4_at : ∀ (m1 : Fin k0_t1_loop.trips), k0_off4 m1 = ![m1.val % 2, 0, 0] := by decide +kernel
instance closedAt_k0_off4 (m1 : Fin k0_t1_loop.trips) : ClosedOff (k0_off4 m1) := ⟨![m1.val % 2, 0, 0], k0_off4_at m1⟩
theorem k0_off5_at : ∀ (m1 : Fin k0_t1_loop.trips), k0_off5 m1 = ![(m1.val + 1) % 2, 0, 0] := by decide +kernel
instance closedAt_k0_off5 (m1 : Fin k0_t1_loop.trips) : ClosedOff (k0_off5 m1) := ⟨![(m1.val + 1) % 2, 0, 0], k0_off5_at m1⟩
theorem k0_off6_at : ∀ (m1 : Fin k0_t1_loop.trips), k0_off6 m1 = ![256 * (m1.val - 1), 0] := by decide +kernel
instance closedAt_k0_off6 (m1 : Fin k0_t1_loop.trips) : ClosedOff (k0_off6 m1) := ⟨![256 * (m1.val - 1), 0], k0_off6_at m1⟩
theorem k0_off7_at : ∀ (m1 : Fin k0_t1_loop.trips), k0_off7 m1 = ![(m1.val + 1) % 2, 128, 0] := by decide +kernel
instance closedAt_k0_off7 (m1 : Fin k0_t1_loop.trips) : ClosedOff (k0_off7 m1) := ⟨![(m1.val + 1) % 2, 128, 0], k0_off7_at m1⟩
theorem k0_off8_at : ∀ (m1 : Fin k0_t1_loop.trips), k0_off8 m1 = ![256 * (m1.val - 1), 128] := by decide +kernel
instance closedAt_k0_off8 (m1 : Fin k0_t1_loop.trips) : ClosedOff (k0_off8 m1) := ⟨![256 * (m1.val - 1), 128], k0_off8_at m1⟩
theorem k0_off17_at : ∀ (m1 : Fin k0_t1_loop.trips), k0_off17 m1 = ![m1.val % 2, 0, 0] := by decide +kernel
instance closedAt_k0_off17 (m1 : Fin k0_t1_loop.trips) : ClosedOff (k0_off17 m1) := ⟨![m1.val % 2, 0, 0], k0_off17_at m1⟩
theorem k0_off23_at : ∀ (m1 : Fin k0_t1_loop.trips), k0_off23 m1 = ![m1.val % 2, 64, 0] := by decide +kernel
instance closedAt_k0_off23 (m1 : Fin k0_t1_loop.trips) : ClosedOff (k0_off23 m1) := ⟨![m1.val % 2, 64, 0], k0_off23_at m1⟩
theorem k0_off28_at : ∀ (m1 : Fin k0_t1_loop.trips), k0_off28 m1 = ![m1.val % 2, 128, 0] := by decide +kernel
instance closedAt_k0_off28 (m1 : Fin k0_t1_loop.trips) : ClosedOff (k0_off28 m1) := ⟨![m1.val % 2, 128, 0], k0_off28_at m1⟩
theorem k0_off31_at : ∀ (m1 : Fin k0_t1_loop.trips), k0_off31 m1 = ![m1.val % 2, 192, 0] := by decide +kernel
instance closedAt_k0_off31 (m1 : Fin k0_t1_loop.trips) : ClosedOff (k0_off31 m1) := ⟨![m1.val % 2, 192, 0], k0_off31_at m1⟩
theorem k0_off34_at : ∀ (m1 : Fin k0_t1_loop.trips), k0_off34 m1 = ![(m1.val + 1) % 2, 0, 0] := by decide +kernel
instance closedAt_k0_off34 (m1 : Fin k0_t1_loop.trips) : ClosedOff (k0_off34 m1) := ⟨![(m1.val + 1) % 2, 0, 0], k0_off34_at m1⟩
theorem k0_off35_at : ∀ (m1 : Fin k0_t1_loop.trips), k0_off35 m1 = ![256 * (m1.val - 1), 0] := by decide +kernel
instance closedAt_k0_off35 (m1 : Fin k0_t1_loop.trips) : ClosedOff (k0_off35 m1) := ⟨![256 * (m1.val - 1), 0], k0_off35_at m1⟩
theorem k0_off36_at : ∀ (m1 : Fin k0_t1_loop.trips), k0_off36 m1 = ![(m1.val + 1) % 2, 128, 0] := by decide +kernel
instance closedAt_k0_off36 (m1 : Fin k0_t1_loop.trips) : ClosedOff (k0_off36 m1) := ⟨![(m1.val + 1) % 2, 128, 0], k0_off36_at m1⟩
theorem k0_off37_at : ∀ (m1 : Fin k0_t1_loop.trips), k0_off37 m1 = ![256 * (m1.val - 1), 128] := by decide +kernel
instance closedAt_k0_off37 (m1 : Fin k0_t1_loop.trips) : ClosedOff (k0_off37 m1) := ⟨![256 * (m1.val - 1), 128], k0_off37_at m1⟩
theorem k0_off46_at : ∀ (m1 : Fin k0_t1_loop.trips), k0_off46 m1 = ![m1.val % 2, 0, 0] := by decide +kernel
instance closedAt_k0_off46 (m1 : Fin k0_t1_loop.trips) : ClosedOff (k0_off46 m1) := ⟨![m1.val % 2, 0, 0], k0_off46_at m1⟩
theorem k0_off52_at : ∀ (m1 : Fin k0_t1_loop.trips), k0_off52 m1 = ![m1.val % 2, 64, 0] := by decide +kernel
instance closedAt_k0_off52 (m1 : Fin k0_t1_loop.trips) : ClosedOff (k0_off52 m1) := ⟨![m1.val % 2, 64, 0], k0_off52_at m1⟩
theorem k0_off57_at : ∀ (m1 : Fin k0_t1_loop.trips), k0_off57 m1 = ![m1.val % 2, 128, 0] := by decide +kernel
instance closedAt_k0_off57 (m1 : Fin k0_t1_loop.trips) : ClosedOff (k0_off57 m1) := ⟨![m1.val % 2, 128, 0], k0_off57_at m1⟩
theorem k0_off60_at : ∀ (m1 : Fin k0_t1_loop.trips), k0_off60 m1 = ![m1.val % 2, 192, 0] := by decide +kernel
instance closedAt_k0_off60 (m1 : Fin k0_t1_loop.trips) : ClosedOff (k0_off60 m1) := ⟨![m1.val % 2, 192, 0], k0_off60_at m1⟩
theorem k0_off63_at_0 : ∀ (m1 : Fin k0_t1_loop.trips) (m2 : Fin (k0_t2_loop m1).trips), k0_off63 m1 m2 0#32 = ![256 * (m1.val + 2 * (m2.val + 1)), 0] := by decide +kernel
instance closedAt_k0_off63_0 (m1 : Fin k0_t1_loop.trips) (m2 : Fin (k0_t2_loop m1).trips) : ClosedOff (k0_off63 m1 m2 0#32) := ⟨![256 * (m1.val + 2 * (m2.val + 1)), 0], k0_off63_at_0 m1 m2⟩
theorem k0_off63_at_1 : ∀ (m1 : Fin k0_t1_loop.trips) (m2 : Fin (k0_t2_loop m1).trips), k0_off63 m1 m2 1#32 = ![256 * (m1.val + 2 * (m2.val + 1) + 1), 0] := by decide +kernel
instance closedAt_k0_off63_1 (m1 : Fin k0_t1_loop.trips) (m2 : Fin (k0_t2_loop m1).trips) : ClosedOff (k0_off63 m1 m2 1#32) := ⟨![256 * (m1.val + 2 * (m2.val + 1) + 1), 0], k0_off63_at_1 m1 m2⟩
theorem k0_off64_at_0 : ∀ (m1 : Fin k0_t1_loop.trips) (m2 : Fin (k0_t2_loop m1).trips), k0_off64 m1 m2 0#32 = ![0, 0, 256 * (m1.val + 2 * (m2.val + 1))] := by decide +kernel
instance closedAt_k0_off64_0 (m1 : Fin k0_t1_loop.trips) (m2 : Fin (k0_t2_loop m1).trips) : ClosedOff (k0_off64 m1 m2 0#32) := ⟨![0, 0, 256 * (m1.val + 2 * (m2.val + 1))], k0_off64_at_0 m1 m2⟩
theorem k0_off64_at_1 : ∀ (m1 : Fin k0_t1_loop.trips) (m2 : Fin (k0_t2_loop m1).trips), k0_off64 m1 m2 1#32 = ![0, 0, 256 * (m1.val + 2 * (m2.val + 1) + 1)] := by decide +kernel
instance closedAt_k0_off64_1 (m1 : Fin k0_t1_loop.trips) (m2 : Fin (k0_t2_loop m1).trips) : ClosedOff (k0_off64 m1 m2 1#32) := ⟨![0, 0, 256 * (m1.val + 2 * (m2.val + 1) + 1)], k0_off64_at_1 m1 m2⟩
theorem k0_off65_at_0 : ∀ (m1 : Fin k0_t1_loop.trips) (m2 : Fin (k0_t2_loop m1).trips), k0_off65 m1 m2 0#32 = ![1, 0, 256 * (m1.val + 2 * (m2.val + 1))] := by decide +kernel
instance closedAt_k0_off65_0 (m1 : Fin k0_t1_loop.trips) (m2 : Fin (k0_t2_loop m1).trips) : ClosedOff (k0_off65 m1 m2 0#32) := ⟨![1, 0, 256 * (m1.val + 2 * (m2.val + 1))], k0_off65_at_0 m1 m2⟩
theorem k0_off65_at_1 : ∀ (m1 : Fin k0_t1_loop.trips) (m2 : Fin (k0_t2_loop m1).trips), k0_off65 m1 m2 1#32 = ![1, 0, 256 * (m1.val + 2 * (m2.val + 1) + 1)] := by decide +kernel
instance closedAt_k0_off65_1 (m1 : Fin k0_t1_loop.trips) (m2 : Fin (k0_t2_loop m1).trips) : ClosedOff (k0_off65 m1 m2 1#32) := ⟨![1, 0, 256 * (m1.val + 2 * (m2.val + 1) + 1)], k0_off65_at_1 m1 m2⟩
theorem k0_off66_at_0 : ∀ (m1 : Fin k0_t1_loop.trips) (m2 : Fin (k0_t2_loop m1).trips), k0_off66 m1 m2 0#32 = ![0, 0, 0, 256 * (m1.val + 2 * (m2.val + 1))] := by decide +kernel
instance closedAt_k0_off66_0 (m1 : Fin k0_t1_loop.trips) (m2 : Fin (k0_t2_loop m1).trips) : ClosedOff (k0_off66 m1 m2 0#32) := ⟨![0, 0, 0, 256 * (m1.val + 2 * (m2.val + 1))], k0_off66_at_0 m1 m2⟩
theorem k0_off66_at_1 : ∀ (m1 : Fin k0_t1_loop.trips) (m2 : Fin (k0_t2_loop m1).trips), k0_off66 m1 m2 1#32 = ![0, 0, 0, 256 * (m1.val + 2 * (m2.val + 1) + 1)] := by decide +kernel
instance closedAt_k0_off66_1 (m1 : Fin k0_t1_loop.trips) (m2 : Fin (k0_t2_loop m1).trips) : ClosedOff (k0_off66 m1 m2 1#32) := ⟨![0, 0, 0, 256 * (m1.val + 2 * (m2.val + 1) + 1)], k0_off66_at_1 m1 m2⟩
theorem k0_off67_at_0 : ∀ (m1 : Fin k0_t1_loop.trips) (m2 : Fin (k0_t2_loop m1).trips), k0_off67 m1 m2 0#32 = ![0, 0, 256 * (m1.val + 2 * (m2.val + 1))] := by decide +kernel
instance closedAt_k0_off67_0 (m1 : Fin k0_t1_loop.trips) (m2 : Fin (k0_t2_loop m1).trips) : ClosedOff (k0_off67 m1 m2 0#32) := ⟨![0, 0, 256 * (m1.val + 2 * (m2.val + 1))], k0_off67_at_0 m1 m2⟩
theorem k0_off67_at_1 : ∀ (m1 : Fin k0_t1_loop.trips) (m2 : Fin (k0_t2_loop m1).trips), k0_off67 m1 m2 1#32 = ![0, 0, 256 * (m1.val + 2 * (m2.val + 1) + 1)] := by decide +kernel
instance closedAt_k0_off67_1 (m1 : Fin k0_t1_loop.trips) (m2 : Fin (k0_t2_loop m1).trips) : ClosedOff (k0_off67 m1 m2 1#32) := ⟨![0, 0, 256 * (m1.val + 2 * (m2.val + 1) + 1)], k0_off67_at_1 m1 m2⟩
theorem k0_off68_at_0 : ∀ (m1 : Fin k0_t1_loop.trips) (m2 : Fin (k0_t2_loop m1).trips), k0_off68 m1 m2 0#32 = ![2, 0, 256 * (m1.val + 2 * (m2.val + 1))] := by decide +kernel
instance closedAt_k0_off68_0 (m1 : Fin k0_t1_loop.trips) (m2 : Fin (k0_t2_loop m1).trips) : ClosedOff (k0_off68 m1 m2 0#32) := ⟨![2, 0, 256 * (m1.val + 2 * (m2.val + 1))], k0_off68_at_0 m1 m2⟩
theorem k0_off68_at_1 : ∀ (m1 : Fin k0_t1_loop.trips) (m2 : Fin (k0_t2_loop m1).trips), k0_off68 m1 m2 1#32 = ![2, 0, 256 * (m1.val + 2 * (m2.val + 1) + 1)] := by decide +kernel
instance closedAt_k0_off68_1 (m1 : Fin k0_t1_loop.trips) (m2 : Fin (k0_t2_loop m1).trips) : ClosedOff (k0_off68 m1 m2 1#32) := ⟨![2, 0, 256 * (m1.val + 2 * (m2.val + 1) + 1)], k0_off68_at_1 m1 m2⟩
theorem k0_off69_at_0 : ∀ (m1 : Fin k0_t1_loop.trips) (m2 : Fin (k0_t2_loop m1).trips), k0_off69 m1 m2 0#32 = ![0, 0, 1, 256 * (m1.val + 2 * (m2.val + 1))] := by decide +kernel
instance closedAt_k0_off69_0 (m1 : Fin k0_t1_loop.trips) (m2 : Fin (k0_t2_loop m1).trips) : ClosedOff (k0_off69 m1 m2 0#32) := ⟨![0, 0, 1, 256 * (m1.val + 2 * (m2.val + 1))], k0_off69_at_0 m1 m2⟩
theorem k0_off69_at_1 : ∀ (m1 : Fin k0_t1_loop.trips) (m2 : Fin (k0_t2_loop m1).trips), k0_off69 m1 m2 1#32 = ![0, 0, 1, 256 * (m1.val + 2 * (m2.val + 1) + 1)] := by decide +kernel
instance closedAt_k0_off69_1 (m1 : Fin k0_t1_loop.trips) (m2 : Fin (k0_t2_loop m1).trips) : ClosedOff (k0_off69 m1 m2 1#32) := ⟨![0, 0, 1, 256 * (m1.val + 2 * (m2.val + 1) + 1)], k0_off69_at_1 m1 m2⟩
theorem k0_off70_at_0 : ∀ (m1 : Fin k0_t1_loop.trips) (m2 : Fin (k0_t2_loop m1).trips), k0_off70 m1 m2 0#32 = ![0, 1, 256 * (m1.val + 2 * (m2.val + 1))] := by decide +kernel
instance closedAt_k0_off70_0 (m1 : Fin k0_t1_loop.trips) (m2 : Fin (k0_t2_loop m1).trips) : ClosedOff (k0_off70 m1 m2 0#32) := ⟨![0, 1, 256 * (m1.val + 2 * (m2.val + 1))], k0_off70_at_0 m1 m2⟩
theorem k0_off70_at_1 : ∀ (m1 : Fin k0_t1_loop.trips) (m2 : Fin (k0_t2_loop m1).trips), k0_off70 m1 m2 1#32 = ![0, 1, 256 * (m1.val + 2 * (m2.val + 1) + 1)] := by decide +kernel
instance closedAt_k0_off70_1 (m1 : Fin k0_t1_loop.trips) (m2 : Fin (k0_t2_loop m1).trips) : ClosedOff (k0_off70 m1 m2 1#32) := ⟨![0, 1, 256 * (m1.val + 2 * (m2.val + 1) + 1)], k0_off70_at_1 m1 m2⟩
theorem k0_off71_at : ∀ (m1 : Fin k0_t1_loop.trips), k0_off71 m1 = ![m1.val % 2, 0, 0] := by decide +kernel
instance closedAt_k0_off71 (m1 : Fin k0_t1_loop.trips) : ClosedOff (k0_off71 m1) := ⟨![m1.val % 2, 0, 0], k0_off71_at m1⟩
theorem k0_off73_at_0 : ∀ (m1 : Fin k0_t1_loop.trips) (m2 : Fin (k0_t2_loop m1).trips), k0_off73 m1 m2 0#32 = ![0, 256 * (m1.val + 2 * (m2.val + 1))] := by decide +kernel
instance closedAt_k0_off73_0 (m1 : Fin k0_t1_loop.trips) (m2 : Fin (k0_t2_loop m1).trips) : ClosedOff (k0_off73 m1 m2 0#32) := ⟨![0, 256 * (m1.val + 2 * (m2.val + 1))], k0_off73_at_0 m1 m2⟩
theorem k0_off73_at_1 : ∀ (m1 : Fin k0_t1_loop.trips) (m2 : Fin (k0_t2_loop m1).trips), k0_off73 m1 m2 1#32 = ![0, 256 * (m1.val + 2 * (m2.val + 1) + 1)] := by decide +kernel
instance closedAt_k0_off73_1 (m1 : Fin k0_t1_loop.trips) (m2 : Fin (k0_t2_loop m1).trips) : ClosedOff (k0_off73 m1 m2 1#32) := ⟨![0, 256 * (m1.val + 2 * (m2.val + 1) + 1)], k0_off73_at_1 m1 m2⟩
theorem k0_off74_at_0 : ∀ (m1 : Fin k0_t1_loop.trips) (m2 : Fin (k0_t2_loop m1).trips), k0_off74 m1 m2 0#32 = ![3, 0, 256 * (m1.val + 2 * (m2.val + 1))] := by decide +kernel
instance closedAt_k0_off74_0 (m1 : Fin k0_t1_loop.trips) (m2 : Fin (k0_t2_loop m1).trips) : ClosedOff (k0_off74 m1 m2 0#32) := ⟨![3, 0, 256 * (m1.val + 2 * (m2.val + 1))], k0_off74_at_0 m1 m2⟩
theorem k0_off74_at_1 : ∀ (m1 : Fin k0_t1_loop.trips) (m2 : Fin (k0_t2_loop m1).trips), k0_off74 m1 m2 1#32 = ![3, 0, 256 * (m1.val + 2 * (m2.val + 1) + 1)] := by decide +kernel
instance closedAt_k0_off74_1 (m1 : Fin k0_t1_loop.trips) (m2 : Fin (k0_t2_loop m1).trips) : ClosedOff (k0_off74 m1 m2 1#32) := ⟨![3, 0, 256 * (m1.val + 2 * (m2.val + 1) + 1)], k0_off74_at_1 m1 m2⟩
theorem k0_off75_at_0 : ∀ (m1 : Fin k0_t1_loop.trips) (m2 : Fin (k0_t2_loop m1).trips), k0_off75 m1 m2 0#32 = ![0, 0, 2, 256 * (m1.val + 2 * (m2.val + 1))] := by decide +kernel
instance closedAt_k0_off75_0 (m1 : Fin k0_t1_loop.trips) (m2 : Fin (k0_t2_loop m1).trips) : ClosedOff (k0_off75 m1 m2 0#32) := ⟨![0, 0, 2, 256 * (m1.val + 2 * (m2.val + 1))], k0_off75_at_0 m1 m2⟩
theorem k0_off75_at_1 : ∀ (m1 : Fin k0_t1_loop.trips) (m2 : Fin (k0_t2_loop m1).trips), k0_off75 m1 m2 1#32 = ![0, 0, 2, 256 * (m1.val + 2 * (m2.val + 1) + 1)] := by decide +kernel
instance closedAt_k0_off75_1 (m1 : Fin k0_t1_loop.trips) (m2 : Fin (k0_t2_loop m1).trips) : ClosedOff (k0_off75 m1 m2 1#32) := ⟨![0, 0, 2, 256 * (m1.val + 2 * (m2.val + 1) + 1)], k0_off75_at_1 m1 m2⟩
theorem k0_off76_at_0 : ∀ (m1 : Fin k0_t1_loop.trips) (m2 : Fin (k0_t2_loop m1).trips), k0_off76 m1 m2 0#32 = ![0, 2, 256 * (m1.val + 2 * (m2.val + 1))] := by decide +kernel
instance closedAt_k0_off76_0 (m1 : Fin k0_t1_loop.trips) (m2 : Fin (k0_t2_loop m1).trips) : ClosedOff (k0_off76 m1 m2 0#32) := ⟨![0, 2, 256 * (m1.val + 2 * (m2.val + 1))], k0_off76_at_0 m1 m2⟩
theorem k0_off76_at_1 : ∀ (m1 : Fin k0_t1_loop.trips) (m2 : Fin (k0_t2_loop m1).trips), k0_off76 m1 m2 1#32 = ![0, 2, 256 * (m1.val + 2 * (m2.val + 1) + 1)] := by decide +kernel
instance closedAt_k0_off76_1 (m1 : Fin k0_t1_loop.trips) (m2 : Fin (k0_t2_loop m1).trips) : ClosedOff (k0_off76 m1 m2 1#32) := ⟨![0, 2, 256 * (m1.val + 2 * (m2.val + 1) + 1)], k0_off76_at_1 m1 m2⟩
theorem k0_off77_at : ∀ (m1 : Fin k0_t1_loop.trips), k0_off77 m1 = ![m1.val % 2, 64, 0] := by decide +kernel
instance closedAt_k0_off77 (m1 : Fin k0_t1_loop.trips) : ClosedOff (k0_off77 m1) := ⟨![m1.val % 2, 64, 0], k0_off77_at m1⟩
theorem k0_off79_at_0 : ∀ (m1 : Fin k0_t1_loop.trips) (m2 : Fin (k0_t2_loop m1).trips), k0_off79 m1 m2 0#32 = ![128, 256 * (m1.val + 2 * (m2.val + 1))] := by decide +kernel
instance closedAt_k0_off79_0 (m1 : Fin k0_t1_loop.trips) (m2 : Fin (k0_t2_loop m1).trips) : ClosedOff (k0_off79 m1 m2 0#32) := ⟨![128, 256 * (m1.val + 2 * (m2.val + 1))], k0_off79_at_0 m1 m2⟩
theorem k0_off79_at_1 : ∀ (m1 : Fin k0_t1_loop.trips) (m2 : Fin (k0_t2_loop m1).trips), k0_off79 m1 m2 1#32 = ![128, 256 * (m1.val + 2 * (m2.val + 1) + 1)] := by decide +kernel
instance closedAt_k0_off79_1 (m1 : Fin k0_t1_loop.trips) (m2 : Fin (k0_t2_loop m1).trips) : ClosedOff (k0_off79 m1 m2 1#32) := ⟨![128, 256 * (m1.val + 2 * (m2.val + 1) + 1)], k0_off79_at_1 m1 m2⟩
theorem k0_off80_at_0 : ∀ (m1 : Fin k0_t1_loop.trips) (m2 : Fin (k0_t2_loop m1).trips), k0_off80 m1 m2 0#32 = ![0, 0, 3, 256 * (m1.val + 2 * (m2.val + 1))] := by decide +kernel
instance closedAt_k0_off80_0 (m1 : Fin k0_t1_loop.trips) (m2 : Fin (k0_t2_loop m1).trips) : ClosedOff (k0_off80 m1 m2 0#32) := ⟨![0, 0, 3, 256 * (m1.val + 2 * (m2.val + 1))], k0_off80_at_0 m1 m2⟩
theorem k0_off80_at_1 : ∀ (m1 : Fin k0_t1_loop.trips) (m2 : Fin (k0_t2_loop m1).trips), k0_off80 m1 m2 1#32 = ![0, 0, 3, 256 * (m1.val + 2 * (m2.val + 1) + 1)] := by decide +kernel
instance closedAt_k0_off80_1 (m1 : Fin k0_t1_loop.trips) (m2 : Fin (k0_t2_loop m1).trips) : ClosedOff (k0_off80 m1 m2 1#32) := ⟨![0, 0, 3, 256 * (m1.val + 2 * (m2.val + 1) + 1)], k0_off80_at_1 m1 m2⟩
theorem k0_off81_at_0 : ∀ (m1 : Fin k0_t1_loop.trips) (m2 : Fin (k0_t2_loop m1).trips), k0_off81 m1 m2 0#32 = ![0, 3, 256 * (m1.val + 2 * (m2.val + 1))] := by decide +kernel
instance closedAt_k0_off81_0 (m1 : Fin k0_t1_loop.trips) (m2 : Fin (k0_t2_loop m1).trips) : ClosedOff (k0_off81 m1 m2 0#32) := ⟨![0, 3, 256 * (m1.val + 2 * (m2.val + 1))], k0_off81_at_0 m1 m2⟩
theorem k0_off81_at_1 : ∀ (m1 : Fin k0_t1_loop.trips) (m2 : Fin (k0_t2_loop m1).trips), k0_off81 m1 m2 1#32 = ![0, 3, 256 * (m1.val + 2 * (m2.val + 1) + 1)] := by decide +kernel
instance closedAt_k0_off81_1 (m1 : Fin k0_t1_loop.trips) (m2 : Fin (k0_t2_loop m1).trips) : ClosedOff (k0_off81 m1 m2 1#32) := ⟨![0, 3, 256 * (m1.val + 2 * (m2.val + 1) + 1)], k0_off81_at_1 m1 m2⟩
theorem k0_off82_at : ∀ (m1 : Fin k0_t1_loop.trips), k0_off82 m1 = ![m1.val % 2, 128, 0] := by decide +kernel
instance closedAt_k0_off82 (m1 : Fin k0_t1_loop.trips) : ClosedOff (k0_off82 m1) := ⟨![m1.val % 2, 128, 0], k0_off82_at m1⟩
theorem k0_off84_at_0 : ∀ (m1 : Fin k0_t1_loop.trips) (m2 : Fin (k0_t2_loop m1).trips), k0_off84 m1 m2 0#32 = ![256, 256 * (m1.val + 2 * (m2.val + 1))] := by decide +kernel
instance closedAt_k0_off84_0 (m1 : Fin k0_t1_loop.trips) (m2 : Fin (k0_t2_loop m1).trips) : ClosedOff (k0_off84 m1 m2 0#32) := ⟨![256, 256 * (m1.val + 2 * (m2.val + 1))], k0_off84_at_0 m1 m2⟩
theorem k0_off84_at_1 : ∀ (m1 : Fin k0_t1_loop.trips) (m2 : Fin (k0_t2_loop m1).trips), k0_off84 m1 m2 1#32 = ![256, 256 * (m1.val + 2 * (m2.val + 1) + 1)] := by decide +kernel
instance closedAt_k0_off84_1 (m1 : Fin k0_t1_loop.trips) (m2 : Fin (k0_t2_loop m1).trips) : ClosedOff (k0_off84 m1 m2 1#32) := ⟨![256, 256 * (m1.val + 2 * (m2.val + 1) + 1)], k0_off84_at_1 m1 m2⟩
theorem k0_off85_at : ∀ (m1 : Fin k0_t1_loop.trips), k0_off85 m1 = ![m1.val % 2, 192, 0] := by decide +kernel
instance closedAt_k0_off85 (m1 : Fin k0_t1_loop.trips) : ClosedOff (k0_off85 m1) := ⟨![m1.val % 2, 192, 0], k0_off85_at m1⟩
theorem k0_off87_at_0 : ∀ (m1 : Fin k0_t1_loop.trips) (m2 : Fin (k0_t2_loop m1).trips), k0_off87 m1 m2 0#32 = ![384, 256 * (m1.val + 2 * (m2.val + 1))] := by decide +kernel
instance closedAt_k0_off87_0 (m1 : Fin k0_t1_loop.trips) (m2 : Fin (k0_t2_loop m1).trips) : ClosedOff (k0_off87 m1 m2 0#32) := ⟨![384, 256 * (m1.val + 2 * (m2.val + 1))], k0_off87_at_0 m1 m2⟩
theorem k0_off87_at_1 : ∀ (m1 : Fin k0_t1_loop.trips) (m2 : Fin (k0_t2_loop m1).trips), k0_off87 m1 m2 1#32 = ![384, 256 * (m1.val + 2 * (m2.val + 1) + 1)] := by decide +kernel
instance closedAt_k0_off87_1 (m1 : Fin k0_t1_loop.trips) (m2 : Fin (k0_t2_loop m1).trips) : ClosedOff (k0_off87 m1 m2 1#32) := ⟨![384, 256 * (m1.val + 2 * (m2.val + 1) + 1)], k0_off87_at_1 m1 m2⟩
theorem k0_off96_at : ∀ (m1 : Fin k0_t1_loop.trips), k0_off96 m1 = ![m1.val % 2, 0, 0] := by decide +kernel
instance closedAt_k0_off96 (m1 : Fin k0_t1_loop.trips) : ClosedOff (k0_off96 m1) := ⟨![m1.val % 2, 0, 0], k0_off96_at m1⟩
theorem k0_off102_at : ∀ (m1 : Fin k0_t1_loop.trips), k0_off102 m1 = ![m1.val % 2, 64, 0] := by decide +kernel
instance closedAt_k0_off102 (m1 : Fin k0_t1_loop.trips) : ClosedOff (k0_off102 m1) := ⟨![m1.val % 2, 64, 0], k0_off102_at m1⟩
theorem k0_off107_at : ∀ (m1 : Fin k0_t1_loop.trips), k0_off107 m1 = ![m1.val % 2, 128, 0] := by decide +kernel
instance closedAt_k0_off107 (m1 : Fin k0_t1_loop.trips) : ClosedOff (k0_off107 m1) := ⟨![m1.val % 2, 128, 0], k0_off107_at m1⟩
theorem k0_off110_at : ∀ (m1 : Fin k0_t1_loop.trips), k0_off110 m1 = ![m1.val % 2, 192, 0] := by decide +kernel
instance closedAt_k0_off110 (m1 : Fin k0_t1_loop.trips) : ClosedOff (k0_off110 m1) := ⟨![m1.val % 2, 192, 0], k0_off110_at m1⟩
theorem k0_off113_at : ∀ (m1 : Fin k0_t1_loop.trips), k0_off113 m1 = ![m1.val % 2, 0, 0] := by decide +kernel
instance closedAt_k0_off113 (m1 : Fin k0_t1_loop.trips) : ClosedOff (k0_off113 m1) := ⟨![m1.val % 2, 0, 0], k0_off113_at m1⟩
theorem k0_off115_at : ∀ (m1 : Fin k0_t1_loop.trips), k0_off115 m1 = ![m1.val % 2, 64, 0] := by decide +kernel
instance closedAt_k0_off115 (m1 : Fin k0_t1_loop.trips) : ClosedOff (k0_off115 m1) := ⟨![m1.val % 2, 64, 0], k0_off115_at m1⟩
theorem k0_off117_at : ∀ (m1 : Fin k0_t1_loop.trips), k0_off117 m1 = ![m1.val % 2, 128, 0] := by decide +kernel
instance closedAt_k0_off117 (m1 : Fin k0_t1_loop.trips) : ClosedOff (k0_off117 m1) := ⟨![m1.val % 2, 128, 0], k0_off117_at m1⟩
theorem k0_off119_at : ∀ (m1 : Fin k0_t1_loop.trips), k0_off119 m1 = ![m1.val % 2, 192, 0] := by decide +kernel
instance closedAt_k0_off119 (m1 : Fin k0_t1_loop.trips) : ClosedOff (k0_off119 m1) := ⟨![m1.val % 2, 192, 0], k0_off119_at m1⟩

/-- The remainder loop over the query tiles makes no trip. -/
theorem k0_t3_none : ∀ m1 : Fin k0_t1_loop.trips, (k0_t3_loop m1).trips = 0 := by decide +kernel
/-- The loop over pairs of whole query tiles. -/
theorem k0_t2_trips : ∀ m1 : Fin k0_t1_loop.trips, (k0_t2_loop m1).trips = (8 - m1.val) / 2 - 1 := by decide +kernel
theorem k0_t1_trips : k0_t1_loop.trips = 8 := by decide +kernel
theorem k0_cond1_iff : ∀ m1 : Fin k0_t1_loop.trips, k0_cond1 m1 = 1#1 ↔ m1.val < 7 := by decide +kernel
theorem k0_cond2_iff : ∀ m1 : Fin k0_t1_loop.trips, k0_cond2 m1 = 1#1 ↔ m1.val % 2 = 1 ∧ m1.val < 7 := by decide +kernel

end Cert.MlaIdeal.Gen

end
-- ==== Proof.MlaIdealTrip.lean ====
/- One trip of the loop over pairs of whole query tiles: what it leaves in the buffers it adds into. -/
module

public import proofs.«01_k».proof.Proof.Gen.MlaIdeal.Loops
public import proofs.«01_k».proof.Proof.MlaIdealOffs
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A buffer held whole at some contents. -/
abbrev held (c : Dev nD) {s : Shape} {e : EltTy} (a : MV s e) (f : BufTy.Contents (Elt F) a.view.ty) : sProp 𝕄G :=
  a.view.loc (c : Thread nD τ) ↦[a.view.set]{fullShare} f

@[irreducible] noncomputable def trip2 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (m2 : Fin (k0_t2_loop m1).trips) :
    Σ' (L9 : ∀ (f9 : BC F a9) (f13 : BC F a13) (f14 : BC F a14), List (View.Piece (Elt F) S2048x512 .f32)), Σ' (L13 : ∀ (f9 : BC F a9) (f13 : BC F a13) (f14 : BC F a14), List (View.Piece (Elt F) S512x2048 .f32)), { L14 : ∀ (f9 : BC F a9) (f13 : BC F a13) (f14 : BC F a14), List (View.Piece (Elt F) S2x256x256 .f32) // ∀ (E : Set ℕ) (f9 : BC F a9) (f13 : BC F a13) (f14 : BC F a14),
      (iprop(held c a2 X2 ∗ held c a6 X6 ∗ held c a7 X7 ∗ held c a12 X12 ∗ held c a9 f9 ∗ held c a13 f13 ∗ held c a14 f14) : sProp 𝕄G)
      ⊢ wp frame (wpE (defs₀ (F := F)) Variants.none (c : Thread nD τ) none) E (k0_t2_body (F := F) i a2 b2 a3 b3 a4 b4 a5 b5 a6 b6 a7 b7 a8 b8 a9 b9 a10 b10 a11 b11 a12 b12 a13 b13 a14 b14 m1 a15 v647 v649 v652 v655 v657 v670 c2_i32_437 m2 PUnit.unit)
          (fun _ => iprop(held c a2 X2 ∗ held c a6 X6 ∗ held c a7 X7 ∗ held c a12 X12 ∗ held c a9 (a9.view.writes (Elt F) f9 (L9 f9 f13 f14)) ∗ held c a13 (a13.view.writes (Elt F) f13 (L13 f9 f13 f14)) ∗ held c a14 (a14.view.writes (Elt F) f14 (L14 f9 f13 f14)))) } := by
  refine ⟨?_, ?_, ?_, fun E f9 f13 f14 => ?run⟩
  case run =>
    unfold k0_t2_body
    simp only [k0_part15_eq_skeleton, k0_part16_eq_skeleton, k0_part17_eq_skeleton, k0_part18_eq_skeleton, k0_part19_eq_skeleton, k0_part20_eq_skeleton, k0_part21_eq_skeleton, k0_part22_eq_skeleton]
    iintro ⟨H2, H6, H7, H12, H9, H13, H14⟩
    sl_exec
    sl_step
    sl_close

end Cert.MlaIdeal.Gen

end
-- ==== Proof.MlaIdealLoop.lean ====
/- The loop over pairs of whole query tiles, by its invariant: after k trips each buffer holds what the trips before k wrote. The loop over single whole tiles makes no trip. -/
module

public import proofs.«01_k».proof.Proof.MlaIdealTrip
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a trip adds on top of the pieces written before it. -/
@[irreducible] def pb2Step (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) (k : ℕ) (prev : List (View.Piece (Elt F) S2048x512 .f32) × List (View.Piece (Elt F) S512x2048 .f32) × List (View.Piece (Elt F) S2x256x256 .f32)) : List (View.Piece (Elt F) S2048x512 .f32) × List (View.Piece (Elt F) S512x2048 .f32) × List (View.Piece (Elt F) S2x256x256 .f32) :=
  if h : k < (k0_t2_loop m1).trips then
    ((trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨k, h⟩).1 (a9.view.writes (Elt F) G9 prev.1) (a13.view.writes (Elt F) G13 prev.2.1) (a14.view.writes (Elt F) G14 prev.2.2) ++ prev.1, (trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨k, h⟩).2.1 (a9.view.writes (Elt F) G9 prev.1) (a13.view.writes (Elt F) G13 prev.2.1) (a14.view.writes (Elt F) G14 prev.2.2) ++ prev.2.1, (trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨k, h⟩).2.2.1 (a9.view.writes (Elt F) G9 prev.1) (a13.view.writes (Elt F) G13 prev.2.1) (a14.view.writes (Elt F) G14 prev.2.2) ++ prev.2.2)
  else prev

/-- The pieces written by the trips before k. -/
def pb2 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) : ℕ → List (View.Piece (Elt F) S2048x512 .f32) × List (View.Piece (Elt F) S512x2048 .f32) × List (View.Piece (Elt F) S2x256x256 .f32)
  | 0 => ([], [], [])
  | k + 1 => pb2Step (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k (pb2 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k)

theorem pb2_succ9 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) (k : Fin (k0_t2_loop m1).trips) :
    (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 (k.val + 1)).1 = (trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 k).1 (a9.view.writes (Elt F) G9 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).1) (a13.view.writes (Elt F) G13 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.1) (a14.view.writes (Elt F) G14 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.2) ++ (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).1 := by
  rw [pb2.eq_2]; unfold pb2Step; rw [dif_pos k.isLt]

theorem pb2_succ13 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) (k : Fin (k0_t2_loop m1).trips) :
    (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 (k.val + 1)).2.1 = (trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 k).2.1 (a9.view.writes (Elt F) G9 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).1) (a13.view.writes (Elt F) G13 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.1) (a14.view.writes (Elt F) G14 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.2) ++ (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.1 := by
  rw [pb2.eq_2]; unfold pb2Step; rw [dif_pos k.isLt]

theorem pb2_succ14 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) (k : Fin (k0_t2_loop m1).trips) :
    (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 (k.val + 1)).2.2 = (trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 k).2.2.1 (a9.view.writes (Elt F) G9 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).1) (a13.view.writes (Elt F) G13 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.1) (a14.view.writes (Elt F) G14 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.2) ++ (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k.val).2.2 := by
  rw [pb2.eq_2]; unfold pb2Step; rw [dif_pos k.isLt]

/-- Before trip k: the buffers read, and the buffers written at the pieces of the trips before k. -/
abbrev inv2 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) (k : ℕ) (_u : PUnit) : sProp 𝕄G :=
  iprop(held c a2 X2 ∗ held c a6 X6 ∗ held c a7 X7 ∗ held c a12 X12 ∗ (∃ f, held c a9 f ∗ ⌜f = a9.view.writes (Elt F) G9 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k).1⌝) ∗ (∃ f, held c a13 f ∗ ⌜f = a13.view.writes (Elt F) G13 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k).2.1⌝) ∗ (∃ f, held c a14 f ∗ ⌜f = a14.view.writes (Elt F) G14 (pb2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14 k).2.2⌝))

set_option warn.classDefReducibility false in
@[sl_loop] def loopInv_k0_t2 (c : Dev nD) (E : Set ℕ) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (X2 : BC F a2) (X6 : BC F a6) (X7 : BC F a7) (X12 : BC F a12) (G9 : BC F a9) (G13 : BC F a13) (G14 : BC F a14) :
    LoopInvTy_k0_t2 (F := F) Unit ℕ (UR sig nD τ) ℕ Variants.none c none E i a2 b2 a3 b3 a4 b4 a5 b5 a6 b6 a7 b7 a8 b8 a9 b9 a10 b10 a11 b11 a12 b12 a13 b13 a14 b14 m1 a15 v647 v649 v652 v655 v657 v670 c2_i32_437 where
  inv := inv2 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G9 G13 G14
  step k acc := by
    iintro ⟨H2, H6, H7, H12, ⟨%f9, H9, %e9⟩, ⟨%f13, H13, %e13⟩, ⟨%f14, H14, %e14⟩⟩
    subst e9 e13 e14
    iapply (wp_wand_r Idealize.ShloMosaic.frame (wpE (defs₀ (F := F)) Variants.none (c : Thread nD τ) none) E)
    isplitl [H2 H6 H7 H12 H9 H13 H14]
    · iapply ((trip2 (F := F) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 k).2.2.2 E _ _ _)
      isplitl [H2]; · iexact H2
      isplitl [H6]; · iexact H6
      isplitl [H7]; · iexact H7
      isplitl [H12]; · iexact H12
      isplitl [H9]; · iexact H9
      isplitl [H13]; · iexact H13
      iexact H14
    · iintro %_ ⟨H2, H6, H7, H12, H9, H13, H14⟩
      isplitl [H2]; · iexact H2
      isplitl [H6]; · iexact H6
      isplitl [H7]; · iexact H7
      isplitl [H12]; · iexact H12
      isplitl [H9]
      · iexists _
        isplitl [H9]; · iexact H9
        ipureintro; rw [pb2_succ9, View.writes_append]
      isplitl [H13]
      · iexists _
        isplitl [H13]; · iexact H13
        ipureintro; rw [pb2_succ13, View.writes_append]
      iexists _
      isplitl [H14]; · iexact H14
      ipureintro; rw [pb2_succ14, View.writes_append]

set_option warn.classDefReducibility false in
/-- The loop over single whole tiles makes no trip. -/
@[sl_loop] def loopInv_k0_t3 (c : Dev nD) (E : Set ℕ) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec F S256x512 .bf16) (v655 : FVec F S256x256 .bf16) (v657 : Vec F S512x256 .bf16) (v670 : BitVec 32) (c2_i32_437 : BitVec 32) (v695 : BitVec 32) :
    LoopInvTy_k0_t3 (F := F) Unit ℕ (UR sig nD τ) ℕ Variants.none c none E i a2 b2 a3 b3 a4 b4 a5 b5 a6 b6 a7 b7 a8 b8 a9 b9 a10 b10 a11 b11 a12 b12 a13 b13 a14 b14 m1 a15 v647 v649 v652 v655 v657 v670 c2_i32_437 v695 where
  inv := fun _ _ => iprop(emp)
  step k acc := by
    exact absurd (lt_of_lt_of_eq k.isLt (k0_t3_none m1)) (Nat.not_lt_zero _)

end Cert.MlaIdeal.Gen

end
-- ==== Proof.MlaIdealTrip1.lean ====
/- One trip of the loop over key tiles: what it leaves in the buffers it adds into, in the three kinds of trips. -/
module

public import proofs.«01_k».proof.Proof.MlaIdealLoop
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

@[irreducible] noncomputable def trip1A (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (m1 : Fin k0_t1_loop.trips) (h1 : k0_cond1 m1 = 1#1) (h2 : k0_cond2 m1 = 1#1) :
    Σ' (L9 : ∀ (f9 : BC F a9) (f10 : BC F a10) (f13 : BC F a13) (f14 : BC F a14), List (View.Piece (Elt F) S2048x512 .f32)), Σ' (L10 : ∀ (f9 : BC F a9) (f10 : BC F a10) (f13 : BC F a13) (f14 : BC F a14), List (View.Piece (Elt F) S2048x256 .f32)), Σ' (L13 : ∀ (f9 : BC F a9) (f10 : BC F a10) (f13 : BC F a13) (f14 : BC F a14), List (View.Piece (Elt F) S512x2048 .f32)), { L14 : ∀ (f9 : BC F a9) (f10 : BC F a10) (f13 : BC F a13) (f14 : BC F a14), List (View.Piece (Elt F) S2x256x256 .f32) // ∀ (E : Set ℕ) (f9 : BC F a9) (f10 : BC F a10) (f13 : BC F a13) (f14 : BC F a14),
      (iprop(held c a2 X2 ∗ held c a3 X3 ∗ held c a4 X4 ∗ held c a6 X6 ∗ held c a7 X7 ∗ held c a11 X11 ∗ held c a12 X12 ∗ held c a9 f9 ∗ held c a10 f10 ∗ held c a13 f13 ∗ held c a14 f14) : sProp 𝕄G)
      ⊢ wp frame (wpE (defs₀ (F := F)) Variants.none (c : Thread nD τ) none) E (k0_t1_body (F := F) i a2 b2 a3 b3 a4 b4 a5 b5 a6 b6 a7 b7 a8 b8 a9 b9 a10 b10 a11 b11 a12 b12 a13 b13 a14 b14 c0_i32 c1_i32 m1 PUnit.unit)
          (fun _ => iprop(held c a2 X2 ∗ held c a3 X3 ∗ held c a4 X4 ∗ held c a6 X6 ∗ held c a7 X7 ∗ held c a11 X11 ∗ held c a12 X12 ∗ held c a9 (a9.view.writes (Elt F) f9 (L9 f9 f10 f13 f14)) ∗ held c a10 (a10.view.writes (Elt F) f10 (L10 f9 f10 f13 f14)) ∗ held c a13 (a13.view.writes (Elt F) f13 (L13 f9 f10 f13 f14)) ∗ held c a14 (a14.view.writes (Elt F) f14 (L14 f9 f10 f13 f14)))) } := by
  refine ⟨?_, ?_, ?_, ?_, fun E f9 f10 f13 f14 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part31_eq_skeleton, k0_part32_eq_skeleton, k0_part33_eq_skeleton, k0_part34_eq_skeleton, k0_part35_eq_skeleton, k0_part36_eq_skeleton]
    iintro ⟨H2, H3, H4, H6, H7, H11, H12, H9, H10, H13, H14⟩
    sl_exec (disch := first | exact h1 | exact h2)
    sl_step
    sl_close

@[irreducible] noncomputable def trip1B (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (m1 : Fin k0_t1_loop.trips) (h1 : k0_cond1 m1 = 1#1) (h2 : ¬ k0_cond2 m1 = 1#1) :
    Σ' (L9 : ∀ (f9 : BC F a9) (f10 : BC F a10) (f13 : BC F a13) (f14 : BC F a14), List (View.Piece (Elt F) S2048x512 .f32)), Σ' (L10 : ∀ (f9 : BC F a9) (f10 : BC F a10) (f13 : BC F a13) (f14 : BC F a14), List (View.Piece (Elt F) S2048x256 .f32)), Σ' (L13 : ∀ (f9 : BC F a9) (f10 : BC F a10) (f13 : BC F a13) (f14 : BC F a14), List (View.Piece (Elt F) S512x2048 .f32)), { L14 : ∀ (f9 : BC F a9) (f10 : BC F a10) (f13 : BC F a13) (f14 : BC F a14), List (View.Piece (Elt F) S2x256x256 .f32) // ∀ (E : Set ℕ) (f9 : BC F a9) (f10 : BC F a10) (f13 : BC F a13) (f14 : BC F a14),
      (iprop(held c a2 X2 ∗ held c a3 X3 ∗ held c a4 X4 ∗ held c a6 X6 ∗ held c a7 X7 ∗ held c a11 X11 ∗ held c a12 X12 ∗ held c a9 f9 ∗ held c a10 f10 ∗ held c a13 f13 ∗ held c a14 f14) : sProp 𝕄G)
      ⊢ wp frame (wpE (defs₀ (F := F)) Variants.none (c : Thread nD τ) none) E (k0_t1_body (F := F) i a2 b2 a3 b3 a4 b4 a5 b5 a6 b6 a7 b7 a8 b8 a9 b9 a10 b10 a11 b11 a12 b12 a13 b13 a14 b14 c0_i32 c1_i32 m1 PUnit.unit)
          (fun _ => iprop(held c a2 X2 ∗ held c a3 X3 ∗ held c a4 X4 ∗ held c a6 X6 ∗ held c a7 X7 ∗ held c a11 X11 ∗ held c a12 X12 ∗ held c a9 (a9.view.writes (Elt F) f9 (L9 f9 f10 f13 f14)) ∗ held c a10 (a10.view.writes (Elt F) f10 (L10 f9 f10 f13 f14)) ∗ held c a13 (a13.view.writes (Elt F) f13 (L13 f9 f10 f13 f14)) ∗ held c a14 (a14.view.writes (Elt F) f14 (L14 f9 f10 f13 f14)))) } := by
  refine ⟨?_, ?_, ?_, ?_, fun E f9 f10 f13 f14 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part31_eq_skeleton, k0_part32_eq_skeleton, k0_part33_eq_skeleton, k0_part34_eq_skeleton, k0_part35_eq_skeleton, k0_part36_eq_skeleton]
    iintro ⟨H2, H3, H4, H6, H7, H11, H12, H9, H10, H13, H14⟩
    sl_exec (disch := first | exact h1 | exact h2)
    sl_step
    sl_close

@[irreducible] noncomputable def trip1C (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (m1 : Fin k0_t1_loop.trips) (h1 : ¬ k0_cond1 m1 = 1#1) (h2 : ¬ k0_cond2 m1 = 1#1) :
    Σ' (L9 : ∀ (f9 : BC F a9) (f10 : BC F a10) (f13 : BC F a13) (f14 : BC F a14), List (View.Piece (Elt F) S2048x512 .f32)), Σ' (L10 : ∀ (f9 : BC F a9) (f10 : BC F a10) (f13 : BC F a13) (f14 : BC F a14), List (View.Piece (Elt F) S2048x256 .f32)), Σ' (L13 : ∀ (f9 : BC F a9) (f10 : BC F a10) (f13 : BC F a13) (f14 : BC F a14), List (View.Piece (Elt F) S512x2048 .f32)), { L14 : ∀ (f9 : BC F a9) (f10 : BC F a10) (f13 : BC F a13) (f14 : BC F a14), List (View.Piece (Elt F) S2x256x256 .f32) // ∀ (E : Set ℕ) (f9 : BC F a9) (f10 : BC F a10) (f13 : BC F a13) (f14 : BC F a14),
      (iprop(held c a2 X2 ∗ held c a3 X3 ∗ held c a4 X4 ∗ held c a6 X6 ∗ held c a7 X7 ∗ held c a11 X11 ∗ held c a12 X12 ∗ held c a9 f9 ∗ held c a10 f10 ∗ held c a13 f13 ∗ held c a14 f14) : sProp 𝕄G)
      ⊢ wp frame (wpE (defs₀ (F := F)) Variants.none (c : Thread nD τ) none) E (k0_t1_body (F := F) i a2 b2 a3 b3 a4 b4 a5 b5 a6 b6 a7 b7 a8 b8 a9 b9 a10 b10 a11 b11 a12 b12 a13 b13 a14 b14 c0_i32 c1_i32 m1 PUnit.unit)
          (fun _ => iprop(held c a2 X2 ∗ held c a3 X3 ∗ held c a4 X4 ∗ held c a6 X6 ∗ held c a7 X7 ∗ held c a11 X11 ∗ held c a12 X12 ∗ held c a9 (a9.view.writes (Elt F) f9 (L9 f9 f10 f13 f14)) ∗ held c a10 (a10.view.writes (Elt F) f10 (L10 f9 f10 f13 f14)) ∗ held c a13 (a13.view.writes (Elt F) f13 (L13 f9 f10 f13 f14)) ∗ held c a14 (a14.view.writes (Elt F) f14 (L14 f9 f10 f13 f14)))) } := by
  refine ⟨?_, ?_, ?_, ?_, fun E f9 f10 f13 f14 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part31_eq_skeleton, k0_part32_eq_skeleton, k0_part33_eq_skeleton, k0_part34_eq_skeleton, k0_part35_eq_skeleton, k0_part36_eq_skeleton]
    iintro ⟨H2, H3, H4, H6, H7, H11, H12, H9, H10, H13, H14⟩
    sl_exec (disch := first | exact h1 | exact h2)
    sl_step
    sl_close

end Cert.MlaIdeal.Gen

end
-- ==== Proof.MlaIdealLoop1.lean ====
/- The loop over key tiles, by its invariant: after k trips each buffer holds what the trips before k wrote. -/
module

public import proofs.«01_k».proof.Proof.MlaIdealTrip1
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem cond2_of_not (m1 : Fin k0_t1_loop.trips) (h1 : ¬ k0_cond1 m1 = 1#1) : ¬ k0_cond2 m1 = 1#1 := by
  rw [k0_cond1_iff] at h1
  rw [k0_cond2_iff]
  exact fun h => h1 h.2

/-- One trip, of whichever kind it is. -/
@[irreducible] noncomputable def trip1 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (m1 : Fin k0_t1_loop.trips) :
    Σ' (L9 : ∀ (f9 : BC F a9) (f10 : BC F a10) (f13 : BC F a13) (f14 : BC F a14), List (View.Piece (Elt F) S2048x512 .f32)), Σ' (L10 : ∀ (f9 : BC F a9) (f10 : BC F a10) (f13 : BC F a13) (f14 : BC F a14), List (View.Piece (Elt F) S2048x256 .f32)), Σ' (L13 : ∀ (f9 : BC F a9) (f10 : BC F a10) (f13 : BC F a13) (f14 : BC F a14), List (View.Piece (Elt F) S512x2048 .f32)), { L14 : ∀ (f9 : BC F a9) (f10 : BC F a10) (f13 : BC F a13) (f14 : BC F a14), List (View.Piece (Elt F) S2x256x256 .f32) // ∀ (E : Set ℕ) (f9 : BC F a9) (f10 : BC F a10) (f13 : BC F a13) (f14 : BC F a14),
      (iprop(held c a2 X2 ∗ held c a3 X3 ∗ held c a4 X4 ∗ held c a6 X6 ∗ held c a7 X7 ∗ held c a11 X11 ∗ held c a12 X12 ∗ held c a9 f9 ∗ held c a10 f10 ∗ held c a13 f13 ∗ held c a14 f14) : sProp 𝕄G)
      ⊢ wp frame (wpE (defs₀ (F := F)) Variants.none (c : Thread nD τ) none) E (k0_t1_body (F := F) i a2 b2 a3 b3 a4 b4 a5 b5 a6 b6 a7 b7 a8 b8 a9 b9 a10 b10 a11 b11 a12 b12 a13 b13 a14 b14 c0_i32 c1_i32 m1 PUnit.unit)
          (fun _ => iprop(held c a2 X2 ∗ held c a3 X3 ∗ held c a4 X4 ∗ held c a6 X6 ∗ held c a7 X7 ∗ held c a11 X11 ∗ held c a12 X12 ∗ held c a9 (a9.view.writes (Elt F) f9 (L9 f9 f10 f13 f14)) ∗ held c a10 (a10.view.writes (Elt F) f10 (L10 f9 f10 f13 f14)) ∗ held c a13 (a13.view.writes (Elt F) f13 (L13 f9 f10 f13 f14)) ∗ held c a14 (a14.view.writes (Elt F) f14 (L14 f9 f10 f13 f14)))) } :=
  if h1 : k0_cond1 m1 = 1#1 then
    if h2 : k0_cond2 m1 = 1#1 then trip1A c i a2 b2 a3 b3 a4 b4 a5 b5 a6 b6 a7 b7 a8 b8 a9 b9 a10 b10 a11 b11 a12 b12 a13 b13 a14 b14 c0_i32 c1_i32 X2 X3 X4 X6 X7 X11 X12 m1 h1 h2 else trip1B c i a2 b2 a3 b3 a4 b4 a5 b5 a6 b6 a7 b7 a8 b8 a9 b9 a10 b10 a11 b11 a12 b12 a13 b13 a14 b14 c0_i32 c1_i32 X2 X3 X4 X6 X7 X11 X12 m1 h1 h2
  else trip1C c i a2 b2 a3 b3 a4 b4 a5 b5 a6 b6 a7 b7 a8 b8 a9 b9 a10 b10 a11 b11 a12 b12 a13 b13 a14 b14 c0_i32 c1_i32 X2 X3 X4 X6 X7 X11 X12 m1 h1 (cond2_of_not m1 h1)

/-- What a trip adds on top of the pieces written before it. -/
@[irreducible] def pb1Step (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : ℕ) (prev : List (View.Piece (Elt F) S2048x512 .f32) × List (View.Piece (Elt F) S2048x256 .f32) × List (View.Piece (Elt F) S512x2048 .f32) × List (View.Piece (Elt F) S2x256x256 .f32)) : List (View.Piece (Elt F) S2048x512 .f32) × List (View.Piece (Elt F) S2048x256 .f32) × List (View.Piece (Elt F) S512x2048 .f32) × List (View.Piece (Elt F) S2x256x256 .f32) :=
  if h : k < k0_t1_loop.trips then
    ((trip1 (F := F) c i a2 b2 a3 b3 a4 b4 a5 b5 a6 b6 a7 b7 a8 b8 a9 b9 a10 b10 a11 b11 a12 b12 a13 b13 a14 b14 c0_i32 c1_i32 X2 X3 X4 X6 X7 X11 X12 ⟨k, h⟩).1 (a9.view.writes (Elt F) G9 prev.1) (a10.view.writes (Elt F) G10 prev.2.1) (a13.view.writes (Elt F) G13 prev.2.2.1) (a14.view.writes (Elt F) G14 prev.2.2.2) ++ prev.1, (trip1 (F := F) c i a2 b2 a3 b3 a4 b4 a5 b5 a6 b6 a7 b7 a8 b8 a9 b9 a10 b10 a11 b11 a12 b12 a13 b13 a14 b14 c0_i32 c1_i32 X2 X3 X4 X6 X7 X11 X12 ⟨k, h⟩).2.1 (a9.view.writes (Elt F) G9 prev.1) (a10.view.writes (Elt F) G10 prev.2.1) (a13.view.writes (Elt F) G13 prev.2.2.1) (a14.view.writes (Elt F) G14 prev.2.2.2) ++ prev.2.1, (trip1 (F := F) c i a2 b2 a3 b3 a4 b4 a5 b5 a6 b6 a7 b7 a8 b8 a9 b9 a10 b10 a11 b11 a12 b12 a13 b13 a14 b14 c0_i32 c1_i32 X2 X3 X4 X6 X7 X11 X12 ⟨k, h⟩).2.2.1 (a9.view.writes (Elt F) G9 prev.1) (a10.view.writes (Elt F) G10 prev.2.1) (a13.view.writes (Elt F) G13 prev.2.2.1) (a14.view.writes (Elt F) G14 prev.2.2.2) ++ prev.2.2.1, (trip1 (F := F) c i a2 b2 a3 b3 a4 b4 a5 b5 a6 b6 a7 b7 a8 b8 a9 b9 a10 b10 a11 b11 a12 b12 a13 b13 a14 b14 c0_i32 c1_i32 X2 X3 X4 X6 X7 X11 X12 ⟨k, h⟩).2.2.2.1 (a9.view.writes (Elt F) G9 prev.1) (a10.view.writes (Elt F) G10 prev.2.1) (a13.view.writes (Elt F) G13 prev.2.2.1) (a14.view.writes (Elt F) G14 prev.2.2.2) ++ prev.2.2.2)
  else prev

/-- The pieces written by the trips before k. -/
def pb1 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) : ℕ → List (View.Piece (Elt F) S2048x512 .f32) × List (View.Piece (Elt F) S2048x256 .f32) × List (View.Piece (Elt F) S512x2048 .f32) × List (View.Piece (Elt F) S2x256x256 .f32)
  | 0 => ([], [], [], [])
  | k + 1 => pb1Step (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k (pb1 c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k)

theorem pb1_succ9 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : Fin k0_t1_loop.trips) :
    (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 (k.val + 1)).1 = (trip1 (F := F) c i a2 b2 a3 b3 a4 b4 a5 b5 a6 b6 a7 b7 a8 b8 a9 b9 a10 b10 a11 b11 a12 b12 a13 b13 a14 b14 c0_i32 c1_i32 X2 X3 X4 X6 X7 X11 X12 k).1 (a9.view.writes (Elt F) G9 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).1) (a10.view.writes (Elt F) G10 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.1) (a13.view.writes (Elt F) G13 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.1) (a14.view.writes (Elt F) G14 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.2) ++ (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).1 := by
  rw [pb1.eq_2]; unfold pb1Step; rw [dif_pos k.isLt]

theorem pb1_succ10 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : Fin k0_t1_loop.trips) :
    (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 (k.val + 1)).2.1 = (trip1 (F := F) c i a2 b2 a3 b3 a4 b4 a5 b5 a6 b6 a7 b7 a8 b8 a9 b9 a10 b10 a11 b11 a12 b12 a13 b13 a14 b14 c0_i32 c1_i32 X2 X3 X4 X6 X7 X11 X12 k).2.1 (a9.view.writes (Elt F) G9 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).1) (a10.view.writes (Elt F) G10 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.1) (a13.view.writes (Elt F) G13 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.1) (a14.view.writes (Elt F) G14 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.2) ++ (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.1 := by
  rw [pb1.eq_2]; unfold pb1Step; rw [dif_pos k.isLt]

theorem pb1_succ13 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : Fin k0_t1_loop.trips) :
    (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 (k.val + 1)).2.2.1 = (trip1 (F := F) c i a2 b2 a3 b3 a4 b4 a5 b5 a6 b6 a7 b7 a8 b8 a9 b9 a10 b10 a11 b11 a12 b12 a13 b13 a14 b14 c0_i32 c1_i32 X2 X3 X4 X6 X7 X11 X12 k).2.2.1 (a9.view.writes (Elt F) G9 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).1) (a10.view.writes (Elt F) G10 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.1) (a13.view.writes (Elt F) G13 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.1) (a14.view.writes (Elt F) G14 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.2) ++ (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.1 := by
  rw [pb1.eq_2]; unfold pb1Step; rw [dif_pos k.isLt]

theorem pb1_succ14 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : Fin k0_t1_loop.trips) :
    (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 (k.val + 1)).2.2.2 = (trip1 (F := F) c i a2 b2 a3 b3 a4 b4 a5 b5 a6 b6 a7 b7 a8 b8 a9 b9 a10 b10 a11 b11 a12 b12 a13 b13 a14 b14 c0_i32 c1_i32 X2 X3 X4 X6 X7 X11 X12 k).2.2.2.1 (a9.view.writes (Elt F) G9 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).1) (a10.view.writes (Elt F) G10 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.1) (a13.view.writes (Elt F) G13 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.1) (a14.view.writes (Elt F) G14 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.2) ++ (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k.val).2.2.2 := by
  rw [pb1.eq_2]; unfold pb1Step; rw [dif_pos k.isLt]

/-- Before trip k: the buffers read, and the buffers written at the pieces of the trips before k. -/
abbrev inv1 (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) (k : ℕ) (_u : PUnit) : sProp 𝕄G :=
  iprop(held c a2 X2 ∗ held c a3 X3 ∗ held c a4 X4 ∗ held c a6 X6 ∗ held c a7 X7 ∗ held c a11 X11 ∗ held c a12 X12 ∗ (∃ f, held c a9 f ∗ ⌜f = a9.view.writes (Elt F) G9 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k).1⌝) ∗ (∃ f, held c a10 f ∗ ⌜f = a10.view.writes (Elt F) G10 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k).2.1⌝) ∗ (∃ f, held c a13 f ∗ ⌜f = a13.view.writes (Elt F) G13 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k).2.2.1⌝) ∗ (∃ f, held c a14 f ∗ ⌜f = a14.view.writes (Elt F) G14 (pb1 (F := F) c i a2 b2 a3 b3 a4 b4 a5 b5 a6 b6 a7 b7 a8 b8 a9 b9 a10 b10 a11 b11 a12 b12 a13 b13 a14 b14 c0_i32 c1_i32 X2 X3 X4 X6 X7 X11 X12 G9 G10 G13 G14 k).2.2.2⌝))

set_option warn.classDefReducibility false in
@[sl_loop] def loopInv_k0_t1 (c : Dev nD) (E : Set ℕ) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (c0_i32 c1_i32 : BitVec 32) (X2 : BC F a2) (X3 : BC F a3) (X4 : BC F a4) (X6 : BC F a6) (X7 : BC F a7) (X11 : BC F a11) (X12 : BC F a12) (G9 : BC F a9) (G10 : BC F a10) (G13 : BC F a13) (G14 : BC F a14) :
    LoopInvTy_k0_t1 (F := F) Unit ℕ (UR sig nD τ) ℕ Variants.none c none E i a2 b2 a3 b3 a4 b4 a5 b5 a6 b6 a7 b7 a8 b8 a9 b9 a10 b10 a11 b11 a12 b12 a13 b13 a14 b14 c0_i32 c1_i32 where
  inv := inv1 c i a2 b2 a3 b3 a4 b4 a5 b5 a6 b6 a7 b7 a8 b8 a9 b9 a10 b10 a11 b11 a12 b12 a13 b13 a14 b14 c0_i32 c1_i32 X2 X3 X4 X6 X7 X11 X12 G9 G10 G13 G14
  step k acc := by
    iintro ⟨H2, H3, H4, H6, H7, H11, H12, ⟨%f9, H9, %e9⟩, ⟨%f10, H10, %e10⟩, ⟨%f13, H13, %e13⟩, ⟨%f14, H14, %e14⟩⟩
    subst e9 e10 e13 e14
    iapply (wp_wand_r Idealize.ShloMosaic.frame (wpE (defs₀ (F := F)) Variants.none (c : Thread nD τ) none) E)
    isplitl [H2 H3 H4 H6 H7 H11 H12 H9 H10 H13 H14]
    · iapply ((trip1 (F := F) c i a2 b2 a3 b3 a4 b4 a5 b5 a6 b6 a7 b7 a8 b8 a9 b9 a10 b10 a11 b11 a12 b12 a13 b13 a14 b14 c0_i32 c1_i32 X2 X3 X4 X6 X7 X11 X12 k).2.2.2.2 E _ _ _ _)
      isplitl [H2]; · iexact H2
      isplitl [H3]; · iexact H3
      isplitl [H4]; · iexact H4
      isplitl [H6]; · iexact H6
      isplitl [H7]; · iexact H7
      isplitl [H11]; · iexact H11
      isplitl [H12]; · iexact H12
      isplitl [H9]; · iexact H9
      isplitl [H10]; · iexact H10
      isplitl [H13]; · iexact H13
      iexact H14
    · iintro %_ ⟨H2, H3, H4, H6, H7, H11, H12, H9, H10, H13, H14⟩
      isplitl [H2]; · iexact H2
      isplitl [H3]; · iexact H3
      isplitl [H4]; · iexact H4
      isplitl [H6]; · iexact H6
      isplitl [H7]; · iexact H7
      isplitl [H11]; · iexact H11
      isplitl [H12]; · iexact H12
      isplitl [H9]
      · iexists _
        isplitl [H9]; · iexact H9
        ipureintro; rw [pb1_succ9, View.writes_append]
      isplitl [H10]
      · iexists _
        isplitl [H10]; · iexact H10
        ipureintro; rw [pb1_succ10, View.writes_append]
      isplitl [H13]
      · iexists _
        isplitl [H13]; · iexact H13
        ipureintro; rw [pb1_succ13, View.writes_append]
      iexists _
      isplitl [H14]; · iexact H14
      ipureintro; rw [pb1_succ14, View.writes_append]

end Cert.MlaIdeal.Gen

end
-- ==== Proof.MlaIdealPoint.lean ====
/- One grid point of the kernel: what it leaves in its three outputs and its four scratch buffers. -/
module

public import proofs.«01_k».proof.Proof.MlaIdealLoop1
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

@[irreducible] noncomputable def point (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC F a2) (X3 : BC F a3) (X4 : BC F a4) (X5 : BC F a5) (X6 : BC F a6) (X7 : BC F a7) :
    Σ' (L8 : ∀ (f8 : BC F a8) (f9 : BC F a9) (f10 : BC F a10), List (View.Piece (Elt F) S2048x512 .f32)), Σ' (L9 : ∀ (f8 : BC F a8) (f9 : BC F a9) (f10 : BC F a10), List (View.Piece (Elt F) S2048x512 .f32)), { L10 : ∀ (f8 : BC F a8) (f9 : BC F a9) (f10 : BC F a10), List (View.Piece (Elt F) S2048x256 .f32) // ∀ (E : Set ℕ) (f8 : BC F a8) (f9 : BC F a9) (f10 : BC F a10) (f11 : BC F a11) (f12 : BC F a12) (f13 : BC F a13) (f14 : BC F a14),
      (iprop(held c a2 X2 ∗ held c a3 X3 ∗ held c a4 X4 ∗ held c a5 X5 ∗ held c a6 X6 ∗ held c a7 X7 ∗ held c a8 f8 ∗ held c a9 f9 ∗ held c a10 f10 ∗ held c a11 f11 ∗ held c a12 f12 ∗ held c a13 f13 ∗ held c a14 f14) : sProp 𝕄G)
      ⊢ wp frame (wpE (defs₀ (F := F)) Variants.none (c : Thread nD τ) none) E (cc0_mla_bwd (F := F) i a2 b2 a3 b3 a4 b4 a5 b5 a6 b6 a7 b7 a8 b8 a9 b9 a10 b10 a11 b11 a12 b12 a13 b13 a14 b14)
          (fun _ => iprop(held c a2 X2 ∗ held c a3 X3 ∗ held c a4 X4 ∗ held c a5 X5 ∗ held c a6 X6 ∗ held c a7 X7 ∗ held c a8 (a8.view.writes (Elt F) f8 (L8 f8 f9 f10)) ∗ held c a9 (a9.view.writes (Elt F) f9 (L9 f8 f9 f10)) ∗ held c a10 (a10.view.writes (Elt F) f10 (L10 f8 f9 f10)) ∗ (∃ g, held c a11 g) ∗ (∃ g, held c a12 g) ∗ (∃ g, held c a13 g) ∗ (∃ g, held c a14 g))) } := by
  refine ⟨?_, ?_, ?_, fun E f8 f9 f10 f11 f12 f13 f14 => ?run⟩
  case run =>
    rw [cc0_mla_bwd_eq_skeleton]
    unfold cc0_mla_bwd_skel
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    iintro ⟨H2, H3, H4, H5, H6, H7, H8, H9, H10, H11, H12, H13, H14⟩
    sl_exec
    sl_step
    sl_close

end Cert.MlaIdeal.Gen

end
-- ==== Proof.MlaIdealOwned.lean ====
/- One grid point of the kernel over memrefs owned whole: the inputs come back as they were, each output holds what the pieces of the point leave. -/
module

public import proofs.«01_k».proof.Proof.MlaIdealPoint
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem point_owned (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (x2 : FVec F S2048x512 .bf16) (x3 : FVec F S2048x512 .bf16) (x4 : FVec F S2048x256 .bf16) (x5 : FVec F S2048x256 .bf16) (x6 : FVec F S1x4x2048 .f32) (x7 : FVec F S1x1x4x2048 .f32) (E : Set ℕ) (K : PUnit → sProp 𝕄G) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f8 f9 f10, owns (c : Thread nD τ) a8 fullShare (a8.view.read (Elt F) (a8.view.writes (Elt F) f8 ((point (F := F) c i a2 b2 a3 b3 a4 b4 a5 b5 a6 b6 a7 b7 a8 b8 a9 b9 a10 b10 a11 b11 a12 b12 a13 b13 a14 b14 (b2.unread x2) (b3.unread x3) (b4.unread x4) (b5.unread x5) (b6.unread x6) (b7.unread x7)).1 f8 f9 f10))) ∗ owns (c : Thread nD τ) a9 fullShare (a9.view.read (Elt F) (a9.view.writes (Elt F) f9 ((point (F := F) c i a2 b2 a3 b3 a4 b4 a5 b5 a6 b6 a7 b7 a8 b8 a9 b9 a10 b10 a11 b11 a12 b12 a13 b13 a14 b14 (b2.unread x2) (b3.unread x3) (b4.unread x4) (b5.unread x5) (b6.unread x6) (b7.unread x7)).2.1 f8 f9 f10))) ∗ owns (c : Thread nD τ) a10 fullShare (a10.view.read (Elt F) (a10.view.writes (Elt F) f10 ((point (F := F) c i a2 b2 a3 b3 a4 b4 a5 b5 a6 b6 a7 b7 a8 b8 a9 b9 a10 b10 a11 b11 a12 b12 a13 b13 a14 b14 (b2.unread x2) (b3.unread x3) (b4.unread x4) (b5.unread x5) (b6.unread x6) (b7.unread x7)).2.2.1 f8 f9 f10)))) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
      ⊢ wp frame (wpE (defs₀ (F := F)) Variants.none (c : Thread nD τ) none) E (cc0_mla_bwd (F := F) i a2 b2 a3 b3 a4 b4 a5 b5 a6 b6 a7 b7 a8 b8 a9 b9 a10 b10 a11 b11 a12 b12 a13 b13 a14 b14) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := b2.eq_unread hf2; obtain rfl := b3.eq_unread hf3; obtain rfl := b4.eq_unread hf4; obtain rfl := b5.eq_unread hf5; obtain rfl := b6.eq_unread hf6; obtain rfl := b7.eq_unread hf7
  iapply (wp_wand_r Idealize.ShloMosaic.frame (wpE (defs₀ (F := F)) Variants.none (c : Thread nD τ) none) E)
  isplitl [H2 H3 H4 H5 H6 H7 H8 H9 H10 H11 H12 H13 H14]
  · iapply ((point (F := F) c i a2 b2 a3 b3 a4 b4 a5 b5 a6 b6 a7 b7 a8 b8 a9 b9 a10 b10 a11 b11 a12 b12 a13 b13 a14 b14 (b2.unread x2) (b3.unread x3) (b4.unread x4) (b5.unread x5) (b6.unread x6) (b7.unread x7)).2.2.2 E _ _ _ _ _ _ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, H9, H10, ⟨%g11, H11⟩, ⟨%g12, H12⟩, ⟨%g13, H13⟩, ⟨%g14, H14⟩⟩
    iapply Hk
    isplitl [H2]
    · iexists _; isplitr; · ipureintro; exact b2.read_unread _
      iexact H2
    isplitl [H3]
    · iexists _; isplitr; · ipureintro; exact b3.read_unread _
      iexact H3
    isplitl [H4]
    · iexists _; isplitr; · ipureintro; exact b4.read_unread _
      iexact H4
    isplitl [H5]
    · iexists _; isplitr; · ipureintro; exact b5.read_unread _
      iexact H5
    isplitl [H6]
    · iexists _; isplitr; · ipureintro; exact b6.read_unread _
      iexact H6
    isplitl [H7]
    · iexists _; isplitr; · ipureintro; exact b7.read_unread _
      iexact H7
    isplitl [H8 H9 H10]
    · iexists f8, f9, f10
      isplitl [H8]
      · iexists _; isplitr; · ipureintro; rfl
        iexact H8
      isplitl [H9]
      · iexists _; isplitr; · ipureintro; rfl
        iexact H9
      iexists _; isplitr; · ipureintro; rfl
      iexact H10
    isplitl [H11]
    · iexists (a11.view.read (Elt F) g11), g11; isplitr; · ipureintro; rfl
      iexact H11
    isplitl [H12]
    · iexists (a12.view.read (Elt F) g12), g12; isplitr; · ipureintro; rfl
      iexact H12
    isplitl [H13]
    · iexists (a13.view.read (Elt F) g13), g13; isplitr; · ipureintro; rfl
      iexact H13
    iexists (a14.view.read (Elt F) g14), g14; isplitr; · ipureintro; rfl
    iexact H14

end Cert.MlaIdeal.Gen

end
-- ==== Proof.MlaIdealFrame.lean ====
/- The kernel leaves its arguments as they were, at any values: the proof data with the three outputs forgotten, the obligation at each grid point, the run. -/
module

public import proofs.«01_k».proof.Proof.MlaIdealOwned
public import proofs.«01_k».proof.Proof.Gen.MlaIdeal.Frame
public import Idealize.ShloMosaic.Lib.Claim
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.MlaIdeal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

abbrev ms0_0 (t : Fin cfg0.N) : MV S2048x512 .bf16 := win0_0.stage (cfg0.slots t 0)
abbrev ms0_1 (t : Fin cfg0.N) : MV S2048x512 .bf16 := win0_1.stage (cfg0.slots t 1)
abbrev ms0_2 (t : Fin cfg0.N) : MV S2048x256 .bf16 := win0_2.stage (cfg0.slots t 2)
abbrev ms0_3 (t : Fin cfg0.N) : MV S2048x256 .bf16 := win0_3.stage (cfg0.slots t 3)
abbrev ms0_4 (t : Fin cfg0.N) : MV S1x4x2048 .f32 := win0_4.stage (cfg0.slots t 4)
abbrev ms0_5 (t : Fin cfg0.N) : MV S1x1x4x2048 .f32 := win0_5.stage (cfg0.slots t 5)
abbrev ms0_6 (t : Fin cfg0.N) : MV S2048x512 .f32 := win0_6.stage (cfg0.slots t 6)
abbrev ms0_7 (t : Fin cfg0.N) : MV S2048x512 .f32 := win0_7.stage (cfg0.slots t 7)
abbrev ms0_8 (t : Fin cfg0.N) : MV S2048x256 .f32 := win0_8.stage (cfg0.slots t 8)
abbrev scM0_0 : MV S512x2048 .bf16 := Memref.whole cc0_scratch0
abbrev scM0_1 : MV S4x128x2048 .bf16 := Memref.whole cc0_scratch1
abbrev scM0_2 : MV S512x2048 .f32 := Memref.whole cc0_scratch2
abbrev scM0_3 : MV S2x256x256 .f32 := Memref.whole cc0_scratch3

/-- The invariant of the grid: the four scratch buffers owned at some contents, and the generator register. -/
theorem PhiA0_eq (c : Dev nD) :
    (Pipeline.ΦA spec0 c : sProp 𝕄G) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The three outputs. -/
def forgets0 : Fin 9 → Bool := fun w => w.val == 6 || w.val == 7 || w.val == 8

/-- The proof data: each input at its block, each output at what is said of it. -/
def datsOf (o6 : Dev nD → Fin cfg0.N → Vec F S2048x512 .f32) (o7 : Dev nD → Fin cfg0.N → Vec F S2048x512 .f32) (o8 : Dev nD → Fin cfg0.N → Vec F S2048x256 .f32)
    (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 c t
    | ⟨7, _⟩ => o7 c t
    | ⟨8, _⟩ => o8 c t
    | ⟨_ + 9, h⟩ => absurd h (Nat.not_lt.2 (Nat.le_add_left _ _))
  Φ _ := Pipeline.ΦA spec0 c
  q _ := fullShare
  owed _ := 0

section
variable (o6 : Dev nD → Fin cfg0.N → Vec F S2048x512 .f32) (o7 : Dev nD → Fin cfg0.N → Vec F S2048x512 .f32) (o8 : Dev nD → Fin cfg0.N → Vec F S2048x256 .f32)

theorem A_eq (c : Dev nD) (w : Fin cfg0.W) : (datsOf m o6 o7 o8 0 c).A w = V m c (Pipeline.arrRef spec0 w) := by
  dsimp only [datsOf]

theorem after0_0 (c : Dev nD) (t : Fin cfg0.N) : (datsOf m o6 o7 o8 0 c).after 0 t = iblk m c 0 t := by dsimp only [datsOf]
theorem after0_1 (c : Dev nD) (t : Fin cfg0.N) : (datsOf m o6 o7 o8 0 c).after 1 t = iblk m c 1 t := by dsimp only [datsOf]
theorem after0_2 (c : Dev nD) (t : Fin cfg0.N) : (datsOf m o6 o7 o8 0 c).after 2 t = iblk m c 2 t := by dsimp only [datsOf]
theorem after0_3 (c : Dev nD) (t : Fin cfg0.N) : (datsOf m o6 o7 o8 0 c).after 3 t = iblk m c 3 t := by dsimp only [datsOf]
theorem after0_4 (c : Dev nD) (t : Fin cfg0.N) : (datsOf m o6 o7 o8 0 c).after 4 t = iblk m c 4 t := by dsimp only [datsOf]
theorem after0_5 (c : Dev nD) (t : Fin cfg0.N) : (datsOf m o6 o7 o8 0 c).after 5 t = iblk m c 5 t := by dsimp only [datsOf]
theorem after0_6 (c : Dev nD) (t : Fin cfg0.N) : (datsOf m o6 o7 o8 0 c).after 6 t = o6 c t := by dsimp only [datsOf]
theorem after0_7 (c : Dev nD) (t : Fin cfg0.N) : (datsOf m o6 o7 o8 0 c).after 7 t = o7 c t := by dsimp only [datsOf]
theorem after0_8 (c : Dev nD) (t : Fin cfg0.N) : (datsOf m o6 o7 o8 0 c).after 8 t = o8 c t := by dsimp only [datsOf]
theorem before0_0 (c : Dev nD) (t : Fin cfg0.N) (d) : (datsOf m o6 o7 o8 0 c).before 0 t d = iblk m c 0 t :=
  before0_0_of m (datsOf m o6 o7 o8 0 c) (A_eq m o6 o7 o8 c 0) (after0_0 m o6 o7 o8 c) t d
theorem before0_1 (c : Dev nD) (t : Fin cfg0.N) (d) : (datsOf m o6 o7 o8 0 c).before 1 t d = iblk m c 1 t :=
  before0_1_of m (datsOf m o6 o7 o8 0 c) (A_eq m o6 o7 o8 c 1) (after0_1 m o6 o7 o8 c) t d
theorem before0_2 (c : Dev nD) (t : Fin cfg0.N) (d) : (datsOf m o6 o7 o8 0 c).before 2 t d = iblk m c 2 t :=
  before0_2_of m (datsOf m o6 o7 o8 0 c) (A_eq m o6 o7 o8 c 2) (after0_2 m o6 o7 o8 c) t d
theorem before0_3 (c : Dev nD) (t : Fin cfg0.N) (d) : (datsOf m o6 o7 o8 0 c).before 3 t d = iblk m c 3 t :=
  before0_3_of m (datsOf m o6 o7 o8 0 c) (A_eq m o6 o7 o8 c 3) (after0_3 m o6 o7 o8 c) t d
theorem before0_4 (c : Dev nD) (t : Fin cfg0.N) (d) : (datsOf m o6 o7 o8 0 c).before 4 t d = iblk m c 4 t :=
  before0_4_of m (datsOf m o6 o7 o8 0 c) (A_eq m o6 o7 o8 c 4) (after0_4 m o6 o7 o8 c) t d
theorem before0_5 (c : Dev nD) (t : Fin cfg0.N) (d) : (datsOf m o6 o7 o8 0 c).before 5 t d = iblk m c 5 t :=
  before0_5_of m (datsOf m o6 o7 o8 0 c) (A_eq m o6 o7 o8 c 5) (after0_5 m o6 o7 o8 c) t d

/-- What the point t leaves. -/
abbrev PT (c : Dev nD) (t : Fin cfg0.N) := point (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) scM0_0 (Memref.isWhole_whole _) scM0_1 (Memref.isWhole_whole _) scM0_2 (Memref.isWhole_whole _) scM0_3 (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))

/-- The body at any point. -/
theorem sound_forget (c : Dev nD) (t : Fin cfg0.N) :
    iprop((datsOf m o6 o7 o8 0 c).Φ t.castSucc ∗ (datsOf m o6 o7 o8 0 c).owesAt () t.castSucc
    ∗ (∃ d, owns (c : Thread nD τ) (ms0_0 t) fullShare ((datsOf m o6 o7 o8 0 c).before 0 t d))
    ∗ (∃ d, owns (c : Thread nD τ) (ms0_1 t) fullShare ((datsOf m o6 o7 o8 0 c).before 1 t d))
    ∗ (∃ d, owns (c : Thread nD τ) (ms0_2 t) fullShare ((datsOf m o6 o7 o8 0 c).before 2 t d))
    ∗ (∃ d, owns (c : Thread nD τ) (ms0_3 t) fullShare ((datsOf m o6 o7 o8 0 c).before 3 t d))
    ∗ (∃ d, owns (c : Thread nD τ) (ms0_4 t) fullShare ((datsOf m o6 o7 o8 0 c).before 4 t d))
    ∗ (∃ d, owns (c : Thread nD τ) (ms0_5 t) fullShare ((datsOf m o6 o7 o8 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))
    ⊢ wp frame (wpE (defs₀ (F := F)) Variants.none c none) Set.univ (bodyAt0 t) (fun _ => iprop((datsOf m o6 o7 o8 0 c).Φ t.succ ∗ (datsOf m o6 o7 o8 0 c).owesAt () t.succ
    ∗ owns (c : Thread nD τ) (ms0_0 t) fullShare ((datsOf m o6 o7 o8 0 c).after 0 t)
    ∗ owns (c : Thread nD τ) (ms0_1 t) fullShare ((datsOf m o6 o7 o8 0 c).after 1 t)
    ∗ owns (c : Thread nD τ) (ms0_2 t) fullShare ((datsOf m o6 o7 o8 0 c).after 2 t)
    ∗ owns (c : Thread nD τ) (ms0_3 t) fullShare ((datsOf m o6 o7 o8 0 c).after 3 t)
    ∗ owns (c : Thread nD τ) (ms0_4 t) fullShare ((datsOf m o6 o7 o8 0 c).after 4 t)
    ∗ owns (c : Thread nD τ) (ms0_5 t) fullShare ((datsOf m o6 o7 o8 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))) := by
  unfold bodyAt0
  simp only [before0_0, before0_1, before0_2, before0_3, before0_4, before0_5]
  rw [show (datsOf m o6 o7 o8 0 c).Φ t.succ = (datsOf m o6 o7 o8 0 c).Φ t.castSucc from rfl,
    show (datsOf m o6 o7 o8 0 c).owesAt () t.succ = (datsOf m o6 o7 o8 0 c).owesAt () t.castSucc from rfl,
    after0_0, after0_1, after0_2, after0_3, after0_4, after0_5]
  rw [show (datsOf m o6 o7 o8 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_owned c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, ⟨%f8, %f9, %f10, H6, H7, H8⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The body at any point. -/
theorem sound_exact (c : Dev nD) (t : Fin cfg0.N)
    (h6 : ∀ f8 f9 f10, (ms0_6 t).view.read (Elt F) ((ms0_6 t).view.writes (Elt F) f8 ((PT m c t).1 f8 f9 f10)) = o6 c t)
    (h7 : ∀ f8 f9 f10, (ms0_7 t).view.read (Elt F) ((ms0_7 t).view.writes (Elt F) f9 ((PT m c t).2.1 f8 f9 f10)) = o7 c t)
    (h8 : ∀ f8 f9 f10, (ms0_8 t).view.read (Elt F) ((ms0_8 t).view.writes (Elt F) f10 ((PT m c t).2.2.1 f8 f9 f10)) = o8 c t) :
    iprop((datsOf m o6 o7 o8 0 c).Φ t.castSucc ∗ (datsOf m o6 o7 o8 0 c).owesAt () t.castSucc
    ∗ (∃ d, owns (c : Thread nD τ) (ms0_0 t) fullShare ((datsOf m o6 o7 o8 0 c).before 0 t d))
    ∗ (∃ d, owns (c : Thread nD τ) (ms0_1 t) fullShare ((datsOf m o6 o7 o8 0 c).before 1 t d))
    ∗ (∃ d, owns (c : Thread nD τ) (ms0_2 t) fullShare ((datsOf m o6 o7 o8 0 c).before 2 t d))
    ∗ (∃ d, owns (c : Thread nD τ) (ms0_3 t) fullShare ((datsOf m o6 o7 o8 0 c).before 3 t d))
    ∗ (∃ d, owns (c : Thread nD τ) (ms0_4 t) fullShare ((datsOf m o6 o7 o8 0 c).before 4 t d))
    ∗ (∃ d, owns (c : Thread nD τ) (ms0_5 t) fullShare ((datsOf m o6 o7 o8 0 c).before 5 t d))
    ∗ (∃ d, owns (c : Thread nD τ) (ms0_6 t) fullShare ((datsOf m o6 o7 o8 0 c).before 6 t d))
    ∗ (∃ d, owns (c : Thread nD τ) (ms0_7 t) fullShare ((datsOf m o6 o7 o8 0 c).before 7 t d))
    ∗ (∃ d, owns (c : Thread nD τ) (ms0_8 t) fullShare ((datsOf m o6 o7 o8 0 c).before 8 t d)))
    ⊢ wp frame (wpE (defs₀ (F := F)) Variants.none c none) Set.univ (bodyAt0 t) (fun _ => iprop((datsOf m o6 o7 o8 0 c).Φ t.succ ∗ (datsOf m o6 o7 o8 0 c).owesAt () t.succ
    ∗ owns (c : Thread nD τ) (ms0_0 t) fullShare ((datsOf m o6 o7 o8 0 c).after 0 t)
    ∗ owns (c : Thread nD τ) (ms0_1 t) fullShare ((datsOf m o6 o7 o8 0 c).after 1 t)
    ∗ owns (c : Thread nD τ) (ms0_2 t) fullShare ((datsOf m o6 o7 o8 0 c).after 2 t)
    ∗ owns (c : Thread nD τ) (ms0_3 t) fullShare ((datsOf m o6 o7 o8 0 c).after 3 t)
    ∗ owns (c : Thread nD τ) (ms0_4 t) fullShare ((datsOf m o6 o7 o8 0 c).after 4 t)
    ∗ owns (c : Thread nD τ) (ms0_5 t) fullShare ((datsOf m o6 o7 o8 0 c).after 5 t)
    ∗ owns (c : Thread nD τ) (ms0_6 t) fullShare ((datsOf m o6 o7 o8 0 c).after 6 t)
    ∗ owns (c : Thread nD τ) (ms0_7 t) fullShare ((datsOf m o6 o7 o8 0 c).after 7 t)
    ∗ owns (c : Thread nD τ) (ms0_8 t) fullShare ((datsOf m o6 o7 o8 0 c).after 8 t))) := by
  unfold bodyAt0
  simp only [before0_0, before0_1, before0_2, before0_3, before0_4, before0_5]
  rw [show (datsOf m o6 o7 o8 0 c).Φ t.succ = (datsOf m o6 o7 o8 0 c).Φ t.castSucc from rfl,
    show (datsOf m o6 o7 o8 0 c).owesAt () t.succ = (datsOf m o6 o7 o8 0 c).owesAt () t.castSucc from rfl,
    after0_0, after0_1, after0_2, after0_3, after0_4, after0_5, after0_6, after0_7, after0_8]
  rw [show (datsOf m o6 o7 o8 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_owned c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, ⟨%f8, %f9, %f10, H6, H7, H8⟩, HS0, HS1, HS2, HS3⟩
  rw [← h6 f8 f9 f10, ← h7 f8 f9 f10, ← h8 f8 f9 f10]
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point t's slots is the body there. -/
theorem defs₀_row (t : Fin cfg0.N) :
    defs₀ (F := F) .tc cfg0.body (cfg0.bodyArgs t (cfg0.slots t)) = bodyAt0 t := by
  unfold defs₀; rw [Defs.onTc_tc]

theorem body_forget (c : Dev nD) : BodyObligation (datsOf m o6 o7 o8 0 c) (defs₀ (F := F)) Variants.none () Set.univ forgets0 := fun t => by
  rw [bigSep_W0, bigSep_W0, defs₀_row]
  exact triple_restated (sound_forget m o6 o7 o8 c t) rfl .rfl fun _ => .rfl

theorem body_exact (c : Dev nD)
    (h6 : ∀ t, ∀ f8 f9 f10, (ms0_6 t).view.read (Elt F) ((ms0_6 t).view.writes (Elt F) f8 ((PT m c t).1 f8 f9 f10)) = o6 c t)
    (h7 : ∀ t, ∀ f8 f9 f10, (ms0_7 t).view.read (Elt F) ((ms0_7 t).view.writes (Elt F) f9 ((PT m c t).2.1 f8 f9 f10)) = o7 c t)
    (h8 : ∀ t, ∀ f8 f9 f10, (ms0_8 t).view.read (Elt F) ((ms0_8 t).view.writes (Elt F) f10 ((PT m c t).2.2.1 f8 f9 f10)) = o8 c t) :
    BodyObligation (datsOf m o6 o7 o8 0 c) (defs₀ (F := F)) Variants.none () Set.univ := fun t => by
  rw [bigSep_W0, bigSep_W0, defs₀_row]
  exact triple_restated (sound_exact m o6 o7 o8 c t (h6 t) (h7 t) (h8 t)) rfl .rfl fun _ => .rfl

set_option backward.isDefEq.respectTransparency.types false in
/-- The run with the outputs at what is said of them. -/
theorem run_exact
    (h6 : ∀ c t, ∀ f8 f9 f10, (ms0_6 t).view.read (Elt F) ((ms0_6 t).view.writes (Elt F) f8 ((PT m c t).1 f8 f9 f10)) = o6 c t)
    (h7 : ∀ c t, ∀ f8 f9 f10, (ms0_7 t).view.read (Elt F) ((ms0_7 t).view.writes (Elt F) f9 ((PT m c t).2.1 f8 f9 f10)) = o7 c t)
    (h8 : ∀ c t, ∀ f8 f9 f10, (ms0_8 t).view.read (Elt F) ((ms0_8 t).view.writes (Elt F) f10 ((PT m c t).2.2.1 f8 f9 f10)) = o8 c t) :
    θ_run defs (onTc (τ := τ) (main (F := F))) (s₀ m ρ) (fun r => (Pipeline.FramePost cfgs (datsOf m o6 o7 o8) 0 (V m)) r ∧ r.2.sem = fun _ => 0) :=
  Pipeline.θ_run_frame (Q' := _) cfgs (datsOf m o6 o7 o8) (0 : Fin 1) launch0 defs₀ Variants.none m ρ main
    (hbody := fun c => (body_exact m o6 o7 o8 c (h6 c) (h7 c) (h8 c)).loose) (hshare := fun c => (datsOf m o6 o7 o8 0 c).share_full fun _ => rfl)
    (howed := fun _ _ => rfl) (V := V m) (hmain := hmain m Variants.none) (hA := A_eq m o6 o7 o8) (hΦ := fun _ _ => rfl)

set_option backward.isDefEq.respectTransparency.types false in
theorem run_forget : θ_run defs (onTc (τ := τ) (main (F := F))) (s₀ m ρ) (fun r => (Pipeline.RDat.FramePost (cfgs 0) (fun c => (datsOf m o6 o7 o8 0 c).toRForget forgets0) (V m)) r ∧ r.2.sem = fun _ => 0) :=
  Pipeline.θ_run_frame_forget (Q' := _) cfgs (datsOf m o6 o7 o8) (0 : Fin 1) launch0 defs₀ Variants.none forgets0 m ρ main
    (hbody := fun c => (body_forget m o6 o7 o8 c).loose) (hshare := fun c => (datsOf m o6 o7 o8 0 c).share_full fun _ => rfl)
    (howed := fun _ _ => rfl) (V := V m) (hmain := hmain m Variants.none) (hA := A_eq m o6 o7 o8) (hΦ := fun _ _ => rfl)

end

/-- The frame at any values. -/
theorem frame' : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩)
    (run_forget m ρ (fun _ t => Pipeline.Dat.unnamed (cfg := cfg0) 6 t) (fun _ t => Pipeline.Dat.unnamed (cfg := cfg0) 7 t) (fun _ t => Pipeline.Dat.unnamed (cfg := cfg0) 8 t))

end Cert.MlaIdeal.Gen

end
-- ==== Proof.MlaIdealReal.lean ====
/- Blocks of the attention's backward kernel whose entries are real: each operation of the kernel on such blocks, as an
   operation on real-valued functions of the block's coordinates. -/
module

public import proofs.«01_k».proof.Proof.Coe
public import proofs.«01_k».proof.Proof.Gen.MlaIdeal.Skeleton
public import Idealize.ShloMosaic.Lib.Pointwise

@[expose] public section

set_option maxRecDepth 16384

noncomputable section

namespace Cert.MlaIdeal.Gen

open Idealize.ShloMosaic Cert.Coe

/-- A matrix whose entries are the reals `g`. -/
def R2 {a b : ℕ} (x : Shape.Idx ⟨2, ![a, b]⟩ → EReal) (g : ℕ → ℕ → ℝ) : Prop := ∀ (i : Fin a) (j : Fin b), x (ix2 i j) = ((g i j : ℝ) : EReal)
/-- A rank-3 array whose entries are the reals `g`. -/
def R3 {a b c : ℕ} (x : Shape.Idx ⟨3, ![a, b, c]⟩ → EReal) (g : ℕ → ℕ → ℕ → ℝ) : Prop := ∀ (i : Fin a) (j : Fin b) (k : Fin c), x (ix3 i j k) = ((g i j k : ℝ) : EReal)
/-- A rank-4 array whose entries are the reals `g`. -/
def R4 {a b c d : ℕ} (x : Shape.Idx ⟨4, ![a, b, c, d]⟩ → EReal) (g : ℕ → ℕ → ℕ → ℕ → ℝ) : Prop := ∀ (i : Fin a) (j : Fin b) (k : Fin c) (l : Fin d), x (ix4 i j k l) = ((g i j k l : ℝ) : EReal)

/-- The same block under other names for its entries. -/
theorem R2.congr {a b : ℕ} {x : Shape.Idx ⟨2, ![a, b]⟩ → EReal} {g g' : ℕ → ℕ → ℝ} (h : R2 x g) (e : ∀ i j, i < a → j < b → g i j = g' i j) : R2 x g' :=
  fun i j => (h i j).trans (congrArg _ (e i j i.2 j.2))
theorem R3.congr {a b c : ℕ} {x : Shape.Idx ⟨3, ![a, b, c]⟩ → EReal} {g g' : ℕ → ℕ → ℕ → ℝ} (h : R3 x g) (e : ∀ i j k, i < a → j < b → k < c → g i j k = g' i j k) : R3 x g' :=
  fun i j k => (h i j k).trans (congrArg _ (e i j k i.2 j.2 k.2))

theorem R4.congr {a b c d : ℕ} {x : Shape.Idx ⟨4, ![a, b, c, d]⟩ → EReal} {g g' : ℕ → ℕ → ℕ → ℕ → ℝ} (h : R4 x g) (e : ∀ i j k l, i < a → j < b → k < c → l < d → g i j k l = g' i j k l) : R4 x g' :=
  fun i j k l => (h i j k l).trans (congrArg _ (e i j k l i.2 j.2 k.2 l.2))

/-- A sum of products over a block's middle axis is real. -/
theorem sum_mul_real {n : ℕ} (f g : ℕ → ℝ) : (∑ k : Fin n, ((f k : ℝ) : EReal) * ((g k : ℝ) : EReal)) = ((∑ k ∈ Finset.range n, f k * g k : ℝ) : EReal) := by
  simp only [← EReal.coe_mul, coe_sum]
  exact congrArg _ (Fin.sum_univ_eq_sum_range (fun k => f k * g k) n)

theorem r_add {a b : ℕ} {x y : FVec Ideal ⟨2, ![a, b]⟩ .f32} {g h : ℕ → ℕ → ℝ} (hx : R2 x g) (hy : R2 y h) : R2 (addf x y) (fun i j => g i j + h i j) := by
  intro i j; show x (ix2 i j) + y (ix2 i j) = _; rw [hx, hy, ← EReal.coe_add]
theorem r_sub {a b : ℕ} {x y : FVec Ideal ⟨2, ![a, b]⟩ .f32} {g h : ℕ → ℕ → ℝ} (hx : R2 x g) (hy : R2 y h) : R2 (subf x y) (fun i j => g i j - h i j) := by
  intro i j; show x (ix2 i j) - y (ix2 i j) = _; rw [hx, hy, ← EReal.coe_sub]
theorem r_mul {a b : ℕ} {x y : FVec Ideal ⟨2, ![a, b]⟩ .f32} {g h : ℕ → ℕ → ℝ} (hx : R2 x g) (hy : R2 y h) : R2 (mulf x y) (fun i j => g i j * h i j) := by
  intro i j; show x (ix2 i j) * y (ix2 i j) = _; rw [hx, hy, ← EReal.coe_mul]
theorem r_exp2 {a b : ℕ} {x : FVec Ideal ⟨2, ![a, b]⟩ .f32} {g : ℕ → ℕ → ℝ} (hx : R2 x g) : R2 (exp2 x) (fun i j => Real.rpow 2 (g i j)) := by
  intro i j; show Ideal.exp2 (x (ix2 i j)) = _; rw [hx, Ideal.exp2_coe]
theorem r_trunc {a b : ℕ} {x : FVec Ideal ⟨2, ![a, b]⟩ .f32} {g : ℕ → ℕ → ℝ} {h} (hx : R2 x g) : R2 (truncf .bf16 x h) g := by
  intro i j; exact hx i j

theorem r_sl_S256x512_0_0 {x : FVec Ideal S256x512 .bf16} {g : ℕ → ℕ → ℝ} (hx : R2 x g) :
    R2 (extractStridedSlice S256x128 ![0, 0] x slices_S256x512_o0_0_S256x128) (fun i j => g i j) := by
  intro i j; pointwise []
  exact hx ⟨i.val, by omega⟩ ⟨j.val, by omega⟩

theorem r_sl_S256x512_0_128 {x : FVec Ideal S256x512 .bf16} {g : ℕ → ℕ → ℝ} (hx : R2 x g) :
    R2 (extractStridedSlice S256x128 ![0, 128] x slices_S256x512_o0_128_S256x128) (fun i j => g i (128+j)) := by
  intro i j; pointwise []
  exact hx i ⟨128 + j.val, by omega⟩

theorem r_sl_S256x512_0_256 {x : FVec Ideal S256x512 .bf16} {g : ℕ → ℕ → ℝ} (hx : R2 x g) :
    R2 (extractStridedSlice S256x128 ![0, 256] x slices_S256x512_o0_256_S256x128) (fun i j => g i (256+j)) := by
  intro i j; pointwise []
  exact hx i ⟨256 + j.val, by omega⟩

theorem r_sl_S256x512_0_384 {x : FVec Ideal S256x512 .bf16} {g : ℕ → ℕ → ℝ} (hx : R2 x g) :
    R2 (extractStridedSlice S256x128 ![0, 384] x slices_S256x512_o0_384_S256x128) (fun i j => g i (384+j)) := by
  intro i j; pointwise []
  exact hx i ⟨384 + j.val, by omega⟩

theorem r_sl_S256x256_0_0 {x : FVec Ideal S256x256 .bf16} {g : ℕ → ℕ → ℝ} (hx : R2 x g) :
    R2 (extractStridedSlice S256x128 ![0, 0] x slices_S256x256_o0_0_S256x128) (fun i j => g i j) := by
  intro i j; pointwise []
  exact hx ⟨i.val, by omega⟩ ⟨j.val, by omega⟩

theorem r_sl_S256x256_0_128 {x : FVec Ideal S256x256 .bf16} {g : ℕ → ℕ → ℝ} (hx : R2 x g) :
    R2 (extractStridedSlice S256x128 ![0, 128] x slices_S256x256_o0_128_S256x128) (fun i j => g i (128+j)) := by
  intro i j; pointwise []
  exact hx i ⟨128 + j.val, by omega⟩

theorem r_sl_S128x256_0_0 {x : FVec Ideal S128x256 .bf16} {g : ℕ → ℕ → ℝ} (hx : R2 x g) :
    R2 (extractStridedSlice S64x256 ![0, 0] x slices_S128x256_o0_0_S64x256) (fun i j => g i j) := by
  intro i j; pointwise []
  exact hx ⟨i.val, by omega⟩ ⟨j.val, by omega⟩

theorem r_sl_S128x256_64_0 {x : FVec Ideal S128x256 .bf16} {g : ℕ → ℕ → ℝ} (hx : R2 x g) :
    R2 (extractStridedSlice S64x256 ![64, 0] x slices_S128x256_o64_0_S64x256) (fun i j => g (64+i) j) := by
  intro i j; pointwise []
  exact hx ⟨64 + i.val, by omega⟩ j

theorem r_sl_S512x256_0_0 {x : FVec Ideal S512x256 .bf16} {g : ℕ → ℕ → ℝ} (hx : R2 x g) :
    R2 (extractStridedSlice S128x256 ![0, 0] x slices_S512x256_o0_0_S128x256) (fun i j => g i j) := by
  intro i j; pointwise []
  exact hx ⟨i.val, by omega⟩ ⟨j.val, by omega⟩

theorem r_sl_S512x256_128_0 {x : FVec Ideal S512x256 .bf16} {g : ℕ → ℕ → ℝ} (hx : R2 x g) :
    R2 (extractStridedSlice S128x256 ![128, 0] x slices_S512x256_o128_0_S128x256) (fun i j => g (128+i) j) := by
  intro i j; pointwise []
  exact hx ⟨128 + i.val, by omega⟩ j

theorem r_sl_S512x256_256_0 {x : FVec Ideal S512x256 .bf16} {g : ℕ → ℕ → ℝ} (hx : R2 x g) :
    R2 (extractStridedSlice S128x256 ![256, 0] x slices_S512x256_o256_0_S128x256) (fun i j => g (256+i) j) := by
  intro i j; pointwise []
  exact hx ⟨256 + i.val, by omega⟩ j

theorem r_sl_S512x256_384_0 {x : FVec Ideal S512x256 .bf16} {g : ℕ → ℕ → ℝ} (hx : R2 x g) :
    R2 (extractStridedSlice S128x256 ![384, 0] x slices_S512x256_o384_0_S128x256) (fun i j => g (384+i) j) := by
  intro i j; pointwise []
  exact hx ⟨384 + i.val, by omega⟩ j

theorem r_dot_S256x128_S256x128_S256x256_1_1_0_0_n_n {x : FVec Ideal S256x128 .bf16} {y : FVec Ideal S256x128 .bf16} {g h : ℕ → ℕ → ℝ} (hx : R2 x g) (hy : R2 y h) :
    R2 (matmul dot_S256x128_S256x128_S256x256_1_1_0_0_n_n none x y (constant S256x256 .f32 0x00000000#32)) (fun i j => ∑ k ∈ Finset.range 128, g i k * h j k) := by
  intro i j; pointwise [zero_add]
  refine (Finset.sum_congr rfl fun k _ => congrArg₂ (· * ·) (hx i k) (hy j k)).trans ?_
  exact sum_mul_real (n := 128) (g i) (h j)

theorem r_dot_S256x128_S128x256_S256x256_1_0_0_1_n_n {x : FVec Ideal S256x128 .bf16} {y : FVec Ideal S128x256 .bf16} {g h : ℕ → ℕ → ℝ} (hx : R2 x g) (hy : R2 y h) :
    R2 (matmul dot_S256x128_S128x256_S256x256_1_0_0_1_n_n none x y (constant S256x256 .f32 0x00000000#32)) (fun i j => ∑ k ∈ Finset.range 128, g i k * h k j) := by
  intro i j; pointwise [zero_add]
  refine (Finset.sum_congr rfl fun k _ => congrArg₂ (· * ·) (hx i k) (hy k j)).trans ?_
  exact sum_mul_real (n := 128) (g i) (fun k => h k j)

theorem r_dot_S256x512_S512x128_S256x128_1_0_0_1_n_n {x : FVec Ideal S256x512 .bf16} {y : FVec Ideal S512x128 .bf16} {g h : ℕ → ℕ → ℝ} (hx : R2 x g) (hy : R2 y h) :
    R2 (matmul dot_S256x512_S512x128_S256x128_1_0_0_1_n_n none x y (constant S256x128 .f32 0x00000000#32)) (fun i j => ∑ k ∈ Finset.range 512, g i k * h k j) := by
  intro i j; pointwise [zero_add]
  refine (Finset.sum_congr rfl fun k _ => congrArg₂ (· * ·) (hx i k) (hy k j)).trans ?_
  exact sum_mul_real (n := 512) (g i) (fun k => h k j)

theorem r_dot_S256x256_S256x128_S256x128_1_0_0_1_n_n {x : FVec Ideal S256x256 .bf16} {y : FVec Ideal S256x128 .bf16} {g h : ℕ → ℕ → ℝ} (hx : R2 x g) (hy : R2 y h) :
    R2 (matmul dot_S256x256_S256x128_S256x128_1_0_0_1_n_n none x y (constant S256x128 .f32 0x00000000#32)) (fun i j => ∑ k ∈ Finset.range 256, g i k * h k j) := by
  intro i j; pointwise [zero_add]
  refine (Finset.sum_congr rfl fun k _ => congrArg₂ (· * ·) (hx i k) (hy k j)).trans ?_
  exact sum_mul_real (n := 256) (g i) (fun k => h k j)

theorem r_dot_S64x512_S256x512_S64x256_1_1_0_0_n_n {x : FVec Ideal S64x512 .bf16} {y : FVec Ideal S256x512 .bf16} {g h : ℕ → ℕ → ℝ} (hx : R2 x g) (hy : R2 y h) :
    R2 (matmul dot_S64x512_S256x512_S64x256_1_1_0_0_n_n none x y (constant S64x256 .f32 0x00000000#32)) (fun i j => ∑ k ∈ Finset.range 512, g i k * h j k) := by
  intro i j; pointwise [zero_add]
  refine (Finset.sum_congr rfl fun k _ => congrArg₂ (· * ·) (hx i k) (hy j k)).trans ?_
  exact sum_mul_real (n := 512) (g i) (h j)

theorem r_dot_S64x256_S256x256_S64x256_1_1_0_0_n_n {x : FVec Ideal S64x256 .bf16} {y : FVec Ideal S256x256 .bf16} {g h : ℕ → ℕ → ℝ} (hx : R2 x g) (hy : R2 y h) :
    R2 (matmul dot_S64x256_S256x256_S64x256_1_1_0_0_n_n none x y (constant S64x256 .f32 0x00000000#32)) (fun i j => ∑ k ∈ Finset.range 256, g i k * h j k) := by
  intro i j; pointwise [zero_add]
  refine (Finset.sum_congr rfl fun k _ => congrArg₂ (· * ·) (hx i k) (hy j k)).trans ?_
  exact sum_mul_real (n := 256) (g i) (h j)

theorem r_dot_S128x256_S256x256_S128x256_1_0_0_1_n_n {x : FVec Ideal S128x256 .bf16} {y : FVec Ideal S256x256 .bf16} {g h : ℕ → ℕ → ℝ} (hx : R2 x g) (hy : R2 y h) :
    R2 (matmul dot_S128x256_S256x256_S128x256_1_0_0_1_n_n none x y (constant S128x256 .f32 0x00000000#32)) (fun i j => ∑ k ∈ Finset.range 256, g i k * h k j) := by
  intro i j; pointwise [zero_add]
  refine (Finset.sum_congr rfl fun k _ => congrArg₂ (· * ·) (hx i k) (hy k j)).trans ?_
  exact sum_mul_real (n := 256) (g i) (fun k => h k j)

theorem r_dot_S128x128_S256x128_S128x256_1_1_0_0_n_n {x : FVec Ideal S128x128 .bf16} {y : FVec Ideal S256x128 .bf16} {g h : ℕ → ℕ → ℝ} (hx : R2 x g) (hy : R2 y h) :
    R2 (matmul dot_S128x128_S256x128_S128x256_1_1_0_0_n_n none x y (constant S128x256 .f32 0x00000000#32)) (fun i j => ∑ k ∈ Finset.range 128, g i k * h j k) := by
  intro i j; pointwise [zero_add]
  refine (Finset.sum_congr rfl fun k _ => congrArg₂ (· * ·) (hx i k) (hy j k)).trans ?_
  exact sum_mul_real (n := 128) (g i) (h j)

theorem r_cat_S256x512 {x y : FVec Ideal S256x256 .bf16} {g h : ℕ → ℕ → ℝ} (hx : R2 x g) (hy : R2 y h) :
    R2 (concatenate S256x512 1 [⟨S256x256, x⟩, ⟨S256x256, y⟩] concatenates_S256x256_S256x256_S256x512_d1) (fun i j => if j < 256 then g i j else h i (j - 256)) := by
  intro i j; pointwise []
  by_cases c : j.val < 256
  · simp only [c, if_true, dif_pos]; exact hx i ⟨j.val, c⟩
  · simp only [c, if_false, dif_neg, not_false_eq_true]; exact hy i ⟨j.val - 256, by omega⟩

theorem r_cat_S64x512 {x y : FVec Ideal S64x256 .bf16} {g h : ℕ → ℕ → ℝ} (hx : R2 x g) (hy : R2 y h) :
    R2 (concatenate S64x512 1 [⟨S64x256, x⟩, ⟨S64x256, y⟩] concatenates_S64x256_S64x256_S64x512_d1) (fun i j => if j < 256 then g i j else h i (j - 256)) := by
  intro i j; pointwise []
  by_cases c : j.val < 256
  · simp only [c, if_true, dif_pos]; exact hx i ⟨j.val, c⟩
  · simp only [c, if_false, dif_neg, not_false_eq_true]; exact hy i ⟨j.val - 256, by omega⟩

theorem r_cat_S512x128 {x y : FVec Ideal S256x128 .bf16} {g h : ℕ → ℕ → ℝ} (hx : R2 x g) (hy : R2 y h) :
    R2 (concatenate S512x128 0 [⟨S256x128, x⟩, ⟨S256x128, y⟩] concatenates_S256x128_S256x128_S512x128_d0) (fun i j => if i < 256 then g i j else h (i - 256) j) := by
  intro i j; pointwise []
  by_cases c : i.val < 256
  · simp only [c, if_true, dif_pos]; exact hx ⟨i.val, c⟩ j
  · simp only [c, if_false, dif_neg, not_false_eq_true]; exact hy ⟨i.val - 256, by omega⟩ j

theorem r_sc_S1x128x256_bf16 {x : FVec Ideal S1x128x256 .bf16} {g : ℕ → ℕ → ℕ → ℝ} (hx : R3 x g) :
    R2 (shapeCast S128x256 x shapeCasts_S1x128x256_S128x256) (fun i j => g 0 i j) := by
  intro i j; pointwise []; exact hx 0 i j

theorem r_sc_S1x128x256_f32 {x : FVec Ideal S1x128x256 .f32} {g : ℕ → ℕ → ℕ → ℝ} (hx : R3 x g) :
    R2 (shapeCast S128x256 x shapeCasts_S1x128x256_S128x256) (fun i j => g 0 i j) := by
  intro i j; pointwise []; exact hx 0 i j

theorem r_sc_S1x64x256_f32 {x : FVec Ideal S1x64x256 .f32} {g : ℕ → ℕ → ℕ → ℝ} (hx : R3 x g) :
    R2 (shapeCast S64x256 x shapeCasts_S1x64x256_S64x256) (fun i j => g 0 i j) := by
  intro i j; pointwise []; exact hx 0 i j

theorem r_sc_S1x1x1x256 {x : FVec Ideal S1x1x1x256 .f32} {g : ℕ → ℕ → ℕ → ℕ → ℝ} (hx : R4 x g) :
    R2 (shapeCast S1x256 x shapeCasts_S1x1x1x256_S1x256) (fun i j => g 0 0 0 j) := by
  intro i j; pointwise []; exact hx 0 0 0 j
theorem r_sc_S1x1x256 {x : FVec Ideal S1x1x256 .f32} {g : ℕ → ℕ → ℕ → ℝ} (hx : R3 x g) :
    R2 (shapeCast S1x256 x shapeCasts_S1x1x256_S1x256) (fun i j => g 0 0 j) := by
  intro i j; pointwise []; exact hx 0 0 j
theorem r_bc {x : FVec Ideal S1x256 .f32} {g : ℕ → ℕ → ℝ} (hx : R2 x g) :
    R2 (broadcastTo S256x256 x broadcasts_S1x256_S256x256) (fun i j => g 0 j) := by
  intro i j; pointwise []; exact hx 0 j

theorem r_id_S128x256_f32 {x : FVec Ideal S128x256 .f32} {g : ℕ → ℕ → ℝ} (hx : R2 x g) :
    R2 (shapeCast S128x256 x shapeCasts_S128x256_S128x256) g := by
  intro i j; pointwise []; exact hx i j

theorem r_id_S128x256_bf16 {x : FVec Ideal S128x256 .bf16} {g : ℕ → ℕ → ℝ} (hx : R2 x g) :
    R2 (shapeCast S128x256 x shapeCasts_S128x256_S128x256) g := by
  intro i j; pointwise []; exact hx i j

theorem r_id_S256x128_f32 {x : FVec Ideal S256x128 .f32} {g : ℕ → ℕ → ℝ} (hx : R2 x g) :
    R2 (shapeCast S256x128 x shapeCasts_S256x128_S256x128) g := by
  intro i j; pointwise []; exact hx i j

theorem r_id_S256x128_bf16 {x : FVec Ideal S256x128 .bf16} {g : ℕ → ℕ → ℝ} (hx : R2 x g) :
    R2 (shapeCast S256x128 x shapeCasts_S256x128_S256x128) g := by
  intro i j; pointwise []; exact hx i j

theorem r_id_S256x512_bf16 {x : FVec Ideal S256x512 .bf16} {g : ℕ → ℕ → ℝ} (hx : R2 x g) :
    R2 (shapeCast S256x512 x shapeCasts_S256x512_S256x512) g := by
  intro i j; pointwise []; exact hx i j

theorem r_id_S256x256_bf16 {x : FVec Ideal S256x256 .bf16} {g : ℕ → ℕ → ℝ} (hx : R2 x g) :
    R2 (shapeCast S256x256 x shapeCasts_S256x256_S256x256) g := by
  intro i j; pointwise []; exact hx i j

theorem r_up_S64x256 {x : FVec Ideal S64x256 .f32} {g : ℕ → ℕ → ℝ} (hx : R2 x g) :
    R3 (shapeCast S1x64x256 x shapeCasts_S64x256_S1x64x256) (fun _ i j => g i j) := by
  intro z i j; pointwise []; exact hx i j

theorem r_up_S128x256 {x : FVec Ideal S128x256 .bf16} {g : ℕ → ℕ → ℝ} (hx : R2 x g) :
    R3 (shapeCast S1x128x256 x shapeCasts_S128x256_S1x128x256) (fun _ i j => g i j) := by
  intro z i j; pointwise []; exact hx i j

theorem r_transpose {x : FVec Ideal S128x256 .f32} {g : ℕ → ℕ → ℝ} (hx : R2 x g) :
    R2 (transpose S256x128 [1, 0] x transposes_S128x256_p1_0_S256x128) (fun i j => g j i) := by
  intro i j; pointwise []; exact hx j i
/-- The causal mask of a pair of tiles, the keys' first row `a` and the queries' first row `b`. -/
def Mask (m : IVec S256x256 1) (a b : ℕ) : Prop := ∀ (i j : Fin 256), m (ix2 i j) = if a + i.val ≤ b + j.val then 1#1 else 0#1
theorem r_select {m : IVec S256x256 1} {a b : ℕ} {x : FVec Ideal S256x256 .f32} {g : ℕ → ℕ → ℝ} (hm : Mask m a b) (hx : R2 x g) :
    R2 (select m x (broadcast S256x256 (Scalar.ofBits (F := Ideal) .f32 0x00000000#32))) (fun i j => if a + i ≤ b + j then g i j else 0) := by
  intro i j; pointwise [hm i j, hx i j]
  by_cases c : a + i.val ≤ b + j.val
  · simp [c, Scalar.select]
  · simp [c, Scalar.select]

end Cert.MlaIdeal.Gen

end
-- ==== Proof.MlaModel.lean ====
/- The attention's gradients over the reals, one batch row and one group of four heads at a time: rows are positions, a
   head has 128 columns of `q` and `k` and 64 of `v` and the cotangent. -/
module

public import Mathlib.Analysis.SpecialFunctions.Pow.Real

@[expose] public section

noncomputable section

namespace Cert.MlaM

/-- What the backward call reads for one group: queries, keys, values and cotangent, and a number of each kind
(the row's sum of cotangent times output, and the row's base-2 logarithm of its normaliser) to each head and query. -/
structure Grp where
  q : ℕ → ℕ → ℝ
  k : ℕ → ℕ → ℝ
  v : ℕ → ℕ → ℝ
  d : ℕ → ℕ → ℝ
  dl : ℕ → ℕ → ℝ
  ls : ℕ → ℕ → ℝ

namespace Grp

variable (G : Grp)

/-- The score of key `u` at query `t`. -/
def S (h t u : ℕ) : ℝ := ∑ e ∈ Finset.range 128, G.k u (128 * h + e) * G.q t (128 * h + e)
/-- Its probability: zero for keys after the query. -/
def P (h t u : ℕ) : ℝ := if u ≤ t then Real.rpow 2 (G.S h t u - G.ls h t) else 0
/-- A head's cotangent among the 128 columns of its pair of heads. -/
def DT (h l t : ℕ) : ℝ := if l / 64 = h % 2 then G.d t (128 * (h / 2) + l) else 0
/-- The probability's cotangent. -/
def DP (h t u : ℕ) : ℝ := ∑ l ∈ Finset.range 128, G.v u (128 * (h / 2) + l) * G.DT h l t
/-- The score's cotangent. -/
def DS (h t u : ℕ) : ℝ := G.P h t u * (G.DP h t u - G.dl h t)

theorem DS_zero {h t u : ℕ} (hu : t < u) : G.DS h t u = 0 := by
  unfold DS P; rw [if_neg (by omega), zero_mul]
theorem P_zero {h t u : ℕ} (hu : t < u) : G.P h t u = 0 := by
  unfold P; rw [if_neg (by omega)]

end Grp

end Cert.MlaM

end
-- ==== Proof.MlaSpec.lean ====
/- The attention and its gradients over the reals, for whole arrays: `b` a sequence, `t` a query's position, `u` a key's, `h` a
   head, `e` a column. What the kernel makes of one group of four heads is the same gradients. -/
module

public import proofs.«01_k».proof.Proof.MlaModel
public import Mathlib.Algebra.BigOperators.Field
public import Mathlib.Analysis.SpecialFunctions.Log.Basic

@[expose] public section

noncomputable section

namespace Cert.MlaM

/-- The arguments: the heads' queries and keys in two parts (the keys' second part is one for all heads), the values, the
cotangent; and the scores' scale. -/
structure Att where
  qn : ℕ → ℕ → ℕ → ℕ → ℝ
  qp : ℕ → ℕ → ℕ → ℕ → ℝ
  kn : ℕ → ℕ → ℕ → ℕ → ℝ
  kp : ℕ → ℕ → ℕ → ℝ
  v : ℕ → ℕ → ℕ → ℕ → ℝ
  d : ℕ → ℕ → ℕ → ℕ → ℝ
  sc : ℝ

namespace Att

variable (A : Att)

/-- A head's query and its key over 128 columns, the last 32 zero. -/
def Q (b t h e : ℕ) : ℝ := if e < 64 then A.qn b t h e else if e < 96 then A.qp b t h (e - 64) else 0
def K (b u h e : ℕ) : ℝ := if e < 64 then A.kn b u h e else if e < 96 then A.kp b u (e - 64) else 0
/-- The score. -/
def s (b h t u : ℕ) : ℝ := (∑ e ∈ Finset.range 128, A.Q b t h e * A.K b u h e) * A.sc
/-- Its exponential where the key is not after the query, and the row's sum. -/
def E (b h t u : ℕ) : ℝ := if u ≤ t then Real.exp (A.s b h t u) else 0
def Z (b h t : ℕ) : ℝ := ∑ u ∈ Finset.range 2048, A.E b h t u
/-- The probability. -/
def p (b h t u : ℕ) : ℝ := A.E b h t u / A.Z b h t
/-- The probability's cotangent. -/
def dp (b h t u : ℕ) : ℝ := ∑ e ∈ Finset.range 64, A.v b u h e * A.d b t h e
/-- The output, and the row's sum of cotangent times output. -/
def o (b t h e : ℕ) : ℝ := ∑ u ∈ Finset.range 2048, A.v b u h e * A.p b h t u
def del (b h t : ℕ) : ℝ := ∑ e ∈ Finset.range 64, A.o b t h e * A.d b t h e
/-- The score's cotangent, but for the scale. -/
def ds (b h t u : ℕ) : ℝ := A.p b h t u * (A.dp b h t u - A.del b h t)
/-- The gradients as the call leaves them. -/
def dq (b t h e : ℕ) : ℝ := ∑ u ∈ Finset.range 2048, A.ds b h t u * A.K b u h e
def dk (b u h e : ℕ) : ℝ := (∑ t ∈ Finset.range 2048, A.ds b h t u * A.Q b t h e) * A.sc / Real.log 2
def dv (b u h e : ℕ) : ℝ := ∑ t ∈ Finset.range 2048, A.d b t h e * A.p b h t u

theorem Z_pos {b h t : ℕ} (ht : t < 2048) : 0 < A.Z b h t := by
  unfold Z
  refine Finset.sum_pos' (fun u _ => ?_) ⟨t, Finset.mem_range.2 ht, ?_⟩
  · unfold E; split_ifs
    · exact (Real.exp_pos _).le
    · exact le_rfl
  · unfold E; rw [if_pos le_rfl]; exact Real.exp_pos _

/-- The exponentials off any number `μ` have the same quotient. -/
def Eo (μ : ℝ) (b h t u : ℕ) : ℝ := if u ≤ t then Real.exp (A.s b h t u - μ) else 0
theorem Eo_eq (μ : ℝ) (b h t u : ℕ) : A.Eo μ b h t u = A.E b h t u * Real.exp (-μ) := by
  unfold Eo E; split_ifs
  · rw [← Real.exp_add]; rfl
  · rw [zero_mul]
theorem sum_Eo (μ : ℝ) (b h t : ℕ) : ∑ u ∈ Finset.range 2048, A.Eo μ b h t u = A.Z b h t * Real.exp (-μ) := by
  simp only [Eo_eq, ← Finset.sum_mul]; rfl
theorem sum_Eo_pos (μ : ℝ) {b h t : ℕ} (ht : t < 2048) : 0 < ∑ u ∈ Finset.range 2048, A.Eo μ b h t u := by
  rw [sum_Eo]; exact mul_pos (A.Z_pos ht) (Real.exp_pos _)
theorem Eo_div (μ : ℝ) (b h t u : ℕ) : A.Eo μ b h t u / (∑ u ∈ Finset.range 2048, A.Eo μ b h t u) = A.p b h t u := by
  rw [sum_Eo, Eo_eq, mul_div_mul_right _ _ (Real.exp_pos _).ne']; rfl
/-- The row's logarithm. -/
theorem log_Eo (μ : ℝ) {b h t : ℕ} (ht : t < 2048) : μ + Real.log (∑ u ∈ Finset.range 2048, A.Eo μ b h t u) = Real.log (A.Z b h t) := by
  rw [sum_Eo, Real.log_mul (A.Z_pos ht).ne' (Real.exp_pos _).ne', Real.log_exp]; ring

/-- The row's sum of cotangent times output is its sum of probability times the probability's cotangent. -/
theorem del_eq (b h t : ℕ) : A.del b h t = ∑ u ∈ Finset.range 2048, A.dp b h t u * A.p b h t u := by
  unfold del o dp
  simp only [Finset.sum_mul]
  rw [Finset.sum_comm]
  exact Finset.sum_congr rfl fun u _ => Finset.sum_congr rfl fun e _ => by ring
/-- The softmax's transpose, off any number, is the score's cotangent. -/
theorem ds_eq (μ : ℝ) {b h t : ℕ} (ht : t < 2048) (u : ℕ) :
    (A.dp b h t u / (∑ u ∈ Finset.range 2048, A.Eo μ b h t u)
      + -∑ w ∈ Finset.range 2048, A.dp b h t w * (1 / ((∑ u ∈ Finset.range 2048, A.Eo μ b h t u) * (∑ u ∈ Finset.range 2048, A.Eo μ b h t u))) * A.Eo μ b h t w)
      * A.Eo μ b h t u = A.ds b h t u := by
  have hp := (A.sum_Eo_pos μ (b := b) (h := h) ht).ne'
  unfold ds
  rw [del_eq]
  simp only [← Eo_div A μ]
  set L := ∑ u ∈ Finset.range 2048, A.Eo μ b h t u
  have e : ∑ w ∈ Finset.range 2048, A.dp b h t w * (1 / (L * L)) * A.Eo μ b h t w = (∑ w ∈ Finset.range 2048, A.dp b h t w * (A.Eo μ b h t w / L)) / L := by
    rw [Finset.sum_div]
    exact Finset.sum_congr rfl fun w _ => by field_simp
  rw [e]
  field_simp
  ring

/-- A group's arrays. -/
def grp (b g : ℕ) : Grp where
  q := fun t c => A.Q b t (4 * g + c / 128) (c % 128) * A.sc / Real.log 2
  k := fun u c => A.K b u (4 * g + c / 128) (c % 128)
  v := fun u r => A.v b u (4 * g + r / 64) (r % 64)
  d := fun t r => A.d b t (4 * g + r / 64) (r % 64)
  dl := fun h t => A.del b (4 * g + h) t
  ls := fun h t => Real.log (A.Z b (4 * g + h) t) / Real.log 2

theorem log2 : (0 : ℝ) < Real.log 2 := Real.log_pos (by norm_num)

variable {b g h t u : ℕ}

theorem grp_S : (A.grp b g).S h t u = A.s b (4 * g + h) t u / Real.log 2 := by
  unfold Grp.S s grp
  rw [Finset.sum_mul, Finset.sum_div]
  refine Finset.sum_congr rfl fun e he => ?_
  have := Finset.mem_range.1 he
  simp only [show (128 * h + e) / 128 = h by omega, show (128 * h + e) % 128 = e by omega]
  ring
theorem grp_P (ht : t < 2048) : (A.grp b g).P h t u = A.p b (4 * g + h) t u := by
  unfold Grp.P p E
  split_ifs
  · rw [grp_S]
    show Real.rpow 2 (_ - Real.log _ / Real.log 2) = _
    rw [← sub_div, show ∀ x : ℝ, Real.rpow 2 x = (2 : ℝ) ^ x from fun _ => rfl, Real.rpow_def_of_pos (by norm_num), mul_div_cancel₀ _ log2.ne', Real.exp_sub,
      Real.exp_log (A.Z_pos ht)]
  · rw [zero_div]
theorem grp_DP : (A.grp b g).DP h t u = A.dp b (4 * g + h) t u := by
  unfold Grp.DP Grp.DT dp grp
  rw [show 128 = 64 + 64 from rfl, Finset.sum_range_add]
  rcases Nat.mod_two_eq_zero_or_one h with h0 | h0
  · rw [Finset.sum_eq_zero (s := Finset.range 64) (f := fun x => _ * ite ((64 + x) / 64 = _) _ _), add_zero]
    · refine Finset.sum_congr rfl fun e he => ?_
      have := Finset.mem_range.1 he
      simp only [if_pos (show e / 64 = h % 2 by omega), show ((64 + 64) * (h / 2) + e) / 64 = h by omega, show ((64 + 64) * (h / 2) + e) % 64 = e by omega]
    · intro e he
      have := Finset.mem_range.1 he
      rw [if_neg (by omega), mul_zero]
  · rw [Finset.sum_eq_zero (s := Finset.range 64) (f := fun x => _ * ite (x / 64 = _) _ _), zero_add]
    · refine Finset.sum_congr rfl fun e he => ?_
      have := Finset.mem_range.1 he
      simp only [if_pos (show (64 + e) / 64 = h % 2 by omega), show ((64 + 64) * (h / 2) + (64 + e)) / 64 = h by omega, show ((64 + 64) * (h / 2) + (64 + e)) % 64 = e by omega]
    · intro e he
      have := Finset.mem_range.1 he
      rw [if_neg (by omega), mul_zero]
theorem grp_DS (ht : t < 2048) : (A.grp b g).DS h t u = A.ds b (4 * g + h) t u := by
  unfold Grp.DS ds; rw [grp_P A ht, grp_DP]; rfl

/-- What the kernel leaves for a group is the gradients of its heads. -/
theorem grp_dq (ht : t < 2048) (c : ℕ) : ∑ u ∈ Finset.range (256 * 8), (A.grp b g).k u c * (A.grp b g).DS (c / 128) t u = A.dq b t (4 * g + c / 128) (c % 128) := by
  unfold dq
  exact Finset.sum_congr rfl fun u _ => by rw [grp_DS A ht, mul_comm]; rfl
theorem grp_dk (u c : ℕ) : ∑ t ∈ Finset.range 2048, (A.grp b g).DS (c / 128) t u * (A.grp b g).q t c = A.dk b u (4 * g + c / 128) (c % 128) := by
  unfold dk
  rw [Finset.sum_mul, Finset.sum_div]
  exact Finset.sum_congr rfl fun t ht => by rw [grp_DS A (Finset.mem_range.1 ht)]; show _ * (_ * A.sc / Real.log 2) = _; ring
theorem grp_dv (u r : ℕ) : ∑ t ∈ Finset.range 2048, (A.grp b g).d t r * (A.grp b g).P (r / 64) t u = A.dv b u (4 * g + r / 64) (r % 64) := by
  unfold dv
  exact Finset.sum_congr rfl fun t ht => by rw [grp_P A (Finset.mem_range.1 ht)]; rfl

end Att

end Cert.MlaM

end
-- ==== Proof.MlaSoft.lean ====
/- The host's softmax of masked scores over the reals: the scores are real where the key is not after the query and −∞ elsewhere. -/
module

public import proofs.«01_k».proof.Proof.MlaIdealReal
public import proofs.«01_k».proof.Proof.MlaSpec

@[expose] public section

set_option maxRecDepth 16384

noncomputable section

namespace Cert.MlaM

open Idealize.ShloMosaic Idealize.ShloMosaic.StableHlo Cert.Coe Cert.MlaIdeal.Gen

/-- Scores and their row sums' shapes. -/
abbrev Sc : Shape := ⟨4, ![4, 8, 2048, 2048]⟩
abbrev Rw : Shape := ⟨3, ![4, 8, 2048]⟩
abbrev Rw1 : Shape := ⟨4, ![4, 8, 2048, 1]⟩

theorem kBot : Ideal.ofBits .f32 0xFF800000#32 = ⊥ := by simp [Ideal.ofBits, Ideal.ieee]
/-- The scores' scale, the float nearest to `1/√96`. -/
def scl : ℝ := 3424635 / 33554432
theorem kScl : Ideal.ofBits .f32 0x3DD105EC#32 = ((scl : ℝ) : EReal) := by
  simp [Ideal.ofBits, Ideal.ieee, scl, -EReal.coe_mul]; norm_num
theorem scl_ne : scl ≠ 0 := by unfold scl; norm_num

/-- Masked scores. -/
def SM (x : Sc.Idx → EReal) (f : ℕ → ℕ → ℕ → ℕ → ℝ) : Prop :=
  ∀ (i : Fin 4) (j : Fin 8) (k l : Fin 2048), x (ix4 i j k l) = if l.val ≤ k.val then ((f i j k l : ℝ) : EReal) else ⊥

/-- The largest of finitely many numbers, each real or −∞ and one of them real, is real. -/
theorem fold_max_real {n : ℕ} (f : Fin n → EReal) (h : ∀ k, f k ≠ ⊤) (k0 : Fin n) (h0 : f k0 ≠ ⊥) :
    ∃ μ : ℝ, Finset.univ.fold max ⊥ f = (μ : EReal) := by
  have ht : Finset.univ.fold max ⊥ f ≠ ⊤ := by
    refine ((Finset.fold_max_lt ⊤).2 ⟨bot_lt_top, fun k _ => lt_top_iff_ne_top.2 (h k)⟩).ne
  have hb : Finset.univ.fold max ⊥ f ≠ ⊥ := by
    intro e
    refine h0 (le_bot_iff.1 (e ▸ (Finset.le_fold_max (f k0)).2 (Or.inr ⟨k0, Finset.mem_univ _, le_rfl⟩)))
  exact ⟨_, (EReal.coe_toReal ht hb).symm⟩

variable {A : Att}

theorem row_max {x : Sc.Idx → EReal} {f : ℕ → ℕ → ℕ → ℕ → ℝ} (hx : SM x f) (i : Fin 4) (j : Fin 8) (k : Fin 2048) :
    ∃ μ : ℝ, Finset.univ.fold max ⊥ (fun l : Fin 2048 => x (ix4 i j k l)) = (μ : EReal) := by
  refine fold_max_real _ (fun l => ?_) k ?_
  · rw [hx]; split_ifs
    · exact EReal.coe_ne_top _
    · exact bot_ne_top
  · rw [hx, if_pos le_rfl]; exact EReal.coe_ne_bot _

variable {x : FVec Ideal Sc .f32} {f g : ℕ → ℕ → ℕ → ℕ → ℝ} {μ : ℕ → ℕ → ℕ → ℝ}

theorem rows_max (r3 : Sc.ReducesTo [3] Rw) (h0 : 0 < (⟨0, ![]⟩ : Shape).numel) (hx : SM x f) :
    ∃ μ : ℕ → ℕ → ℕ → ℝ, R3 (Host.reduce (FloatOps.maximumf (F := Ideal) (φ := .f32)) x (constant ⟨0, ![]⟩ .f32 0xFF800000#32) r3 h0 : FVec Ideal Rw .f32) μ := by
  choose μ hμ using row_max hx
  refine ⟨fun i j k => if h : i < 4 ∧ j < 8 ∧ k < 2048 then μ ⟨i, h.1⟩ ⟨j, h.2.1⟩ ⟨k, h.2.2⟩ else 0, fun i j k => ?_⟩
  beta_reduce
  rw [dif_pos ⟨i.2, j.2, k.2⟩]
  pointwise [kBot]
  exact hμ i j k
theorem bcU_val {y : FVec Ideal Rw .f32} (b : Rw.BroadcastsInDim Rw1 ![0, 1, 2]) (h : R3 y μ) : R4 (broadcastInDim Rw1 ![0, 1, 2] b y : FVec Ideal Rw1 .f32) (fun i j k _ => μ i j k) := by
  intro i j k l; pointwise; exact h i j k
theorem bcW_val {y : FVec Ideal Rw1 .f32} (b : Rw1.BroadcastsInDim Sc ![0, 1, 2, 3]) (h : R4 y (fun i j k _ => μ i j k)) : R4 (broadcastInDim Sc ![0, 1, 2, 3] b y : FVec Ideal Sc .f32) (fun i j k _ => μ i j k) := by
  intro i j k l; pointwise; exact h i j k 0
theorem exp_val {y : FVec Ideal Sc .f32} (hx : SM x A.s) (h : R4 y (fun i j k _ => μ i j k)) : R4 (Host.exp (subf x y) : FVec Ideal Sc .f32) (fun i j k l => A.Eo (μ i j k) i j k l) := by
  intro i j k l; pointwise; rw [hx, h i j k l]
  unfold Att.Eo
  split_ifs
  · rw [← EReal.coe_sub, Ideal.exp_coe]
  · rw [EReal.bot_sub, Ideal.exp_bot]; exact zero_real
theorem sum_val (r3 : Sc.ReducesTo [3] Rw) (h0 : 0 < (⟨0, ![]⟩ : Shape).numel) (h : R4 x f) :
    R3 (Host.reduceAdd x (constant ⟨0, ![]⟩ .f32 0x00000000#32) r3 h0 : FVec Ideal Rw .f32) (fun i j k => ∑ l ∈ Finset.range 2048, f i j k l) := by
  intro i j k; pointwise
  rw [← Fin.sum_univ_eq_sum_range (fun l => f i j k l), ← coe_sum]
  exact Finset.sum_congr rfl fun l _ => h i j k l
theorem div_val {s0 s1 s2 s3 : ℕ} {x y : FVec Ideal ⟨4, ![s0, s1, s2, s3]⟩ .f32} (hx : R4 x f) (hy : R4 y g) (hg : ∀ i j k l, i < s0 → j < s1 → k < s2 → l < s3 → g i j k l ≠ 0) :
    R4 (Host.divf x y : FVec Ideal ⟨4, ![s0, s1, s2, s3]⟩ .f32) (fun i j k l => f i j k l / g i j k l) := by
  intro i j k l; pointwise; rw [hx i j k l, hy i j k l, div_real (hg _ _ _ _ i.2 j.2 k.2 l.2)]
theorem mul_val {s0 s1 s2 s3 : ℕ} {x y : FVec Ideal ⟨4, ![s0, s1, s2, s3]⟩ .f32} (hx : R4 x f) (hy : R4 y g) :
    R4 (mulf x y : FVec Ideal ⟨4, ![s0, s1, s2, s3]⟩ .f32) (fun i j k l => f i j k l * g i j k l) := by
  intro i j k l; pointwise; rw [hx i j k l, hy i j k l, ← EReal.coe_mul]
theorem add_val {s0 s1 s2 s3 : ℕ} {x y : FVec Ideal ⟨4, ![s0, s1, s2, s3]⟩ .f32} (hx : R4 x f) (hy : R4 y g) :
    R4 (addf x y : FVec Ideal ⟨4, ![s0, s1, s2, s3]⟩ .f32) (fun i j k l => f i j k l + g i j k l) := by
  intro i j k l; pointwise; rw [hx i j k l, hy i j k l, ← EReal.coe_add]
theorem neg_val {s0 s1 s2 s3 : ℕ} {x : FVec Ideal ⟨4, ![s0, s1, s2, s3]⟩ .f32} (hx : R4 x f) :
    R4 (Host.negf x : FVec Ideal ⟨4, ![s0, s1, s2, s3]⟩ .f32) (fun i j k l => -f i j k l) := by
  intro i j k l; pointwise; rw [hx i j k l, ← EReal.coe_neg]
theorem log_val {s0 s1 s2 s3 : ℕ} {x : FVec Ideal ⟨4, ![s0, s1, s2, s3]⟩ .f32} (hx : R4 x f) (hf : ∀ i j k l, i < s0 → j < s1 → k < s2 → l < s3 → 0 < f i j k l) :
    R4 (Host.log x : FVec Ideal ⟨4, ![s0, s1, s2, s3]⟩ .f32) (fun i j k l => Real.log (f i j k l)) := by
  intro i j k l; pointwise; rw [hx i j k l, Ideal.log_coe, if_neg (not_le.2 (hf _ _ _ _ i.2 j.2 k.2 l.2))]
/-- A constant over all indices. -/
theorem scl_val {s0 s1 s2 s3 : ℕ} (b : (⟨0, ![]⟩ : Shape).BroadcastsInDim ⟨4, ![s0, s1, s2, s3]⟩ ![]) :
    R4 (broadcastInDim ⟨4, ![s0, s1, s2, s3]⟩ ![] b (constant ⟨0, ![]⟩ .f32 0x3DD105EC#32) : FVec Ideal ⟨4, ![s0, s1, s2, s3]⟩ .f32) (fun _ _ _ _ => scl) := by
  intro i j k l; pointwise [kScl]
theorem log2_val {s0 s1 s2 s3 : ℕ} (b : (⟨0, ![]⟩ : Shape).BroadcastsInDim ⟨4, ![s0, s1, s2, s3]⟩ ![]) :
    R4 (broadcastInDim ⟨4, ![s0, s1, s2, s3]⟩ ![] b (Host.log (constant ⟨0, ![]⟩ .f32 0x40000000#32)) : FVec Ideal ⟨4, ![s0, s1, s2, s3]⟩ .f32) (fun _ _ _ _ => Real.log 2) := by
  intro i j k l; pointwise [kTwo]; rw [Ideal.log_coe, if_neg (by norm_num)]

/-- The scores with −∞ where the key is after the query. -/
theorem mask_val {msk : IVec Sc 1} {y : FVec Ideal Sc .f32} (hm : ∀ (i : Fin 4) (j : Fin 8) (k l : Fin 2048), msk (ix4 i j k l) = if l.val ≤ k.val then 1#1 else 0#1)
    (hx : R4 x f) (hy : ∀ i, y i = (⊥ : EReal)) : SM (select msk x y : FVec Ideal Sc .f32) f := by
  intro i j k l; pointwise [hm]; rw [hy]
  split_ifs
  · exact hx i j k l
  · rfl
/-- The mask, of the keys' and the queries' positions. -/
theorem cmp_val (b1 : (⟨1, ![2048]⟩ : Shape).BroadcastsInDim ⟨2, ![1, 2048]⟩ ![1]) (b2 : (⟨1, ![2048]⟩ : Shape).BroadcastsInDim ⟨2, ![2048, 1]⟩ ![0])
    (b3 : (⟨2, ![1, 2048]⟩ : Shape).BroadcastsInDim ⟨2, ![2048, 2048]⟩ ![0, 1]) (b4 : (⟨2, ![2048, 1]⟩ : Shape).BroadcastsInDim ⟨2, ![2048, 2048]⟩ ![0, 1])
    (b5 : (⟨2, ![2048, 2048]⟩ : Shape).BroadcastsInDim Sc ![2, 3]) (i : Fin 4) (j : Fin 8) (k l : Fin 2048) :
    broadcastInDim Sc ![2, 3] b5 (cmpi .sle (broadcastInDim ⟨2, ![2048, 2048]⟩ ![0, 1] b3 (broadcastInDim ⟨2, ![1, 2048]⟩ ![1] b1 (iotaInDim ⟨1, ![2048]⟩ 32 0)))
      (broadcastInDim ⟨2, ![2048, 2048]⟩ ![0, 1] b4 (broadcastInDim ⟨2, ![2048, 1]⟩ ![0] b2 (iotaInDim ⟨1, ![2048]⟩ 32 0)))) (ix4 i j k l) = if l.val ≤ k.val then 1#1 else 0#1 := by
  pointwise
  have h : (BitVec.sle (BitVec.ofNat 32 l) (BitVec.ofNat 32 k)) = decide (l.val ≤ k.val) := by
    have a := l.isLt; have b := k.isLt
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases e : l.val ≤ k.val
  · rw [if_pos e]; simp [IntOp.cmpi, h, e]
  · rw [if_neg e]; simp [IntOp.cmpi, h, e]

/-- The matrix of the reals `g`. -/
theorem eq_of_R2 {a b : ℕ} {x : Shape.Idx ⟨2, ![a, b]⟩ → EReal} {g : ℕ → ℕ → ℝ} (h : R2 x g) : x = c2 fun i j => g i j := by
  funext i
  exact (congrArg x (show i = ix2 (i 0) (i 1) from by funext a; fin_cases a <;> rfl)).trans (h (i 0) (i 1))

/-- The gradients' arrays, a row a position of a sequence. -/
def dqA (A : Att) : Shape.Idx ⟨2, ![8192, 1024]⟩ → EReal := c2 fun r d => A.dq (r / 2048) (r % 2048) (d / 128) (d % 128)
def dkA (A : Att) : Shape.Idx ⟨2, ![8192, 1024]⟩ → EReal := c2 fun r d => A.dk (r / 2048) (r % 2048) (d / 128) (d % 128)
def dvA (A : Att) : Shape.Idx ⟨2, ![8192, 512]⟩ → EReal := c2 fun r d => A.dv (r / 2048) (r % 2048) (d / 64) (d % 64)

end Cert.MlaM

end
-- ==== Proof.MlaIdealHost.lean ====
/- The host's arrays the attention's backward call reads: the queries, the keys, the values and the cotangent by rows, the row
   sums of cotangent times output, and the rows' logarithms, of the host's own forward lines. -/
module

public import proofs.«01_k».proof.Proof.MlaSoft
public import proofs.«01_k».proof.Proof.Gen.MlaIdeal.Frame
public import Idealize.ShloMosaic.Lib.Pipeline.ValueKit

@[expose] public section

set_option maxRecDepth 16384

noncomputable section

namespace Cert.MlaM

open Idealize.ShloMosaic Idealize.ShloMosaic.TcCoe Idealize.SL.Sem Idealize.ShloMosaic.StableHlo Cert.Coe Cert.MlaIdeal Cert.MlaIdeal.Gen

/-- Queries and keys over 128 columns. -/
def qT (x0 : FVec Ideal S4x2048x8x64 .f32) (x1 z : FVec Ideal S4x2048x8x32 .f32) : FVec Ideal S4x2048x8x128 .f32 :=
  concatenate S4x2048x8x128 3 [⟨S4x2048x8x64, x0⟩, ⟨S4x2048x8x32, x1⟩, ⟨S4x2048x8x32, z⟩] concatenates_S4x2048x8x64_S4x2048x8x32_S4x2048x8x32_S4x2048x8x128_d3
def zT : FVec Ideal S4x2048x8x32 .f32 := broadcastInDim S4x2048x8x32 ![] bcast_S_S4x2048x8x32 (constant S_ .f32 0x00000000#32)
def kpT (x3 : FVec Ideal S4x2048x32 .f32) : FVec Ideal S4x2048x8x32 .f32 :=
  broadcastInDim S4x2048x8x32 ![0, 1, 2, 3] bcast_S4x2048x1x32_S4x2048x8x32_0_1_2_3 (broadcastInDim S4x2048x1x32 ![0, 1, 3] bcast_S4x2048x32_S4x2048x1x32_0_1_3 x3)
/-- The scores. -/
def sT (q k : FVec Ideal S4x2048x8x128 .f32) : FVec Ideal S4x8x2048x2048 .f32 :=
  mulf (Host.dotGeneral dot_S4x2048x8x128_S4x2048x8x128_S4x8x2048x2048_3_3_1_1_02_02 none q k) (broadcastInDim S4x8x2048x2048 ![] bcast_S_S4x8x2048x2048 (constant S_ .f32 0x3DD105EC#32))
/-- The mask. -/
def mT : IVec S2048x2048 1 :=
  cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))
/-- The masked scores. -/
def wT (s : FVec Ideal S4x8x2048x2048 .f32) : FVec Ideal S4x8x2048x2048 .f32 :=
  select (broadcastInDim S4x8x2048x2048 ![2, 3] bcast_S2048x2048_S4x8x2048x2048_2_3 mT) s (broadcastInDim S4x8x2048x2048 ![] bcast_S_S4x8x2048x2048 (constant S_ .f32 0xFF800000#32 : FVec Ideal S_ .f32))

section
variable {F : FTy → Type} [FloatOps F]
/-- The host's lines up to the scores, in stretches. -/
abbrev opA : List (HloOp τ sig (Elt F)) :=
  [StableHlo.nullary main_cst (constant S_ .f32 0x00000000#32),
    StableHlo.unary main_cst main_v0 (broadcastInDim S4x2048x8x32 ![] bcast_S_S4x2048x8x32 : (⟨S_, .f32⟩ : BufTy).Contents (Elt F) → (⟨S4x2048x8x32, .f32⟩ : BufTy).Contents (Elt F))]
abbrev opB : HloOp τ sig (Elt F) := StableHlo.nary ![main_arg0, main_arg1, main_v0] main_v1 (fun u => (concatenate S4x2048x8x128 3 [⟨S4x2048x8x64, (u 0 : (⟨S4x2048x8x64, .f32⟩ : BufTy).Contents (Elt F))⟩, ⟨S4x2048x8x32, (u 1 : (⟨S4x2048x8x32, .f32⟩ : BufTy).Contents (Elt F))⟩, ⟨S4x2048x8x32, (u 2 : (⟨S4x2048x8x32, .f32⟩ : BufTy).Contents (Elt F))⟩] concatenates_S4x2048x8x64_S4x2048x8x32_S4x2048x8x32_S4x2048x8x128_d3 : (⟨S4x2048x8x128, .f32⟩ : BufTy).Contents (Elt F)))
abbrev opC : List (HloOp τ sig (Elt F)) :=
  [StableHlo.unary main_arg3 main_v2 (broadcastInDim S4x2048x1x32 ![0, 1, 3] bcast_S4x2048x32_S4x2048x1x32_0_1_3 : (⟨S4x2048x32, .f32⟩ : BufTy).Contents (Elt F) → (⟨S4x2048x1x32, .f32⟩ : BufTy).Contents (Elt F)),
    StableHlo.unary main_v2 main_v3 (broadcastInDim S4x2048x8x32 ![0, 1, 2, 3] bcast_S4x2048x1x32_S4x2048x8x32_0_1_2_3 : (⟨S4x2048x1x32, .f32⟩ : BufTy).Contents (Elt F) → (⟨S4x2048x8x32, .f32⟩ : BufTy).Contents (Elt F)),
    StableHlo.nullary main_cst_0 (constant S_ .f32 0x00000000#32),
    StableHlo.unary main_cst_0 main_v4 (broadcastInDim S4x2048x8x32 ![] bcast_S_S4x2048x8x32 : (⟨S_, .f32⟩ : BufTy).Contents (Elt F) → (⟨S4x2048x8x32, .f32⟩ : BufTy).Contents (Elt F))]
abbrev opD : HloOp τ sig (Elt F) := StableHlo.nary ![main_arg2, main_v3, main_v4] main_v5 (fun u => (concatenate S4x2048x8x128 3 [⟨S4x2048x8x64, (u 0 : (⟨S4x2048x8x64, .f32⟩ : BufTy).Contents (Elt F))⟩, ⟨S4x2048x8x32, (u 1 : (⟨S4x2048x8x32, .f32⟩ : BufTy).Contents (Elt F))⟩, ⟨S4x2048x8x32, (u 2 : (⟨S4x2048x8x32, .f32⟩ : BufTy).Contents (Elt F))⟩] concatenates_S4x2048x8x64_S4x2048x8x32_S4x2048x8x32_S4x2048x8x128_d3 : (⟨S4x2048x8x128, .f32⟩ : BufTy).Contents (Elt F)))
abbrev opE : List (HloOp τ sig (Elt F)) :=
  [StableHlo.binary main_v1 main_v5 main_v6 ((fun l r => Host.dotGeneral dot_S4x2048x8x128_S4x2048x8x128_S4x8x2048x2048_3_3_1_1_02_02 none l r) : (⟨S4x2048x8x128, .f32⟩ : BufTy).Contents (Elt F) → (⟨S4x2048x8x128, .f32⟩ : BufTy).Contents (Elt F) → (⟨S4x8x2048x2048, .f32⟩ : BufTy).Contents (Elt F)),
    StableHlo.nullary main_cst_1 (constant S_ .f32 0x3DD105EC#32),
    StableHlo.unary main_cst_1 main_v7 (broadcastInDim S4x8x2048x2048 ![] bcast_S_S4x8x2048x2048 : (⟨S_, .f32⟩ : BufTy).Contents (Elt F) → (⟨S4x8x2048x2048, .f32⟩ : BufTy).Contents (Elt F)),
    StableHlo.binary main_v6 main_v7 main_v8 (mulf : (⟨S4x8x2048x2048, .f32⟩ : BufTy).Contents (Elt F) → (⟨S4x8x2048x2048, .f32⟩ : BufTy).Contents (Elt F) → (⟨S4x8x2048x2048, .f32⟩ : BufTy).Contents (Elt F)),
    StableHlo.nullary main_v9 (iotaInDim S2048 32 0),
    StableHlo.unary main_v9 main_v10 (broadcastInDim S1x2048 ![1] bcast_S2048_S1x2048_1 : (⟨S2048, .i32⟩ : BufTy).Contents (Elt F) → (⟨S1x2048, .i32⟩ : BufTy).Contents (Elt F)),
    StableHlo.nullary main_v11 (iotaInDim S2048 32 0),
    StableHlo.unary main_v11 main_v12 (broadcastInDim S2048x1 ![0] bcast_S2048_S2048x1_0 : (⟨S2048, .i32⟩ : BufTy).Contents (Elt F) → (⟨S2048x1, .i32⟩ : BufTy).Contents (Elt F)),
    StableHlo.unary main_v10 main_v13 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v12 main_v14 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v13 main_v14 main_v15 (cmpi .sle : (⟨S2048x2048, .i32⟩ : BufTy).Contents (Elt F) → (⟨S2048x2048, .i32⟩ : BufTy).Contents (Elt F) → (⟨S2048x2048, .i1⟩ : BufTy).Contents (Elt F)),
    StableHlo.nullary main_cst_2 (constant S_ .f32 0xFF800000#32)]

end
variable (σ : Valuation τ sig (Elt Ideal))

theorem cut : StableHlo.after hostOps0 σ = StableHlo.after opE (opD.result (StableHlo.after opC (opB.result (StableHlo.after opA σ)))) := rfl
theorem A0 : StableHlo.after opA σ main_v0 = zT := by entry_read; rfl
theorem Aarg0 : StableHlo.after opA σ main_arg0 = σ main_arg0 := by entry_read; rfl
theorem Aarg1 : StableHlo.after opA σ main_arg1 = σ main_arg1 := by entry_read; rfl
theorem Aarg2 : StableHlo.after opA σ main_arg2 = σ main_arg2 := by entry_read; rfl
theorem Aarg3 : StableHlo.after opA σ main_arg3 = σ main_arg3 := by entry_read; rfl
theorem B1 : opB.result σ main_v1 = qT (σ main_arg0) (σ main_arg1) (σ main_v0) := nary_result ..
theorem Barg2 : opB.result σ main_arg2 = σ main_arg2 := nary_result_ne _ _ _ _ _ _ (by decide)
theorem Barg3 : opB.result σ main_arg3 = σ main_arg3 := nary_result_ne _ _ _ _ _ _ (by decide)
theorem C1 : StableHlo.after opC σ main_v1 = σ main_v1 := by entry_read; rfl
theorem C3 : StableHlo.after opC σ main_v3 = kpT (σ main_arg3) := by entry_read; rfl
theorem C4 : StableHlo.after opC σ main_v4 = zT := by entry_read; rfl
theorem Carg2 : StableHlo.after opC σ main_arg2 = σ main_arg2 := by entry_read; rfl
theorem D5 : opD.result σ main_v5 = qT (σ main_arg2) (σ main_v3) (σ main_v4) := nary_result ..
theorem D1 : opD.result σ main_v1 = σ main_v1 := nary_result_ne _ _ _ _ _ _ (by decide)
theorem E1 : StableHlo.after opE σ main_v1 = σ main_v1 := by entry_read; rfl
theorem E5 : StableHlo.after opE σ main_v5 = σ main_v5 := by entry_read; rfl
theorem E8 : StableHlo.after opE σ main_v8 = sT (σ main_v1) (σ main_v5) := by entry_read; rfl
theorem E15 : StableHlo.after opE σ main_v15 = mT := by entry_read; rfl
theorem Ec : StableHlo.after opE σ main_cst_2 = (constant S_ .f32 0xFF800000#32 : FVec Ideal S_ .f32) := by entry_read; rfl

/-- The host's arrays before the mask. -/
theorem u1 : StableHlo.after hostOps0 σ main_v1 = qT (σ main_arg0) (σ main_arg1) zT := by
  rw [cut, E1, D1, C1, B1, A0, Aarg0, Aarg1]
theorem u5 : StableHlo.after hostOps0 σ main_v5 = qT (σ main_arg2) (kpT (σ main_arg3)) zT := by
  rw [cut, E5, D5, C3, C4, Carg2, Barg2, Barg3, Aarg2, Aarg3]
theorem u8 : StableHlo.after hostOps0 σ main_v8 = sT (qT (σ main_arg0) (σ main_arg1) zT) (qT (σ main_arg2) (kpT (σ main_arg3)) zT) := by
  rw [cut, E8, D5, D1, C1, B1, A0, Aarg0, Aarg1, C3, C4, Carg2, Barg2, Barg3, Aarg2, Aarg3]
theorem u15 : StableHlo.after hostOps0 σ main_v15 = mT := by rw [cut, E15]
theorem uc : StableHlo.after hostOps0 σ main_cst_2 = (constant S_ .f32 0xFF800000#32 : FVec Ideal S_ .f32) := by rw [cut, Ec]

theorem w16 (hc : σ main_cst_2 = (constant S_ .f32 0xFF800000#32 : FVec Ideal S_ .f32)) (h15 : σ main_v15 = mT) : StableHlo.after hostOps0_1 σ main_v16 = wT (σ main_v8) := by
  entry_read; rw [hc, h15]; rfl
theorem w1 : StableHlo.after hostOps0_1 σ main_v1 = σ main_v1 := by entry_read; rfl
theorem w5 : StableHlo.after hostOps0_1 σ main_v5 = σ main_v5 := by entry_read; rfl

theorem z4 : StableHlo.after hostOps0 σ main_arg4 = σ main_arg4 := by
  rw [cut, show ∀ σ : Valuation τ sig (Elt Ideal), StableHlo.after opE σ main_arg4 = σ main_arg4 from fun σ => by entry_read; rfl,
    show ∀ σ : Valuation τ sig (Elt Ideal), opD.result σ main_arg4 = σ main_arg4 from fun σ => nary_result_ne _ _ _ _ _ _ (by decide),
    show ∀ σ : Valuation τ sig (Elt Ideal), StableHlo.after opC σ main_arg4 = σ main_arg4 from fun σ => by entry_read; rfl,
    show ∀ σ : Valuation τ sig (Elt Ideal), opB.result σ main_arg4 = σ main_arg4 from fun σ => nary_result_ne _ _ _ _ _ _ (by decide)]
  entry_read; rfl
theorem z5 : StableHlo.after hostOps0 σ main_arg5 = σ main_arg5 := by
  rw [cut, show ∀ σ : Valuation τ sig (Elt Ideal), StableHlo.after opE σ main_arg5 = σ main_arg5 from fun σ => by entry_read; rfl,
    show ∀ σ : Valuation τ sig (Elt Ideal), opD.result σ main_arg5 = σ main_arg5 from fun σ => nary_result_ne _ _ _ _ _ _ (by decide),
    show ∀ σ : Valuation τ sig (Elt Ideal), StableHlo.after opC σ main_arg5 = σ main_arg5 from fun σ => by entry_read; rfl,
    show ∀ σ : Valuation τ sig (Elt Ideal), opB.result σ main_arg5 = σ main_arg5 from fun σ => nary_result_ne _ _ _ _ _ _ (by decide)]
  entry_read; rfl
theorem w4 : StableHlo.after hostOps0_1 σ main_arg4 = σ main_arg4 := by entry_read; rfl
theorem w5' : StableHlo.after hostOps0_1 σ main_arg5 = σ main_arg5 := by entry_read; rfl

/-- The softmax of masked scores: the rows' largest entry, the exponentials, their sums. -/
def mxT (w : FVec Ideal S4x8x2048x2048 .f32) : FVec Ideal S4x8x2048x1 .f32 :=
  broadcastInDim S4x8x2048x1 ![0, 1, 2] bcast_S4x8x2048_S4x8x2048x1_0_1_2 (Host.reduce (FloatOps.maximumf (F := Ideal) (φ := .f32)) w (constant S_ .f32 0xFF800000#32) reducesTo_S4x8x2048x2048_S4x8x2048_d3 h_S_)
def exT (w : FVec Ideal S4x8x2048x2048 .f32) : FVec Ideal S4x8x2048x2048 .f32 :=
  Host.exp (subf w (broadcastInDim S4x8x2048x2048 ![0, 1, 2, 3] bcast_S4x8x2048x1_S4x8x2048x2048_0_1_2_3 (mxT w)))
def smT (w : FVec Ideal S4x8x2048x2048 .f32) : FVec Ideal S4x8x2048x1 .f32 :=
  broadcastInDim S4x8x2048x1 ![0, 1, 2] bcast_S4x8x2048_S4x8x2048x1_0_1_2 (Host.reduceAdd (exT w) (constant S_ .f32 0x00000000#32) reducesTo_S4x8x2048x2048_S4x8x2048_d3 h_S_)
def prT (w : FVec Ideal S4x8x2048x2048 .f32) : FVec Ideal S4x8x2048x2048 .f32 :=
  Host.divf (exT w) (broadcastInDim S4x8x2048x2048 ![0, 1, 2, 3] bcast_S4x8x2048x1_S4x8x2048x2048_0_1_2_3 (smT w))
/-- The row sums of cotangent times output, and the rows' logarithms to base 2. -/
def dlT (p : FVec Ideal S4x8x2048x2048 .f32) (v d : FVec Ideal S4x2048x8x64 .f32) : FVec Ideal S2x4x8192 .f32 :=
  shapeCast S2x4x8192 (transpose S8x4x2048 [2, 0, 1] (Host.reduceAdd (mulf (transpose S4x2048x8x64 [0, 3, 1, 2] (Host.dotGeneral dot_S4x2048x8x64_S4x8x2048x2048_S4x8x64x2048_1_3_3_2_02_01 none v p) transposes_S4x8x64x2048_S4x2048x8x64_0_3_1_2) d)
    (constant S_ .f32 0x00000000#32) reducesTo_S4x2048x8x64_S4x2048x8_d3 h_S_) transposes_S4x2048x8_S8x4x2048_2_0_1) shapeCasts_S8x4x2048_S2x4x8192
def lsT (w : FVec Ideal S4x8x2048x2048 .f32) : FVec Ideal S4x2x4x2048 .f32 :=
  shapeCast S4x2x4x2048 (Host.divf (addf (mxT w) (Host.log (smT w))) (broadcastInDim S4x8x2048x1 ![] bcast_S_S4x8x2048x1 (Host.log (constant S_ .f32 0x40000000#32)))) shapeCasts_S4x8x2048x1_S4x2x4x2048
/-- The queries by rows, scaled. -/
def q2T (q : FVec Ideal S4x2048x8x128 .f32) : FVec Ideal S8192x1024 .bf16 :=
  truncf .bf16 (shapeCast S8192x1024 (Host.divf (mulf q (broadcastInDim S4x2048x8x128 ![] bcast_S_S4x2048x8x128 (constant S_ .f32 0x3DD105EC#32))) (broadcastInDim S4x2048x8x128 ![] bcast_S_S4x2048x8x128 (Host.log (constant S_ .f32 0x40000000#32)))) shapeCasts_S4x2048x8x128_S8192x1024) bitsLt_bf16_f32
def k2T (k : FVec Ideal S4x2048x8x128 .f32) : FVec Ideal S8192x1024 .bf16 := truncf .bf16 (shapeCast S8192x1024 k shapeCasts_S4x2048x8x128_S8192x1024) bitsLt_bf16_f32
def v2T (v : FVec Ideal S4x2048x8x64 .f32) : FVec Ideal S8192x512 .bf16 := truncf .bf16 (shapeCast S8192x512 v shapeCasts_S4x2048x8x64_S8192x512) bitsLt_bf16_f32

theorem e37 : StableHlo.after hostOps0_2 σ main_v37 = dlT (prT (σ main_v16)) (σ main_arg4) (σ main_arg5) := by entry_read; rfl
theorem e38 : StableHlo.after hostOps0_2 σ main_v38 = lsT (σ main_v16) := by entry_read; rfl
theorem e46 : StableHlo.after hostOps0_2 σ main_v46 = q2T (σ main_v1) := by entry_read; rfl
theorem e48 : StableHlo.after hostOps0_2 σ main_v48 = k2T (σ main_v5) := by entry_read; rfl
theorem e50 : StableHlo.after hostOps0_2 σ main_v50 = v2T (σ main_arg4) := by entry_read; rfl
theorem e52 : StableHlo.after hostOps0_2 σ main_v52 = v2T (σ main_arg5) := by entry_read; rfl

variable (m : (ℓ : Loc nD τ sig) → Buf (Elt Ideal) ℓ) (c : Dev nD)

theorem V_eq (b : Ref sig .tc) : V m c b = StableHlo.after hostOps0_2 (StableHlo.after hostOps0_1 (StableHlo.after hostOps0 (fun b => m (c, b)))) b := by
  show StableHlo.after (List.flatten _) _ _ = _
  rw [List.flatten_cons, List.flatten_cons, List.flatten_cons, List.flatten_nil, List.append_nil, StableHlo.after_append, StableHlo.after_append]

/-- The arguments in memory. -/
abbrev x0 : FVec Ideal S4x2048x8x64 .f32 := m ((c.tc : Thread nD τ).loc main_arg0)
abbrev x1 : FVec Ideal S4x2048x8x32 .f32 := m ((c.tc : Thread nD τ).loc main_arg1)
abbrev x2 : FVec Ideal S4x2048x8x64 .f32 := m ((c.tc : Thread nD τ).loc main_arg2)
abbrev x3 : FVec Ideal S4x2048x32 .f32 := m ((c.tc : Thread nD τ).loc main_arg3)
abbrev x4 : FVec Ideal S4x2048x8x64 .f32 := m ((c.tc : Thread nD τ).loc main_arg4)
abbrev x5 : FVec Ideal S4x2048x8x64 .f32 := m ((c.tc : Thread nD τ).loc main_arg5)
/-- The masked scores of the arguments. -/
def mem : FVec Ideal S4x8x2048x2048 .f32 := wT (sT (qT (x0 m c) (x1 m c) zT) (qT (x2 m c) (kpT (x3 m c)) zT))

theorem V37 : V m c main_v37 = dlT (prT (mem m c)) (x4 m c) (x5 m c) := by
  rw [V_eq, e37, w16 _ (uc _) (u15 _), u8, w4, w5', z4, z5]; rfl
theorem V38 : V m c main_v38 = lsT (mem m c) := by
  rw [V_eq, e38, w16 _ (uc _) (u15 _), u8]; rfl
theorem V46 : V m c main_v46 = q2T (qT (x0 m c) (x1 m c) zT) := by
  rw [V_eq, e46, w1, u1]
theorem V48 : V m c main_v48 = k2T (qT (x2 m c) (kpT (x3 m c)) zT) := by
  rw [V_eq, e48, w5, u5]
theorem V50 : V m c main_v50 = v2T (x4 m c) := by
  rw [V_eq, e50, w4, z4]
theorem V52 : V m c main_v52 = v2T (x5 m c) := by
  rw [V_eq, e52, w5', z5]

end Cert.MlaM

end
-- ==== Proof.MlaIdealHostVal.lean ====
/- The host's arrays the attention's backward call reads, over the reals. -/
module

public import proofs.«01_k».proof.Proof.MlaIdealHost

@[expose] public section

set_option maxRecDepth 16384

noncomputable section

namespace Cert.MlaM

open Idealize.ShloMosaic Idealize.ShloMosaic.TcCoe Idealize.SL.Sem Idealize.ShloMosaic.StableHlo Cert.Coe Cert.MlaIdeal Cert.MlaIdeal.Gen

/-- The arguments are `A`'s arrays. -/
structure Holds (m : (ℓ : Loc nD τ sig) → Buf (Elt Ideal) ℓ) (c : Dev nD) (A : Att) : Prop where
  h0 : R4 (x0 m c) A.qn
  h1 : R4 (x1 m c) A.qp
  h2 : R4 (x2 m c) A.kn
  h3 : R3 (x3 m c) A.kp
  h4 : R4 (x4 m c) A.v
  h5 : R4 (x5 m c) A.d
  hs : A.sc = scl

theorem qT_val {x0 : FVec Ideal S4x2048x8x64 .f32} {x1 z : FVec Ideal S4x2048x8x32 .f32} {f g : ℕ → ℕ → ℕ → ℕ → ℝ} (h0 : R4 x0 f) (h1 : R4 x1 g) (hz : ∀ i, z i = (0 : EReal)) :
    R4 (qT x0 x1 z) (fun i j k l => if l < 64 then f i j k l else if l < 96 then g i j k (l - 64) else 0) := by
  intro i j k l; unfold qT; pointwise
  by_cases a : l.val < 64
  · rw [dif_pos a, if_pos a]; exact h0 i j k ⟨l, a⟩
  · rw [dif_neg a, if_neg a]
    by_cases b : l.val < 96
    · rw [dif_pos (by omega), if_pos b]; exact h1 i j k ⟨l - 64, _⟩
    · rw [dif_neg (by omega), if_neg b, hz]; exact zero_real
theorem kpT_val {x : FVec Ideal S4x2048x32 .f32} {f : ℕ → ℕ → ℕ → ℝ} (h : R3 x f) : R4 (kpT x) (fun i j _ l => f i j l) := by
  intro i j k l; unfold kpT; pointwise; exact h i j l
theorem zT_val (i : S4x2048x8x32.Idx) : zT i = (0 : EReal) := by
  unfold zT; idx_vars i; pointwise
theorem sT_val {q k : FVec Ideal S4x2048x8x128 .f32} {f g : ℕ → ℕ → ℕ → ℕ → ℝ} (hq : R4 q f) (hk : R4 k g) :
    R4 (sT q k) (fun b h t u => (∑ e ∈ Finset.range 128, f b t h e * g b u h e) * scl) := by
  refine mul_val ?_ (scl_val _)
  intro b h t u; pointwise
  rw [← Fin.sum_univ_eq_sum_range (fun e => f b t h e * g b u h e), ← coe_sum]
  exact Finset.sum_congr rfl fun e _ => by rw [hq, hk, ← EReal.coe_mul]
theorem wT_val {s : FVec Ideal S4x8x2048x2048 .f32} {f : ℕ → ℕ → ℕ → ℕ → ℝ} (h : R4 s f) : SM (wT s) f := by
  refine mask_val (cmp_val _ _ _ _ _) h (fun i => ?_)
  idx_vars i; pointwise [kBot]

variable {A : Att} {w : FVec Ideal S4x8x2048x2048 .f32}

/-- The softmax of scores masked, off the rows' largest entries. -/
theorem soft (hw : SM w A.s) : ∃ μ : ℕ → ℕ → ℕ → ℝ, R4 (mxT w) (fun i j k _ => μ i j k) ∧ R4 (exT w) (fun i j k l => A.Eo (μ i j k) i j k l)
    ∧ R4 (smT w) (fun i j k _ => ∑ l ∈ Finset.range 2048, A.Eo (μ i j k) i j k l) := by
  obtain ⟨μ, hμ⟩ := rows_max reducesTo_S4x8x2048x2048_S4x8x2048_d3 h_S_ hw
  have a := bcU_val bcast_S4x8x2048_S4x8x2048x1_0_1_2 hμ
  have b := exp_val hw (bcW_val bcast_S4x8x2048x1_S4x8x2048x2048_0_1_2_3 a)
  exact ⟨μ, a, b, bcU_val bcast_S4x8x2048_S4x8x2048x1_0_1_2 (sum_val reducesTo_S4x8x2048x2048_S4x8x2048_d3 h_S_ b)⟩
theorem prT_val (hw : SM w A.s) : R4 (prT w) A.p := by
  obtain ⟨μ, a, b, d⟩ := soft hw
  intro i j k l
  refine (div_val b (bcW_val bcast_S4x8x2048x1_S4x8x2048x2048_0_1_2_3 d) (fun i j k l _ _ hk _ => (A.sum_Eo_pos _ hk).ne') i j k l).trans ?_
  exact congrArg _ (A.Eo_div ..)
/-- Splitting the heads into groups of four. -/
theorem cast_rows (x : FVec Ideal S4x8x2048x1 .f32) (h : S4x8x2048x1.ShapeCasts S4x2x4x2048) (b : Fin 4) (g : Fin 2) (k : Fin 4) (t : Fin 2048) :
    shapeCast S4x2x4x2048 x h (ix4 b g k t) = x (ix4 b ⟨g * 4 + k, by omega⟩ t 0) := by
  pointwise
theorem lsT_val (hw : SM w A.s) : R4 (lsT w) (fun b g h t => Real.log (A.Z b (4 * g + h) t) / Real.log 2) := by
  obtain ⟨μ, a, b, d⟩ := soft hw
  have e := div_val (add_val a (log_val d fun i j k l _ _ hk _ => A.sum_Eo_pos _ hk)) (log2_val bcast_S_S4x8x2048x1) (fun _ _ _ _ _ _ _ _ => Att.log2.ne')
  intro b g h t
  unfold lsT
  rw [cast_rows]
  refine (e b ⟨g * 4 + h, by omega⟩ t 0).trans (congrArg _ ?_)
  beta_reduce
  rw [A.log_Eo _ t.isLt, mul_comm 4]
theorem del_head (b g h t : ℕ) : A.del b (g * 4 + h) t = A.del b (4 * g + h) t := by
  rw [show g * 4 + h = 4 * g + h by omega]
theorem dlT_val {p : FVec Ideal S4x8x2048x2048 .f32} {v d : FVec Ideal S4x2048x8x64 .f32} (hp : R4 p A.p) (hv : R4 v A.v) (hd : R4 d A.d) :
    R3 (dlT p v d) (fun g h n => A.del (n / 2048) (g * 4 + h) (n % 2048)) := by
  intro g h n; unfold dlT; pointwise
  have r : ∀ b h t, A.del b h t = ∑ e : Fin 64, (∑ u : Fin 2048, A.v b u h e * A.p b h t u) * A.d b t h e := fun b h t => by
    unfold Att.del Att.o; simp only [Finset.sum_range]
  refine Eq.trans ?_ (congrArg (fun x : ℝ => (x : EReal)) (r (n / 2048) (g * 4 + h) (n % 2048))).symm
  refine Eq.trans (Finset.sum_congr rfl fun e _ => ?_) (coe_sum Finset.univ fun e : Fin 64 => (∑ u : Fin 2048, A.v (n / 2048) u (g * 4 + h) e * A.p (n / 2048) (g * 4 + h) (n % 2048) u) * A.d (n / 2048) (n % 2048) (g * 4 + h) e)
  refine Eq.trans ?_ (EReal.coe_mul _ _).symm
  refine congrArg₂ (· * ·) (Eq.trans (Finset.sum_congr rfl fun u _ => ?_) (coe_sum Finset.univ fun u : Fin 2048 => A.v (n / 2048) u (g * 4 + h) e * A.p (n / 2048) (g * 4 + h) (n % 2048) u)) (hd _ _ _ _)
  refine Eq.trans ?_ (EReal.coe_mul _ _).symm
  exact congrArg₂ (· * ·) (hv _ _ _ _) (hp _ _ _ _)
theorem q2T_val {q : FVec Ideal S4x2048x8x128 .f32} {f : ℕ → ℕ → ℕ → ℕ → ℝ} (hq : R4 q f) :
    R2 (q2T q) (fun n r => f (n / 2048) (n % 2048) (r / 128) (r % 128) * scl / Real.log 2) := by
  intro n r; unfold q2T; pointwise
  rw [hq, kScl, kTwo, Ideal.log_coe, if_neg (by norm_num), ← EReal.coe_mul, div_real Att.log2.ne']
theorem k2T_val {q : FVec Ideal S4x2048x8x128 .f32} {f : ℕ → ℕ → ℕ → ℕ → ℝ} (hq : R4 q f) :
    R2 (k2T q) (fun n r => f (n / 2048) (n % 2048) (r / 128) (r % 128)) := by
  intro n r; unfold k2T; pointwise
  exact hq ..
theorem v2T_val {q : FVec Ideal S4x2048x8x64 .f32} {f : ℕ → ℕ → ℕ → ℕ → ℝ} (hq : R4 q f) :
    R2 (v2T q) (fun n r => f (n / 2048) (n % 2048) (r / 64) (r % 64)) := by
  intro n r; unfold v2T; pointwise
  exact hq ..

variable {m : (ℓ : Loc nD τ sig) → Buf (Elt Ideal) ℓ} {c : Dev nD} (H : Holds m c A)
include H

theorem mem_val : SM (mem m c) A.s := by
  refine wT_val ?_
  have := sT_val (qT_val H.h0 H.h1 zT_val) (qT_val H.h2 (kpT_val H.h3) zT_val)
  unfold Att.s; rw [H.hs]; exact this
theorem a37 : R3 (V m c main_v37 : FVec Ideal S2x4x8192 .f32) (fun g h n => A.del (n / 2048) (4 * g + h) (n % 2048)) := by
  rw [V37]; intro g h n; exact (dlT_val (prT_val (mem_val H)) H.h4 H.h5 g h n).trans (congrArg (fun x : ℝ => (x : EReal)) (del_head (n / 2048) g h (n % 2048)))
theorem a38 : R4 (V m c main_v38 : FVec Ideal S4x2x4x2048 .f32) (fun b g h t => Real.log (A.Z b (4 * g + h) t) / Real.log 2) := by
  rw [V38]; exact lsT_val (mem_val H)
theorem a46 : R2 (V m c main_v46 : FVec Ideal S8192x1024 .bf16) (fun n r => A.Q (n / 2048) (n % 2048) (r / 128) (r % 128) * A.sc / Real.log 2) := by
  rw [V46, H.hs]; exact q2T_val (qT_val H.h0 H.h1 zT_val)
theorem a48 : R2 (V m c main_v48 : FVec Ideal S8192x1024 .bf16) (fun n r => A.K (n / 2048) (n % 2048) (r / 128) (r % 128)) := by
  rw [V48]; exact k2T_val (qT_val H.h2 (kpT_val H.h3) zT_val)
theorem a50 : R2 (V m c main_v50 : FVec Ideal S8192x512 .bf16) (fun n r => A.v (n / 2048) (n % 2048) (r / 64) (r % 64)) := by
  rw [V50]; exact v2T_val H.h4
theorem a52 : R2 (V m c main_v52 : FVec Ideal S8192x512 .bf16) (fun n r => A.d (n / 2048) (n % 2048) (r / 64) (r % 64)) := by
  rw [V52]; exact v2T_val H.h5

end Cert.MlaM

end
-- ==== Proof.MlaIdealRole.lean ====
/- The roles of the attention's backward kernel's operations: scores, probabilities, their cotangents, and what a pair of
   tiles adds to each of the three gradients, as reals. -/
module

public import proofs.«01_k».proof.Proof.MlaModel
public import proofs.«01_k».proof.Proof.MlaIdealReal

@[expose] public section

set_option maxRecDepth 16384

noncomputable section

namespace Cert.MlaIdeal.Gen

open Idealize.ShloMosaic Cert.Coe Cert.MlaM

variable {G : Grp} {u0 t0 : ℕ}

/-- The zero accumulator of a product. -/
abbrev z0 (s : Shape) : FVec Ideal s .f32 := constant s .f32 0x00000000#32
/-- A row of numbers to each query, repeated over the keys. -/
abbrev rowL (x : FVec Ideal S1x1x1x256 .f32) : FVec Ideal S256x256 .f32 := broadcastTo S256x256 (shapeCast S1x256 x shapeCasts_S1x1x1x256_S1x256) broadcasts_S1x256_S256x256
abbrev rowD (x : FVec Ideal S1x1x256 .f32) : FVec Ideal S256x256 .f32 := broadcastTo S256x256 (shapeCast S1x256 x shapeCasts_S1x1x256_S1x256) broadcasts_S1x256_S256x256

/-- What one pair of tiles gives each probability's cotangent times its probability. -/
theorem role_ds {h : ℕ} {p dp : FVec Ideal S256x256 .f32} {x : FVec Ideal S1x1x256 .f32}
    (hp : R2 p (fun i j => G.P h (t0 + j) (u0 + i))) (hdp : R2 dp (fun i j => G.DP h (t0 + j) (u0 + i))) (hx : R3 x (fun _ _ j => G.dl h (t0 + j))) :
    R2 (truncf .bf16 (mulf p (subf dp (rowD x))) bitsLt_bf16_f32) (fun i j => G.DS h (t0 + j) (u0 + i)) :=
  r_trunc (r_mul hp (r_sub hdp (r_bc (r_sc_S1x1x256 hx))))

theorem role_p_trunc {h : ℕ} {p : FVec Ideal S256x256 .f32}
    (hp : R2 p (fun i j => G.P h (t0 + j) (u0 + i))) : R2 (truncf .bf16 p bitsLt_bf16_f32) (fun i j => G.P h (t0 + j) (u0 + i)) := r_trunc hp

/-- The probabilities of a pair of tiles with all keys before all queries. -/
theorem role_p {h : ℕ} (hut : u0 + 255 ≤ t0) {st : FVec Ideal S256x256 .f32} {x : FVec Ideal S1x1x1x256 .f32}
    (hs : R2 st (fun i j => G.S h (t0 + j) (u0 + i))) (hx : R4 x (fun _ _ _ j => G.ls h (t0 + j))) :
    R2 (exp2 (subf st (rowL x))) (fun i j => G.P h (t0 + j) (u0 + i)) :=
  (r_exp2 (r_sub hs (r_bc (r_sc_S1x1x1x256 hx)))).congr fun i j hi hj => by unfold Grp.P; rw [if_pos (by omega)]
/-- The probabilities of a pair of tiles on the diagonal. -/
theorem role_pm {h : ℕ} {m : IVec S256x256 1} (hm : Mask m u0 t0) {st : FVec Ideal S256x256 .f32} {x : FVec Ideal S1x1x1x256 .f32}
    (hs : R2 st (fun i j => G.S h (t0 + j) (u0 + i))) (hx : R4 x (fun _ _ _ j => G.ls h (t0 + j))) :
    R2 (select m (exp2 (subf st (rowL x))) (broadcast S256x256 (Scalar.ofBits (F := Ideal) .f32 0x00000000#32))) (fun i j => G.P h (t0 + j) (u0 + i)) :=
  r_select hm (r_exp2 (r_sub hs (r_bc (r_sc_S1x1x1x256 hx))))

/-- A tile's sum over two adjacent halves. -/
theorem cat_sum (f g : ℕ → ℝ) (A B C D : ℕ → ℝ) (hA : ∀ t, t < 256 → A t = f t) (hB : ∀ t, t < 256 → B t = f (256 + t))
    (hC : ∀ t, t < 256 → C t = g t) (hD : ∀ t, t < 256 → D t = g (256 + t)) :
    (∑ t ∈ Finset.range 512, (if t < 256 then A t else B (t - 256)) * (if t < 256 then C t else D (t - 256))) = ∑ t ∈ Finset.range 512, f t * g t := by
  refine Finset.sum_congr rfl fun t ht => ?_
  have ht' := Finset.mem_range.1 ht
  by_cases c : t < 256
  · simp only [c, if_true, hA t c, hC t c]
  · simp only [c, if_false, hB (t - 256) (by omega), hD (t - 256) (by omega), show 256 + (t - 256) = t by omega]

/-- Head 0. -/
theorem role_s0 {xk xq : FVec Ideal S256x512 .bf16} (hk : R2 xk (fun i j => G.k (u0 + i) j)) (hq : R2 xq (fun i j => G.q (t0 + i) j)) :
    R2 (matmul dot_S256x128_S256x128_S256x256_1_1_0_0_n_n none (extractStridedSlice S256x128 ![0, 0] xk slices_S256x512_o0_0_S256x128) (extractStridedSlice S256x128 ![0, 0] xq slices_S256x512_o0_0_S256x128) (z0 S256x256)) (fun i j => G.S 0 (t0 + j) (u0 + i)) :=
  (r_dot_S256x128_S256x128_S256x256_1_1_0_0_n_n (r_sl_S256x512_0_0 hk) (r_sl_S256x512_0_0 hq)).congr fun i j _ _ => by
    unfold Grp.S; refine Finset.sum_congr rfl fun e _ => ?_; norm_num
theorem role_dp0 {xv : FVec Ideal S256x256 .bf16} {xd : FVec Ideal S128x256 .bf16} (hv : R2 xv (fun i j => G.v (u0 + i) j)) (hd : R2 xd (fun l t => G.DT 0 l (t0 + t))) :
    R2 (matmul dot_S256x128_S128x256_S256x256_1_0_0_1_n_n none (extractStridedSlice S256x128 ![0, 0] xv slices_S256x256_o0_0_S256x128) xd (z0 S256x256)) (fun i j => G.DP 0 (t0 + j) (u0 + i)) :=
  (r_dot_S256x128_S128x256_S256x256_1_0_0_1_n_n (r_sl_S256x256_0_0 hv) hd).congr fun i j _ _ => by
    unfold Grp.DP; refine Finset.sum_congr rfl fun e _ => ?_; norm_num
theorem role_dk0' {g : ℕ → ℕ → ℝ} {xg : FVec Ideal S256x128 .f32} {da : FVec Ideal S256x256 .bf16} {qa : FVec Ideal S256x512 .bf16}
    (hg : R2 xg (fun i j => g (u0 + i) (0 + j))) (hda : R2 da (fun i j => G.DS 0 (t0 + j) (u0 + i))) (hqa : R2 qa (fun i j => G.q (t0 + i) j)) :
    R2 (addf xg (matmul dot_S256x256_S256x128_S256x128_1_0_0_1_n_n none da (extractStridedSlice S256x128 ![0, 0] qa slices_S256x512_o0_0_S256x128) (z0 S256x128)))
      (fun i j => g (u0 + i) (0 + j) + ∑ t ∈ Finset.range 256, G.DS 0 (t0 + t) (u0 + i) * G.q (t0 + t) (0 + j)) :=
  (r_add hg (r_dot_S256x256_S256x128_S256x128_1_0_0_1_n_n hda (r_sl_S256x512_0_0 hqa))).congr fun i j _ _ => by norm_num
theorem role_dk0 {g : ℕ → ℕ → ℝ} {xg : FVec Ideal S256x128 .f32} {da db : FVec Ideal S256x256 .bf16} {qa qb : FVec Ideal S256x512 .bf16}
    (hg : R2 xg (fun i j => g (u0 + i) (0 + j))) (hda : R2 da (fun i j => G.DS 0 (t0 + j) (u0 + i))) (hdb : R2 db (fun i j => G.DS 0 (t0 + 256 + j) (u0 + i)))
    (hqa : R2 qa (fun i j => G.q (t0 + i) j)) (hqb : R2 qb (fun i j => G.q (t0 + 256 + i) j)) :
    R2 (addf xg (matmul dot_S256x512_S512x128_S256x128_1_0_0_1_n_n none (concatenate S256x512 1 [⟨S256x256, da⟩, ⟨S256x256, db⟩] concatenates_S256x256_S256x256_S256x512_d1)
        (concatenate S512x128 0 [⟨S256x128, (extractStridedSlice S256x128 ![0, 0] qa slices_S256x512_o0_0_S256x128)⟩, ⟨S256x128, (extractStridedSlice S256x128 ![0, 0] qb slices_S256x512_o0_0_S256x128)⟩] concatenates_S256x128_S256x128_S512x128_d0) (z0 S256x128)))
      (fun i j => g (u0 + i) (0 + j) + ∑ t ∈ Finset.range 512, G.DS 0 (t0 + t) (u0 + i) * G.q (t0 + t) (0 + j)) :=
  (r_add hg (r_dot_S256x512_S512x128_S256x128_1_0_0_1_n_n (r_cat_S256x512 hda hdb) (r_cat_S512x128 (r_sl_S256x512_0_0 hqa) (r_sl_S256x512_0_0 hqb)))).congr fun i j _ _ => by
    refine congrArg _ (cat_sum (fun t => G.DS 0 (t0 + t) (u0 + i)) (fun t => G.q (t0 + t) (0 + j)) (fun t => G.DS 0 (t0 + t) (u0 + i)) (fun t => G.DS 0 (t0 + 256 + t) (u0 + i)) (fun t => G.q (t0 + t) j) (fun t => G.q (t0 + 256 + t) j) ?_ ?_ ?_ ?_) <;> intro t _ <;> simp only [Nat.add_assoc, Nat.zero_add]
theorem role_dq0 {g : ℕ → ℕ → ℝ} {xg : FVec Ideal S128x256 .f32} {da : FVec Ideal S256x256 .bf16} {xt : FVec Ideal S512x256 .bf16}
    (hg : R2 xg (fun i j => g (0 + i) (t0 + j))) (hda : R2 da (fun i j => G.DS 0 (t0 + j) (u0 + i))) (ht : R2 xt (fun i j => G.k (u0 + j) i)) :
    R2 (shapeCast S128x256 (addf xg (matmul dot_S128x256_S256x256_S128x256_1_0_0_1_n_n none (extractStridedSlice S128x256 ![0, 0] xt slices_S512x256_o0_0_S128x256) da (z0 S128x256))) shapeCasts_S128x256_S128x256)
      (fun i j => g (0 + i) (t0 + j) + ∑ u ∈ Finset.range 256, G.k (u0 + u) (0 + i) * G.DS 0 (t0 + j) (u0 + u)) :=
  (r_id_S128x256_f32 (r_add hg (r_dot_S128x256_S256x256_S128x256_1_0_0_1_n_n (r_sl_S512x256_0_0 ht) hda))).congr fun i j _ _ => by norm_num
theorem role_dv0' {s : ℕ} {g : ℕ → ℕ → ℕ → ℝ} {xg : FVec Ideal S1x64x256 .f32} {pa : FVec Ideal S256x256 .bf16} {da : FVec Ideal S128x256 .bf16}
    (hg : R3 xg (fun _ i j => g s (0 + i) j)) (hpa : R2 pa (fun i j => G.P 0 (t0 + j) (u0 + i))) (hda : R2 da (fun l t => G.DT 0 l (t0 + t))) :
    R3 (shapeCast S1x64x256 (addf (shapeCast S64x256 xg shapeCasts_S1x64x256_S64x256) (matmul dot_S64x256_S256x256_S64x256_1_1_0_0_n_n none (extractStridedSlice S64x256 ![0, 0] da slices_S128x256_o0_0_S64x256) pa (z0 S64x256))) shapeCasts_S64x256_S1x64x256)
      (fun _ i j => g s (0 + i) j + ∑ t ∈ Finset.range 256, G.d (t0 + t) (0 + i) * G.P 0 (t0 + t) (u0 + j)) :=
  (r_up_S64x256 (r_add (r_sc_S1x64x256_f32 hg) (r_dot_S64x256_S256x256_S64x256_1_1_0_0_n_n (r_sl_S128x256_0_0 hda) hpa))).congr fun _ i j _ hi _ => by
    unfold Grp.DT
    refine congrArg _ (Finset.sum_congr rfl fun t _ => ?_)
    rw [if_pos (by omega)]; try (congr 2; omega)
theorem role_dv0 {s : ℕ} {g : ℕ → ℕ → ℕ → ℝ} {xg : FVec Ideal S1x64x256 .f32} {pa pb : FVec Ideal S256x256 .bf16} {da db : FVec Ideal S128x256 .bf16}
    (hg : R3 xg (fun _ i j => g s (0 + i) j)) (hpa : R2 pa (fun i j => G.P 0 (t0 + j) (u0 + i))) (hpb : R2 pb (fun i j => G.P 0 (t0 + 256 + j) (u0 + i)))
    (hda : R2 da (fun l t => G.DT 0 l (t0 + t))) (hdb : R2 db (fun l t => G.DT 0 l (t0 + 256 + t))) :
    R3 (shapeCast S1x64x256 (addf (shapeCast S64x256 xg shapeCasts_S1x64x256_S64x256) (matmul dot_S64x512_S256x512_S64x256_1_1_0_0_n_n none
        (concatenate S64x512 1 [⟨S64x256, (extractStridedSlice S64x256 ![0, 0] da slices_S128x256_o0_0_S64x256)⟩, ⟨S64x256, (extractStridedSlice S64x256 ![0, 0] db slices_S128x256_o0_0_S64x256)⟩] concatenates_S64x256_S64x256_S64x512_d1)
        (concatenate S256x512 1 [⟨S256x256, pa⟩, ⟨S256x256, pb⟩] concatenates_S256x256_S256x256_S256x512_d1) (z0 S64x256))) shapeCasts_S64x256_S1x64x256)
      (fun _ i j => g s (0 + i) j + ∑ t ∈ Finset.range 512, G.d (t0 + t) (0 + i) * G.P 0 (t0 + t) (u0 + j)) :=
  (r_up_S64x256 (r_add (r_sc_S1x64x256_f32 hg) (r_dot_S64x512_S256x512_S64x256_1_1_0_0_n_n (r_cat_S64x512 (r_sl_S128x256_0_0 hda) (r_sl_S128x256_0_0 hdb)) (r_cat_S256x512 hpa hpb)))).congr fun _ i j _ hi _ => by
    refine congrArg _ (cat_sum (fun t => G.d (t0 + t) (0 + i)) (fun t => G.P 0 (t0 + t) (u0 + j)) (fun t => G.DT 0 i (t0 + t)) (fun t => G.DT 0 i (t0 + 256 + t)) (fun t => G.P 0 (t0 + t) (u0 + j)) (fun t => G.P 0 (t0 + 256 + t) (u0 + j)) ?_ ?_ ?_ ?_) <;> intro t _
    · unfold Grp.DT; rw [if_pos (by omega)]; try (congr 1; omega)
    · unfold Grp.DT; rw [if_pos (by omega)]; try (congr 1 <;> omega)
    · rfl
    · simp only [Nat.add_assoc]

/-- Head 1. -/
theorem role_s1 {xk xq : FVec Ideal S256x512 .bf16} (hk : R2 xk (fun i j => G.k (u0 + i) j)) (hq : R2 xq (fun i j => G.q (t0 + i) j)) :
    R2 (matmul dot_S256x128_S256x128_S256x256_1_1_0_0_n_n none (extractStridedSlice S256x128 ![0, 128] xk slices_S256x512_o0_128_S256x128) (extractStridedSlice S256x128 ![0, 128] xq slices_S256x512_o0_128_S256x128) (z0 S256x256)) (fun i j => G.S 1 (t0 + j) (u0 + i)) :=
  (r_dot_S256x128_S256x128_S256x256_1_1_0_0_n_n (r_sl_S256x512_0_128 hk) (r_sl_S256x512_0_128 hq)).congr fun i j _ _ => by
    unfold Grp.S; refine Finset.sum_congr rfl fun e _ => ?_; norm_num
theorem role_dp1 {xv : FVec Ideal S256x256 .bf16} {xd : FVec Ideal S128x256 .bf16} (hv : R2 xv (fun i j => G.v (u0 + i) j)) (hd : R2 xd (fun l t => G.DT 1 l (t0 + t))) :
    R2 (matmul dot_S256x128_S128x256_S256x256_1_0_0_1_n_n none (extractStridedSlice S256x128 ![0, 0] xv slices_S256x256_o0_0_S256x128) xd (z0 S256x256)) (fun i j => G.DP 1 (t0 + j) (u0 + i)) :=
  (r_dot_S256x128_S128x256_S256x256_1_0_0_1_n_n (r_sl_S256x256_0_0 hv) hd).congr fun i j _ _ => by
    unfold Grp.DP; refine Finset.sum_congr rfl fun e _ => ?_; norm_num
theorem role_dk1' {g : ℕ → ℕ → ℝ} {xg : FVec Ideal S256x128 .f32} {da : FVec Ideal S256x256 .bf16} {qa : FVec Ideal S256x512 .bf16}
    (hg : R2 xg (fun i j => g (u0 + i) (128 + j))) (hda : R2 da (fun i j => G.DS 1 (t0 + j) (u0 + i))) (hqa : R2 qa (fun i j => G.q (t0 + i) j)) :
    R2 (addf xg (matmul dot_S256x256_S256x128_S256x128_1_0_0_1_n_n none da (extractStridedSlice S256x128 ![0, 128] qa slices_S256x512_o0_128_S256x128) (z0 S256x128)))
      (fun i j => g (u0 + i) (128 + j) + ∑ t ∈ Finset.range 256, G.DS 1 (t0 + t) (u0 + i) * G.q (t0 + t) (128 + j)) :=
  (r_add hg (r_dot_S256x256_S256x128_S256x128_1_0_0_1_n_n hda (r_sl_S256x512_0_128 hqa))).congr fun i j _ _ => by norm_num
theorem role_dk1 {g : ℕ → ℕ → ℝ} {xg : FVec Ideal S256x128 .f32} {da db : FVec Ideal S256x256 .bf16} {qa qb : FVec Ideal S256x512 .bf16}
    (hg : R2 xg (fun i j => g (u0 + i) (128 + j))) (hda : R2 da (fun i j => G.DS 1 (t0 + j) (u0 + i))) (hdb : R2 db (fun i j => G.DS 1 (t0 + 256 + j) (u0 + i)))
    (hqa : R2 qa (fun i j => G.q (t0 + i) j)) (hqb : R2 qb (fun i j => G.q (t0 + 256 + i) j)) :
    R2 (addf xg (matmul dot_S256x512_S512x128_S256x128_1_0_0_1_n_n none (concatenate S256x512 1 [⟨S256x256, da⟩, ⟨S256x256, db⟩] concatenates_S256x256_S256x256_S256x512_d1)
        (concatenate S512x128 0 [⟨S256x128, (extractStridedSlice S256x128 ![0, 128] qa slices_S256x512_o0_128_S256x128)⟩, ⟨S256x128, (extractStridedSlice S256x128 ![0, 128] qb slices_S256x512_o0_128_S256x128)⟩] concatenates_S256x128_S256x128_S512x128_d0) (z0 S256x128)))
      (fun i j => g (u0 + i) (128 + j) + ∑ t ∈ Finset.range 512, G.DS 1 (t0 + t) (u0 + i) * G.q (t0 + t) (128 + j)) :=
  (r_add hg (r_dot_S256x512_S512x128_S256x128_1_0_0_1_n_n (r_cat_S256x512 hda hdb) (r_cat_S512x128 (r_sl_S256x512_0_128 hqa) (r_sl_S256x512_0_128 hqb)))).congr fun i j _ _ => by
    refine congrArg _ (cat_sum (fun t => G.DS 1 (t0 + t) (u0 + i)) (fun t => G.q (t0 + t) (128 + j)) (fun t => G.DS 1 (t0 + t) (u0 + i)) (fun t => G.DS 1 (t0 + 256 + t) (u0 + i)) (fun t => G.q (t0 + t) (128 + j)) (fun t => G.q (t0 + 256 + t) (128 + j)) ?_ ?_ ?_ ?_) <;> intro t _ <;> simp only [Nat.add_assoc, Nat.zero_add]
theorem role_dq1 {g : ℕ → ℕ → ℝ} {xg : FVec Ideal S128x256 .f32} {da : FVec Ideal S256x256 .bf16} {xt : FVec Ideal S512x256 .bf16}
    (hg : R2 xg (fun i j => g (128 + i) (t0 + j))) (hda : R2 da (fun i j => G.DS 1 (t0 + j) (u0 + i))) (ht : R2 xt (fun i j => G.k (u0 + j) i)) :
    R2 (shapeCast S128x256 (addf xg (matmul dot_S128x256_S256x256_S128x256_1_0_0_1_n_n none (extractStridedSlice S128x256 ![128, 0] xt slices_S512x256_o128_0_S128x256) da (z0 S128x256))) shapeCasts_S128x256_S128x256)
      (fun i j => g (128 + i) (t0 + j) + ∑ u ∈ Finset.range 256, G.k (u0 + u) (128 + i) * G.DS 1 (t0 + j) (u0 + u)) :=
  (r_id_S128x256_f32 (r_add hg (r_dot_S128x256_S256x256_S128x256_1_0_0_1_n_n (r_sl_S512x256_128_0 ht) hda))).congr fun i j _ _ => by norm_num
theorem role_dv1' {s : ℕ} {g : ℕ → ℕ → ℕ → ℝ} {xg : FVec Ideal S1x64x256 .f32} {pa : FVec Ideal S256x256 .bf16} {da : FVec Ideal S128x256 .bf16}
    (hg : R3 xg (fun _ i j => g s (64 + i) j)) (hpa : R2 pa (fun i j => G.P 1 (t0 + j) (u0 + i))) (hda : R2 da (fun l t => G.DT 1 l (t0 + t))) :
    R3 (shapeCast S1x64x256 (addf (shapeCast S64x256 xg shapeCasts_S1x64x256_S64x256) (matmul dot_S64x256_S256x256_S64x256_1_1_0_0_n_n none (extractStridedSlice S64x256 ![64, 0] da slices_S128x256_o64_0_S64x256) pa (z0 S64x256))) shapeCasts_S64x256_S1x64x256)
      (fun _ i j => g s (64 + i) j + ∑ t ∈ Finset.range 256, G.d (t0 + t) (64 + i) * G.P 1 (t0 + t) (u0 + j)) :=
  (r_up_S64x256 (r_add (r_sc_S1x64x256_f32 hg) (r_dot_S64x256_S256x256_S64x256_1_1_0_0_n_n (r_sl_S128x256_64_0 hda) hpa))).congr fun _ i j _ hi _ => by
    unfold Grp.DT
    refine congrArg _ (Finset.sum_congr rfl fun t _ => ?_)
    rw [if_pos (by omega)]; try (congr 2; omega)
theorem role_dv1 {s : ℕ} {g : ℕ → ℕ → ℕ → ℝ} {xg : FVec Ideal S1x64x256 .f32} {pa pb : FVec Ideal S256x256 .bf16} {da db : FVec Ideal S128x256 .bf16}
    (hg : R3 xg (fun _ i j => g s (64 + i) j)) (hpa : R2 pa (fun i j => G.P 1 (t0 + j) (u0 + i))) (hpb : R2 pb (fun i j => G.P 1 (t0 + 256 + j) (u0 + i)))
    (hda : R2 da (fun l t => G.DT 1 l (t0 + t))) (hdb : R2 db (fun l t => G.DT 1 l (t0 + 256 + t))) :
    R3 (shapeCast S1x64x256 (addf (shapeCast S64x256 xg shapeCasts_S1x64x256_S64x256) (matmul dot_S64x512_S256x512_S64x256_1_1_0_0_n_n none
        (concatenate S64x512 1 [⟨S64x256, (extractStridedSlice S64x256 ![64, 0] da slices_S128x256_o64_0_S64x256)⟩, ⟨S64x256, (extractStridedSlice S64x256 ![64, 0] db slices_S128x256_o64_0_S64x256)⟩] concatenates_S64x256_S64x256_S64x512_d1)
        (concatenate S256x512 1 [⟨S256x256, pa⟩, ⟨S256x256, pb⟩] concatenates_S256x256_S256x256_S256x512_d1) (z0 S64x256))) shapeCasts_S64x256_S1x64x256)
      (fun _ i j => g s (64 + i) j + ∑ t ∈ Finset.range 512, G.d (t0 + t) (64 + i) * G.P 1 (t0 + t) (u0 + j)) :=
  (r_up_S64x256 (r_add (r_sc_S1x64x256_f32 hg) (r_dot_S64x512_S256x512_S64x256_1_1_0_0_n_n (r_cat_S64x512 (r_sl_S128x256_64_0 hda) (r_sl_S128x256_64_0 hdb)) (r_cat_S256x512 hpa hpb)))).congr fun _ i j _ hi _ => by
    refine congrArg _ (cat_sum (fun t => G.d (t0 + t) (64 + i)) (fun t => G.P 1 (t0 + t) (u0 + j)) (fun t => G.DT 1 (64 + i) (t0 + t)) (fun t => G.DT 1 (64 + i) (t0 + 256 + t)) (fun t => G.P 1 (t0 + t) (u0 + j)) (fun t => G.P 1 (t0 + 256 + t) (u0 + j)) ?_ ?_ ?_ ?_) <;> intro t _
    · unfold Grp.DT; rw [if_pos (by omega)]; try (congr 1; omega)
    · unfold Grp.DT; rw [if_pos (by omega)]; try (congr 1 <;> omega)
    · rfl
    · simp only [Nat.add_assoc]

/-- Head 2. -/
theorem role_s2 {xk xq : FVec Ideal S256x512 .bf16} (hk : R2 xk (fun i j => G.k (u0 + i) j)) (hq : R2 xq (fun i j => G.q (t0 + i) j)) :
    R2 (matmul dot_S256x128_S256x128_S256x256_1_1_0_0_n_n none (extractStridedSlice S256x128 ![0, 256] xk slices_S256x512_o0_256_S256x128) (extractStridedSlice S256x128 ![0, 256] xq slices_S256x512_o0_256_S256x128) (z0 S256x256)) (fun i j => G.S 2 (t0 + j) (u0 + i)) :=
  (r_dot_S256x128_S256x128_S256x256_1_1_0_0_n_n (r_sl_S256x512_0_256 hk) (r_sl_S256x512_0_256 hq)).congr fun i j _ _ => by
    unfold Grp.S; refine Finset.sum_congr rfl fun e _ => ?_; norm_num
theorem role_dp2 {xv : FVec Ideal S256x256 .bf16} {xd : FVec Ideal S128x256 .bf16} (hv : R2 xv (fun i j => G.v (u0 + i) j)) (hd : R2 xd (fun l t => G.DT 2 l (t0 + t))) :
    R2 (matmul dot_S256x128_S128x256_S256x256_1_0_0_1_n_n none (extractStridedSlice S256x128 ![0, 128] xv slices_S256x256_o0_128_S256x128) xd (z0 S256x256)) (fun i j => G.DP 2 (t0 + j) (u0 + i)) :=
  (r_dot_S256x128_S128x256_S256x256_1_0_0_1_n_n (r_sl_S256x256_0_128 hv) hd).congr fun i j _ _ => by
    unfold Grp.DP; refine Finset.sum_congr rfl fun e _ => ?_; norm_num
theorem role_dk2' {g : ℕ → ℕ → ℝ} {xg : FVec Ideal S256x128 .f32} {da : FVec Ideal S256x256 .bf16} {qa : FVec Ideal S256x512 .bf16}
    (hg : R2 xg (fun i j => g (u0 + i) (256 + j))) (hda : R2 da (fun i j => G.DS 2 (t0 + j) (u0 + i))) (hqa : R2 qa (fun i j => G.q (t0 + i) j)) :
    R2 (addf xg (matmul dot_S256x256_S256x128_S256x128_1_0_0_1_n_n none da (extractStridedSlice S256x128 ![0, 256] qa slices_S256x512_o0_256_S256x128) (z0 S256x128)))
      (fun i j => g (u0 + i) (256 + j) + ∑ t ∈ Finset.range 256, G.DS 2 (t0 + t) (u0 + i) * G.q (t0 + t) (256 + j)) :=
  (r_add hg (r_dot_S256x256_S256x128_S256x128_1_0_0_1_n_n hda (r_sl_S256x512_0_256 hqa))).congr fun i j _ _ => by norm_num
theorem role_dk2 {g : ℕ → ℕ → ℝ} {xg : FVec Ideal S256x128 .f32} {da db : FVec Ideal S256x256 .bf16} {qa qb : FVec Ideal S256x512 .bf16}
    (hg : R2 xg (fun i j => g (u0 + i) (256 + j))) (hda : R2 da (fun i j => G.DS 2 (t0 + j) (u0 + i))) (hdb : R2 db (fun i j => G.DS 2 (t0 + 256 + j) (u0 + i)))
    (hqa : R2 qa (fun i j => G.q (t0 + i) j)) (hqb : R2 qb (fun i j => G.q (t0 + 256 + i) j)) :
    R2 (addf xg (matmul dot_S256x512_S512x128_S256x128_1_0_0_1_n_n none (concatenate S256x512 1 [⟨S256x256, da⟩, ⟨S256x256, db⟩] concatenates_S256x256_S256x256_S256x512_d1)
        (concatenate S512x128 0 [⟨S256x128, (extractStridedSlice S256x128 ![0, 256] qa slices_S256x512_o0_256_S256x128)⟩, ⟨S256x128, (extractStridedSlice S256x128 ![0, 256] qb slices_S256x512_o0_256_S256x128)⟩] concatenates_S256x128_S256x128_S512x128_d0) (z0 S256x128)))
      (fun i j => g (u0 + i) (256 + j) + ∑ t ∈ Finset.range 512, G.DS 2 (t0 + t) (u0 + i) * G.q (t0 + t) (256 + j)) :=
  (r_add hg (r_dot_S256x512_S512x128_S256x128_1_0_0_1_n_n (r_cat_S256x512 hda hdb) (r_cat_S512x128 (r_sl_S256x512_0_256 hqa) (r_sl_S256x512_0_256 hqb)))).congr fun i j _ _ => by
    refine congrArg _ (cat_sum (fun t => G.DS 2 (t0 + t) (u0 + i)) (fun t => G.q (t0 + t) (256 + j)) (fun t => G.DS 2 (t0 + t) (u0 + i)) (fun t => G.DS 2 (t0 + 256 + t) (u0 + i)) (fun t => G.q (t0 + t) (256 + j)) (fun t => G.q (t0 + 256 + t) (256 + j)) ?_ ?_ ?_ ?_) <;> intro t _ <;> simp only [Nat.add_assoc, Nat.zero_add]
theorem role_dq2 {g : ℕ → ℕ → ℝ} {xg : FVec Ideal S128x256 .f32} {da : FVec Ideal S256x256 .bf16} {xt : FVec Ideal S512x256 .bf16}
    (hg : R2 xg (fun i j => g (256 + i) (t0 + j))) (hda : R2 da (fun i j => G.DS 2 (t0 + j) (u0 + i))) (ht : R2 xt (fun i j => G.k (u0 + j) i)) :
    R2 (shapeCast S128x256 (addf xg (matmul dot_S128x256_S256x256_S128x256_1_0_0_1_n_n none (extractStridedSlice S128x256 ![256, 0] xt slices_S512x256_o256_0_S128x256) da (z0 S128x256))) shapeCasts_S128x256_S128x256)
      (fun i j => g (256 + i) (t0 + j) + ∑ u ∈ Finset.range 256, G.k (u0 + u) (256 + i) * G.DS 2 (t0 + j) (u0 + u)) :=
  (r_id_S128x256_f32 (r_add hg (r_dot_S128x256_S256x256_S128x256_1_0_0_1_n_n (r_sl_S512x256_256_0 ht) hda))).congr fun i j _ _ => by norm_num
theorem role_dv2' {s : ℕ} {g : ℕ → ℕ → ℕ → ℝ} {xg : FVec Ideal S1x64x256 .f32} {pa : FVec Ideal S256x256 .bf16} {da : FVec Ideal S128x256 .bf16}
    (hg : R3 xg (fun _ i j => g s (128 + i) j)) (hpa : R2 pa (fun i j => G.P 2 (t0 + j) (u0 + i))) (hda : R2 da (fun l t => G.DT 2 l (t0 + t))) :
    R3 (shapeCast S1x64x256 (addf (shapeCast S64x256 xg shapeCasts_S1x64x256_S64x256) (matmul dot_S64x256_S256x256_S64x256_1_1_0_0_n_n none (extractStridedSlice S64x256 ![0, 0] da slices_S128x256_o0_0_S64x256) pa (z0 S64x256))) shapeCasts_S64x256_S1x64x256)
      (fun _ i j => g s (128 + i) j + ∑ t ∈ Finset.range 256, G.d (t0 + t) (128 + i) * G.P 2 (t0 + t) (u0 + j)) :=
  (r_up_S64x256 (r_add (r_sc_S1x64x256_f32 hg) (r_dot_S64x256_S256x256_S64x256_1_1_0_0_n_n (r_sl_S128x256_0_0 hda) hpa))).congr fun _ i j _ hi _ => by
    unfold Grp.DT
    refine congrArg _ (Finset.sum_congr rfl fun t _ => ?_)
    rw [if_pos (by omega)]; try (congr 2; omega)
theorem role_dv2 {s : ℕ} {g : ℕ → ℕ → ℕ → ℝ} {xg : FVec Ideal S1x64x256 .f32} {pa pb : FVec Ideal S256x256 .bf16} {da db : FVec Ideal S128x256 .bf16}
    (hg : R3 xg (fun _ i j => g s (128 + i) j)) (hpa : R2 pa (fun i j => G.P 2 (t0 + j) (u0 + i))) (hpb : R2 pb (fun i j => G.P 2 (t0 + 256 + j) (u0 + i)))
    (hda : R2 da (fun l t => G.DT 2 l (t0 + t))) (hdb : R2 db (fun l t => G.DT 2 l (t0 + 256 + t))) :
    R3 (shapeCast S1x64x256 (addf (shapeCast S64x256 xg shapeCasts_S1x64x256_S64x256) (matmul dot_S64x512_S256x512_S64x256_1_1_0_0_n_n none
        (concatenate S64x512 1 [⟨S64x256, (extractStridedSlice S64x256 ![0, 0] da slices_S128x256_o0_0_S64x256)⟩, ⟨S64x256, (extractStridedSlice S64x256 ![0, 0] db slices_S128x256_o0_0_S64x256)⟩] concatenates_S64x256_S64x256_S64x512_d1)
        (concatenate S256x512 1 [⟨S256x256, pa⟩, ⟨S256x256, pb⟩] concatenates_S256x256_S256x256_S256x512_d1) (z0 S64x256))) shapeCasts_S64x256_S1x64x256)
      (fun _ i j => g s (128 + i) j + ∑ t ∈ Finset.range 512, G.d (t0 + t) (128 + i) * G.P 2 (t0 + t) (u0 + j)) :=
  (r_up_S64x256 (r_add (r_sc_S1x64x256_f32 hg) (r_dot_S64x512_S256x512_S64x256_1_1_0_0_n_n (r_cat_S64x512 (r_sl_S128x256_0_0 hda) (r_sl_S128x256_0_0 hdb)) (r_cat_S256x512 hpa hpb)))).congr fun _ i j _ hi _ => by
    refine congrArg _ (cat_sum (fun t => G.d (t0 + t) (128 + i)) (fun t => G.P 2 (t0 + t) (u0 + j)) (fun t => G.DT 2 i (t0 + t)) (fun t => G.DT 2 i (t0 + 256 + t)) (fun t => G.P 2 (t0 + t) (u0 + j)) (fun t => G.P 2 (t0 + 256 + t) (u0 + j)) ?_ ?_ ?_ ?_) <;> intro t _
    · unfold Grp.DT; rw [if_pos (by omega)]; try (congr 1; omega)
    · unfold Grp.DT; rw [if_pos (by omega)]; try (congr 1 <;> omega)
    · rfl
    · simp only [Nat.add_assoc]

/-- Head 3. -/
theorem role_s3 {xk xq : FVec Ideal S256x512 .bf16} (hk : R2 xk (fun i j => G.k (u0 + i) j)) (hq : R2 xq (fun i j => G.q (t0 + i) j)) :
    R2 (matmul dot_S256x128_S256x128_S256x256_1_1_0_0_n_n none (extractStridedSlice S256x128 ![0, 384] xk slices_S256x512_o0_384_S256x128) (extractStridedSlice S256x128 ![0, 384] xq slices_S256x512_o0_384_S256x128) (z0 S256x256)) (fun i j => G.S 3 (t0 + j) (u0 + i)) :=
  (r_dot_S256x128_S256x128_S256x256_1_1_0_0_n_n (r_sl_S256x512_0_384 hk) (r_sl_S256x512_0_384 hq)).congr fun i j _ _ => by
    unfold Grp.S; refine Finset.sum_congr rfl fun e _ => ?_; norm_num
theorem role_dp3 {xv : FVec Ideal S256x256 .bf16} {xd : FVec Ideal S128x256 .bf16} (hv : R2 xv (fun i j => G.v (u0 + i) j)) (hd : R2 xd (fun l t => G.DT 3 l (t0 + t))) :
    R2 (matmul dot_S256x128_S128x256_S256x256_1_0_0_1_n_n none (extractStridedSlice S256x128 ![0, 128] xv slices_S256x256_o0_128_S256x128) xd (z0 S256x256)) (fun i j => G.DP 3 (t0 + j) (u0 + i)) :=
  (r_dot_S256x128_S128x256_S256x256_1_0_0_1_n_n (r_sl_S256x256_0_128 hv) hd).congr fun i j _ _ => by
    unfold Grp.DP; refine Finset.sum_congr rfl fun e _ => ?_; norm_num
theorem role_dk3' {g : ℕ → ℕ → ℝ} {xg : FVec Ideal S256x128 .f32} {da : FVec Ideal S256x256 .bf16} {qa : FVec Ideal S256x512 .bf16}
    (hg : R2 xg (fun i j => g (u0 + i) (384 + j))) (hda : R2 da (fun i j => G.DS 3 (t0 + j) (u0 + i))) (hqa : R2 qa (fun i j => G.q (t0 + i) j)) :
    R2 (addf xg (matmul dot_S256x256_S256x128_S256x128_1_0_0_1_n_n none da (extractStridedSlice S256x128 ![0, 384] qa slices_S256x512_o0_384_S256x128) (z0 S256x128)))
      (fun i j => g (u0 + i) (384 + j) + ∑ t ∈ Finset.range 256, G.DS 3 (t0 + t) (u0 + i) * G.q (t0 + t) (384 + j)) :=
  (r_add hg (r_dot_S256x256_S256x128_S256x128_1_0_0_1_n_n hda (r_sl_S256x512_0_384 hqa))).congr fun i j _ _ => by norm_num
theorem role_dk3 {g : ℕ → ℕ → ℝ} {xg : FVec Ideal S256x128 .f32} {da db : FVec Ideal S256x256 .bf16} {qa qb : FVec Ideal S256x512 .bf16}
    (hg : R2 xg (fun i j => g (u0 + i) (384 + j))) (hda : R2 da (fun i j => G.DS 3 (t0 + j) (u0 + i))) (hdb : R2 db (fun i j => G.DS 3 (t0 + 256 + j) (u0 + i)))
    (hqa : R2 qa (fun i j => G.q (t0 + i) j)) (hqb : R2 qb (fun i j => G.q (t0 + 256 + i) j)) :
    R2 (addf xg (matmul dot_S256x512_S512x128_S256x128_1_0_0_1_n_n none (concatenate S256x512 1 [⟨S256x256, da⟩, ⟨S256x256, db⟩] concatenates_S256x256_S256x256_S256x512_d1)
        (concatenate S512x128 0 [⟨S256x128, (extractStridedSlice S256x128 ![0, 384] qa slices_S256x512_o0_384_S256x128)⟩, ⟨S256x128, (extractStridedSlice S256x128 ![0, 384] qb slices_S256x512_o0_384_S256x128)⟩] concatenates_S256x128_S256x128_S512x128_d0) (z0 S256x128)))
      (fun i j => g (u0 + i) (384 + j) + ∑ t ∈ Finset.range 512, G.DS 3 (t0 + t) (u0 + i) * G.q (t0 + t) (384 + j)) :=
  (r_add hg (r_dot_S256x512_S512x128_S256x128_1_0_0_1_n_n (r_cat_S256x512 hda hdb) (r_cat_S512x128 (r_sl_S256x512_0_384 hqa) (r_sl_S256x512_0_384 hqb)))).congr fun i j _ _ => by
    refine congrArg _ (cat_sum (fun t => G.DS 3 (t0 + t) (u0 + i)) (fun t => G.q (t0 + t) (384 + j)) (fun t => G.DS 3 (t0 + t) (u0 + i)) (fun t => G.DS 3 (t0 + 256 + t) (u0 + i)) (fun t => G.q (t0 + t) (384 + j)) (fun t => G.q (t0 + 256 + t) (384 + j)) ?_ ?_ ?_ ?_) <;> intro t _ <;> simp only [Nat.add_assoc, Nat.zero_add]
theorem role_dq3 {g : ℕ → ℕ → ℝ} {xg : FVec Ideal S128x256 .f32} {da : FVec Ideal S256x256 .bf16} {xt : FVec Ideal S512x256 .bf16}
    (hg : R2 xg (fun i j => g (384 + i) (t0 + j))) (hda : R2 da (fun i j => G.DS 3 (t0 + j) (u0 + i))) (ht : R2 xt (fun i j => G.k (u0 + j) i)) :
    R2 (shapeCast S128x256 (addf xg (matmul dot_S128x256_S256x256_S128x256_1_0_0_1_n_n none (extractStridedSlice S128x256 ![384, 0] xt slices_S512x256_o384_0_S128x256) da (z0 S128x256))) shapeCasts_S128x256_S128x256)
      (fun i j => g (384 + i) (t0 + j) + ∑ u ∈ Finset.range 256, G.k (u0 + u) (384 + i) * G.DS 3 (t0 + j) (u0 + u)) :=
  (r_id_S128x256_f32 (r_add hg (r_dot_S128x256_S256x256_S128x256_1_0_0_1_n_n (r_sl_S512x256_384_0 ht) hda))).congr fun i j _ _ => by norm_num
theorem role_dv3' {s : ℕ} {g : ℕ → ℕ → ℕ → ℝ} {xg : FVec Ideal S1x64x256 .f32} {pa : FVec Ideal S256x256 .bf16} {da : FVec Ideal S128x256 .bf16}
    (hg : R3 xg (fun _ i j => g s (192 + i) j)) (hpa : R2 pa (fun i j => G.P 3 (t0 + j) (u0 + i))) (hda : R2 da (fun l t => G.DT 3 l (t0 + t))) :
    R3 (shapeCast S1x64x256 (addf (shapeCast S64x256 xg shapeCasts_S1x64x256_S64x256) (matmul dot_S64x256_S256x256_S64x256_1_1_0_0_n_n none (extractStridedSlice S64x256 ![64, 0] da slices_S128x256_o64_0_S64x256) pa (z0 S64x256))) shapeCasts_S64x256_S1x64x256)
      (fun _ i j => g s (192 + i) j + ∑ t ∈ Finset.range 256, G.d (t0 + t) (192 + i) * G.P 3 (t0 + t) (u0 + j)) :=
  (r_up_S64x256 (r_add (r_sc_S1x64x256_f32 hg) (r_dot_S64x256_S256x256_S64x256_1_1_0_0_n_n (r_sl_S128x256_64_0 hda) hpa))).congr fun _ i j _ hi _ => by
    unfold Grp.DT
    refine congrArg _ (Finset.sum_congr rfl fun t _ => ?_)
    rw [if_pos (by omega)]; try (congr 2; omega)
theorem role_dv3 {s : ℕ} {g : ℕ → ℕ → ℕ → ℝ} {xg : FVec Ideal S1x64x256 .f32} {pa pb : FVec Ideal S256x256 .bf16} {da db : FVec Ideal S128x256 .bf16}
    (hg : R3 xg (fun _ i j => g s (192 + i) j)) (hpa : R2 pa (fun i j => G.P 3 (t0 + j) (u0 + i))) (hpb : R2 pb (fun i j => G.P 3 (t0 + 256 + j) (u0 + i)))
    (hda : R2 da (fun l t => G.DT 3 l (t0 + t))) (hdb : R2 db (fun l t => G.DT 3 l (t0 + 256 + t))) :
    R3 (shapeCast S1x64x256 (addf (shapeCast S64x256 xg shapeCasts_S1x64x256_S64x256) (matmul dot_S64x512_S256x512_S64x256_1_1_0_0_n_n none
        (concatenate S64x512 1 [⟨S64x256, (extractStridedSlice S64x256 ![64, 0] da slices_S128x256_o64_0_S64x256)⟩, ⟨S64x256, (extractStridedSlice S64x256 ![64, 0] db slices_S128x256_o64_0_S64x256)⟩] concatenates_S64x256_S64x256_S64x512_d1)
        (concatenate S256x512 1 [⟨S256x256, pa⟩, ⟨S256x256, pb⟩] concatenates_S256x256_S256x256_S256x512_d1) (z0 S64x256))) shapeCasts_S64x256_S1x64x256)
      (fun _ i j => g s (192 + i) j + ∑ t ∈ Finset.range 512, G.d (t0 + t) (192 + i) * G.P 3 (t0 + t) (u0 + j)) :=
  (r_up_S64x256 (r_add (r_sc_S1x64x256_f32 hg) (r_dot_S64x512_S256x512_S64x256_1_1_0_0_n_n (r_cat_S64x512 (r_sl_S128x256_64_0 hda) (r_sl_S128x256_64_0 hdb)) (r_cat_S256x512 hpa hpb)))).congr fun _ i j _ hi _ => by
    refine congrArg _ (cat_sum (fun t => G.d (t0 + t) (192 + i)) (fun t => G.P 3 (t0 + t) (u0 + j)) (fun t => G.DT 3 (64 + i) (t0 + t)) (fun t => G.DT 3 (64 + i) (t0 + 256 + t)) (fun t => G.P 3 (t0 + t) (u0 + j)) (fun t => G.P 3 (t0 + 256 + t) (u0 + j)) ?_ ?_ ?_ ?_) <;> intro t _
    · unfold Grp.DT; rw [if_pos (by omega)]; try (congr 1; omega)
    · unfold Grp.DT; rw [if_pos (by omega)]; try (congr 1 <;> omega)
    · rfl
    · simp only [Nat.add_assoc]

end Cert.MlaIdeal.Gen

end
-- ==== Proof.MlaIdealState.lean ====
/- A buffer of reals: what a load reads of it, and what it holds after a store. -/
module

public import proofs.«01_k».proof.Proof.MlaIdealReal
public import Idealize.ShloMosaic.Lib.Writes
public import Idealize.ShloMosaic.Lib.WholeRead
public import Idealize.ShloMosaic.Lib.Pipeline.Kit

@[expose] public section

set_option maxRecDepth 16384

noncomputable section

namespace Cert.MlaIdeal.Gen

open Idealize.ShloMosaic Cert.Coe Cert.MlaIdeal

theorem ld2_f32 {a b s0 s1 : ℕ} {arg : Memref sig .tc .vmem ⟨2, ![a, b]⟩ .f32} {F : BufTy.Contents (Elt Ideal) arg.view.ty} {g : ℕ → ℕ → ℝ}
    (hF : R2 (arg.view.read (Elt Ideal) F) g) {o : Fin 2 → ℕ} (o0 o1 : ℕ) (ho : o = ![o0, o1]) {h} :
    R2 (View.readAt (Elt Ideal) arg.view (Rect.unit (s := ⟨2, ![a, b]⟩) o ![s0, s1] h).toLoadRect F) (fun i j => g (o0 + i) (o1 + j)) := by
  subst ho
  intro i j
  refine Eq.trans ?_ (hF ⟨o0 + i.val, (Nat.add_lt_add_left i.2 _).trans_le (h 0)⟩ ⟨o1 + j.val, (Nat.add_lt_add_left j.2 _).trans_le (h 1)⟩)
  show arg.view.read (Elt Ideal) F _ = _
  refine congrArg _ (funext fun x => ?_)
  match x with
  | ⟨0, _⟩ => exact Fin.ext (by simp [LoadRect.idx, Rect.toLoadRect, Rect.unit, ix2])
  | ⟨1, _⟩ => exact Fin.ext (by simp [LoadRect.idx, Rect.toLoadRect, Rect.unit, ix2])
theorem ld3_f32 {a b c s0 s1 s2 : ℕ} {arg : Memref sig .tc .vmem ⟨3, ![a, b, c]⟩ .f32} {F : BufTy.Contents (Elt Ideal) arg.view.ty} {g : ℕ → ℕ → ℕ → ℝ}
    (hF : R3 (arg.view.read (Elt Ideal) F) g) {o : Fin 3 → ℕ} (o0 o1 o2 : ℕ) (ho : o = ![o0, o1, o2]) {h} :
    R3 (View.readAt (Elt Ideal) arg.view (Rect.unit (s := ⟨3, ![a, b, c]⟩) o ![s0, s1, s2] h).toLoadRect F) (fun i j k => g (o0 + i) (o1 + j) (o2 + k)) := by
  subst ho
  intro i j k
  refine Eq.trans ?_ (hF ⟨o0 + i.val, (Nat.add_lt_add_left i.2 _).trans_le (h 0)⟩ ⟨o1 + j.val, (Nat.add_lt_add_left j.2 _).trans_le (h 1)⟩ ⟨o2 + k.val, (Nat.add_lt_add_left k.2 _).trans_le (h 2)⟩)
  show arg.view.read (Elt Ideal) F _ = _
  refine congrArg _ (funext fun x => ?_)
  match x with
  | ⟨0, _⟩ => exact Fin.ext (by simp [LoadRect.idx, Rect.toLoadRect, Rect.unit, ix3])
  | ⟨1, _⟩ => exact Fin.ext (by simp [LoadRect.idx, Rect.toLoadRect, Rect.unit, ix3])
  | ⟨2, _⟩ => exact Fin.ext (by simp [LoadRect.idx, Rect.toLoadRect, Rect.unit, ix3])
theorem ld4_f32 {a b c d s0 s1 s2 s3 : ℕ} {arg : Memref sig .tc .vmem ⟨4, ![a, b, c, d]⟩ .f32} {F : BufTy.Contents (Elt Ideal) arg.view.ty} {g : ℕ → ℕ → ℕ → ℕ → ℝ}
    (hF : R4 (arg.view.read (Elt Ideal) F) g) {o : Fin 4 → ℕ} (o0 o1 o2 o3 : ℕ) (ho : o = ![o0, o1, o2, o3]) {h} :
    R4 (View.readAt (Elt Ideal) arg.view (Rect.unit (s := ⟨4, ![a, b, c, d]⟩) o ![s0, s1, s2, s3] h).toLoadRect F) (fun i j k l => g (o0 + i) (o1 + j) (o2 + k) (o3 + l)) := by
  subst ho
  intro i j k l
  refine Eq.trans ?_ (hF ⟨o0 + i.val, (Nat.add_lt_add_left i.2 _).trans_le (h 0)⟩ ⟨o1 + j.val, (Nat.add_lt_add_left j.2 _).trans_le (h 1)⟩ ⟨o2 + k.val, (Nat.add_lt_add_left k.2 _).trans_le (h 2)⟩ ⟨o3 + l.val, (Nat.add_lt_add_left l.2 _).trans_le (h 3)⟩)
  show arg.view.read (Elt Ideal) F _ = _
  refine congrArg _ (funext fun x => ?_)
  match x with
  | ⟨0, _⟩ => exact Fin.ext (by simp [LoadRect.idx, Rect.toLoadRect, Rect.unit, ix4])
  | ⟨1, _⟩ => exact Fin.ext (by simp [LoadRect.idx, Rect.toLoadRect, Rect.unit, ix4])
  | ⟨2, _⟩ => exact Fin.ext (by simp [LoadRect.idx, Rect.toLoadRect, Rect.unit, ix4])
  | ⟨3, _⟩ => exact Fin.ext (by simp [LoadRect.idx, Rect.toLoadRect, Rect.unit, ix4])

theorem st2_f32 {a b s0 s1 : ℕ} {arg : Memref sig .tc .vmem ⟨2, ![a, b]⟩ .f32} {F : BufTy.Contents (Elt Ideal) arg.view.ty} {L : List (View.Piece (Elt Ideal) ⟨2, ![a, b]⟩ .f32)}
    {g : ℕ → ℕ → ℝ} (hF : R2 (arg.view.read (Elt Ideal) (arg.view.writes (Elt Ideal) F L)) g) {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) :
    R2 (arg.view.read (Elt Ideal) (arg.view.writes (Elt Ideal) F (⟨Rect.unit (s := ⟨2, ![a, b]⟩) o ![s0, s1] h, p⟩ :: L)))
      (fun i j => if o0 ≤ i ∧ i < o0 + s0 ∧ o1 ≤ j ∧ j < o1 + s1 then w i j else g i j) := by
  subst ho
  intro i j
  by_cases cc : o0 ≤ i.val ∧ i.val < o0 + s0 ∧ o1 ≤ j.val ∧ j.val < o1 + s1
  · simp only [cc, and_self, if_true]
    refine (View.read_writes_cons_hit_of_coords arg.view F (Rect.unit (s := ⟨2, ![a, b]⟩) ![o0, o1] ![s0, s1] h) p L (ix2 ⟨i.val - o0, by omega⟩ ⟨j.val - o1, by omega⟩) (ix2 i j) ?_).trans ?_
    · intro x
      match x with
      | ⟨0, _⟩ => simp [Rect.unit, ix2]; omega
      | ⟨1, _⟩ => simp [Rect.unit, ix2]; omega
    · refine (hp ⟨i.val - o0, by omega⟩ ⟨j.val - o1, by omega⟩).trans (congrArg _ ?_)
      simp only [show o0 + (i.val - o0) = i.val by omega, show o1 + (j.val - o1) = j.val by omega]
  · have e : (if o0 ≤ i.val ∧ i.val < o0 + s0 ∧ o1 ≤ j.val ∧ j.val < o1 + s1 then w i j else g i j) = g i j := if_neg cc
    show _ = (((if o0 ≤ i.val ∧ i.val < o0 + s0 ∧ o1 ≤ j.val ∧ j.val < o1 + s1 then w i j else g i j) : ℝ) : EReal)
    rw [e]
    refine Eq.trans ?_ (hF i j)
    by_cases e0 : o0 ≤ i.val ∧ i.val < o0 + s0
    swap
    · exact View.read_writes_cons_miss_of_axis arg.view F _ L (ix2 i j) (0 : Fin 2) o0 s0 (by simp [Rect.unit]) (by simp [Rect.unit]) (by simp [Rect.unit]) (by show i.val < o0 ∨ o0 + s0 ≤ i.val; omega)
    exact View.read_writes_cons_miss_of_axis arg.view F _ L (ix2 i j) (1 : Fin 2) o1 s1 (by simp [Rect.unit]) (by simp [Rect.unit]) (by simp [Rect.unit]) (by show j.val < o1 ∨ o1 + s1 ≤ j.val; omega)

theorem st3_f32 {a b c s0 s1 s2 : ℕ} {arg : Memref sig .tc .vmem ⟨3, ![a, b, c]⟩ .f32} {F : BufTy.Contents (Elt Ideal) arg.view.ty} {L : List (View.Piece (Elt Ideal) ⟨3, ![a, b, c]⟩ .f32)}
    {g : ℕ → ℕ → ℕ → ℝ} (hF : R3 (arg.view.read (Elt Ideal) (arg.view.writes (Elt Ideal) F L)) g) {o : Fin 3 → ℕ} (o0 o1 o2 : ℕ) (ho : o = ![o0, o1, o2]) {h}
    {p : Shape.Idx ⟨3, ![s0, s1, s2]⟩ → EReal} (w : ℕ → ℕ → ℕ → ℝ) (hp : R3 p (fun i j k => w (o0 + i) (o1 + j) (o2 + k))) :
    R3 (arg.view.read (Elt Ideal) (arg.view.writes (Elt Ideal) F (⟨Rect.unit (s := ⟨3, ![a, b, c]⟩) o ![s0, s1, s2] h, p⟩ :: L)))
      (fun i j k => if o0 ≤ i ∧ i < o0 + s0 ∧ o1 ≤ j ∧ j < o1 + s1 ∧ o2 ≤ k ∧ k < o2 + s2 then w i j k else g i j k) := by
  subst ho
  intro i j k
  by_cases cc : o0 ≤ i.val ∧ i.val < o0 + s0 ∧ o1 ≤ j.val ∧ j.val < o1 + s1 ∧ o2 ≤ k.val ∧ k.val < o2 + s2
  · simp only [cc, and_self, if_true]
    refine (View.read_writes_cons_hit_of_coords arg.view F (Rect.unit (s := ⟨3, ![a, b, c]⟩) ![o0, o1, o2] ![s0, s1, s2] h) p L (ix3 ⟨i.val - o0, by omega⟩ ⟨j.val - o1, by omega⟩ ⟨k.val - o2, by omega⟩) (ix3 i j k) ?_).trans ?_
    · intro x
      match x with
      | ⟨0, _⟩ => simp [Rect.unit, ix3]; omega
      | ⟨1, _⟩ => simp [Rect.unit, ix3]; omega
      | ⟨2, _⟩ => simp [Rect.unit, ix3]; omega
    · refine (hp ⟨i.val - o0, by omega⟩ ⟨j.val - o1, by omega⟩ ⟨k.val - o2, by omega⟩).trans (congrArg _ ?_)
      simp only [show o0 + (i.val - o0) = i.val by omega, show o1 + (j.val - o1) = j.val by omega, show o2 + (k.val - o2) = k.val by omega]
  · have e : (if o0 ≤ i.val ∧ i.val < o0 + s0 ∧ o1 ≤ j.val ∧ j.val < o1 + s1 ∧ o2 ≤ k.val ∧ k.val < o2 + s2 then w i j k else g i j k) = g i j k := if_neg cc
    show _ = (((if o0 ≤ i.val ∧ i.val < o0 + s0 ∧ o1 ≤ j.val ∧ j.val < o1 + s1 ∧ o2 ≤ k.val ∧ k.val < o2 + s2 then w i j k else g i j k) : ℝ) : EReal)
    rw [e]
    refine Eq.trans ?_ (hF i j k)
    by_cases e0 : o0 ≤ i.val ∧ i.val < o0 + s0
    swap
    · exact View.read_writes_cons_miss_of_axis arg.view F _ L (ix3 i j k) (0 : Fin 3) o0 s0 (by simp [Rect.unit]) (by simp [Rect.unit]) (by simp [Rect.unit]) (by show i.val < o0 ∨ o0 + s0 ≤ i.val; omega)
    by_cases e1 : o1 ≤ j.val ∧ j.val < o1 + s1
    swap
    · exact View.read_writes_cons_miss_of_axis arg.view F _ L (ix3 i j k) (1 : Fin 3) o1 s1 (by simp [Rect.unit]) (by simp [Rect.unit]) (by simp [Rect.unit]) (by show j.val < o1 ∨ o1 + s1 ≤ j.val; omega)
    exact View.read_writes_cons_miss_of_axis arg.view F _ L (ix3 i j k) (2 : Fin 3) o2 s2 (by simp [Rect.unit]) (by simp [Rect.unit]) (by simp [Rect.unit]) (by show k.val < o2 ∨ o2 + s2 ≤ k.val; omega)

theorem ld2_bf16 {a b s0 s1 : ℕ} {arg : Memref sig .tc .vmem ⟨2, ![a, b]⟩ .bf16} {F : BufTy.Contents (Elt Ideal) arg.view.ty} {g : ℕ → ℕ → ℝ}
    (hF : R2 (arg.view.read (Elt Ideal) F) g) {o : Fin 2 → ℕ} (o0 o1 : ℕ) (ho : o = ![o0, o1]) {h} :
    R2 (View.readAt (Elt Ideal) arg.view (Rect.unit (s := ⟨2, ![a, b]⟩) o ![s0, s1] h).toLoadRect F) (fun i j => g (o0 + i) (o1 + j)) := by
  subst ho
  intro i j
  refine Eq.trans ?_ (hF ⟨o0 + i.val, (Nat.add_lt_add_left i.2 _).trans_le (h 0)⟩ ⟨o1 + j.val, (Nat.add_lt_add_left j.2 _).trans_le (h 1)⟩)
  show arg.view.read (Elt Ideal) F _ = _
  refine congrArg _ (funext fun x => ?_)
  match x with
  | ⟨0, _⟩ => exact Fin.ext (by simp [LoadRect.idx, Rect.toLoadRect, Rect.unit, ix2])
  | ⟨1, _⟩ => exact Fin.ext (by simp [LoadRect.idx, Rect.toLoadRect, Rect.unit, ix2])
theorem ld3_bf16 {a b c s0 s1 s2 : ℕ} {arg : Memref sig .tc .vmem ⟨3, ![a, b, c]⟩ .bf16} {F : BufTy.Contents (Elt Ideal) arg.view.ty} {g : ℕ → ℕ → ℕ → ℝ}
    (hF : R3 (arg.view.read (Elt Ideal) F) g) {o : Fin 3 → ℕ} (o0 o1 o2 : ℕ) (ho : o = ![o0, o1, o2]) {h} :
    R3 (View.readAt (Elt Ideal) arg.view (Rect.unit (s := ⟨3, ![a, b, c]⟩) o ![s0, s1, s2] h).toLoadRect F) (fun i j k => g (o0 + i) (o1 + j) (o2 + k)) := by
  subst ho
  intro i j k
  refine Eq.trans ?_ (hF ⟨o0 + i.val, (Nat.add_lt_add_left i.2 _).trans_le (h 0)⟩ ⟨o1 + j.val, (Nat.add_lt_add_left j.2 _).trans_le (h 1)⟩ ⟨o2 + k.val, (Nat.add_lt_add_left k.2 _).trans_le (h 2)⟩)
  show arg.view.read (Elt Ideal) F _ = _
  refine congrArg _ (funext fun x => ?_)
  match x with
  | ⟨0, _⟩ => exact Fin.ext (by simp [LoadRect.idx, Rect.toLoadRect, Rect.unit, ix3])
  | ⟨1, _⟩ => exact Fin.ext (by simp [LoadRect.idx, Rect.toLoadRect, Rect.unit, ix3])
  | ⟨2, _⟩ => exact Fin.ext (by simp [LoadRect.idx, Rect.toLoadRect, Rect.unit, ix3])
theorem ld4_bf16 {a b c d s0 s1 s2 s3 : ℕ} {arg : Memref sig .tc .vmem ⟨4, ![a, b, c, d]⟩ .bf16} {F : BufTy.Contents (Elt Ideal) arg.view.ty} {g : ℕ → ℕ → ℕ → ℕ → ℝ}
    (hF : R4 (arg.view.read (Elt Ideal) F) g) {o : Fin 4 → ℕ} (o0 o1 o2 o3 : ℕ) (ho : o = ![o0, o1, o2, o3]) {h} :
    R4 (View.readAt (Elt Ideal) arg.view (Rect.unit (s := ⟨4, ![a, b, c, d]⟩) o ![s0, s1, s2, s3] h).toLoadRect F) (fun i j k l => g (o0 + i) (o1 + j) (o2 + k) (o3 + l)) := by
  subst ho
  intro i j k l
  refine Eq.trans ?_ (hF ⟨o0 + i.val, (Nat.add_lt_add_left i.2 _).trans_le (h 0)⟩ ⟨o1 + j.val, (Nat.add_lt_add_left j.2 _).trans_le (h 1)⟩ ⟨o2 + k.val, (Nat.add_lt_add_left k.2 _).trans_le (h 2)⟩ ⟨o3 + l.val, (Nat.add_lt_add_left l.2 _).trans_le (h 3)⟩)
  show arg.view.read (Elt Ideal) F _ = _
  refine congrArg _ (funext fun x => ?_)
  match x with
  | ⟨0, _⟩ => exact Fin.ext (by simp [LoadRect.idx, Rect.toLoadRect, Rect.unit, ix4])
  | ⟨1, _⟩ => exact Fin.ext (by simp [LoadRect.idx, Rect.toLoadRect, Rect.unit, ix4])
  | ⟨2, _⟩ => exact Fin.ext (by simp [LoadRect.idx, Rect.toLoadRect, Rect.unit, ix4])
  | ⟨3, _⟩ => exact Fin.ext (by simp [LoadRect.idx, Rect.toLoadRect, Rect.unit, ix4])

theorem st2_bf16 {a b s0 s1 : ℕ} {arg : Memref sig .tc .vmem ⟨2, ![a, b]⟩ .bf16} {F : BufTy.Contents (Elt Ideal) arg.view.ty} {L : List (View.Piece (Elt Ideal) ⟨2, ![a, b]⟩ .bf16)}
    {g : ℕ → ℕ → ℝ} (hF : R2 (arg.view.read (Elt Ideal) (arg.view.writes (Elt Ideal) F L)) g) {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) :
    R2 (arg.view.read (Elt Ideal) (arg.view.writes (Elt Ideal) F (⟨Rect.unit (s := ⟨2, ![a, b]⟩) o ![s0, s1] h, p⟩ :: L)))
      (fun i j => if o0 ≤ i ∧ i < o0 + s0 ∧ o1 ≤ j ∧ j < o1 + s1 then w i j else g i j) := by
  subst ho
  intro i j
  by_cases cc : o0 ≤ i.val ∧ i.val < o0 + s0 ∧ o1 ≤ j.val ∧ j.val < o1 + s1
  · simp only [cc, and_self, if_true]
    refine (View.read_writes_cons_hit_of_coords arg.view F (Rect.unit (s := ⟨2, ![a, b]⟩) ![o0, o1] ![s0, s1] h) p L (ix2 ⟨i.val - o0, by omega⟩ ⟨j.val - o1, by omega⟩) (ix2 i j) ?_).trans ?_
    · intro x
      match x with
      | ⟨0, _⟩ => simp [Rect.unit, ix2]; omega
      | ⟨1, _⟩ => simp [Rect.unit, ix2]; omega
    · refine (hp ⟨i.val - o0, by omega⟩ ⟨j.val - o1, by omega⟩).trans (congrArg _ ?_)
      simp only [show o0 + (i.val - o0) = i.val by omega, show o1 + (j.val - o1) = j.val by omega]
  · have e : (if o0 ≤ i.val ∧ i.val < o0 + s0 ∧ o1 ≤ j.val ∧ j.val < o1 + s1 then w i j else g i j) = g i j := if_neg cc
    show _ = (((if o0 ≤ i.val ∧ i.val < o0 + s0 ∧ o1 ≤ j.val ∧ j.val < o1 + s1 then w i j else g i j) : ℝ) : EReal)
    rw [e]
    refine Eq.trans ?_ (hF i j)
    by_cases e0 : o0 ≤ i.val ∧ i.val < o0 + s0
    swap
    · exact View.read_writes_cons_miss_of_axis arg.view F _ L (ix2 i j) (0 : Fin 2) o0 s0 (by simp [Rect.unit]) (by simp [Rect.unit]) (by simp [Rect.unit]) (by show i.val < o0 ∨ o0 + s0 ≤ i.val; omega)
    exact View.read_writes_cons_miss_of_axis arg.view F _ L (ix2 i j) (1 : Fin 2) o1 s1 (by simp [Rect.unit]) (by simp [Rect.unit]) (by simp [Rect.unit]) (by show j.val < o1 ∨ o1 + s1 ≤ j.val; omega)

theorem st3_bf16 {a b c s0 s1 s2 : ℕ} {arg : Memref sig .tc .vmem ⟨3, ![a, b, c]⟩ .bf16} {F : BufTy.Contents (Elt Ideal) arg.view.ty} {L : List (View.Piece (Elt Ideal) ⟨3, ![a, b, c]⟩ .bf16)}
    {g : ℕ → ℕ → ℕ → ℝ} (hF : R3 (arg.view.read (Elt Ideal) (arg.view.writes (Elt Ideal) F L)) g) {o : Fin 3 → ℕ} (o0 o1 o2 : ℕ) (ho : o = ![o0, o1, o2]) {h}
    {p : Shape.Idx ⟨3, ![s0, s1, s2]⟩ → EReal} (w : ℕ → ℕ → ℕ → ℝ) (hp : R3 p (fun i j k => w (o0 + i) (o1 + j) (o2 + k))) :
    R3 (arg.view.read (Elt Ideal) (arg.view.writes (Elt Ideal) F (⟨Rect.unit (s := ⟨3, ![a, b, c]⟩) o ![s0, s1, s2] h, p⟩ :: L)))
      (fun i j k => if o0 ≤ i ∧ i < o0 + s0 ∧ o1 ≤ j ∧ j < o1 + s1 ∧ o2 ≤ k ∧ k < o2 + s2 then w i j k else g i j k) := by
  subst ho
  intro i j k
  by_cases cc : o0 ≤ i.val ∧ i.val < o0 + s0 ∧ o1 ≤ j.val ∧ j.val < o1 + s1 ∧ o2 ≤ k.val ∧ k.val < o2 + s2
  · simp only [cc, and_self, if_true]
    refine (View.read_writes_cons_hit_of_coords arg.view F (Rect.unit (s := ⟨3, ![a, b, c]⟩) ![o0, o1, o2] ![s0, s1, s2] h) p L (ix3 ⟨i.val - o0, by omega⟩ ⟨j.val - o1, by omega⟩ ⟨k.val - o2, by omega⟩) (ix3 i j k) ?_).trans ?_
    · intro x
      match x with
      | ⟨0, _⟩ => simp [Rect.unit, ix3]; omega
      | ⟨1, _⟩ => simp [Rect.unit, ix3]; omega
      | ⟨2, _⟩ => simp [Rect.unit, ix3]; omega
    · refine (hp ⟨i.val - o0, by omega⟩ ⟨j.val - o1, by omega⟩ ⟨k.val - o2, by omega⟩).trans (congrArg _ ?_)
      simp only [show o0 + (i.val - o0) = i.val by omega, show o1 + (j.val - o1) = j.val by omega, show o2 + (k.val - o2) = k.val by omega]
  · have e : (if o0 ≤ i.val ∧ i.val < o0 + s0 ∧ o1 ≤ j.val ∧ j.val < o1 + s1 ∧ o2 ≤ k.val ∧ k.val < o2 + s2 then w i j k else g i j k) = g i j k := if_neg cc
    show _ = (((if o0 ≤ i.val ∧ i.val < o0 + s0 ∧ o1 ≤ j.val ∧ j.val < o1 + s1 ∧ o2 ≤ k.val ∧ k.val < o2 + s2 then w i j k else g i j k) : ℝ) : EReal)
    rw [e]
    refine Eq.trans ?_ (hF i j k)
    by_cases e0 : o0 ≤ i.val ∧ i.val < o0 + s0
    swap
    · exact View.read_writes_cons_miss_of_axis arg.view F _ L (ix3 i j k) (0 : Fin 3) o0 s0 (by simp [Rect.unit]) (by simp [Rect.unit]) (by simp [Rect.unit]) (by show i.val < o0 ∨ o0 + s0 ≤ i.val; omega)
    by_cases e1 : o1 ≤ j.val ∧ j.val < o1 + s1
    swap
    · exact View.read_writes_cons_miss_of_axis arg.view F _ L (ix3 i j k) (1 : Fin 3) o1 s1 (by simp [Rect.unit]) (by simp [Rect.unit]) (by simp [Rect.unit]) (by show j.val < o1 ∨ o1 + s1 ≤ j.val; omega)
    exact View.read_writes_cons_miss_of_axis arg.view F _ L (ix3 i j k) (2 : Fin 3) o2 s2 (by simp [Rect.unit]) (by simp [Rect.unit]) (by simp [Rect.unit]) (by show k.val < o2 ∨ o2 + s2 ≤ k.val; omega)

/-- A load of what is stored: the stores under it include one that holds all of it. -/
theorem ld2_cov {a b s0 s1 z0 z1 : ℕ} {arg : Memref sig .tc .vmem ⟨2, ![a, b]⟩ .f32} {F : BufTy.Contents (Elt Ideal) arg.view.ty} {L : List (View.Piece (Elt Ideal) ⟨2, ![a, b]⟩ .f32)}
    {g : ℕ → ℕ → ℝ} (hF : R2 (arg.view.read (Elt Ideal) (arg.view.writes (Elt Ideal) F L)) g) {o : Fin 2 → ℕ} (o0 o1 : ℕ) (ho : o = ![o0, o1]) {h}
    {q : Fin 2 → ℕ} (q0 q1 : ℕ) (hq : q = ![q0, q1]) {hh w} (hm : (⟨Rect.unit (s := ⟨2, ![a, b]⟩) q ![z0, z1] hh, w⟩ : View.Piece (Elt Ideal) ⟨2, ![a, b]⟩ .f32) ∈ L)
    (i0 : q0 ≤ o0 ∧ o0 + s0 ≤ q0 + z0 ∧ 0 < s0) (i1 : q1 ≤ o1 ∧ o1 + s1 ≤ q1 + z1 ∧ 0 < s1) :
    R2 (arg.view.readCov L (Rect.unit (s := ⟨2, ![a, b]⟩) o ![s0, s1] h).toLoadRect) (fun i j => g (o0 + i) (o1 + j)) := by
  rw [← View.readAt_writes_of_cover arg.view F L _ (fun j => ⟨_, hm, LoadRect.idx_mem_of_within (decide_eq_true ?_) j⟩)]
  · exact ld2_f32 hF o0 o1 ho
  · subst ho hq
    intro x
    match x with
    | ⟨0, _⟩ => refine ⟨?_, ?_, .inl ?_⟩ <;> simp [Rect.toLoadRect, Rect.unit] <;> omega
    | ⟨1, _⟩ => refine ⟨?_, ?_, .inl ?_⟩ <;> simp [Rect.toLoadRect, Rect.unit] <;> omega
theorem ld3_cov {a b c s0 s1 s2 z0 z1 z2 : ℕ} {arg : Memref sig .tc .vmem ⟨3, ![a, b, c]⟩ .f32} {F : BufTy.Contents (Elt Ideal) arg.view.ty} {L : List (View.Piece (Elt Ideal) ⟨3, ![a, b, c]⟩ .f32)}
    {g : ℕ → ℕ → ℕ → ℝ} (hF : R3 (arg.view.read (Elt Ideal) (arg.view.writes (Elt Ideal) F L)) g) {o : Fin 3 → ℕ} (o0 o1 o2 : ℕ) (ho : o = ![o0, o1, o2]) {h}
    {q : Fin 3 → ℕ} (q0 q1 q2 : ℕ) (hq : q = ![q0, q1, q2]) {hh w} (hm : (⟨Rect.unit (s := ⟨3, ![a, b, c]⟩) q ![z0, z1, z2] hh, w⟩ : View.Piece (Elt Ideal) ⟨3, ![a, b, c]⟩ .f32) ∈ L)
    (i0 : q0 ≤ o0 ∧ o0 + s0 ≤ q0 + z0 ∧ 0 < s0) (i1 : q1 ≤ o1 ∧ o1 + s1 ≤ q1 + z1 ∧ 0 < s1) (i2 : q2 ≤ o2 ∧ o2 + s2 ≤ q2 + z2 ∧ 0 < s2) :
    R3 (arg.view.readCov L (Rect.unit (s := ⟨3, ![a, b, c]⟩) o ![s0, s1, s2] h).toLoadRect) (fun i j k => g (o0 + i) (o1 + j) (o2 + k)) := by
  rw [← View.readAt_writes_of_cover arg.view F L _ (fun j => ⟨_, hm, LoadRect.idx_mem_of_within (decide_eq_true ?_) j⟩)]
  · exact ld3_f32 hF o0 o1 o2 ho
  · subst ho hq
    intro x
    match x with
    | ⟨0, _⟩ => refine ⟨?_, ?_, .inl ?_⟩ <;> simp [Rect.toLoadRect, Rect.unit] <;> omega
    | ⟨1, _⟩ => refine ⟨?_, ?_, .inl ?_⟩ <;> simp [Rect.toLoadRect, Rect.unit] <;> omega
    | ⟨2, _⟩ => refine ⟨?_, ?_, .inl ?_⟩ <;> simp [Rect.toLoadRect, Rect.unit] <;> omega

/-- A rank-2 array whose first `n` rows are the reals `g`. -/
def U2 {a b : ℕ} (n : ℕ) (x : Shape.Idx ⟨2, ![a, b]⟩ → EReal) (g : ℕ → ℕ → ℝ) : Prop := ∀ (i : Fin a) (j : Fin b), i.val < n → x (ix2 i j) = ((g i j : ℝ) : EReal)
theorem U2.congr {a b n : ℕ} {x : Shape.Idx ⟨2, ![a, b]⟩ → EReal} {g g' : ℕ → ℕ → ℝ} (h : U2 n x g) (e : ∀ i j, i < n → j < b → g i j = g' i j) : U2 n x g' :=
  fun i j hi => (h i j hi).trans (congrArg _ (e i j hi j.2))
theorem U2.mono {a b n m : ℕ} {x : Shape.Idx ⟨2, ![a, b]⟩ → EReal} {g : ℕ → ℕ → ℝ} (h : U2 n x g) (e : m ≤ n) : U2 m x g :=
  fun i j hi => h i j (hi.trans_le e)
theorem U2.all {a b n : ℕ} {x : Shape.Idx ⟨2, ![a, b]⟩ → EReal} {g : ℕ → ℕ → ℝ} (h : U2 n x g) (e : a ≤ n) : R2 x g :=
  fun i j => h i j (i.2.trans_le e)
theorem U2.none {a b : ℕ} {x : Shape.Idx ⟨2, ![a, b]⟩ → EReal} {g : ℕ → ℕ → ℝ} : U2 0 x g := fun i _ hi => absurd hi (Nat.not_lt_zero _)
theorem U2.ld {a b s0 s1 n : ℕ} {arg : Memref sig .tc .vmem ⟨2, ![a, b]⟩ .f32} {F : BufTy.Contents (Elt Ideal) arg.view.ty} {g : ℕ → ℕ → ℝ}
    (hF : U2 n (arg.view.read (Elt Ideal) F) g) {o : Fin 2 → ℕ} (o0 o1 : ℕ) (ho : o = ![o0, o1]) (hn : o0 + s0 ≤ n) {h} :
    R2 (View.readAt (Elt Ideal) arg.view (Rect.unit (s := ⟨2, ![a, b]⟩) o ![s0, s1] h).toLoadRect F) (fun i j => g (o0 + i) (o1 + j)) := by
  subst ho
  intro i j
  refine Eq.trans ?_ (hF ⟨o0 + i.val, (Nat.add_lt_add_left i.2 _).trans_le (h 0)⟩ ⟨o1 + j.val, (Nat.add_lt_add_left j.2 _).trans_le (h 1)⟩ ((Nat.add_lt_add_left i.2 _).trans_le hn))
  show arg.view.read (Elt Ideal) F _ = _
  refine congrArg _ (funext fun x => ?_)
  match x with
  | ⟨0, _⟩ => exact Fin.ext (by simp [LoadRect.idx, Rect.toLoadRect, Rect.unit, ix2])
  | ⟨1, _⟩ => exact Fin.ext (by simp [LoadRect.idx, Rect.toLoadRect, Rect.unit, ix2])
/-- One entry after a store. -/
theorem st2_at {a b s0 s1 : ℕ} {arg : Memref sig .tc .vmem ⟨2, ![a, b]⟩ .f32} {F : BufTy.Contents (Elt Ideal) arg.view.ty} {L : List (View.Piece (Elt Ideal) ⟨2, ![a, b]⟩ .f32)}
    {g : ℕ → ℕ → ℝ} {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) (i : Fin a) (j : Fin b)
    (hF : ¬ (o0 ≤ i.val ∧ i.val < o0 + s0 ∧ o1 ≤ j.val ∧ j.val < o1 + s1) → arg.view.read (Elt Ideal) (arg.view.writes (Elt Ideal) F L) (ix2 i j) = ((g i j : ℝ) : EReal)) :
    arg.view.read (Elt Ideal) (arg.view.writes (Elt Ideal) F (⟨Rect.unit (s := ⟨2, ![a, b]⟩) o ![s0, s1] h, p⟩ :: L)) (ix2 i j)
      = (((if o0 ≤ i.val ∧ i.val < o0 + s0 ∧ o1 ≤ j.val ∧ j.val < o1 + s1 then w i j else g i j : ℝ)) : EReal) := by
  subst ho
  by_cases cc : o0 ≤ i.val ∧ i.val < o0 + s0 ∧ o1 ≤ j.val ∧ j.val < o1 + s1
  · rw [if_pos cc]
    refine (View.read_writes_cons_hit_of_coords arg.view F (Rect.unit (s := ⟨2, ![a, b]⟩) ![o0, o1] ![s0, s1] h) p L (ix2 ⟨i.val - o0, by omega⟩ ⟨j.val - o1, by omega⟩) (ix2 i j) ?_).trans ?_
    · intro x
      match x with
      | ⟨0, _⟩ => simp [Rect.unit, ix2]; omega
      | ⟨1, _⟩ => simp [Rect.unit, ix2]; omega
    · refine (hp ⟨i.val - o0, by omega⟩ ⟨j.val - o1, by omega⟩).trans (congrArg _ ?_)
      simp only [show o0 + (i.val - o0) = i.val by omega, show o1 + (j.val - o1) = j.val by omega]
  · rw [if_neg cc]
    refine Eq.trans ?_ (hF cc)
    by_cases e0 : o0 ≤ i.val ∧ i.val < o0 + s0
    swap
    · exact View.read_writes_cons_miss_of_axis arg.view F _ L (ix2 i j) (0 : Fin 2) o0 s0 (by simp [Rect.unit]) (by simp [Rect.unit]) (by simp [Rect.unit]) (by show i.val < o0 ∨ o0 + s0 ≤ i.val; omega)
    exact View.read_writes_cons_miss_of_axis arg.view F _ L (ix2 i j) (1 : Fin 2) o1 s1 (by simp [Rect.unit]) (by simp [Rect.unit]) (by simp [Rect.unit]) (by show j.val < o1 ∨ o1 + s1 ≤ j.val; omega)
theorem U2.st {a b s0 s1 n : ℕ} {arg : Memref sig .tc .vmem ⟨2, ![a, b]⟩ .f32} {F : BufTy.Contents (Elt Ideal) arg.view.ty} {L : List (View.Piece (Elt Ideal) ⟨2, ![a, b]⟩ .f32)}
    {g : ℕ → ℕ → ℝ} (hF : U2 n (arg.view.read (Elt Ideal) (arg.view.writes (Elt Ideal) F L)) g) {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) :
    U2 n (arg.view.read (Elt Ideal) (arg.view.writes (Elt Ideal) F (⟨Rect.unit (s := ⟨2, ![a, b]⟩) o ![s0, s1] h, p⟩ :: L)))
      (fun i j => if o0 ≤ i ∧ i < o0 + s0 ∧ o1 ≤ j ∧ j < o1 + s1 then w i j else g i j) :=
  fun i j hi => st2_at o0 o1 ho w hp i j fun _ => hF i j hi
/-- Whole rows stored under the rows known. -/
theorem U2.stn {a b s0 s1 n : ℕ} {arg : Memref sig .tc .vmem ⟨2, ![a, b]⟩ .f32} {F : BufTy.Contents (Elt Ideal) arg.view.ty} {L : List (View.Piece (Elt Ideal) ⟨2, ![a, b]⟩ .f32)}
    {g : ℕ → ℕ → ℝ} (hF : U2 n (arg.view.read (Elt Ideal) (arg.view.writes (Elt Ideal) F L)) g) {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) (hn : o0 ≤ n) (h1 : o1 = 0 ∧ b ≤ s1) :
    U2 (o0 + s0) (arg.view.read (Elt Ideal) (arg.view.writes (Elt Ideal) F (⟨Rect.unit (s := ⟨2, ![a, b]⟩) o ![s0, s1] h, p⟩ :: L)))
      (fun i j => if o0 ≤ i ∧ i < o0 + s0 ∧ o1 ≤ j ∧ j < o1 + s1 then w i j else g i j) :=
  fun i j hi => st2_at o0 o1 ho w hp i j fun hh => hF i j (by have := j.2; omega)
/-- Whole rows stored in two halves under the rows known. -/
theorem U2.st_two {a b s0 s1 t1 n : ℕ} {arg : Memref sig .tc .vmem ⟨2, ![a, b]⟩ .f32} {F : BufTy.Contents (Elt Ideal) arg.view.ty}
    {g : ℕ → ℕ → ℝ} (hF : U2 n (arg.view.read (Elt Ideal) F) g) {o : Fin 2 → ℕ} (o0 : ℕ) (ho : o = ![o0, 0]) {h} {q : Fin 2 → ℕ} (hq : q = ![o0, s1]) {hh}
    {p : Shape.Idx ⟨2, ![s0, s1]⟩ → EReal} {p' : Shape.Idx ⟨2, ![s0, t1]⟩ → EReal} (w : ℕ → ℕ → ℝ) (hp : R2 p (fun i j => w (o0 + i) (0 + j))) (hp' : R2 p' (fun i j => w (o0 + i) (s1 + j)))
    (hn : o0 ≤ n) (h1 : b ≤ s1 + t1) :
    U2 (o0 + s0) (arg.view.read (Elt Ideal) (arg.view.writes (Elt Ideal) F [(⟨Rect.unit (s := ⟨2, ![a, b]⟩) q ![s0, t1] hh, p'⟩ : View.Piece (Elt Ideal) ⟨2, ![a, b]⟩ .f32), ⟨Rect.unit (s := ⟨2, ![a, b]⟩) o ![s0, s1] h, p⟩]))
      (fun i j => if o0 ≤ i ∧ i < o0 + s0 then w i j else g i j) := by
  intro i j hi
  refine (st2_at (g := fun i j => if o0 ≤ i ∧ i < o0 + s0 then w i j else g i j) o0 s1 hq w hp' i j fun n1 => (st2_at (L := []) (g := g) o0 0 ho w hp i j fun n2 => hF i j (by have := j.2; omega)).trans (congrArg _ ?_)).trans (congrArg _ ?_)
  · have := j.2
    beta_reduce
    split_ifs <;> first | rfl | (exfalso; omega)
  · have := j.2
    beta_reduce
    split_ifs <;> first | rfl | (exfalso; omega)

/-- A store beside a load does not reach it. -/
theorem skip2 {a b s0 s1 r0 r1 : ℕ} {arg : Memref sig .tc .vmem ⟨2, ![a, b]⟩ .f32} {L : List (View.Piece (Elt Ideal) ⟨2, ![a, b]⟩ .f32)} {g : ℕ → ℕ → ℝ}
    {F : BufTy.Contents (Elt Ideal) arg.view.ty} {o : Fin 2 → ℕ} {h} (hl : R2 (View.readAt (Elt Ideal) arg.view (Rect.unit (s := ⟨2, ![a, b]⟩) o ![s0, s1] h).toLoadRect (arg.view.writes (Elt Ideal) F L)) g)
    (o0 o1 : ℕ) (ho : o = ![o0, o1]) {q : Fin 2 → ℕ} (q0 q1 : ℕ) (hq : q = ![q0, q1]) {hh} {w}
    (hd : (o0 + s0 ≤ q0 ∨ q0 + r0 ≤ o0) ∨ (o1 + s1 ≤ q1 ∨ q1 + r1 ≤ o1)) :
    R2 (View.readAt (Elt Ideal) arg.view (Rect.unit (s := ⟨2, ![a, b]⟩) o ![s0, s1] h).toLoadRect (arg.view.writes (Elt Ideal) F ((⟨Rect.unit (s := ⟨2, ![a, b]⟩) q ![r0, r1] hh, w⟩ : View.Piece (Elt Ideal) ⟨2, ![a, b]⟩ .f32) :: L))) g := by
  subst ho hq
  intro i j
  refine Eq.trans ?_ (hl i j)
  rcases hd with hd | hd
  · exact View.read_writes_cons_miss_of_axis arg.view F _ L _ (0 : Fin 2) q0 r0 (by simp [Rect.unit]) (by simp [Rect.unit]) (by simp [Rect.unit]) (by have := i.isLt; simp [LoadRect.idx, Rect.toLoadRect, Rect.unit, ix2]; omega)
  · exact View.read_writes_cons_miss_of_axis arg.view F _ L _ (1 : Fin 2) q1 r1 (by simp [Rect.unit]) (by simp [Rect.unit]) (by simp [Rect.unit]) (by have := j.isLt; simp [LoadRect.idx, Rect.toLoadRect, Rect.unit, ix2]; omega)
theorem skip3 {a b c s0 s1 s2 r0 r1 r2 : ℕ} {arg : Memref sig .tc .vmem ⟨3, ![a, b, c]⟩ .f32} {L : List (View.Piece (Elt Ideal) ⟨3, ![a, b, c]⟩ .f32)} {g : ℕ → ℕ → ℕ → ℝ}
    {F : BufTy.Contents (Elt Ideal) arg.view.ty} {o : Fin 3 → ℕ} {h} (hl : R3 (View.readAt (Elt Ideal) arg.view (Rect.unit (s := ⟨3, ![a, b, c]⟩) o ![s0, s1, s2] h).toLoadRect (arg.view.writes (Elt Ideal) F L)) g)
    (o0 o1 o2 : ℕ) (ho : o = ![o0, o1, o2]) {q : Fin 3 → ℕ} (q0 q1 q2 : ℕ) (hq : q = ![q0, q1, q2]) {hh} {w}
    (hd : (o0 + s0 ≤ q0 ∨ q0 + r0 ≤ o0) ∨ (o1 + s1 ≤ q1 ∨ q1 + r1 ≤ o1)) :
    R3 (View.readAt (Elt Ideal) arg.view (Rect.unit (s := ⟨3, ![a, b, c]⟩) o ![s0, s1, s2] h).toLoadRect (arg.view.writes (Elt Ideal) F ((⟨Rect.unit (s := ⟨3, ![a, b, c]⟩) q ![r0, r1, r2] hh, w⟩ : View.Piece (Elt Ideal) ⟨3, ![a, b, c]⟩ .f32) :: L))) g := by
  subst ho hq
  intro i j k
  refine Eq.trans ?_ (hl i j k)
  rcases hd with hd | hd
  · exact View.read_writes_cons_miss_of_axis arg.view F _ L _ (0 : Fin 3) q0 r0 (by simp [Rect.unit]) (by simp [Rect.unit]) (by simp [Rect.unit]) (by have := i.isLt; simp [LoadRect.idx, Rect.toLoadRect, Rect.unit, ix3]; omega)
  · exact View.read_writes_cons_miss_of_axis arg.view F _ L _ (1 : Fin 3) q1 r1 (by simp [Rect.unit]) (by simp [Rect.unit]) (by simp [Rect.unit]) (by have := j.isLt; simp [LoadRect.idx, Rect.toLoadRect, Rect.unit, ix3]; omega)
/-- A load of a buffer only just filled with one number, and of what is stored over it elsewhere. -/
theorem covz2 {a b s0 s1 z0 z1 : ℕ} {arg : Memref sig .tc .vmem ⟨2, ![a, b]⟩ .f32} {o : Fin 2 → ℕ} (o0 o1 : ℕ) (ho : o = ![o0, o1]) {h}
    {q : Fin 2 → ℕ} (q0 q1 : ℕ) (hq : q = ![q0, q1]) {hh} {w : Shape.Idx ⟨2, ![z0, z1]⟩ → EReal} {r : ℝ} (hw : R2 w (fun _ _ => r))
    (i0 : q0 ≤ o0 ∧ o0 + s0 ≤ q0 + z0 ∧ 0 < s0) (i1 : q1 ≤ o1 ∧ o1 + s1 ≤ q1 + z1 ∧ 0 < s1) :
    R2 (arg.view.readCov [(⟨Rect.unit (s := ⟨2, ![a, b]⟩) q ![z0, z1] hh, w⟩ : View.Piece (Elt Ideal) ⟨2, ![a, b]⟩ .f32)] (Rect.unit (s := ⟨2, ![a, b]⟩) o ![s0, s1] h).toLoadRect) (fun _ _ => r) := by
  subst ho hq
  intro i j
  have hi := i.isLt
  have hj := j.isLt
  refine (View.read_writes_cons_hit_of_coords (Val := Elt Ideal) arg.view _ (Rect.unit (s := ⟨2, ![a, b]⟩) ![q0, q1] ![z0, z1] hh) w [] (ix2 ⟨o0 + i.val - q0, by omega⟩ ⟨o1 + j.val - q1, by omega⟩) _ ?_).trans ?_
  rotate_left
  · exact hw ⟨o0 + i.val - q0, by omega⟩ ⟨o1 + j.val - q1, by omega⟩
  intro x
  match x with
  | ⟨0, _⟩ => simp [LoadRect.idx, Rect.toLoadRect, Rect.unit, ix2]; omega
  | ⟨1, _⟩ => simp [LoadRect.idx, Rect.toLoadRect, Rect.unit, ix2]; omega
theorem covz3 {a b c s0 s1 s2 z0 z1 z2 : ℕ} {arg : Memref sig .tc .vmem ⟨3, ![a, b, c]⟩ .f32} {o : Fin 3 → ℕ} (o0 o1 o2 : ℕ) (ho : o = ![o0, o1, o2]) {h}
    {q : Fin 3 → ℕ} (q0 q1 q2 : ℕ) (hq : q = ![q0, q1, q2]) {hh} {w : Shape.Idx ⟨3, ![z0, z1, z2]⟩ → EReal} {r : ℝ} (hw : R3 w (fun _ _ _ => r))
    (i0 : q0 ≤ o0 ∧ o0 + s0 ≤ q0 + z0 ∧ 0 < s0) (i1 : q1 ≤ o1 ∧ o1 + s1 ≤ q1 + z1 ∧ 0 < s1) (i2 : q2 ≤ o2 ∧ o2 + s2 ≤ q2 + z2 ∧ 0 < s2) :
    R3 (arg.view.readCov [(⟨Rect.unit (s := ⟨3, ![a, b, c]⟩) q ![z0, z1, z2] hh, w⟩ : View.Piece (Elt Ideal) ⟨3, ![a, b, c]⟩ .f32)] (Rect.unit (s := ⟨3, ![a, b, c]⟩) o ![s0, s1, s2] h).toLoadRect) (fun _ _ _ => r) := by
  subst ho hq
  intro i j k
  have hi := i.isLt
  have hj := j.isLt
  have hk := k.isLt
  refine (View.read_writes_cons_hit_of_coords (Val := Elt Ideal) arg.view _ (Rect.unit (s := ⟨3, ![a, b, c]⟩) ![q0, q1, q2] ![z0, z1, z2] hh) w [] (ix3 ⟨o0 + i.val - q0, by omega⟩ ⟨o1 + j.val - q1, by omega⟩ ⟨o2 + k.val - q2, by omega⟩) _ ?_).trans ?_
  rotate_left
  · exact hw ⟨o0 + i.val - q0, by omega⟩ ⟨o1 + j.val - q1, by omega⟩ ⟨o2 + k.val - q2, by omega⟩
  intro x
  match x with
  | ⟨0, _⟩ => simp [LoadRect.idx, Rect.toLoadRect, Rect.unit, ix3]; omega
  | ⟨1, _⟩ => simp [LoadRect.idx, Rect.toLoadRect, Rect.unit, ix3]; omega
  | ⟨2, _⟩ => simp [LoadRect.idx, Rect.toLoadRect, Rect.unit, ix3]; omega

end Cert.MlaIdeal.Gen

end
-- ==== Proof.MlaIdealVal2.lean ====
/- What one trip of the loop over pairs of whole query tiles adds to the gradients, over the reals. -/
module

public import proofs.«01_k».proof.Proof.MlaIdealTrip
public import proofs.«01_k».proof.Proof.MlaIdealRole
public import proofs.«01_k».proof.Proof.MlaIdealState

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

/-- A cotangent tile under the shape it is used at. -/
theorem role_dot {G : Grp} {h t0 : ℕ} {x : FVec Ideal S1x128x256 .bf16} (hx : R3 x (fun _ l t => G.DT h l (t0 + t))) :
    R2 (shapeCast S128x256 x shapeCasts_S1x128x256_S128x256) (fun l t => G.DT h l (t0 + t)) := r_sc_S1x128x256_bf16 hx
/-- The first query of the trip. -/
abbrev tq (m1 : Fin k0_t1_loop.trips) (m2 : Fin (k0_t2_loop m1).trips) : ℕ := 256 * (m1.val + 2 * (m2.val + 1))
theorem l2qa {m1 : Fin k0_t1_loop.trips} {m2 : Fin (k0_t2_loop m1).trips} {G : Grp} {a2 : MV S2048x512 .bf16} {X2 : BC Ideal a2} (h2 : R2 (a2.view.read (Elt Ideal) X2) G.q) (h) : R2 (View.readAt (Elt Ideal) a2.view (Rect.unit (s := S2048x512) (k0_off63 m1 m2 0#32) S256x512.size h).toLoadRect X2) (fun i j => G.q ((tq m1 m2) + i) j) :=
  (ld2_bf16 (s0 := 256) (s1 := 512) h2 _ _ (k0_off63_at_0 m1 m2)).congr fun i j _ _ => by congr 1 <;> omega
theorem l2d0a {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off64 m1 m2 0#32) S1x128x256.size h).toLoadRect X12) (fun _ l t => G.DT 0 l ((tq m1 m2) + t)) :=
  (ld3_bf16 (s0 := 1) (s1 := 128) (s2 := 256) h12 _ _ _ (k0_off64_at_0 m1 m2)).congr fun i j k _ _ _ => by congr 1 <;> omega
theorem l2e0a {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off67 m1 m2 0#32) S1x1x256.size h).toLoadRect X6) (fun _ _ t => G.dl 0 ((tq m1 m2) + t)) :=
  (ld3_f32 (s0 := 1) (s1 := 1) (s2 := 256) h6 _ _ _ (k0_off67_at_0 m1 m2)).congr fun i j k _ _ _ => by congr 1 <;> omega
theorem l2l0a {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off66 m1 m2 0#32) S1x1x1x256.size h).toLoadRect X7) (fun _ _ _ t => G.ls 0 ((tq m1 m2) + t)) :=
  (ld4_f32 (s0 := 1) (s1 := 1) (s2 := 1) (s3 := 256) h7 _ _ _ _ (k0_off66_at_0 m1 m2)).congr fun i j k l _ _ _ _ => by congr 1 <;> omega
theorem l2d1a {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off65 m1 m2 0#32) S1x128x256.size h).toLoadRect X12) (fun _ l t => G.DT 1 l ((tq m1 m2) + t)) :=
  (ld3_bf16 (s0 := 1) (s1 := 128) (s2 := 256) h12 _ _ _ (k0_off65_at_0 m1 m2)).congr fun i j k _ _ _ => by congr 1 <;> omega
theorem l2e1a {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off70 m1 m2 0#32) S1x1x256.size h).toLoadRect X6) (fun _ _ t => G.dl 1 ((tq m1 m2) + t)) :=
  (ld3_f32 (s0 := 1) (s1 := 1) (s2 := 256) h6 _ _ _ (k0_off70_at_0 m1 m2)).congr fun i j k _ _ _ => by congr 1 <;> omega
theorem l2l1a {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off69 m1 m2 0#32) S1x1x1x256.size h).toLoadRect X7) (fun _ _ _ t => G.ls 1 ((tq m1 m2) + t)) :=
  (ld4_f32 (s0 := 1) (s1 := 1) (s2 := 1) (s3 := 256) h7 _ _ _ _ (k0_off69_at_0 m1 m2)).congr fun i j k l _ _ _ _ => by congr 1 <;> omega
theorem l2d2a {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off68 m1 m2 0#32) S1x128x256.size h).toLoadRect X12) (fun _ l t => G.DT 2 l ((tq m1 m2) + t)) :=
  (ld3_bf16 (s0 := 1) (s1 := 128) (s2 := 256) h12 _ _ _ (k0_off68_at_0 m1 m2)).congr fun i j k _ _ _ => by congr 1 <;> omega
theorem l2e2a {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off76 m1 m2 0#32) S1x1x256.size h).toLoadRect X6) (fun _ _ t => G.dl 2 ((tq m1 m2) + t)) :=
  (ld3_f32 (s0 := 1) (s1 := 1) (s2 := 256) h6 _ _ _ (k0_off76_at_0 m1 m2)).congr fun i j k _ _ _ => by congr 1 <;> omega
theorem l2l2a {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off75 m1 m2 0#32) S1x1x1x256.size h).toLoadRect X7) (fun _ _ _ t => G.ls 2 ((tq m1 m2) + t)) :=
  (ld4_f32 (s0 := 1) (s1 := 1) (s2 := 1) (s3 := 256) h7 _ _ _ _ (k0_off75_at_0 m1 m2)).congr fun i j k l _ _ _ _ => by congr 1 <;> omega
theorem l2d3a {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off74 m1 m2 0#32) S1x128x256.size h).toLoadRect X12) (fun _ l t => G.DT 3 l ((tq m1 m2) + t)) :=
  (ld3_bf16 (s0 := 1) (s1 := 128) (s2 := 256) h12 _ _ _ (k0_off74_at_0 m1 m2)).congr fun i j k _ _ _ => by congr 1 <;> omega
theorem l2e3a {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off81 m1 m2 0#32) S1x1x256.size h).toLoadRect X6) (fun _ _ t => G.dl 3 ((tq m1 m2) + t)) :=
  (ld3_f32 (s0 := 1) (s1 := 1) (s2 := 256) h6 _ _ _ (k0_off81_at_0 m1 m2)).congr fun i j k _ _ _ => by congr 1 <;> omega
theorem l2l3a {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off80 m1 m2 0#32) S1x1x1x256.size h).toLoadRect X7) (fun _ _ _ t => G.ls 3 ((tq m1 m2) + t)) :=
  (ld4_f32 (s0 := 1) (s1 := 1) (s2 := 1) (s3 := 256) h7 _ _ _ _ (k0_off80_at_0 m1 m2)).congr fun i j k l _ _ _ _ => by congr 1 <;> omega
theorem l2qb {m1 : Fin k0_t1_loop.trips} {m2 : Fin (k0_t2_loop m1).trips} {G : Grp} {a2 : MV S2048x512 .bf16} {X2 : BC Ideal a2} (h2 : R2 (a2.view.read (Elt Ideal) X2) G.q) (h) : R2 (View.readAt (Elt Ideal) a2.view (Rect.unit (s := S2048x512) (k0_off63 m1 m2 1#32) S256x512.size h).toLoadRect X2) (fun i j => G.q ((tq m1 m2 + 256) + i) j) :=
  (ld2_bf16 (s0 := 256) (s1 := 512) h2 _ _ (k0_off63_at_1 m1 m2)).congr fun i j _ _ => by congr 1 <;> omega
theorem l2d0b {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off64 m1 m2 1#32) S1x128x256.size h).toLoadRect X12) (fun _ l t => G.DT 0 l ((tq m1 m2 + 256) + t)) :=
  (ld3_bf16 (s0 := 1) (s1 := 128) (s2 := 256) h12 _ _ _ (k0_off64_at_1 m1 m2)).congr fun i j k _ _ _ => by congr 1 <;> omega
theorem l2e0b {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off67 m1 m2 1#32) S1x1x256.size h).toLoadRect X6) (fun _ _ t => G.dl 0 ((tq m1 m2 + 256) + t)) :=
  (ld3_f32 (s0 := 1) (s1 := 1) (s2 := 256) h6 _ _ _ (k0_off67_at_1 m1 m2)).congr fun i j k _ _ _ => by congr 1 <;> omega
theorem l2l0b {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off66 m1 m2 1#32) S1x1x1x256.size h).toLoadRect X7) (fun _ _ _ t => G.ls 0 ((tq m1 m2 + 256) + t)) :=
  (ld4_f32 (s0 := 1) (s1 := 1) (s2 := 1) (s3 := 256) h7 _ _ _ _ (k0_off66_at_1 m1 m2)).congr fun i j k l _ _ _ _ => by congr 1 <;> omega
theorem l2d1b {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off65 m1 m2 1#32) S1x128x256.size h).toLoadRect X12) (fun _ l t => G.DT 1 l ((tq m1 m2 + 256) + t)) :=
  (ld3_bf16 (s0 := 1) (s1 := 128) (s2 := 256) h12 _ _ _ (k0_off65_at_1 m1 m2)).congr fun i j k _ _ _ => by congr 1 <;> omega
theorem l2e1b {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off70 m1 m2 1#32) S1x1x256.size h).toLoadRect X6) (fun _ _ t => G.dl 1 ((tq m1 m2 + 256) + t)) :=
  (ld3_f32 (s0 := 1) (s1 := 1) (s2 := 256) h6 _ _ _ (k0_off70_at_1 m1 m2)).congr fun i j k _ _ _ => by congr 1 <;> omega
theorem l2l1b {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off69 m1 m2 1#32) S1x1x1x256.size h).toLoadRect X7) (fun _ _ _ t => G.ls 1 ((tq m1 m2 + 256) + t)) :=
  (ld4_f32 (s0 := 1) (s1 := 1) (s2 := 1) (s3 := 256) h7 _ _ _ _ (k0_off69_at_1 m1 m2)).congr fun i j k l _ _ _ _ => by congr 1 <;> omega
theorem l2d2b {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off68 m1 m2 1#32) S1x128x256.size h).toLoadRect X12) (fun _ l t => G.DT 2 l ((tq m1 m2 + 256) + t)) :=
  (ld3_bf16 (s0 := 1) (s1 := 128) (s2 := 256) h12 _ _ _ (k0_off68_at_1 m1 m2)).congr fun i j k _ _ _ => by congr 1 <;> omega
theorem l2e2b {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off76 m1 m2 1#32) S1x1x256.size h).toLoadRect X6) (fun _ _ t => G.dl 2 ((tq m1 m2 + 256) + t)) :=
  (ld3_f32 (s0 := 1) (s1 := 1) (s2 := 256) h6 _ _ _ (k0_off76_at_1 m1 m2)).congr fun i j k _ _ _ => by congr 1 <;> omega
theorem l2l2b {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off75 m1 m2 1#32) S1x1x1x256.size h).toLoadRect X7) (fun _ _ _ t => G.ls 2 ((tq m1 m2 + 256) + t)) :=
  (ld4_f32 (s0 := 1) (s1 := 1) (s2 := 1) (s3 := 256) h7 _ _ _ _ (k0_off75_at_1 m1 m2)).congr fun i j k l _ _ _ _ => by congr 1 <;> omega
theorem l2d3b {m1 : Fin k0_t1_loop.trips} {m2 : Fin (k0_t2_loop m1).trips} {G : Grp} {a12 : MV S4x128x2048 .bf16} {X12 : BC Ideal a12} (h12 : R3 (a12.view.read (Elt Ideal) X12) (fun h l t => G.DT h l t)) (h) : R3 (View.readAt (Elt Ideal) a12.view (Rect.unit (s := S4x128x2048) (k0_off74 m1 m2 1#32) S1x128x256.size h).toLoadRect X12) (fun _ l t => G.DT 3 l ((tq m1 m2 + 256) + t)) :=
  (ld3_bf16 (s0 := 1) (s1 := 128) (s2 := 256) h12 _ _ _ (k0_off74_at_1 m1 m2)).congr fun i j k _ _ _ => by congr 1 <;> omega
theorem l2e3b {m1 : Fin k0_t1_loop.trips} {m2 : Fin (k0_t2_loop m1).trips} {G : Grp} {a6 : MV S1x4x2048 .f32} {X6 : BC Ideal a6} (h6 : R3 (a6.view.read (Elt Ideal) X6) (fun _ h t => G.dl h t)) (h) : R3 (View.readAt (Elt Ideal) a6.view (Rect.unit (s := S1x4x2048) (k0_off81 m1 m2 1#32) S1x1x256.size h).toLoadRect X6) (fun _ _ t => G.dl 3 ((tq m1 m2 + 256) + t)) :=
  (ld3_f32 (s0 := 1) (s1 := 1) (s2 := 256) h6 _ _ _ (k0_off81_at_1 m1 m2)).congr fun i j k _ _ _ => by congr 1 <;> omega
theorem l2l3b {m1 : Fin k0_t1_loop.trips} {m2 : Fin (k0_t2_loop m1).trips} {G : Grp} {a7 : MV S1x1x4x2048 .f32} {X7 : BC Ideal a7} (h7 : R4 (a7.view.read (Elt Ideal) X7) (fun _ _ h t => G.ls h t)) (h) : R4 (View.readAt (Elt Ideal) a7.view (Rect.unit (s := S1x1x4x2048) (k0_off80 m1 m2 1#32) S1x1x1x256.size h).toLoadRect X7) (fun _ _ _ t => G.ls 3 ((tq m1 m2 + 256) + t)) :=
  (ld4_f32 (s0 := 1) (s1 := 1) (s2 := 1) (s3 := 256) h7 _ _ _ _ (k0_off80_at_1 m1 m2)).congr fun i j k l _ _ _ _ => by congr 1 <;> omega

variable (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec Ideal S256x512 .bf16) (v655 : FVec Ideal S256x256 .bf16) (v657 : Vec Ideal S512x256 .bf16) (v670 : BitVec 32) (c2_i32_437 : BitVec 32) (X2 : BC Ideal a2) (X6 : BC Ideal a6) (X7 : BC Ideal a7) (X12 : BC Ideal a12) (m2 : Fin (k0_t2_loop m1).trips) (G : Grp)
  (hk : R2 v652 (fun i j => G.k (256 * m1.val + i) j)) (hv : R2 v655 (fun i j => G.v (256 * m1.val + i) j)) (hkt : R2 v657 (fun i j => G.k (256 * m1.val + j) i))
  (h2 : R2 (a2.view.read (Elt Ideal) X2) G.q) (h6 : R3 (a6.view.read (Elt Ideal) X6) (fun _ h t => G.dl h t)) (h7 : R4 (a7.view.read (Elt Ideal) X7) (fun _ _ h t => G.ls h t)) (h12 : R3 (a12.view.read (Elt Ideal) X12) (fun h l t => G.DT h l t))
  (f9 : BC Ideal a9) (f13 : BC Ideal a13) (f14 : BC Ideal a14) (g9 g13 : ℕ → ℕ → ℝ) (g14 : ℕ → ℕ → ℕ → ℝ)
  (h9 : U2 (256 * m1.val + 256) (a9.view.read (Elt Ideal) f9) g9) (h13 : R2 (a13.view.read (Elt Ideal) f13) g13) (h14 : R3 (a14.view.read (Elt Ideal) f14) g14)

 include hk hv hkt h2 h6 h7 h12 h9 h13 h14 in
/-- To the keys' gradient. -/
theorem trip2_val9 : U2 (256 * m1.val + 256) (a9.view.read (Elt Ideal) (a9.view.writes (Elt Ideal) f9 ((trip2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 m2).1 f9 f13 f14))) (fun u e => if (256 * m1.val) ≤ u ∧ u < (256 * m1.val) + 256 then g9 u e + ∑ t ∈ Finset.range 512, G.DS (e / 128) ((tq m1 m2) + t) u * G.q ((tq m1 m2) + t) e else g9 u e) := by
  unfold trip2
  refine U2.congr (?_ : U2 (256 * m1.val + 256) _ (fun u e => if (256 * m1.val) ≤ u ∧ u < (256 * m1.val) + 256 ∧ 384 ≤ e ∧ e < 384 + 128 then g9 u e + ∑ t ∈ Finset.range 512, G.DS 3 ((tq m1 m2) + t) u * G.q ((tq m1 m2) + t) e else if (256 * m1.val) ≤ u ∧ u < (256 * m1.val) + 256 ∧ 256 ≤ e ∧ e < 256 + 128 then g9 u e + ∑ t ∈ Finset.range 512, G.DS 2 ((tq m1 m2) + t) u * G.q ((tq m1 m2) + t) e else if (256 * m1.val) ≤ u ∧ u < (256 * m1.val) + 256 ∧ 128 ≤ e ∧ e < 128 + 128 then g9 u e + ∑ t ∈ Finset.range 512, G.DS 1 ((tq m1 m2) + t) u * G.q ((tq m1 m2) + t) e else if (256 * m1.val) ≤ u ∧ u < (256 * m1.val) + 256 ∧ 0 ≤ e ∧ e < 0 + 128 then g9 u e + ∑ t ∈ Finset.range 512, G.DS 0 ((tq m1 m2) + t) u * G.q ((tq m1 m2) + t) e else g9 u e)) ?_
  · exact (U2.st (U2.st (U2.st (U2.st h9 _ _ (k0_off72_eq m1) (fun u e => g9 u e + ∑ t ∈ Finset.range 512, G.DS 0 ((tq m1 m2) + t) u * G.q ((tq m1 m2) + t) e) (role_dk0 (t0 := (tq m1 m2)) (r_id_S256x128_f32 (U2.ld h9 _ _ (k0_off72_eq m1) le_rfl)) (role_ds (t0 := (tq m1 m2)) (role_p (t0 := (tq m1 m2)) (by unfold tq; omega) (role_s0 hk (r_id_S256x512_bf16 (l2qa h2 _))) (l2l0a h7 _)) (role_dp0 hv (role_dot (l2d0a h12 _))) (l2e0a h6 _)) (role_ds (t0 := (tq m1 m2 + 256)) (role_p (t0 := (tq m1 m2 + 256)) (by unfold tq; omega) (role_s0 hk (r_id_S256x512_bf16 (l2qb h2 _))) (l2l0b h7 _)) (role_dp0 hv (role_dot (l2d0b h12 _))) (l2e0b h6 _)) (r_id_S256x512_bf16 (l2qa h2 _)) (r_id_S256x512_bf16 (l2qb h2 _)))) _ _ (k0_off78_eq m1) (fun u e => g9 u e + ∑ t ∈ Finset.range 512, G.DS 1 ((tq m1 m2) + t) u * G.q ((tq m1 m2) + t) e) (role_dk1 (t0 := (tq m1 m2)) (r_id_S256x128_f32 (U2.ld h9 _ _ (k0_off78_eq m1) le_rfl)) (role_ds (t0 := (tq m1 m2)) (role_p (t0 := (tq m1 m2)) (by unfold tq; omega) (role_s1 hk (r_id_S256x512_bf16 (l2qa h2 _))) (l2l1a h7 _)) (role_dp1 hv (role_dot (l2d1a h12 _))) (l2e1a h6 _)) (role_ds (t0 := (tq m1 m2 + 256)) (role_p (t0 := (tq m1 m2 + 256)) (by unfold tq; omega) (role_s1 hk (r_id_S256x512_bf16 (l2qb h2 _))) (l2l1b h7 _)) (role_dp1 hv (role_dot (l2d1b h12 _))) (l2e1b h6 _)) (r_id_S256x512_bf16 (l2qa h2 _)) (r_id_S256x512_bf16 (l2qb h2 _)))) _ _ (k0_off83_eq m1) (fun u e => g9 u e + ∑ t ∈ Finset.range 512, G.DS 2 ((tq m1 m2) + t) u * G.q ((tq m1 m2) + t) e) (role_dk2 (t0 := (tq m1 m2)) (r_id_S256x128_f32 (U2.ld h9 _ _ (k0_off83_eq m1) le_rfl)) (role_ds (t0 := (tq m1 m2)) (role_p (t0 := (tq m1 m2)) (by unfold tq; omega) (role_s2 hk (r_id_S256x512_bf16 (l2qa h2 _))) (l2l2a h7 _)) (role_dp2 hv (role_dot (l2d2a h12 _))) (l2e2a h6 _)) (role_ds (t0 := (tq m1 m2 + 256)) (role_p (t0 := (tq m1 m2 + 256)) (by unfold tq; omega) (role_s2 hk (r_id_S256x512_bf16 (l2qb h2 _))) (l2l2b h7 _)) (role_dp2 hv (role_dot (l2d2b h12 _))) (l2e2b h6 _)) (r_id_S256x512_bf16 (l2qa h2 _)) (r_id_S256x512_bf16 (l2qb h2 _)))) _ _ (k0_off86_eq m1) (fun u e => g9 u e + ∑ t ∈ Finset.range 512, G.DS 3 ((tq m1 m2) + t) u * G.q ((tq m1 m2) + t) e) (role_dk3 (t0 := (tq m1 m2)) (r_id_S256x128_f32 (U2.ld h9 _ _ (k0_off86_eq m1) le_rfl)) (role_ds (t0 := (tq m1 m2)) (role_p (t0 := (tq m1 m2)) (by unfold tq; omega) (role_s3 hk (r_id_S256x512_bf16 (l2qa h2 _))) (l2l3a h7 _)) (role_dp3 hv (role_dot (l2d3a h12 _))) (l2e3a h6 _)) (role_ds (t0 := (tq m1 m2 + 256)) (role_p (t0 := (tq m1 m2 + 256)) (by unfold tq; omega) (role_s3 hk (r_id_S256x512_bf16 (l2qb h2 _))) (l2l3b h7 _)) (role_dp3 hv (role_dot (l2d3b h12 _))) (l2e3b h6 _)) (r_id_S256x512_bf16 (l2qa h2 _)) (r_id_S256x512_bf16 (l2qb h2 _))))
  · intro u e hu he
    rcases (by omega : e < 128 ∨ (128 ≤ e ∧ e < 256) ∨ (256 ≤ e ∧ e < 384) ∨ (384 ≤ e ∧ e < 512)) with c | c | c | c
    · rw [show e / 128 = 0 by omega]; split_ifs <;> first | rfl | (exfalso; omega)
    · rw [show e / 128 = 1 by omega]; split_ifs <;> first | rfl | (exfalso; omega)
    · rw [show e / 128 = 2 by omega]; split_ifs <;> first | rfl | (exfalso; omega)
    · rw [show e / 128 = 3 by omega]; split_ifs <;> first | rfl | (exfalso; omega)

theorem off_b {n a b : ℕ} : (![n, 256 * (a + 2 * (b + 1) + 1)] : Fin 2 → ℕ) = ![n, 256 * (a + 2 * (b + 1)) + 256] := by congr 1
include hk hv hkt h2 h6 h7 h12 h9 h13 h14 in
/-- To the queries' gradient. -/
theorem trip2_val13 : R2 (a13.view.read (Elt Ideal) (a13.view.writes (Elt Ideal) f13 ((trip2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 m2).2.1 f9 f13 f14))) (fun e t => if (tq m1 m2) ≤ t ∧ t < (tq m1 m2) + 512 then g13 e t + ∑ u ∈ Finset.range 256, G.k ((256 * m1.val) + u) e * G.DS (e / 128) t ((256 * m1.val) + u) else g13 e t) := by
  unfold trip2
  refine R2.congr (?_ : R2 _ (fun e t => if 384 ≤ e ∧ e < 384 + 128 ∧ ((tq m1 m2) + 256) ≤ t ∧ t < ((tq m1 m2) + 256) + 256 then g13 e t + ∑ u ∈ Finset.range 256, G.k ((256 * m1.val) + u) e * G.DS 3 t ((256 * m1.val) + u) else if 384 ≤ e ∧ e < 384 + 128 ∧ (tq m1 m2) ≤ t ∧ t < (tq m1 m2) + 256 then g13 e t + ∑ u ∈ Finset.range 256, G.k ((256 * m1.val) + u) e * G.DS 3 t ((256 * m1.val) + u) else if 256 ≤ e ∧ e < 256 + 128 ∧ ((tq m1 m2) + 256) ≤ t ∧ t < ((tq m1 m2) + 256) + 256 then g13 e t + ∑ u ∈ Finset.range 256, G.k ((256 * m1.val) + u) e * G.DS 2 t ((256 * m1.val) + u) else if 256 ≤ e ∧ e < 256 + 128 ∧ (tq m1 m2) ≤ t ∧ t < (tq m1 m2) + 256 then g13 e t + ∑ u ∈ Finset.range 256, G.k ((256 * m1.val) + u) e * G.DS 2 t ((256 * m1.val) + u) else if 128 ≤ e ∧ e < 128 + 128 ∧ ((tq m1 m2) + 256) ≤ t ∧ t < ((tq m1 m2) + 256) + 256 then g13 e t + ∑ u ∈ Finset.range 256, G.k ((256 * m1.val) + u) e * G.DS 1 t ((256 * m1.val) + u) else if 128 ≤ e ∧ e < 128 + 128 ∧ (tq m1 m2) ≤ t ∧ t < (tq m1 m2) + 256 then g13 e t + ∑ u ∈ Finset.range 256, G.k ((256 * m1.val) + u) e * G.DS 1 t ((256 * m1.val) + u) else if 0 ≤ e ∧ e < 0 + 128 ∧ ((tq m1 m2) + 256) ≤ t ∧ t < ((tq m1 m2) + 256) + 256 then g13 e t + ∑ u ∈ Finset.range 256, G.k ((256 * m1.val) + u) e * G.DS 0 t ((256 * m1.val) + u) else if 0 ≤ e ∧ e < 0 + 128 ∧ (tq m1 m2) ≤ t ∧ t < (tq m1 m2) + 256 then g13 e t + ∑ u ∈ Finset.range 256, G.k ((256 * m1.val) + u) e * G.DS 0 t ((256 * m1.val) + u) else g13 e t)) ?_
  · exact (st2_f32 (st2_f32 (st2_f32 (st2_f32 (st2_f32 (st2_f32 (st2_f32 (st2_f32 h13 _ (tq m1 m2) ((k0_off73_at_0 m1 m2)) (fun e t => g13 e t + ∑ u ∈ Finset.range 256, G.k ((256 * m1.val) + u) e * G.DS 0 t ((256 * m1.val) + u)) (role_dq0 (t0 := (tq m1 m2)) (ld2_f32 h13 _ (tq m1 m2) ((k0_off73_at_0 m1 m2))) (role_ds (t0 := (tq m1 m2)) (role_p (t0 := (tq m1 m2)) (by unfold tq; omega) (role_s0 hk (r_id_S256x512_bf16 (l2qa h2 _))) (l2l0a h7 _)) (role_dp0 hv (role_dot (l2d0a h12 _))) (l2e0a h6 _)) hkt)) _ ((tq m1 m2) + 256) ((k0_off73_at_1 m1 m2).trans off_b) (fun e t => g13 e t + ∑ u ∈ Finset.range 256, G.k ((256 * m1.val) + u) e * G.DS 0 t ((256 * m1.val) + u)) (role_dq0 (t0 := ((tq m1 m2) + 256)) (ld2_f32 h13 _ ((tq m1 m2) + 256) ((k0_off73_at_1 m1 m2).trans off_b)) (role_ds (t0 := (tq m1 m2 + 256)) (role_p (t0 := (tq m1 m2 + 256)) (by unfold tq; omega) (role_s0 hk (r_id_S256x512_bf16 (l2qb h2 _))) (l2l0b h7 _)) (role_dp0 hv (role_dot (l2d0b h12 _))) (l2e0b h6 _)) hkt)) _ (tq m1 m2) ((k0_off79_at_0 m1 m2)) (fun e t => g13 e t + ∑ u ∈ Finset.range 256, G.k ((256 * m1.val) + u) e * G.DS 1 t ((256 * m1.val) + u)) (role_dq1 (t0 := (tq m1 m2)) (ld2_f32 h13 _ (tq m1 m2) ((k0_off79_at_0 m1 m2))) (role_ds (t0 := (tq m1 m2)) (role_p (t0 := (tq m1 m2)) (by unfold tq; omega) (role_s1 hk (r_id_S256x512_bf16 (l2qa h2 _))) (l2l1a h7 _)) (role_dp1 hv (role_dot (l2d1a h12 _))) (l2e1a h6 _)) hkt)) _ ((tq m1 m2) + 256) ((k0_off79_at_1 m1 m2).trans off_b) (fun e t => g13 e t + ∑ u ∈ Finset.range 256, G.k ((256 * m1.val) + u) e * G.DS 1 t ((256 * m1.val) + u)) (role_dq1 (t0 := ((tq m1 m2) + 256)) (ld2_f32 h13 _ ((tq m1 m2) + 256) ((k0_off79_at_1 m1 m2).trans off_b)) (role_ds (t0 := (tq m1 m2 + 256)) (role_p (t0 := (tq m1 m2 + 256)) (by unfold tq; omega) (role_s1 hk (r_id_S256x512_bf16 (l2qb h2 _))) (l2l1b h7 _)) (role_dp1 hv (role_dot (l2d1b h12 _))) (l2e1b h6 _)) hkt)) _ (tq m1 m2) ((k0_off84_at_0 m1 m2)) (fun e t => g13 e t + ∑ u ∈ Finset.range 256, G.k ((256 * m1.val) + u) e * G.DS 2 t ((256 * m1.val) + u)) (role_dq2 (t0 := (tq m1 m2)) (ld2_f32 h13 _ (tq m1 m2) ((k0_off84_at_0 m1 m2))) (role_ds (t0 := (tq m1 m2)) (role_p (t0 := (tq m1 m2)) (by unfold tq; omega) (role_s2 hk (r_id_S256x512_bf16 (l2qa h2 _))) (l2l2a h7 _)) (role_dp2 hv (role_dot (l2d2a h12 _))) (l2e2a h6 _)) hkt)) _ ((tq m1 m2) + 256) ((k0_off84_at_1 m1 m2).trans off_b) (fun e t => g13 e t + ∑ u ∈ Finset.range 256, G.k ((256 * m1.val) + u) e * G.DS 2 t ((256 * m1.val) + u)) (role_dq2 (t0 := ((tq m1 m2) + 256)) (ld2_f32 h13 _ ((tq m1 m2) + 256) ((k0_off84_at_1 m1 m2).trans off_b)) (role_ds (t0 := (tq m1 m2 + 256)) (role_p (t0 := (tq m1 m2 + 256)) (by unfold tq; omega) (role_s2 hk (r_id_S256x512_bf16 (l2qb h2 _))) (l2l2b h7 _)) (role_dp2 hv (role_dot (l2d2b h12 _))) (l2e2b h6 _)) hkt)) _ (tq m1 m2) ((k0_off87_at_0 m1 m2)) (fun e t => g13 e t + ∑ u ∈ Finset.range 256, G.k ((256 * m1.val) + u) e * G.DS 3 t ((256 * m1.val) + u)) (role_dq3 (t0 := (tq m1 m2)) (ld2_f32 h13 _ (tq m1 m2) ((k0_off87_at_0 m1 m2))) (role_ds (t0 := (tq m1 m2)) (role_p (t0 := (tq m1 m2)) (by unfold tq; omega) (role_s3 hk (r_id_S256x512_bf16 (l2qa h2 _))) (l2l3a h7 _)) (role_dp3 hv (role_dot (l2d3a h12 _))) (l2e3a h6 _)) hkt)) _ ((tq m1 m2) + 256) ((k0_off87_at_1 m1 m2).trans off_b) (fun e t => g13 e t + ∑ u ∈ Finset.range 256, G.k ((256 * m1.val) + u) e * G.DS 3 t ((256 * m1.val) + u)) (role_dq3 (t0 := ((tq m1 m2) + 256)) (ld2_f32 h13 _ ((tq m1 m2) + 256) ((k0_off87_at_1 m1 m2).trans off_b)) (role_ds (t0 := (tq m1 m2 + 256)) (role_p (t0 := (tq m1 m2 + 256)) (by unfold tq; omega) (role_s3 hk (r_id_S256x512_bf16 (l2qb h2 _))) (l2l3b h7 _)) (role_dp3 hv (role_dot (l2d3b h12 _))) (l2e3b h6 _)) hkt))
  · intro e t he ht
    rcases (by omega : e < 128 ∨ (128 ≤ e ∧ e < 256) ∨ (256 ≤ e ∧ e < 384) ∨ (384 ≤ e ∧ e < 512)) with c | c | c | c
    · rw [show e / 128 = 0 by omega]; split_ifs <;> first | rfl | (exfalso; omega)
    · rw [show e / 128 = 1 by omega]; split_ifs <;> first | rfl | (exfalso; omega)
    · rw [show e / 128 = 2 by omega]; split_ifs <;> first | rfl | (exfalso; omega)
    · rw [show e / 128 = 3 by omega]; split_ifs <;> first | rfl | (exfalso; omega)
include hk hv hkt h2 h6 h7 h12 h9 h13 h14 in
/-- To the values' gradient, transposed. -/
theorem trip2_val14 : R3 (a14.view.read (Elt Ideal) (a14.view.writes (Elt Ideal) f14 ((trip2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 m2).2.2.1 f9 f13 f14))) (fun s e u => if s = (m1.val % 2) then g14 s e u + ∑ t ∈ Finset.range 512, G.d ((tq m1 m2) + t) e * G.P (e / 64) ((tq m1 m2) + t) ((256 * m1.val) + u) else g14 s e u) := by
  unfold trip2
  refine R3.congr (?_ : R3 _ (fun s e u => if (m1.val % 2) ≤ s ∧ s < (m1.val % 2) + 1 ∧ 192 ≤ e ∧ e < 192 + 64 ∧ 0 ≤ u ∧ u < 0 + 256 then g14 s e u + ∑ t ∈ Finset.range 512, G.d ((tq m1 m2) + t) e * G.P 3 ((tq m1 m2) + t) ((256 * m1.val) + u) else if (m1.val % 2) ≤ s ∧ s < (m1.val % 2) + 1 ∧ 128 ≤ e ∧ e < 128 + 64 ∧ 0 ≤ u ∧ u < 0 + 256 then g14 s e u + ∑ t ∈ Finset.range 512, G.d ((tq m1 m2) + t) e * G.P 2 ((tq m1 m2) + t) ((256 * m1.val) + u) else if (m1.val % 2) ≤ s ∧ s < (m1.val % 2) + 1 ∧ 64 ≤ e ∧ e < 64 + 64 ∧ 0 ≤ u ∧ u < 0 + 256 then g14 s e u + ∑ t ∈ Finset.range 512, G.d ((tq m1 m2) + t) e * G.P 1 ((tq m1 m2) + t) ((256 * m1.val) + u) else if (m1.val % 2) ≤ s ∧ s < (m1.val % 2) + 1 ∧ 0 ≤ e ∧ e < 0 + 64 ∧ 0 ≤ u ∧ u < 0 + 256 then g14 s e u + ∑ t ∈ Finset.range 512, G.d ((tq m1 m2) + t) e * G.P 0 ((tq m1 m2) + t) ((256 * m1.val) + u) else g14 s e u)) ?_
  · exact (st3_f32 (st3_f32 (st3_f32 (st3_f32 h14 (m1.val % 2) 0 0 (k0_off71_at m1) (fun s e u => g14 s e u + ∑ t ∈ Finset.range 512, G.d ((tq m1 m2) + t) e * G.P 0 ((tq m1 m2) + t) ((256 * m1.val) + u)) (R3.congr (role_dv0 (s := (m1.val % 2)) (g := g14) (t0 := (tq m1 m2)) ((ld3_f32 h14 _ _ _ (k0_off71_at m1)).congr fun i j k hi _ _ => by congr 1 <;> omega) (role_p (t0 := (tq m1 m2)) (by unfold tq; omega) (role_s0 hk (r_id_S256x512_bf16 (l2qa h2 _))) (l2l0a h7 _)) (role_p (t0 := (tq m1 m2 + 256)) (by unfold tq; omega) (role_s0 hk (r_id_S256x512_bf16 (l2qb h2 _))) (l2l0b h7 _)) (role_dot (l2d0a h12 _)) (role_dot (l2d0b h12 _))) fun i j k hi _ _ => by simp only [show i = 0 by omega, Nat.add_zero, Nat.zero_add])) (m1.val % 2) 64 0 (k0_off77_at m1) (fun s e u => g14 s e u + ∑ t ∈ Finset.range 512, G.d ((tq m1 m2) + t) e * G.P 1 ((tq m1 m2) + t) ((256 * m1.val) + u)) (R3.congr (role_dv1 (s := (m1.val % 2)) (g := g14) (t0 := (tq m1 m2)) ((ld3_f32 h14 _ _ _ (k0_off77_at m1)).congr fun i j k hi _ _ => by congr 1 <;> omega) (role_p (t0 := (tq m1 m2)) (by unfold tq; omega) (role_s1 hk (r_id_S256x512_bf16 (l2qa h2 _))) (l2l1a h7 _)) (role_p (t0 := (tq m1 m2 + 256)) (by unfold tq; omega) (role_s1 hk (r_id_S256x512_bf16 (l2qb h2 _))) (l2l1b h7 _)) (role_dot (l2d1a h12 _)) (role_dot (l2d1b h12 _))) fun i j k hi _ _ => by simp only [show i = 0 by omega, Nat.add_zero, Nat.zero_add])) (m1.val % 2) 128 0 (k0_off82_at m1) (fun s e u => g14 s e u + ∑ t ∈ Finset.range 512, G.d ((tq m1 m2) + t) e * G.P 2 ((tq m1 m2) + t) ((256 * m1.val) + u)) (R3.congr (role_dv2 (s := (m1.val % 2)) (g := g14) (t0 := (tq m1 m2)) ((ld3_f32 h14 _ _ _ (k0_off82_at m1)).congr fun i j k hi _ _ => by congr 1 <;> omega) (role_p (t0 := (tq m1 m2)) (by unfold tq; omega) (role_s2 hk (r_id_S256x512_bf16 (l2qa h2 _))) (l2l2a h7 _)) (role_p (t0 := (tq m1 m2 + 256)) (by unfold tq; omega) (role_s2 hk (r_id_S256x512_bf16 (l2qb h2 _))) (l2l2b h7 _)) (role_dot (l2d2a h12 _)) (role_dot (l2d2b h12 _))) fun i j k hi _ _ => by simp only [show i = 0 by omega, Nat.add_zero, Nat.zero_add])) (m1.val % 2) 192 0 (k0_off85_at m1) (fun s e u => g14 s e u + ∑ t ∈ Finset.range 512, G.d ((tq m1 m2) + t) e * G.P 3 ((tq m1 m2) + t) ((256 * m1.val) + u)) (R3.congr (role_dv3 (s := (m1.val % 2)) (g := g14) (t0 := (tq m1 m2)) ((ld3_f32 h14 _ _ _ (k0_off85_at m1)).congr fun i j k hi _ _ => by congr 1 <;> omega) (role_p (t0 := (tq m1 m2)) (by unfold tq; omega) (role_s3 hk (r_id_S256x512_bf16 (l2qa h2 _))) (l2l3a h7 _)) (role_p (t0 := (tq m1 m2 + 256)) (by unfold tq; omega) (role_s3 hk (r_id_S256x512_bf16 (l2qb h2 _))) (l2l3b h7 _)) (role_dot (l2d3a h12 _)) (role_dot (l2d3b h12 _))) fun i j k hi _ _ => by simp only [show i = 0 by omega, Nat.add_zero, Nat.zero_add]))
  · intro s e u hs he hu
    rcases (by omega : e < 64 ∨ (64 ≤ e ∧ e < 128) ∨ (128 ≤ e ∧ e < 192) ∨ (192 ≤ e ∧ e < 256)) with c | c | c | c
    · rw [show e / 64 = 0 by omega]; split_ifs <;> first | rfl | (exfalso; omega)
    · rw [show e / 64 = 1 by omega]; split_ifs <;> first | rfl | (exfalso; omega)
    · rw [show e / 64 = 2 by omega]; split_ifs <;> first | rfl | (exfalso; omega)
    · rw [show e / 64 = 3 by omega]; split_ifs <;> first | rfl | (exfalso; omega)

end Cert.MlaIdeal.Gen

end
-- ==== Proof.MlaIdealValC.lean ====
/- The gradients while one tile of keys meets the tiles of queries, over the reals; the diagonal's mask; loads of the tiles. -/
module

public import proofs.«01_k».proof.Proof.MlaIdealVal2
public import proofs.«01_k».proof.Proof.MlaIdealLoop

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

/-- A tile of queries. -/
theorem lq {G : Grp} {a2 : MV S2048x512 .bf16} {X2 : BC Ideal a2} (h2 : R2 (a2.view.read (Elt Ideal) X2) G.q) (t0 : ℕ) {o} (ho : o = ![t0, 0]) {h} :
    R2 (View.readAt (Elt Ideal) a2.view (Rect.unit (s := S2048x512) o S256x512.size h).toLoadRect X2) (fun i j => G.q (t0 + i) j) :=
  (ld2_bf16 (s0 := 256) (s1 := 512) h2 _ _ ho).congr fun i j _ _ => by congr 1; omega
/-- A tile of one head's output cotangent. -/
theorem ld {G : Grp} {a12 : MV S4x128x2048 .bf16} {X12 : BC Ideal a12} (h12 : R3 (a12.view.read (Elt Ideal) X12) (fun h l t => G.DT h l t)) (n t0 : ℕ) {o} (ho : o = ![n, 0, t0]) {h} :
    R3 (View.readAt (Elt Ideal) a12.view (Rect.unit (s := S4x128x2048) o S1x128x256.size h).toLoadRect X12) (fun _ l t => G.DT n l (t0 + t)) :=
  (ld3_bf16 (s0 := 1) (s1 := 128) (s2 := 256) h12 _ _ _ ho).congr fun i j k _ _ _ => by congr 1 <;> omega
/-- A tile of one head's row of deltas. -/
theorem le' {G : Grp} {a6 : MV S1x4x2048 .f32} {X6 : BC Ideal a6} (h6 : R3 (a6.view.read (Elt Ideal) X6) (fun _ h t => G.dl h t)) (n t0 : ℕ) {o} (ho : o = ![0, n, t0]) {h} :
    R3 (View.readAt (Elt Ideal) a6.view (Rect.unit (s := S1x4x2048) o S1x1x256.size h).toLoadRect X6) (fun _ _ t => G.dl n (t0 + t)) :=
  (ld3_f32 (s0 := 1) (s1 := 1) (s2 := 256) h6 _ _ _ ho).congr fun i j k _ _ _ => by congr 1 <;> omega
/-- A tile of one head's row of log-sums. -/
theorem ll {G : Grp} {a7 : MV S1x1x4x2048 .f32} {X7 : BC Ideal a7} (h7 : R4 (a7.view.read (Elt Ideal) X7) (fun _ _ h t => G.ls h t)) (n t0 : ℕ) {o} (ho : o = ![0, 0, n, t0]) {h} :
    R4 (View.readAt (Elt Ideal) a7.view (Rect.unit (s := S1x1x4x2048) o S1x1x1x256.size h).toLoadRect X7) (fun _ _ _ t => G.ls n (t0 + t)) :=
  (ld4_f32 (s0 := 1) (s1 := 1) (s2 := 1) (s3 := 256) h7 _ _ _ _ ho).congr fun i j k l _ _ _ _ => by congr 1 <;> omega
/-- A tile of keys, of values, and of the keys' transpose. -/
theorem lk {G : Grp} {a3 : MV S2048x512 .bf16} {X3 : BC Ideal a3} (h3 : R2 (a3.view.read (Elt Ideal) X3) G.k) (u0 : ℕ) {o} (ho : o = ![u0, 0]) {h} :
    R2 (View.readAt (Elt Ideal) a3.view (Rect.unit (s := S2048x512) o S256x512.size h).toLoadRect X3) (fun i j => G.k (u0 + i) j) :=
  (ld2_bf16 (s0 := 256) (s1 := 512) h3 _ _ ho).congr fun i j _ _ => by congr 1; omega
theorem lv {G : Grp} {a4 : MV S2048x256 .bf16} {X4 : BC Ideal a4} (h4 : R2 (a4.view.read (Elt Ideal) X4) G.v) (u0 : ℕ) {o} (ho : o = ![u0, 0]) {h} :
    R2 (View.readAt (Elt Ideal) a4.view (Rect.unit (s := S2048x256) o S256x256.size h).toLoadRect X4) (fun i j => G.v (u0 + i) j) :=
  (ld2_bf16 (s0 := 256) (s1 := 256) h4 _ _ ho).congr fun i j _ _ => by congr 1; omega
theorem lkt {G : Grp} {a11 : MV S512x2048 .bf16} {X11 : BC Ideal a11} (h11 : R2 (a11.view.read (Elt Ideal) X11) (fun e t => G.k t e)) (u0 : ℕ) {o} (ho : o = ![0, u0]) {h} :
    R2 (View.readAt (Elt Ideal) a11.view (Rect.unit (s := S512x2048) o S512x256.size h).toLoadRect X11) (fun i j => G.k (u0 + j) i) :=
  (ld2_bf16 (s0 := 512) (s1 := 256) h11 _ _ ho).congr fun i j _ _ => by congr 1; omega

/-- Comparing two small numbers held in 32 bits. -/
theorem sle_small (a b : ℕ) (ha : a < 2 ^ 31) (hb : b < 2 ^ 31) : ((BitVec.ofNat 32 a).sle (BitVec.ofNat 32 b)) = decide (a ≤ b) := by
  have e (n : ℕ) (hn : n < 2 ^ 31) : (BitVec.ofNat 32 n).toInt = n := by
    rw [BitVec.toInt_eq_toNat_of_lt] <;> rw [BitVec.toNat_ofNat, Nat.mod_eq_of_lt (by omega)]
    omega
  unfold BitVec.sle
  rw [e a ha, e b hb]; simp

theorem base_at : ∀ m1 : Fin k0_t1_loop.trips, Scalar.muli (Scf.iv (0#32) (1#32) m1.val) 256#32 = BitVec.ofNat 32 (256 * m1.val) := by decide +kernel

theorem mask_of (m1 : Fin k0_t1_loop.trips) (i j : Fin 256) :
    IntOp.cmpi .sle (IntOp.addi (BitVec.ofNat 32 (256 * m1.val)) (BitVec.ofNat 32 i.val)) (IntOp.addi (BitVec.ofNat 32 (256 * m1.val)) (BitVec.ofNat 32 j.val))
      = if 256 * m1.val + i.val ≤ 256 * m1.val + j.val then 1#1 else 0#1 := by
  have hk : m1.val < 8 := lt_of_lt_of_eq m1.isLt k0_t1_trips
  show BitVec.ofBool ((BitVec.ofNat 32 (256 * m1.val) + BitVec.ofNat 32 i.val).sle (BitVec.ofNat 32 (256 * m1.val) + BitVec.ofNat 32 j.val)) = _
  rw [← BitVec.ofNat_add, ← BitVec.ofNat_add, sle_small _ _ (by omega) (by omega)]
  by_cases cc : 256 * m1.val + i.val ≤ 256 * m1.val + j.val <;> simp [cc]

theorem mask10 (m1 : Fin k0_t1_loop.trips) : Mask (k0_pay10 (Scf.iv (0#32) (1#32) m1.val) (k0_pay299 (0#32) (1#32) m1)) (256 * m1.val) (256 * m1.val) := by
  intro i j
  refine Eq.trans ?_ (mask_of m1 i j)
  simp only [k0_pay10, k0_pay299, base_at]
  pointwise
theorem mask81 (m1 : Fin k0_t1_loop.trips) : Mask (k0_pay81 (Scf.iv (0#32) (1#32) m1.val) (k0_pay299 (0#32) (1#32) m1)) (256 * m1.val) (256 * m1.val) := by
  intro i j
  refine Eq.trans ?_ (mask_of m1 i j)
  simp only [k0_pay81, k0_pay299, base_at]
  pointwise

/-- The zeros a tile's gradients start at. -/
theorem zero9 : R2 (k0_pay300 (F := Ideal)) (fun _ _ => 0) := by
  intro i j; simp only [k0_pay300]; pointwise; exact EReal.coe_zero.symm
theorem zero14 : R3 (k0_pay301 (F := Ideal)) (fun _ _ _ => 0) := by
  intro i j k; simp only [k0_pay301]; pointwise; exact EReal.coe_zero.symm

/-- The keys' gradient once the queries before T were met. -/
def s9 (G : Grp) (g9 : ℕ → ℕ → ℝ) (kt T u e : ℕ) : ℝ := if 256 * kt ≤ u ∧ u < 256 * kt + 256 then ∑ t ∈ Finset.Ico (256 * kt) T, G.DS (e / 128) t u * G.q t e else g9 u e
/-- The queries' gradient, transposed. -/
def s13 (G : Grp) (g13 : ℕ → ℕ → ℝ) (kt T e t : ℕ) : ℝ := if 256 * kt ≤ t ∧ t < T then g13 e t + ∑ u ∈ Finset.range 256, G.k (256 * kt + u) e * G.DS (e / 128) t (256 * kt + u) else g13 e t
/-- The values' gradient, transposed. -/
def s14 (G : Grp) (g14 : ℕ → ℕ → ℕ → ℝ) (kt T s e u : ℕ) : ℝ := if s = kt % 2 then ∑ t ∈ Finset.Ico (256 * kt) T, G.d t e * G.P (e / 64) t (256 * kt + u) else g14 s e u

theorem ico_step (f : ℕ → ℝ) (a T n : ℕ) (h : a ≤ T) : (∑ t ∈ Finset.Ico a T, f t) + ∑ t ∈ Finset.range n, f (T + t) = ∑ t ∈ Finset.Ico a (T + n), f t := by
  rw [← Finset.sum_Ico_consecutive f h (Nat.le_add_right T n)]
  congr 1
  rw [Finset.sum_Ico_eq_sum_range]; simp
theorem ico_zero (f : ℕ → ℝ) (a n : ℕ) : (0 : ℝ) + ∑ t ∈ Finset.range n, f (a + t) = ∑ t ∈ Finset.Ico a (a + n), f t := by
  rw [Finset.sum_Ico_eq_sum_range]; simp

theorem s9_step {G : Grp} {g9 : ℕ → ℕ → ℝ} {kt T n u e : ℕ} (h : 256 * kt ≤ T) :
    (if 256 * kt ≤ u ∧ u < 256 * kt + 256 then s9 G g9 kt T u e + ∑ t ∈ Finset.range n, G.DS (e / 128) (T + t) u * G.q (T + t) e else s9 G g9 kt T u e) = s9 G g9 kt (T + n) u e := by
  unfold s9
  by_cases cc : 256 * kt ≤ u ∧ u < 256 * kt + 256
  · rw [if_pos cc, if_pos cc, if_pos cc]
    exact ico_step (fun t => G.DS (e / 128) t u * G.q t e) _ _ _ h
  · rw [if_neg cc, if_neg cc, if_neg cc]
theorem s13_step {G : Grp} {g13 : ℕ → ℕ → ℝ} {kt T n e t : ℕ} (h : 256 * kt ≤ T) :
    (if T ≤ t ∧ t < T + n then s13 G g13 kt T e t + ∑ u ∈ Finset.range 256, G.k (256 * kt + u) e * G.DS (e / 128) t (256 * kt + u) else s13 G g13 kt T e t) = s13 G g13 kt (T + n) e t := by
  unfold s13
  split_ifs <;> first | rfl | (exfalso; omega)
theorem s14_step {G : Grp} {g14 : ℕ → ℕ → ℕ → ℝ} {kt T n s e u : ℕ} (h : 256 * kt ≤ T) :
    (if s = kt % 2 then s14 G g14 kt T s e u + ∑ t ∈ Finset.range n, G.d (T + t) e * G.P (e / 64) (T + t) (256 * kt + u) else s14 G g14 kt T s e u) = s14 G g14 kt (T + n) s e u := by
  unfold s14
  by_cases cc : s = kt % 2
  · rw [if_pos cc, if_pos cc, if_pos cc]
    exact ico_step (fun t => G.d t e * G.P (e / 64) t (256 * kt + u)) _ _ _ h
  · rw [if_neg cc, if_neg cc, if_neg cc]

/-- After n trips of the loop over pairs of whole query tiles. -/
theorem pb2_val (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec Ideal S256x512 .bf16) (v655 : FVec Ideal S256x256 .bf16) (v657 : Vec Ideal S512x256 .bf16) (v670 : BitVec 32) (c2_i32_437 : BitVec 32) (X2 : BC Ideal a2) (X6 : BC Ideal a6) (X7 : BC Ideal a7) (X12 : BC Ideal a12) (G : Grp)
  (hk : R2 v652 (fun i j => G.k (256 * m1.val + i) j)) (hv : R2 v655 (fun i j => G.v (256 * m1.val + i) j)) (hkt : R2 v657 (fun i j => G.k (256 * m1.val + j) i))
  (h2 : R2 (a2.view.read (Elt Ideal) X2) G.q) (h6 : R3 (a6.view.read (Elt Ideal) X6) (fun _ h t => G.dl h t)) (h7 : R4 (a7.view.read (Elt Ideal) X7) (fun _ _ h t => G.ls h t)) (h12 : R3 (a12.view.read (Elt Ideal) X12) (fun h l t => G.DT h l t))
  (f9 : BC Ideal a9) (f13 : BC Ideal a13) (f14 : BC Ideal a14) (g9 g13 : ℕ → ℕ → ℝ) (g14 : ℕ → ℕ → ℕ → ℝ)
  (h9 : U2 (256 * m1.val + 256) (a9.view.read (Elt Ideal) f9) (s9 G g9 m1.val (256 * (m1.val + 2 * (0 + 1))))) (h13 : R2 (a13.view.read (Elt Ideal) f13) (s13 G g13 m1.val (256 * (m1.val + 2 * (0 + 1))))) (h14 : R3 (a14.view.read (Elt Ideal) f14) (s14 G g14 m1.val (256 * (m1.val + 2 * (0 + 1))))) :
  ∀ n : ℕ, n ≤ (k0_t2_loop m1).trips → U2 (256 * m1.val + 256) (a9.view.read (Elt Ideal) (a9.view.writes (Elt Ideal) f9 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).1))) (s9 G g9 m1.val (256 * (m1.val + 2 * (n + 1)))) ∧ R2 (a13.view.read (Elt Ideal) (a13.view.writes (Elt Ideal) f13 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.1))) (s13 G g13 m1.val (256 * (m1.val + 2 * (n + 1)))) ∧ R3 (a14.view.read (Elt Ideal) (a14.view.writes (Elt Ideal) f14 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.2))) (s14 G g14 m1.val (256 * (m1.val + 2 * (n + 1))))
  | 0, _ => ⟨h9, h13, h14⟩
  | n + 1, hn => by
    obtain ⟨z9, z13, z14⟩ := pb2_val c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G hk hv hkt h2 h6 h7 h12 f9 f13 f14 g9 g13 g14 h9 h13 h14 n (by omega)
    have eT : 256 * (m1.val + 2 * (n + 1 + 1)) = 256 * (m1.val + 2 * (n + 1)) + 512 := by omega
    rw [eT, pb2_succ9 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 ⟨n, hn⟩, pb2_succ13 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 ⟨n, hn⟩, pb2_succ14 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 ⟨n, hn⟩, View.writes_append, View.writes_append, View.writes_append]
    refine ⟨?_, ?_, ?_⟩
    · exact U2.congr (trip2_val9 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨n, hn⟩ G hk hv hkt h2 h6 h7 h12 _ _ _ _ _ _ z9 z13 z14) fun u e _ _ => s9_step (T := 256 * (m1.val + 2 * (n + 1))) (by omega)
    · exact R2.congr (trip2_val13 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨n, hn⟩ G hk hv hkt h2 h6 h7 h12 _ _ _ _ _ _ z9 z13 z14) fun u e _ _ => s13_step (T := 256 * (m1.val + 2 * (n + 1))) (by omega)
    · exact R3.congr (trip2_val14 c i a2 b2 a3 b3 a4 b4 a5 b5 a6 b6 a7 b7 a8 b8 a9 b9 a10 b10 a11 b11 a12 b12 a13 b13 a14 b14 m1 a15 v647 v649 v652 v655 v657 v670 c2_i32_437 X2 X6 X7 X12 ⟨n, hn⟩ G hk hv hkt h2 h6 h7 h12 _ _ _ _ _ _ z9 z13 z14) fun s e u _ _ _ => s14_step (T := 256 * (m1.val + 2 * (n + 1))) (by omega)

theorem thenProp {P Q : Prop} (hp : P) (hq : P → Q) : Q := hq hp
theorem and3 {n9 : ℕ} {a9 : MV S2048x512 .f32} {a13 : MV S512x2048 .f32} {a14 : MV S2x256x256 .f32} {f9 : BC Ideal a9} {f13 : BC Ideal a13} {f14 : BC Ideal a14} {L9 M9 L13 M13 L14 M14} {g9 g13 : ℕ → ℕ → ℝ} {g14 : ℕ → ℕ → ℕ → ℝ}
    (h : U2 n9 (a9.view.read (Elt Ideal) (a9.view.writes (Elt Ideal) (a9.view.writes (Elt Ideal) f9 M9) L9)) g9 ∧ R2 (a13.view.read (Elt Ideal) (a13.view.writes (Elt Ideal) (a13.view.writes (Elt Ideal) f13 M13) L13)) g13 ∧ R3 (a14.view.read (Elt Ideal) (a14.view.writes (Elt Ideal) (a14.view.writes (Elt Ideal) f14 M14) L14)) g14) :
    U2 n9 (a9.view.read (Elt Ideal) (a9.view.writes (Elt Ideal) f9 (L9 ++ M9))) g9 ∧ R2 (a13.view.read (Elt Ideal) (a13.view.writes (Elt Ideal) f13 (L13 ++ M13))) g13 ∧ R3 (a14.view.read (Elt Ideal) (a14.view.writes (Elt Ideal) f14 (L14 ++ M14))) g14 := by
  rw [View.writes_append, View.writes_append, View.writes_append]; exact h

/-- Without a trip. -/
theorem pb2_none {c : Dev nD} {i : grid0.Coords} {a2 : MV S2048x512 .bf16} {b2 : a2.IsWhole} {a3 : MV S2048x512 .bf16} {b3 : a3.IsWhole} {a4 : MV S2048x256 .bf16} {b4 : a4.IsWhole} {a5 : MV S2048x256 .bf16} {b5 : a5.IsWhole} {a6 : MV S1x4x2048 .f32} {b6 : a6.IsWhole} {a7 : MV S1x1x4x2048 .f32} {b7 : a7.IsWhole} {a8 : MV S2048x512 .f32} {b8 : a8.IsWhole} {a9 : MV S2048x512 .f32} {b9 : a9.IsWhole} {a10 : MV S2048x256 .f32} {b10 : a10.IsWhole} {a11 : MV S512x2048 .bf16} {b11 : a11.IsWhole} {a12 : MV S4x128x2048 .bf16} {b12 : a12.IsWhole} {a13 : MV S512x2048 .f32} {b13 : a13.IsWhole} {a14 : MV S2x256x256 .f32} {b14 : a14.IsWhole} {m1 : Fin k0_t1_loop.trips} {a15 : BitVec 32} {v647 : BitVec 32} {v649 : BitVec 32} {v652 : FVec Ideal S256x512 .bf16} {v655 : FVec Ideal S256x256 .bf16} {v657 : Vec Ideal S512x256 .bf16} {v670 : BitVec 32} {c2_i32_437 : BitVec 32} {X2 : BC Ideal a2} {X6 : BC Ideal a6} {X7 : BC Ideal a7} {X12 : BC Ideal a12} {g9 g13 : ℕ → ℕ → ℝ} {g14 : ℕ → ℕ → ℕ → ℝ} {f9 : BC Ideal a9} {f13 : BC Ideal a13} {f14 : BC Ideal a14} (n : ℕ) (hn : n = 0)
  {n9 : ℕ} (h : U2 n9 (a9.view.read (Elt Ideal) f9) g9 ∧ R2 (a13.view.read (Elt Ideal) f13) g13 ∧ R3 (a14.view.read (Elt Ideal) f14) g14) :
  U2 n9 (a9.view.read (Elt Ideal) (a9.view.writes (Elt Ideal) f9 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).1))) g9 ∧ R2 (a13.view.read (Elt Ideal) (a13.view.writes (Elt Ideal) f13 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.1))) g13 ∧ R3 (a14.view.read (Elt Ideal) (a14.view.writes (Elt Ideal) f14 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.2))) g14 := by
  subst hn; exact h

theorem pb2_valT (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (m1 : Fin k0_t1_loop.trips) (a15 : BitVec 32) (v647 : BitVec 32) (v649 : BitVec 32) (v652 : FVec Ideal S256x512 .bf16) (v655 : FVec Ideal S256x256 .bf16) (v657 : Vec Ideal S512x256 .bf16) (v670 : BitVec 32) (c2_i32_437 : BitVec 32) (X2 : BC Ideal a2) (X6 : BC Ideal a6) (X7 : BC Ideal a7) (X12 : BC Ideal a12) (G : Grp)
  (hk : R2 v652 (fun i j => G.k (256 * m1.val + i) j)) (hv : R2 v655 (fun i j => G.v (256 * m1.val + i) j)) (hkt : R2 v657 (fun i j => G.k (256 * m1.val + j) i))
  (h2 : R2 (a2.view.read (Elt Ideal) X2) G.q) (h6 : R3 (a6.view.read (Elt Ideal) X6) (fun _ h t => G.dl h t)) (h7 : R4 (a7.view.read (Elt Ideal) X7) (fun _ _ h t => G.ls h t)) (h12 : R3 (a12.view.read (Elt Ideal) X12) (fun h l t => G.DT h l t))
  (f9 : BC Ideal a9) (f13 : BC Ideal a13) (f14 : BC Ideal a14) (g9 g13 : ℕ → ℕ → ℝ) (g14 : ℕ → ℕ → ℕ → ℝ)
  (h9 : U2 (256 * m1.val + 256) (a9.view.read (Elt Ideal) f9) (s9 G g9 m1.val (256 * m1.val + 512))) (h13 : R2 (a13.view.read (Elt Ideal) f13) (s13 G g13 m1.val (256 * m1.val + 512))) (h14 : R3 (a14.view.read (Elt Ideal) f14) (s14 G g14 m1.val (256 * m1.val + 512)))
  (n : ℕ) (hn : n ≤ (k0_t2_loop m1).trips) (T : ℕ) (hT : T = 256 * (m1.val + 2 * (n + 1))) : U2 (256 * m1.val + 256) (a9.view.read (Elt Ideal) (a9.view.writes (Elt Ideal) f9 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).1))) (s9 G g9 m1.val T) ∧ R2 (a13.view.read (Elt Ideal) (a13.view.writes (Elt Ideal) f13 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.1))) (s13 G g13 m1.val T) ∧ R3 (a14.view.read (Elt Ideal) (a14.view.writes (Elt Ideal) f14 ((pb2 (F := Ideal) c i a2 b2 a3 b3 a4 b4 a5 b5 a6 b6 a7 b7 a8 b8 a9 b9 a10 b10 a11 b11 a12 b12 a13 b13 a14 b14 m1 a15 v647 v649 v652 v655 v657 v670 c2_i32_437 X2 X6 X7 X12 f9 f13 f14 n).2.2))) (s14 G g14 m1.val T) := by
  subst hT
  rw [show 256 * m1.val + 512 = 256 * (m1.val + 2 * (0 + 1)) by omega] at h9 h13 h14
  exact pb2_val c i a2 b2 a3 b3 a4 b4 a5 b5 a6 b6 a7 b7 a8 b8 a9 b9 a10 b10 a11 b11 a12 b12 a13 b13 a14 b14 m1 a15 v647 v649 v652 v655 v657 v670 c2_i32_437 X2 X6 X7 X12 G hk hv hkt h2 h6 h7 h12 f9 f13 f14 g9 g13 g14 h9 h13 h14 n hn

end Cert.MlaIdeal.Gen

end
-- ==== Proof.MlaIdealVal1A.lean ====
/- One tile of keys: the diagonal pair of query tiles, the pairs after it, and the last single tile. -/
module

public import proofs.«01_k».proof.Proof.MlaIdealValC
public import proofs.«01_k».proof.Proof.MlaIdealTrip1
public import proofs.«01_k».proof.Proof.MlaIdealLoop1

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

variable (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X6 : BC Ideal a6) (X7 : BC Ideal a7) (X11 : BC Ideal a11) (X12 : BC Ideal a12) (m1 : Fin k0_t1_loop.trips) (c1 : k0_cond1 m1 = 1#1) (c2 : k0_cond2 m1 = 1#1) (G : Grp)
  (h2 : R2 (a2.view.read (Elt Ideal) X2) G.q) (h3 : R2 (a3.view.read (Elt Ideal) X3) G.k) (h4 : R2 (a4.view.read (Elt Ideal) X4) G.v) (h6 : R3 (a6.view.read (Elt Ideal) X6) (fun _ h t => G.dl h t)) (h7 : R4 (a7.view.read (Elt Ideal) X7) (fun _ _ h t => G.ls h t)) (h11 : R2 (a11.view.read (Elt Ideal) X11) (fun e t => G.k t e)) (h12 : R3 (a12.view.read (Elt Ideal) X12) (fun h l t => G.DT h l t))
  (f9 : BC Ideal a9) (f10 : BC Ideal a10) (f13 : BC Ideal a13) (f14 : BC Ideal a14) (g9 g10 g13 : ℕ → ℕ → ℝ) (g14 : ℕ → ℕ → ℕ → ℝ)
  (h9 : U2 (256 * m1.val) (a9.view.read (Elt Ideal) f9) g9) (h10 : U2 (256 * (m1.val - 1)) (a10.view.read (Elt Ideal) f10) g10) (h13 : R2 (a13.view.read (Elt Ideal) f13) g13) (h14 : R3 (a14.view.read (Elt Ideal) f14) g14)

include h2 h3 h4 h6 h7 h11 h12 h9 h10 h13 h14 in
/-- After the trip. -/
theorem trip1A_val : U2 (256 * m1.val + 256) (a9.view.read (Elt Ideal) (a9.view.writes (Elt Ideal) f9 ((trip1A (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).1 f9 f10 f13 f14))) (s9 G g9 m1.val 2048) ∧ R2 (a13.view.read (Elt Ideal) (a13.view.writes (Elt Ideal) f13 ((trip1A (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.1 f9 f10 f13 f14))) (s13 G g13 m1.val 2048) ∧ R3 (a14.view.read (Elt Ideal) (a14.view.writes (Elt Ideal) f14 ((trip1A (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.2.1 f9 f10 f13 f14))) (s14 G g14 m1.val 2048) := by
  have hk6 : m1.val < 7 := (k0_cond1_iff m1).1 c1
  have hk2 : m1.val % 2 = 1 ∧ m1.val < 7 := (k0_cond2_iff m1).1 c2
  unfold trip1A
  refine thenProp (and3 (f9 := f9) (f13 := f13) (f14 := f14) (M9 := _) (M13 := _) (M14 := _) (pb2_valT c i a2 b2 a3 b3 a4 b4 a5 b5 a6 b6 a7 b7 a8 b8 a9 b9 a10 b10 a11 b11 a12 b12 a13 b13 a14 b14 m1 _ _ _ _ _ _ _ _ X2 X6 X7 X12 G (r_id_S256x512_bf16 (lk h3 _ (k0_off1_eq m1))) (r_id_S256x256_bf16 (lv h4 _ (k0_off2_eq m1))) (lkt h11 _ (k0_off3_eq m1)) h2 h6 h7 h12 _ _ _ g9 g13 g14 ?a9 ?a13 ?a14 _ le_rfl 1792 (by rw [k0_t2_trips]; omega))) (fun hb => ⟨U2.congr ((U2.st (U2.st (U2.st (U2.st hb.1 (256 * m1.val) 0 (k0_off114_eq m1) (fun u e => s9 G g9 m1.val 1792 u e + ∑ t ∈ Finset.range 256, G.DS 0 (1792 + t) u * G.q (1792 + t) e) (role_dk0' (g := s9 G g9 m1.val 1792) (u0 := (256 * m1.val)) (t0 := 1792) (r_id_S256x128_f32 (U2.ld (s0 := 256) (s1 := 128) hb.1 (256 * m1.val) 0 (k0_off114_eq m1) le_rfl)) (role_ds (t0 := 1792) (role_p (t0 := 1792) (by omega) (role_s0 (r_id_S256x512_bf16 (lk h3 _ (k0_off1_eq m1))) (r_id_S256x512_bf16 (lq h2 1792 rfl))) (ll h7 0 1792 rfl)) (role_dp0 (r_id_S256x256_bf16 (lv h4 _ (k0_off2_eq m1))) (role_dot (ld h12 0 1792 rfl))) (le' h6 0 1792 rfl)) (r_id_S256x512_bf16 (lq h2 1792 rfl)))) (256 * m1.val) 128 (k0_off116_eq m1) (fun u e => s9 G g9 m1.val 1792 u e + ∑ t ∈ Finset.range 256, G.DS 1 (1792 + t) u * G.q (1792 + t) e) (role_dk1' (g := s9 G g9 m1.val 1792) (u0 := (256 * m1.val)) (t0 := 1792) (r_id_S256x128_f32 (skip2 (U2.ld (s0 := 256) (s1 := 128) hb.1 (256 * m1.val) 128 (k0_off116_eq m1) le_rfl) (256 * m1.val) 128 (k0_off116_eq m1) (256 * m1.val) 0 (k0_off114_eq m1) (by omega))) (role_ds (t0 := 1792) (role_p (t0 := 1792) (by omega) (role_s1 (r_id_S256x512_bf16 (lk h3 _ (k0_off1_eq m1))) (r_id_S256x512_bf16 (lq h2 1792 rfl))) (ll h7 1 1792 rfl)) (role_dp1 (r_id_S256x256_bf16 (lv h4 _ (k0_off2_eq m1))) (role_dot (ld h12 1 1792 rfl))) (le' h6 1 1792 rfl)) (r_id_S256x512_bf16 (lq h2 1792 rfl)))) (256 * m1.val) 256 (k0_off118_eq m1) (fun u e => s9 G g9 m1.val 1792 u e + ∑ t ∈ Finset.range 256, G.DS 2 (1792 + t) u * G.q (1792 + t) e) (role_dk2' (g := s9 G g9 m1.val 1792) (u0 := (256 * m1.val)) (t0 := 1792) (r_id_S256x128_f32 (skip2 (skip2 (U2.ld (s0 := 256) (s1 := 128) hb.1 (256 * m1.val) 256 (k0_off118_eq m1) le_rfl) (256 * m1.val) 256 (k0_off118_eq m1) (256 * m1.val) 0 (k0_off114_eq m1) (by omega)) (256 * m1.val) 256 (k0_off118_eq m1) (256 * m1.val) 128 (k0_off116_eq m1) (by omega))) (role_ds (t0 := 1792) (role_p (t0 := 1792) (by omega) (role_s2 (r_id_S256x512_bf16 (lk h3 _ (k0_off1_eq m1))) (r_id_S256x512_bf16 (lq h2 1792 rfl))) (ll h7 2 1792 rfl)) (role_dp2 (r_id_S256x256_bf16 (lv h4 _ (k0_off2_eq m1))) (role_dot (ld h12 2 1792 rfl))) (le' h6 2 1792 rfl)) (r_id_S256x512_bf16 (lq h2 1792 rfl)))) (256 * m1.val) 384 (k0_off120_eq m1) (fun u e => s9 G g9 m1.val 1792 u e + ∑ t ∈ Finset.range 256, G.DS 3 (1792 + t) u * G.q (1792 + t) e) (role_dk3' (g := s9 G g9 m1.val 1792) (u0 := (256 * m1.val)) (t0 := 1792) (r_id_S256x128_f32 (skip2 (skip2 (skip2 (U2.ld (s0 := 256) (s1 := 128) hb.1 (256 * m1.val) 384 (k0_off120_eq m1) le_rfl) (256 * m1.val) 384 (k0_off120_eq m1) (256 * m1.val) 0 (k0_off114_eq m1) (by omega)) (256 * m1.val) 384 (k0_off120_eq m1) (256 * m1.val) 128 (k0_off116_eq m1) (by omega)) (256 * m1.val) 384 (k0_off120_eq m1) (256 * m1.val) 256 (k0_off118_eq m1) (by omega))) (role_ds (t0 := 1792) (role_p (t0 := 1792) (by omega) (role_s3 (r_id_S256x512_bf16 (lk h3 _ (k0_off1_eq m1))) (r_id_S256x512_bf16 (lq h2 1792 rfl))) (ll h7 3 1792 rfl)) (role_dp3 (r_id_S256x256_bf16 (lv h4 _ (k0_off2_eq m1))) (role_dot (ld h12 3 1792 rfl))) (le' h6 3 1792 rfl)) (r_id_S256x512_bf16 (lq h2 1792 rfl)))) : U2 (256 * m1.val + 256) _ (fun u e => if (256 * m1.val) ≤ u ∧ u < (256 * m1.val) + 256 ∧ 384 ≤ e ∧ e < 384 + 128 then s9 G g9 m1.val 1792 u e + ∑ t ∈ Finset.range 256, G.DS 3 (1792 + t) u * G.q (1792 + t) e else if (256 * m1.val) ≤ u ∧ u < (256 * m1.val) + 256 ∧ 256 ≤ e ∧ e < 256 + 128 then s9 G g9 m1.val 1792 u e + ∑ t ∈ Finset.range 256, G.DS 2 (1792 + t) u * G.q (1792 + t) e else if (256 * m1.val) ≤ u ∧ u < (256 * m1.val) + 256 ∧ 128 ≤ e ∧ e < 128 + 128 then s9 G g9 m1.val 1792 u e + ∑ t ∈ Finset.range 256, G.DS 1 (1792 + t) u * G.q (1792 + t) e else if (256 * m1.val) ≤ u ∧ u < (256 * m1.val) + 256 ∧ 0 ≤ e ∧ e < 0 + 128 then s9 G g9 m1.val 1792 u e + ∑ t ∈ Finset.range 256, G.DS 0 (1792 + t) u * G.q (1792 + t) e else s9 G g9 m1.val 1792 u e)) ?c9, R2.congr ((st2_f32 (st2_f32 (st2_f32 (st2_f32 hb.2.1 0 1792 rfl (fun e t => s13 G g13 m1.val 1792 e t + ∑ u ∈ Finset.range 256, G.k ((256 * m1.val) + u) e * G.DS 0 t ((256 * m1.val) + u)) (role_dq0 (g := s13 G g13 m1.val 1792) (t0 := 1792) (ld2_f32 (s0 := 128) (s1 := 256) hb.2.1 0 1792 rfl) (role_ds (t0 := 1792) (role_p (t0 := 1792) (by omega) (role_s0 (r_id_S256x512_bf16 (lk h3 _ (k0_off1_eq m1))) (r_id_S256x512_bf16 (lq h2 1792 rfl))) (ll h7 0 1792 rfl)) (role_dp0 (r_id_S256x256_bf16 (lv h4 _ (k0_off2_eq m1))) (role_dot (ld h12 0 1792 rfl))) (le' h6 0 1792 rfl)) (lkt h11 _ (k0_off3_eq m1)))) 128 1792 rfl (fun e t => s13 G g13 m1.val 1792 e t + ∑ u ∈ Finset.range 256, G.k ((256 * m1.val) + u) e * G.DS 1 t ((256 * m1.val) + u)) (role_dq1 (g := s13 G g13 m1.val 1792) (t0 := 1792) (skip2 (ld2_f32 (s0 := 128) (s1 := 256) hb.2.1 128 1792 rfl) 128 1792 rfl 0 1792 rfl (by omega)) (role_ds (t0 := 1792) (role_p (t0 := 1792) (by omega) (role_s1 (r_id_S256x512_bf16 (lk h3 _ (k0_off1_eq m1))) (r_id_S256x512_bf16 (lq h2 1792 rfl))) (ll h7 1 1792 rfl)) (role_dp1 (r_id_S256x256_bf16 (lv h4 _ (k0_off2_eq m1))) (role_dot (ld h12 1 1792 rfl))) (le' h6 1 1792 rfl)) (lkt h11 _ (k0_off3_eq m1)))) 256 1792 rfl (fun e t => s13 G g13 m1.val 1792 e t + ∑ u ∈ Finset.range 256, G.k ((256 * m1.val) + u) e * G.DS 2 t ((256 * m1.val) + u)) (role_dq2 (g := s13 G g13 m1.val 1792) (t0 := 1792) (skip2 (skip2 (ld2_f32 (s0 := 128) (s1 := 256) hb.2.1 256 1792 rfl) 256 1792 rfl 0 1792 rfl (by omega)) 256 1792 rfl 128 1792 rfl (by omega)) (role_ds (t0 := 1792) (role_p (t0 := 1792) (by omega) (role_s2 (r_id_S256x512_bf16 (lk h3 _ (k0_off1_eq m1))) (r_id_S256x512_bf16 (lq h2 1792 rfl))) (ll h7 2 1792 rfl)) (role_dp2 (r_id_S256x256_bf16 (lv h4 _ (k0_off2_eq m1))) (role_dot (ld h12 2 1792 rfl))) (le' h6 2 1792 rfl)) (lkt h11 _ (k0_off3_eq m1)))) 384 1792 rfl (fun e t => s13 G g13 m1.val 1792 e t + ∑ u ∈ Finset.range 256, G.k ((256 * m1.val) + u) e * G.DS 3 t ((256 * m1.val) + u)) (role_dq3 (g := s13 G g13 m1.val 1792) (t0 := 1792) (skip2 (skip2 (skip2 (ld2_f32 (s0 := 128) (s1 := 256) hb.2.1 384 1792 rfl) 384 1792 rfl 0 1792 rfl (by omega)) 384 1792 rfl 128 1792 rfl (by omega)) 384 1792 rfl 256 1792 rfl (by omega)) (role_ds (t0 := 1792) (role_p (t0 := 1792) (by omega) (role_s3 (r_id_S256x512_bf16 (lk h3 _ (k0_off1_eq m1))) (r_id_S256x512_bf16 (lq h2 1792 rfl))) (ll h7 3 1792 rfl)) (role_dp3 (r_id_S256x256_bf16 (lv h4 _ (k0_off2_eq m1))) (role_dot (ld h12 3 1792 rfl))) (le' h6 3 1792 rfl)) (lkt h11 _ (k0_off3_eq m1)))) : R2 _ (fun e t => if 384 ≤ e ∧ e < 384 + 128 ∧ 1792 ≤ t ∧ t < 1792 + 256 then s13 G g13 m1.val 1792 e t + ∑ u ∈ Finset.range 256, G.k ((256 * m1.val) + u) e * G.DS 3 t ((256 * m1.val) + u) else if 256 ≤ e ∧ e < 256 + 128 ∧ 1792 ≤ t ∧ t < 1792 + 256 then s13 G g13 m1.val 1792 e t + ∑ u ∈ Finset.range 256, G.k ((256 * m1.val) + u) e * G.DS 2 t ((256 * m1.val) + u) else if 128 ≤ e ∧ e < 128 + 128 ∧ 1792 ≤ t ∧ t < 1792 + 256 then s13 G g13 m1.val 1792 e t + ∑ u ∈ Finset.range 256, G.k ((256 * m1.val) + u) e * G.DS 1 t ((256 * m1.val) + u) else if 0 ≤ e ∧ e < 0 + 128 ∧ 1792 ≤ t ∧ t < 1792 + 256 then s13 G g13 m1.val 1792 e t + ∑ u ∈ Finset.range 256, G.k ((256 * m1.val) + u) e * G.DS 0 t ((256 * m1.val) + u) else s13 G g13 m1.val 1792 e t)) ?c13, R3.congr ((st3_f32 (st3_f32 (st3_f32 (st3_f32 hb.2.2 (m1.val % 2) 0 0 (k0_off113_at m1) (fun s e u => s14 G g14 m1.val 1792 s e u + ∑ t ∈ Finset.range 256, G.d (1792 + t) e * G.P 0 (1792 + t) ((256 * m1.val) + u)) (R3.congr (role_dv0' (s := (m1.val % 2)) (g := s14 G g14 m1.val 1792) (u0 := (256 * m1.val)) (t0 := 1792) (R3.congr (ld3_f32 (s0 := 1) (s1 := 64) (s2 := 256) hb.2.2 (m1.val % 2) 0 0 (k0_off113_at m1)) (fun i j k hi _ _ => by rw [show i = 0 by omega]; simp only [Nat.zero_add, Nat.add_zero]) : R3 _ (fun _ i j => s14 G g14 m1.val 1792 (m1.val % 2) (0 + i) j)) (role_p (t0 := 1792) (by omega) (role_s0 (r_id_S256x512_bf16 (lk h3 _ (k0_off1_eq m1))) (r_id_S256x512_bf16 (lq h2 1792 rfl))) (ll h7 0 1792 rfl)) (role_dot (ld h12 0 1792 rfl))) fun i j k hi _ _ => by simp only [show i = 0 by omega, Nat.add_zero, Nat.zero_add])) (m1.val % 2) 64 0 (k0_off115_at m1) (fun s e u => s14 G g14 m1.val 1792 s e u + ∑ t ∈ Finset.range 256, G.d (1792 + t) e * G.P 1 (1792 + t) ((256 * m1.val) + u)) (R3.congr (role_dv1' (s := (m1.val % 2)) (g := s14 G g14 m1.val 1792) (u0 := (256 * m1.val)) (t0 := 1792) (R3.congr (skip3 (ld3_f32 (s0 := 1) (s1 := 64) (s2 := 256) hb.2.2 (m1.val % 2) 64 0 (k0_off115_at m1)) (m1.val % 2) 64 0 (k0_off115_at m1) (m1.val % 2) 0 0 (k0_off113_at m1) (by omega)) (fun i j k hi _ _ => by rw [show i = 0 by omega]; simp only [Nat.zero_add, Nat.add_zero]) : R3 _ (fun _ i j => s14 G g14 m1.val 1792 (m1.val % 2) (64 + i) j)) (role_p (t0 := 1792) (by omega) (role_s1 (r_id_S256x512_bf16 (lk h3 _ (k0_off1_eq m1))) (r_id_S256x512_bf16 (lq h2 1792 rfl))) (ll h7 1 1792 rfl)) (role_dot (ld h12 1 1792 rfl))) fun i j k hi _ _ => by simp only [show i = 0 by omega, Nat.add_zero, Nat.zero_add])) (m1.val % 2) 128 0 (k0_off117_at m1) (fun s e u => s14 G g14 m1.val 1792 s e u + ∑ t ∈ Finset.range 256, G.d (1792 + t) e * G.P 2 (1792 + t) ((256 * m1.val) + u)) (R3.congr (role_dv2' (s := (m1.val % 2)) (g := s14 G g14 m1.val 1792) (u0 := (256 * m1.val)) (t0 := 1792) (R3.congr (skip3 (skip3 (ld3_f32 (s0 := 1) (s1 := 64) (s2 := 256) hb.2.2 (m1.val % 2) 128 0 (k0_off117_at m1)) (m1.val % 2) 128 0 (k0_off117_at m1) (m1.val % 2) 0 0 (k0_off113_at m1) (by omega)) (m1.val % 2) 128 0 (k0_off117_at m1) (m1.val % 2) 64 0 (k0_off115_at m1) (by omega)) (fun i j k hi _ _ => by rw [show i = 0 by omega]; simp only [Nat.zero_add, Nat.add_zero]) : R3 _ (fun _ i j => s14 G g14 m1.val 1792 (m1.val % 2) (128 + i) j)) (role_p (t0 := 1792) (by omega) (role_s2 (r_id_S256x512_bf16 (lk h3 _ (k0_off1_eq m1))) (r_id_S256x512_bf16 (lq h2 1792 rfl))) (ll h7 2 1792 rfl)) (role_dot (ld h12 2 1792 rfl))) fun i j k hi _ _ => by simp only [show i = 0 by omega, Nat.add_zero, Nat.zero_add])) (m1.val % 2) 192 0 (k0_off119_at m1) (fun s e u => s14 G g14 m1.val 1792 s e u + ∑ t ∈ Finset.range 256, G.d (1792 + t) e * G.P 3 (1792 + t) ((256 * m1.val) + u)) (R3.congr (role_dv3' (s := (m1.val % 2)) (g := s14 G g14 m1.val 1792) (u0 := (256 * m1.val)) (t0 := 1792) (R3.congr (skip3 (skip3 (skip3 (ld3_f32 (s0 := 1) (s1 := 64) (s2 := 256) hb.2.2 (m1.val % 2) 192 0 (k0_off119_at m1)) (m1.val % 2) 192 0 (k0_off119_at m1) (m1.val % 2) 0 0 (k0_off113_at m1) (by omega)) (m1.val % 2) 192 0 (k0_off119_at m1) (m1.val % 2) 64 0 (k0_off115_at m1) (by omega)) (m1.val % 2) 192 0 (k0_off119_at m1) (m1.val % 2) 128 0 (k0_off117_at m1) (by omega)) (fun i j k hi _ _ => by rw [show i = 0 by omega]; simp only [Nat.zero_add, Nat.add_zero]) : R3 _ (fun _ i j => s14 G g14 m1.val 1792 (m1.val % 2) (192 + i) j)) (role_p (t0 := 1792) (by omega) (role_s3 (r_id_S256x512_bf16 (lk h3 _ (k0_off1_eq m1))) (r_id_S256x512_bf16 (lq h2 1792 rfl))) (ll h7 3 1792 rfl)) (role_dot (ld h12 3 1792 rfl))) fun i j k hi _ _ => by simp only [show i = 0 by omega, Nat.add_zero, Nat.zero_add])) : R3 _ (fun s e u => if (m1.val % 2) ≤ s ∧ s < (m1.val % 2) + 1 ∧ 192 ≤ e ∧ e < 192 + 64 ∧ 0 ≤ u ∧ u < 0 + 256 then s14 G g14 m1.val 1792 s e u + ∑ t ∈ Finset.range 256, G.d (1792 + t) e * G.P 3 (1792 + t) ((256 * m1.val) + u) else if (m1.val % 2) ≤ s ∧ s < (m1.val % 2) + 1 ∧ 128 ≤ e ∧ e < 128 + 64 ∧ 0 ≤ u ∧ u < 0 + 256 then s14 G g14 m1.val 1792 s e u + ∑ t ∈ Finset.range 256, G.d (1792 + t) e * G.P 2 (1792 + t) ((256 * m1.val) + u) else if (m1.val % 2) ≤ s ∧ s < (m1.val % 2) + 1 ∧ 64 ≤ e ∧ e < 64 + 64 ∧ 0 ≤ u ∧ u < 0 + 256 then s14 G g14 m1.val 1792 s e u + ∑ t ∈ Finset.range 256, G.d (1792 + t) e * G.P 1 (1792 + t) ((256 * m1.val) + u) else if (m1.val % 2) ≤ s ∧ s < (m1.val % 2) + 1 ∧ 0 ≤ e ∧ e < 0 + 64 ∧ 0 ≤ u ∧ u < 0 + 256 then s14 G g14 m1.val 1792 s e u + ∑ t ∈ Finset.range 256, G.d (1792 + t) e * G.P 0 (1792 + t) ((256 * m1.val) + u) else s14 G g14 m1.val 1792 s e u)) ?c14⟩)
  case c9 =>
    intro u e hu he
    have hs := s9_step (G := G) (g9 := g9) (kt := m1.val) (T := 1792) (n := 256) (u := u) (e := e) (by omega)
    rcases (by omega : (0 ≤ e ∧ e < 128) ∨ (128 ≤ e ∧ e < 256) ∨ (256 ≤ e ∧ e < 384) ∨ (384 ≤ e ∧ e < 512)) with cc | cc | cc | cc
    · rw [show e / 128 = 0 by omega] at hs; refine Eq.trans ?_ hs; clear hs; split_ifs <;> first | rfl | (exfalso; omega)
    · rw [show e / 128 = 1 by omega] at hs; refine Eq.trans ?_ hs; clear hs; split_ifs <;> first | rfl | (exfalso; omega)
    · rw [show e / 128 = 2 by omega] at hs; refine Eq.trans ?_ hs; clear hs; split_ifs <;> first | rfl | (exfalso; omega)
    · rw [show e / 128 = 3 by omega] at hs; refine Eq.trans ?_ hs; clear hs; split_ifs <;> first | rfl | (exfalso; omega)
  case c13 =>
    intro e t he ht
    have hs := s13_step (G := G) (g13 := g13) (kt := m1.val) (T := 1792) (n := 256) (e := e) (t := t) (by omega)
    rcases (by omega : (0 ≤ e ∧ e < 128) ∨ (128 ≤ e ∧ e < 256) ∨ (256 ≤ e ∧ e < 384) ∨ (384 ≤ e ∧ e < 512)) with cc | cc | cc | cc
    · rw [show e / 128 = 0 by omega] at hs; refine Eq.trans ?_ hs; clear hs; split_ifs <;> first | rfl | (exfalso; omega)
    · rw [show e / 128 = 1 by omega] at hs; refine Eq.trans ?_ hs; clear hs; split_ifs <;> first | rfl | (exfalso; omega)
    · rw [show e / 128 = 2 by omega] at hs; refine Eq.trans ?_ hs; clear hs; split_ifs <;> first | rfl | (exfalso; omega)
    · rw [show e / 128 = 3 by omega] at hs; refine Eq.trans ?_ hs; clear hs; split_ifs <;> first | rfl | (exfalso; omega)
  case c14 =>
    intro s e u hs he hu
    have hs := s14_step (G := G) (g14 := g14) (kt := m1.val) (T := 1792) (n := 256) (s := s) (e := e) (u := u) (by omega)
    rcases (by omega : (0 ≤ e ∧ e < 64) ∨ (64 ≤ e ∧ e < 128) ∨ (128 ≤ e ∧ e < 192) ∨ (192 ≤ e ∧ e < 256)) with cc | cc | cc | cc
    · rw [show e / 64 = 0 by omega] at hs; refine Eq.trans ?_ hs; clear hs; split_ifs <;> first | rfl | (exfalso; omega)
    · rw [show e / 64 = 1 by omega] at hs; refine Eq.trans ?_ hs; clear hs; split_ifs <;> first | rfl | (exfalso; omega)
    · rw [show e / 64 = 2 by omega] at hs; refine Eq.trans ?_ hs; clear hs; split_ifs <;> first | rfl | (exfalso; omega)
    · rw [show e / 64 = 3 by omega] at hs; refine Eq.trans ?_ hs; clear hs; split_ifs <;> first | rfl | (exfalso; omega)
  case a9 =>
    · refine U2.congr (?_ : U2 (256 * m1.val + 256) _ (fun u e => if (256 * m1.val) ≤ u ∧ u < (256 * m1.val) + 256 ∧ 384 ≤ e ∧ e < 384 + 128 then 0 + ∑ t ∈ Finset.range 512, G.DS 3 ((256 * m1.val) + t) u * G.q ((256 * m1.val) + t) e else if (256 * m1.val) ≤ u ∧ u < (256 * m1.val) + 256 ∧ 256 ≤ e ∧ e < 256 + 128 then 0 + ∑ t ∈ Finset.range 512, G.DS 2 ((256 * m1.val) + t) u * G.q ((256 * m1.val) + t) e else if (256 * m1.val) ≤ u ∧ u < (256 * m1.val) + 256 ∧ 128 ≤ e ∧ e < 128 + 128 then 0 + ∑ t ∈ Finset.range 512, G.DS 1 ((256 * m1.val) + t) u * G.q ((256 * m1.val) + t) e else if (256 * m1.val) ≤ u ∧ u < (256 * m1.val) + 256 ∧ 0 ≤ e ∧ e < 0 + 128 then 0 + ∑ t ∈ Finset.range 512, G.DS 0 ((256 * m1.val) + t) u * G.q ((256 * m1.val) + t) e else if (256 * m1.val) ≤ u ∧ u < (256 * m1.val) + 256 ∧ 0 ≤ e ∧ e < 0 + 512 then 0 else g9 u e)) ?_
      · exact (U2.st (U2.st (U2.st (U2.st (U2.stn h9 (256 * m1.val) 0 (k0_off1_eq m1) (fun u e => 0) zero9 le_rfl ⟨rfl, le_rfl⟩) (256 * m1.val) 0 (k0_off18_eq m1) (fun u e => 0 + ∑ t ∈ Finset.range 512, G.DS 0 ((256 * m1.val) + t) u * G.q ((256 * m1.val) + t) e) (role_dk0 (g := fun _ _ => 0) (u0 := (256 * m1.val)) (t0 := (256 * m1.val)) (r_id_S256x128_f32 (covz2 (256 * m1.val) 0 (k0_off18_eq m1) (256 * m1.val) 0 (k0_off1_eq m1) zero9 (by omega) (by omega))) (role_ds (t0 := (256 * m1.val)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_dp0 (r_id_S256x256_bf16 (lv h4 _ (k0_off2_eq m1))) (role_dot (ld h12 0 (256 * m1.val) (k0_off10_eq m1 ⟨0, by decide⟩)))) (le' h6 0 (256 * m1.val) (k0_off13_eq m1 ⟨0, by decide⟩))) (role_ds (t0 := (256 * m1.val + 256)) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dp0 (r_id_S256x256_bf16 (lv h4 _ (k0_off2_eq m1))) (role_dot (ld h12 0 (256 * m1.val + 256) (k0_off10_eq m1 ⟨1, by decide⟩)))) (le' h6 0 (256 * m1.val + 256) (k0_off13_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 128 (k0_off24_eq m1) (fun u e => 0 + ∑ t ∈ Finset.range 512, G.DS 1 ((256 * m1.val) + t) u * G.q ((256 * m1.val) + t) e) (role_dk1 (g := fun _ _ => 0) (u0 := (256 * m1.val)) (t0 := (256 * m1.val)) (r_id_S256x128_f32 (skip2 (covz2 (256 * m1.val) 128 (k0_off24_eq m1) (256 * m1.val) 0 (k0_off1_eq m1) zero9 (by omega) (by omega)) (256 * m1.val) 128 (k0_off24_eq m1) (256 * m1.val) 0 (k0_off18_eq m1) (by omega))) (role_ds (t0 := (256 * m1.val)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_dp1 (r_id_S256x256_bf16 (lv h4 _ (k0_off2_eq m1))) (role_dot (ld h12 1 (256 * m1.val) (k0_off11_eq m1 ⟨0, by decide⟩)))) (le' h6 1 (256 * m1.val) (k0_off16_eq m1 ⟨0, by decide⟩))) (role_ds (t0 := (256 * m1.val + 256)) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dp1 (r_id_S256x256_bf16 (lv h4 _ (k0_off2_eq m1))) (role_dot (ld h12 1 (256 * m1.val + 256) (k0_off11_eq m1 ⟨1, by decide⟩)))) (le' h6 1 (256 * m1.val + 256) (k0_off16_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 256 (k0_off29_eq m1) (fun u e => 0 + ∑ t ∈ Finset.range 512, G.DS 2 ((256 * m1.val) + t) u * G.q ((256 * m1.val) + t) e) (role_dk2 (g := fun _ _ => 0) (u0 := (256 * m1.val)) (t0 := (256 * m1.val)) (r_id_S256x128_f32 (skip2 (skip2 (covz2 (256 * m1.val) 256 (k0_off29_eq m1) (256 * m1.val) 0 (k0_off1_eq m1) zero9 (by omega) (by omega)) (256 * m1.val) 256 (k0_off29_eq m1) (256 * m1.val) 0 (k0_off18_eq m1) (by omega)) (256 * m1.val) 256 (k0_off29_eq m1) (256 * m1.val) 128 (k0_off24_eq m1) (by omega))) (role_ds (t0 := (256 * m1.val)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_dp2 (r_id_S256x256_bf16 (lv h4 _ (k0_off2_eq m1))) (role_dot (ld h12 2 (256 * m1.val) (k0_off14_eq m1 ⟨0, by decide⟩)))) (le' h6 2 (256 * m1.val) (k0_off22_eq m1 ⟨0, by decide⟩))) (role_ds (t0 := (256 * m1.val + 256)) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dp2 (r_id_S256x256_bf16 (lv h4 _ (k0_off2_eq m1))) (role_dot (ld h12 2 (256 * m1.val + 256) (k0_off14_eq m1 ⟨1, by decide⟩)))) (le' h6 2 (256 * m1.val + 256) (k0_off22_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 384 (k0_off32_eq m1) (fun u e => 0 + ∑ t ∈ Finset.range 512, G.DS 3 ((256 * m1.val) + t) u * G.q ((256 * m1.val) + t) e) (role_dk3 (g := fun _ _ => 0) (u0 := (256 * m1.val)) (t0 := (256 * m1.val)) (r_id_S256x128_f32 (skip2 (skip2 (skip2 (covz2 (256 * m1.val) 384 (k0_off32_eq m1) (256 * m1.val) 0 (k0_off1_eq m1) zero9 (by omega) (by omega)) (256 * m1.val) 384 (k0_off32_eq m1) (256 * m1.val) 0 (k0_off18_eq m1) (by omega)) (256 * m1.val) 384 (k0_off32_eq m1) (256 * m1.val) 128 (k0_off24_eq m1) (by omega)) (256 * m1.val) 384 (k0_off32_eq m1) (256 * m1.val) 256 (k0_off29_eq m1) (by omega))) (role_ds (t0 := (256 * m1.val)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_dp3 (r_id_S256x256_bf16 (lv h4 _ (k0_off2_eq m1))) (role_dot (ld h12 3 (256 * m1.val) (k0_off20_eq m1 ⟨0, by decide⟩)))) (le' h6 3 (256 * m1.val) (k0_off27_eq m1 ⟨0, by decide⟩))) (role_ds (t0 := (256 * m1.val + 256)) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dp3 (r_id_S256x256_bf16 (lv h4 _ (k0_off2_eq m1))) (role_dot (ld h12 3 (256 * m1.val + 256) (k0_off20_eq m1 ⟨1, by decide⟩)))) (le' h6 3 (256 * m1.val + 256) (k0_off27_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩)))))
      intro u e hu he
      unfold s9
      rcases (by omega : (0 ≤ e ∧ e < 128) ∨ (128 ≤ e ∧ e < 256) ∨ (256 ≤ e ∧ e < 384) ∨ (384 ≤ e ∧ e < 512)) with cc | cc | cc | cc
      · rw [show e / 128 = 0 by omega]; split_ifs <;> first | rfl | (exfalso; omega) | exact ico_zero (fun t => G.DS 0 t u * G.q t e) (256 * m1.val) 512
      · rw [show e / 128 = 1 by omega]; split_ifs <;> first | rfl | (exfalso; omega) | exact ico_zero (fun t => G.DS 1 t u * G.q t e) (256 * m1.val) 512
      · rw [show e / 128 = 2 by omega]; split_ifs <;> first | rfl | (exfalso; omega) | exact ico_zero (fun t => G.DS 2 t u * G.q t e) (256 * m1.val) 512
      · rw [show e / 128 = 3 by omega]; split_ifs <;> first | rfl | (exfalso; omega) | exact ico_zero (fun t => G.DS 3 t u * G.q t e) (256 * m1.val) 512
  case a13 =>
    · refine R2.congr (?_ : R2 _ (fun e t => if 384 ≤ e ∧ e < 384 + 128 ∧ (256 * m1.val + 256) ≤ t ∧ t < (256 * m1.val + 256) + 256 then g13 e t + ∑ u ∈ Finset.range 256, G.k ((256 * m1.val) + u) e * G.DS 3 t ((256 * m1.val) + u) else if 384 ≤ e ∧ e < 384 + 128 ∧ (256 * m1.val) ≤ t ∧ t < (256 * m1.val) + 256 then g13 e t + ∑ u ∈ Finset.range 256, G.k ((256 * m1.val) + u) e * G.DS 3 t ((256 * m1.val) + u) else if 256 ≤ e ∧ e < 256 + 128 ∧ (256 * m1.val + 256) ≤ t ∧ t < (256 * m1.val + 256) + 256 then g13 e t + ∑ u ∈ Finset.range 256, G.k ((256 * m1.val) + u) e * G.DS 2 t ((256 * m1.val) + u) else if 256 ≤ e ∧ e < 256 + 128 ∧ (256 * m1.val) ≤ t ∧ t < (256 * m1.val) + 256 then g13 e t + ∑ u ∈ Finset.range 256, G.k ((256 * m1.val) + u) e * G.DS 2 t ((256 * m1.val) + u) else if 128 ≤ e ∧ e < 128 + 128 ∧ (256 * m1.val + 256) ≤ t ∧ t < (256 * m1.val + 256) + 256 then g13 e t + ∑ u ∈ Finset.range 256, G.k ((256 * m1.val) + u) e * G.DS 1 t ((256 * m1.val) + u) else if 128 ≤ e ∧ e < 128 + 128 ∧ (256 * m1.val) ≤ t ∧ t < (256 * m1.val) + 256 then g13 e t + ∑ u ∈ Finset.range 256, G.k ((256 * m1.val) + u) e * G.DS 1 t ((256 * m1.val) + u) else if 0 ≤ e ∧ e < 0 + 128 ∧ (256 * m1.val + 256) ≤ t ∧ t < (256 * m1.val + 256) + 256 then g13 e t + ∑ u ∈ Finset.range 256, G.k ((256 * m1.val) + u) e * G.DS 0 t ((256 * m1.val) + u) else if 0 ≤ e ∧ e < 0 + 128 ∧ (256 * m1.val) ≤ t ∧ t < (256 * m1.val) + 256 then g13 e t + ∑ u ∈ Finset.range 256, G.k ((256 * m1.val) + u) e * G.DS 0 t ((256 * m1.val) + u) else g13 e t)) ?_
      · exact (st2_f32 (st2_f32 (st2_f32 (st2_f32 (st2_f32 (st2_f32 (st2_f32 (st2_f32 h13 0 (256 * m1.val) (k0_off19_eq m1 ⟨0, by decide⟩) (fun e t => g13 e t + ∑ u ∈ Finset.range 256, G.k ((256 * m1.val) + u) e * G.DS 0 t ((256 * m1.val) + u)) (role_dq0 (t0 := (256 * m1.val)) (ld2_f32 h13 0 (256 * m1.val) (k0_off19_eq m1 ⟨0, by decide⟩)) (role_ds (t0 := (256 * m1.val)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_dp0 (r_id_S256x256_bf16 (lv h4 _ (k0_off2_eq m1))) (role_dot (ld h12 0 (256 * m1.val) (k0_off10_eq m1 ⟨0, by decide⟩)))) (le' h6 0 (256 * m1.val) (k0_off13_eq m1 ⟨0, by decide⟩))) (lkt h11 _ (k0_off3_eq m1)))) 0 (256 * m1.val + 256) (k0_off19_eq m1 ⟨1, by decide⟩) (fun e t => g13 e t + ∑ u ∈ Finset.range 256, G.k ((256 * m1.val) + u) e * G.DS 0 t ((256 * m1.val) + u)) (role_dq0 (t0 := (256 * m1.val + 256)) (ld2_f32 h13 0 (256 * m1.val + 256) (k0_off19_eq m1 ⟨1, by decide⟩)) (role_ds (t0 := (256 * m1.val + 256)) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dp0 (r_id_S256x256_bf16 (lv h4 _ (k0_off2_eq m1))) (role_dot (ld h12 0 (256 * m1.val + 256) (k0_off10_eq m1 ⟨1, by decide⟩)))) (le' h6 0 (256 * m1.val + 256) (k0_off13_eq m1 ⟨1, by decide⟩))) (lkt h11 _ (k0_off3_eq m1)))) 128 (256 * m1.val) (k0_off25_eq m1 ⟨0, by decide⟩) (fun e t => g13 e t + ∑ u ∈ Finset.range 256, G.k ((256 * m1.val) + u) e * G.DS 1 t ((256 * m1.val) + u)) (role_dq1 (t0 := (256 * m1.val)) (ld2_f32 h13 128 (256 * m1.val) (k0_off25_eq m1 ⟨0, by decide⟩)) (role_ds (t0 := (256 * m1.val)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_dp1 (r_id_S256x256_bf16 (lv h4 _ (k0_off2_eq m1))) (role_dot (ld h12 1 (256 * m1.val) (k0_off11_eq m1 ⟨0, by decide⟩)))) (le' h6 1 (256 * m1.val) (k0_off16_eq m1 ⟨0, by decide⟩))) (lkt h11 _ (k0_off3_eq m1)))) 128 (256 * m1.val + 256) (k0_off25_eq m1 ⟨1, by decide⟩) (fun e t => g13 e t + ∑ u ∈ Finset.range 256, G.k ((256 * m1.val) + u) e * G.DS 1 t ((256 * m1.val) + u)) (role_dq1 (t0 := (256 * m1.val + 256)) (ld2_f32 h13 128 (256 * m1.val + 256) (k0_off25_eq m1 ⟨1, by decide⟩)) (role_ds (t0 := (256 * m1.val + 256)) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dp1 (r_id_S256x256_bf16 (lv h4 _ (k0_off2_eq m1))) (role_dot (ld h12 1 (256 * m1.val + 256) (k0_off11_eq m1 ⟨1, by decide⟩)))) (le' h6 1 (256 * m1.val + 256) (k0_off16_eq m1 ⟨1, by decide⟩))) (lkt h11 _ (k0_off3_eq m1)))) 256 (256 * m1.val) (k0_off30_eq m1 ⟨0, by decide⟩) (fun e t => g13 e t + ∑ u ∈ Finset.range 256, G.k ((256 * m1.val) + u) e * G.DS 2 t ((256 * m1.val) + u)) (role_dq2 (t0 := (256 * m1.val)) (ld2_f32 h13 256 (256 * m1.val) (k0_off30_eq m1 ⟨0, by decide⟩)) (role_ds (t0 := (256 * m1.val)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_dp2 (r_id_S256x256_bf16 (lv h4 _ (k0_off2_eq m1))) (role_dot (ld h12 2 (256 * m1.val) (k0_off14_eq m1 ⟨0, by decide⟩)))) (le' h6 2 (256 * m1.val) (k0_off22_eq m1 ⟨0, by decide⟩))) (lkt h11 _ (k0_off3_eq m1)))) 256 (256 * m1.val + 256) (k0_off30_eq m1 ⟨1, by decide⟩) (fun e t => g13 e t + ∑ u ∈ Finset.range 256, G.k ((256 * m1.val) + u) e * G.DS 2 t ((256 * m1.val) + u)) (role_dq2 (t0 := (256 * m1.val + 256)) (ld2_f32 h13 256 (256 * m1.val + 256) (k0_off30_eq m1 ⟨1, by decide⟩)) (role_ds (t0 := (256 * m1.val + 256)) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dp2 (r_id_S256x256_bf16 (lv h4 _ (k0_off2_eq m1))) (role_dot (ld h12 2 (256 * m1.val + 256) (k0_off14_eq m1 ⟨1, by decide⟩)))) (le' h6 2 (256 * m1.val + 256) (k0_off22_eq m1 ⟨1, by decide⟩))) (lkt h11 _ (k0_off3_eq m1)))) 384 (256 * m1.val) (k0_off33_eq m1 ⟨0, by decide⟩) (fun e t => g13 e t + ∑ u ∈ Finset.range 256, G.k ((256 * m1.val) + u) e * G.DS 3 t ((256 * m1.val) + u)) (role_dq3 (t0 := (256 * m1.val)) (ld2_f32 h13 384 (256 * m1.val) (k0_off33_eq m1 ⟨0, by decide⟩)) (role_ds (t0 := (256 * m1.val)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_dp3 (r_id_S256x256_bf16 (lv h4 _ (k0_off2_eq m1))) (role_dot (ld h12 3 (256 * m1.val) (k0_off20_eq m1 ⟨0, by decide⟩)))) (le' h6 3 (256 * m1.val) (k0_off27_eq m1 ⟨0, by decide⟩))) (lkt h11 _ (k0_off3_eq m1)))) 384 (256 * m1.val + 256) (k0_off33_eq m1 ⟨1, by decide⟩) (fun e t => g13 e t + ∑ u ∈ Finset.range 256, G.k ((256 * m1.val) + u) e * G.DS 3 t ((256 * m1.val) + u)) (role_dq3 (t0 := (256 * m1.val + 256)) (ld2_f32 h13 384 (256 * m1.val + 256) (k0_off33_eq m1 ⟨1, by decide⟩)) (role_ds (t0 := (256 * m1.val + 256)) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dp3 (r_id_S256x256_bf16 (lv h4 _ (k0_off2_eq m1))) (role_dot (ld h12 3 (256 * m1.val + 256) (k0_off20_eq m1 ⟨1, by decide⟩)))) (le' h6 3 (256 * m1.val + 256) (k0_off27_eq m1 ⟨1, by decide⟩))) (lkt h11 _ (k0_off3_eq m1))))
      intro e t he ht
      unfold s13
      rcases (by omega : (0 ≤ e ∧ e < 128) ∨ (128 ≤ e ∧ e < 256) ∨ (256 ≤ e ∧ e < 384) ∨ (384 ≤ e ∧ e < 512)) with cc | cc | cc | cc
      · rw [show e / 128 = 0 by omega]; split_ifs <;> first | rfl | (exfalso; omega)
      · rw [show e / 128 = 1 by omega]; split_ifs <;> first | rfl | (exfalso; omega)
      · rw [show e / 128 = 2 by omega]; split_ifs <;> first | rfl | (exfalso; omega)
      · rw [show e / 128 = 3 by omega]; split_ifs <;> first | rfl | (exfalso; omega)
  case a14 =>
    · refine R3.congr (?_ : R3 _ (fun s e u => if (m1.val % 2) ≤ s ∧ s < (m1.val % 2) + 1 ∧ 192 ≤ e ∧ e < 192 + 64 ∧ 0 ≤ u ∧ u < 0 + 256 then 0 + ∑ t ∈ Finset.range 512, G.d ((256 * m1.val) + t) e * G.P 3 ((256 * m1.val) + t) ((256 * m1.val) + u) else if (m1.val % 2) ≤ s ∧ s < (m1.val % 2) + 1 ∧ 128 ≤ e ∧ e < 128 + 64 ∧ 0 ≤ u ∧ u < 0 + 256 then 0 + ∑ t ∈ Finset.range 512, G.d ((256 * m1.val) + t) e * G.P 2 ((256 * m1.val) + t) ((256 * m1.val) + u) else if (m1.val % 2) ≤ s ∧ s < (m1.val % 2) + 1 ∧ 64 ≤ e ∧ e < 64 + 64 ∧ 0 ≤ u ∧ u < 0 + 256 then 0 + ∑ t ∈ Finset.range 512, G.d ((256 * m1.val) + t) e * G.P 1 ((256 * m1.val) + t) ((256 * m1.val) + u) else if (m1.val % 2) ≤ s ∧ s < (m1.val % 2) + 1 ∧ 0 ≤ e ∧ e < 0 + 64 ∧ 0 ≤ u ∧ u < 0 + 256 then 0 + ∑ t ∈ Finset.range 512, G.d ((256 * m1.val) + t) e * G.P 0 ((256 * m1.val) + t) ((256 * m1.val) + u) else if (m1.val % 2) ≤ s ∧ s < (m1.val % 2) + 1 ∧ 0 ≤ e ∧ e < 0 + 256 ∧ 0 ≤ u ∧ u < 0 + 256 then 0 else g14 s e u)) ?_
      · exact (st3_f32 (st3_f32 (st3_f32 (st3_f32 (st3_f32 h14 (m1.val % 2) 0 0 (k0_off4_at m1) (fun s e u => 0) zero14) (m1.val % 2) 0 0 (k0_off17_at m1) (fun s e u => 0 + ∑ t ∈ Finset.range 512, G.d ((256 * m1.val) + t) e * G.P 0 ((256 * m1.val) + t) ((256 * m1.val) + u)) (R3.congr (role_dv0 (s := (m1.val % 2)) (g := fun _ _ _ => 0) (u0 := (256 * m1.val)) (t0 := (256 * m1.val)) (covz3 (m1.val % 2) 0 0 (k0_off17_at m1) (m1.val % 2) 0 0 (k0_off4_at m1) zero14 (by omega) (by omega) (by omega)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dot (ld h12 0 (256 * m1.val) (k0_off10_eq m1 ⟨0, by decide⟩))) (role_dot (ld h12 0 (256 * m1.val + 256) (k0_off10_eq m1 ⟨1, by decide⟩)))) fun i j k hi _ _ => by simp only [Nat.zero_add])) (m1.val % 2) 64 0 (k0_off23_at m1) (fun s e u => 0 + ∑ t ∈ Finset.range 512, G.d ((256 * m1.val) + t) e * G.P 1 ((256 * m1.val) + t) ((256 * m1.val) + u)) (R3.congr (role_dv1 (s := (m1.val % 2)) (g := fun _ _ _ => 0) (u0 := (256 * m1.val)) (t0 := (256 * m1.val)) (skip3 (covz3 (m1.val % 2) 64 0 (k0_off23_at m1) (m1.val % 2) 0 0 (k0_off4_at m1) zero14 (by omega) (by omega) (by omega)) (m1.val % 2) 64 0 (k0_off23_at m1) (m1.val % 2) 0 0 (k0_off17_at m1) (by omega)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dot (ld h12 1 (256 * m1.val) (k0_off11_eq m1 ⟨0, by decide⟩))) (role_dot (ld h12 1 (256 * m1.val + 256) (k0_off11_eq m1 ⟨1, by decide⟩)))) fun i j k hi _ _ => by simp only [Nat.zero_add])) (m1.val % 2) 128 0 (k0_off28_at m1) (fun s e u => 0 + ∑ t ∈ Finset.range 512, G.d ((256 * m1.val) + t) e * G.P 2 ((256 * m1.val) + t) ((256 * m1.val) + u)) (R3.congr (role_dv2 (s := (m1.val % 2)) (g := fun _ _ _ => 0) (u0 := (256 * m1.val)) (t0 := (256 * m1.val)) (skip3 (skip3 (covz3 (m1.val % 2) 128 0 (k0_off28_at m1) (m1.val % 2) 0 0 (k0_off4_at m1) zero14 (by omega) (by omega) (by omega)) (m1.val % 2) 128 0 (k0_off28_at m1) (m1.val % 2) 0 0 (k0_off17_at m1) (by omega)) (m1.val % 2) 128 0 (k0_off28_at m1) (m1.val % 2) 64 0 (k0_off23_at m1) (by omega)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dot (ld h12 2 (256 * m1.val) (k0_off14_eq m1 ⟨0, by decide⟩))) (role_dot (ld h12 2 (256 * m1.val + 256) (k0_off14_eq m1 ⟨1, by decide⟩)))) fun i j k hi _ _ => by simp only [Nat.zero_add])) (m1.val % 2) 192 0 (k0_off31_at m1) (fun s e u => 0 + ∑ t ∈ Finset.range 512, G.d ((256 * m1.val) + t) e * G.P 3 ((256 * m1.val) + t) ((256 * m1.val) + u)) (R3.congr (role_dv3 (s := (m1.val % 2)) (g := fun _ _ _ => 0) (u0 := (256 * m1.val)) (t0 := (256 * m1.val)) (skip3 (skip3 (skip3 (covz3 (m1.val % 2) 192 0 (k0_off31_at m1) (m1.val % 2) 0 0 (k0_off4_at m1) zero14 (by omega) (by omega) (by omega)) (m1.val % 2) 192 0 (k0_off31_at m1) (m1.val % 2) 0 0 (k0_off17_at m1) (by omega)) (m1.val % 2) 192 0 (k0_off31_at m1) (m1.val % 2) 64 0 (k0_off23_at m1) (by omega)) (m1.val % 2) 192 0 (k0_off31_at m1) (m1.val % 2) 128 0 (k0_off28_at m1) (by omega)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dot (ld h12 3 (256 * m1.val) (k0_off20_eq m1 ⟨0, by decide⟩))) (role_dot (ld h12 3 (256 * m1.val + 256) (k0_off20_eq m1 ⟨1, by decide⟩)))) fun i j k hi _ _ => by simp only [Nat.zero_add]))
      intro s e u hs he hu
      unfold s14
      rcases (by omega : (0 ≤ e ∧ e < 64) ∨ (64 ≤ e ∧ e < 128) ∨ (128 ≤ e ∧ e < 192) ∨ (192 ≤ e ∧ e < 256)) with cc | cc | cc | cc
      · rw [show e / 64 = 0 by omega]; split_ifs <;> first | rfl | (exfalso; omega) | exact ico_zero (fun t => G.d t e * G.P 0 t ((256 * m1.val) + u)) (256 * m1.val) 512
      · rw [show e / 64 = 1 by omega]; split_ifs <;> first | rfl | (exfalso; omega) | exact ico_zero (fun t => G.d t e * G.P 1 t ((256 * m1.val) + u)) (256 * m1.val) 512
      · rw [show e / 64 = 2 by omega]; split_ifs <;> first | rfl | (exfalso; omega) | exact ico_zero (fun t => G.d t e * G.P 2 t ((256 * m1.val) + u)) (256 * m1.val) 512
      · rw [show e / 64 = 3 by omega]; split_ifs <;> first | rfl | (exfalso; omega) | exact ico_zero (fun t => G.d t e * G.P 3 t ((256 * m1.val) + u)) (256 * m1.val) 512

include h10 h14 in
/-- The tile of the values' gradient that the trip flushes. -/
theorem trip1A_val10 : U2 (256 * (m1.val - 1) + 256) (a10.view.read (Elt Ideal) (a10.view.writes (Elt Ideal) f10 ((trip1A (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.1 f9 f10 f13 f14))) (fun u r => if (256 * (m1.val - 1)) ≤ u ∧ u < (256 * (m1.val - 1)) + 256 then g14 ((m1.val + 1) % 2) r (u - (256 * (m1.val - 1))) else g10 u r) := by
  unfold trip1A
  exact U2.st_two h10 (256 * (m1.val - 1)) (k0_off6_at m1) (k0_off8_at m1) (fun u r => g14 ((m1.val + 1) % 2) r (u - (256 * (m1.val - 1)))) (R2.congr (r_transpose (r_sc_S1x128x256_f32 (R3.congr (skip3 (ld3_f32 (s0 := 1) (s1 := 128) (s2 := 256) (F := a14.view.writes (Elt Ideal) f14 []) h14 ((m1.val + 1) % 2) 0 0 (k0_off5_at m1)) ((m1.val + 1) % 2) 0 0 (k0_off5_at m1) (m1.val % 2) 0 0 (k0_off4_at m1) (by omega)) (fun i j k hi _ _ => by rw [show i = 0 by omega]) : R3 _ (fun _ j k => g14 (((m1.val + 1) % 2) + 0) (0 + j) (0 + k))))) fun u r _ _ => by simp only [Nat.add_zero, Nat.zero_add, Nat.add_sub_cancel_left]) (R2.congr (r_transpose (r_sc_S1x128x256_f32 (R3.congr (skip3 (ld3_f32 (s0 := 1) (s1 := 128) (s2 := 256) (F := a14.view.writes (Elt Ideal) f14 []) h14 ((m1.val + 1) % 2) 128 0 (k0_off7_at m1)) ((m1.val + 1) % 2) 128 0 (k0_off7_at m1) (m1.val % 2) 0 0 (k0_off4_at m1) (by omega)) (fun i j k hi _ _ => by rw [show i = 0 by omega]) : R3 _ (fun _ j k => g14 (((m1.val + 1) % 2) + 0) (128 + j) (0 + k))))) fun u r _ _ => by simp only [Nat.add_zero, Nat.zero_add, Nat.add_sub_cancel_left]) le_rfl le_rfl

end Cert.MlaIdeal.Gen

end
-- ==== Proof.MlaIdealVal1B.lean ====
/- One tile of keys: the diagonal pair of query tiles and the pairs after it. -/
module

public import proofs.«01_k».proof.Proof.MlaIdealValC
public import proofs.«01_k».proof.Proof.MlaIdealTrip1

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

variable (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X6 : BC Ideal a6) (X7 : BC Ideal a7) (X11 : BC Ideal a11) (X12 : BC Ideal a12) (m1 : Fin k0_t1_loop.trips) (c1 : k0_cond1 m1 = 1#1) (c2 : ¬ k0_cond2 m1 = 1#1) (G : Grp)
  (h2 : R2 (a2.view.read (Elt Ideal) X2) G.q) (h3 : R2 (a3.view.read (Elt Ideal) X3) G.k) (h4 : R2 (a4.view.read (Elt Ideal) X4) G.v) (h6 : R3 (a6.view.read (Elt Ideal) X6) (fun _ h t => G.dl h t)) (h7 : R4 (a7.view.read (Elt Ideal) X7) (fun _ _ h t => G.ls h t)) (h11 : R2 (a11.view.read (Elt Ideal) X11) (fun e t => G.k t e)) (h12 : R3 (a12.view.read (Elt Ideal) X12) (fun h l t => G.DT h l t))
  (f9 : BC Ideal a9) (f10 : BC Ideal a10) (f13 : BC Ideal a13) (f14 : BC Ideal a14) (g9 g10 g13 : ℕ → ℕ → ℝ) (g14 : ℕ → ℕ → ℕ → ℝ)
  (h9 : U2 (256 * m1.val) (a9.view.read (Elt Ideal) f9) g9) (h10 : U2 (256 * (m1.val - 1)) (a10.view.read (Elt Ideal) f10) g10) (h13 : R2 (a13.view.read (Elt Ideal) f13) g13) (h14 : R3 (a14.view.read (Elt Ideal) f14) g14)

include h2 h3 h4 h6 h7 h11 h12 h9 h10 h13 h14 in
/-- After the trip. -/
theorem trip1B_val : U2 (256 * m1.val + 256) (a9.view.read (Elt Ideal) (a9.view.writes (Elt Ideal) f9 ((trip1B (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).1 f9 f10 f13 f14))) (s9 G g9 m1.val 2048) ∧ R2 (a13.view.read (Elt Ideal) (a13.view.writes (Elt Ideal) f13 ((trip1B (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.1 f9 f10 f13 f14))) (s13 G g13 m1.val 2048) ∧ R3 (a14.view.read (Elt Ideal) (a14.view.writes (Elt Ideal) f14 ((trip1B (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.2.1 f9 f10 f13 f14))) (s14 G g14 m1.val 2048) := by
  have hk6 : m1.val < 7 := (k0_cond1_iff m1).1 c1
  have hk2 : ¬ (m1.val % 2 = 1 ∧ m1.val < 7) := (not_congr (k0_cond2_iff m1)).1 c2
  unfold trip1B
  refine and3 (pb2_valT c i a2 b2 a3 b3 a4 b4 a5 b5 a6 b6 a7 b7 a8 b8 a9 b9 a10 b10 a11 b11 a12 b12 a13 b13 a14 b14 m1 _ _ _ _ _ _ _ _ X2 X6 X7 X12 G (r_id_S256x512_bf16 (lk h3 _ (k0_off1_eq m1))) (r_id_S256x256_bf16 (lv h4 _ (k0_off2_eq m1))) (lkt h11 _ (k0_off3_eq m1)) h2 h6 h7 h12 _ _ _ g9 g13 g14 ?_ ?_ ?_ _ le_rfl 2048 (by rw [k0_t2_trips]; omega))
  · refine U2.congr (?_ : U2 (256 * m1.val + 256) _ (fun u e => if (256 * m1.val) ≤ u ∧ u < (256 * m1.val) + 256 ∧ 384 ≤ e ∧ e < 384 + 128 then 0 + ∑ t ∈ Finset.range 512, G.DS 3 ((256 * m1.val) + t) u * G.q ((256 * m1.val) + t) e else if (256 * m1.val) ≤ u ∧ u < (256 * m1.val) + 256 ∧ 256 ≤ e ∧ e < 256 + 128 then 0 + ∑ t ∈ Finset.range 512, G.DS 2 ((256 * m1.val) + t) u * G.q ((256 * m1.val) + t) e else if (256 * m1.val) ≤ u ∧ u < (256 * m1.val) + 256 ∧ 128 ≤ e ∧ e < 128 + 128 then 0 + ∑ t ∈ Finset.range 512, G.DS 1 ((256 * m1.val) + t) u * G.q ((256 * m1.val) + t) e else if (256 * m1.val) ≤ u ∧ u < (256 * m1.val) + 256 ∧ 0 ≤ e ∧ e < 0 + 128 then 0 + ∑ t ∈ Finset.range 512, G.DS 0 ((256 * m1.val) + t) u * G.q ((256 * m1.val) + t) e else if (256 * m1.val) ≤ u ∧ u < (256 * m1.val) + 256 ∧ 0 ≤ e ∧ e < 0 + 512 then 0 else g9 u e)) ?_
    · exact (U2.st (U2.st (U2.st (U2.st (U2.stn h9 (256 * m1.val) 0 (k0_off1_eq m1) (fun u e => 0) zero9 le_rfl ⟨rfl, le_rfl⟩) (256 * m1.val) 0 (k0_off18_eq m1) (fun u e => 0 + ∑ t ∈ Finset.range 512, G.DS 0 ((256 * m1.val) + t) u * G.q ((256 * m1.val) + t) e) (role_dk0 (g := fun _ _ => 0) (u0 := (256 * m1.val)) (t0 := (256 * m1.val)) (r_id_S256x128_f32 (covz2 (256 * m1.val) 0 (k0_off18_eq m1) (256 * m1.val) 0 (k0_off1_eq m1) zero9 (by omega) (by omega))) (role_ds (t0 := (256 * m1.val)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_dp0 (r_id_S256x256_bf16 (lv h4 _ (k0_off2_eq m1))) (role_dot (ld h12 0 (256 * m1.val) (k0_off10_eq m1 ⟨0, by decide⟩)))) (le' h6 0 (256 * m1.val) (k0_off13_eq m1 ⟨0, by decide⟩))) (role_ds (t0 := (256 * m1.val + 256)) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dp0 (r_id_S256x256_bf16 (lv h4 _ (k0_off2_eq m1))) (role_dot (ld h12 0 (256 * m1.val + 256) (k0_off10_eq m1 ⟨1, by decide⟩)))) (le' h6 0 (256 * m1.val + 256) (k0_off13_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 128 (k0_off24_eq m1) (fun u e => 0 + ∑ t ∈ Finset.range 512, G.DS 1 ((256 * m1.val) + t) u * G.q ((256 * m1.val) + t) e) (role_dk1 (g := fun _ _ => 0) (u0 := (256 * m1.val)) (t0 := (256 * m1.val)) (r_id_S256x128_f32 (skip2 (covz2 (256 * m1.val) 128 (k0_off24_eq m1) (256 * m1.val) 0 (k0_off1_eq m1) zero9 (by omega) (by omega)) (256 * m1.val) 128 (k0_off24_eq m1) (256 * m1.val) 0 (k0_off18_eq m1) (by omega))) (role_ds (t0 := (256 * m1.val)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_dp1 (r_id_S256x256_bf16 (lv h4 _ (k0_off2_eq m1))) (role_dot (ld h12 1 (256 * m1.val) (k0_off11_eq m1 ⟨0, by decide⟩)))) (le' h6 1 (256 * m1.val) (k0_off16_eq m1 ⟨0, by decide⟩))) (role_ds (t0 := (256 * m1.val + 256)) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dp1 (r_id_S256x256_bf16 (lv h4 _ (k0_off2_eq m1))) (role_dot (ld h12 1 (256 * m1.val + 256) (k0_off11_eq m1 ⟨1, by decide⟩)))) (le' h6 1 (256 * m1.val + 256) (k0_off16_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 256 (k0_off29_eq m1) (fun u e => 0 + ∑ t ∈ Finset.range 512, G.DS 2 ((256 * m1.val) + t) u * G.q ((256 * m1.val) + t) e) (role_dk2 (g := fun _ _ => 0) (u0 := (256 * m1.val)) (t0 := (256 * m1.val)) (r_id_S256x128_f32 (skip2 (skip2 (covz2 (256 * m1.val) 256 (k0_off29_eq m1) (256 * m1.val) 0 (k0_off1_eq m1) zero9 (by omega) (by omega)) (256 * m1.val) 256 (k0_off29_eq m1) (256 * m1.val) 0 (k0_off18_eq m1) (by omega)) (256 * m1.val) 256 (k0_off29_eq m1) (256 * m1.val) 128 (k0_off24_eq m1) (by omega))) (role_ds (t0 := (256 * m1.val)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_dp2 (r_id_S256x256_bf16 (lv h4 _ (k0_off2_eq m1))) (role_dot (ld h12 2 (256 * m1.val) (k0_off14_eq m1 ⟨0, by decide⟩)))) (le' h6 2 (256 * m1.val) (k0_off22_eq m1 ⟨0, by decide⟩))) (role_ds (t0 := (256 * m1.val + 256)) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dp2 (r_id_S256x256_bf16 (lv h4 _ (k0_off2_eq m1))) (role_dot (ld h12 2 (256 * m1.val + 256) (k0_off14_eq m1 ⟨1, by decide⟩)))) (le' h6 2 (256 * m1.val + 256) (k0_off22_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩))))) (256 * m1.val) 384 (k0_off32_eq m1) (fun u e => 0 + ∑ t ∈ Finset.range 512, G.DS 3 ((256 * m1.val) + t) u * G.q ((256 * m1.val) + t) e) (role_dk3 (g := fun _ _ => 0) (u0 := (256 * m1.val)) (t0 := (256 * m1.val)) (r_id_S256x128_f32 (skip2 (skip2 (skip2 (covz2 (256 * m1.val) 384 (k0_off32_eq m1) (256 * m1.val) 0 (k0_off1_eq m1) zero9 (by omega) (by omega)) (256 * m1.val) 384 (k0_off32_eq m1) (256 * m1.val) 0 (k0_off18_eq m1) (by omega)) (256 * m1.val) 384 (k0_off32_eq m1) (256 * m1.val) 128 (k0_off24_eq m1) (by omega)) (256 * m1.val) 384 (k0_off32_eq m1) (256 * m1.val) 256 (k0_off29_eq m1) (by omega))) (role_ds (t0 := (256 * m1.val)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_dp3 (r_id_S256x256_bf16 (lv h4 _ (k0_off2_eq m1))) (role_dot (ld h12 3 (256 * m1.val) (k0_off20_eq m1 ⟨0, by decide⟩)))) (le' h6 3 (256 * m1.val) (k0_off27_eq m1 ⟨0, by decide⟩))) (role_ds (t0 := (256 * m1.val + 256)) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dp3 (r_id_S256x256_bf16 (lv h4 _ (k0_off2_eq m1))) (role_dot (ld h12 3 (256 * m1.val + 256) (k0_off20_eq m1 ⟨1, by decide⟩)))) (le' h6 3 (256 * m1.val + 256) (k0_off27_eq m1 ⟨1, by decide⟩))) (r_id_S256x512_bf16 (lq h2 (256 * m1.val) (k0_off9_eq m1 ⟨0, by decide⟩))) (r_id_S256x512_bf16 (lq h2 (256 * m1.val + 256) (k0_off9_eq m1 ⟨1, by decide⟩)))))
    intro u e hu he
    unfold s9
    rcases (by omega : (0 ≤ e ∧ e < 128) ∨ (128 ≤ e ∧ e < 256) ∨ (256 ≤ e ∧ e < 384) ∨ (384 ≤ e ∧ e < 512)) with cc | cc | cc | cc
    · rw [show e / 128 = 0 by omega]; split_ifs <;> first | rfl | (exfalso; omega) | exact ico_zero (fun t => G.DS 0 t u * G.q t e) (256 * m1.val) 512
    · rw [show e / 128 = 1 by omega]; split_ifs <;> first | rfl | (exfalso; omega) | exact ico_zero (fun t => G.DS 1 t u * G.q t e) (256 * m1.val) 512
    · rw [show e / 128 = 2 by omega]; split_ifs <;> first | rfl | (exfalso; omega) | exact ico_zero (fun t => G.DS 2 t u * G.q t e) (256 * m1.val) 512
    · rw [show e / 128 = 3 by omega]; split_ifs <;> first | rfl | (exfalso; omega) | exact ico_zero (fun t => G.DS 3 t u * G.q t e) (256 * m1.val) 512
  · refine R2.congr (?_ : R2 _ (fun e t => if 384 ≤ e ∧ e < 384 + 128 ∧ (256 * m1.val + 256) ≤ t ∧ t < (256 * m1.val + 256) + 256 then g13 e t + ∑ u ∈ Finset.range 256, G.k ((256 * m1.val) + u) e * G.DS 3 t ((256 * m1.val) + u) else if 384 ≤ e ∧ e < 384 + 128 ∧ (256 * m1.val) ≤ t ∧ t < (256 * m1.val) + 256 then g13 e t + ∑ u ∈ Finset.range 256, G.k ((256 * m1.val) + u) e * G.DS 3 t ((256 * m1.val) + u) else if 256 ≤ e ∧ e < 256 + 128 ∧ (256 * m1.val + 256) ≤ t ∧ t < (256 * m1.val + 256) + 256 then g13 e t + ∑ u ∈ Finset.range 256, G.k ((256 * m1.val) + u) e * G.DS 2 t ((256 * m1.val) + u) else if 256 ≤ e ∧ e < 256 + 128 ∧ (256 * m1.val) ≤ t ∧ t < (256 * m1.val) + 256 then g13 e t + ∑ u ∈ Finset.range 256, G.k ((256 * m1.val) + u) e * G.DS 2 t ((256 * m1.val) + u) else if 128 ≤ e ∧ e < 128 + 128 ∧ (256 * m1.val + 256) ≤ t ∧ t < (256 * m1.val + 256) + 256 then g13 e t + ∑ u ∈ Finset.range 256, G.k ((256 * m1.val) + u) e * G.DS 1 t ((256 * m1.val) + u) else if 128 ≤ e ∧ e < 128 + 128 ∧ (256 * m1.val) ≤ t ∧ t < (256 * m1.val) + 256 then g13 e t + ∑ u ∈ Finset.range 256, G.k ((256 * m1.val) + u) e * G.DS 1 t ((256 * m1.val) + u) else if 0 ≤ e ∧ e < 0 + 128 ∧ (256 * m1.val + 256) ≤ t ∧ t < (256 * m1.val + 256) + 256 then g13 e t + ∑ u ∈ Finset.range 256, G.k ((256 * m1.val) + u) e * G.DS 0 t ((256 * m1.val) + u) else if 0 ≤ e ∧ e < 0 + 128 ∧ (256 * m1.val) ≤ t ∧ t < (256 * m1.val) + 256 then g13 e t + ∑ u ∈ Finset.range 256, G.k ((256 * m1.val) + u) e * G.DS 0 t ((256 * m1.val) + u) else g13 e t)) ?_
    · exact (st2_f32 (st2_f32 (st2_f32 (st2_f32 (st2_f32 (st2_f32 (st2_f32 (st2_f32 h13 0 (256 * m1.val) (k0_off19_eq m1 ⟨0, by decide⟩) (fun e t => g13 e t + ∑ u ∈ Finset.range 256, G.k ((256 * m1.val) + u) e * G.DS 0 t ((256 * m1.val) + u)) (role_dq0 (t0 := (256 * m1.val)) (ld2_f32 h13 0 (256 * m1.val) (k0_off19_eq m1 ⟨0, by decide⟩)) (role_ds (t0 := (256 * m1.val)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_dp0 (r_id_S256x256_bf16 (lv h4 _ (k0_off2_eq m1))) (role_dot (ld h12 0 (256 * m1.val) (k0_off10_eq m1 ⟨0, by decide⟩)))) (le' h6 0 (256 * m1.val) (k0_off13_eq m1 ⟨0, by decide⟩))) (lkt h11 _ (k0_off3_eq m1)))) 0 (256 * m1.val + 256) (k0_off19_eq m1 ⟨1, by decide⟩) (fun e t => g13 e t + ∑ u ∈ Finset.range 256, G.k ((256 * m1.val) + u) e * G.DS 0 t ((256 * m1.val) + u)) (role_dq0 (t0 := (256 * m1.val + 256)) (ld2_f32 h13 0 (256 * m1.val + 256) (k0_off19_eq m1 ⟨1, by decide⟩)) (role_ds (t0 := (256 * m1.val + 256)) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dp0 (r_id_S256x256_bf16 (lv h4 _ (k0_off2_eq m1))) (role_dot (ld h12 0 (256 * m1.val + 256) (k0_off10_eq m1 ⟨1, by decide⟩)))) (le' h6 0 (256 * m1.val + 256) (k0_off13_eq m1 ⟨1, by decide⟩))) (lkt h11 _ (k0_off3_eq m1)))) 128 (256 * m1.val) (k0_off25_eq m1 ⟨0, by decide⟩) (fun e t => g13 e t + ∑ u ∈ Finset.range 256, G.k ((256 * m1.val) + u) e * G.DS 1 t ((256 * m1.val) + u)) (role_dq1 (t0 := (256 * m1.val)) (ld2_f32 h13 128 (256 * m1.val) (k0_off25_eq m1 ⟨0, by decide⟩)) (role_ds (t0 := (256 * m1.val)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_dp1 (r_id_S256x256_bf16 (lv h4 _ (k0_off2_eq m1))) (role_dot (ld h12 1 (256 * m1.val) (k0_off11_eq m1 ⟨0, by decide⟩)))) (le' h6 1 (256 * m1.val) (k0_off16_eq m1 ⟨0, by decide⟩))) (lkt h11 _ (k0_off3_eq m1)))) 128 (256 * m1.val + 256) (k0_off25_eq m1 ⟨1, by decide⟩) (fun e t => g13 e t + ∑ u ∈ Finset.range 256, G.k ((256 * m1.val) + u) e * G.DS 1 t ((256 * m1.val) + u)) (role_dq1 (t0 := (256 * m1.val + 256)) (ld2_f32 h13 128 (256 * m1.val + 256) (k0_off25_eq m1 ⟨1, by decide⟩)) (role_ds (t0 := (256 * m1.val + 256)) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dp1 (r_id_S256x256_bf16 (lv h4 _ (k0_off2_eq m1))) (role_dot (ld h12 1 (256 * m1.val + 256) (k0_off11_eq m1 ⟨1, by decide⟩)))) (le' h6 1 (256 * m1.val + 256) (k0_off16_eq m1 ⟨1, by decide⟩))) (lkt h11 _ (k0_off3_eq m1)))) 256 (256 * m1.val) (k0_off30_eq m1 ⟨0, by decide⟩) (fun e t => g13 e t + ∑ u ∈ Finset.range 256, G.k ((256 * m1.val) + u) e * G.DS 2 t ((256 * m1.val) + u)) (role_dq2 (t0 := (256 * m1.val)) (ld2_f32 h13 256 (256 * m1.val) (k0_off30_eq m1 ⟨0, by decide⟩)) (role_ds (t0 := (256 * m1.val)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_dp2 (r_id_S256x256_bf16 (lv h4 _ (k0_off2_eq m1))) (role_dot (ld h12 2 (256 * m1.val) (k0_off14_eq m1 ⟨0, by decide⟩)))) (le' h6 2 (256 * m1.val) (k0_off22_eq m1 ⟨0, by decide⟩))) (lkt h11 _ (k0_off3_eq m1)))) 256 (256 * m1.val + 256) (k0_off30_eq m1 ⟨1, by decide⟩) (fun e t => g13 e t + ∑ u ∈ Finset.range 256, G.k ((256 * m1.val) + u) e * G.DS 2 t ((256 * m1.val) + u)) (role_dq2 (t0 := (256 * m1.val + 256)) (ld2_f32 h13 256 (256 * m1.val + 256) (k0_off30_eq m1 ⟨1, by decide⟩)) (role_ds (t0 := (256 * m1.val + 256)) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dp2 (r_id_S256x256_bf16 (lv h4 _ (k0_off2_eq m1))) (role_dot (ld h12 2 (256 * m1.val + 256) (k0_off14_eq m1 ⟨1, by decide⟩)))) (le' h6 2 (256 * m1.val + 256) (k0_off22_eq m1 ⟨1, by decide⟩))) (lkt h11 _ (k0_off3_eq m1)))) 384 (256 * m1.val) (k0_off33_eq m1 ⟨0, by decide⟩) (fun e t => g13 e t + ∑ u ∈ Finset.range 256, G.k ((256 * m1.val) + u) e * G.DS 3 t ((256 * m1.val) + u)) (role_dq3 (t0 := (256 * m1.val)) (ld2_f32 h13 384 (256 * m1.val) (k0_off33_eq m1 ⟨0, by decide⟩)) (role_ds (t0 := (256 * m1.val)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_dp3 (r_id_S256x256_bf16 (lv h4 _ (k0_off2_eq m1))) (role_dot (ld h12 3 (256 * m1.val) (k0_off20_eq m1 ⟨0, by decide⟩)))) (le' h6 3 (256 * m1.val) (k0_off27_eq m1 ⟨0, by decide⟩))) (lkt h11 _ (k0_off3_eq m1)))) 384 (256 * m1.val + 256) (k0_off33_eq m1 ⟨1, by decide⟩) (fun e t => g13 e t + ∑ u ∈ Finset.range 256, G.k ((256 * m1.val) + u) e * G.DS 3 t ((256 * m1.val) + u)) (role_dq3 (t0 := (256 * m1.val + 256)) (ld2_f32 h13 384 (256 * m1.val + 256) (k0_off33_eq m1 ⟨1, by decide⟩)) (role_ds (t0 := (256 * m1.val + 256)) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dp3 (r_id_S256x256_bf16 (lv h4 _ (k0_off2_eq m1))) (role_dot (ld h12 3 (256 * m1.val + 256) (k0_off20_eq m1 ⟨1, by decide⟩)))) (le' h6 3 (256 * m1.val + 256) (k0_off27_eq m1 ⟨1, by decide⟩))) (lkt h11 _ (k0_off3_eq m1))))
    intro e t he ht
    unfold s13
    rcases (by omega : (0 ≤ e ∧ e < 128) ∨ (128 ≤ e ∧ e < 256) ∨ (256 ≤ e ∧ e < 384) ∨ (384 ≤ e ∧ e < 512)) with cc | cc | cc | cc
    · rw [show e / 128 = 0 by omega]; split_ifs <;> first | rfl | (exfalso; omega)
    · rw [show e / 128 = 1 by omega]; split_ifs <;> first | rfl | (exfalso; omega)
    · rw [show e / 128 = 2 by omega]; split_ifs <;> first | rfl | (exfalso; omega)
    · rw [show e / 128 = 3 by omega]; split_ifs <;> first | rfl | (exfalso; omega)
  · refine R3.congr (?_ : R3 _ (fun s e u => if (m1.val % 2) ≤ s ∧ s < (m1.val % 2) + 1 ∧ 192 ≤ e ∧ e < 192 + 64 ∧ 0 ≤ u ∧ u < 0 + 256 then 0 + ∑ t ∈ Finset.range 512, G.d ((256 * m1.val) + t) e * G.P 3 ((256 * m1.val) + t) ((256 * m1.val) + u) else if (m1.val % 2) ≤ s ∧ s < (m1.val % 2) + 1 ∧ 128 ≤ e ∧ e < 128 + 64 ∧ 0 ≤ u ∧ u < 0 + 256 then 0 + ∑ t ∈ Finset.range 512, G.d ((256 * m1.val) + t) e * G.P 2 ((256 * m1.val) + t) ((256 * m1.val) + u) else if (m1.val % 2) ≤ s ∧ s < (m1.val % 2) + 1 ∧ 64 ≤ e ∧ e < 64 + 64 ∧ 0 ≤ u ∧ u < 0 + 256 then 0 + ∑ t ∈ Finset.range 512, G.d ((256 * m1.val) + t) e * G.P 1 ((256 * m1.val) + t) ((256 * m1.val) + u) else if (m1.val % 2) ≤ s ∧ s < (m1.val % 2) + 1 ∧ 0 ≤ e ∧ e < 0 + 64 ∧ 0 ≤ u ∧ u < 0 + 256 then 0 + ∑ t ∈ Finset.range 512, G.d ((256 * m1.val) + t) e * G.P 0 ((256 * m1.val) + t) ((256 * m1.val) + u) else if (m1.val % 2) ≤ s ∧ s < (m1.val % 2) + 1 ∧ 0 ≤ e ∧ e < 0 + 256 ∧ 0 ≤ u ∧ u < 0 + 256 then 0 else g14 s e u)) ?_
    · exact (st3_f32 (st3_f32 (st3_f32 (st3_f32 (st3_f32 h14 (m1.val % 2) 0 0 (k0_off4_at m1) (fun s e u => 0) zero14) (m1.val % 2) 0 0 (k0_off17_at m1) (fun s e u => 0 + ∑ t ∈ Finset.range 512, G.d ((256 * m1.val) + t) e * G.P 0 ((256 * m1.val) + t) ((256 * m1.val) + u)) (R3.congr (role_dv0 (s := (m1.val % 2)) (g := fun _ _ _ => 0) (u0 := (256 * m1.val)) (t0 := (256 * m1.val)) (covz3 (m1.val % 2) 0 0 (k0_off17_at m1) (m1.val % 2) 0 0 (k0_off4_at m1) zero14 (by omega) (by omega) (by omega)) (role_pm (t0 := (256 * m1.val)) (mask10 m1) (role_s0 (r_id_S256x512_bf16 (lk h3 _ (k0_off1_eq m1))) (r_id_S256x512_bf16 (lq h2 (256 * m1.val) (k0_off9_eq m1 ⟨0, by decide⟩)))) (ll h7 0 (256 * m1.val) (k0_off12_eq m1 ⟨0, by decide⟩))) (role_p (t0 := (256 * m1.val + 256)) (by omega) (role_s0 (r_id_S256x512_bf16 (lk h3 _ (k0_off1_eq m1))) (r_id_S256x512_bf16 (lq h2 (256 * m1.val + 256) (k0_off9_eq m1 ⟨1, by decide⟩)))) (ll h7 0 (256 * m1.val + 256) (k0_off12_eq m1 ⟨1, by decide⟩))) (role_dot (ld h12 0 (256 * m1.val) (k0_off10_eq m1 ⟨0, by decide⟩))) (role_dot (ld h12 0 (256 * m1.val + 256) (k0_off10_eq m1 ⟨1, by decide⟩)))) fun i j k hi _ _ => by simp only [Nat.zero_add])) (m1.val % 2) 64 0 (k0_off23_at m1) (fun s e u => 0 + ∑ t ∈ Finset.range 512, G.d ((256 * m1.val) + t) e * G.P 1 ((256 * m1.val) + t) ((256 * m1.val) + u)) (R3.congr (role_dv1 (s := (m1.val % 2)) (g := fun _ _ _ => 0) (u0 := (256 * m1.val)) (t0 := (256 * m1.val)) (skip3 (covz3 (m1.val % 2) 64 0 (k0_off23_at m1) (m1.val % 2) 0 0 (k0_off4_at m1) zero14 (by omega) (by omega) (by omega)) (m1.val % 2) 64 0 (k0_off23_at m1) (m1.val % 2) 0 0 (k0_off17_at m1) (by omega)) (role_pm (t0 := (256 * m1.val)) (mask10 m1) (role_s1 (r_id_S256x512_bf16 (lk h3 _ (k0_off1_eq m1))) (r_id_S256x512_bf16 (lq h2 (256 * m1.val) (k0_off9_eq m1 ⟨0, by decide⟩)))) (ll h7 1 (256 * m1.val) (k0_off15_eq m1 ⟨0, by decide⟩))) (role_p (t0 := (256 * m1.val + 256)) (by omega) (role_s1 (r_id_S256x512_bf16 (lk h3 _ (k0_off1_eq m1))) (r_id_S256x512_bf16 (lq h2 (256 * m1.val + 256) (k0_off9_eq m1 ⟨1, by decide⟩)))) (ll h7 1 (256 * m1.val + 256) (k0_off15_eq m1 ⟨1, by decide⟩))) (role_dot (ld h12 1 (256 * m1.val) (k0_off11_eq m1 ⟨0, by decide⟩))) (role_dot (ld h12 1 (256 * m1.val + 256) (k0_off11_eq m1 ⟨1, by decide⟩)))) fun i j k hi _ _ => by simp only [Nat.zero_add])) (m1.val % 2) 128 0 (k0_off28_at m1) (fun s e u => 0 + ∑ t ∈ Finset.range 512, G.d ((256 * m1.val) + t) e * G.P 2 ((256 * m1.val) + t) ((256 * m1.val) + u)) (R3.congr (role_dv2 (s := (m1.val % 2)) (g := fun _ _ _ => 0) (u0 := (256 * m1.val)) (t0 := (256 * m1.val)) (skip3 (skip3 (covz3 (m1.val % 2) 128 0 (k0_off28_at m1) (m1.val % 2) 0 0 (k0_off4_at m1) zero14 (by omega) (by omega) (by omega)) (m1.val % 2) 128 0 (k0_off28_at m1) (m1.val % 2) 0 0 (k0_off17_at m1) (by omega)) (m1.val % 2) 128 0 (k0_off28_at m1) (m1.val % 2) 64 0 (k0_off23_at m1) (by omega)) (role_pm (t0 := (256 * m1.val)) (mask10 m1) (role_s2 (r_id_S256x512_bf16 (lk h3 _ (k0_off1_eq m1))) (r_id_S256x512_bf16 (lq h2 (256 * m1.val) (k0_off9_eq m1 ⟨0, by decide⟩)))) (ll h7 2 (256 * m1.val) (k0_off21_eq m1 ⟨0, by decide⟩))) (role_p (t0 := (256 * m1.val + 256)) (by omega) (role_s2 (r_id_S256x512_bf16 (lk h3 _ (k0_off1_eq m1))) (r_id_S256x512_bf16 (lq h2 (256 * m1.val + 256) (k0_off9_eq m1 ⟨1, by decide⟩)))) (ll h7 2 (256 * m1.val + 256) (k0_off21_eq m1 ⟨1, by decide⟩))) (role_dot (ld h12 2 (256 * m1.val) (k0_off14_eq m1 ⟨0, by decide⟩))) (role_dot (ld h12 2 (256 * m1.val + 256) (k0_off14_eq m1 ⟨1, by decide⟩)))) fun i j k hi _ _ => by simp only [Nat.zero_add])) (m1.val % 2) 192 0 (k0_off31_at m1) (fun s e u => 0 + ∑ t ∈ Finset.range 512, G.d ((256 * m1.val) + t) e * G.P 3 ((256 * m1.val) + t) ((256 * m1.val) + u)) (R3.congr (role_dv3 (s := (m1.val % 2)) (g := fun _ _ _ => 0) (u0 := (256 * m1.val)) (t0 := (256 * m1.val)) (skip3 (skip3 (skip3 (covz3 (m1.val % 2) 192 0 (k0_off31_at m1) (m1.val % 2) 0 0 (k0_off4_at m1) zero14 (by omega) (by omega) (by omega)) (m1.val % 2) 192 0 (k0_off31_at m1) (m1.val % 2) 0 0 (k0_off17_at m1) (by omega)) (m1.val % 2) 192 0 (k0_off31_at m1) (m1.val % 2) 64 0 (k0_off23_at m1) (by omega)) (m1.val % 2) 192 0 (k0_off31_at m1) (m1.val % 2) 128 0 (k0_off28_at m1) (by omega)) (role_pm (t0 := (256 * m1.val)) (mask10 m1) (role_s3 (r_id_S256x512_bf16 (lk h3 _ (k0_off1_eq m1))) (r_id_S256x512_bf16 (lq h2 (256 * m1.val) (k0_off9_eq m1 ⟨0, by decide⟩)))) (ll h7 3 (256 * m1.val) (k0_off26_eq m1 ⟨0, by decide⟩))) (role_p (t0 := (256 * m1.val + 256)) (by omega) (role_s3 (r_id_S256x512_bf16 (lk h3 _ (k0_off1_eq m1))) (r_id_S256x512_bf16 (lq h2 (256 * m1.val + 256) (k0_off9_eq m1 ⟨1, by decide⟩)))) (ll h7 3 (256 * m1.val + 256) (k0_off26_eq m1 ⟨1, by decide⟩))) (role_dot (ld h12 3 (256 * m1.val) (k0_off20_eq m1 ⟨0, by decide⟩))) (role_dot (ld h12 3 (256 * m1.val + 256) (k0_off20_eq m1 ⟨1, by decide⟩)))) fun i j k hi _ _ => by simp only [Nat.zero_add]))
    intro s e u hs he hu
    unfold s14
    rcases (by omega : (0 ≤ e ∧ e < 64) ∨ (64 ≤ e ∧ e < 128) ∨ (128 ≤ e ∧ e < 192) ∨ (192 ≤ e ∧ e < 256)) with cc | cc | cc | cc
    · rw [show e / 64 = 0 by omega]; split_ifs <;> first | rfl | (exfalso; omega) | exact ico_zero (fun t => G.d t e * G.P 0 t ((256 * m1.val) + u)) (256 * m1.val) 512
    · rw [show e / 64 = 1 by omega]; split_ifs <;> first | rfl | (exfalso; omega) | exact ico_zero (fun t => G.d t e * G.P 1 t ((256 * m1.val) + u)) (256 * m1.val) 512
    · rw [show e / 64 = 2 by omega]; split_ifs <;> first | rfl | (exfalso; omega) | exact ico_zero (fun t => G.d t e * G.P 2 t ((256 * m1.val) + u)) (256 * m1.val) 512
    · rw [show e / 64 = 3 by omega]; split_ifs <;> first | rfl | (exfalso; omega) | exact ico_zero (fun t => G.d t e * G.P 3 t ((256 * m1.val) + u)) (256 * m1.val) 512

include h10 h14 in
/-- The tile of the values' gradient that the trip flushes. -/
theorem trip1B_val10 : U2 (256 * (m1.val - 1) + 256) (a10.view.read (Elt Ideal) (a10.view.writes (Elt Ideal) f10 ((trip1B (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.1 f9 f10 f13 f14))) (fun u r => if (256 * (m1.val - 1)) ≤ u ∧ u < (256 * (m1.val - 1)) + 256 then g14 ((m1.val + 1) % 2) r (u - (256 * (m1.val - 1))) else g10 u r) := by
  unfold trip1B
  exact U2.st_two h10 (256 * (m1.val - 1)) (k0_off6_at m1) (k0_off8_at m1) (fun u r => g14 ((m1.val + 1) % 2) r (u - (256 * (m1.val - 1)))) (R2.congr (r_transpose (r_sc_S1x128x256_f32 (R3.congr (skip3 (ld3_f32 (s0 := 1) (s1 := 128) (s2 := 256) (F := a14.view.writes (Elt Ideal) f14 []) h14 ((m1.val + 1) % 2) 0 0 (k0_off5_at m1)) ((m1.val + 1) % 2) 0 0 (k0_off5_at m1) (m1.val % 2) 0 0 (k0_off4_at m1) (by omega)) (fun i j k hi _ _ => by rw [show i = 0 by omega]) : R3 _ (fun _ j k => g14 (((m1.val + 1) % 2) + 0) (0 + j) (0 + k))))) fun u r _ _ => by simp only [Nat.add_zero, Nat.zero_add, Nat.add_sub_cancel_left]) (R2.congr (r_transpose (r_sc_S1x128x256_f32 (R3.congr (skip3 (ld3_f32 (s0 := 1) (s1 := 128) (s2 := 256) (F := a14.view.writes (Elt Ideal) f14 []) h14 ((m1.val + 1) % 2) 128 0 (k0_off7_at m1)) ((m1.val + 1) % 2) 128 0 (k0_off7_at m1) (m1.val % 2) 0 0 (k0_off4_at m1) (by omega)) (fun i j k hi _ _ => by rw [show i = 0 by omega]) : R3 _ (fun _ j k => g14 (((m1.val + 1) % 2) + 0) (128 + j) (0 + k))))) fun u r _ _ => by simp only [Nat.add_zero, Nat.zero_add, Nat.add_sub_cancel_left]) le_rfl le_rfl

end Cert.MlaIdeal.Gen

end
-- ==== Proof.MlaIdealVal1C.lean ====
/- The last tile of keys, which meets only its own query tile. -/
module

public import proofs.«01_k».proof.Proof.MlaIdealValC
public import proofs.«01_k».proof.Proof.MlaIdealTrip1

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

variable (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X6 : BC Ideal a6) (X7 : BC Ideal a7) (X11 : BC Ideal a11) (X12 : BC Ideal a12) (m1 : Fin k0_t1_loop.trips) (c1 : ¬ k0_cond1 m1 = 1#1) (c2 : ¬ k0_cond2 m1 = 1#1) (G : Grp)
  (h2 : R2 (a2.view.read (Elt Ideal) X2) G.q) (h3 : R2 (a3.view.read (Elt Ideal) X3) G.k) (h4 : R2 (a4.view.read (Elt Ideal) X4) G.v) (h6 : R3 (a6.view.read (Elt Ideal) X6) (fun _ h t => G.dl h t)) (h7 : R4 (a7.view.read (Elt Ideal) X7) (fun _ _ h t => G.ls h t)) (h11 : R2 (a11.view.read (Elt Ideal) X11) (fun e t => G.k t e)) (h12 : R3 (a12.view.read (Elt Ideal) X12) (fun h l t => G.DT h l t))
  (f9 : BC Ideal a9) (f10 : BC Ideal a10) (f13 : BC Ideal a13) (f14 : BC Ideal a14) (g9 g10 g13 : ℕ → ℕ → ℝ) (g14 : ℕ → ℕ → ℕ → ℝ)
  (h9 : U2 (256 * m1.val) (a9.view.read (Elt Ideal) f9) g9) (h10 : U2 (256 * (m1.val - 1)) (a10.view.read (Elt Ideal) f10) g10) (h13 : R2 (a13.view.read (Elt Ideal) f13) g13) (h14 : R3 (a14.view.read (Elt Ideal) f14) g14)

include h2 h3 h4 h6 h7 h11 h12 h9 h10 h13 h14 in
/-- After the trip. -/
theorem trip1C_val : U2 (256 * m1.val + 256) (a9.view.read (Elt Ideal) (a9.view.writes (Elt Ideal) f9 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).1 f9 f10 f13 f14))) (s9 G g9 m1.val 2048) ∧ R2 (a13.view.read (Elt Ideal) (a13.view.writes (Elt Ideal) f13 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.1 f9 f10 f13 f14))) (s13 G g13 m1.val 2048) ∧ R3 (a14.view.read (Elt Ideal) (a14.view.writes (Elt Ideal) f14 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.2.1 f9 f10 f13 f14))) (s14 G g14 m1.val 2048) := by
  have hk7 : m1.val = 7 := by have := m1.isLt.trans_eq k0_t1_trips; have := (not_congr (k0_cond1_iff m1)).1 c1; omega
  have h0 : (k0_t2_loop m1).trips = 0 := by rw [k0_t2_trips, hk7]
  suffices key : ∀ T, T = 256 * m1.val + 256 → U2 (256 * m1.val + 256) (a9.view.read (Elt Ideal) (a9.view.writes (Elt Ideal) f9 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).1 f9 f10 f13 f14))) (s9 G g9 m1.val T) ∧ R2 (a13.view.read (Elt Ideal) (a13.view.writes (Elt Ideal) f13 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.1 f9 f10 f13 f14))) (s13 G g13 m1.val T) ∧ R3 (a14.view.read (Elt Ideal) (a14.view.writes (Elt Ideal) f14 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.2.2.1 f9 f10 f13 f14))) (s14 G g14 m1.val T) from key 2048 (by omega)
  rintro T rfl
  unfold trip1C
  refine and3 (pb2_none _ h0 ⟨?_, ?_, ?_⟩)
  · refine U2.congr (?_ : U2 (256 * m1.val + 256) _ (fun u e => if (256 * m1.val) ≤ u ∧ u < (256 * m1.val) + 256 ∧ 384 ≤ e ∧ e < 384 + 128 then 0 + ∑ t ∈ Finset.range 256, G.DS 3 ((256 * m1.val) + t) u * G.q ((256 * m1.val) + t) e else if (256 * m1.val) ≤ u ∧ u < (256 * m1.val) + 256 ∧ 256 ≤ e ∧ e < 256 + 128 then 0 + ∑ t ∈ Finset.range 256, G.DS 2 ((256 * m1.val) + t) u * G.q ((256 * m1.val) + t) e else if (256 * m1.val) ≤ u ∧ u < (256 * m1.val) + 256 ∧ 128 ≤ e ∧ e < 128 + 128 then 0 + ∑ t ∈ Finset.range 256, G.DS 1 ((256 * m1.val) + t) u * G.q ((256 * m1.val) + t) e else if (256 * m1.val) ≤ u ∧ u < (256 * m1.val) + 256 ∧ 0 ≤ e ∧ e < 0 + 128 then 0 + ∑ t ∈ Finset.range 256, G.DS 0 ((256 * m1.val) + t) u * G.q ((256 * m1.val) + t) e else if (256 * m1.val) ≤ u ∧ u < (256 * m1.val) + 256 ∧ 0 ≤ e ∧ e < 0 + 512 then 0 else g9 u e)) ?_
    · exact (U2.st (U2.st (U2.st (U2.st (U2.stn h9 (256 * m1.val) 0 (k0_off1_eq m1) (fun u e => 0) zero9 le_rfl ⟨rfl, le_rfl⟩) (256 * m1.val) 0 (k0_off47_eq m1) (fun u e => 0 + ∑ t ∈ Finset.range 256, G.DS 0 ((256 * m1.val) + t) u * G.q ((256 * m1.val) + t) e) (role_dk0' (g := fun _ _ => 0) (u0 := (256 * m1.val)) (t0 := (256 * m1.val)) (r_id_S256x128_f32 (covz2 (256 * m1.val) 0 (k0_off47_eq m1) (256 * m1.val) 0 (k0_off1_eq m1) zero9 (by omega) (by omega))) (role_ds (t0 := (256 * m1.val)) (role_pm (t0 := (256 * m1.val)) (mask81 m1) (role_s0 (r_id_S256x512_bf16 (lk h3 _ (k0_off1_eq m1))) (r_id_S256x512_bf16 (lq h2 (256 * m1.val) (k0_off38_eq m1)))) (ll h7 0 (256 * m1.val) (k0_off41_eq m1))) (role_dp0 (r_id_S256x256_bf16 (lv h4 _ (k0_off2_eq m1))) (role_dot (ld h12 0 (256 * m1.val) (k0_off39_eq m1)))) (le' h6 0 (256 * m1.val) (k0_off42_eq m1))) (r_id_S256x512_bf16 (lq h2 (256 * m1.val) (k0_off38_eq m1))))) (256 * m1.val) 128 (k0_off53_eq m1) (fun u e => 0 + ∑ t ∈ Finset.range 256, G.DS 1 ((256 * m1.val) + t) u * G.q ((256 * m1.val) + t) e) (role_dk1' (g := fun _ _ => 0) (u0 := (256 * m1.val)) (t0 := (256 * m1.val)) (r_id_S256x128_f32 (skip2 (covz2 (256 * m1.val) 128 (k0_off53_eq m1) (256 * m1.val) 0 (k0_off1_eq m1) zero9 (by omega) (by omega)) (256 * m1.val) 128 (k0_off53_eq m1) (256 * m1.val) 0 (k0_off47_eq m1) (by omega))) (role_ds (t0 := (256 * m1.val)) (role_pm (t0 := (256 * m1.val)) (mask81 m1) (role_s1 (r_id_S256x512_bf16 (lk h3 _ (k0_off1_eq m1))) (r_id_S256x512_bf16 (lq h2 (256 * m1.val) (k0_off38_eq m1)))) (ll h7 1 (256 * m1.val) (k0_off44_eq m1))) (role_dp1 (r_id_S256x256_bf16 (lv h4 _ (k0_off2_eq m1))) (role_dot (ld h12 1 (256 * m1.val) (k0_off40_eq m1)))) (le' h6 1 (256 * m1.val) (k0_off45_eq m1))) (r_id_S256x512_bf16 (lq h2 (256 * m1.val) (k0_off38_eq m1))))) (256 * m1.val) 256 (k0_off58_eq m1) (fun u e => 0 + ∑ t ∈ Finset.range 256, G.DS 2 ((256 * m1.val) + t) u * G.q ((256 * m1.val) + t) e) (role_dk2' (g := fun _ _ => 0) (u0 := (256 * m1.val)) (t0 := (256 * m1.val)) (r_id_S256x128_f32 (skip2 (skip2 (covz2 (256 * m1.val) 256 (k0_off58_eq m1) (256 * m1.val) 0 (k0_off1_eq m1) zero9 (by omega) (by omega)) (256 * m1.val) 256 (k0_off58_eq m1) (256 * m1.val) 0 (k0_off47_eq m1) (by omega)) (256 * m1.val) 256 (k0_off58_eq m1) (256 * m1.val) 128 (k0_off53_eq m1) (by omega))) (role_ds (t0 := (256 * m1.val)) (role_pm (t0 := (256 * m1.val)) (mask81 m1) (role_s2 (r_id_S256x512_bf16 (lk h3 _ (k0_off1_eq m1))) (r_id_S256x512_bf16 (lq h2 (256 * m1.val) (k0_off38_eq m1)))) (ll h7 2 (256 * m1.val) (k0_off50_eq m1))) (role_dp2 (r_id_S256x256_bf16 (lv h4 _ (k0_off2_eq m1))) (role_dot (ld h12 2 (256 * m1.val) (k0_off43_eq m1)))) (le' h6 2 (256 * m1.val) (k0_off51_eq m1))) (r_id_S256x512_bf16 (lq h2 (256 * m1.val) (k0_off38_eq m1))))) (256 * m1.val) 384 (k0_off61_eq m1) (fun u e => 0 + ∑ t ∈ Finset.range 256, G.DS 3 ((256 * m1.val) + t) u * G.q ((256 * m1.val) + t) e) (role_dk3' (g := fun _ _ => 0) (u0 := (256 * m1.val)) (t0 := (256 * m1.val)) (r_id_S256x128_f32 (skip2 (skip2 (skip2 (covz2 (256 * m1.val) 384 (k0_off61_eq m1) (256 * m1.val) 0 (k0_off1_eq m1) zero9 (by omega) (by omega)) (256 * m1.val) 384 (k0_off61_eq m1) (256 * m1.val) 0 (k0_off47_eq m1) (by omega)) (256 * m1.val) 384 (k0_off61_eq m1) (256 * m1.val) 128 (k0_off53_eq m1) (by omega)) (256 * m1.val) 384 (k0_off61_eq m1) (256 * m1.val) 256 (k0_off58_eq m1) (by omega))) (role_ds (t0 := (256 * m1.val)) (role_pm (t0 := (256 * m1.val)) (mask81 m1) (role_s3 (r_id_S256x512_bf16 (lk h3 _ (k0_off1_eq m1))) (r_id_S256x512_bf16 (lq h2 (256 * m1.val) (k0_off38_eq m1)))) (ll h7 3 (256 * m1.val) (k0_off55_eq m1))) (role_dp3 (r_id_S256x256_bf16 (lv h4 _ (k0_off2_eq m1))) (role_dot (ld h12 3 (256 * m1.val) (k0_off49_eq m1)))) (le' h6 3 (256 * m1.val) (k0_off56_eq m1))) (r_id_S256x512_bf16 (lq h2 (256 * m1.val) (k0_off38_eq m1)))))
    intro u e hu he
    unfold s9
    rcases (by omega : (0 ≤ e ∧ e < 128) ∨ (128 ≤ e ∧ e < 256) ∨ (256 ≤ e ∧ e < 384) ∨ (384 ≤ e ∧ e < 512)) with cc | cc | cc | cc
    · rw [show e / 128 = 0 by omega]; split_ifs <;> first | rfl | (exfalso; omega) | exact ico_zero (fun t => G.DS 0 t u * G.q t e) (256 * m1.val) 256
    · rw [show e / 128 = 1 by omega]; split_ifs <;> first | rfl | (exfalso; omega) | exact ico_zero (fun t => G.DS 1 t u * G.q t e) (256 * m1.val) 256
    · rw [show e / 128 = 2 by omega]; split_ifs <;> first | rfl | (exfalso; omega) | exact ico_zero (fun t => G.DS 2 t u * G.q t e) (256 * m1.val) 256
    · rw [show e / 128 = 3 by omega]; split_ifs <;> first | rfl | (exfalso; omega) | exact ico_zero (fun t => G.DS 3 t u * G.q t e) (256 * m1.val) 256
  · refine R2.congr (?_ : R2 _ (fun e t => if 384 ≤ e ∧ e < 384 + 128 ∧ (256 * m1.val) ≤ t ∧ t < (256 * m1.val) + 256 then g13 e t + ∑ u ∈ Finset.range 256, G.k ((256 * m1.val) + u) e * G.DS 3 t ((256 * m1.val) + u) else if 256 ≤ e ∧ e < 256 + 128 ∧ (256 * m1.val) ≤ t ∧ t < (256 * m1.val) + 256 then g13 e t + ∑ u ∈ Finset.range 256, G.k ((256 * m1.val) + u) e * G.DS 2 t ((256 * m1.val) + u) else if 128 ≤ e ∧ e < 128 + 128 ∧ (256 * m1.val) ≤ t ∧ t < (256 * m1.val) + 256 then g13 e t + ∑ u ∈ Finset.range 256, G.k ((256 * m1.val) + u) e * G.DS 1 t ((256 * m1.val) + u) else if 0 ≤ e ∧ e < 0 + 128 ∧ (256 * m1.val) ≤ t ∧ t < (256 * m1.val) + 256 then g13 e t + ∑ u ∈ Finset.range 256, G.k ((256 * m1.val) + u) e * G.DS 0 t ((256 * m1.val) + u) else g13 e t)) ?_
    · exact (st2_f32 (st2_f32 (st2_f32 (st2_f32 h13 0 (256 * m1.val) (k0_off48_eq m1) (fun e t => g13 e t + ∑ u ∈ Finset.range 256, G.k ((256 * m1.val) + u) e * G.DS 0 t ((256 * m1.val) + u)) (role_dq0 (t0 := (256 * m1.val)) (ld2_f32 h13 0 (256 * m1.val) (k0_off48_eq m1)) (role_ds (t0 := (256 * m1.val)) (role_pm (t0 := (256 * m1.val)) (mask81 m1) (role_s0 (r_id_S256x512_bf16 (lk h3 _ (k0_off1_eq m1))) (r_id_S256x512_bf16 (lq h2 (256 * m1.val) (k0_off38_eq m1)))) (ll h7 0 (256 * m1.val) (k0_off41_eq m1))) (role_dp0 (r_id_S256x256_bf16 (lv h4 _ (k0_off2_eq m1))) (role_dot (ld h12 0 (256 * m1.val) (k0_off39_eq m1)))) (le' h6 0 (256 * m1.val) (k0_off42_eq m1))) (lkt h11 _ (k0_off3_eq m1)))) 128 (256 * m1.val) (k0_off54_eq m1) (fun e t => g13 e t + ∑ u ∈ Finset.range 256, G.k ((256 * m1.val) + u) e * G.DS 1 t ((256 * m1.val) + u)) (role_dq1 (t0 := (256 * m1.val)) (ld2_f32 h13 128 (256 * m1.val) (k0_off54_eq m1)) (role_ds (t0 := (256 * m1.val)) (role_pm (t0 := (256 * m1.val)) (mask81 m1) (role_s1 (r_id_S256x512_bf16 (lk h3 _ (k0_off1_eq m1))) (r_id_S256x512_bf16 (lq h2 (256 * m1.val) (k0_off38_eq m1)))) (ll h7 1 (256 * m1.val) (k0_off44_eq m1))) (role_dp1 (r_id_S256x256_bf16 (lv h4 _ (k0_off2_eq m1))) (role_dot (ld h12 1 (256 * m1.val) (k0_off40_eq m1)))) (le' h6 1 (256 * m1.val) (k0_off45_eq m1))) (lkt h11 _ (k0_off3_eq m1)))) 256 (256 * m1.val) (k0_off59_eq m1) (fun e t => g13 e t + ∑ u ∈ Finset.range 256, G.k ((256 * m1.val) + u) e * G.DS 2 t ((256 * m1.val) + u)) (role_dq2 (t0 := (256 * m1.val)) (ld2_f32 h13 256 (256 * m1.val) (k0_off59_eq m1)) (role_ds (t0 := (256 * m1.val)) (role_pm (t0 := (256 * m1.val)) (mask81 m1) (role_s2 (r_id_S256x512_bf16 (lk h3 _ (k0_off1_eq m1))) (r_id_S256x512_bf16 (lq h2 (256 * m1.val) (k0_off38_eq m1)))) (ll h7 2 (256 * m1.val) (k0_off50_eq m1))) (role_dp2 (r_id_S256x256_bf16 (lv h4 _ (k0_off2_eq m1))) (role_dot (ld h12 2 (256 * m1.val) (k0_off43_eq m1)))) (le' h6 2 (256 * m1.val) (k0_off51_eq m1))) (lkt h11 _ (k0_off3_eq m1)))) 384 (256 * m1.val) (k0_off62_eq m1) (fun e t => g13 e t + ∑ u ∈ Finset.range 256, G.k ((256 * m1.val) + u) e * G.DS 3 t ((256 * m1.val) + u)) (role_dq3 (t0 := (256 * m1.val)) (ld2_f32 h13 384 (256 * m1.val) (k0_off62_eq m1)) (role_ds (t0 := (256 * m1.val)) (role_pm (t0 := (256 * m1.val)) (mask81 m1) (role_s3 (r_id_S256x512_bf16 (lk h3 _ (k0_off1_eq m1))) (r_id_S256x512_bf16 (lq h2 (256 * m1.val) (k0_off38_eq m1)))) (ll h7 3 (256 * m1.val) (k0_off55_eq m1))) (role_dp3 (r_id_S256x256_bf16 (lv h4 _ (k0_off2_eq m1))) (role_dot (ld h12 3 (256 * m1.val) (k0_off49_eq m1)))) (le' h6 3 (256 * m1.val) (k0_off56_eq m1))) (lkt h11 _ (k0_off3_eq m1))))
    intro e t he ht
    unfold s13
    rcases (by omega : (0 ≤ e ∧ e < 128) ∨ (128 ≤ e ∧ e < 256) ∨ (256 ≤ e ∧ e < 384) ∨ (384 ≤ e ∧ e < 512)) with cc | cc | cc | cc
    · rw [show e / 128 = 0 by omega]; split_ifs <;> first | rfl | (exfalso; omega)
    · rw [show e / 128 = 1 by omega]; split_ifs <;> first | rfl | (exfalso; omega)
    · rw [show e / 128 = 2 by omega]; split_ifs <;> first | rfl | (exfalso; omega)
    · rw [show e / 128 = 3 by omega]; split_ifs <;> first | rfl | (exfalso; omega)
  · refine R3.congr (?_ : R3 _ (fun s e u => if (m1.val % 2) ≤ s ∧ s < (m1.val % 2) + 1 ∧ 192 ≤ e ∧ e < 192 + 64 ∧ 0 ≤ u ∧ u < 0 + 256 then 0 + ∑ t ∈ Finset.range 256, G.d ((256 * m1.val) + t) e * G.P 3 ((256 * m1.val) + t) ((256 * m1.val) + u) else if (m1.val % 2) ≤ s ∧ s < (m1.val % 2) + 1 ∧ 128 ≤ e ∧ e < 128 + 64 ∧ 0 ≤ u ∧ u < 0 + 256 then 0 + ∑ t ∈ Finset.range 256, G.d ((256 * m1.val) + t) e * G.P 2 ((256 * m1.val) + t) ((256 * m1.val) + u) else if (m1.val % 2) ≤ s ∧ s < (m1.val % 2) + 1 ∧ 64 ≤ e ∧ e < 64 + 64 ∧ 0 ≤ u ∧ u < 0 + 256 then 0 + ∑ t ∈ Finset.range 256, G.d ((256 * m1.val) + t) e * G.P 1 ((256 * m1.val) + t) ((256 * m1.val) + u) else if (m1.val % 2) ≤ s ∧ s < (m1.val % 2) + 1 ∧ 0 ≤ e ∧ e < 0 + 64 ∧ 0 ≤ u ∧ u < 0 + 256 then 0 + ∑ t ∈ Finset.range 256, G.d ((256 * m1.val) + t) e * G.P 0 ((256 * m1.val) + t) ((256 * m1.val) + u) else if (m1.val % 2) ≤ s ∧ s < (m1.val % 2) + 1 ∧ 0 ≤ e ∧ e < 0 + 256 ∧ 0 ≤ u ∧ u < 0 + 256 then 0 else g14 s e u)) ?_
    · exact (st3_f32 (st3_f32 (st3_f32 (st3_f32 (st3_f32 h14 (m1.val % 2) 0 0 (k0_off4_at m1) (fun s e u => 0) zero14) (m1.val % 2) 0 0 (k0_off46_at m1) (fun s e u => 0 + ∑ t ∈ Finset.range 256, G.d ((256 * m1.val) + t) e * G.P 0 ((256 * m1.val) + t) ((256 * m1.val) + u)) (R3.congr (role_dv0' (s := (m1.val % 2)) (g := fun _ _ _ => 0) (u0 := (256 * m1.val)) (t0 := (256 * m1.val)) (covz3 (m1.val % 2) 0 0 (k0_off46_at m1) (m1.val % 2) 0 0 (k0_off4_at m1) zero14 (by omega) (by omega) (by omega)) (role_pm (t0 := (256 * m1.val)) (mask81 m1) (role_s0 (r_id_S256x512_bf16 (lk h3 _ (k0_off1_eq m1))) (r_id_S256x512_bf16 (lq h2 (256 * m1.val) (k0_off38_eq m1)))) (ll h7 0 (256 * m1.val) (k0_off41_eq m1))) (role_dot (ld h12 0 (256 * m1.val) (k0_off39_eq m1)))) fun i j k hi _ _ => by simp only [Nat.zero_add])) (m1.val % 2) 64 0 (k0_off52_at m1) (fun s e u => 0 + ∑ t ∈ Finset.range 256, G.d ((256 * m1.val) + t) e * G.P 1 ((256 * m1.val) + t) ((256 * m1.val) + u)) (R3.congr (role_dv1' (s := (m1.val % 2)) (g := fun _ _ _ => 0) (u0 := (256 * m1.val)) (t0 := (256 * m1.val)) (skip3 (covz3 (m1.val % 2) 64 0 (k0_off52_at m1) (m1.val % 2) 0 0 (k0_off4_at m1) zero14 (by omega) (by omega) (by omega)) (m1.val % 2) 64 0 (k0_off52_at m1) (m1.val % 2) 0 0 (k0_off46_at m1) (by omega)) (role_pm (t0 := (256 * m1.val)) (mask81 m1) (role_s1 (r_id_S256x512_bf16 (lk h3 _ (k0_off1_eq m1))) (r_id_S256x512_bf16 (lq h2 (256 * m1.val) (k0_off38_eq m1)))) (ll h7 1 (256 * m1.val) (k0_off44_eq m1))) (role_dot (ld h12 1 (256 * m1.val) (k0_off40_eq m1)))) fun i j k hi _ _ => by simp only [Nat.zero_add])) (m1.val % 2) 128 0 (k0_off57_at m1) (fun s e u => 0 + ∑ t ∈ Finset.range 256, G.d ((256 * m1.val) + t) e * G.P 2 ((256 * m1.val) + t) ((256 * m1.val) + u)) (R3.congr (role_dv2' (s := (m1.val % 2)) (g := fun _ _ _ => 0) (u0 := (256 * m1.val)) (t0 := (256 * m1.val)) (skip3 (skip3 (covz3 (m1.val % 2) 128 0 (k0_off57_at m1) (m1.val % 2) 0 0 (k0_off4_at m1) zero14 (by omega) (by omega) (by omega)) (m1.val % 2) 128 0 (k0_off57_at m1) (m1.val % 2) 0 0 (k0_off46_at m1) (by omega)) (m1.val % 2) 128 0 (k0_off57_at m1) (m1.val % 2) 64 0 (k0_off52_at m1) (by omega)) (role_pm (t0 := (256 * m1.val)) (mask81 m1) (role_s2 (r_id_S256x512_bf16 (lk h3 _ (k0_off1_eq m1))) (r_id_S256x512_bf16 (lq h2 (256 * m1.val) (k0_off38_eq m1)))) (ll h7 2 (256 * m1.val) (k0_off50_eq m1))) (role_dot (ld h12 2 (256 * m1.val) (k0_off43_eq m1)))) fun i j k hi _ _ => by simp only [Nat.zero_add])) (m1.val % 2) 192 0 (k0_off60_at m1) (fun s e u => 0 + ∑ t ∈ Finset.range 256, G.d ((256 * m1.val) + t) e * G.P 3 ((256 * m1.val) + t) ((256 * m1.val) + u)) (R3.congr (role_dv3' (s := (m1.val % 2)) (g := fun _ _ _ => 0) (u0 := (256 * m1.val)) (t0 := (256 * m1.val)) (skip3 (skip3 (skip3 (covz3 (m1.val % 2) 192 0 (k0_off60_at m1) (m1.val % 2) 0 0 (k0_off4_at m1) zero14 (by omega) (by omega) (by omega)) (m1.val % 2) 192 0 (k0_off60_at m1) (m1.val % 2) 0 0 (k0_off46_at m1) (by omega)) (m1.val % 2) 192 0 (k0_off60_at m1) (m1.val % 2) 64 0 (k0_off52_at m1) (by omega)) (m1.val % 2) 192 0 (k0_off60_at m1) (m1.val % 2) 128 0 (k0_off57_at m1) (by omega)) (role_pm (t0 := (256 * m1.val)) (mask81 m1) (role_s3 (r_id_S256x512_bf16 (lk h3 _ (k0_off1_eq m1))) (r_id_S256x512_bf16 (lq h2 (256 * m1.val) (k0_off38_eq m1)))) (ll h7 3 (256 * m1.val) (k0_off55_eq m1))) (role_dot (ld h12 3 (256 * m1.val) (k0_off49_eq m1)))) fun i j k hi _ _ => by simp only [Nat.zero_add]))
    intro s e u hs he hu
    unfold s14
    rcases (by omega : (0 ≤ e ∧ e < 64) ∨ (64 ≤ e ∧ e < 128) ∨ (128 ≤ e ∧ e < 192) ∨ (192 ≤ e ∧ e < 256)) with cc | cc | cc | cc
    · rw [show e / 64 = 0 by omega]; split_ifs <;> first | rfl | (exfalso; omega) | exact ico_zero (fun t => G.d t e * G.P 0 t ((256 * m1.val) + u)) (256 * m1.val) 256
    · rw [show e / 64 = 1 by omega]; split_ifs <;> first | rfl | (exfalso; omega) | exact ico_zero (fun t => G.d t e * G.P 1 t ((256 * m1.val) + u)) (256 * m1.val) 256
    · rw [show e / 64 = 2 by omega]; split_ifs <;> first | rfl | (exfalso; omega) | exact ico_zero (fun t => G.d t e * G.P 2 t ((256 * m1.val) + u)) (256 * m1.val) 256
    · rw [show e / 64 = 3 by omega]; split_ifs <;> first | rfl | (exfalso; omega) | exact ico_zero (fun t => G.d t e * G.P 3 t ((256 * m1.val) + u)) (256 * m1.val) 256

include h10 h14 in
/-- The tile of the values' gradient that the trip flushes. -/
theorem trip1C_val10 : U2 (256 * (m1.val - 1) + 256) (a10.view.read (Elt Ideal) (a10.view.writes (Elt Ideal) f10 ((trip1C (F := Ideal) c i a2 b2 a3 b3 a4 b4 a5 b5 a6 b6 a7 b7 a8 b8 a9 b9 a10 b10 a11 b11 a12 b12 a13 b13 a14 b14 (0#32) (1#32) X2 X3 X4 X6 X7 X11 X12 m1 c1 c2).2.1 f9 f10 f13 f14))) (fun u r => if (256 * (m1.val - 1)) ≤ u ∧ u < (256 * (m1.val - 1)) + 256 then g14 ((m1.val + 1) % 2) r (u - (256 * (m1.val - 1))) else g10 u r) := by
  unfold trip1C
  exact U2.st_two h10 (256 * (m1.val - 1)) (k0_off35_at m1) (k0_off37_at m1) (fun u r => g14 ((m1.val + 1) % 2) r (u - (256 * (m1.val - 1)))) (R2.congr (r_transpose (r_sc_S1x128x256_f32 (R3.congr (skip3 (ld3_f32 (s0 := 1) (s1 := 128) (s2 := 256) (F := a14.view.writes (Elt Ideal) f14 []) h14 ((m1.val + 1) % 2) 0 0 (k0_off34_at m1)) ((m1.val + 1) % 2) 0 0 (k0_off34_at m1) (m1.val % 2) 0 0 (k0_off4_at m1) (by omega)) (fun i j k hi _ _ => by rw [show i = 0 by omega]) : R3 _ (fun _ j k => g14 (((m1.val + 1) % 2) + 0) (0 + j) (0 + k))))) fun u r _ _ => by simp only [Nat.add_zero, Nat.zero_add, Nat.add_sub_cancel_left]) (R2.congr (r_transpose (r_sc_S1x128x256_f32 (R3.congr (skip3 (ld3_f32 (s0 := 1) (s1 := 128) (s2 := 256) (F := a14.view.writes (Elt Ideal) f14 []) h14 ((m1.val + 1) % 2) 128 0 (k0_off36_at m1)) ((m1.val + 1) % 2) 128 0 (k0_off36_at m1) (m1.val % 2) 0 0 (k0_off4_at m1) (by omega)) (fun i j k hi _ _ => by rw [show i = 0 by omega]) : R3 _ (fun _ j k => g14 (((m1.val + 1) % 2) + 0) (128 + j) (0 + k))))) fun u r _ _ => by simp only [Nat.add_zero, Nat.zero_add, Nat.add_sub_cancel_left]) le_rfl le_rfl

end Cert.MlaIdeal.Gen

end
-- ==== Proof.MlaIdealVal0.lean ====
/- The outer loop over the reals: what its trips leave in the four buffers they write. -/
module

public import proofs.«01_k».proof.Proof.MlaIdealVal1A
public import proofs.«01_k».proof.Proof.MlaIdealVal1B
public import proofs.«01_k».proof.Proof.MlaIdealVal1C
public import proofs.«01_k».proof.Proof.MlaIdealLoop1

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

/-- The keys' gradient. -/
def dkF (G : Grp) (u e : ℕ) : ℝ := ∑ t ∈ Finset.range 2048, G.DS (e / 128) t u * G.q t e
/-- The values' gradient. -/
def dvF (G : Grp) (u r : ℕ) : ℝ := ∑ t ∈ Finset.range 2048, G.d t r * G.P (r / 64) t u
/-- The queries' gradient from the first `n` tiles of keys. -/
def dqF (G : Grp) (n e t : ℕ) : ℝ := ∑ u ∈ Finset.range (256 * n), G.k u e * G.DS (e / 128) t u

theorem ico_full (f : ℕ → ℝ) (a : ℕ) (ha : a ≤ 2048) (h : ∀ t, t < a → f t = 0) : ∑ t ∈ Finset.Ico a 2048, f t = ∑ t ∈ Finset.range 2048, f t := by
  rw [← Finset.sum_range_add_sum_Ico f ha, Finset.sum_eq_zero (fun t ht => h t (Finset.mem_range.1 ht)), zero_add]
theorem s9_full {G : Grp} {n u e : ℕ} (hn : n < 8) : s9 G (dkF G) n 2048 u e = dkF G u e := by
  unfold s9
  split_ifs with h
  · exact ico_full _ _ (by omega) fun t ht => by rw [G.DS_zero (by omega), zero_mul]
  · rfl
theorem s13_full {G : Grp} {n e t : ℕ} (ht : t < 2048) : s13 G (dqF G n) n 2048 e t = dqF G (n + 1) e t := by
  have hs : dqF G (n + 1) e t = dqF G n e t + ∑ u ∈ Finset.range 256, G.k (256 * n + u) e * G.DS (e / 128) t (256 * n + u) := by
    unfold dqF
    rw [show 256 * (n + 1) = 256 * n + 256 by omega, Finset.sum_range_add]
  rw [hs]
  unfold s13
  split_ifs with h
  · rfl
  · rw [Finset.sum_eq_zero (fun u _ => by rw [G.DS_zero (by omega), mul_zero]), add_zero]
theorem s14_full {G : Grp} {g14 : ℕ → ℕ → ℕ → ℝ} {n e u : ℕ} (hn : n < 8) : s14 G g14 n 2048 (n % 2) e u = dvF G (256 * n + u) e := by
  unfold s14 dvF
  rw [if_pos rfl]
  exact ico_full _ _ (by omega) fun t ht => by rw [G.P_zero (by omega), mul_zero]

/-- What the four buffers hold before trip `n`. -/
def Inv (G : Grp) (n : ℕ) (x9 : Shape.Idx S2048x512 → EReal) (x10 : Shape.Idx S2048x256 → EReal) (x13 : Shape.Idx S512x2048 → EReal) (x14 : Shape.Idx S2x256x256 → EReal) : Prop :=
  U2 (256 * n) x9 (dkF G) ∧ U2 (256 * (n - 1)) x10 (dvF G) ∧ R2 x13 (dqF G n) ∧ ∃ g14 : ℕ → ℕ → ℕ → ℝ, R3 x14 g14 ∧ (0 < n → ∀ e u, u < 256 → g14 ((n - 1) % 2) e u = dvF G (256 * (n - 1) + u) e)

theorem Inv.step {G : Grp} {n : ℕ} (hn : n < 8) {x9 x10 x13 x14} {g14 : ℕ → ℕ → ℕ → ℝ} (hg : 0 < n → ∀ e u, u < 256 → g14 ((n - 1) % 2) e u = dvF G (256 * (n - 1) + u) e)
    (h : U2 (256 * n + 256) x9 (s9 G (dkF G) n 2048) ∧ R2 x13 (s13 G (dqF G n) n 2048) ∧ R3 x14 (s14 G g14 n 2048))
    (h10 : U2 (256 * (n - 1) + 256) x10 (fun u r => if 256 * (n - 1) ≤ u ∧ u < 256 * (n - 1) + 256 then g14 ((n + 1) % 2) r (u - 256 * (n - 1)) else dvF G u r)) :
    Inv G (n + 1) x9 x10 x13 x14 := by
  refine ⟨h.1.congr fun u e _ _ => s9_full hn, ?_, h.2.1.congr fun e t _ ht => s13_full ht, _, h.2.2, fun _ e u hu => s14_full hn⟩
  rcases Nat.eq_zero_or_pos n with h0 | h0
  · subst h0; exact U2.none
  · refine (U2.mono h10 (by omega)).congr fun u r hu _ => ?_
    beta_reduce
    split_ifs with hc
    · rw [show (n + 1) % 2 = (n - 1) % 2 by omega, hg h0 _ _ (by omega)]; congr 1; omega
    · rfl

theorem trip1_val (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X6 : BC Ideal a6) (X7 : BC Ideal a7) (X11 : BC Ideal a11) (X12 : BC Ideal a12) (m1 : Fin k0_t1_loop.trips) (G : Grp)
    (h2 : R2 (a2.view.read (Elt Ideal) X2) G.q) (h3 : R2 (a3.view.read (Elt Ideal) X3) G.k) (h4 : R2 (a4.view.read (Elt Ideal) X4) G.v) (h6 : R3 (a6.view.read (Elt Ideal) X6) (fun _ h t => G.dl h t)) (h7 : R4 (a7.view.read (Elt Ideal) X7) (fun _ _ h t => G.ls h t)) (h11 : R2 (a11.view.read (Elt Ideal) X11) (fun e t => G.k t e)) (h12 : R3 (a12.view.read (Elt Ideal) X12) (fun h l t => G.DT h l t)) (f9 : BC Ideal a9) (f10 : BC Ideal a10) (f13 : BC Ideal a13) (f14 : BC Ideal a14)
    (h : Inv G m1.val (a9.view.read (Elt Ideal) f9) (a10.view.read (Elt Ideal) f10) (a13.view.read (Elt Ideal) f13) (a14.view.read (Elt Ideal) f14)) :
    Inv G (m1.val + 1) (a9.view.read (Elt Ideal) (a9.view.writes (Elt Ideal) f9 ((trip1 (F := Ideal) c i a2 b2 a3 b3 a4 b4 a5 b5 a6 b6 a7 b7 a8 b8 a9 b9 a10 b10 a11 b11 a12 b12 a13 b13 a14 b14 (0#32) (1#32) X2 X3 X4 X6 X7 X11 X12 m1).1 f9 f10 f13 f14))) (a10.view.read (Elt Ideal) (a10.view.writes (Elt Ideal) f10 ((trip1 (F := Ideal) c i a2 b2 a3 b3 a4 b4 a5 b5 a6 b6 a7 b7 a8 b8 a9 b9 a10 b10 a11 b11 a12 b12 a13 b13 a14 b14 (0#32) (1#32) X2 X3 X4 X6 X7 X11 X12 m1).2.1 f9 f10 f13 f14))) (a13.view.read (Elt Ideal) (a13.view.writes (Elt Ideal) f13 ((trip1 (F := Ideal) c i a2 b2 a3 b3 a4 b4 a5 b5 a6 b6 a7 b7 a8 b8 a9 b9 a10 b10 a11 b11 a12 b12 a13 b13 a14 b14 (0#32) (1#32) X2 X3 X4 X6 X7 X11 X12 m1).2.2.1 f9 f10 f13 f14))) (a14.view.read (Elt Ideal) (a14.view.writes (Elt Ideal) f14 ((trip1 (F := Ideal) c i a2 b2 a3 b3 a4 b4 a5 b5 a6 b6 a7 b7 a8 b8 a9 b9 a10 b10 a11 b11 a12 b12 a13 b13 a14 b14 (0#32) (1#32) X2 X3 X4 X6 X7 X11 X12 m1).2.2.2.1 f9 f10 f13 f14))) := by
  obtain ⟨q9, q10, q13, g14, q14, hg⟩ := h
  have hn : m1.val < 8 := m1.isLt.trans_eq k0_t1_trips
  unfold trip1
  by_cases c1 : k0_cond1 m1 = 1#1
  · by_cases c2 : k0_cond2 m1 = 1#1
    · rw [dif_pos c1, dif_pos c2]
      exact Inv.step hn hg (trip1A_val (h2 := h2) (h3 := h3) (h4 := h4) (h6 := h6) (h7 := h7) (h11 := h11) (h12 := h12) (h9 := q9) (h10 := q10) (h13 := q13) (h14 := q14) ..) (trip1A_val10 c i a2 b2 a3 b3 a4 b4 a5 b5 a6 b6 a7 b7 a8 b8 a9 b9 a10 b10 a11 b11 a12 b12 a13 b13 a14 b14 X2 X3 X4 X6 X7 X11 X12 m1 c1 c2 f9 f10 f13 f14 (dvF G) g14 q10 q14)
    · rw [dif_pos c1, dif_neg c2]
      exact Inv.step hn hg (trip1B_val (h2 := h2) (h3 := h3) (h4 := h4) (h6 := h6) (h7 := h7) (h11 := h11) (h12 := h12) (h9 := q9) (h10 := q10) (h13 := q13) (h14 := q14) ..) (trip1B_val10 c i a2 b2 a3 b3 a4 b4 a5 b5 a6 b6 a7 b7 a8 b8 a9 b9 a10 b10 a11 b11 a12 b12 a13 b13 a14 b14 X2 X3 X4 X6 X7 X11 X12 m1 c1 c2 f9 f10 f13 f14 (dvF G) g14 q10 q14)
  · rw [dif_neg c1]
    exact Inv.step hn hg (trip1C_val (h2 := h2) (h3 := h3) (h4 := h4) (h6 := h6) (h7 := h7) (h11 := h11) (h12 := h12) (h9 := q9) (h10 := q10) (h13 := q13) (h14 := q14) ..) (trip1C_val10 c i a2 b2 a3 b3 a4 b4 a5 b5 a6 b6 a7 b7 a8 b8 a9 b9 a10 b10 a11 b11 a12 b12 a13 b13 a14 b14 X2 X3 X4 X6 X7 X11 X12 m1 c1 (cond2_of_not m1 c1) f9 f10 f13 f14 (dvF G) g14 q10 q14)

/-- The trips so far, by induction. -/
theorem pb1_val (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X6 : BC Ideal a6) (X7 : BC Ideal a7) (X11 : BC Ideal a11) (X12 : BC Ideal a12) (G : Grp)
    (h2 : R2 (a2.view.read (Elt Ideal) X2) G.q) (h3 : R2 (a3.view.read (Elt Ideal) X3) G.k) (h4 : R2 (a4.view.read (Elt Ideal) X4) G.v) (h6 : R3 (a6.view.read (Elt Ideal) X6) (fun _ h t => G.dl h t)) (h7 : R4 (a7.view.read (Elt Ideal) X7) (fun _ _ h t => G.ls h t)) (h11 : R2 (a11.view.read (Elt Ideal) X11) (fun e t => G.k t e)) (h12 : R3 (a12.view.read (Elt Ideal) X12) (fun h l t => G.DT h l t)) (f9 : BC Ideal a9) (f10 : BC Ideal a10) (f13 : BC Ideal a13) (f14 : BC Ideal a14)
    (h13 : R2 (a13.view.read (Elt Ideal) f13) (fun _ _ => 0)) (h14 : R3 (a14.view.read (Elt Ideal) f14) (fun _ _ _ => 0)) (n : ℕ) (hn : n ≤ 8) :
    Inv G n (a9.view.read (Elt Ideal) (a9.view.writes (Elt Ideal) f9 ((pb1 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 n).1))) (a10.view.read (Elt Ideal) (a10.view.writes (Elt Ideal) f10 ((pb1 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 n).2.1))) (a13.view.read (Elt Ideal) (a13.view.writes (Elt Ideal) f13 ((pb1 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 n).2.2.1))) (a14.view.read (Elt Ideal) (a14.view.writes (Elt Ideal) f14 ((pb1 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 n).2.2.2))) := by
  induction n with
  | zero =>
    rw [pb1.eq_1]
    exact ⟨U2.none, U2.none, h13.congr fun e t _ _ => (by simp [dqF]), _, h14, fun h => absurd h (lt_irrefl 0)⟩
  | succ n ih =>
    have e : n < k0_t1_loop.trips := by rw [k0_t1_trips]; omega
    have s := trip1_val c i a2 b2 a3 b3 a4 b4 a5 b5 a6 b6 a7 b7 a8 b8 a9 b9 a10 b10 a11 b11 a12 b12 a13 b13 a14 b14 X2 X3 X4 X6 X7 X11 X12 ⟨n, e⟩ G h2 h3 h4 h6 h7 h11 h12 _ _ _ _ (ih (by omega))
    rw [← View.writes_append, ← View.writes_append, ← View.writes_append, ← View.writes_append] at s
    have e9 := pb1_succ9 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 ⟨n, e⟩
    have e10 := pb1_succ10 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 ⟨n, e⟩
    have e13 := pb1_succ13 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 ⟨n, e⟩
    have e14 := pb1_succ14 (F := Ideal) c i a2 b2 a3 b3 a4 b4 a5 b5 a6 b6 a7 b7 a8 b8 a9 b9 a10 b10 a11 b11 a12 b12 a13 b13 a14 b14 (0#32) (1#32) X2 X3 X4 X6 X7 X11 X12 f9 f10 f13 f14 ⟨n, e⟩
    rw [e9, e10, e13, e14]
    exact s

end Cert.MlaIdeal.Gen

end
-- ==== Proof.MlaIdealPre.lean ====
/- The kernel's prologue, over the reals: the keys and the cotangents transposed into scratch, and the sums started at zero. -/
module

public import proofs.«01_k».proof.Proof.MlaIdealRole
public import proofs.«01_k».proof.Proof.MlaIdealState
public import proofs.«01_k».proof.Proof.MlaIdealPoint

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

variable {G : Grp}

/-- The identity matrix the prologue transposes by. -/
theorem one_hot : R2 (k0_pay316 (F := Ideal)) (fun i j => if i = j then 1 else 0) := by
  intro i j
  simp only [k0_pay316]
  pointwise
  by_cases c : i = j
  · subst c; simp [Scalar.select, IntOp.cmpi]
  · have hc : ¬ (i.val = j.val) := fun h => c (Fin.ext h)
    have hb : ¬ (BitVec.ofNat 32 i.val = BitVec.ofNat 32 j.val) := fun h => hc (by
      have := congrArg BitVec.toNat h
      simp only [BitVec.toNat_ofNat] at this
      have := i.isLt; have := j.isLt; omega)
    have hq : (BitVec.ofNat 32 i.val == BitVec.ofNat 32 j.val) = false := beq_eq_false_iff_ne.2 hb
    rw [if_neg hc]
    simp only [IntOp.cmpi, hq]
    simp [Scalar.select]

/-- The rows of the first of two heads. -/
theorem first_half (i : Fin 128) : k0_pay317 (ix2 i 0) = if i.val < 64 then 1#1 else 0#1 := by
  simp only [k0_pay317]
  pointwise
  revert i; decide

theorem hot_sum {n : ℕ} (f : ℕ → ℝ) {e : ℕ} (he : e < n) : (∑ k ∈ Finset.range n, (if e = k then (1 : ℝ) else 0) * f k) = f e := by
  rw [Finset.sum_eq_single_of_mem e (Finset.mem_range.2 he) (fun k _ hk => by rw [if_neg (fun h => hk h.symm), zero_mul])]
  rw [if_pos rfl, one_mul]

theorem role_kt0 {u0 : ℕ} {v6 : FVec Ideal S128x128 .bf16} (h6 : R2 v6 (fun i j => if i = j then 1 else 0)) {x : FVec Ideal S256x512 .bf16} (hx : R2 x (fun i j => G.k (u0 + i) j)) :
    R2 (shapeCast S128x256 (truncf .bf16 (matmul dot_S128x128_S256x128_S128x256_1_1_0_0_n_n none v6 (extractStridedSlice S256x128 ![0, 0] (shapeCast S256x512 x shapeCasts_S256x512_S256x512) slices_S256x512_o0_0_S256x128) (constant S128x256 .f32 0x00000000#32)) bitsLt_bf16_f32) shapeCasts_S128x256_S128x256) (fun e t => G.k (u0 + t) (0 + e)) :=
  (r_id_S128x256_bf16 (r_trunc (r_dot_S128x128_S256x128_S128x256_1_1_0_0_n_n h6 (r_sl_S256x512_0_0 (r_id_S256x512_bf16 hx))))).congr fun e t he _ => (hot_sum _ he).trans (by simp only [Nat.zero_add])

theorem role_kt1 {u0 : ℕ} {v6 : FVec Ideal S128x128 .bf16} (h6 : R2 v6 (fun i j => if i = j then 1 else 0)) {x : FVec Ideal S256x512 .bf16} (hx : R2 x (fun i j => G.k (u0 + i) j)) :
    R2 (shapeCast S128x256 (truncf .bf16 (matmul dot_S128x128_S256x128_S128x256_1_1_0_0_n_n none v6 (extractStridedSlice S256x128 ![0, 128] (shapeCast S256x512 x shapeCasts_S256x512_S256x512) slices_S256x512_o0_128_S256x128) (constant S128x256 .f32 0x00000000#32)) bitsLt_bf16_f32) shapeCasts_S128x256_S128x256) (fun e t => G.k (u0 + t) (128 + e)) :=
  (r_id_S128x256_bf16 (r_trunc (r_dot_S128x128_S256x128_S128x256_1_1_0_0_n_n h6 (r_sl_S256x512_0_128 (r_id_S256x512_bf16 hx))))).congr fun e t he _ => (hot_sum _ he).trans (by simp only [Nat.zero_add])

theorem role_kt2 {u0 : ℕ} {v6 : FVec Ideal S128x128 .bf16} (h6 : R2 v6 (fun i j => if i = j then 1 else 0)) {x : FVec Ideal S256x512 .bf16} (hx : R2 x (fun i j => G.k (u0 + i) j)) :
    R2 (shapeCast S128x256 (truncf .bf16 (matmul dot_S128x128_S256x128_S128x256_1_1_0_0_n_n none v6 (extractStridedSlice S256x128 ![0, 256] (shapeCast S256x512 x shapeCasts_S256x512_S256x512) slices_S256x512_o0_256_S256x128) (constant S128x256 .f32 0x00000000#32)) bitsLt_bf16_f32) shapeCasts_S128x256_S128x256) (fun e t => G.k (u0 + t) (256 + e)) :=
  (r_id_S128x256_bf16 (r_trunc (r_dot_S128x128_S256x128_S128x256_1_1_0_0_n_n h6 (r_sl_S256x512_0_256 (r_id_S256x512_bf16 hx))))).congr fun e t he _ => (hot_sum _ he).trans (by simp only [Nat.zero_add])

theorem role_kt3 {u0 : ℕ} {v6 : FVec Ideal S128x128 .bf16} (h6 : R2 v6 (fun i j => if i = j then 1 else 0)) {x : FVec Ideal S256x512 .bf16} (hx : R2 x (fun i j => G.k (u0 + i) j)) :
    R2 (shapeCast S128x256 (truncf .bf16 (matmul dot_S128x128_S256x128_S128x256_1_1_0_0_n_n none v6 (extractStridedSlice S256x128 ![0, 384] (shapeCast S256x512 x shapeCasts_S256x512_S256x512) slices_S256x512_o0_384_S256x128) (constant S128x256 .f32 0x00000000#32)) bitsLt_bf16_f32) shapeCasts_S128x256_S128x256) (fun e t => G.k (u0 + t) (384 + e)) :=
  (r_id_S128x256_bf16 (r_trunc (r_dot_S128x128_S256x128_S128x256_1_1_0_0_n_n h6 (r_sl_S256x512_0_384 (r_id_S256x512_bf16 hx))))).congr fun e t he _ => (hot_sum _ he).trans (by simp only [Nat.zero_add])

/-- The product a half of the cotangents is transposed by. -/
abbrev dotT (v6 : FVec Ideal S128x128 .bf16) (x : FVec Ideal S256x128 .bf16) : FVec Ideal S128x256 .f32 := matmul dot_S128x128_S256x128_S128x256_1_1_0_0_n_n none v6 (shapeCast S256x128 x shapeCasts_S256x128_S256x128) (constant S128x256 .f32 0x00000000#32)
theorem r_dotT {t0 b : ℕ} {v6 : FVec Ideal S128x128 .bf16} (h6 : R2 v6 (fun i j => if i = j then 1 else 0)) {x : FVec Ideal S256x128 .bf16} (hx : R2 x (fun i j => G.d (t0 + i) (b + j))) :
    R2 (dotT v6 x) (fun l t => G.d (t0 + t) (b + l)) :=
  (r_dot_S128x128_S256x128_S128x256_1_1_0_0_n_n h6 (r_id_S256x128_bf16 hx)).congr fun e t he _ => hot_sum _ he
abbrev maskT (v9 : IVec S128x1 1) : IVec S128x256 1 := broadcastTo S128x256 (shapeCast S128x1 v9 shapeCasts_S128x1_S128x1) broadcasts_S128x1_S128x256
abbrev zeroT : FVec Ideal S128x256 .f32 := broadcast S128x256 (Scalar.ofBits (F := Ideal) .f32 0x00000000#32)
theorem r_first {v9 : IVec S128x1 1} (h9 : ∀ i : Fin 128, v9 (ix2 i 0) = if i.val < 64 then 1#1 else 0#1) {x : FVec Ideal S128x256 .f32} {g : ℕ → ℕ → ℝ} (hx : R2 x g) :
    R2 (select (maskT v9) x zeroT) (fun l t => if l < 64 then g l t else 0) := by
  intro i j
  unfold maskT zeroT
  pointwise [h9 i, hx i j]
  by_cases c : i.val < 64 <;> simp [c, Scalar.select]
theorem r_second {v9 : IVec S128x1 1} (h9 : ∀ i : Fin 128, v9 (ix2 i 0) = if i.val < 64 then 1#1 else 0#1) {x : FVec Ideal S128x256 .f32} {g : ℕ → ℕ → ℝ} (hx : R2 x g) :
    R2 (select (maskT v9) zeroT x) (fun l t => if l < 64 then 0 else g l t) := by
  intro i j
  unfold maskT zeroT
  pointwise [h9 i, hx i j]
  by_cases c : i.val < 64 <;> simp [c, Scalar.select]
theorem role_d0 {t0 b h : ℕ} (hb : b = 128 * (h / 2)) (hh : h % 2 = 0) {v6 : FVec Ideal S128x128 .bf16} (h6 : R2 v6 (fun i j => if i = j then 1 else 0)) {v9 : IVec S128x1 1} (h9 : ∀ i : Fin 128, v9 (ix2 i 0) = if i.val < 64 then 1#1 else 0#1) {x : FVec Ideal S256x128 .bf16} (hx : R2 x (fun i j => G.d (t0 + i) (b + j))) :
    R3 (shapeCast S1x128x256 (truncf .bf16 (select (maskT v9) (dotT v6 x) zeroT) bitsLt_bf16_f32) shapeCasts_S128x256_S1x128x256) (fun z l t => G.DT (h + z) (0 + l) (t0 + t)) :=
  R3.congr (r_up_S128x256 (r_trunc (r_first h9 (r_dotT h6 hx)))) fun z l t hz hl _ => by
    obtain rfl : z = 0 := by omega
    unfold Grp.DT
    rw [Nat.zero_add, Nat.add_zero, hh, hb]
    by_cases c : l < 64
    · rw [if_pos c, if_pos (by omega)]
    · rw [if_neg c, if_neg (by omega)]
theorem role_d1 {t0 b h : ℕ} (hb : b = 128 * (h / 2)) (hh : h % 2 = 1) {v6 : FVec Ideal S128x128 .bf16} (h6 : R2 v6 (fun i j => if i = j then 1 else 0)) {v9 : IVec S128x1 1} (h9 : ∀ i : Fin 128, v9 (ix2 i 0) = if i.val < 64 then 1#1 else 0#1) {x : FVec Ideal S256x128 .bf16} (hx : R2 x (fun i j => G.d (t0 + i) (b + j))) :
    R3 (shapeCast S1x128x256 (truncf .bf16 (select (maskT v9) zeroT (dotT v6 x)) bitsLt_bf16_f32) shapeCasts_S128x256_S1x128x256) (fun z l t => G.DT (h + z) (0 + l) (t0 + t)) :=
  R3.congr (r_up_S128x256 (r_trunc (r_second h9 (r_dotT h6 hx)))) fun z l t hz hl _ => by
    obtain rfl : z = 0 := by omega
    unfold Grp.DT
    rw [Nat.zero_add, Nat.add_zero, hh, hb]
    by_cases c : l < 64
    · rw [if_pos c, if_neg (by omega)]
    · rw [if_neg c, if_pos (by omega)]
theorem zero13 : R2 (k0_pay417 (F := Ideal)) (fun _ _ => 0) := by
  intro i j; simp only [k0_pay417]; pointwise; exact EReal.coe_zero.symm
theorem zero14a : R3 (k0_pay418 (F := Ideal)) (fun _ _ _ => 0) := by
  intro i j k; simp only [k0_pay418]; pointwise; exact EReal.coe_zero.symm

/-- An array known on the columns before `n`. -/
def C2 {a b : ℕ} (n : ℕ) (x : Shape.Idx ⟨2, ![a, b]⟩ → EReal) (g : ℕ → ℕ → ℝ) : Prop := ∀ (i : Fin a) (j : Fin b), j.val < n → x (ix2 i j) = ((g i j : ℝ) : EReal)
def C3 {a b c : ℕ} (n : ℕ) (x : Shape.Idx ⟨3, ![a, b, c]⟩ → EReal) (g : ℕ → ℕ → ℕ → ℝ) : Prop := ∀ (i : Fin a) (j : Fin b) (k : Fin c), k.val < n → x (ix3 i j k) = ((g i j k : ℝ) : EReal)
theorem C2.none {a b : ℕ} {x : Shape.Idx ⟨2, ![a, b]⟩ → EReal} {g : ℕ → ℕ → ℝ} : C2 0 x g := fun _ _ h => absurd h (Nat.not_lt_zero _)
theorem C3.none {a b c : ℕ} {x : Shape.Idx ⟨3, ![a, b, c]⟩ → EReal} {g : ℕ → ℕ → ℕ → ℝ} : C3 0 x g := fun _ _ _ h => absurd h (Nat.not_lt_zero _)
theorem C2.all {a b n : ℕ} {x : Shape.Idx ⟨2, ![a, b]⟩ → EReal} {g : ℕ → ℕ → ℝ} (h : C2 n x g) (e : b ≤ n) : R2 x g := fun i j => h i j (j.2.trans_le e)
theorem C3.all {a b c n : ℕ} {x : Shape.Idx ⟨3, ![a, b, c]⟩ → EReal} {g : ℕ → ℕ → ℕ → ℝ} (h : C3 n x g) (e : c ≤ n) : R3 x g := fun i j k => h i j k (k.2.trans_le e)

/-- One entry after a store. -/
theorem st2_at_bf16 {a b s0 s1 : ℕ} {arg : Memref sig .tc .vmem ⟨2, ![a, b]⟩ .bf16} {F : BufTy.Contents (Elt Ideal) arg.view.ty} {L : List (View.Piece (Elt Ideal) ⟨2, ![a, b]⟩ .bf16)}
    {g : ℕ → ℕ → ℝ} {o : Fin 2 → ℕ} (o0 o1 : ℕ) (ho : o = ![o0, o1]) {h}
    {p : Shape.Idx ⟨2, ![s0, s1]⟩ → EReal} (w : ℕ → ℕ → ℝ) (hp : R2 p (fun i j => w (o0 + i) (o1 + j))) (i : Fin a) (j : Fin b)
    (hF : ¬ (o0 ≤ i.val ∧ i.val < o0 + s0 ∧ o1 ≤ j.val ∧ j.val < o1 + s1) → arg.view.read (Elt Ideal) (arg.view.writes (Elt Ideal) F L) (ix2 i j) = ((g i j : ℝ) : EReal)) :
    arg.view.read (Elt Ideal) (arg.view.writes (Elt Ideal) F (⟨Rect.unit (s := ⟨2, ![a, b]⟩) o ![s0, s1] h, p⟩ :: L)) (ix2 i j)
      = (((if o0 ≤ i.val ∧ i.val < o0 + s0 ∧ o1 ≤ j.val ∧ j.val < o1 + s1 then w i j else g i j : ℝ)) : EReal) := by
  subst ho
  by_cases cc : o0 ≤ i.val ∧ i.val < o0 + s0 ∧ o1 ≤ j.val ∧ j.val < o1 + s1
  · rw [if_pos cc]
    refine (View.read_writes_cons_hit_of_coords arg.view F (Rect.unit (s := ⟨2, ![a, b]⟩) ![o0, o1] ![s0, s1] h) p L (ix2 ⟨i.val - o0, by omega⟩ ⟨j.val - o1, by omega⟩) (ix2 i j) ?_).trans ?_
    · intro x
      match x with
      | ⟨0, _⟩ => simp [Rect.unit, ix2]; omega
      | ⟨1, _⟩ => simp [Rect.unit, ix2]; omega
    · refine (hp ⟨i.val - o0, by omega⟩ ⟨j.val - o1, by omega⟩).trans (congrArg _ ?_)
      simp only [show o0 + (i.val - o0) = i.val by omega, show o1 + (j.val - o1) = j.val by omega]
  · rw [if_neg cc]
    refine Eq.trans ?_ (hF cc)
    by_cases e0 : o0 ≤ i.val ∧ i.val < o0 + s0
    swap
    · exact View.read_writes_cons_miss_of_axis arg.view F _ L (ix2 i j) (0 : Fin 2) o0 s0 (by simp [Rect.unit]) (by simp [Rect.unit]) (by simp [Rect.unit]) (by show i.val < o0 ∨ o0 + s0 ≤ i.val; omega)
    exact View.read_writes_cons_miss_of_axis arg.view F _ L (ix2 i j) (1 : Fin 2) o1 s1 (by simp [Rect.unit]) (by simp [Rect.unit]) (by simp [Rect.unit]) (by show j.val < o1 ∨ o1 + s1 ≤ j.val; omega)
theorem st3_at_bf16 {a b c s0 s1 s2 : ℕ} {arg : Memref sig .tc .vmem ⟨3, ![a, b, c]⟩ .bf16} {F : BufTy.Contents (Elt Ideal) arg.view.ty} {L : List (View.Piece (Elt Ideal) ⟨3, ![a, b, c]⟩ .bf16)}
    {g : ℕ → ℕ → ℕ → ℝ} {o : Fin 3 → ℕ} (o0 o1 o2 : ℕ) (ho : o = ![o0, o1, o2]) {h}
    {p : Shape.Idx ⟨3, ![s0, s1, s2]⟩ → EReal} (w : ℕ → ℕ → ℕ → ℝ) (hp : R3 p (fun i j k => w (o0 + i) (o1 + j) (o2 + k))) (i : Fin a) (j : Fin b) (k : Fin c)
    (hF : ¬ (o0 ≤ i.val ∧ i.val < o0 + s0 ∧ o1 ≤ j.val ∧ j.val < o1 + s1 ∧ o2 ≤ k.val ∧ k.val < o2 + s2) → arg.view.read (Elt Ideal) (arg.view.writes (Elt Ideal) F L) (ix3 i j k) = ((g i j k : ℝ) : EReal)) :
    arg.view.read (Elt Ideal) (arg.view.writes (Elt Ideal) F (⟨Rect.unit (s := ⟨3, ![a, b, c]⟩) o ![s0, s1, s2] h, p⟩ :: L)) (ix3 i j k)
      = (((if o0 ≤ i.val ∧ i.val < o0 + s0 ∧ o1 ≤ j.val ∧ j.val < o1 + s1 ∧ o2 ≤ k.val ∧ k.val < o2 + s2 then w i j k else g i j k : ℝ)) : EReal) := by
  subst ho
  by_cases cc : o0 ≤ i.val ∧ i.val < o0 + s0 ∧ o1 ≤ j.val ∧ j.val < o1 + s1 ∧ o2 ≤ k.val ∧ k.val < o2 + s2
  · rw [if_pos cc]
    refine (View.read_writes_cons_hit_of_coords (Val := Elt Ideal) arg.view F (Rect.unit (s := ⟨3, ![a, b, c]⟩) ![o0, o1, o2] ![s0, s1, s2] h) p L (ix3 ⟨i.val - o0, by omega⟩ ⟨j.val - o1, by omega⟩ ⟨k.val - o2, by omega⟩) (ix3 i j k) ?_).trans ?_
    · intro x
      match x with
      | ⟨0, _⟩ => simp [Rect.unit, ix3]; omega
      | ⟨1, _⟩ => simp [Rect.unit, ix3]; omega
      | ⟨2, _⟩ => simp [Rect.unit, ix3]; omega
    · refine (hp ⟨i.val - o0, by omega⟩ ⟨j.val - o1, by omega⟩ ⟨k.val - o2, by omega⟩).trans (congrArg _ ?_)
      simp only [show o0 + (i.val - o0) = i.val by omega, show o1 + (j.val - o1) = j.val by omega, show o2 + (k.val - o2) = k.val by omega]
  · rw [if_neg cc]
    refine Eq.trans ?_ (hF cc)
    by_cases e0 : o0 ≤ i.val ∧ i.val < o0 + s0
    swap
    · exact View.read_writes_cons_miss_of_axis arg.view F _ L (ix3 i j k) (0 : Fin 3) o0 s0 (by simp [Rect.unit]) (by simp [Rect.unit]) (by simp [Rect.unit]) (by show i.val < o0 ∨ o0 + s0 ≤ i.val; omega)
    by_cases e1 : o1 ≤ j.val ∧ j.val < o1 + s1
    swap
    · exact View.read_writes_cons_miss_of_axis arg.view F _ L (ix3 i j k) (1 : Fin 3) o1 s1 (by simp [Rect.unit]) (by simp [Rect.unit]) (by simp [Rect.unit]) (by show j.val < o1 ∨ o1 + s1 ≤ j.val; omega)
    exact View.read_writes_cons_miss_of_axis arg.view F _ L (ix3 i j k) (2 : Fin 3) o2 s2 (by simp [Rect.unit]) (by simp [Rect.unit]) (by simp [Rect.unit]) (by show k.val < o2 ∨ o2 + s2 ≤ k.val; omega)
/-- Four blocks of rows of the next columns. -/
theorem C2.four {n : ℕ} {arg : Memref sig .tc .vmem ⟨2, ![512, 2048]⟩ .bf16} {F : BufTy.Contents (Elt Ideal) arg.view.ty} {L : List (View.Piece (Elt Ideal) ⟨2, ![512, 2048]⟩ .bf16)} {g : ℕ → ℕ → ℝ}
    (hF : C2 n (arg.view.read (Elt Ideal) (arg.view.writes (Elt Ideal) F L)) g) {q0 : Fin 2 → ℕ} (e0 : q0 = ![0, n]) {hh0} {p0 : Shape.Idx ⟨2, ![128, 256]⟩ → EReal} {q1 : Fin 2 → ℕ} (e1 : q1 = ![128, n]) {hh1} {p1 : Shape.Idx ⟨2, ![128, 256]⟩ → EReal} {q2 : Fin 2 → ℕ} (e2 : q2 = ![256, n]) {hh2} {p2 : Shape.Idx ⟨2, ![128, 256]⟩ → EReal} {q3 : Fin 2 → ℕ} (e3 : q3 = ![384, n]) {hh3} {p3 : Shape.Idx ⟨2, ![128, 256]⟩ → EReal}
    (w0 : R2 p0 (fun i j => g (0 + i) (n + j))) (w1 : R2 p1 (fun i j => g (128 + i) (n + j))) (w2 : R2 p2 (fun i j => g (256 + i) (n + j))) (w3 : R2 p3 (fun i j => g (384 + i) (n + j))) :
    C2 (n + 256) (arg.view.read (Elt Ideal) (arg.view.writes (Elt Ideal) F ((⟨Rect.unit (s := ⟨2, ![512, 2048]⟩) q3 ![128, 256] hh3, p3⟩ : View.Piece (Elt Ideal) ⟨2, ![512, 2048]⟩ .bf16) :: ((⟨Rect.unit (s := ⟨2, ![512, 2048]⟩) q2 ![128, 256] hh2, p2⟩ : View.Piece (Elt Ideal) ⟨2, ![512, 2048]⟩ .bf16) :: ((⟨Rect.unit (s := ⟨2, ![512, 2048]⟩) q1 ![128, 256] hh1, p1⟩ : View.Piece (Elt Ideal) ⟨2, ![512, 2048]⟩ .bf16) :: ((⟨Rect.unit (s := ⟨2, ![512, 2048]⟩) q0 ![128, 256] hh0, p0⟩ : View.Piece (Elt Ideal) ⟨2, ![512, 2048]⟩ .bf16) :: L)))))) g := by
  intro i j hn
  have b0 := i.isLt
  have b1 := j.isLt

  exact (st2_at_bf16 (g := g) (384) (n) e3 g w3 i j fun n3 => (st2_at_bf16 (g := g) (256) (n) e2 g w2 i j fun n2 => (st2_at_bf16 (g := g) (128) (n) e1 g w1 i j fun n1 => (st2_at_bf16 (g := g) (0) (n) e0 g w0 i j fun n0 => hF i j (by omega)).trans (by rw [ite_self])).trans (by rw [ite_self])).trans (by rw [ite_self])).trans (by rw [ite_self])
/-- Four heads of the next columns. -/
theorem C3.four {n : ℕ} {arg : Memref sig .tc .vmem ⟨3, ![4, 128, 2048]⟩ .bf16} {F : BufTy.Contents (Elt Ideal) arg.view.ty} {L : List (View.Piece (Elt Ideal) ⟨3, ![4, 128, 2048]⟩ .bf16)} {g : ℕ → ℕ → ℕ → ℝ}
    (hF : C3 n (arg.view.read (Elt Ideal) (arg.view.writes (Elt Ideal) F L)) g) {q0 : Fin 3 → ℕ} (e0 : q0 = ![0, 0, n]) {hh0} {p0 : Shape.Idx ⟨3, ![1, 128, 256]⟩ → EReal} {q1 : Fin 3 → ℕ} (e1 : q1 = ![1, 0, n]) {hh1} {p1 : Shape.Idx ⟨3, ![1, 128, 256]⟩ → EReal} {q2 : Fin 3 → ℕ} (e2 : q2 = ![2, 0, n]) {hh2} {p2 : Shape.Idx ⟨3, ![1, 128, 256]⟩ → EReal} {q3 : Fin 3 → ℕ} (e3 : q3 = ![3, 0, n]) {hh3} {p3 : Shape.Idx ⟨3, ![1, 128, 256]⟩ → EReal}
    (w0 : R3 p0 (fun i j k => g (0 + i) (0 + j) (n + k))) (w1 : R3 p1 (fun i j k => g (1 + i) (0 + j) (n + k))) (w2 : R3 p2 (fun i j k => g (2 + i) (0 + j) (n + k))) (w3 : R3 p3 (fun i j k => g (3 + i) (0 + j) (n + k))) :
    C3 (n + 256) (arg.view.read (Elt Ideal) (arg.view.writes (Elt Ideal) F ((⟨Rect.unit (s := ⟨3, ![4, 128, 2048]⟩) q3 ![1, 128, 256] hh3, p3⟩ : View.Piece (Elt Ideal) ⟨3, ![4, 128, 2048]⟩ .bf16) :: ((⟨Rect.unit (s := ⟨3, ![4, 128, 2048]⟩) q2 ![1, 128, 256] hh2, p2⟩ : View.Piece (Elt Ideal) ⟨3, ![4, 128, 2048]⟩ .bf16) :: ((⟨Rect.unit (s := ⟨3, ![4, 128, 2048]⟩) q1 ![1, 128, 256] hh1, p1⟩ : View.Piece (Elt Ideal) ⟨3, ![4, 128, 2048]⟩ .bf16) :: ((⟨Rect.unit (s := ⟨3, ![4, 128, 2048]⟩) q0 ![1, 128, 256] hh0, p0⟩ : View.Piece (Elt Ideal) ⟨3, ![4, 128, 2048]⟩ .bf16) :: L)))))) g := by
  intro i j k hn
  have b0 := i.isLt
  have b1 := j.isLt
  have b2 := k.isLt
  exact (st3_at_bf16 (g := g) (3) (0) (n) e3 g w3 i j k fun n3 => (st3_at_bf16 (g := g) (2) (0) (n) e2 g w2 i j k fun n2 => (st3_at_bf16 (g := g) (1) (0) (n) e1 g w1 i j k fun n1 => (st3_at_bf16 (g := g) (0) (0) (n) e0 g w0 i j k fun n0 => hF i j k (by omega)).trans (by rw [ite_self])).trans (by rw [ite_self])).trans (by rw [ite_self])).trans (by rw [ite_self])
/-- Four blocks of columns of the next rows. -/
theorem U2.four {n : ℕ} {arg : Memref sig .tc .vmem ⟨2, ![2048, 512]⟩ .f32} {F : BufTy.Contents (Elt Ideal) arg.view.ty} {L : List (View.Piece (Elt Ideal) ⟨2, ![2048, 512]⟩ .f32)} {g : ℕ → ℕ → ℝ}
    (hF : U2 n (arg.view.read (Elt Ideal) (arg.view.writes (Elt Ideal) F L)) g) {q0 : Fin 2 → ℕ} (e0 : q0 = ![n, 0]) {hh0} {p0 : Shape.Idx ⟨2, ![256, 128]⟩ → EReal} {q1 : Fin 2 → ℕ} (e1 : q1 = ![n, 128]) {hh1} {p1 : Shape.Idx ⟨2, ![256, 128]⟩ → EReal} {q2 : Fin 2 → ℕ} (e2 : q2 = ![n, 256]) {hh2} {p2 : Shape.Idx ⟨2, ![256, 128]⟩ → EReal} {q3 : Fin 2 → ℕ} (e3 : q3 = ![n, 384]) {hh3} {p3 : Shape.Idx ⟨2, ![256, 128]⟩ → EReal}
    (w0 : R2 p0 (fun i j => g (n + i) (0 + j))) (w1 : R2 p1 (fun i j => g (n + i) (128 + j))) (w2 : R2 p2 (fun i j => g (n + i) (256 + j))) (w3 : R2 p3 (fun i j => g (n + i) (384 + j))) :
    U2 (n + 256) (arg.view.read (Elt Ideal) (arg.view.writes (Elt Ideal) F ((⟨Rect.unit (s := ⟨2, ![2048, 512]⟩) q3 ![256, 128] hh3, p3⟩ : View.Piece (Elt Ideal) ⟨2, ![2048, 512]⟩ .f32) :: ((⟨Rect.unit (s := ⟨2, ![2048, 512]⟩) q2 ![256, 128] hh2, p2⟩ : View.Piece (Elt Ideal) ⟨2, ![2048, 512]⟩ .f32) :: ((⟨Rect.unit (s := ⟨2, ![2048, 512]⟩) q1 ![256, 128] hh1, p1⟩ : View.Piece (Elt Ideal) ⟨2, ![2048, 512]⟩ .f32) :: ((⟨Rect.unit (s := ⟨2, ![2048, 512]⟩) q0 ![256, 128] hh0, p0⟩ : View.Piece (Elt Ideal) ⟨2, ![2048, 512]⟩ .f32) :: L)))))) g := by
  intro i j hn
  have b0 := i.isLt
  have b1 := j.isLt

  exact (st2_at (g := g) (n) (384) e3 g w3 i j fun n3 => (st2_at (g := g) (n) (256) e2 g w2 i j fun n2 => (st2_at (g := g) (n) (128) e1 g w1 i j fun n1 => (st2_at (g := g) (n) (0) e0 g w0 i j fun n0 => hF i j (by omega)).trans (by rw [ite_self])).trans (by rw [ite_self])).trans (by rw [ite_self])).trans (by rw [ite_self])

theorem lk3 {a3 : Memref sig .tc .vmem S2048x512 .bf16} {X3 : BufTy.Contents (Elt Ideal) a3.view.ty} (h3 : R2 (a3.view.read (Elt Ideal) X3) G.k) (u0 : ℕ) {o} (ho : o = ![u0, 0]) {h} :
    R2 (View.readAt (Elt Ideal) a3.view (Rect.unit (s := S2048x512) o S256x512.size h).toLoadRect X3) (fun i j => G.k (u0 + i) j) :=
  (ld2_bf16 (s0 := 256) (s1 := 512) h3 _ _ ho).congr fun i j _ _ => by congr 1; omega
theorem ld5 {a5 : Memref sig .tc .vmem S2048x256 .bf16} {X5 : BufTy.Contents (Elt Ideal) a5.view.ty} (h5 : R2 (a5.view.read (Elt Ideal) X5) G.d) (t0 b : ℕ) {o} (ho : o = ![t0, b]) {h} :
    R2 (View.readAt (Elt Ideal) a5.view (Rect.unit (s := S2048x256) o S256x128.size h).toLoadRect X5) (fun i j => G.d (t0 + i) (b + j)) :=
  ld2_bf16 (s0 := 256) (s1 := 128) h5 _ _ ho

/-- The keys, transposed. -/
theorem kt_val {a3 : Memref sig .tc .vmem S2048x512 .bf16} {a11 : Memref sig .tc .vmem S512x2048 .bf16} {X3 : BufTy.Contents (Elt Ideal) a3.view.ty} {f11 : BufTy.Contents (Elt Ideal) a11.view.ty} (h3 : R2 (a3.view.read (Elt Ideal) X3) G.k) :
    R2 (a11.view.read (Elt Ideal) (a11.view.writes (Elt Ideal) f11 (point.sl.H11_32 a3 X3))) (fun e t => G.k t e) := by
  unfold point.sl.H11_32 point.sl.r_3 point.sl.r_6 point.sl.r_9 point.sl.r_16 k0_pay342 k0_pay355 k0_pay368 k0_pay404
  exact C2.all (n := 2048) (g := fun e t => G.k t e) (C2.four (n := 1792) (C2.four (n := 1536) (C2.four (n := 1280) (C2.four (n := 1024) (C2.four (n := 768) (C2.four (n := 512) (C2.four (n := 256) (C2.four (n := 0) C2.none rfl rfl rfl rfl (role_kt0 one_hot (lk3 h3 0 rfl)) (role_kt1 one_hot (lk3 h3 0 rfl)) (role_kt2 one_hot (lk3 h3 0 rfl)) (role_kt3 one_hot (lk3 h3 0 rfl))) rfl rfl rfl rfl (role_kt0 one_hot (lk3 h3 256 rfl)) (role_kt1 one_hot (lk3 h3 256 rfl)) (role_kt2 one_hot (lk3 h3 256 rfl)) (role_kt3 one_hot (lk3 h3 256 rfl))) rfl rfl rfl rfl (role_kt0 one_hot (lk3 h3 512 rfl)) (role_kt1 one_hot (lk3 h3 512 rfl)) (role_kt2 one_hot (lk3 h3 512 rfl)) (role_kt3 one_hot (lk3 h3 512 rfl))) rfl rfl rfl rfl (role_kt0 one_hot (lk3 h3 768 rfl)) (role_kt1 one_hot (lk3 h3 768 rfl)) (role_kt2 one_hot (lk3 h3 768 rfl)) (role_kt3 one_hot (lk3 h3 768 rfl))) rfl rfl rfl rfl (role_kt0 one_hot (lk3 h3 1024 rfl)) (role_kt1 one_hot (lk3 h3 1024 rfl)) (role_kt2 one_hot (lk3 h3 1024 rfl)) (role_kt3 one_hot (lk3 h3 1024 rfl))) rfl rfl rfl rfl (role_kt0 one_hot (lk3 h3 1280 rfl)) (role_kt1 one_hot (lk3 h3 1280 rfl)) (role_kt2 one_hot (lk3 h3 1280 rfl)) (role_kt3 one_hot (lk3 h3 1280 rfl))) rfl rfl rfl rfl (role_kt0 one_hot (lk3 h3 1536 rfl)) (role_kt1 one_hot (lk3 h3 1536 rfl)) (role_kt2 one_hot (lk3 h3 1536 rfl)) (role_kt3 one_hot (lk3 h3 1536 rfl))) rfl rfl rfl rfl (role_kt0 one_hot (lk3 h3 1792 rfl)) (role_kt1 one_hot (lk3 h3 1792 rfl)) (role_kt2 one_hot (lk3 h3 1792 rfl)) (role_kt3 one_hot (lk3 h3 1792 rfl))) le_rfl

theorem st3_at_f32 {a b c s0 s1 s2 : ℕ} {arg : Memref sig .tc .vmem ⟨3, ![a, b, c]⟩ .f32} {F : BufTy.Contents (Elt Ideal) arg.view.ty} {L : List (View.Piece (Elt Ideal) ⟨3, ![a, b, c]⟩ .f32)}
    {g : ℕ → ℕ → ℕ → ℝ} {o : Fin 3 → ℕ} (o0 o1 o2 : ℕ) (ho : o = ![o0, o1, o2]) {h}
    {p : Shape.Idx ⟨3, ![s0, s1, s2]⟩ → EReal} (w : ℕ → ℕ → ℕ → ℝ) (hp : R3 p (fun i j k => w (o0 + i) (o1 + j) (o2 + k))) (i : Fin a) (j : Fin b) (k : Fin c)
    (hF : ¬ (o0 ≤ i.val ∧ i.val < o0 + s0 ∧ o1 ≤ j.val ∧ j.val < o1 + s1 ∧ o2 ≤ k.val ∧ k.val < o2 + s2) → arg.view.read (Elt Ideal) (arg.view.writes (Elt Ideal) F L) (ix3 i j k) = ((g i j k : ℝ) : EReal)) :
    arg.view.read (Elt Ideal) (arg.view.writes (Elt Ideal) F (⟨Rect.unit (s := ⟨3, ![a, b, c]⟩) o ![s0, s1, s2] h, p⟩ :: L)) (ix3 i j k)
      = (((if o0 ≤ i.val ∧ i.val < o0 + s0 ∧ o1 ≤ j.val ∧ j.val < o1 + s1 ∧ o2 ≤ k.val ∧ k.val < o2 + s2 then w i j k else g i j k : ℝ)) : EReal) := by
  subst ho
  by_cases cc : o0 ≤ i.val ∧ i.val < o0 + s0 ∧ o1 ≤ j.val ∧ j.val < o1 + s1 ∧ o2 ≤ k.val ∧ k.val < o2 + s2
  · rw [if_pos cc]
    refine (View.read_writes_cons_hit_of_coords (Val := Elt Ideal) arg.view F (Rect.unit (s := ⟨3, ![a, b, c]⟩) ![o0, o1, o2] ![s0, s1, s2] h) p L (ix3 ⟨i.val - o0, by omega⟩ ⟨j.val - o1, by omega⟩ ⟨k.val - o2, by omega⟩) (ix3 i j k) ?_).trans ?_
    · intro x
      match x with
      | ⟨0, _⟩ => simp [Rect.unit, ix3]; omega
      | ⟨1, _⟩ => simp [Rect.unit, ix3]; omega
      | ⟨2, _⟩ => simp [Rect.unit, ix3]; omega
    · refine (hp ⟨i.val - o0, by omega⟩ ⟨j.val - o1, by omega⟩ ⟨k.val - o2, by omega⟩).trans (congrArg _ ?_)
      simp only [show o0 + (i.val - o0) = i.val by omega, show o1 + (j.val - o1) = j.val by omega, show o2 + (k.val - o2) = k.val by omega]
  · rw [if_neg cc]
    refine Eq.trans ?_ (hF cc)
    by_cases e0 : o0 ≤ i.val ∧ i.val < o0 + s0
    swap
    · exact View.read_writes_cons_miss_of_axis arg.view F _ L (ix3 i j k) (0 : Fin 3) o0 s0 (by simp [Rect.unit]) (by simp [Rect.unit]) (by simp [Rect.unit]) (by show i.val < o0 ∨ o0 + s0 ≤ i.val; omega)
    by_cases e1 : o1 ≤ j.val ∧ j.val < o1 + s1
    swap
    · exact View.read_writes_cons_miss_of_axis arg.view F _ L (ix3 i j k) (1 : Fin 3) o1 s1 (by simp [Rect.unit]) (by simp [Rect.unit]) (by simp [Rect.unit]) (by show j.val < o1 ∨ o1 + s1 ≤ j.val; omega)
    exact View.read_writes_cons_miss_of_axis arg.view F _ L (ix3 i j k) (2 : Fin 3) o2 s2 (by simp [Rect.unit]) (by simp [Rect.unit]) (by simp [Rect.unit]) (by show k.val < o2 ∨ o2 + s2 ≤ k.val; omega)

/-- The cotangents, transposed, a head's rows beside zeros. -/
theorem dot_val {a5 : Memref sig .tc .vmem S2048x256 .bf16} {a12 : Memref sig .tc .vmem S4x128x2048 .bf16} {X5 : BufTy.Contents (Elt Ideal) a5.view.ty} {f12 : BufTy.Contents (Elt Ideal) a12.view.ty} (h5 : R2 (a5.view.read (Elt Ideal) X5) G.d) :
    R3 (a12.view.read (Elt Ideal) (a12.view.writes (Elt Ideal) f12 (point.sl.H12_32 a5 X5))) (fun h l t => G.DT h l t) := by
  unfold point.sl.H12_32
  exact C3.all (n := 2048) (g := fun h l t => G.DT h l t) (C3.four (n := 1792) (C3.four (n := 1536) (C3.four (n := 1280) (C3.four (n := 1024) (C3.four (n := 768) (C3.four (n := 512) (C3.four (n := 256) (C3.four (n := 0) C3.none rfl rfl rfl rfl (role_d0 (h := 0) (b := 0) rfl rfl one_hot first_half (ld5 h5 0 0 rfl)) (role_d1 (h := 1) (b := 0) rfl rfl one_hot first_half (ld5 h5 0 0 rfl)) (role_d0 (h := 2) (b := 128) rfl rfl one_hot first_half (ld5 h5 0 128 rfl)) (role_d1 (h := 3) (b := 128) rfl rfl one_hot first_half (ld5 h5 0 128 rfl))) rfl rfl rfl rfl (role_d0 (h := 0) (b := 0) rfl rfl one_hot first_half (ld5 h5 256 0 rfl)) (role_d1 (h := 1) (b := 0) rfl rfl one_hot first_half (ld5 h5 256 0 rfl)) (role_d0 (h := 2) (b := 128) rfl rfl one_hot first_half (ld5 h5 256 128 rfl)) (role_d1 (h := 3) (b := 128) rfl rfl one_hot first_half (ld5 h5 256 128 rfl))) rfl rfl rfl rfl (role_d0 (h := 0) (b := 0) rfl rfl one_hot first_half (ld5 h5 512 0 rfl)) (role_d1 (h := 1) (b := 0) rfl rfl one_hot first_half (ld5 h5 512 0 rfl)) (role_d0 (h := 2) (b := 128) rfl rfl one_hot first_half (ld5 h5 512 128 rfl)) (role_d1 (h := 3) (b := 128) rfl rfl one_hot first_half (ld5 h5 512 128 rfl))) rfl rfl rfl rfl (role_d0 (h := 0) (b := 0) rfl rfl one_hot first_half (ld5 h5 768 0 rfl)) (role_d1 (h := 1) (b := 0) rfl rfl one_hot first_half (ld5 h5 768 0 rfl)) (role_d0 (h := 2) (b := 128) rfl rfl one_hot first_half (ld5 h5 768 128 rfl)) (role_d1 (h := 3) (b := 128) rfl rfl one_hot first_half (ld5 h5 768 128 rfl))) rfl rfl rfl rfl (role_d0 (h := 0) (b := 0) rfl rfl one_hot first_half (ld5 h5 1024 0 rfl)) (role_d1 (h := 1) (b := 0) rfl rfl one_hot first_half (ld5 h5 1024 0 rfl)) (role_d0 (h := 2) (b := 128) rfl rfl one_hot first_half (ld5 h5 1024 128 rfl)) (role_d1 (h := 3) (b := 128) rfl rfl one_hot first_half (ld5 h5 1024 128 rfl))) rfl rfl rfl rfl (role_d0 (h := 0) (b := 0) rfl rfl one_hot first_half (ld5 h5 1280 0 rfl)) (role_d1 (h := 1) (b := 0) rfl rfl one_hot first_half (ld5 h5 1280 0 rfl)) (role_d0 (h := 2) (b := 128) rfl rfl one_hot first_half (ld5 h5 1280 128 rfl)) (role_d1 (h := 3) (b := 128) rfl rfl one_hot first_half (ld5 h5 1280 128 rfl))) rfl rfl rfl rfl (role_d0 (h := 0) (b := 0) rfl rfl one_hot first_half (ld5 h5 1536 0 rfl)) (role_d1 (h := 1) (b := 0) rfl rfl one_hot first_half (ld5 h5 1536 0 rfl)) (role_d0 (h := 2) (b := 128) rfl rfl one_hot first_half (ld5 h5 1536 128 rfl)) (role_d1 (h := 3) (b := 128) rfl rfl one_hot first_half (ld5 h5 1536 128 rfl))) rfl rfl rfl rfl (role_d0 (h := 0) (b := 0) rfl rfl one_hot first_half (ld5 h5 1792 0 rfl)) (role_d1 (h := 1) (b := 0) rfl rfl one_hot first_half (ld5 h5 1792 0 rfl)) (role_d0 (h := 2) (b := 128) rfl rfl one_hot first_half (ld5 h5 1792 128 rfl)) (role_d1 (h := 3) (b := 128) rfl rfl one_hot first_half (ld5 h5 1792 128 rfl))) le_rfl
theorem dqt_zero {a13 : Memref sig .tc .vmem S512x2048 .f32} {f13 : BufTy.Contents (Elt Ideal) a13.view.ty} :
    R2 (a13.view.read (Elt Ideal) (a13.view.writes (Elt Ideal) f13 (point.sl.H13_1 (F := Ideal)))) (fun _ _ => 0) := by
  unfold point.sl.H13_1
  intro i j
  refine (st2_at (s0 := 512) (s1 := 2048) (g := fun _ _ => 0) 0 0 rfl (fun _ _ => 0) zero13 i j fun n => absurd ⟨Nat.zero_le _, by have := i.isLt; omega, Nat.zero_le _, by have := j.isLt; omega⟩ n).trans (by rw [ite_self])
theorem dvt_zero {a14 : Memref sig .tc .vmem S2x256x256 .f32} {f14 : BufTy.Contents (Elt Ideal) a14.view.ty} :
    R3 (a14.view.read (Elt Ideal) (a14.view.writes (Elt Ideal) f14 (point.sl.H14_1 (F := Ideal)))) (fun _ _ _ => 0) := by
  unfold point.sl.H14_1
  intro i j k
  refine (st3_at_f32 (s0 := 2) (s1 := 256) (s2 := 256) (g := fun _ _ _ => 0) 0 0 0 rfl (fun _ _ _ => 0) zero14a i j k fun n => absurd ⟨Nat.zero_le _, by have := i.isLt; omega, Nat.zero_le _, by have := j.isLt; omega, Nat.zero_le _, by have := k.isLt; omega⟩ n).trans (by rw [ite_self])

end Cert.MlaIdeal.Gen

end
-- ==== Proof.MlaIdealPointVal.lean ====
/- One grid point over the reals: the three gradients of one group of heads. -/
module

public import proofs.«01_k».proof.Proof.MlaIdealVal0
public import proofs.«01_k».proof.Proof.MlaIdealPre
public import proofs.«01_k».proof.Proof.MlaIdealPoint

@[expose] public section

set_option maxRecDepth 16384
set_option maxHeartbeats 40000000

noncomputable section

namespace Cert.MlaIdeal.Gen

open Idealize.ShloMosaic Idealize.ShloMosaic.TcCoe Idealize.ShloMosaic.Tactic Cert.Coe Cert.MlaM Cert.MlaIdeal
open Idealize.SL Idealize.SL.RA Idealize.SL.BI

variable {G : Grp}

theorem tr8 {o0 o1 : ℕ} {x : FVec Ideal S128x256 .f32} (h : R2 x (fun e t => dqF G 8 (o0 + e) (o1 + t))) :
    R2 (transpose S256x128 [1, 0] x transposes_S128x256_p1_0_S256x128) (fun t e => (fun t e => dqF G 8 e t) (o1 + t) (o0 + e)) := r_transpose h

theorem tqq {a13 : MV S512x2048 .f32} {F : BC Ideal a13} {L : List (View.Piece (Elt Ideal) S512x2048 .f32)} {g : ℕ → ℕ → ℝ}
    (j : R2 (a13.view.read (Elt Ideal) (a13.view.writes (Elt Ideal) F L)) g) {hh w} (m : (⟨Rect.unit (s := S512x2048) ![0, 0] S512x2048.size hh, w⟩ : View.Piece (Elt Ideal) S512x2048 .f32) ∈ L) (o1 o0 : ℕ) {o : Fin 2 → ℕ} (ho : o = ![o0, o1]) {h} (e0 : o0 + 128 ≤ 512) (e1 : o1 + 256 ≤ 2048) :
    R2 (a13.view.readCov L (Rect.unit (s := S512x2048) o S128x256.size h).toLoadRect) (fun e t => g (o0 + e) (o1 + t)) :=
  ld2_cov (s0 := 128) (s1 := 256) (z0 := 512) (z1 := 2048) j o0 o1 ho 0 0 rfl m (by omega) (by omega)
theorem tvv {a14 : MV S2x256x256 .f32} {F : BC Ideal a14} {L : List (View.Piece (Elt Ideal) S2x256x256 .f32)} {g : ℕ → ℕ → ℕ → ℝ}
    (j : R3 (a14.view.read (Elt Ideal) (a14.view.writes (Elt Ideal) F L)) g) {hh w} (m : (⟨Rect.unit (s := S2x256x256) ![0, 0, 0] S2x256x256.size hh, w⟩ : View.Piece (Elt Ideal) S2x256x256 .f32) ∈ L) (o1 : ℕ) {o : Fin 3 → ℕ} (ho : o = ![1, o1, 0]) {h} (e1 : o1 + 128 ≤ 256) :
    R3 (a14.view.readCov L (Rect.unit (s := S2x256x256) o S1x128x256.size h).toLoadRect) (fun s e u => g (1 + s) (o1 + e) (0 + u)) :=
  ld3_cov (s0 := 1) (s1 := 128) (s2 := 256) (z0 := 2) (z1 := 256) (z2 := 256) j 1 o1 0 ho 0 0 0 rfl m (by omega) (by omega) (by omega)

/-- A grid point leaves the gradients in its three output windows. -/
theorem point_val (c : Dev nD) (i : grid0.Coords) (a2 : MV S2048x512 .bf16) (b2 : a2.IsWhole) (a3 : MV S2048x512 .bf16) (b3 : a3.IsWhole) (a4 : MV S2048x256 .bf16) (b4 : a4.IsWhole) (a5 : MV S2048x256 .bf16) (b5 : a5.IsWhole) (a6 : MV S1x4x2048 .f32) (b6 : a6.IsWhole) (a7 : MV S1x1x4x2048 .f32) (b7 : a7.IsWhole) (a8 : MV S2048x512 .f32) (b8 : a8.IsWhole) (a9 : MV S2048x512 .f32) (b9 : a9.IsWhole) (a10 : MV S2048x256 .f32) (b10 : a10.IsWhole) (a11 : MV S512x2048 .bf16) (b11 : a11.IsWhole) (a12 : MV S4x128x2048 .bf16) (b12 : a12.IsWhole) (a13 : MV S512x2048 .f32) (b13 : a13.IsWhole) (a14 : MV S2x256x256 .f32) (b14 : a14.IsWhole) (X2 : BC Ideal a2) (X3 : BC Ideal a3) (X4 : BC Ideal a4) (X5 : BC Ideal a5) (X6 : BC Ideal a6) (X7 : BC Ideal a7) (G : Grp)
    (h2 : R2 (a2.view.read (Elt Ideal) X2) G.q) (h3 : R2 (a3.view.read (Elt Ideal) X3) G.k) (h4 : R2 (a4.view.read (Elt Ideal) X4) G.v) (h5 : R2 (a5.view.read (Elt Ideal) X5) G.d) (h6 : R3 (a6.view.read (Elt Ideal) X6) (fun _ h t => G.dl h t)) (h7 : R4 (a7.view.read (Elt Ideal) X7) (fun _ _ h t => G.ls h t)) (f8 : BC Ideal a8) (f9 : BC Ideal a9) (f10 : BC Ideal a10) :
    R2 (a8.view.read (Elt Ideal) (a8.view.writes (Elt Ideal) f8 ((point (F := Ideal) c i a2 b2 a3 b3 a4 b4 a5 b5 a6 b6 a7 b7 a8 b8 a9 b9 a10 b10 a11 b11 a12 b12 a13 b13 a14 b14 X2 X3 X4 X5 X6 X7).1 f8 f9 f10))) (fun t e => dqF G 8 e t) ∧ R2 (a9.view.read (Elt Ideal) (a9.view.writes (Elt Ideal) f9 ((point (F := Ideal) c i a2 b2 a3 b3 a4 b4 a5 b5 a6 b6 a7 b7 a8 b8 a9 b9 a10 b10 a11 b11 a12 b12 a13 b13 a14 b14 X2 X3 X4 X5 X6 X7).2.1 f8 f9 f10))) (dkF G) ∧ R2 (a10.view.read (Elt Ideal) (a10.view.writes (Elt Ideal) f10 ((point (F := Ideal) c i a2 b2 a3 b3 a4 b4 a5 b5 a6 b6 a7 b7 a8 b8 a9 b9 a10 b10 a11 b11 a12 b12 a13 b13 a14 b14 X2 X3 X4 X5 X6 X7).2.2.1 f8 f9 f10))) (dvF G) := by
  have hN : (Scf.trips k0_t1_loop.lb k0_t1_loop.ub k0_t1_loop.st) = 8 := k0_t1_trips
  have I := pb1_val c i a2 b2 a3 b3 a4 b4 a5 b5 a6 b6 a7 b7 a8 b8 a9 b9 a10 b10 a11 b11 a12 b12 a13 b13 a14 b14 X2 X3 X4 X6 X7 (a11.view.writes (Elt Ideal) a11.view.junk (point.sl.H11_32 a3 X3)) (a12.view.writes (Elt Ideal) a12.view.junk (point.sl.H12_32 a5 X5)) G h2 h3 h4 h6 h7 (kt_val h3) (dot_val h5) f9 f10
    (a13.view.writes (Elt Ideal) a13.view.junk (point.sl.H13_1 (F := Ideal))) (a14.view.writes (Elt Ideal) a14.view.junk (point.sl.H14_1 (F := Ideal))) dqt_zero dvt_zero (Scf.trips k0_t1_loop.lb k0_t1_loop.ub k0_t1_loop.st) hN.le
  obtain ⟨i9, i10, i13, g14, i14, hg⟩ := I
  rw [← View.writes_append] at i13 i14
  have j9 := U2.all (U2.mono i9 (m := 2048) (by omega)) le_rfl
  have j10 := U2.mono i10 (m := 1792) (by omega)
  have j13 := i13.congr (g' := dqF G 8) (fun e t _ _ => by rw [hN])
  have hg' : ∀ e u, u < 256 → g14 1 e u = dvF G (1792 + u) e := fun e u hu => by
    have := hg (by omega) e u hu
    rwa [hN] at this
  clear i9 i10 i13 hg
  have m13 : (⟨Rect.unit (s := S512x2048) ![0, 0] S512x2048.size inb_S512x2048_S512x2048_0_0, k0_pay417 (F := Ideal)⟩ : View.Piece (Elt Ideal) S512x2048 .f32) ∈ point.sl.H13_1 (F := Ideal) := by unfold point.sl.H13_1; exact List.mem_singleton_self _
  have m14 : (⟨Rect.unit (s := S2x256x256) ![0, 0, 0] S2x256x256.size inb_S2x256x256_S2x256x256_0_0_0, k0_pay418 (F := Ideal)⟩ : View.Piece (Elt Ideal) S2x256x256 .f32) ∈ point.sl.H14_1 (F := Ideal) := by unfold point.sl.H14_1; exact List.mem_singleton_self _
  have n13 := List.mem_append_right (pb1 (F := Ideal) c i a2 b2 a3 b3 a4 b4 a5 b5 a6 b6 a7 b7 a8 b8 a9 b9 a10 b10 a11 b11 a12 b12 a13 b13 a14 b14 (0#32) (1#32) X2 X3 X4 X6 X7 (a11.view.writes (Elt Ideal) a11.view.junk (point.sl.H11_32 a3 X3)) (a12.view.writes (Elt Ideal) a12.view.junk (point.sl.H12_32 a5 X5)) f9 f10 (a13.view.writes (Elt Ideal) a13.view.junk (point.sl.H13_1 (F := Ideal))) (a14.view.writes (Elt Ideal) a14.view.junk (point.sl.H14_1 (F := Ideal))) (Scf.trips k0_t1_loop.lb k0_t1_loop.ub k0_t1_loop.st)).2.2.1 m13
  have n14 := List.mem_append_right (pb1 (F := Ideal) c i a2 b2 a3 b3 a4 b4 a5 b5 a6 b6 a7 b7 a8 b8 a9 b9 a10 b10 a11 b11 a12 b12 a13 b13 a14 b14 (0#32) (1#32) X2 X3 X4 X6 X7 (a11.view.writes (Elt Ideal) a11.view.junk (point.sl.H11_32 a3 X3)) (a12.view.writes (Elt Ideal) a12.view.junk (point.sl.H12_32 a5 X5)) f9 f10 (a13.view.writes (Elt Ideal) a13.view.junk (point.sl.H13_1 (F := Ideal))) (a14.view.writes (Elt Ideal) a14.view.junk (point.sl.H14_1 (F := Ideal))) (Scf.trips k0_t1_loop.lb k0_t1_loop.ub k0_t1_loop.st)).2.2.2 m14
  unfold point
  refine ⟨U2.all (n := 2048) (g := fun t e => dqF G 8 e t) (U2.four (n := 1792) (U2.four (n := 1536) (U2.four (n := 1280) (U2.four (n := 1024) (U2.four (n := 768) (U2.four (n := 512) (U2.four (n := 256) (U2.four (n := 0) U2.none rfl rfl rfl rfl (tr8 (tqq j13 n13 0 0 rfl (by omega) (by omega))) (tr8 (tqq j13 n13 0 128 rfl (by omega) (by omega))) (tr8 (tqq j13 n13 0 256 rfl (by omega) (by omega))) (tr8 (tqq j13 n13 0 384 rfl (by omega) (by omega)))) rfl rfl rfl rfl (tr8 (tqq j13 n13 256 0 rfl (by omega) (by omega))) (tr8 (tqq j13 n13 256 128 rfl (by omega) (by omega))) (tr8 (tqq j13 n13 256 256 rfl (by omega) (by omega))) (tr8 (tqq j13 n13 256 384 rfl (by omega) (by omega)))) rfl rfl rfl rfl (tr8 (tqq j13 n13 512 0 rfl (by omega) (by omega))) (tr8 (tqq j13 n13 512 128 rfl (by omega) (by omega))) (tr8 (tqq j13 n13 512 256 rfl (by omega) (by omega))) (tr8 (tqq j13 n13 512 384 rfl (by omega) (by omega)))) rfl rfl rfl rfl (tr8 (tqq j13 n13 768 0 rfl (by omega) (by omega))) (tr8 (tqq j13 n13 768 128 rfl (by omega) (by omega))) (tr8 (tqq j13 n13 768 256 rfl (by omega) (by omega))) (tr8 (tqq j13 n13 768 384 rfl (by omega) (by omega)))) rfl rfl rfl rfl (tr8 (tqq j13 n13 1024 0 rfl (by omega) (by omega))) (tr8 (tqq j13 n13 1024 128 rfl (by omega) (by omega))) (tr8 (tqq j13 n13 1024 256 rfl (by omega) (by omega))) (tr8 (tqq j13 n13 1024 384 rfl (by omega) (by omega)))) rfl rfl rfl rfl (tr8 (tqq j13 n13 1280 0 rfl (by omega) (by omega))) (tr8 (tqq j13 n13 1280 128 rfl (by omega) (by omega))) (tr8 (tqq j13 n13 1280 256 rfl (by omega) (by omega))) (tr8 (tqq j13 n13 1280 384 rfl (by omega) (by omega)))) rfl rfl rfl rfl (tr8 (tqq j13 n13 1536 0 rfl (by omega) (by omega))) (tr8 (tqq j13 n13 1536 128 rfl (by omega) (by omega))) (tr8 (tqq j13 n13 1536 256 rfl (by omega) (by omega))) (tr8 (tqq j13 n13 1536 384 rfl (by omega) (by omega)))) rfl rfl rfl rfl (tr8 (tqq j13 n13 1792 0 rfl (by omega) (by omega))) (tr8 (tqq j13 n13 1792 128 rfl (by omega) (by omega))) (tr8 (tqq j13 n13 1792 256 rfl (by omega) (by omega))) (tr8 (tqq j13 n13 1792 384 rfl (by omega) (by omega)))) le_rfl, j9, ?_⟩
  refine R2.congr (U2.all (U2.st_two (s0 := 256) (s1 := 128) j10 1792 rfl rfl (fun u r => g14 1 r (u - 1792)) (R2.congr (r_transpose (r_sc_S1x128x256_f32 (tvv i14 n14 0 rfl (by omega)))) fun u r _ _ => by simp only [Nat.add_zero, Nat.zero_add, Nat.add_sub_cancel_left]) (R2.congr (r_transpose (r_sc_S1x128x256_f32 (tvv i14 n14 128 rfl (by omega)))) fun u r _ _ => by simp only [Nat.add_zero, Nat.zero_add, Nat.add_sub_cancel_left]) le_rfl le_rfl) le_rfl) fun u r hu _ => ?_
  beta_reduce
  split_ifs with hc
  · rw [hg' _ _ (by omega)]; congr 1; omega
  · rfl

end Cert.MlaIdeal.Gen

end
-- ==== Proof.MlaIdealFinal.lean ====
/- The attention's backward call over the reals: the blocks a grid point reads, what it leaves, and the arrays of all points. -/
module

public import proofs.«01_k».proof.Proof.MlaIdealHostVal
public import proofs.«01_k».proof.Proof.MlaIdealFrame
public import proofs.«01_k».proof.Proof.MlaIdealPointVal

@[expose] public section

set_option maxRecDepth 16384

noncomputable section

namespace Cert.MlaM

open Idealize.ShloMosaic Idealize.ShloMosaic.TcCoe Idealize.SL.Sem Cert.Coe Cert.MlaIdeal Cert.MlaIdeal.Gen
open Idealize.ShloMosaic.Pipeline (Dat)

theorem in0 : ∀ t : Fin cfg0.N, win0_0.index t = ![t.val / 2, t.val % 2] := (by decide +kernel : ∀ t : Fin grid0.N, _)
theorem in1 : ∀ t : Fin cfg0.N, win0_1.index t = ![t.val / 2, t.val % 2] := (by decide +kernel : ∀ t : Fin grid0.N, _)
theorem in2 : ∀ t : Fin cfg0.N, win0_2.index t = ![t.val / 2, t.val % 2] := (by decide +kernel : ∀ t : Fin grid0.N, _)
theorem in3 : ∀ t : Fin cfg0.N, win0_3.index t = ![t.val / 2, t.val % 2] := (by decide +kernel : ∀ t : Fin grid0.N, _)
theorem in4 : ∀ t : Fin cfg0.N, win0_4.index t = ![t.val % 2, 0, t.val / 2] := (by decide +kernel : ∀ t : Fin grid0.N, _)
theorem in5 : ∀ t : Fin cfg0.N, win0_5.index t = ![t.val / 2, t.val % 2, 0, 0] := (by decide +kernel : ∀ t : Fin grid0.N, _)
theorem in6 : ∀ t : Fin cfg0.N, win0_6.index t = ![t.val / 2, t.val % 2] := (by decide +kernel : ∀ t : Fin grid0.N, _)
theorem in7 : ∀ t : Fin cfg0.N, win0_7.index t = ![t.val / 2, t.val % 2] := (by decide +kernel : ∀ t : Fin grid0.N, _)
theorem in8 : ∀ t : Fin cfg0.N, win0_8.index t = ![t.val / 2, t.val % 2] := (by decide +kernel : ∀ t : Fin grid0.N, _)
theorem lt (t : Fin cfg0.N) : t.val < 8 := t.isLt

variable {m : (ℓ : Loc nD τ sig) → Buf (Elt Ideal) ℓ} {c : Dev nD} {A : Att} (H : Holds m c A) (t : Fin cfg0.N)

include H in
theorem blk0 : R2 (iblk m c 0 t : Vec Ideal S2048x512 .bf16) (A.grp (t / 2) (t % 2)).q := by
  intro r d
  have e : iblk m c 0 t (ix2 r d) = V m c main_v46 (ix2 ⟨2048 * (t / 2) + r, by have := lt t; omega⟩ ⟨512 * (t % 2) + d, by omega⟩) := by blk_ext [iblk, in0 t]
  rw [e, a46 H]
  show ((_ * A.sc / Real.log 2 : ℝ) : EReal) = ((_ * A.sc / Real.log 2 : ℝ) : EReal)
  simp only [show (2048 * (t.val / 2) + r.val) / 2048 = t / 2 by omega, show (2048 * (t.val / 2) + r.val) % 2048 = r by omega, show (512 * (t.val % 2) + d.val) / 128 = 4 * (t % 2) + d / 128 by omega, show (512 * (t.val % 2) + d.val) % 128 = d % 128 by omega]
include H in
theorem blk1 : R2 (iblk m c 1 t : Vec Ideal S2048x512 .bf16) (A.grp (t / 2) (t % 2)).k := by
  intro r d
  have e : iblk m c 1 t (ix2 r d) = V m c main_v48 (ix2 ⟨2048 * (t / 2) + r, by have := lt t; omega⟩ ⟨512 * (t % 2) + d, by omega⟩) := by blk_ext [iblk, in1 t]
  rw [e, a48 H]
  simp only [show (2048 * (t.val / 2) + r.val) / 2048 = t / 2 by omega, show (2048 * (t.val / 2) + r.val) % 2048 = r by omega, show (512 * (t.val % 2) + d.val) / 128 = 4 * (t % 2) + d / 128 by omega, show (512 * (t.val % 2) + d.val) % 128 = d % 128 by omega]
  rfl
include H in
theorem blk2 : R2 (iblk m c 2 t : Vec Ideal S2048x256 .bf16) (A.grp (t / 2) (t % 2)).v := by
  intro r d
  have e : iblk m c 2 t (ix2 r d) = V m c main_v50 (ix2 ⟨2048 * (t / 2) + r, by have := lt t; omega⟩ ⟨256 * (t % 2) + d, by omega⟩) := by blk_ext [iblk, in2 t]
  rw [e, a50 H]
  simp only [show (2048 * (t.val / 2) + r.val) / 2048 = t / 2 by omega, show (2048 * (t.val / 2) + r.val) % 2048 = r by omega, show (256 * (t.val % 2) + d.val) / 64 = 4 * (t % 2) + d / 64 by omega, show (256 * (t.val % 2) + d.val) % 64 = d % 64 by omega]
  rfl
include H in
theorem blk3 : R2 (iblk m c 3 t : Vec Ideal S2048x256 .bf16) (A.grp (t / 2) (t % 2)).d := by
  intro r d
  have e : iblk m c 3 t (ix2 r d) = V m c main_v52 (ix2 ⟨2048 * (t / 2) + r, by have := lt t; omega⟩ ⟨256 * (t % 2) + d, by omega⟩) := by blk_ext [iblk, in3 t]
  rw [e, a52 H]
  simp only [show (2048 * (t.val / 2) + r.val) / 2048 = t / 2 by omega, show (2048 * (t.val / 2) + r.val) % 2048 = r by omega, show (256 * (t.val % 2) + d.val) / 64 = 4 * (t % 2) + d / 64 by omega, show (256 * (t.val % 2) + d.val) % 64 = d % 64 by omega]
  rfl
include H in
theorem blk4 : R3 (iblk m c 4 t : Vec Ideal S1x4x2048 .f32) (fun _ h r => (A.grp (t / 2) (t % 2)).dl h r) := by
  intro i h r
  have e : iblk m c 4 t (ix3 i h r) = V m c main_v37 (ix3 ⟨t % 2, by omega⟩ h ⟨2048 * (t / 2) + r, by have := lt t; omega⟩) := by blk_ext [iblk, in4 t]
  rw [e, a37 H]
  simp only [show (2048 * (t.val / 2) + r.val) / 2048 = t / 2 by omega, show (2048 * (t.val / 2) + r.val) % 2048 = r by omega]
  rfl
include H in
theorem blk5 : R4 (iblk m c 5 t : Vec Ideal S1x1x4x2048 .f32) (fun _ _ h r => (A.grp (t / 2) (t % 2)).ls h r) := by
  intro i j h r
  have e : iblk m c 5 t (ix4 i j h r) = V m c main_v38 (ix4 ⟨t / 2, by have := lt t; omega⟩ ⟨t % 2, by omega⟩ h r) := by blk_ext [iblk, in5 t]
  rw [e, a38 H]
  rfl

/-- What a point leaves. -/
def q6 (A : Att) (t : ℕ) : Vec Ideal S2048x512 .f32 := c2 fun r d => A.dq (t / 2) r (4 * (t % 2) + d / 128) (d % 128)
def q7 (A : Att) (t : ℕ) : Vec Ideal S2048x512 .f32 := c2 fun r d => A.dk (t / 2) r (4 * (t % 2) + d / 128) (d % 128)
def q8 (A : Att) (t : ℕ) : Vec Ideal S2048x256 .f32 := c2 fun r d => A.dv (t / 2) r (4 * (t % 2) + d / 64) (d % 64)

include H in
theorem point_out (f8 f9 f10) : (ms0_6 t).view.read (Elt Ideal) ((ms0_6 t).view.writes (Elt Ideal) f8 ((PT m c t).1 f8 f9 f10)) = q6 A t
    ∧ (ms0_7 t).view.read (Elt Ideal) ((ms0_7 t).view.writes (Elt Ideal) f9 ((PT m c t).2.1 f8 f9 f10)) = q7 A t
    ∧ (ms0_8 t).view.read (Elt Ideal) ((ms0_8 t).view.writes (Elt Ideal) f10 ((PT m c t).2.2.1 f8 f9 f10)) = q8 A t := by
  obtain ⟨e6, e7, e8⟩ := point_val c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) scM0_0 (Memref.isWhole_whole _) scM0_1 (Memref.isWhole_whole _) scM0_2 (Memref.isWhole_whole _) scM0_3 (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))
    (A.grp (t / 2) (t % 2)) (by rw [Memref.IsWhole.read_unread]; exact blk0 H t) (by rw [Memref.IsWhole.read_unread]; exact blk1 H t) (by rw [Memref.IsWhole.read_unread]; exact blk2 H t) (by rw [Memref.IsWhole.read_unread]; exact blk3 H t)
    (by rw [Memref.IsWhole.read_unread]; exact blk4 H t) (by rw [Memref.IsWhole.read_unread]; exact blk5 H t) f8 f9 f10
  refine ⟨(eq_of_R2 e6).trans ?_, (eq_of_R2 e7).trans ?_, (eq_of_R2 e8).trans ?_⟩
  · unfold q6; congr 1; funext r d; exact A.grp_dq r.isLt d
  · unfold q7; congr 1; funext r d; exact A.grp_dk r d
  · unfold q8; congr 1; funext r d; exact A.grp_dv r d

/-- An entry of a point's block is the entry of the whole array. -/
theorem at_blk {n : ℕ} (w s : ℕ) (f : ℕ → ℕ → ℕ → ℕ → ℝ) {t : ℕ} (hn : 4 * w = n) (hw : 0 < w) (y : Shape.Idx ⟨2, ![2048, n]⟩) (j : Shape.Idx ⟨2, ![8192, 2 * n]⟩)
    (h0 : (j 0 : ℕ) = 2048 * (t / 2) + y 0) (h1 : (j 1 : ℕ) = n * (t % 2) + y 1) :
    c2 (fun (r : Fin 2048) (d : Fin n) => f (t / 2) r (4 * (t % 2) + d / w) (d % w)) y = c2 (fun (r : Fin 8192) (d : Fin (2 * n)) => f (r / 2048) (r % 2048) (d / w) (d % w)) j := by
  subst hn
  have y0 : (y 0 : ℕ) < 2048 := (y 0 : Fin 2048).isLt
  show ((f _ _ _ _ : ℝ) : EReal) = ((f ((j 0 : ℕ) / 2048) ((j 0 : ℕ) % 2048) ((j 1 : ℕ) / w) ((j 1 : ℕ) % w) : ℝ) : EReal)
  rw [h0, h1, show (2048 * (t / 2) + (y 0 : ℕ)) / 2048 = t / 2 by omega, show (2048 * (t / 2) + (y 0 : ℕ)) % 2048 = y 0 by omega,
    show 4 * w * (t % 2) = w * (4 * (t % 2)) by ring, Nat.mul_add_div hw, Nat.mul_add_mod]

variable (B : Dev nD → Att)

abbrev DD := datsOf m (fun c t => q6 (B c) t) (fun c t => q7 (B c) t) (fun c t => q8 (B c) t)

variable (c)
theorem all6 : (DD (m := m) B 0 c).arrAt 6 (cfgs 0).N = dqA (B c) := by
  refine (DD (m := m) B 0 c).arrAt_eq_of_covers 6 _ (by decide +kernel) fun t hf y => ?_
  blk_simp
  rw [after0_6]
  exact at_blk 128 0 (B c).dq rfl (by norm_num) y _ (by blk_simp [in6 t]; omega) (by blk_simp [in6 t]; omega)
theorem all7 : (DD (m := m) B 0 c).arrAt 7 (cfgs 0).N = dkA (B c) := by
  refine (DD (m := m) B 0 c).arrAt_eq_of_covers 7 _ (by decide +kernel) fun t hf y => ?_
  blk_simp
  rw [after0_7]
  exact at_blk 128 0 (B c).dk rfl (by norm_num) y _ (by blk_simp [in7 t]; omega) (by blk_simp [in7 t]; omega)
theorem all8 : (DD (m := m) B 0 c).arrAt 8 (cfgs 0).N = dvA (B c) := by
  refine (DD (m := m) B 0 c).arrAt_eq_of_covers 8 _ (by decide +kernel) fun t hf y => ?_
  blk_simp
  rw [after0_8]
  exact at_blk 64 0 (B c).dv rfl (by norm_num) y _ (by blk_simp [in8 t]; omega) (by blk_simp [in8 t]; omega)

end Cert.MlaM

end
-- ==== Proof.MlaRefVal.lean ====
/- The attention's reference over the reals: what the transposes of its softmax and its products make of real arguments. -/
module

public import proofs.«01_k».proof.Proof.MlaSoft
public import proofs.«01_k».proof.Proof.Gen.MlaRefIdeal.Run

@[expose] public section

set_option maxRecDepth 16384

noncomputable section

namespace Cert.MlaR

open Idealize.ShloMosaic Idealize.ShloMosaic.TcCoe Idealize.SL.Sem Idealize.ShloMosaic.StableHlo Cert.Coe Cert.MlaRefIdeal Cert.MlaRefIdeal.Gen Cert.MlaRefIdeal.Value Cert.MlaM
open Cert.MlaIdeal.Gen (R2 R3 R4)

def kpR (x3 : FVec Ideal S4x2048x32 .f32) : FVec Ideal S4x2048x8x32 .f32 :=
  broadcastInDim S4x2048x8x32 ![0, 1, 2, 3] bcast_S4x2048x1x32_S4x2048x8x32_0_1_2_3 (broadcastInDim S4x2048x1x32 ![0, 1, 3] bcast_S4x2048x32_S4x2048x1x32_0_1_3 x3)
def sclR : FVec Ideal S4x8x2048x2048 .f32 := broadcastInDim S4x8x2048x2048 ![] bcast_S_S4x8x2048x2048 (constant S_ .f32 0x3DD105EC#32)
/-- The mask and the masked scores. -/
def mR : IVec S4x8x2048x2048 1 :=
  broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
def wR (qn : FVec Ideal S4x2048x8x64 .f32) (qp : FVec Ideal S4x2048x8x32 .f32) (kn : FVec Ideal S4x2048x8x64 .f32) (kp : FVec Ideal S4x2048x8x32 .f32) : FVec Ideal S4x8x2048x2048 .f32 :=
  select mR (mulf (addf (Host.dotGeneral dot_S4x2048x8x64_S4x2048x8x64_S4x8x2048x2048_3_3_1_1_02_02 none qn kn) (Host.dotGeneral dot_S4x2048x8x32_S4x2048x8x32_S4x8x2048x2048_3_3_1_1_02_02 none qp kp)) sclR) (broadcastInDim S4x8x2048x2048 ![] bcast_S_S4x8x2048x2048 (constant S_ .f32 0xFF800000#32 : FVec Ideal S_ .f32))
def up1 (y : FVec Ideal S4x8x2048 .f32) : FVec Ideal S4x8x2048x1 .f32 := broadcastInDim S4x8x2048x1 ![0, 1, 2] bcast_S4x8x2048_S4x8x2048x1_0_1_2 y
def upN (y : FVec Ideal S4x8x2048x1 .f32) : FVec Ideal S4x8x2048x2048 .f32 := broadcastInDim S4x8x2048x2048 ![0, 1, 2, 3] bcast_S4x8x2048x1_S4x8x2048x2048_0_1_2_3 y
/-- The rows' largest entries, the exponentials, their sums, the probabilities. -/
def mxR (w : FVec Ideal S4x8x2048x2048 .f32) : FVec Ideal S4x8x2048 .f32 :=
  maximumf (broadcastInDim S4x8x2048 ![] bcast_S_S4x8x2048 (constant S_ .f32 0xFF800000#32)) (Host.reduce (FloatOps.maximumf (F := Ideal) (φ := .f32)) w (constant S_ .f32 0xFF800000#32) reducesTo_S4x8x2048x2048_S4x8x2048_d3 h_S_)
def exR (w : FVec Ideal S4x8x2048x2048 .f32) : FVec Ideal S4x8x2048x2048 .f32 := Host.exp (subf w (upN (up1 (mxR w))))
def sum1 (x : FVec Ideal S4x8x2048x2048 .f32) : FVec Ideal S4x8x2048 .f32 := Host.reduceAdd x (constant S_ .f32 0x00000000#32) reducesTo_S4x8x2048x2048_S4x8x2048_d3 h_S_
def smR (w : FVec Ideal S4x8x2048x2048 .f32) : FVec Ideal S4x8x2048x1 .f32 := up1 (sum1 (exR w))
def prR (w : FVec Ideal S4x8x2048x2048 .f32) : FVec Ideal S4x8x2048x2048 .f32 := Host.divf (exR w) (upN (smR w))
/-- The cotangent with columns before rows, and the probabilities' cotangent. -/
def dR (d : FVec Ideal S4x2048x8x64 .f32) : FVec Ideal S4x8x64x2048 .f32 := transpose S4x8x64x2048 [0, 2, 3, 1] d transposes_S4x2048x8x64_S4x8x64x2048_0_2_3_1
def ctR (v d : FVec Ideal S4x2048x8x64 .f32) : FVec Ideal S4x8x2048x2048 .f32 :=
  Host.dotGeneral dot_S4x8x64x2048_S4x2048x8x64_S4x8x2048x2048_2_3_3_1_01_02 none (dR d) v
/-- One over the square of the rows' sums. -/
def ivR (w : FVec Ideal S4x8x2048x2048 .f32) : FVec Ideal S4x8x2048x1 .f32 :=
  Host.divf (broadcastInDim S4x8x2048x1 ![] bcast_S_S4x8x2048x1 (constant S_ .f32 0x3F800000#32)) (mulf (smR w) (smR w))
/-- The scores' cotangent. -/
def acR (w ct : FVec Ideal S4x8x2048x2048 .f32) : FVec Ideal S4x8x2048 .f32 :=
  Host.reduceAdd (Host.negf (shapeCast S4x8x2048x1 (sum1 (mulf (mulf ct (upN (ivR w))) (exR w))) shapeCasts_S4x8x2048_S4x8x2048x1)) (constant S_ .f32 0x00000000#32) reducesTo_S4x8x2048x1_S4x8x2048_d3 h_S_
def dsR (w ct : FVec Ideal S4x8x2048x2048 .f32) : FVec Ideal S4x8x2048x2048 .f32 :=
  mulf (select mR (mulf (addf (Host.divf ct (upN (smR w))) (broadcastInDim S4x8x2048x2048 ![0, 1, 2] bcast_S4x8x2048_S4x8x2048x2048_0_1_2 (acR w ct))) (exR w))
    (broadcastInDim S4x8x2048x2048 ![] bcast_S_S4x8x2048x2048 (constant S_ .f32 0x00000000#32 : FVec Ideal S_ .f32))) sclR
/-- A gradient's two parts padded to 128 columns and divided by a constant, by rows. -/
def padR (x : FVec Ideal S4x2048x8x64 .f32) (y : FVec Ideal S4x2048x8x32 .f32) (z : FVec Ideal S4x2048x8x128 .f32) : FVec Ideal S8192x1024 .f32 :=
  shapeCast S8192x1024 (Host.divf (concatenate S4x2048x8x128 3 [⟨S4x2048x8x64, x⟩, ⟨S4x2048x8x32, y⟩, ⟨S4x2048x8x32, broadcastInDim S4x2048x8x32 ![] bcast_S_S4x2048x8x32 (constant S_ .f32 0x00000000#32)⟩] concatenates_S4x2048x8x64_S4x2048x8x32_S4x2048x8x32_S4x2048x8x128_d3) z) shapeCasts_S4x2048x8x128_S8192x1024
def dqR (ds : FVec Ideal S4x8x2048x2048 .f32) (kn : FVec Ideal S4x2048x8x64 .f32) (kp : FVec Ideal S4x2048x8x32 .f32) : FVec Ideal S8192x1024 .f32 :=
  padR (transpose S4x2048x8x64 [0, 2, 1, 3] (Host.dotGeneral dot_S4x8x2048x2048_S4x2048x8x64_S4x8x2048x64_3_1_2_3_01_02 none ds kn) transposes_S4x8x2048x64_S4x2048x8x64_0_2_1_3)
    (transpose S4x2048x8x32 [0, 2, 1, 3] (Host.dotGeneral dot_S4x8x2048x2048_S4x2048x8x32_S4x8x2048x32_3_1_2_3_01_02 none ds kp) transposes_S4x8x2048x32_S4x2048x8x32_0_2_1_3)
    (broadcastInDim S4x2048x8x128 ![] bcast_S_S4x2048x8x128 (constant S_ .f32 0x3DD105EC#32))
def dkR (ds : FVec Ideal S4x8x2048x2048 .f32) (qn : FVec Ideal S4x2048x8x64 .f32) (qp : FVec Ideal S4x2048x8x32 .f32) : FVec Ideal S8192x1024 .f32 :=
  padR (transpose S4x2048x8x64 [0, 2, 1, 3] (Host.dotGeneral dot_S4x8x2048x2048_S4x2048x8x64_S4x8x2048x64_2_1_3_3_01_02 none ds qn) transposes_S4x8x2048x64_S4x2048x8x64_0_2_1_3)
    (transpose S4x2048x8x32 [0, 2, 1, 3] (Host.dotGeneral dot_S4x8x2048x2048_S4x2048x8x32_S4x8x2048x32_2_1_3_3_01_02 none ds qp) transposes_S4x8x2048x32_S4x2048x8x32_0_2_1_3)
    (broadcastInDim S4x2048x8x128 ![] bcast_S_S4x2048x8x128 (Host.log (constant S_ .f32 0x40000000#32)))
def dvR (p : FVec Ideal S4x8x2048x2048 .f32) (d : FVec Ideal S4x2048x8x64 .f32) : FVec Ideal S8192x512 .f32 :=
  shapeCast S8192x512 (transpose S4x2048x8x64 [0, 3, 1, 2] (Host.dotGeneral dot_S4x8x64x2048_S4x8x2048x2048_S4x8x64x2048_3_2_2_3_01_01 none (dR d) p) transposes_S4x8x64x2048_S4x2048x8x64_0_3_1_2) shapeCasts_S4x2048x8x64_S8192x512

variable (m : (ℓ : Loc nD τ sig) → Buf (Elt Ideal) ℓ) (c : Dev nD)

/-- The arguments in memory. -/
abbrev y0 : FVec Ideal S4x2048x8x64 .f32 := m ((c.tc : Thread nD τ).loc main_arg0)
abbrev y1 : FVec Ideal S4x2048x8x32 .f32 := m ((c.tc : Thread nD τ).loc main_arg1)
abbrev y2 : FVec Ideal S4x2048x8x64 .f32 := m ((c.tc : Thread nD τ).loc main_arg2)
abbrev y3 : FVec Ideal S4x2048x32 .f32 := m ((c.tc : Thread nD τ).loc main_arg3)
abbrev y4 : FVec Ideal S4x2048x8x64 .f32 := m ((c.tc : Thread nD τ).loc main_arg4)
abbrev y5 : FVec Ideal S4x2048x8x64 .f32 := m ((c.tc : Thread nD τ).loc main_arg5)
def memR : FVec Ideal S4x8x2048x2048 .f32 := wR (y0 m c) (y1 m c) (y2 m c) (kpR (y3 m c))

theorem out2_eq : res_out2 m c = dvR (prR (memR m c)) (y5 m c) := rfl
theorem out1_eq : res_out1 m c = dkR (dsR (memR m c) (ctR (y4 m c) (y5 m c))) (y0 m c) (y1 m c) := rfl
theorem out0_eq : res_out0 m c = dqR (dsR (memR m c) (ctR (y4 m c) (y5 m c))) (y2 m c) (kpR (y3 m c)) := rfl

theorem kpR_val {x : FVec Ideal S4x2048x32 .f32} {f : ℕ → ℕ → ℕ → ℝ} (h : R3 x f) : R4 (kpR x) (fun i j _ l => f i j l) := by
  intro i j k l; unfold kpR; pointwise; exact h i j l

variable {A : Att}

/-- A product over 128 columns is one over the first 64 and one over the next 32. -/
theorem sQK (b h t u : ℕ) : ∑ e ∈ Finset.range 64, A.qn b t h e * A.kn b u h e + ∑ e ∈ Finset.range 32, A.qp b t h e * A.kp b u e = ∑ e ∈ Finset.range 128, A.Q b t h e * A.K b u h e := by
  rw [show 128 = 64 + (32 + 32) from rfl, Finset.sum_range_add, Finset.sum_range_add]
  refine congrArg₂ (· + ·) (Finset.sum_congr rfl fun e he => ?_) ((add_zero _).symm.trans (congrArg₂ (· + ·) (Finset.sum_congr rfl fun e he => ?_) (Finset.sum_eq_zero fun e he => ?_).symm))
  · rw [Finset.mem_range] at he; unfold Att.Q Att.K; rw [if_pos he, if_pos he]
  · rw [Finset.mem_range] at he; unfold Att.Q Att.K; rw [if_neg (by omega), if_pos (by omega), if_neg (by omega), if_pos (by omega), Nat.add_sub_cancel_left]
  · unfold Att.Q; rw [if_neg (by omega), if_neg (by omega), zero_mul]
theorem mR_val (i : Fin 4) (j : Fin 8) (k l : Fin 2048) : mR (ix4 i j k l) = if l.val ≤ k.val then 1#1 else 0#1 := cmp_val _ _ _ _ _ i j k l
theorem wR_val (hs : A.sc = scl) {qn kn : FVec Ideal S4x2048x8x64 .f32} {qp kp : FVec Ideal S4x2048x8x32 .f32} (h0 : R4 qn A.qn) (h1 : R4 qp A.qp) (h2 : R4 kn A.kn) (h3 : R4 kp (fun b u _ e => A.kp b u e)) :
    SM (wR qn qp kn kp) A.s := by
  refine mask_val mR_val ?_ (fun i => ?_)
  · unfold Att.s; rw [hs]
    refine mul_val ((add_val (f := fun b h t u => ∑ e ∈ Finset.range 64, A.qn b t h e * A.kn b u h e) (g := fun b h t u => ∑ e ∈ Finset.range 32, A.qp b t h e * A.kp b u e) ?_ ?_).congr fun b h t u _ _ _ _ => sQK b h t u) (scl_val _)
    · intro b h t u; pointwise
      rw [← Fin.sum_univ_eq_sum_range (fun e => A.qn b t h e * A.kn b u h e), ← coe_sum]
      exact Finset.sum_congr rfl fun e _ => by rw [h0, h2, ← EReal.coe_mul]
    · intro b h t u; pointwise
      rw [← Fin.sum_univ_eq_sum_range (fun e => A.qp b t h e * A.kp b u e), ← coe_sum]
      exact Finset.sum_congr rfl fun e _ => by rw [h1, h3, ← EReal.coe_mul]
  · idx_vars i; pointwise [kBot]

variable {w ct : FVec Ideal S4x8x2048x2048 .f32}

theorem mxR_val {μ : ℕ → ℕ → ℕ → ℝ} {y : FVec Ideal S4x8x2048 .f32} (h : R3 y μ) : R3 (maximumf (broadcastInDim S4x8x2048 ![] bcast_S_S4x8x2048 (constant S_ .f32 0xFF800000#32)) y) μ := by
  intro i j k; pointwise [kBot]; rw [h]; exact bot_sup_eq _
/-- The softmax's parts off the rows' largest entries. -/
theorem softR (hw : SM w A.s) : ∃ μ : ℕ → ℕ → ℕ → ℝ, R4 (exR w) (fun i j k l => A.Eo (μ i j k) i j k l)
    ∧ R4 (smR w) (fun i j k _ => ∑ l ∈ Finset.range 2048, A.Eo (μ i j k) i j k l) := by
  obtain ⟨μ, hμ⟩ := rows_max reducesTo_S4x8x2048x2048_S4x8x2048_d3 h_S_ hw
  have b := exp_val hw (bcW_val bcast_S4x8x2048x1_S4x8x2048x2048_0_1_2_3 (bcU_val bcast_S4x8x2048_S4x8x2048x1_0_1_2 (mxR_val hμ)))
  exact ⟨μ, b, bcU_val bcast_S4x8x2048_S4x8x2048x1_0_1_2 (sum_val reducesTo_S4x8x2048x2048_S4x8x2048_d3 h_S_ b)⟩
theorem prR_val (hw : SM w A.s) : R4 (prR w) A.p := by
  obtain ⟨μ, b, d⟩ := softR hw
  intro i j k l
  refine (div_val b (bcW_val bcast_S4x8x2048x1_S4x8x2048x2048_0_1_2_3 d) (fun i j k l _ _ hk _ => (A.sum_Eo_pos _ hk).ne') i j k l).trans ?_
  exact congrArg _ (A.Eo_div ..)
theorem dR_val {d : FVec Ideal S4x2048x8x64 .f32} {f : ℕ → ℕ → ℕ → ℕ → ℝ} (h : R4 d f) : R4 (dR d) (fun i k l j => f i j k l) := by
  intro i j k l; unfold dR; pointwise; exact h ..
theorem ctR_val {v d : FVec Ideal S4x2048x8x64 .f32} (hv : R4 v A.v) (hd : R4 d A.d) : R4 (ctR v d) A.dp := by
  intro b h t u; unfold ctR Att.dp; pointwise
  rw [← Fin.sum_univ_eq_sum_range (fun e => A.v b u h e * A.d b t h e), ← coe_sum]
  exact Finset.sum_congr rfl fun e _ => by rw [dR_val hd, hv, ← EReal.coe_mul, mul_comm (A.d ..)]
theorem one_val : R4 (broadcastInDim S4x8x2048x1 ![] bcast_S_S4x8x2048x1 (constant S_ .f32 0x3F800000#32) : FVec Ideal S4x8x2048x1 .f32) (fun _ _ _ _ => 1) := by
  intro i j k l; pointwise; simp [Ideal.ofBits, Ideal.ieee]
/-- A sum over an axis of one entry, negated. -/
theorem neg1_val {y : FVec Ideal S4x8x2048 .f32} {f : ℕ → ℕ → ℕ → ℝ} (h : R3 y f) :
    R3 (Host.reduceAdd (Host.negf (shapeCast S4x8x2048x1 y shapeCasts_S4x8x2048_S4x8x2048x1)) (constant S_ .f32 0x00000000#32) reducesTo_S4x8x2048x1_S4x8x2048_d3 h_S_ : FVec Ideal S4x8x2048 .f32) (fun i j k => -f i j k) := by
  intro i j k; pointwise
  rw [h, ← EReal.coe_neg]
  exact Fin.sum_univ_one _
theorem bc3_val {y : FVec Ideal S4x8x2048 .f32} {f : ℕ → ℕ → ℕ → ℝ} (h : R3 y f) :
    R4 (broadcastInDim S4x8x2048x2048 ![0, 1, 2] bcast_S4x8x2048_S4x8x2048x2048_0_1_2 y) (fun i j k _ => f i j k) := by
  intro i j k l; pointwise; exact h i j k
theorem sel_val {x : FVec Ideal S4x8x2048x2048 .f32} {f : ℕ → ℕ → ℕ → ℕ → ℝ} (h : R4 x f) (h0 : ∀ i j k l, k < l → f i j k l = 0) :
    R4 (select mR x (broadcastInDim S4x8x2048x2048 ![] bcast_S_S4x8x2048x2048 (constant S_ .f32 0x00000000#32 : FVec Ideal S_ .f32))) f := by
  intro i j k l; pointwise [mR_val]
  split_ifs with e
  · exact h i j k l
  · rw [h0 _ _ _ _ (by omega)]; exact zero_real.symm
theorem ds_zero {b h t u : ℕ} (hu : t < u) : A.ds b h t u = 0 := by
  unfold Att.ds Att.p Att.E; rw [if_neg (by omega), zero_div, zero_mul]
/-- The scores' cotangent. -/
theorem dsR_val (hw : SM w A.s) (hc : R4 ct A.dp) : R4 (dsR w ct) (fun i j k l => A.ds i j k l * scl) := by
  obtain ⟨μ, b, d⟩ := softR hw
  have n := fun (i j k l : ℕ) (_ : i < 4) (_ : j < 8) (hk : k < 2048) => (A.sum_Eo_pos (μ i j k) (b := i) (h := j) hk).ne'
  have iv := div_val one_val (mul_val d d) (fun i j k l hi hj hk _ => mul_ne_zero (n i j k l hi hj hk) (n i j k l hi hj hk))
  have su := sum_val reducesTo_S4x8x2048x2048_S4x8x2048_d3 h_S_ (mul_val (mul_val hc (bcW_val (μ := fun i j k => 1 / ((∑ l ∈ Finset.range 2048, A.Eo (μ i j k) i j k l) * (∑ l ∈ Finset.range 2048, A.Eo (μ i j k) i j k l))) bcast_S4x8x2048x1_S4x8x2048x2048_0_1_2_3 iv)) b)
  have q := div_val hc (bcW_val (μ := fun i j k => ∑ l ∈ Finset.range 2048, A.Eo (μ i j k) i j k l) bcast_S4x8x2048x1_S4x8x2048x2048_0_1_2_3 d) (fun i j k l hi hj hk _ => n i j k l hi hj hk)
  have r : R4 _ A.ds := (mul_val (add_val q (bc3_val (neg1_val su))) b).congr fun i j k l _ _ hk _ => A.ds_eq (μ i j k) hk l
  exact mul_val (sel_val r fun i j k l h => ds_zero h) (scl_val _)
theorem padR_val {x : FVec Ideal S4x2048x8x64 .f32} {y : FVec Ideal S4x2048x8x32 .f32} {z : FVec Ideal S4x2048x8x128 .f32} {f g : ℕ → ℕ → ℕ → ℕ → ℝ} {κ : ℝ} (hx : R4 x f) (hy : R4 y g) (hz : R4 z (fun _ _ _ _ => κ)) (hκ : κ ≠ 0) :
    R2 (padR x y z) (fun n r => (if r % 128 < 64 then f (n / 2048) (n % 2048) (r / 128) (r % 128) else if r % 128 < 96 then g (n / 2048) (n % 2048) (r / 128) (r % 128 - 64) else 0) / κ) := by
  intro n r; unfold padR; pointwise
  rw [hz, ← div_real hκ]
  refine congrArg (fun a : EReal => Ideal.div a _) ?_
  by_cases a : r.val % 128 < 64
  · rw [dif_pos a, if_pos a]; exact hx ..
  · rw [dif_neg a, if_neg a]
    by_cases b : r.val % 128 < 96
    · rw [dif_pos (by omega), if_pos b]; exact hy ..
    · rw [dif_neg (by omega), if_neg b]; exact zero_real.symm
theorem dqR_val {ds : FVec Ideal S4x8x2048x2048 .f32} {kn : FVec Ideal S4x2048x8x64 .f32} {kp : FVec Ideal S4x2048x8x32 .f32} (h : R4 ds (fun i j k l => A.ds i j k l * scl)) (h2 : R4 kn A.kn) (h3 : R4 kp (fun b u _ e => A.kp b u e)) : dqR ds kn kp = dqA A := by
  refine eq_of_R2 (a := 8192) (b := 1024) (x := dqR ds kn kp) (g := fun r d => A.dq (r / 2048) (r % 2048) (d / 128) (d % 128)) ((padR_val (f := fun b t h e => ∑ u ∈ Finset.range 2048, A.ds b h t u * scl * A.kn b u h e) (g := fun b t h e => ∑ u ∈ Finset.range 2048, A.ds b h t u * scl * A.kp b u e) ?_ ?_ (scl_val _) scl_ne).congr fun n r _ _ => ?_)
  · intro b t h' e; pointwise
    rw [← Fin.sum_univ_eq_sum_range (fun u => A.ds b h' t u * scl * A.kn b u h' e), ← coe_sum]
    exact Finset.sum_congr rfl fun u _ => by rw [h, h2, ← EReal.coe_mul]
  · intro b t h' e; pointwise
    rw [← Fin.sum_univ_eq_sum_range (fun u => A.ds b h' t u * scl * A.kp b u e), ← coe_sum]
    exact Finset.sum_congr rfl fun u _ => by rw [h, h3, ← EReal.coe_mul]
  · unfold Att.dq Att.K
    split_ifs with a b
    · rw [Finset.sum_div]
      exact Finset.sum_congr rfl fun u _ => by rw [mul_right_comm, mul_div_cancel_right₀ _ scl_ne]
    · rw [Finset.sum_div]
      exact Finset.sum_congr rfl fun u _ => by rw [mul_right_comm, mul_div_cancel_right₀ _ scl_ne]
    · rw [zero_div]; exact (Finset.sum_eq_zero fun u _ => mul_zero _).symm
theorem dkR_val (hs : A.sc = scl) {ds : FVec Ideal S4x8x2048x2048 .f32} {qn : FVec Ideal S4x2048x8x64 .f32} {qp : FVec Ideal S4x2048x8x32 .f32} (h : R4 ds (fun i j k l => A.ds i j k l * scl)) (h0 : R4 qn A.qn) (h1 : R4 qp A.qp) : dkR ds qn qp = dkA A := by
  refine eq_of_R2 (a := 8192) (b := 1024) (x := dkR ds qn qp) (g := fun r d => A.dk (r / 2048) (r % 2048) (d / 128) (d % 128)) ((padR_val (f := fun b u h e => ∑ t ∈ Finset.range 2048, A.ds b h t u * scl * A.qn b t h e) (g := fun b u h e => ∑ t ∈ Finset.range 2048, A.ds b h t u * scl * A.qp b t h e) ?_ ?_ (log2_val _) Att.log2.ne').congr fun n r _ _ => ?_)
  · intro b t h' e; pointwise
    rw [← Fin.sum_univ_eq_sum_range (fun u => A.ds b h' u t * scl * A.qn b u h' e), ← coe_sum]
    exact Finset.sum_congr rfl fun u _ => by rw [h, h0, ← EReal.coe_mul]
  · intro b t h' e; pointwise
    rw [← Fin.sum_univ_eq_sum_range (fun u => A.ds b h' u t * scl * A.qp b u h' e), ← coe_sum]
    exact Finset.sum_congr rfl fun u _ => by rw [h, h1, ← EReal.coe_mul]
  · unfold Att.dk Att.Q
    rw [hs, Finset.sum_mul]
    refine congrArg (· / _) ?_
    split_ifs with a b
    · exact Finset.sum_congr rfl fun u _ => by rw [mul_right_comm]
    · exact Finset.sum_congr rfl fun u _ => by rw [mul_right_comm]
    · exact (Finset.sum_eq_zero fun u _ => by rw [mul_zero, zero_mul]).symm
theorem dvR_val {p : FVec Ideal S4x8x2048x2048 .f32} {d : FVec Ideal S4x2048x8x64 .f32} (hp : R4 p A.p) (hd : R4 d A.d) : dvR p d = dvA A := by
  refine eq_of_R2 (a := 8192) (b := 512) (x := dvR p d) (g := fun r d => A.dv (r / 2048) (r % 2048) (d / 64) (d % 64)) fun n r => ?_
  unfold dvR Att.dv; pointwise
  rw [← Fin.sum_univ_eq_sum_range (fun t => A.d (n / 2048) t (r / 64) (r % 64) * A.p (n / 2048) (r / 64) t (n % 2048)), ← coe_sum]
  exact Finset.sum_congr rfl fun t _ => by rw [dR_val hd, hp, ← EReal.coe_mul]

/-- The arguments are `A`'s arrays. -/
structure HoldsR (m : (ℓ : Loc nD τ sig) → Buf (Elt Ideal) ℓ) (c : Dev nD) (A : Att) : Prop where
  h0 : R4 (y0 m c) A.qn
  h1 : R4 (y1 m c) A.qp
  h2 : R4 (y2 m c) A.kn
  h3 : R3 (y3 m c) A.kp
  h4 : R4 (y4 m c) A.v
  h5 : R4 (y5 m c) A.d
  hs : A.sc = scl

variable {m : (ℓ : Loc nD τ sig) → Buf (Elt Ideal) ℓ} {c : Dev nD} (H : HoldsR m c A)
include H

theorem memR_val : SM (memR m c) A.s := wR_val H.hs H.h0 H.h1 H.h2 (kpR_val H.h3)
theorem out0_val : res_out0 m c = dqA A := (out0_eq m c).trans (dqR_val (dsR_val (memR_val H) (ctR_val H.h4 H.h5)) H.h2 (kpR_val H.h3))
theorem out1_val : res_out1 m c = dkA A := (out1_eq m c).trans (dkR_val H.hs (dsR_val (memR_val H) (ctR_val H.h4 H.h5)) H.h0 H.h1)
theorem out2_val : res_out2 m c = dvA A := (out2_eq m c).trans (dvR_val (prR_val (memR_val H)) H.h5)

end Cert.MlaR

end
-- ==== Proof.MlaValue.lean ====
/- The value claim of the attention's backward call. -/
module

public import proofs.«01_k».proof.Defs
public import proofs.«01_k».proof.Proof.MlaIdealFrame
public import proofs.«01_k».proof.Proof.MlaIdealFinal
public import proofs.«01_k».proof.Proof.MlaRefVal
public import proofs.«01_k».proof.Proof.Finite
public import proofs.«01_k».proof.Proof.Gen.Pre_mla_finite

@[expose] public section

set_option maxRecDepth 16384

noncomputable section

namespace Cert.MlaM

open Idealize.ShloMosaic Idealize.ShloMosaic.TcCoe Idealize.SL.Sem Idealize.ShloMosaic.StableHlo Cert.Coe
open Cert.MlaIdeal.Gen (R2 R3 R4)

/-- The real parts of an array's entries, zero outside it. -/
def nat3 {a b d : ℕ} (x : Shape.Idx ⟨3, ![a, b, d]⟩ → EReal) (i j k : ℕ) : ℝ :=
  if h : i < a ∧ j < b ∧ k < d then (x (ix3 ⟨i, h.1⟩ ⟨j, h.2.1⟩ ⟨k, h.2.2⟩)).toReal else 0
def nat4 {a b d e : ℕ} (x : Shape.Idx ⟨4, ![a, b, d, e]⟩ → EReal) (i j k l : ℕ) : ℝ :=
  if h : i < a ∧ j < b ∧ k < d ∧ l < e then (x (ix4 ⟨i, h.1⟩ ⟨j, h.2.1⟩ ⟨k, h.2.2.1⟩ ⟨l, h.2.2.2⟩)).toReal else 0
theorem R3_nat {a b d : ℕ} {x : Shape.Idx ⟨3, ![a, b, d]⟩ → EReal} (h : ∀ i, x i = ((x i).toReal : EReal)) : R3 x (nat3 x) := by
  intro i j k; unfold nat3; rw [dif_pos ⟨i.2, j.2, k.2⟩]; exact h _
theorem R4_nat {a b d e : ℕ} {x : Shape.Idx ⟨4, ![a, b, d, e]⟩ → EReal} (h : ∀ i, x i = ((x i).toReal : EReal)) : R4 x (nat4 x) := by
  intro i j k l; unfold nat4; rw [dif_pos ⟨i.2, j.2, k.2, l.2⟩]; exact h _

/-- The real parts of the arguments in memory. -/
def ofMem (m : (ℓ : Loc MlaIdeal.nD MlaIdeal.τ MlaIdeal.sig) → Buf (Elt Ideal) ℓ) (c : Dev MlaIdeal.nD) : Att where
  qn := nat4 (x0 m c)
  qp := nat4 (x1 m c)
  kn := nat4 (x2 m c)
  kp := nat3 (x3 m c)
  v := nat4 (x4 m c)
  d := nat4 (x5 m c)
  sc := scl

/-- Under the precondition the arguments are their real parts. -/
theorem holds {m : (ℓ : Loc MlaIdeal.nD MlaIdeal.τ MlaIdeal.sig) → Buf (Elt Ideal) ℓ} (hp : Cert.Pre_MlaIdeal_mla_finite m) (c : Dev MlaIdeal.nD) : Holds m c (ofMem m c) := by
  obtain ⟨p0, p1, p2, p3, p4, p5⟩ := hp c
  exact {
    h0 := R4_nat fun i => real_of_lt _ _ _ p0 i
    h1 := R4_nat fun i => real_of_lt _ _ _ p1 i
    h2 := R4_nat fun i => real_of_lt _ _ _ p2 i
    h3 := R3_nat fun i => real_of_lt _ _ _ p3 i
    h4 := R4_nat fun i => real_of_lt _ _ _ p4 i
    h5 := R4_nat fun i => real_of_lt _ _ _ p5 i
    hs := rfl
  }

/-- The same array holds the same reals. -/
theorem R4_of {a b d e : ℕ} {x y : Shape.Idx ⟨4, ![a, b, d, e]⟩ → EReal} {g : ℕ → ℕ → ℕ → ℕ → ℝ} (q : y = x) (h : R4 x g) : R4 y g := by
  rw [q]; exact h
theorem R3_of {a b d : ℕ} {x y : Shape.Idx ⟨3, ![a, b, d]⟩ → EReal} {g : ℕ → ℕ → ℕ → ℝ} (q : y = x) (h : R3 x g) : R3 y g := by
  rw [q]; exact h

/-- The kernel's and the reference's gradients of the attention agree at finite arguments. -/
theorem mla_algebraic : Cert.algebraic_MlaIdeal_MlaRefIdeal_pre_mla_finite := by
  intro m g m' g' hp ha
  have H := holds hp
  have F : ∀ c, MlaR.HoldsR m' c (ofMem m c) := fun c => by
    obtain ⟨q0, q1, q2, q3, q4, q5⟩ := ha c
    have h := H c
    exact { h0 := R4_of q0 h.h0, h1 := R4_of q1 h.h1, h2 := R4_of q2 h.h2, h3 := R3_of q3 h.h3, h4 := R4_of q4 h.h4, h5 := R4_of q5 h.h5, hs := rfl }
  refine ⟨fun c => dqA (ofMem m c), fun c => dkA (ofMem m c), fun c => dvA (ofMem m c), ?_, ?_⟩
  · refine (θ_run _ _ _).mono (fun r h c => ⟨((h.1.1 c).1 6).trans (all6 c (ofMem m)), ((h.1.1 c).1 7).trans (all7 c (ofMem m)), ((h.1.1 c).1 8).trans (all8 c (ofMem m)), h.2.1 c⟩)
      (θ_run_and (MlaIdeal.Gen.run_exact m g (fun c t => q6 (ofMem m c) t) (fun c t => q7 (ofMem m c) t) (fun c t => q8 (ofMem m c) t)
        (fun c t f8 f9 f10 => (point_out (H c) t f8 f9 f10).1) (fun c t f8 f9 f10 => (point_out (H c) t f8 f9 f10).2.1) (fun c t f8 f9 f10 => (point_out (H c) t f8 f9 f10).2.2))
        (MlaIdeal.Gen.frame' m g))
  · refine (θ_run _ _ _).mono (fun r h c => ?_) (MlaRefIdeal.Value.run m' g')
    obtain ⟨q0, q1, q2, q⟩ := h c
    exact ⟨q0.trans (MlaR.out0_val (F c)), q1.trans (MlaR.out1_val (F c)), q2.trans (MlaR.out2_val (F c)), q⟩

end Cert.MlaM

end
-- ==== Proof.lean ====
module

public import proofs.«01_k».proof.Defs
public import proofs.«01_k».proof.Proof.Gen.PostIdeal.Value
public import proofs.«01_k».proof.Proof.Gen.PostRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Pre_post_finite
public import proofs.«01_k».proof.Proof.Gen.InbIdeal.Value
public import proofs.«01_k».proof.Proof.Gen.InbRefIdeal.Run
public import proofs.«01_k».proof.Proof.Gen.MidRefIdeal.Run
public import proofs.«01_k».proof.Proof.Gen.Inb
public import proofs.«01_k».proof.Proof.Gen.Mid
public import proofs.«01_k».proof.Proof.Gen.Inb.Skeleton
public import proofs.«01_k».proof.Proof.Gen.Mid.Skeleton
public import proofs.«01_k».proof.Proof.Gen.Inb.Launch
public import proofs.«01_k».proof.Proof.Gen.Mid.Launch
public import proofs.«01_k».proof.Proof.Gen.Inb.Points
public import proofs.«01_k».proof.Proof.Gen.Mid.Points
public import proofs.«01_k».proof.Proof.Gen.Inb.Frame
public import proofs.«01_k».proof.Proof.Gen.Mid.Frame
public import proofs.«01_k».proof.Proof.Gen.InbIdeal
public import proofs.«01_k».proof.Proof.Gen.MidIdeal
public import proofs.«01_k».proof.Proof.Gen.InbIdeal.Skeleton
public import proofs.«01_k».proof.Proof.Gen.MidIdeal.Skeleton
public import proofs.«01_k».proof.Proof.Gen.InbIdeal.Launch
public import proofs.«01_k».proof.Proof.Gen.MidIdeal.Launch
public import proofs.«01_k».proof.Proof.Gen.InbIdeal.Points
public import proofs.«01_k».proof.Proof.Gen.MidIdeal.Points
public import proofs.«01_k».proof.Proof.Gen.InbIdeal.Frame
public import proofs.«01_k».proof.Proof.Gen.MidIdeal.Frame
public import proofs.«01_k».proof.Proof.Gen.InbRefIdeal
public import proofs.«01_k».proof.Proof.Gen.MidRefIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.Mla.Loops
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Loops
public import proofs.«01_k».proof.Proof.Gen.MlaRefIdeal
public import proofs.«01_k».proof.Proof.Gen.MlaRefIdeal.Run
public import proofs.«01_k».proof.Proof.Gen.Pre_mla_finite
public import proofs.«01_k».proof.Proof.Gen.Pre_in_finite
public import proofs.«01_k».proof.Proof.PostValue
public import proofs.«01_k».proof.Proof.InValue
public import proofs.«01_k».proof.Proof.MlaFrame
public import proofs.«01_k».proof.Proof.MlaValue
public import Idealize.ShloMosaic.Lib.Claim
public import Idealize.ShloMosaic.Adequacy
public import Idealize.ShloMosaic.Init

@[expose] public section

noncomputable section

namespace Cert.Proof

open Idealize.ShloMosaic Idealize.SL.Sem Cert.Post

theorem claim : Cert.Claim := ⟨Cert.Post.Gen.facts, Cert.PostIdeal.Gen.facts, Cert.PostRefIdeal.Gen.facts, Cert.Mla.Gen.facts, Cert.MlaIdeal.Gen.facts, Cert.MlaRefIdeal.Gen.facts,
    Cert.Inb.Gen.facts, Cert.InbIdeal.Gen.facts, Cert.InbRefIdeal.Gen.facts, Cert.Mid.Gen.facts, Cert.MidIdeal.Gen.facts, Cert.MidRefIdeal.Gen.facts,
    Cert.Pre_post_finite.Gen.facts, Cert.Pre_mla_finite.Gen.facts, Cert.Pre_in_finite.Gen.facts, by
  refine ⟨?_, ?_, ?_, ?_, ?_, ?_, ?_, ?_, ?_, ?_, ?_, ?_, ?_, ?_, ?_, ?_, ?_, ?_, ?_, ?_, ?_, ?_, ?_, ?_, ?_⟩
  · intro m g _; exact Cert.Post.Gen.frame m g
  · intro m g _; exact Cert.PostIdeal.Gen.frame m g
  · intro m g _; exact Cert.PostIdeal.Gen.frame m g
  · intro m g _
    exact (θ_run _ _ _).mono (fun r h => ⟨fun c => (h c).2.2.2.2.2.2.2.2.2, sem_eq_zero_of_no_sems (by decide) r.2⟩) (Cert.PostRefIdeal.Value.run m g)
  · intro m g _
    exact (θ_run _ _ _).mono (fun r h => ⟨fun c => (h c).2.2.2.2.2.2.2.2.2, sem_eq_zero_of_no_sems (by decide) r.2⟩) (Cert.PostRefIdeal.Value.run m g)
  · intro m g _; exact Cert.Mla.Gen.frame' m g
  · intro m g _; exact Cert.MlaIdeal.Gen.frame' m g
  · intro m g _; exact Cert.MlaIdeal.Gen.frame' m g
  · intro m g _
    exact (θ_run _ _ _).mono (fun r h => ⟨fun c => (h c).2.2.2, sem_eq_zero_of_no_sems (by decide) r.2⟩) (Cert.MlaRefIdeal.Value.run m g)
  · intro m g _
    exact (θ_run _ _ _).mono (fun r h => ⟨fun c => (h c).2.2.2, sem_eq_zero_of_no_sems (by decide) r.2⟩) (Cert.MlaRefIdeal.Value.run m g)
  · intro m g _; exact Cert.Inb.Gen.frame m g
  · intro m g _; exact Cert.InbIdeal.Gen.frame m g
  · intro m g _; exact Cert.InbIdeal.Gen.frame m g
  · intro m g _
    exact (θ_run _ _ _).mono (fun r h => ⟨fun c => (h c).2.2.2.2.2, sem_eq_zero_of_no_sems (by decide) r.2⟩) (Cert.InbRefIdeal.Value.run m g)
  · intro m g _
    exact (θ_run _ _ _).mono (fun r h => ⟨fun c => (h c).2.2.2.2.2, sem_eq_zero_of_no_sems (by decide) r.2⟩) (Cert.InbRefIdeal.Value.run m g)
  · intro m g _; exact Cert.Mid.Gen.frame m g
  · intro m g _; exact Cert.MidIdeal.Gen.frame m g
  · intro m g _
    exact (θ_run _ _ _).mono (fun r h => ⟨fun c => (h c).2.2.2.2.2.2, sem_eq_zero_of_no_sems (by decide) r.2⟩) (Cert.MidRefIdeal.Value.run m g)
  · trivial
  · exact Cert.Post1.post_algebraic
  · trivial
  · exact Cert.MlaM.mla_algebraic
  · trivial
  · exact Cert.In1.in_algebraic
  · trivial⟩

end Cert.Proof

end
